-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selection_fits [hPre_selection_fits : Cert.Pre_selection_fits.Facts] (m : (ℓ : Loc Cert.KernelIdeal.nD Cert.KernelIdeal.τ Cert.KernelIdeal.sig) → Buf (Elt Ideal) ℓ) : Prop :=
  ∀ c : Dev Cert.KernelIdeal.nD,
    (Cert.Pre_selection_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_selection_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_selection_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_selection_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_selection_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selection_fits [hPre_selection_fits : Cert.Pre_selection_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selection_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_selection_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_selection_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_selection_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_selection_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_candidates_ranked [hPre_candidates_ranked : Cert.Pre_candidates_ranked.Facts] (m : (ℓ : Loc Cert.SelectIdeal.nD Cert.SelectIdeal.τ Cert.SelectIdeal.sig) → Buf (Elt Ideal) ℓ) : Prop :=
  ∀ c : Dev Cert.SelectIdeal.nD,
    (Cert.Pre_candidates_ranked.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3))).1 = (fun _ => 1#1)
    ∧ (Cert.Pre_candidates_ranked.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3))).2.1 = (fun _ => 1#1)
    ∧ (Cert.Pre_candidates_ranked.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3))).2.2.1 = (fun _ => 1#1)
    ∧ (Cert.Pre_candidates_ranked.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3))).2.2.2 = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_candidates_ranked [hPre_candidates_ranked : Cert.Pre_candidates_ranked.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_candidates_ranked.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3))).1 = (fun _ => 1#1)
    ∧ (Cert.Pre_candidates_ranked.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3))).2.1 = (fun _ => 1#1)
    ∧ (Cert.Pre_candidates_ranked.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3))).2.2.1 = (fun _ => 1#1)
    ∧ (Cert.Pre_candidates_ranked.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3))).2.2.2 = (fun _ => 1#1)

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def Pre_Stats (m : (ℓ : Loc Cert.Stats.nD Cert.Stats.τ Cert.Stats.sig) → Buf (Elt Bits) ℓ) : Prop :=
  True

def Pre_StatsReference (m : (ℓ : Loc Cert.StatsReference.nD Cert.StatsReference.τ Cert.StatsReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_selection_fits [hKernelIdeal : Cert.KernelIdeal.Facts] [hPre_selection_fits : Cert.Pre_selection_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selection_fits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_selection_fits [hReferenceIdeal : Cert.ReferenceIdeal.Facts] [hPre_selection_fits : Cert.Pre_selection_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selection_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2)
      ∧ r.2.mem ((c.tc : Thread Cert.Select.nD Cert.Select.τ).loc Cert.Select.main_arg3) = m ((c.tc : Thread Cert.Select.nD Cert.Select.τ).loc Cert.Select.main_arg3))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ r.2.sem = fun _ => 0)

def quiescent_SelectIdeal_pre_candidates_ranked [hSelectIdeal : Cert.SelectIdeal.Facts] [hPre_candidates_ranked : Cert.Pre_candidates_ranked.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_candidates_ranked m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3))
      ∧ r.2.sem = fun _ => 0)

def quiescent_SelectReferenceIdeal_pre_candidates_ranked [hSelectReferenceIdeal : Cert.SelectReferenceIdeal.Facts] [hPre_candidates_ranked : Cert.Pre_candidates_ranked.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_candidates_ranked m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0))
      ∧ r.2.sem = fun _ => 0)

def quiescent_StatsReference [hStatsReference : Cert.StatsReference.Facts] : Prop :=
  ∀ (m : (ℓ : Loc Cert.StatsReference.nD Cert.StatsReference.τ Cert.StatsReference.sig) → Buf (Elt Bits) ℓ) (g : Dev Cert.StatsReference.nD → PrngReg), Pre_StatsReference m →
    θ_run (Cert.StatsReference.defs (F := Bits)) (onTc (τ := Cert.StatsReference.τ) (Cert.StatsReference.main (F := Bits))) ⟨m, fun _ => 0, g⟩ (fun r => (∀ c : Dev Cert.StatsReference.nD,
      r.2.mem ((c.tc : Thread Cert.StatsReference.nD Cert.StatsReference.τ).loc Cert.StatsReference.main_arg0) = m ((c.tc : Thread Cert.StatsReference.nD Cert.StatsReference.τ).loc Cert.StatsReference.main_arg0))
      ∧ r.2.sem = fun _ => 0)

def preserves_Kernel_KernelIdeal : Prop :=
  True

def algebraic_KernelIdeal_ReferenceIdeal_pre_selection_fits [hKernelIdeal : Cert.KernelIdeal.Facts] [hReferenceIdeal : Cert.ReferenceIdeal.Facts] [hPre_selection_fits : Cert.Pre_selection_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selection_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Select_SelectIdeal : Prop :=
  True

def algebraic_SelectIdeal_SelectReferenceIdeal_pre_candidates_ranked [hSelectIdeal : Cert.SelectIdeal.Facts] [hSelectReferenceIdeal : Cert.SelectReferenceIdeal.Facts] [hPre_candidates_ranked : Cert.Pre_candidates_ranked.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_candidates_ranked m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)
      ∧ m' ((c.tc : Thread Cert.SelectReferenceIdeal.nD Cert.SelectReferenceIdeal.τ).loc Cert.SelectReferenceIdeal.main_arg3) = m ((c.tc : Thread Cert.SelectIdeal.nD Cert.SelectIdeal.τ).loc Cert.SelectIdeal.main_arg3)) →
    ∃ (v0 : (c : Dev Cert.SelectIdeal.nD) → Buf (Elt Ideal) ((c.tc : Thread Cert.SelectIdeal.nD Cert.SelectIdeal.τ).loc Cert.SelectIdeal.main_v5_0)) (v1 : (c : Dev Cert.SelectIdeal.nD) → Buf (Elt Ideal) ((c.tc : Thread Cert.SelectIdeal.nD Cert.SelectIdeal.τ).loc Cert.SelectIdeal.main_v5_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v5_0) = v0 c
          ∧ r.2.mem ((c.tc : Thread Cert.SelectIdeal.nD Cert.SelectIdeal.τ).loc Cert.SelectIdeal.main_v5_1) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
          ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v8) = v0 c
          ∧ r.2.mem ((c.tc : Thread Cert.SelectReferenceIdeal.nD Cert.SelectReferenceIdeal.τ).loc Cert.SelectReferenceIdeal.main_v9) = v1 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2)
          ∧ r.2.mem ((c.tc : Thread Cert.SelectReferenceIdeal.nD Cert.SelectReferenceIdeal.τ).loc Cert.SelectReferenceIdeal.main_arg3) = m' ((c.tc : Thread Cert.SelectReferenceIdeal.nD Cert.SelectReferenceIdeal.τ).loc Cert.SelectReferenceIdeal.main_arg3))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v3)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v3) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v4) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2))

def bitexact_Stats_StatsReference [hStats : Cert.Stats.Facts] [hStatsReference : Cert.StatsReference.Facts] : Prop :=
  ∀ (m : (ℓ : Loc Cert.Stats.nD Cert.Stats.τ Cert.Stats.sig) → Buf (Elt Bits) ℓ) (g : Dev Cert.Stats.nD → PrngReg)
    (m' : (ℓ : Loc Cert.StatsReference.nD Cert.StatsReference.τ Cert.StatsReference.sig) → Buf (Elt Bits) ℓ) (g' : Dev Cert.StatsReference.nD → PrngReg), Pre_Stats m →
    (∀ c : Dev Cert.Stats.nD,
      m' ((c.tc : Thread Cert.StatsReference.nD Cert.StatsReference.τ).loc Cert.StatsReference.main_arg0) = m ((c.tc : Thread Cert.Stats.nD Cert.Stats.τ).loc Cert.Stats.main_arg0)) →
    ∃ (v0 : (c : Dev Cert.Stats.nD) → Buf (Elt Bits) ((c.tc : Thread Cert.Stats.nD Cert.Stats.τ).loc Cert.Stats.main_v0_0)) (v1 : (c : Dev Cert.Stats.nD) → Buf (Elt Bits) ((c.tc : Thread Cert.Stats.nD Cert.Stats.τ).loc Cert.Stats.main_v0_2)) (v2 : (c : Dev Cert.Stats.nD) → Buf (Elt Bits) ((c.tc : Thread Cert.Stats.nD Cert.Stats.τ).loc Cert.Stats.main_v0_3)),
      θ_run (Cert.Stats.defs (F := Bits)) (onTc (τ := Cert.Stats.τ) (Cert.Stats.main (F := Bits))) ⟨m, fun _ => 0, g⟩ (fun r => ∀ c : Dev Cert.Stats.nD,
          r.2.mem ((c.tc : Thread Cert.Stats.nD Cert.Stats.τ).loc Cert.Stats.main_v0_0) = v0 c
          ∧ r.2.mem ((c.tc : Thread Cert.Stats.nD Cert.Stats.τ).loc Cert.Stats.main_v0_2) = v1 c
          ∧ r.2.mem ((c.tc : Thread Cert.Stats.nD Cert.Stats.τ).loc Cert.Stats.main_v0_3) = v2 c
          ∧ r.2.mem ((c.tc : Thread Cert.Stats.nD Cert.Stats.τ).loc Cert.Stats.main_arg0) = m ((c.tc : Thread Cert.Stats.nD Cert.Stats.τ).loc Cert.Stats.main_arg0))
      ∧ θ_run (Cert.StatsReference.defs (F := Bits)) (onTc (τ := Cert.StatsReference.τ) (Cert.StatsReference.main (F := Bits))) ⟨m', fun _ => 0, g'⟩ (fun r => ∀ c : Dev Cert.StatsReference.nD,
          r.2.mem ((c.tc : Thread Cert.StatsReference.nD Cert.StatsReference.τ).loc Cert.StatsReference.main_v1) = v0 c
          ∧ r.2.mem ((c.tc : Thread Cert.StatsReference.nD Cert.StatsReference.τ).loc Cert.StatsReference.main_v3) = v1 c
          ∧ r.2.mem ((c.tc : Thread Cert.StatsReference.nD Cert.StatsReference.τ).loc Cert.StatsReference.main_v20) = v2 c
          ∧ r.2.mem ((c.tc : Thread Cert.StatsReference.nD Cert.StatsReference.τ).loc Cert.StatsReference.main_arg0) = m' ((c.tc : Thread Cert.StatsReference.nD Cert.StatsReference.τ).loc Cert.StatsReference.main_arg0))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hSelectReferenceIdeal : Cert.SelectReferenceIdeal.Facts) (hScores : Cert.Scores.Facts) (hScoresIdeal : Cert.ScoresIdeal.Facts) (hScoresReferenceIdeal : Cert.ScoresReferenceIdeal.Facts) (hStats : Cert.Stats.Facts) (hStatsReference : Cert.StatsReference.Facts) (hPre_selection_fits : Cert.Pre_selection_fits.Facts) (hPre_candidates_ranked : Cert.Pre_candidates_ranked.Facts),
    quiescent_Kernel (hKernel := hKernel)
    ∧ quiescent_KernelIdeal (hKernelIdeal := hKernelIdeal)
    ∧ quiescent_KernelIdeal_pre_selection_fits (hKernelIdeal := hKernelIdeal) (hPre_selection_fits := hPre_selection_fits)
    ∧ quiescent_ReferenceIdeal (hReferenceIdeal := hReferenceIdeal)
    ∧ quiescent_ReferenceIdeal_pre_selection_fits (hReferenceIdeal := hReferenceIdeal) (hPre_selection_fits := hPre_selection_fits)
    ∧ quiescent_Select (hSelect := hSelect)
    ∧ quiescent_SelectIdeal (hSelectIdeal := hSelectIdeal)
    ∧ quiescent_SelectIdeal_pre_candidates_ranked (hSelectIdeal := hSelectIdeal) (hPre_candidates_ranked := hPre_candidates_ranked)
    ∧ quiescent_SelectReferenceIdeal (hSelectReferenceIdeal := hSelectReferenceIdeal)
    ∧ quiescent_SelectReferenceIdeal_pre_candidates_ranked (hSelectReferenceIdeal := hSelectReferenceIdeal) (hPre_candidates_ranked := hPre_candidates_ranked)
    ∧ quiescent_Scores (hScores := hScores)
    ∧ quiescent_ScoresIdeal (hScoresIdeal := hScoresIdeal)
    ∧ quiescent_ScoresReferenceIdeal (hScoresReferenceIdeal := hScoresReferenceIdeal)
    ∧ quiescent_Stats (hStats := hStats)
    ∧ quiescent_StatsReference (hStatsReference := hStatsReference)
    ∧ preserves_Kernel_KernelIdeal
    ∧ algebraic_KernelIdeal_ReferenceIdeal_pre_selection_fits (hKernelIdeal := hKernelIdeal) (hReferenceIdeal := hReferenceIdeal) (hPre_selection_fits := hPre_selection_fits)
    ∧ preserves_Select_SelectIdeal
    ∧ algebraic_SelectIdeal_SelectReferenceIdeal_pre_candidates_ranked (hSelectIdeal := hSelectIdeal) (hSelectReferenceIdeal := hSelectReferenceIdeal) (hPre_candidates_ranked := hPre_candidates_ranked)
    ∧ preserves_Scores_ScoresIdeal
    ∧ algebraic_ScoresIdeal_ScoresReferenceIdeal (hScoresIdeal := hScoresIdeal) (hScoresReferenceIdeal := hScoresReferenceIdeal)
    ∧ bitexact_Stats_StatsReference (hStats := hStats) (hStatsReference := hStatsReference)
-- ==== Pre_candidates_ranked.lean ====
abbrev S1024x512 : Shape := ⟨2, ![1024, 512]⟩
abbrev S1024x1 : Shape := ⟨2, ![1024, 1]⟩
abbrev S_ : Shape := ⟨0, ![]⟩
abbrev S1024x511 : Shape := ⟨2, ![1024, 511]⟩
abbrev S1024 : Shape := ⟨1, ![1024]⟩

class Facts : Prop where
  bcast_S1024x1_S1024x512_0_1 : S1024x1.BroadcastsInDim S1024x512 (![0, 1] : Fin 2 → Fin S1024x512.rank)
  slices_S1024x512_S1024x1_0_511 : S1024x512.Slices ![0, 511] S1024x1
  bcast_S_S1024x1 : S_.BroadcastsInDim S1024x1 (![] : Fin 0 → Fin S1024x1.rank)
  slices_S1024x512_S1024x511_0_0 : S1024x512.Slices ![0, 0] S1024x511
  slices_S1024x512_S1024x511_0_1 : S1024x512.Slices ![0, 1] S1024x511
  natLt_1_32 : 1 < 32
  reducesTo_S1024x512_S1024_d1 : S1024x512.ReducesTo [1] S1024
  h_S_ : 0 < S_.numel
  bcast_S_S1024 : S_.BroadcastsInDim S1024 (![] : Fin 0 → Fin S1024.rank)

variable [Facts]

def fn_part1 {F : FTy → Type} [FloatOps F] (main_v9 : IVec S1024x1 1) (main_v12 : IVec S1024x511 1) (main_v18 : IVec S1024x511 1) (main_v20 : IVec S1024 32) (main_c_0 : IVec S_ 32) : IVec S1024x1 1 × IVec S1024x511 1 × IVec S1024x511 1 × IVec S1024 1 :=
  let main_v21 : IVec S1024 32 := broadcastInDim S1024 ![] bcast_S_S1024 main_c_0
  let main_v22 : IVec S1024 1 := cmpi .sge main_v20 main_v21
  (main_v9, main_v12, main_v18, main_v22)

def fn {F : FTy → Type} [FloatOps F] (main_arg0 : FVec F S1024x512 .f32) (main_arg1 : FVec F S1024x1 .f32) (main_arg2 : FVec F S1024x1 .f32) (main_arg3 : IVec S1024x512 32) : IVec S1024x1 1 × IVec S1024x511 1 × IVec S1024x511 1 × IVec S1024 1 :=
  let main_v0 : FVec F S1024x512 .f32 := broadcastInDim S1024x512 ![0, 1] bcast_S1024x1_S1024x512_0_1 main_arg1
  let main_v1 : FVec F S1024x512 .f32 := subf main_arg0 main_v0
  let main_v2 : FVec F S1024x512 .f32 := Host.exp main_v1
  let main_v3 : FVec F S1024x512 .f32 := broadcastInDim S1024x512 ![0, 1] bcast_S1024x1_S1024x512_0_1 main_arg2
  let main_v4 : FVec F S1024x512 .f32 := Host.divf main_v2 main_v3
  let main_v5 : FVec F S1024x1 .f32 := (extractStridedSlice S1024x1 ![0, 511] · slices_S1024x512_S1024x1_0_511) main_v4
  let main_v6 : FVec F S1024x512 .f32 := broadcastInDim S1024x512 ![0, 1] bcast_S1024x1_S1024x512_0_1 main_v5
  let main_v7 : IVec S1024x512 1 := cmpf .ogt main_v4 main_v6
  let main_cst : FVec F S_ .f32 := constant S_ .f32 0xBF800000#32
  let main_v8 : FVec F S1024x1 .f32 := broadcastInDim S1024x1 ![] bcast_S_S1024x1 main_cst
  let main_v9 : IVec S1024x1 1 := cmpf .oge main_v5 main_v8
  let main_v10 : IVec S1024x511 32 := (extractStridedSlice S1024x511 ![0, 0] · slices_S1024x512_S1024x511_0_0) main_arg3
  let main_v11 : IVec S1024x511 32 := (extractStridedSlice S1024x511 ![0, 1] · slices_S1024x512_S1024x511_0_1) main_arg3
  let main_v12 : IVec S1024x511 1 := cmpi .sle main_v10 main_v11
  let main_v13 : IVec S1024x511 1 := (extractStridedSlice S1024x511 ![0, 1] · slices_S1024x512_S1024x511_0_1) main_v7
  let main_v14 : IVec S1024x511 1 := noti main_v13
  let main_v15 : IVec S1024x511 32 := (extractStridedSlice S1024x511 ![0, 0] · slices_S1024x512_S1024x511_0_0) main_arg3
  let main_v16 : IVec S1024x511 32 := (extractStridedSlice S1024x511 ![0, 1] · slices_S1024x512_S1024x511_0_1) main_arg3
  let main_v17 : IVec S1024x511 1 := cmpi .slt main_v15 main_v16
  let main_v18 : IVec S1024x511 1 := ori main_v14 main_v17
  let main_v19 : IVec S1024x512 32 := (extui 32 · natLt_1_32) main_v7
  let main_c : IVec S_ 32 := constantI S_ 32 0#32
  let main_v20 : IVec S1024 32 := (fun x v => Host.reduce IntOp.addi x v reducesTo_S1024x512_S1024_d1 h_S_) main_v19 main_c
  let main_c_0 : IVec S_ 32 := constantI S_ 32 100#32
  fn_part1 (F := F) main_v9 main_v12 main_v18 main_v20 main_c_0
-- ==== Pre_selection_fits.lean ====
abbrev S1024x800 : Shape := ⟨2, ![1024, 800]⟩
abbrev S1024x16 : Shape := ⟨2, ![1024, 16]⟩
abbrev S1024x102400 : Shape := ⟨2, ![1024, 102400]⟩
abbrev S1024x1 : Shape := ⟨2, ![1024, 1]⟩
abbrev S1024x800x128 : Shape := ⟨3, ![1024, 800, 128]⟩
abbrev S1024x800x1 : Shape := ⟨3, ![1024, 800, 1]⟩
abbrev S1024x1x128 : Shape := ⟨3, ![1024, 1, 128]⟩
abbrev S1024x128 : Shape := ⟨2, ![1024, 128]⟩
abbrev S_ : Shape := ⟨0, ![]⟩
abbrev S1024 : Shape := ⟨1, ![1024]⟩

class Facts : Prop where
  slices_S1024x16_S1024x1_0_0 : S1024x16.Slices ![0, 0] S1024x1
  bcast_S1024x1_S1024x16_0_1 : S1024x1.BroadcastsInDim S1024x16 (![0, 1] : Fin 2 → Fin S1024x16.rank)
  bcast_S1024x1_S1024x102400_0_1 : S1024x1.BroadcastsInDim S1024x102400 (![0, 1] : Fin 2 → Fin S1024x102400.rank)
  bcast_S1024x1_S1024x800_0_1 : S1024x1.BroadcastsInDim S1024x800 (![0, 1] : Fin 2 → Fin S1024x800.rank)
  shapeCasts_S1024x102400_S1024x800x128 : S1024x102400.ShapeCasts S1024x800x128
  bcast_S1024x800_S1024x800x1_0_1 : S1024x800.BroadcastsInDim S1024x800x1 (![0, 1] : Fin 2 → Fin S1024x800x1.rank)
  bcast_S1024x800x1_S1024x800x128_0_1_2 : S1024x800x1.BroadcastsInDim S1024x800x128 (![0, 1, 2] : Fin 3 → Fin S1024x800x128.rank)
  slices_S1024x800x128_S1024x1x128_0_799_0 : S1024x800x128.Slices ![0, 799, 0] S1024x1x128
  shapeCasts_S1024x1x128_S1024x128 : S1024x1x128.ShapeCasts S1024x128
  natLt_1_32 : 1 < 32
  reducesTo_S1024x800_S1024_d1 : S1024x800.ReducesTo [1] S1024
  h_S_ : 0 < S_.numel
  bcast_S_S1024 : S_.BroadcastsInDim S1024 (![] : Fin 0 → Fin S1024.rank)
  reducesTo_S1024x102400_S1024_d1 : S1024x102400.ReducesTo [1] S1024

variable [Facts]

def fn_part1 {F : FTy → Type} [FloatOps F] (main_v2 : IVec S1024x16 1) (main_v13 : IVec S1024x800x128 1) (main_v16 : IVec S1024x128 1) (main_v20 : IVec S1024 1) (main_v21 : IVec S1024x102400 32) : IVec S1024x16 1 × IVec S1024x800x128 1 × IVec S1024x128 1 × IVec S1024 1 × IVec S1024 1 :=
  let main_c_1 : IVec S_ 32 := constantI S_ 32 0#32
  let main_v22 : IVec S1024 32 := (fun x v => Host.reduce IntOp.addi x v reducesTo_S1024x102400_S1024_d1 h_S_) main_v21 main_c_1
  let main_c_2 : IVec S_ 32 := constantI S_ 32 496#32
  let main_v23 : IVec S1024 32 := broadcastInDim S1024 ![] bcast_S_S1024 main_c_2
  let main_v24 : IVec S1024 1 := cmpi .sle main_v22 main_v23
  (main_v2, main_v13, main_v16, main_v20, main_v24)

def fn {F : FTy → Type} [FloatOps F] (main_arg0 : FVec F S1024x800 .f32) (main_arg1 : FVec F S1024x16 .f32) (main_arg2 : FVec F S1024x102400 .f32) : IVec S1024x16 1 × IVec S1024x800x128 1 × IVec S1024x128 1 × IVec S1024 1 × IVec S1024 1 :=
  let main_v0 : FVec F S1024x1 .f32 := (extractStridedSlice S1024x1 ![0, 0] · slices_S1024x16_S1024x1_0_0) main_arg1
  let main_v1 : FVec F S1024x16 .f32 := broadcastInDim S1024x16 ![0, 1] bcast_S1024x1_S1024x16_0_1 main_v0
  let main_v2 : IVec S1024x16 1 := cmpf .oeq main_arg1 main_v1
  let main_v3 : FVec F S1024x1 .f32 := (extractStridedSlice S1024x1 ![0, 0] · slices_S1024x16_S1024x1_0_0) main_arg1
  let main_v4 : FVec F S1024x102400 .f32 := broadcastInDim S1024x102400 ![0, 1] bcast_S1024x1_S1024x102400_0_1 main_v3
  let main_v5 : IVec S1024x102400 1 := cmpf .oge main_arg2 main_v4
  let main_v6 : FVec F S1024x1 .f32 := (extractStridedSlice S1024x1 ![0, 0] · slices_S1024x16_S1024x1_0_0) main_arg1
  let main_v7 : FVec F S1024x800 .f32 := broadcastInDim S1024x800 ![0, 1] bcast_S1024x1_S1024x800_0_1 main_v6
  let main_v8 : IVec S1024x800 1 := cmpf .oge main_arg0 main_v7
  let main_v9 : IVec S1024x800x128 1 := shapeCast S1024x800x128 main_v5 shapeCasts_S1024x102400_S1024x800x128
  let main_v10 : IVec S1024x800x128 1 := noti main_v9
  let main_v11 : IVec S1024x800x1 1 := broadcastInDim S1024x800x1 ![0, 1] bcast_S1024x800_S1024x800x1_0_1 main_v8
  let main_v12 : IVec S1024x800x128 1 := broadcastInDim S1024x800x128 ![0, 1, 2] bcast_S1024x800x1_S1024x800x128_0_1_2 main_v11
  let main_v13 : IVec S1024x800x128 1 := ori main_v10 main_v12
  let main_v14 : IVec S1024x1x128 1 := (extractStridedSlice S1024x1x128 ![0, 799, 0] · slices_S1024x800x128_S1024x1x128_0_799_0) main_v9
  let main_v15 : IVec S1024x128 1 := shapeCast S1024x128 main_v14 shapeCasts_S1024x1x128_S1024x128
  let main_v16 : IVec S1024x128 1 := noti main_v15
  let main_v17 : IVec S1024x800 32 := (extui 32 · natLt_1_32) main_v8
  let main_c : IVec S_ 32 := constantI S_ 32 0#32
  let main_v18 : IVec S1024 32 := (fun x v => Host.reduce IntOp.addi x v reducesTo_S1024x800_S1024_d1 h_S_) main_v17 main_c
  let main_c_0 : IVec S_ 32 := constantI S_ 32 240#32
  let main_v19 : IVec S1024 32 := broadcastInDim S1024 ![] bcast_S_S1024 main_c_0
  let main_v20 : IVec S1024 1 := cmpi .sle main_v18 main_v19
  let main_v21 : IVec S1024x102400 32 := (extui 32 · natLt_1_32) main_v5
  fn_part1 (F := F) main_v2 main_v13 main_v16 main_v20 main_v21
-- ==== Kernel.lean ====
abbrev S1024x800 : Shape := ⟨2, ![1024, 800]⟩
abbrev S1024x16 : Shape := ⟨2, ![1024, 16]⟩
abbrev S1024x102400 : Shape := ⟨2, ![1024, 102400]⟩
abbrev S819200x128 : Shape := ⟨2, ![819200, 128]⟩
abbrev S1024x512 : Shape := ⟨2, ![1024, 512]⟩
abbrev S800 : Shape := ⟨1, ![800]⟩
abbrev S16 : Shape := ⟨1, ![16]⟩
abbrev S256 : Shape := ⟨1, ![256]⟩
abbrev S256x128 : Shape := ⟨2, ![256, 128]⟩
abbrev S512 : Shape := ⟨1, ![512]⟩
abbrev S_ : Shape := ⟨0, ![]⟩
abbrev S1x800 : Shape := ⟨2, ![1, 800]⟩
abbrev S1x16 : Shape := ⟨2, ![1, 16]⟩
abbrev S1 : Shape := ⟨1, ![1]⟩
abbrev S128x128 : Shape := ⟨2, ![128, 128]⟩
abbrev S128 : Shape := ⟨1, ![128]⟩
abbrev S1x128 : Shape := ⟨2, ![1, 128]⟩
abbrev S1x512 : Shape := ⟨2, ![1, 512]⟩

abbrev nBuf : Table → Nat
  | .hbm => 6
  | .local .scVector .vmem => 7
  | _ => 0

abbrev bufTy : (tb : Table) → Fin (nBuf tb) → BufTy
  | .hbm, ⟨0, _⟩ => ⟨S1024x800, .f32⟩
  | .hbm, ⟨1, _⟩ => ⟨S1024x16, .f32⟩
  | .hbm, ⟨2, _⟩ => ⟨S1024x102400, .f32⟩
  | .hbm, ⟨3, _⟩ => ⟨S819200x128, .f32⟩
  | .hbm, ⟨4, _⟩ => ⟨S1024x512, .f32⟩
  | .hbm, ⟨5, _⟩ => ⟨S1024x512, .i32⟩
  | .local .scVector .vmem, ⟨0, _⟩ => ⟨S800, .f32⟩
  | .local .scVector .vmem, ⟨1, _⟩ => ⟨S16, .f32⟩
  | .local .scVector .vmem, ⟨2, _⟩ => ⟨S256, .i32⟩
  | .local .scVector .vmem, ⟨3, _⟩ => ⟨S256x128, .f32⟩
  | .local .scVector .vmem, ⟨4, _⟩ => ⟨S512, .f32⟩
  | .local .scVector .vmem, ⟨5, _⟩ => ⟨S512, .i32⟩
  | .local .scVector .vmem, ⟨6, _⟩ => ⟨S16, .i32⟩
  | _, _ => ⟨S1024x800, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v4 : BitVec 32 := Scalar.muli v1 c32_i32_2
  let c0_i32_0 : BitVec 32 := 0#32
  let c1_i32 : BitVec 32 := 1#32
  let arg15 : BitVec 32 := Scf.iv c0_i32_0 c1_i32 k0_t1
  let v5 : BitVec 32 := Scalar.addi v4 arg15
  let c0_i32_86_r0 : BitVec 32 := 0#32
  ![v5.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v4 : BitVec 32 := Scalar.muli v1 c32_i32_2
  let c0_i32_0 : BitVec 32 := 0#32
  let c1_i32 : BitVec 32 := 1#32
  let arg15 : BitVec 32 := Scf.iv c0_i32_0 c1_i32 k0_t1
  let v5 : BitVec 32 := Scalar.addi v4 arg15
  let c0_i32_86_r1 : BitVec 32 := 0#32
  ![v5.toNat, 0]
@[reducible] def k0_t2_loop : Scf.Loop 32 :=
  let c0_i32_53 : BitVec 32 := 0#32
  let c50_i32 : BitVec 32 := 50#32
  let v93 : BitVec 32 := Scalar.addi c0_i32_53 c50_i32
  let c1_i32_54 : BitVec 32 := 1#32
  ⟨c0_i32_53, v93, c1_i32_54⟩
def k0_off3 (k0_t2 : Fin k0_t2_loop.trips) : Fin 1 → Nat :=
  let c0_i32_53 : BitVec 32 := 0#32
  let c1_i32_54 : BitVec 32 := 1#32
  let arg16 : BitVec 32 := Scf.iv c0_i32_53 c1_i32_54 k0_t2
  let c16_i32_86 : BitVec 32 := 16#32
  let v136 : BitVec 32 := Scalar.muli arg16 c16_i32_86
  let v137 : Index := Scalar.indexCast v136
  ![v137.toNat]

def k0_chk1 (v151 : IVec S16 32) : Prop :=
  (∀ a x, ((![v151] : Fin 1 → IVec S16 32) a x).toNat < S256.size a)
theorem k0_idx1_inb : ∀ (v151 : IVec S16 32) (k0_hw1 : k0_chk1 v151), ∀ a x, ((![v151] : Fin 1 → IVec S16 32) a x).toNat < S256.size a := fun v151 k0_hw1 => k0_hw1
@[reducible] def k0_t3_loop (v96 : BitVec 32) : Scf.Loop 32 :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_84 : BitVec 32 := 1#32
  ⟨c0_i32_82, v133, c1_i32_84⟩

def k0_off4 (v96 : BitVec 32) (k0_t3 : Fin (k0_t3_loop v96).trips) : Fin 1 → Nat :=
  let c0_i32_82 : BitVec 32 := 0#32
  let c1_i32_84 : BitVec 32 := 1#32
  let arg16 : BitVec 32 := Scf.iv c0_i32_82 c1_i32_84 k0_t3
  let c16_i32_86 : BitVec 32 := 16#32
  let v136 : BitVec 32 := Scalar.muli arg16 c16_i32_86
  let v137 : Index := Scalar.indexCast v136
  ![v137.toNat]
def k0_off5 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_89 : BitVec 32 := 16#32
  let v144 : BitVec 32 := Scalar.muli arg16 c16_i32_89
  let c0_i32_90 : BitVec 32 := 0#32
  let v145 : BitVec 32 := Scalar.addi v144 c0_i32_90
  let c0_i32_91 : BitVec 32 := 0#32
  ![v145.toNat, 0]

def k0_chk3 (v159 : IVec S16 32) : Prop :=
  (∀ a x, ((![v159] : Fin 1 → IVec S16 32) a x).toNat < S512.size a) ∧
  (∀ a x, ((![v159] : Fin 1 → IVec S16 32) a x).toNat < S512.size a)
theorem k0_idx2_inb : ∀ (v159 : IVec S16 32) (k0_hw3 : k0_chk3 v159), ∀ a x, ((![v159] : Fin 1 → IVec S16 32) a x).toNat < S512.size a := fun v159 k0_hw3 => k0_hw3.1
theorem k0_idx3_inb : ∀ (v159 : IVec S16 32) (k0_hw3 : k0_chk3 v159), ∀ a x, ((![v159] : Fin 1 → IVec S16 32) a x).toNat < S512.size a := fun v159 k0_hw3 => k0_hw3.2
def k0_off6 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_89 : BitVec 32 := 16#32
  let v144 : BitVec 32 := Scalar.muli arg16 c16_i32_89
  let c0_i32_90 : BitVec 32 := 0#32
  let v145 : BitVec 32 := Scalar.addi v144 c0_i32_90
  let c0_i32_94 : BitVec 32 := 0#32
  ![v145.toNat, 0]

def k0_chk4 (v177 : IVec S16 32) : Prop :=
  (∀ a x, ((![v177] : Fin 1 → IVec S16 32) a x).toNat < S512.size a) ∧
  (∀ a x, ((![v177] : Fin 1 → IVec S16 32) a x).toNat < S512.size a)
theorem k0_idx4_inb : ∀ (v177 : IVec S16 32) (k0_hw4 : k0_chk4 v177), ∀ a x, ((![v177] : Fin 1 → IVec S16 32) a x).toNat < S512.size a := fun v177 k0_hw4 => k0_hw4.1
theorem k0_idx5_inb : ∀ (v177 : IVec S16 32) (k0_hw4 : k0_chk4 v177), ∀ a x, ((![v177] : Fin 1 → IVec S16 32) a x).toNat < S512.size a := fun v177 k0_hw4 => k0_hw4.2
def k0_off7 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_89 : BitVec 32 := 16#32
  let v144 : BitVec 32 := Scalar.muli arg16 c16_i32_89
  let c0_i32_90 : BitVec 32 := 0#32
  let v145 : BitVec 32 := Scalar.addi v144 c0_i32_90
  let c0_i32_99 : BitVec 32 := 0#32
  ![v145.toNat, 0]

def k0_chk5 (v195 : IVec S16 32) : Prop :=
  (∀ a x, ((![v195] : Fin 1 → IVec S16 32) a x).toNat < S512.size a) ∧
  (∀ a x, ((![v195] : Fin 1 → IVec S16 32) a x).toNat < S512.size a)
theorem k0_idx6_inb : ∀ (v195 : IVec S16 32) (k0_hw5 : k0_chk5 v195), ∀ a x, ((![v195] : Fin 1 → IVec S16 32) a x).toNat < S512.size a := fun v195 k0_hw5 => k0_hw5.1
theorem k0_idx7_inb : ∀ (v195 : IVec S16 32) (k0_hw5 : k0_chk5 v195), ∀ a x, ((![v195] : Fin 1 → IVec S16 32) a x).toNat < S512.size a := fun v195 k0_hw5 => k0_hw5.2
def k0_off8 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_89 : BitVec 32 := 16#32
  let v144 : BitVec 32 := Scalar.muli arg16 c16_i32_89
  let c0_i32_90 : BitVec 32 := 0#32
  let v145 : BitVec 32 := Scalar.addi v144 c0_i32_90
  let c0_i32_104 : BitVec 32 := 0#32
  ![v145.toNat, 0]

def k0_chk6 (v213 : IVec S16 32) : Prop :=
  (∀ a x, ((![v213] : Fin 1 → IVec S16 32) a x).toNat < S512.size a) ∧
  (∀ a x, ((![v213] : Fin 1 → IVec S16 32) a x).toNat < S512.size a)
theorem k0_idx8_inb : ∀ (v213 : IVec S16 32) (k0_hw6 : k0_chk6 v213), ∀ a x, ((![v213] : Fin 1 → IVec S16 32) a x).toNat < S512.size a := fun v213 k0_hw6 => k0_hw6.1
theorem k0_idx9_inb : ∀ (v213 : IVec S16 32) (k0_hw6 : k0_chk6 v213), ∀ a x, ((![v213] : Fin 1 → IVec S16 32) a x).toNat < S512.size a := fun v213 k0_hw6 => k0_hw6.2
def k0_off9 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_89 : BitVec 32 := 16#32
  let v144 : BitVec 32 := Scalar.muli arg16 c16_i32_89
  let c0_i32_90 : BitVec 32 := 0#32
  let v145 : BitVec 32 := Scalar.addi v144 c0_i32_90
  let c0_i32_108 : BitVec 32 := 0#32
  ![v145.toNat, 0]

def k0_chk7 (v231 : IVec S16 32) : Prop :=
  (∀ a x, ((![v231] : Fin 1 → IVec S16 32) a x).toNat < S512.size a) ∧
  (∀ a x, ((![v231] : Fin 1 → IVec S16 32) a x).toNat < S512.size a)
theorem k0_idx10_inb : ∀ (v231 : IVec S16 32) (k0_hw7 : k0_chk7 v231), ∀ a x, ((![v231] : Fin 1 → IVec S16 32) a x).toNat < S512.size a := fun v231 k0_hw7 => k0_hw7.1
theorem k0_idx11_inb : ∀ (v231 : IVec S16 32) (k0_hw7 : k0_chk7 v231), ∀ a x, ((![v231] : Fin 1 → IVec S16 32) a x).toNat < S512.size a := fun v231 k0_hw7 => k0_hw7.2
def k0_off10 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_89 : BitVec 32 := 16#32
  let v144 : BitVec 32 := Scalar.muli arg16 c16_i32_89
  let c0_i32_90 : BitVec 32 := 0#32
  let v145 : BitVec 32 := Scalar.addi v144 c0_i32_90
  let c0_i32_112 : BitVec 32 := 0#32
  ![v145.toNat, 0]

def k0_chk8 (v249 : IVec S16 32) : Prop :=
  (∀ a x, ((![v249] : Fin 1 → IVec S16 32) a x).toNat < S512.size a) ∧
  (∀ a x, ((![v249] : Fin 1 → IVec S16 32) a x).toNat < S512.size a)
theorem k0_idx12_inb : ∀ (v249 : IVec S16 32) (k0_hw8 : k0_chk8 v249), ∀ a x, ((![v249] : Fin 1 → IVec S16 32) a x).toNat < S512.size a := fun v249 k0_hw8 => k0_hw8.1
theorem k0_idx13_inb : ∀ (v249 : IVec S16 32) (k0_hw8 : k0_chk8 v249), ∀ a x, ((![v249] : Fin 1 → IVec S16 32) a x).toNat < S512.size a := fun v249 k0_hw8 => k0_hw8.2
def k0_off11 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_89 : BitVec 32 := 16#32
  let v144 : BitVec 32 := Scalar.muli arg16 c16_i32_89
  let c0_i32_90 : BitVec 32 := 0#32
  let v145 : BitVec 32 := Scalar.addi v144 c0_i32_90
  let c0_i32_116 : BitVec 32 := 0#32
  ![v145.toNat, 0]

def k0_chk9 (v267 : IVec S16 32) : Prop :=
  (∀ a x, ((![v267] : Fin 1 → IVec S16 32) a x).toNat < S512.size a) ∧
  (∀ a x, ((![v267] : Fin 1 → IVec S16 32) a x).toNat < S512.size a)
theorem k0_idx14_inb : ∀ (v267 : IVec S16 32) (k0_hw9 : k0_chk9 v267), ∀ a x, ((![v267] : Fin 1 → IVec S16 32) a x).toNat < S512.size a := fun v267 k0_hw9 => k0_hw9.1
theorem k0_idx15_inb : ∀ (v267 : IVec S16 32) (k0_hw9 : k0_chk9 v267), ∀ a x, ((![v267] : Fin 1 → IVec S16 32) a x).toNat < S512.size a := fun v267 k0_hw9 => k0_hw9.2
def k0_off12 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_89 : BitVec 32 := 16#32
  let v144 : BitVec 32 := Scalar.muli arg16 c16_i32_89
  let c0_i32_90 : BitVec 32 := 0#32
  let v145 : BitVec 32 := Scalar.addi v144 c0_i32_90
  let c0_i32_120 : BitVec 32 := 0#32
  ![v145.toNat, 0]

def k0_chk10 (v285 : IVec S16 32) : Prop :=
  (∀ a x, ((![v285] : Fin 1 → IVec S16 32) a x).toNat < S512.size a) ∧
  (∀ a x, ((![v285] : Fin 1 → IVec S16 32) a x).toNat < S512.size a)
theorem k0_idx16_inb : ∀ (v285 : IVec S16 32) (k0_hw10 : k0_chk10 v285), ∀ a x, ((![v285] : Fin 1 → IVec S16 32) a x).toNat < S512.size a := fun v285 k0_hw10 => k0_hw10.1
theorem k0_idx17_inb : ∀ (v285 : IVec S16 32) (k0_hw10 : k0_chk10 v285), ∀ a x, ((![v285] : Fin 1 → IVec S16 32) a x).toNat < S512.size a := fun v285 k0_hw10 => k0_hw10.2
def k0_off13 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_126 : BitVec 32 := 16#32
  let v295 : BitVec 32 := Scalar.muli arg16 c16_i32_126
  let c1_i32_127 : BitVec 32 := 1#32
  let v296 : BitVec 32 := Scalar.addi v295 c1_i32_127
  let c0_i32_128 : BitVec 32 := 0#32
  ![v296.toNat, 0]

def k0_chk11 (v310 : IVec S16 32) : Prop :=
  (∀ a x, ((![v310] : Fin 1 → IVec S16 32) a x).toNat < S512.size a) ∧
  (∀ a x, ((![v310] : Fin 1 → IVec S16 32) a x).toNat < S512.size a)
theorem k0_idx18_inb : ∀ (v310 : IVec S16 32) (k0_hw11 : k0_chk11 v310), ∀ a x, ((![v310] : Fin 1 → IVec S16 32) a x).toNat < S512.size a := fun v310 k0_hw11 => k0_hw11.1
theorem k0_idx19_inb : ∀ (v310 : IVec S16 32) (k0_hw11 : k0_chk11 v310), ∀ a x, ((![v310] : Fin 1 → IVec S16 32) a x).toNat < S512.size a := fun v310 k0_hw11 => k0_hw11.2
def k0_off14 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_126 : BitVec 32 := 16#32
  let v295 : BitVec 32 := Scalar.muli arg16 c16_i32_126
  let c1_i32_127 : BitVec 32 := 1#32
  let v296 : BitVec 32 := Scalar.addi v295 c1_i32_127
  let c0_i32_133 : BitVec 32 := 0#32
  ![v296.toNat, 0]

def k0_chk12 (v328 : IVec S16 32) : Prop :=
  (∀ a x, ((![v328] : Fin 1 → IVec S16 32) a x).toNat < S512.size a) ∧
  (∀ a x, ((![v328] : Fin 1 → IVec S16 32) a x).toNat < S512.size a)
theorem k0_idx20_inb : ∀ (v328 : IVec S16 32) (k0_hw12 : k0_chk12 v328), ∀ a x, ((![v328] : Fin 1 → IVec S16 32) a x).toNat < S512.size a := fun v328 k0_hw12 => k0_hw12.1
theorem k0_idx21_inb : ∀ (v328 : IVec S16 32) (k0_hw12 : k0_chk12 v328), ∀ a x, ((![v328] : Fin 1 → IVec S16 32) a x).toNat < S512.size a := fun v328 k0_hw12 => k0_hw12.2
def k0_off15 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_126 : BitVec 32 := 16#32
  let v295 : BitVec 32 := Scalar.muli arg16 c16_i32_126
  let c1_i32_127 : BitVec 32 := 1#32
  let v296 : BitVec 32 := Scalar.addi v295 c1_i32_127
  let c0_i32_138 : BitVec 32 := 0#32
  ![v296.toNat, 0]

def k0_chk13 (v346 : IVec S16 32) : Prop :=
  (∀ a x, ((![v346] : Fin 1 → IVec S16 32) a x).toNat < S512.size a) ∧
  (∀ a x, ((![v346] : Fin 1 → IVec S16 32) a x).toNat < S512.size a)
theorem k0_idx22_inb : ∀ (v346 : IVec S16 32) (k0_hw13 : k0_chk13 v346), ∀ a x, ((![v346] : Fin 1 → IVec S16 32) a x).toNat < S512.size a := fun v346 k0_hw13 => k0_hw13.1
theorem k0_idx23_inb : ∀ (v346 : IVec S16 32) (k0_hw13 : k0_chk13 v346), ∀ a x, ((![v346] : Fin 1 → IVec S16 32) a x).toNat < S512.size a := fun v346 k0_hw13 => k0_hw13.2
def k0_off16 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_126 : BitVec 32 := 16#32
  let v295 : BitVec 32 := Scalar.muli arg16 c16_i32_126
  let c1_i32_127 : BitVec 32 := 1#32
  let v296 : BitVec 32 := Scalar.addi v295 c1_i32_127
  let c0_i32_143 : BitVec 32 := 0#32
  ![v296.toNat, 0]

def k0_chk14 (v364 : IVec S16 32) : Prop :=
  (∀ a x, ((![v364] : Fin 1 → IVec S16 32) a x).toNat < S512.size a) ∧
  (∀ a x, ((![v364] : Fin 1 → IVec S16 32) a x).toNat < S512.size a)
theorem k0_idx24_inb : ∀ (v364 : IVec S16 32) (k0_hw14 : k0_chk14 v364), ∀ a x, ((![v364] : Fin 1 → IVec S16 32) a x).toNat < S512.size a := fun v364 k0_hw14 => k0_hw14.1
theorem k0_idx25_inb : ∀ (v364 : IVec S16 32) (k0_hw14 : k0_chk14 v364), ∀ a x, ((![v364] : Fin 1 → IVec S16 32) a x).toNat < S512.size a := fun v364 k0_hw14 => k0_hw14.2
def k0_off17 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_126 : BitVec 32 := 16#32
  let v295 : BitVec 32 := Scalar.muli arg16 c16_i32_126
  let c1_i32_127 : BitVec 32 := 1#32
  let v296 : BitVec 32 := Scalar.addi v295 c1_i32_127
  let c0_i32_148 : BitVec 32 := 0#32
  ![v296.toNat, 0]

def k0_chk15 (v382 : IVec S16 32) : Prop :=
  (∀ a x, ((![v382] : Fin 1 → IVec S16 32) a x).toNat < S512.size a) ∧
  (∀ a x, ((![v382] : Fin 1 → IVec S16 32) a x).toNat < S512.size a)
theorem k0_idx26_inb : ∀ (v382 : IVec S16 32) (k0_hw15 : k0_chk15 v382), ∀ a x, ((![v382] : Fin 1 → IVec S16 32) a x).toNat < S512.size a := fun v382 k0_hw15 => k0_hw15.1
theorem k0_idx27_inb : ∀ (v382 : IVec S16 32) (k0_hw15 : k0_chk15 v382), ∀ a x, ((![v382] : Fin 1 → IVec S16 32) a x).toNat < S512.size a := fun v382 k0_hw15 => k0_hw15.2
def k0_off18 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_126 : BitVec 32 := 16#32
  let v295 : BitVec 32 := Scalar.muli arg16 c16_i32_126
  let c1_i32_127 : BitVec 32 := 1#32
  let v296 : BitVec 32 := Scalar.addi v295 c1_i32_127
  let c0_i32_153 : BitVec 32 := 0#32
  ![v296.toNat, 0]

def k0_chk16 (v400 : IVec S16 32) : Prop :=
  (∀ a x, ((![v400] : Fin 1 → IVec S16 32) a x).toNat < S512.size a) ∧
  (∀ a x, ((![v400] : Fin 1 → IVec S16 32) a x).toNat < S512.size a)
theorem k0_idx28_inb : ∀ (v400 : IVec S16 32) (k0_hw16 : k0_chk16 v400), ∀ a x, ((![v400] : Fin 1 → IVec S16 32) a x).toNat < S512.size a := fun v400 k0_hw16 => k0_hw16.1
theorem k0_idx29_inb : ∀ (v400 : IVec S16 32) (k0_hw16 : k0_chk16 v400), ∀ a x, ((![v400] : Fin 1 → IVec S16 32) a x).toNat < S512.size a := fun v400 k0_hw16 => k0_hw16.2
def k0_off19 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_126 : BitVec 32 := 16#32
  let v295 : BitVec 32 := Scalar.muli arg16 c16_i32_126
  let c1_i32_127 : BitVec 32 := 1#32
  let v296 : BitVec 32 := Scalar.addi v295 c1_i32_127
  let c0_i32_158 : BitVec 32 := 0#32
  ![v296.toNat, 0]

def k0_chk17 (v418 : IVec S16 32) : Prop :=
  (∀ a x, ((![v418] : Fin 1 → IVec S16 32) a x).toNat < S512.size a) ∧
  (∀ a x, ((![v418] : Fin 1 → IVec S16 32) a x).toNat < S512.size a)
theorem k0_idx30_inb : ∀ (v418 : IVec S16 32) (k0_hw17 : k0_chk17 v418), ∀ a x, ((![v418] : Fin 1 → IVec S16 32) a x).toNat < S512.size a := fun v418 k0_hw17 => k0_hw17.1
theorem k0_idx31_inb : ∀ (v418 : IVec S16 32) (k0_hw17 : k0_chk17 v418), ∀ a x, ((![v418] : Fin 1 → IVec S16 32) a x).toNat < S512.size a := fun v418 k0_hw17 => k0_hw17.2
def k0_off20 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_126 : BitVec 32 := 16#32
  let v295 : BitVec 32 := Scalar.muli arg16 c16_i32_126
  let c1_i32_127 : BitVec 32 := 1#32
  let v296 : BitVec 32 := Scalar.addi v295 c1_i32_127
  let c0_i32_163 : BitVec 32 := 0#32
  ![v296.toNat, 0]

def k0_chk18 (v436 : IVec S16 32) : Prop :=
  (∀ a x, ((![v436] : Fin 1 → IVec S16 32) a x).toNat < S512.size a) ∧
  (∀ a x, ((![v436] : Fin 1 → IVec S16 32) a x).toNat < S512.size a)
theorem k0_idx32_inb : ∀ (v436 : IVec S16 32) (k0_hw18 : k0_chk18 v436), ∀ a x, ((![v436] : Fin 1 → IVec S16 32) a x).toNat < S512.size a := fun v436 k0_hw18 => k0_hw18.1
theorem k0_idx33_inb : ∀ (v436 : IVec S16 32) (k0_hw18 : k0_chk18 v436), ∀ a x, ((![v436] : Fin 1 → IVec S16 32) a x).toNat < S512.size a := fun v436 k0_hw18 => k0_hw18.2
def k0_off21 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_170 : BitVec 32 := 16#32
  let v446 : BitVec 32 := Scalar.muli arg16 c16_i32_170
  let c2_i32_171 : BitVec 32 := 2#32
  let v447 : BitVec 32 := Scalar.addi v446 c2_i32_171
  let c0_i32_172 : BitVec 32 := 0#32
  ![v447.toNat, 0]

def k0_chk19 (v461 : IVec S16 32) : Prop :=
  (∀ a x, ((![v461] : Fin 1 → IVec S16 32) a x).toNat < S512.size a) ∧
  (∀ a x, ((![v461] : Fin 1 → IVec S16 32) a x).toNat < S512.size a)
theorem k0_idx34_inb : ∀ (v461 : IVec S16 32) (k0_hw19 : k0_chk19 v461), ∀ a x, ((![v461] : Fin 1 → IVec S16 32) a x).toNat < S512.size a := fun v461 k0_hw19 => k0_hw19.1
theorem k0_idx35_inb : ∀ (v461 : IVec S16 32) (k0_hw19 : k0_chk19 v461), ∀ a x, ((![v461] : Fin 1 → IVec S16 32) a x).toNat < S512.size a := fun v461 k0_hw19 => k0_hw19.2
def k0_off22 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_170 : BitVec 32 := 16#32
  let v446 : BitVec 32 := Scalar.muli arg16 c16_i32_170
  let c2_i32_171 : BitVec 32 := 2#32
  let v447 : BitVec 32 := Scalar.addi v446 c2_i32_171
  let c0_i32_177 : BitVec 32 := 0#32
  ![v447.toNat, 0]

def k0_chk20 (v479 : IVec S16 32) : Prop :=
  (∀ a x, ((![v479] : Fin 1 → IVec S16 32) a x).toNat < S512.size a) ∧
  (∀ a x, ((![v479] : Fin 1 → IVec S16 32) a x).toNat < S512.size a)
theorem k0_idx36_inb : ∀ (v479 : IVec S16 32) (k0_hw20 : k0_chk20 v479), ∀ a x, ((![v479] : Fin 1 → IVec S16 32) a x).toNat < S512.size a := fun v479 k0_hw20 => k0_hw20.1
theorem k0_idx37_inb : ∀ (v479 : IVec S16 32) (k0_hw20 : k0_chk20 v479), ∀ a x, ((![v479] : Fin 1 → IVec S16 32) a x).toNat < S512.size a := fun v479 k0_hw20 => k0_hw20.2
def k0_off23 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_170 : BitVec 32 := 16#32
  let v446 : BitVec 32 := Scalar.muli arg16 c16_i32_170
  let c2_i32_171 : BitVec 32 := 2#32
  let v447 : BitVec 32 := Scalar.addi v446 c2_i32_171
  let c0_i32_182 : BitVec 32 := 0#32
  ![v447.toNat, 0]

def k0_chk21 (v497 : IVec S16 32) : Prop :=
  (∀ a x, ((![v497] : Fin 1 → IVec S16 32) a x).toNat < S512.size a) ∧
  (∀ a x, ((![v497] : Fin 1 → IVec S16 32) a x).toNat < S512.size a)
theorem k0_idx38_inb : ∀ (v497 : IVec S16 32) (k0_hw21 : k0_chk21 v497), ∀ a x, ((![v497] : Fin 1 → IVec S16 32) a x).toNat < S512.size a := fun v497 k0_hw21 => k0_hw21.1
theorem k0_idx39_inb : ∀ (v497 : IVec S16 32) (k0_hw21 : k0_chk21 v497), ∀ a x, ((![v497] : Fin 1 → IVec S16 32) a x).toNat < S512.size a := fun v497 k0_hw21 => k0_hw21.2
def k0_off24 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_170 : BitVec 32 := 16#32
  let v446 : BitVec 32 := Scalar.muli arg16 c16_i32_170
  let c2_i32_171 : BitVec 32 := 2#32
  let v447 : BitVec 32 := Scalar.addi v446 c2_i32_171
  let c0_i32_187 : BitVec 32 := 0#32
  ![v447.toNat, 0]

def k0_chk22 (v515 : IVec S16 32) : Prop :=
  (∀ a x, ((![v515] : Fin 1 → IVec S16 32) a x).toNat < S512.size a) ∧
  (∀ a x, ((![v515] : Fin 1 → IVec S16 32) a x).toNat < S512.size a)
theorem k0_idx40_inb : ∀ (v515 : IVec S16 32) (k0_hw22 : k0_chk22 v515), ∀ a x, ((![v515] : Fin 1 → IVec S16 32) a x).toNat < S512.size a := fun v515 k0_hw22 => k0_hw22.1
theorem k0_idx41_inb : ∀ (v515 : IVec S16 32) (k0_hw22 : k0_chk22 v515), ∀ a x, ((![v515] : Fin 1 → IVec S16 32) a x).toNat < S512.size a := fun v515 k0_hw22 => k0_hw22.2
def k0_off25 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_170 : BitVec 32 := 16#32
  let v446 : BitVec 32 := Scalar.muli arg16 c16_i32_170
  let c2_i32_171 : BitVec 32 := 2#32
  let v447 : BitVec 32 := Scalar.addi v446 c2_i32_171
  let c0_i32_192 : BitVec 32 := 0#32
  ![v447.toNat, 0]

def k0_chk23 (v533 : IVec S16 32) : Prop :=
  (∀ a x, ((![v533] : Fin 1 → IVec S16 32) a x).toNat < S512.size a) ∧
  (∀ a x, ((![v533] : Fin 1 → IVec S16 32) a x).toNat < S512.size a)
theorem k0_idx42_inb : ∀ (v533 : IVec S16 32) (k0_hw23 : k0_chk23 v533), ∀ a x, ((![v533] : Fin 1 → IVec S16 32) a x).toNat < S512.size a := fun v533 k0_hw23 => k0_hw23.1
theorem k0_idx43_inb : ∀ (v533 : IVec S16 32) (k0_hw23 : k0_chk23 v533), ∀ a x, ((![v533] : Fin 1 → IVec S16 32) a x).toNat < S512.size a := fun v533 k0_hw23 => k0_hw23.2
def k0_off26 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_170 : BitVec 32 := 16#32
  let v446 : BitVec 32 := Scalar.muli arg16 c16_i32_170
  let c2_i32_171 : BitVec 32 := 2#32
  let v447 : BitVec 32 := Scalar.addi v446 c2_i32_171
  let c0_i32_197 : BitVec 32 := 0#32
  ![v447.toNat, 0]

def k0_chk24 (v551 : IVec S16 32) : Prop :=
  (∀ a x, ((![v551] : Fin 1 → IVec S16 32) a x).toNat < S512.size a) ∧
  (∀ a x, ((![v551] : Fin 1 → IVec S16 32) a x).toNat < S512.size a)
theorem k0_idx44_inb : ∀ (v551 : IVec S16 32) (k0_hw24 : k0_chk24 v551), ∀ a x, ((![v551] : Fin 1 → IVec S16 32) a x).toNat < S512.size a := fun v551 k0_hw24 => k0_hw24.1
theorem k0_idx45_inb : ∀ (v551 : IVec S16 32) (k0_hw24 : k0_chk24 v551), ∀ a x, ((![v551] : Fin 1 → IVec S16 32) a x).toNat < S512.size a := fun v551 k0_hw24 => k0_hw24.2
def k0_off27 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_170 : BitVec 32 := 16#32
  let v446 : BitVec 32 := Scalar.muli arg16 c16_i32_170
  let c2_i32_171 : BitVec 32 := 2#32
  let v447 : BitVec 32 := Scalar.addi v446 c2_i32_171
  let c0_i32_202 : BitVec 32 := 0#32
  ![v447.toNat, 0]

def k0_chk25 (v569 : IVec S16 32) : Prop :=
  (∀ a x, ((![v569] : Fin 1 → IVec S16 32) a x).toNat < S512.size a) ∧
  (∀ a x, ((![v569] : Fin 1 → IVec S16 32) a x).toNat < S512.size a)
theorem k0_idx46_inb : ∀ (v569 : IVec S16 32) (k0_hw25 : k0_chk25 v569), ∀ a x, ((![v569] : Fin 1 → IVec S16 32) a x).toNat < S512.size a := fun v569 k0_hw25 => k0_hw25.1
theorem k0_idx47_inb : ∀ (v569 : IVec S16 32) (k0_hw25 : k0_chk25 v569), ∀ a x, ((![v569] : Fin 1 → IVec S16 32) a x).toNat < S512.size a := fun v569 k0_hw25 => k0_hw25.2
def k0_off28 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_170 : BitVec 32 := 16#32
  let v446 : BitVec 32 := Scalar.muli arg16 c16_i32_170
  let c2_i32_171 : BitVec 32 := 2#32
  let v447 : BitVec 32 := Scalar.addi v446 c2_i32_171
  let c0_i32_207 : BitVec 32 := 0#32
  ![v447.toNat, 0]

def k0_chk26 (v587 : IVec S16 32) : Prop :=
  (∀ a x, ((![v587] : Fin 1 → IVec S16 32) a x).toNat < S512.size a) ∧
  (∀ a x, ((![v587] : Fin 1 → IVec S16 32) a x).toNat < S512.size a)
theorem k0_idx48_inb : ∀ (v587 : IVec S16 32) (k0_hw26 : k0_chk26 v587), ∀ a x, ((![v587] : Fin 1 → IVec S16 32) a x).toNat < S512.size a := fun v587 k0_hw26 => k0_hw26.1
theorem k0_idx49_inb : ∀ (v587 : IVec S16 32) (k0_hw26 : k0_chk26 v587), ∀ a x, ((![v587] : Fin 1 → IVec S16 32) a x).toNat < S512.size a := fun v587 k0_hw26 => k0_hw26.2
def k0_off29 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_214 : BitVec 32 := 16#32
  let v597 : BitVec 32 := Scalar.muli arg16 c16_i32_214
  let c3_i32 : BitVec 32 := 3#32
  let v598 : BitVec 32 := Scalar.addi v597 c3_i32
  let c0_i32_215 : BitVec 32 := 0#32
  ![v598.toNat, 0]

def k0_chk27 (v612 : IVec S16 32) : Prop :=
  (∀ a x, ((![v612] : Fin 1 → IVec S16 32) a x).toNat < S512.size a) ∧
  (∀ a x, ((![v612] : Fin 1 → IVec S16 32) a x).toNat < S512.size a)
theorem k0_idx50_inb : ∀ (v612 : IVec S16 32) (k0_hw27 : k0_chk27 v612), ∀ a x, ((![v612] : Fin 1 → IVec S16 32) a x).toNat < S512.size a := fun v612 k0_hw27 => k0_hw27.1
theorem k0_idx51_inb : ∀ (v612 : IVec S16 32) (k0_hw27 : k0_chk27 v612), ∀ a x, ((![v612] : Fin 1 → IVec S16 32) a x).toNat < S512.size a := fun v612 k0_hw27 => k0_hw27.2
def k0_off30 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_214 : BitVec 32 := 16#32
  let v597 : BitVec 32 := Scalar.muli arg16 c16_i32_214
  let c3_i32 : BitVec 32 := 3#32
  let v598 : BitVec 32 := Scalar.addi v597 c3_i32
  let c0_i32_220 : BitVec 32 := 0#32
  ![v598.toNat, 0]

def k0_chk28 (v630 : IVec S16 32) : Prop :=
  (∀ a x, ((![v630] : Fin 1 → IVec S16 32) a x).toNat < S512.size a) ∧
  (∀ a x, ((![v630] : Fin 1 → IVec S16 32) a x).toNat < S512.size a)
theorem k0_idx52_inb : ∀ (v630 : IVec S16 32) (k0_hw28 : k0_chk28 v630), ∀ a x, ((![v630] : Fin 1 → IVec S16 32) a x).toNat < S512.size a := fun v630 k0_hw28 => k0_hw28.1
theorem k0_idx53_inb : ∀ (v630 : IVec S16 32) (k0_hw28 : k0_chk28 v630), ∀ a x, ((![v630] : Fin 1 → IVec S16 32) a x).toNat < S512.size a := fun v630 k0_hw28 => k0_hw28.2
def k0_off31 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_214 : BitVec 32 := 16#32
  let v597 : BitVec 32 := Scalar.muli arg16 c16_i32_214
  let c3_i32 : BitVec 32 := 3#32
  let v598 : BitVec 32 := Scalar.addi v597 c3_i32
  let c0_i32_225 : BitVec 32 := 0#32
  ![v598.toNat, 0]

def k0_chk29 (v648 : IVec S16 32) : Prop :=
  (∀ a x, ((![v648] : Fin 1 → IVec S16 32) a x).toNat < S512.size a) ∧
  (∀ a x, ((![v648] : Fin 1 → IVec S16 32) a x).toNat < S512.size a)
theorem k0_idx54_inb : ∀ (v648 : IVec S16 32) (k0_hw29 : k0_chk29 v648), ∀ a x, ((![v648] : Fin 1 → IVec S16 32) a x).toNat < S512.size a := fun v648 k0_hw29 => k0_hw29.1
theorem k0_idx55_inb : ∀ (v648 : IVec S16 32) (k0_hw29 : k0_chk29 v648), ∀ a x, ((![v648] : Fin 1 → IVec S16 32) a x).toNat < S512.size a := fun v648 k0_hw29 => k0_hw29.2
def k0_off32 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_214 : BitVec 32 := 16#32
  let v597 : BitVec 32 := Scalar.muli arg16 c16_i32_214
  let c3_i32 : BitVec 32 := 3#32
  let v598 : BitVec 32 := Scalar.addi v597 c3_i32
  let c0_i32_230 : BitVec 32 := 0#32
  ![v598.toNat, 0]

def k0_chk30 (v666 : IVec S16 32) : Prop :=
  (∀ a x, ((![v666] : Fin 1 → IVec S16 32) a x).toNat < S512.size a) ∧
  (∀ a x, ((![v666] : Fin 1 → IVec S16 32) a x).toNat < S512.size a)
theorem k0_idx56_inb : ∀ (v666 : IVec S16 32) (k0_hw30 : k0_chk30 v666), ∀ a x, ((![v666] : Fin 1 → IVec S16 32) a x).toNat < S512.size a := fun v666 k0_hw30 => k0_hw30.1
theorem k0_idx57_inb : ∀ (v666 : IVec S16 32) (k0_hw30 : k0_chk30 v666), ∀ a x, ((![v666] : Fin 1 → IVec S16 32) a x).toNat < S512.size a := fun v666 k0_hw30 => k0_hw30.2
def k0_off33 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_214 : BitVec 32 := 16#32
  let v597 : BitVec 32 := Scalar.muli arg16 c16_i32_214
  let c3_i32 : BitVec 32 := 3#32
  let v598 : BitVec 32 := Scalar.addi v597 c3_i32
  let c0_i32_235 : BitVec 32 := 0#32
  ![v598.toNat, 0]

def k0_chk31 (v684 : IVec S16 32) : Prop :=
  (∀ a x, ((![v684] : Fin 1 → IVec S16 32) a x).toNat < S512.size a) ∧
  (∀ a x, ((![v684] : Fin 1 → IVec S16 32) a x).toNat < S512.size a)
theorem k0_idx58_inb : ∀ (v684 : IVec S16 32) (k0_hw31 : k0_chk31 v684), ∀ a x, ((![v684] : Fin 1 → IVec S16 32) a x).toNat < S512.size a := fun v684 k0_hw31 => k0_hw31.1
theorem k0_idx59_inb : ∀ (v684 : IVec S16 32) (k0_hw31 : k0_chk31 v684), ∀ a x, ((![v684] : Fin 1 → IVec S16 32) a x).toNat < S512.size a := fun v684 k0_hw31 => k0_hw31.2
def k0_off34 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_214 : BitVec 32 := 16#32
  let v597 : BitVec 32 := Scalar.muli arg16 c16_i32_214
  let c3_i32 : BitVec 32 := 3#32
  let v598 : BitVec 32 := Scalar.addi v597 c3_i32
  let c0_i32_240 : BitVec 32 := 0#32
  ![v598.toNat, 0]

def k0_chk32 (v702 : IVec S16 32) : Prop :=
  (∀ a x, ((![v702] : Fin 1 → IVec S16 32) a x).toNat < S512.size a) ∧
  (∀ a x, ((![v702] : Fin 1 → IVec S16 32) a x).toNat < S512.size a)
theorem k0_idx60_inb : ∀ (v702 : IVec S16 32) (k0_hw32 : k0_chk32 v702), ∀ a x, ((![v702] : Fin 1 → IVec S16 32) a x).toNat < S512.size a := fun v702 k0_hw32 => k0_hw32.1
theorem k0_idx61_inb : ∀ (v702 : IVec S16 32) (k0_hw32 : k0_chk32 v702), ∀ a x, ((![v702] : Fin 1 → IVec S16 32) a x).toNat < S512.size a := fun v702 k0_hw32 => k0_hw32.2
def k0_off35 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_214 : BitVec 32 := 16#32
  let v597 : BitVec 32 := Scalar.muli arg16 c16_i32_214
  let c3_i32 : BitVec 32 := 3#32
  let v598 : BitVec 32 := Scalar.addi v597 c3_i32
  let c0_i32_245 : BitVec 32 := 0#32
  ![v598.toNat, 0]

def k0_chk33 (v720 : IVec S16 32) : Prop :=
  (∀ a x, ((![v720] : Fin 1 → IVec S16 32) a x).toNat < S512.size a) ∧
  (∀ a x, ((![v720] : Fin 1 → IVec S16 32) a x).toNat < S512.size a)
theorem k0_idx62_inb : ∀ (v720 : IVec S16 32) (k0_hw33 : k0_chk33 v720), ∀ a x, ((![v720] : Fin 1 → IVec S16 32) a x).toNat < S512.size a := fun v720 k0_hw33 => k0_hw33.1
theorem k0_idx63_inb : ∀ (v720 : IVec S16 32) (k0_hw33 : k0_chk33 v720), ∀ a x, ((![v720] : Fin 1 → IVec S16 32) a x).toNat < S512.size a := fun v720 k0_hw33 => k0_hw33.2
def k0_off36 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_214 : BitVec 32 := 16#32
  let v597 : BitVec 32 := Scalar.muli arg16 c16_i32_214
  let c3_i32 : BitVec 32 := 3#32
  let v598 : BitVec 32 := Scalar.addi v597 c3_i32
  let c0_i32_250 : BitVec 32 := 0#32
  ![v598.toNat, 0]

def k0_chk34 (v738 : IVec S16 32) : Prop :=
  (∀ a x, ((![v738] : Fin 1 → IVec S16 32) a x).toNat < S512.size a) ∧
  (∀ a x, ((![v738] : Fin 1 → IVec S16 32) a x).toNat < S512.size a)
theorem k0_idx64_inb : ∀ (v738 : IVec S16 32) (k0_hw34 : k0_chk34 v738), ∀ a x, ((![v738] : Fin 1 → IVec S16 32) a x).toNat < S512.size a := fun v738 k0_hw34 => k0_hw34.1
theorem k0_idx65_inb : ∀ (v738 : IVec S16 32) (k0_hw34 : k0_chk34 v738), ∀ a x, ((![v738] : Fin 1 → IVec S16 32) a x).toNat < S512.size a := fun v738 k0_hw34 => k0_hw34.2
def k0_off37 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_257 : BitVec 32 := 16#32
  let v748 : BitVec 32 := Scalar.muli arg16 c16_i32_257
  let c4_i32 : BitVec 32 := 4#32
  let v749 : BitVec 32 := Scalar.addi v748 c4_i32
  let c0_i32_258 : BitVec 32 := 0#32
  ![v749.toNat, 0]

def k0_chk35 (v763 : IVec S16 32) : Prop :=
  (∀ a x, ((![v763] : Fin 1 → IVec S16 32) a x).toNat < S512.size a) ∧
  (∀ a x, ((![v763] : Fin 1 → IVec S16 32) a x).toNat < S512.size a)
theorem k0_idx66_inb : ∀ (v763 : IVec S16 32) (k0_hw35 : k0_chk35 v763), ∀ a x, ((![v763] : Fin 1 → IVec S16 32) a x).toNat < S512.size a := fun v763 k0_hw35 => k0_hw35.1
theorem k0_idx67_inb : ∀ (v763 : IVec S16 32) (k0_hw35 : k0_chk35 v763), ∀ a x, ((![v763] : Fin 1 → IVec S16 32) a x).toNat < S512.size a := fun v763 k0_hw35 => k0_hw35.2
def k0_off38 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_257 : BitVec 32 := 16#32
  let v748 : BitVec 32 := Scalar.muli arg16 c16_i32_257
  let c4_i32 : BitVec 32 := 4#32
  let v749 : BitVec 32 := Scalar.addi v748 c4_i32
  let c0_i32_263 : BitVec 32 := 0#32
  ![v749.toNat, 0]

def k0_chk36 (v781 : IVec S16 32) : Prop :=
  (∀ a x, ((![v781] : Fin 1 → IVec S16 32) a x).toNat < S512.size a) ∧
  (∀ a x, ((![v781] : Fin 1 → IVec S16 32) a x).toNat < S512.size a)
theorem k0_idx68_inb : ∀ (v781 : IVec S16 32) (k0_hw36 : k0_chk36 v781), ∀ a x, ((![v781] : Fin 1 → IVec S16 32) a x).toNat < S512.size a := fun v781 k0_hw36 => k0_hw36.1
theorem k0_idx69_inb : ∀ (v781 : IVec S16 32) (k0_hw36 : k0_chk36 v781), ∀ a x, ((![v781] : Fin 1 → IVec S16 32) a x).toNat < S512.size a := fun v781 k0_hw36 => k0_hw36.2
def k0_off39 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_257 : BitVec 32 := 16#32
  let v748 : BitVec 32 := Scalar.muli arg16 c16_i32_257
  let c4_i32 : BitVec 32 := 4#32
  let v749 : BitVec 32 := Scalar.addi v748 c4_i32
  let c0_i32_268 : BitVec 32 := 0#32
  ![v749.toNat, 0]

def k0_chk37 (v799 : IVec S16 32) : Prop :=
  (∀ a x, ((![v799] : Fin 1 → IVec S16 32) a x).toNat < S512.size a) ∧
  (∀ a x, ((![v799] : Fin 1 → IVec S16 32) a x).toNat < S512.size a)
theorem k0_idx70_inb : ∀ (v799 : IVec S16 32) (k0_hw37 : k0_chk37 v799), ∀ a x, ((![v799] : Fin 1 → IVec S16 32) a x).toNat < S512.size a := fun v799 k0_hw37 => k0_hw37.1
theorem k0_idx71_inb : ∀ (v799 : IVec S16 32) (k0_hw37 : k0_chk37 v799), ∀ a x, ((![v799] : Fin 1 → IVec S16 32) a x).toNat < S512.size a := fun v799 k0_hw37 => k0_hw37.2
def k0_off40 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_257 : BitVec 32 := 16#32
  let v748 : BitVec 32 := Scalar.muli arg16 c16_i32_257
  let c4_i32 : BitVec 32 := 4#32
  let v749 : BitVec 32 := Scalar.addi v748 c4_i32
  let c0_i32_273 : BitVec 32 := 0#32
  ![v749.toNat, 0]

def k0_chk38 (v817 : IVec S16 32) : Prop :=
  (∀ a x, ((![v817] : Fin 1 → IVec S16 32) a x).toNat < S512.size a) ∧
  (∀ a x, ((![v817] : Fin 1 → IVec S16 32) a x).toNat < S512.size a)
theorem k0_idx72_inb : ∀ (v817 : IVec S16 32) (k0_hw38 : k0_chk38 v817), ∀ a x, ((![v817] : Fin 1 → IVec S16 32) a x).toNat < S512.size a := fun v817 k0_hw38 => k0_hw38.1
theorem k0_idx73_inb : ∀ (v817 : IVec S16 32) (k0_hw38 : k0_chk38 v817), ∀ a x, ((![v817] : Fin 1 → IVec S16 32) a x).toNat < S512.size a := fun v817 k0_hw38 => k0_hw38.2
def k0_off41 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_257 : BitVec 32 := 16#32
  let v748 : BitVec 32 := Scalar.muli arg16 c16_i32_257
  let c4_i32 : BitVec 32 := 4#32
  let v749 : BitVec 32 := Scalar.addi v748 c4_i32
  let c0_i32_278 : BitVec 32 := 0#32
  ![v749.toNat, 0]

def k0_chk39 (v835 : IVec S16 32) : Prop :=
  (∀ a x, ((![v835] : Fin 1 → IVec S16 32) a x).toNat < S512.size a) ∧
  (∀ a x, ((![v835] : Fin 1 → IVec S16 32) a x).toNat < S512.size a)
theorem k0_idx74_inb : ∀ (v835 : IVec S16 32) (k0_hw39 : k0_chk39 v835), ∀ a x, ((![v835] : Fin 1 → IVec S16 32) a x).toNat < S512.size a := fun v835 k0_hw39 => k0_hw39.1
theorem k0_idx75_inb : ∀ (v835 : IVec S16 32) (k0_hw39 : k0_chk39 v835), ∀ a x, ((![v835] : Fin 1 → IVec S16 32) a x).toNat < S512.size a := fun v835 k0_hw39 => k0_hw39.2
def k0_off42 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_257 : BitVec 32 := 16#32
  let v748 : BitVec 32 := Scalar.muli arg16 c16_i32_257
  let c4_i32 : BitVec 32 := 4#32
  let v749 : BitVec 32 := Scalar.addi v748 c4_i32
  let c0_i32_283 : BitVec 32 := 0#32
  ![v749.toNat, 0]

def k0_chk40 (v853 : IVec S16 32) : Prop :=
  (∀ a x, ((![v853] : Fin 1 → IVec S16 32) a x).toNat < S512.size a) ∧
  (∀ a x, ((![v853] : Fin 1 → IVec S16 32) a x).toNat < S512.size a)
theorem k0_idx76_inb : ∀ (v853 : IVec S16 32) (k0_hw40 : k0_chk40 v853), ∀ a x, ((![v853] : Fin 1 → IVec S16 32) a x).toNat < S512.size a := fun v853 k0_hw40 => k0_hw40.1
theorem k0_idx77_inb : ∀ (v853 : IVec S16 32) (k0_hw40 : k0_chk40 v853), ∀ a x, ((![v853] : Fin 1 → IVec S16 32) a x).toNat < S512.size a := fun v853 k0_hw40 => k0_hw40.2
def k0_off43 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_257 : BitVec 32 := 16#32
  let v748 : BitVec 32 := Scalar.muli arg16 c16_i32_257
  let c4_i32 : BitVec 32 := 4#32
  let v749 : BitVec 32 := Scalar.addi v748 c4_i32
  let c0_i32_288 : BitVec 32 := 0#32
  ![v749.toNat, 0]

def k0_chk41 (v871 : IVec S16 32) : Prop :=
  (∀ a x, ((![v871] : Fin 1 → IVec S16 32) a x).toNat < S512.size a) ∧
  (∀ a x, ((![v871] : Fin 1 → IVec S16 32) a x).toNat < S512.size a)
theorem k0_idx78_inb : ∀ (v871 : IVec S16 32) (k0_hw41 : k0_chk41 v871), ∀ a x, ((![v871] : Fin 1 → IVec S16 32) a x).toNat < S512.size a := fun v871 k0_hw41 => k0_hw41.1
theorem k0_idx79_inb : ∀ (v871 : IVec S16 32) (k0_hw41 : k0_chk41 v871), ∀ a x, ((![v871] : Fin 1 → IVec S16 32) a x).toNat < S512.size a := fun v871 k0_hw41 => k0_hw41.2
def k0_off44 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_257 : BitVec 32 := 16#32
  let v748 : BitVec 32 := Scalar.muli arg16 c16_i32_257
  let c4_i32 : BitVec 32 := 4#32
  let v749 : BitVec 32 := Scalar.addi v748 c4_i32
  let c0_i32_293 : BitVec 32 := 0#32
  ![v749.toNat, 0]

def k0_chk42 (v889 : IVec S16 32) : Prop :=
  (∀ a x, ((![v889] : Fin 1 → IVec S16 32) a x).toNat < S512.size a) ∧
  (∀ a x, ((![v889] : Fin 1 → IVec S16 32) a x).toNat < S512.size a)
theorem k0_idx80_inb : ∀ (v889 : IVec S16 32) (k0_hw42 : k0_chk42 v889), ∀ a x, ((![v889] : Fin 1 → IVec S16 32) a x).toNat < S512.size a := fun v889 k0_hw42 => k0_hw42.1
theorem k0_idx81_inb : ∀ (v889 : IVec S16 32) (k0_hw42 : k0_chk42 v889), ∀ a x, ((![v889] : Fin 1 → IVec S16 32) a x).toNat < S512.size a := fun v889 k0_hw42 => k0_hw42.2
def k0_off45 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_300 : BitVec 32 := 16#32
  let v899 : BitVec 32 := Scalar.muli arg16 c16_i32_300
  let c5_i32 : BitVec 32 := 5#32
  let v900 : BitVec 32 := Scalar.addi v899 c5_i32
  let c0_i32_301 : BitVec 32 := 0#32
  ![v900.toNat, 0]

def k0_chk43 (v914 : IVec S16 32) : Prop :=
  (∀ a x, ((![v914] : Fin 1 → IVec S16 32) a x).toNat < S512.size a) ∧
  (∀ a x, ((![v914] : Fin 1 → IVec S16 32) a x).toNat < S512.size a)
theorem k0_idx82_inb : ∀ (v914 : IVec S16 32) (k0_hw43 : k0_chk43 v914), ∀ a x, ((![v914] : Fin 1 → IVec S16 32) a x).toNat < S512.size a := fun v914 k0_hw43 => k0_hw43.1
theorem k0_idx83_inb : ∀ (v914 : IVec S16 32) (k0_hw43 : k0_chk43 v914), ∀ a x, ((![v914] : Fin 1 → IVec S16 32) a x).toNat < S512.size a := fun v914 k0_hw43 => k0_hw43.2
def k0_off46 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_300 : BitVec 32 := 16#32
  let v899 : BitVec 32 := Scalar.muli arg16 c16_i32_300
  let c5_i32 : BitVec 32 := 5#32
  let v900 : BitVec 32 := Scalar.addi v899 c5_i32
  let c0_i32_306 : BitVec 32 := 0#32
  ![v900.toNat, 0]

def k0_chk44 (v932 : IVec S16 32) : Prop :=
  (∀ a x, ((![v932] : Fin 1 → IVec S16 32) a x).toNat < S512.size a) ∧
  (∀ a x, ((![v932] : Fin 1 → IVec S16 32) a x).toNat < S512.size a)
theorem k0_idx84_inb : ∀ (v932 : IVec S16 32) (k0_hw44 : k0_chk44 v932), ∀ a x, ((![v932] : Fin 1 → IVec S16 32) a x).toNat < S512.size a := fun v932 k0_hw44 => k0_hw44.1
theorem k0_idx85_inb : ∀ (v932 : IVec S16 32) (k0_hw44 : k0_chk44 v932), ∀ a x, ((![v932] : Fin 1 → IVec S16 32) a x).toNat < S512.size a := fun v932 k0_hw44 => k0_hw44.2
def k0_off47 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_300 : BitVec 32 := 16#32
  let v899 : BitVec 32 := Scalar.muli arg16 c16_i32_300
  let c5_i32 : BitVec 32 := 5#32
  let v900 : BitVec 32 := Scalar.addi v899 c5_i32
  let c0_i32_311 : BitVec 32 := 0#32
  ![v900.toNat, 0]

def k0_chk45 (v950 : IVec S16 32) : Prop :=
  (∀ a x, ((![v950] : Fin 1 → IVec S16 32) a x).toNat < S512.size a) ∧
  (∀ a x, ((![v950] : Fin 1 → IVec S16 32) a x).toNat < S512.size a)
theorem k0_idx86_inb : ∀ (v950 : IVec S16 32) (k0_hw45 : k0_chk45 v950), ∀ a x, ((![v950] : Fin 1 → IVec S16 32) a x).toNat < S512.size a := fun v950 k0_hw45 => k0_hw45.1
theorem k0_idx87_inb : ∀ (v950 : IVec S16 32) (k0_hw45 : k0_chk45 v950), ∀ a x, ((![v950] : Fin 1 → IVec S16 32) a x).toNat < S512.size a := fun v950 k0_hw45 => k0_hw45.2
def k0_off48 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_300 : BitVec 32 := 16#32
  let v899 : BitVec 32 := Scalar.muli arg16 c16_i32_300
  let c5_i32 : BitVec 32 := 5#32
  let v900 : BitVec 32 := Scalar.addi v899 c5_i32
  let c0_i32_316 : BitVec 32 := 0#32
  ![v900.toNat, 0]

def k0_chk46 (v968 : IVec S16 32) : Prop :=
  (∀ a x, ((![v968] : Fin 1 → IVec S16 32) a x).toNat < S512.size a) ∧
  (∀ a x, ((![v968] : Fin 1 → IVec S16 32) a x).toNat < S512.size a)
theorem k0_idx88_inb : ∀ (v968 : IVec S16 32) (k0_hw46 : k0_chk46 v968), ∀ a x, ((![v968] : Fin 1 → IVec S16 32) a x).toNat < S512.size a := fun v968 k0_hw46 => k0_hw46.1
theorem k0_idx89_inb : ∀ (v968 : IVec S16 32) (k0_hw46 : k0_chk46 v968), ∀ a x, ((![v968] : Fin 1 → IVec S16 32) a x).toNat < S512.size a := fun v968 k0_hw46 => k0_hw46.2
def k0_off49 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_300 : BitVec 32 := 16#32
  let v899 : BitVec 32 := Scalar.muli arg16 c16_i32_300
  let c5_i32 : BitVec 32 := 5#32
  let v900 : BitVec 32 := Scalar.addi v899 c5_i32
  let c0_i32_321 : BitVec 32 := 0#32
  ![v900.toNat, 0]

def k0_chk47 (v986 : IVec S16 32) : Prop :=
  (∀ a x, ((![v986] : Fin 1 → IVec S16 32) a x).toNat < S512.size a) ∧
  (∀ a x, ((![v986] : Fin 1 → IVec S16 32) a x).toNat < S512.size a)
theorem k0_idx90_inb : ∀ (v986 : IVec S16 32) (k0_hw47 : k0_chk47 v986), ∀ a x, ((![v986] : Fin 1 → IVec S16 32) a x).toNat < S512.size a := fun v986 k0_hw47 => k0_hw47.1
theorem k0_idx91_inb : ∀ (v986 : IVec S16 32) (k0_hw47 : k0_chk47 v986), ∀ a x, ((![v986] : Fin 1 → IVec S16 32) a x).toNat < S512.size a := fun v986 k0_hw47 => k0_hw47.2
def k0_off50 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_300 : BitVec 32 := 16#32
  let v899 : BitVec 32 := Scalar.muli arg16 c16_i32_300
  let c5_i32 : BitVec 32 := 5#32
  let v900 : BitVec 32 := Scalar.addi v899 c5_i32
  let c0_i32_326 : BitVec 32 := 0#32
  ![v900.toNat, 0]

def k0_chk48 (v1004 : IVec S16 32) : Prop :=
  (∀ a x, ((![v1004] : Fin 1 → IVec S16 32) a x).toNat < S512.size a) ∧
  (∀ a x, ((![v1004] : Fin 1 → IVec S16 32) a x).toNat < S512.size a)
theorem k0_idx92_inb : ∀ (v1004 : IVec S16 32) (k0_hw48 : k0_chk48 v1004), ∀ a x, ((![v1004] : Fin 1 → IVec S16 32) a x).toNat < S512.size a := fun v1004 k0_hw48 => k0_hw48.1
theorem k0_idx93_inb : ∀ (v1004 : IVec S16 32) (k0_hw48 : k0_chk48 v1004), ∀ a x, ((![v1004] : Fin 1 → IVec S16 32) a x).toNat < S512.size a := fun v1004 k0_hw48 => k0_hw48.2
def k0_off51 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_300 : BitVec 32 := 16#32
  let v899 : BitVec 32 := Scalar.muli arg16 c16_i32_300
  let c5_i32 : BitVec 32 := 5#32
  let v900 : BitVec 32 := Scalar.addi v899 c5_i32
  let c0_i32_331 : BitVec 32 := 0#32
  ![v900.toNat, 0]

def k0_chk49 (v1022 : IVec S16 32) : Prop :=
  (∀ a x, ((![v1022] : Fin 1 → IVec S16 32) a x).toNat < S512.size a) ∧
  (∀ a x, ((![v1022] : Fin 1 → IVec S16 32) a x).toNat < S512.size a)
theorem k0_idx94_inb : ∀ (v1022 : IVec S16 32) (k0_hw49 : k0_chk49 v1022), ∀ a x, ((![v1022] : Fin 1 → IVec S16 32) a x).toNat < S512.size a := fun v1022 k0_hw49 => k0_hw49.1
theorem k0_idx95_inb : ∀ (v1022 : IVec S16 32) (k0_hw49 : k0_chk49 v1022), ∀ a x, ((![v1022] : Fin 1 → IVec S16 32) a x).toNat < S512.size a := fun v1022 k0_hw49 => k0_hw49.2
def k0_off52 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_300 : BitVec 32 := 16#32
  let v899 : BitVec 32 := Scalar.muli arg16 c16_i32_300
  let c5_i32 : BitVec 32 := 5#32
  let v900 : BitVec 32 := Scalar.addi v899 c5_i32
  let c0_i32_336 : BitVec 32 := 0#32
  ![v900.toNat, 0]

def k0_chk50 (v1040 : IVec S16 32) : Prop :=
  (∀ a x, ((![v1040] : Fin 1 → IVec S16 32) a x).toNat < S512.size a) ∧
  (∀ a x, ((![v1040] : Fin 1 → IVec S16 32) a x).toNat < S512.size a)
theorem k0_idx96_inb : ∀ (v1040 : IVec S16 32) (k0_hw50 : k0_chk50 v1040), ∀ a x, ((![v1040] : Fin 1 → IVec S16 32) a x).toNat < S512.size a := fun v1040 k0_hw50 => k0_hw50.1
theorem k0_idx97_inb : ∀ (v1040 : IVec S16 32) (k0_hw50 : k0_chk50 v1040), ∀ a x, ((![v1040] : Fin 1 → IVec S16 32) a x).toNat < S512.size a := fun v1040 k0_hw50 => k0_hw50.2
def k0_off53 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_343 : BitVec 32 := 16#32
  let v1050 : BitVec 32 := Scalar.muli arg16 c16_i32_343
  let c6_i32 : BitVec 32 := 6#32
  let v1051 : BitVec 32 := Scalar.addi v1050 c6_i32
  let c0_i32_344 : BitVec 32 := 0#32
  ![v1051.toNat, 0]

def k0_chk51 (v1065 : IVec S16 32) : Prop :=
  (∀ a x, ((![v1065] : Fin 1 → IVec S16 32) a x).toNat < S512.size a) ∧
  (∀ a x, ((![v1065] : Fin 1 → IVec S16 32) a x).toNat < S512.size a)
theorem k0_idx98_inb : ∀ (v1065 : IVec S16 32) (k0_hw51 : k0_chk51 v1065), ∀ a x, ((![v1065] : Fin 1 → IVec S16 32) a x).toNat < S512.size a := fun v1065 k0_hw51 => k0_hw51.1
theorem k0_idx99_inb : ∀ (v1065 : IVec S16 32) (k0_hw51 : k0_chk51 v1065), ∀ a x, ((![v1065] : Fin 1 → IVec S16 32) a x).toNat < S512.size a := fun v1065 k0_hw51 => k0_hw51.2
def k0_off54 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_343 : BitVec 32 := 16#32
  let v1050 : BitVec 32 := Scalar.muli arg16 c16_i32_343
  let c6_i32 : BitVec 32 := 6#32
  let v1051 : BitVec 32 := Scalar.addi v1050 c6_i32
  let c0_i32_349 : BitVec 32 := 0#32
  ![v1051.toNat, 0]

def k0_chk52 (v1083 : IVec S16 32) : Prop :=
  (∀ a x, ((![v1083] : Fin 1 → IVec S16 32) a x).toNat < S512.size a) ∧
  (∀ a x, ((![v1083] : Fin 1 → IVec S16 32) a x).toNat < S512.size a)
theorem k0_idx100_inb : ∀ (v1083 : IVec S16 32) (k0_hw52 : k0_chk52 v1083), ∀ a x, ((![v1083] : Fin 1 → IVec S16 32) a x).toNat < S512.size a := fun v1083 k0_hw52 => k0_hw52.1
theorem k0_idx101_inb : ∀ (v1083 : IVec S16 32) (k0_hw52 : k0_chk52 v1083), ∀ a x, ((![v1083] : Fin 1 → IVec S16 32) a x).toNat < S512.size a := fun v1083 k0_hw52 => k0_hw52.2
def k0_off55 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_343 : BitVec 32 := 16#32
  let v1050 : BitVec 32 := Scalar.muli arg16 c16_i32_343
  let c6_i32 : BitVec 32 := 6#32
  let v1051 : BitVec 32 := Scalar.addi v1050 c6_i32
  let c0_i32_354 : BitVec 32 := 0#32
  ![v1051.toNat, 0]

def k0_chk53 (v1101 : IVec S16 32) : Prop :=
  (∀ a x, ((![v1101] : Fin 1 → IVec S16 32) a x).toNat < S512.size a) ∧
  (∀ a x, ((![v1101] : Fin 1 → IVec S16 32) a x).toNat < S512.size a)
theorem k0_idx102_inb : ∀ (v1101 : IVec S16 32) (k0_hw53 : k0_chk53 v1101), ∀ a x, ((![v1101] : Fin 1 → IVec S16 32) a x).toNat < S512.size a := fun v1101 k0_hw53 => k0_hw53.1
theorem k0_idx103_inb : ∀ (v1101 : IVec S16 32) (k0_hw53 : k0_chk53 v1101), ∀ a x, ((![v1101] : Fin 1 → IVec S16 32) a x).toNat < S512.size a := fun v1101 k0_hw53 => k0_hw53.2
def k0_off56 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_343 : BitVec 32 := 16#32
  let v1050 : BitVec 32 := Scalar.muli arg16 c16_i32_343
  let c6_i32 : BitVec 32 := 6#32
  let v1051 : BitVec 32 := Scalar.addi v1050 c6_i32
  let c0_i32_359 : BitVec 32 := 0#32
  ![v1051.toNat, 0]

def k0_chk54 (v1119 : IVec S16 32) : Prop :=
  (∀ a x, ((![v1119] : Fin 1 → IVec S16 32) a x).toNat < S512.size a) ∧
  (∀ a x, ((![v1119] : Fin 1 → IVec S16 32) a x).toNat < S512.size a)
theorem k0_idx104_inb : ∀ (v1119 : IVec S16 32) (k0_hw54 : k0_chk54 v1119), ∀ a x, ((![v1119] : Fin 1 → IVec S16 32) a x).toNat < S512.size a := fun v1119 k0_hw54 => k0_hw54.1
theorem k0_idx105_inb : ∀ (v1119 : IVec S16 32) (k0_hw54 : k0_chk54 v1119), ∀ a x, ((![v1119] : Fin 1 → IVec S16 32) a x).toNat < S512.size a := fun v1119 k0_hw54 => k0_hw54.2
def k0_off57 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_343 : BitVec 32 := 16#32
  let v1050 : BitVec 32 := Scalar.muli arg16 c16_i32_343
  let c6_i32 : BitVec 32 := 6#32
  let v1051 : BitVec 32 := Scalar.addi v1050 c6_i32
  let c0_i32_364 : BitVec 32 := 0#32
  ![v1051.toNat, 0]

def k0_chk55 (v1137 : IVec S16 32) : Prop :=
  (∀ a x, ((![v1137] : Fin 1 → IVec S16 32) a x).toNat < S512.size a) ∧
  (∀ a x, ((![v1137] : Fin 1 → IVec S16 32) a x).toNat < S512.size a)
theorem k0_idx106_inb : ∀ (v1137 : IVec S16 32) (k0_hw55 : k0_chk55 v1137), ∀ a x, ((![v1137] : Fin 1 → IVec S16 32) a x).toNat < S512.size a := fun v1137 k0_hw55 => k0_hw55.1
theorem k0_idx107_inb : ∀ (v1137 : IVec S16 32) (k0_hw55 : k0_chk55 v1137), ∀ a x, ((![v1137] : Fin 1 → IVec S16 32) a x).toNat < S512.size a := fun v1137 k0_hw55 => k0_hw55.2
def k0_off58 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_343 : BitVec 32 := 16#32
  let v1050 : BitVec 32 := Scalar.muli arg16 c16_i32_343
  let c6_i32 : BitVec 32 := 6#32
  let v1051 : BitVec 32 := Scalar.addi v1050 c6_i32
  let c0_i32_369 : BitVec 32 := 0#32
  ![v1051.toNat, 0]

def k0_chk56 (v1155 : IVec S16 32) : Prop :=
  (∀ a x, ((![v1155] : Fin 1 → IVec S16 32) a x).toNat < S512.size a) ∧
  (∀ a x, ((![v1155] : Fin 1 → IVec S16 32) a x).toNat < S512.size a)
theorem k0_idx108_inb : ∀ (v1155 : IVec S16 32) (k0_hw56 : k0_chk56 v1155), ∀ a x, ((![v1155] : Fin 1 → IVec S16 32) a x).toNat < S512.size a := fun v1155 k0_hw56 => k0_hw56.1
theorem k0_idx109_inb : ∀ (v1155 : IVec S16 32) (k0_hw56 : k0_chk56 v1155), ∀ a x, ((![v1155] : Fin 1 → IVec S16 32) a x).toNat < S512.size a := fun v1155 k0_hw56 => k0_hw56.2
def k0_off59 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_343 : BitVec 32 := 16#32
  let v1050 : BitVec 32 := Scalar.muli arg16 c16_i32_343
  let c6_i32 : BitVec 32 := 6#32
  let v1051 : BitVec 32 := Scalar.addi v1050 c6_i32
  let c0_i32_374 : BitVec 32 := 0#32
  ![v1051.toNat, 0]

def k0_chk57 (v1173 : IVec S16 32) : Prop :=
  (∀ a x, ((![v1173] : Fin 1 → IVec S16 32) a x).toNat < S512.size a) ∧
  (∀ a x, ((![v1173] : Fin 1 → IVec S16 32) a x).toNat < S512.size a)
theorem k0_idx110_inb : ∀ (v1173 : IVec S16 32) (k0_hw57 : k0_chk57 v1173), ∀ a x, ((![v1173] : Fin 1 → IVec S16 32) a x).toNat < S512.size a := fun v1173 k0_hw57 => k0_hw57.1
theorem k0_idx111_inb : ∀ (v1173 : IVec S16 32) (k0_hw57 : k0_chk57 v1173), ∀ a x, ((![v1173] : Fin 1 → IVec S16 32) a x).toNat < S512.size a := fun v1173 k0_hw57 => k0_hw57.2
def k0_off60 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_343 : BitVec 32 := 16#32
  let v1050 : BitVec 32 := Scalar.muli arg16 c16_i32_343
  let c6_i32 : BitVec 32 := 6#32
  let v1051 : BitVec 32 := Scalar.addi v1050 c6_i32
  let c0_i32_379 : BitVec 32 := 0#32
  ![v1051.toNat, 0]

def k0_chk58 (v1191 : IVec S16 32) : Prop :=
  (∀ a x, ((![v1191] : Fin 1 → IVec S16 32) a x).toNat < S512.size a) ∧
  (∀ a x, ((![v1191] : Fin 1 → IVec S16 32) a x).toNat < S512.size a)
theorem k0_idx112_inb : ∀ (v1191 : IVec S16 32) (k0_hw58 : k0_chk58 v1191), ∀ a x, ((![v1191] : Fin 1 → IVec S16 32) a x).toNat < S512.size a := fun v1191 k0_hw58 => k0_hw58.1
theorem k0_idx113_inb : ∀ (v1191 : IVec S16 32) (k0_hw58 : k0_chk58 v1191), ∀ a x, ((![v1191] : Fin 1 → IVec S16 32) a x).toNat < S512.size a := fun v1191 k0_hw58 => k0_hw58.2
def k0_off61 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_386 : BitVec 32 := 16#32
  let v1201 : BitVec 32 := Scalar.muli arg16 c16_i32_386
  let c7_i32 : BitVec 32 := 7#32
  let v1202 : BitVec 32 := Scalar.addi v1201 c7_i32
  let c0_i32_387 : BitVec 32 := 0#32
  ![v1202.toNat, 0]

def k0_chk59 (v1216 : IVec S16 32) : Prop :=
  (∀ a x, ((![v1216] : Fin 1 → IVec S16 32) a x).toNat < S512.size a) ∧
  (∀ a x, ((![v1216] : Fin 1 → IVec S16 32) a x).toNat < S512.size a)
theorem k0_idx114_inb : ∀ (v1216 : IVec S16 32) (k0_hw59 : k0_chk59 v1216), ∀ a x, ((![v1216] : Fin 1 → IVec S16 32) a x).toNat < S512.size a := fun v1216 k0_hw59 => k0_hw59.1
theorem k0_idx115_inb : ∀ (v1216 : IVec S16 32) (k0_hw59 : k0_chk59 v1216), ∀ a x, ((![v1216] : Fin 1 → IVec S16 32) a x).toNat < S512.size a := fun v1216 k0_hw59 => k0_hw59.2
def k0_off62 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_386 : BitVec 32 := 16#32
  let v1201 : BitVec 32 := Scalar.muli arg16 c16_i32_386
  let c7_i32 : BitVec 32 := 7#32
  let v1202 : BitVec 32 := Scalar.addi v1201 c7_i32
  let c0_i32_392 : BitVec 32 := 0#32
  ![v1202.toNat, 0]

def k0_chk60 (v1234 : IVec S16 32) : Prop :=
  (∀ a x, ((![v1234] : Fin 1 → IVec S16 32) a x).toNat < S512.size a) ∧
  (∀ a x, ((![v1234] : Fin 1 → IVec S16 32) a x).toNat < S512.size a)
theorem k0_idx116_inb : ∀ (v1234 : IVec S16 32) (k0_hw60 : k0_chk60 v1234), ∀ a x, ((![v1234] : Fin 1 → IVec S16 32) a x).toNat < S512.size a := fun v1234 k0_hw60 => k0_hw60.1
theorem k0_idx117_inb : ∀ (v1234 : IVec S16 32) (k0_hw60 : k0_chk60 v1234), ∀ a x, ((![v1234] : Fin 1 → IVec S16 32) a x).toNat < S512.size a := fun v1234 k0_hw60 => k0_hw60.2
def k0_off63 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_386 : BitVec 32 := 16#32
  let v1201 : BitVec 32 := Scalar.muli arg16 c16_i32_386
  let c7_i32 : BitVec 32 := 7#32
  let v1202 : BitVec 32 := Scalar.addi v1201 c7_i32
  let c0_i32_397 : BitVec 32 := 0#32
  ![v1202.toNat, 0]

def k0_chk61 (v1252 : IVec S16 32) : Prop :=
  (∀ a x, ((![v1252] : Fin 1 → IVec S16 32) a x).toNat < S512.size a) ∧
  (∀ a x, ((![v1252] : Fin 1 → IVec S16 32) a x).toNat < S512.size a)
theorem k0_idx118_inb : ∀ (v1252 : IVec S16 32) (k0_hw61 : k0_chk61 v1252), ∀ a x, ((![v1252] : Fin 1 → IVec S16 32) a x).toNat < S512.size a := fun v1252 k0_hw61 => k0_hw61.1
theorem k0_idx119_inb : ∀ (v1252 : IVec S16 32) (k0_hw61 : k0_chk61 v1252), ∀ a x, ((![v1252] : Fin 1 → IVec S16 32) a x).toNat < S512.size a := fun v1252 k0_hw61 => k0_hw61.2
def k0_off64 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_386 : BitVec 32 := 16#32
  let v1201 : BitVec 32 := Scalar.muli arg16 c16_i32_386
  let c7_i32 : BitVec 32 := 7#32
  let v1202 : BitVec 32 := Scalar.addi v1201 c7_i32
  let c0_i32_402 : BitVec 32 := 0#32
  ![v1202.toNat, 0]

def k0_chk62 (v1270 : IVec S16 32) : Prop :=
  (∀ a x, ((![v1270] : Fin 1 → IVec S16 32) a x).toNat < S512.size a) ∧
  (∀ a x, ((![v1270] : Fin 1 → IVec S16 32) a x).toNat < S512.size a)
theorem k0_idx120_inb : ∀ (v1270 : IVec S16 32) (k0_hw62 : k0_chk62 v1270), ∀ a x, ((![v1270] : Fin 1 → IVec S16 32) a x).toNat < S512.size a := fun v1270 k0_hw62 => k0_hw62.1
theorem k0_idx121_inb : ∀ (v1270 : IVec S16 32) (k0_hw62 : k0_chk62 v1270), ∀ a x, ((![v1270] : Fin 1 → IVec S16 32) a x).toNat < S512.size a := fun v1270 k0_hw62 => k0_hw62.2
def k0_off65 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_386 : BitVec 32 := 16#32
  let v1201 : BitVec 32 := Scalar.muli arg16 c16_i32_386
  let c7_i32 : BitVec 32 := 7#32
  let v1202 : BitVec 32 := Scalar.addi v1201 c7_i32
  let c0_i32_407 : BitVec 32 := 0#32
  ![v1202.toNat, 0]

def k0_chk63 (v1288 : IVec S16 32) : Prop :=
  (∀ a x, ((![v1288] : Fin 1 → IVec S16 32) a x).toNat < S512.size a) ∧
  (∀ a x, ((![v1288] : Fin 1 → IVec S16 32) a x).toNat < S512.size a)
theorem k0_idx122_inb : ∀ (v1288 : IVec S16 32) (k0_hw63 : k0_chk63 v1288), ∀ a x, ((![v1288] : Fin 1 → IVec S16 32) a x).toNat < S512.size a := fun v1288 k0_hw63 => k0_hw63.1
theorem k0_idx123_inb : ∀ (v1288 : IVec S16 32) (k0_hw63 : k0_chk63 v1288), ∀ a x, ((![v1288] : Fin 1 → IVec S16 32) a x).toNat < S512.size a := fun v1288 k0_hw63 => k0_hw63.2
def k0_off66 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_386 : BitVec 32 := 16#32
  let v1201 : BitVec 32 := Scalar.muli arg16 c16_i32_386
  let c7_i32 : BitVec 32 := 7#32
  let v1202 : BitVec 32 := Scalar.addi v1201 c7_i32
  let c0_i32_412 : BitVec 32 := 0#32
  ![v1202.toNat, 0]

def k0_chk64 (v1306 : IVec S16 32) : Prop :=
  (∀ a x, ((![v1306] : Fin 1 → IVec S16 32) a x).toNat < S512.size a) ∧
  (∀ a x, ((![v1306] : Fin 1 → IVec S16 32) a x).toNat < S512.size a)
theorem k0_idx124_inb : ∀ (v1306 : IVec S16 32) (k0_hw64 : k0_chk64 v1306), ∀ a x, ((![v1306] : Fin 1 → IVec S16 32) a x).toNat < S512.size a := fun v1306 k0_hw64 => k0_hw64.1
theorem k0_idx125_inb : ∀ (v1306 : IVec S16 32) (k0_hw64 : k0_chk64 v1306), ∀ a x, ((![v1306] : Fin 1 → IVec S16 32) a x).toNat < S512.size a := fun v1306 k0_hw64 => k0_hw64.2
def k0_off67 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_386 : BitVec 32 := 16#32
  let v1201 : BitVec 32 := Scalar.muli arg16 c16_i32_386
  let c7_i32 : BitVec 32 := 7#32
  let v1202 : BitVec 32 := Scalar.addi v1201 c7_i32
  let c0_i32_417 : BitVec 32 := 0#32
  ![v1202.toNat, 0]

def k0_chk65 (v1324 : IVec S16 32) : Prop :=
  (∀ a x, ((![v1324] : Fin 1 → IVec S16 32) a x).toNat < S512.size a) ∧
  (∀ a x, ((![v1324] : Fin 1 → IVec S16 32) a x).toNat < S512.size a)
theorem k0_idx126_inb : ∀ (v1324 : IVec S16 32) (k0_hw65 : k0_chk65 v1324), ∀ a x, ((![v1324] : Fin 1 → IVec S16 32) a x).toNat < S512.size a := fun v1324 k0_hw65 => k0_hw65.1
theorem k0_idx127_inb : ∀ (v1324 : IVec S16 32) (k0_hw65 : k0_chk65 v1324), ∀ a x, ((![v1324] : Fin 1 → IVec S16 32) a x).toNat < S512.size a := fun v1324 k0_hw65 => k0_hw65.2
def k0_off68 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_386 : BitVec 32 := 16#32
  let v1201 : BitVec 32 := Scalar.muli arg16 c16_i32_386
  let c7_i32 : BitVec 32 := 7#32
  let v1202 : BitVec 32 := Scalar.addi v1201 c7_i32
  let c0_i32_422 : BitVec 32 := 0#32
  ![v1202.toNat, 0]

def k0_chk66 (v1342 : IVec S16 32) : Prop :=
  (∀ a x, ((![v1342] : Fin 1 → IVec S16 32) a x).toNat < S512.size a) ∧
  (∀ a x, ((![v1342] : Fin 1 → IVec S16 32) a x).toNat < S512.size a)
theorem k0_idx128_inb : ∀ (v1342 : IVec S16 32) (k0_hw66 : k0_chk66 v1342), ∀ a x, ((![v1342] : Fin 1 → IVec S16 32) a x).toNat < S512.size a := fun v1342 k0_hw66 => k0_hw66.1
theorem k0_idx129_inb : ∀ (v1342 : IVec S16 32) (k0_hw66 : k0_chk66 v1342), ∀ a x, ((![v1342] : Fin 1 → IVec S16 32) a x).toNat < S512.size a := fun v1342 k0_hw66 => k0_hw66.2
def k0_off69 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_429 : BitVec 32 := 16#32
  let v1352 : BitVec 32 := Scalar.muli arg16 c16_i32_429
  let c8_i32 : BitVec 32 := 8#32
  let v1353 : BitVec 32 := Scalar.addi v1352 c8_i32
  let c0_i32_430 : BitVec 32 := 0#32
  ![v1353.toNat, 0]

def k0_chk67 (v1367 : IVec S16 32) : Prop :=
  (∀ a x, ((![v1367] : Fin 1 → IVec S16 32) a x).toNat < S512.size a) ∧
  (∀ a x, ((![v1367] : Fin 1 → IVec S16 32) a x).toNat < S512.size a)
theorem k0_idx130_inb : ∀ (v1367 : IVec S16 32) (k0_hw67 : k0_chk67 v1367), ∀ a x, ((![v1367] : Fin 1 → IVec S16 32) a x).toNat < S512.size a := fun v1367 k0_hw67 => k0_hw67.1
theorem k0_idx131_inb : ∀ (v1367 : IVec S16 32) (k0_hw67 : k0_chk67 v1367), ∀ a x, ((![v1367] : Fin 1 → IVec S16 32) a x).toNat < S512.size a := fun v1367 k0_hw67 => k0_hw67.2
def k0_off70 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_429 : BitVec 32 := 16#32
  let v1352 : BitVec 32 := Scalar.muli arg16 c16_i32_429
  let c8_i32 : BitVec 32 := 8#32
  let v1353 : BitVec 32 := Scalar.addi v1352 c8_i32
  let c0_i32_435 : BitVec 32 := 0#32
  ![v1353.toNat, 0]

def k0_chk68 (v1385 : IVec S16 32) : Prop :=
  (∀ a x, ((![v1385] : Fin 1 → IVec S16 32) a x).toNat < S512.size a) ∧
  (∀ a x, ((![v1385] : Fin 1 → IVec S16 32) a x).toNat < S512.size a)
theorem k0_idx132_inb : ∀ (v1385 : IVec S16 32) (k0_hw68 : k0_chk68 v1385), ∀ a x, ((![v1385] : Fin 1 → IVec S16 32) a x).toNat < S512.size a := fun v1385 k0_hw68 => k0_hw68.1
theorem k0_idx133_inb : ∀ (v1385 : IVec S16 32) (k0_hw68 : k0_chk68 v1385), ∀ a x, ((![v1385] : Fin 1 → IVec S16 32) a x).toNat < S512.size a := fun v1385 k0_hw68 => k0_hw68.2
def k0_off71 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_429 : BitVec 32 := 16#32
  let v1352 : BitVec 32 := Scalar.muli arg16 c16_i32_429
  let c8_i32 : BitVec 32 := 8#32
  let v1353 : BitVec 32 := Scalar.addi v1352 c8_i32
  let c0_i32_440 : BitVec 32 := 0#32
  ![v1353.toNat, 0]

def k0_chk69 (v1403 : IVec S16 32) : Prop :=
  (∀ a x, ((![v1403] : Fin 1 → IVec S16 32) a x).toNat < S512.size a) ∧
  (∀ a x, ((![v1403] : Fin 1 → IVec S16 32) a x).toNat < S512.size a)
theorem k0_idx134_inb : ∀ (v1403 : IVec S16 32) (k0_hw69 : k0_chk69 v1403), ∀ a x, ((![v1403] : Fin 1 → IVec S16 32) a x).toNat < S512.size a := fun v1403 k0_hw69 => k0_hw69.1
theorem k0_idx135_inb : ∀ (v1403 : IVec S16 32) (k0_hw69 : k0_chk69 v1403), ∀ a x, ((![v1403] : Fin 1 → IVec S16 32) a x).toNat < S512.size a := fun v1403 k0_hw69 => k0_hw69.2
def k0_off72 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_429 : BitVec 32 := 16#32
  let v1352 : BitVec 32 := Scalar.muli arg16 c16_i32_429
  let c8_i32 : BitVec 32 := 8#32
  let v1353 : BitVec 32 := Scalar.addi v1352 c8_i32
  let c0_i32_445 : BitVec 32 := 0#32
  ![v1353.toNat, 0]

def k0_chk70 (v1421 : IVec S16 32) : Prop :=
  (∀ a x, ((![v1421] : Fin 1 → IVec S16 32) a x).toNat < S512.size a) ∧
  (∀ a x, ((![v1421] : Fin 1 → IVec S16 32) a x).toNat < S512.size a)
theorem k0_idx136_inb : ∀ (v1421 : IVec S16 32) (k0_hw70 : k0_chk70 v1421), ∀ a x, ((![v1421] : Fin 1 → IVec S16 32) a x).toNat < S512.size a := fun v1421 k0_hw70 => k0_hw70.1
theorem k0_idx137_inb : ∀ (v1421 : IVec S16 32) (k0_hw70 : k0_chk70 v1421), ∀ a x, ((![v1421] : Fin 1 → IVec S16 32) a x).toNat < S512.size a := fun v1421 k0_hw70 => k0_hw70.2
def k0_off73 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_429 : BitVec 32 := 16#32
  let v1352 : BitVec 32 := Scalar.muli arg16 c16_i32_429
  let c8_i32 : BitVec 32 := 8#32
  let v1353 : BitVec 32 := Scalar.addi v1352 c8_i32
  let c0_i32_450 : BitVec 32 := 0#32
  ![v1353.toNat, 0]

def k0_chk71 (v1439 : IVec S16 32) : Prop :=
  (∀ a x, ((![v1439] : Fin 1 → IVec S16 32) a x).toNat < S512.size a) ∧
  (∀ a x, ((![v1439] : Fin 1 → IVec S16 32) a x).toNat < S512.size a)
theorem k0_idx138_inb : ∀ (v1439 : IVec S16 32) (k0_hw71 : k0_chk71 v1439), ∀ a x, ((![v1439] : Fin 1 → IVec S16 32) a x).toNat < S512.size a := fun v1439 k0_hw71 => k0_hw71.1
theorem k0_idx139_inb : ∀ (v1439 : IVec S16 32) (k0_hw71 : k0_chk71 v1439), ∀ a x, ((![v1439] : Fin 1 → IVec S16 32) a x).toNat < S512.size a := fun v1439 k0_hw71 => k0_hw71.2
def k0_off74 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_429 : BitVec 32 := 16#32
  let v1352 : BitVec 32 := Scalar.muli arg16 c16_i32_429
  let c8_i32 : BitVec 32 := 8#32
  let v1353 : BitVec 32 := Scalar.addi v1352 c8_i32
  let c0_i32_455 : BitVec 32 := 0#32
  ![v1353.toNat, 0]

def k0_chk72 (v1457 : IVec S16 32) : Prop :=
  (∀ a x, ((![v1457] : Fin 1 → IVec S16 32) a x).toNat < S512.size a) ∧
  (∀ a x, ((![v1457] : Fin 1 → IVec S16 32) a x).toNat < S512.size a)
theorem k0_idx140_inb : ∀ (v1457 : IVec S16 32) (k0_hw72 : k0_chk72 v1457), ∀ a x, ((![v1457] : Fin 1 → IVec S16 32) a x).toNat < S512.size a := fun v1457 k0_hw72 => k0_hw72.1
theorem k0_idx141_inb : ∀ (v1457 : IVec S16 32) (k0_hw72 : k0_chk72 v1457), ∀ a x, ((![v1457] : Fin 1 → IVec S16 32) a x).toNat < S512.size a := fun v1457 k0_hw72 => k0_hw72.2
def k0_off75 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_429 : BitVec 32 := 16#32
  let v1352 : BitVec 32 := Scalar.muli arg16 c16_i32_429
  let c8_i32 : BitVec 32 := 8#32
  let v1353 : BitVec 32 := Scalar.addi v1352 c8_i32
  let c0_i32_460 : BitVec 32 := 0#32
  ![v1353.toNat, 0]

def k0_chk73 (v1475 : IVec S16 32) : Prop :=
  (∀ a x, ((![v1475] : Fin 1 → IVec S16 32) a x).toNat < S512.size a) ∧
  (∀ a x, ((![v1475] : Fin 1 → IVec S16 32) a x).toNat < S512.size a)
theorem k0_idx142_inb : ∀ (v1475 : IVec S16 32) (k0_hw73 : k0_chk73 v1475), ∀ a x, ((![v1475] : Fin 1 → IVec S16 32) a x).toNat < S512.size a := fun v1475 k0_hw73 => k0_hw73.1
theorem k0_idx143_inb : ∀ (v1475 : IVec S16 32) (k0_hw73 : k0_chk73 v1475), ∀ a x, ((![v1475] : Fin 1 → IVec S16 32) a x).toNat < S512.size a := fun v1475 k0_hw73 => k0_hw73.2
def k0_off76 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_429 : BitVec 32 := 16#32
  let v1352 : BitVec 32 := Scalar.muli arg16 c16_i32_429
  let c8_i32 : BitVec 32 := 8#32
  let v1353 : BitVec 32 := Scalar.addi v1352 c8_i32
  let c0_i32_465 : BitVec 32 := 0#32
  ![v1353.toNat, 0]

def k0_chk74 (v1493 : IVec S16 32) : Prop :=
  (∀ a x, ((![v1493] : Fin 1 → IVec S16 32) a x).toNat < S512.size a) ∧
  (∀ a x, ((![v1493] : Fin 1 → IVec S16 32) a x).toNat < S512.size a)
theorem k0_idx144_inb : ∀ (v1493 : IVec S16 32) (k0_hw74 : k0_chk74 v1493), ∀ a x, ((![v1493] : Fin 1 → IVec S16 32) a x).toNat < S512.size a := fun v1493 k0_hw74 => k0_hw74.1
theorem k0_idx145_inb : ∀ (v1493 : IVec S16 32) (k0_hw74 : k0_chk74 v1493), ∀ a x, ((![v1493] : Fin 1 → IVec S16 32) a x).toNat < S512.size a := fun v1493 k0_hw74 => k0_hw74.2
def k0_off77 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_472 : BitVec 32 := 16#32
  let v1503 : BitVec 32 := Scalar.muli arg16 c16_i32_472
  let c9_i32 : BitVec 32 := 9#32
  let v1504 : BitVec 32 := Scalar.addi v1503 c9_i32
  let c0_i32_473 : BitVec 32 := 0#32
  ![v1504.toNat, 0]

def k0_chk75 (v1518 : IVec S16 32) : Prop :=
  (∀ a x, ((![v1518] : Fin 1 → IVec S16 32) a x).toNat < S512.size a) ∧
  (∀ a x, ((![v1518] : Fin 1 → IVec S16 32) a x).toNat < S512.size a)
theorem k0_idx146_inb : ∀ (v1518 : IVec S16 32) (k0_hw75 : k0_chk75 v1518), ∀ a x, ((![v1518] : Fin 1 → IVec S16 32) a x).toNat < S512.size a := fun v1518 k0_hw75 => k0_hw75.1
theorem k0_idx147_inb : ∀ (v1518 : IVec S16 32) (k0_hw75 : k0_chk75 v1518), ∀ a x, ((![v1518] : Fin 1 → IVec S16 32) a x).toNat < S512.size a := fun v1518 k0_hw75 => k0_hw75.2
def k0_off78 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_472 : BitVec 32 := 16#32
  let v1503 : BitVec 32 := Scalar.muli arg16 c16_i32_472
  let c9_i32 : BitVec 32 := 9#32
  let v1504 : BitVec 32 := Scalar.addi v1503 c9_i32
  let c0_i32_478 : BitVec 32 := 0#32
  ![v1504.toNat, 0]

def k0_chk76 (v1536 : IVec S16 32) : Prop :=
  (∀ a x, ((![v1536] : Fin 1 → IVec S16 32) a x).toNat < S512.size a) ∧
  (∀ a x, ((![v1536] : Fin 1 → IVec S16 32) a x).toNat < S512.size a)
theorem k0_idx148_inb : ∀ (v1536 : IVec S16 32) (k0_hw76 : k0_chk76 v1536), ∀ a x, ((![v1536] : Fin 1 → IVec S16 32) a x).toNat < S512.size a := fun v1536 k0_hw76 => k0_hw76.1
theorem k0_idx149_inb : ∀ (v1536 : IVec S16 32) (k0_hw76 : k0_chk76 v1536), ∀ a x, ((![v1536] : Fin 1 → IVec S16 32) a x).toNat < S512.size a := fun v1536 k0_hw76 => k0_hw76.2
def k0_off79 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_472 : BitVec 32 := 16#32
  let v1503 : BitVec 32 := Scalar.muli arg16 c16_i32_472
  let c9_i32 : BitVec 32 := 9#32
  let v1504 : BitVec 32 := Scalar.addi v1503 c9_i32
  let c0_i32_483 : BitVec 32 := 0#32
  ![v1504.toNat, 0]

def k0_chk77 (v1554 : IVec S16 32) : Prop :=
  (∀ a x, ((![v1554] : Fin 1 → IVec S16 32) a x).toNat < S512.size a) ∧
  (∀ a x, ((![v1554] : Fin 1 → IVec S16 32) a x).toNat < S512.size a)
theorem k0_idx150_inb : ∀ (v1554 : IVec S16 32) (k0_hw77 : k0_chk77 v1554), ∀ a x, ((![v1554] : Fin 1 → IVec S16 32) a x).toNat < S512.size a := fun v1554 k0_hw77 => k0_hw77.1
theorem k0_idx151_inb : ∀ (v1554 : IVec S16 32) (k0_hw77 : k0_chk77 v1554), ∀ a x, ((![v1554] : Fin 1 → IVec S16 32) a x).toNat < S512.size a := fun v1554 k0_hw77 => k0_hw77.2
def k0_off80 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_472 : BitVec 32 := 16#32
  let v1503 : BitVec 32 := Scalar.muli arg16 c16_i32_472
  let c9_i32 : BitVec 32 := 9#32
  let v1504 : BitVec 32 := Scalar.addi v1503 c9_i32
  let c0_i32_488 : BitVec 32 := 0#32
  ![v1504.toNat, 0]

def k0_chk78 (v1572 : IVec S16 32) : Prop :=
  (∀ a x, ((![v1572] : Fin 1 → IVec S16 32) a x).toNat < S512.size a) ∧
  (∀ a x, ((![v1572] : Fin 1 → IVec S16 32) a x).toNat < S512.size a)
theorem k0_idx152_inb : ∀ (v1572 : IVec S16 32) (k0_hw78 : k0_chk78 v1572), ∀ a x, ((![v1572] : Fin 1 → IVec S16 32) a x).toNat < S512.size a := fun v1572 k0_hw78 => k0_hw78.1
theorem k0_idx153_inb : ∀ (v1572 : IVec S16 32) (k0_hw78 : k0_chk78 v1572), ∀ a x, ((![v1572] : Fin 1 → IVec S16 32) a x).toNat < S512.size a := fun v1572 k0_hw78 => k0_hw78.2
def k0_off81 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_472 : BitVec 32 := 16#32
  let v1503 : BitVec 32 := Scalar.muli arg16 c16_i32_472
  let c9_i32 : BitVec 32 := 9#32
  let v1504 : BitVec 32 := Scalar.addi v1503 c9_i32
  let c0_i32_493 : BitVec 32 := 0#32
  ![v1504.toNat, 0]

def k0_chk79 (v1590 : IVec S16 32) : Prop :=
  (∀ a x, ((![v1590] : Fin 1 → IVec S16 32) a x).toNat < S512.size a) ∧
  (∀ a x, ((![v1590] : Fin 1 → IVec S16 32) a x).toNat < S512.size a)
theorem k0_idx154_inb : ∀ (v1590 : IVec S16 32) (k0_hw79 : k0_chk79 v1590), ∀ a x, ((![v1590] : Fin 1 → IVec S16 32) a x).toNat < S512.size a := fun v1590 k0_hw79 => k0_hw79.1
theorem k0_idx155_inb : ∀ (v1590 : IVec S16 32) (k0_hw79 : k0_chk79 v1590), ∀ a x, ((![v1590] : Fin 1 → IVec S16 32) a x).toNat < S512.size a := fun v1590 k0_hw79 => k0_hw79.2
def k0_off82 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_472 : BitVec 32 := 16#32
  let v1503 : BitVec 32 := Scalar.muli arg16 c16_i32_472
  let c9_i32 : BitVec 32 := 9#32
  let v1504 : BitVec 32 := Scalar.addi v1503 c9_i32
  let c0_i32_498 : BitVec 32 := 0#32
  ![v1504.toNat, 0]

def k0_chk80 (v1608 : IVec S16 32) : Prop :=
  (∀ a x, ((![v1608] : Fin 1 → IVec S16 32) a x).toNat < S512.size a) ∧
  (∀ a x, ((![v1608] : Fin 1 → IVec S16 32) a x).toNat < S512.size a)
theorem k0_idx156_inb : ∀ (v1608 : IVec S16 32) (k0_hw80 : k0_chk80 v1608), ∀ a x, ((![v1608] : Fin 1 → IVec S16 32) a x).toNat < S512.size a := fun v1608 k0_hw80 => k0_hw80.1
theorem k0_idx157_inb : ∀ (v1608 : IVec S16 32) (k0_hw80 : k0_chk80 v1608), ∀ a x, ((![v1608] : Fin 1 → IVec S16 32) a x).toNat < S512.size a := fun v1608 k0_hw80 => k0_hw80.2
def k0_off83 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_472 : BitVec 32 := 16#32
  let v1503 : BitVec 32 := Scalar.muli arg16 c16_i32_472
  let c9_i32 : BitVec 32 := 9#32
  let v1504 : BitVec 32 := Scalar.addi v1503 c9_i32
  let c0_i32_503 : BitVec 32 := 0#32
  ![v1504.toNat, 0]

def k0_chk81 (v1626 : IVec S16 32) : Prop :=
  (∀ a x, ((![v1626] : Fin 1 → IVec S16 32) a x).toNat < S512.size a) ∧
  (∀ a x, ((![v1626] : Fin 1 → IVec S16 32) a x).toNat < S512.size a)
theorem k0_idx158_inb : ∀ (v1626 : IVec S16 32) (k0_hw81 : k0_chk81 v1626), ∀ a x, ((![v1626] : Fin 1 → IVec S16 32) a x).toNat < S512.size a := fun v1626 k0_hw81 => k0_hw81.1
theorem k0_idx159_inb : ∀ (v1626 : IVec S16 32) (k0_hw81 : k0_chk81 v1626), ∀ a x, ((![v1626] : Fin 1 → IVec S16 32) a x).toNat < S512.size a := fun v1626 k0_hw81 => k0_hw81.2
def k0_off84 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_472 : BitVec 32 := 16#32
  let v1503 : BitVec 32 := Scalar.muli arg16 c16_i32_472
  let c9_i32 : BitVec 32 := 9#32
  let v1504 : BitVec 32 := Scalar.addi v1503 c9_i32
  let c0_i32_508 : BitVec 32 := 0#32
  ![v1504.toNat, 0]

def k0_chk82 (v1644 : IVec S16 32) : Prop :=
  (∀ a x, ((![v1644] : Fin 1 → IVec S16 32) a x).toNat < S512.size a) ∧
  (∀ a x, ((![v1644] : Fin 1 → IVec S16 32) a x).toNat < S512.size a)
theorem k0_idx160_inb : ∀ (v1644 : IVec S16 32) (k0_hw82 : k0_chk82 v1644), ∀ a x, ((![v1644] : Fin 1 → IVec S16 32) a x).toNat < S512.size a := fun v1644 k0_hw82 => k0_hw82.1
theorem k0_idx161_inb : ∀ (v1644 : IVec S16 32) (k0_hw82 : k0_chk82 v1644), ∀ a x, ((![v1644] : Fin 1 → IVec S16 32) a x).toNat < S512.size a := fun v1644 k0_hw82 => k0_hw82.2
def k0_off85 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_515 : BitVec 32 := 16#32
  let v1654 : BitVec 32 := Scalar.muli arg16 c16_i32_515
  let c10_i32 : BitVec 32 := 10#32
  let v1655 : BitVec 32 := Scalar.addi v1654 c10_i32
  let c0_i32_516 : BitVec 32 := 0#32
  ![v1655.toNat, 0]

def k0_chk83 (v1669 : IVec S16 32) : Prop :=
  (∀ a x, ((![v1669] : Fin 1 → IVec S16 32) a x).toNat < S512.size a) ∧
  (∀ a x, ((![v1669] : Fin 1 → IVec S16 32) a x).toNat < S512.size a)
theorem k0_idx162_inb : ∀ (v1669 : IVec S16 32) (k0_hw83 : k0_chk83 v1669), ∀ a x, ((![v1669] : Fin 1 → IVec S16 32) a x).toNat < S512.size a := fun v1669 k0_hw83 => k0_hw83.1
theorem k0_idx163_inb : ∀ (v1669 : IVec S16 32) (k0_hw83 : k0_chk83 v1669), ∀ a x, ((![v1669] : Fin 1 → IVec S16 32) a x).toNat < S512.size a := fun v1669 k0_hw83 => k0_hw83.2
def k0_off86 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_515 : BitVec 32 := 16#32
  let v1654 : BitVec 32 := Scalar.muli arg16 c16_i32_515
  let c10_i32 : BitVec 32 := 10#32
  let v1655 : BitVec 32 := Scalar.addi v1654 c10_i32
  let c0_i32_521 : BitVec 32 := 0#32
  ![v1655.toNat, 0]

def k0_chk84 (v1687 : IVec S16 32) : Prop :=
  (∀ a x, ((![v1687] : Fin 1 → IVec S16 32) a x).toNat < S512.size a) ∧
  (∀ a x, ((![v1687] : Fin 1 → IVec S16 32) a x).toNat < S512.size a)
theorem k0_idx164_inb : ∀ (v1687 : IVec S16 32) (k0_hw84 : k0_chk84 v1687), ∀ a x, ((![v1687] : Fin 1 → IVec S16 32) a x).toNat < S512.size a := fun v1687 k0_hw84 => k0_hw84.1
theorem k0_idx165_inb : ∀ (v1687 : IVec S16 32) (k0_hw84 : k0_chk84 v1687), ∀ a x, ((![v1687] : Fin 1 → IVec S16 32) a x).toNat < S512.size a := fun v1687 k0_hw84 => k0_hw84.2
def k0_off87 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_515 : BitVec 32 := 16#32
  let v1654 : BitVec 32 := Scalar.muli arg16 c16_i32_515
  let c10_i32 : BitVec 32 := 10#32
  let v1655 : BitVec 32 := Scalar.addi v1654 c10_i32
  let c0_i32_526 : BitVec 32 := 0#32
  ![v1655.toNat, 0]

def k0_chk85 (v1705 : IVec S16 32) : Prop :=
  (∀ a x, ((![v1705] : Fin 1 → IVec S16 32) a x).toNat < S512.size a) ∧
  (∀ a x, ((![v1705] : Fin 1 → IVec S16 32) a x).toNat < S512.size a)
theorem k0_idx166_inb : ∀ (v1705 : IVec S16 32) (k0_hw85 : k0_chk85 v1705), ∀ a x, ((![v1705] : Fin 1 → IVec S16 32) a x).toNat < S512.size a := fun v1705 k0_hw85 => k0_hw85.1
theorem k0_idx167_inb : ∀ (v1705 : IVec S16 32) (k0_hw85 : k0_chk85 v1705), ∀ a x, ((![v1705] : Fin 1 → IVec S16 32) a x).toNat < S512.size a := fun v1705 k0_hw85 => k0_hw85.2
def k0_off88 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_515 : BitVec 32 := 16#32
  let v1654 : BitVec 32 := Scalar.muli arg16 c16_i32_515
  let c10_i32 : BitVec 32 := 10#32
  let v1655 : BitVec 32 := Scalar.addi v1654 c10_i32
  let c0_i32_531 : BitVec 32 := 0#32
  ![v1655.toNat, 0]

def k0_chk86 (v1723 : IVec S16 32) : Prop :=
  (∀ a x, ((![v1723] : Fin 1 → IVec S16 32) a x).toNat < S512.size a) ∧
  (∀ a x, ((![v1723] : Fin 1 → IVec S16 32) a x).toNat < S512.size a)
theorem k0_idx168_inb : ∀ (v1723 : IVec S16 32) (k0_hw86 : k0_chk86 v1723), ∀ a x, ((![v1723] : Fin 1 → IVec S16 32) a x).toNat < S512.size a := fun v1723 k0_hw86 => k0_hw86.1
theorem k0_idx169_inb : ∀ (v1723 : IVec S16 32) (k0_hw86 : k0_chk86 v1723), ∀ a x, ((![v1723] : Fin 1 → IVec S16 32) a x).toNat < S512.size a := fun v1723 k0_hw86 => k0_hw86.2
def k0_off89 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_515 : BitVec 32 := 16#32
  let v1654 : BitVec 32 := Scalar.muli arg16 c16_i32_515
  let c10_i32 : BitVec 32 := 10#32
  let v1655 : BitVec 32 := Scalar.addi v1654 c10_i32
  let c0_i32_536 : BitVec 32 := 0#32
  ![v1655.toNat, 0]

def k0_chk87 (v1741 : IVec S16 32) : Prop :=
  (∀ a x, ((![v1741] : Fin 1 → IVec S16 32) a x).toNat < S512.size a) ∧
  (∀ a x, ((![v1741] : Fin 1 → IVec S16 32) a x).toNat < S512.size a)
theorem k0_idx170_inb : ∀ (v1741 : IVec S16 32) (k0_hw87 : k0_chk87 v1741), ∀ a x, ((![v1741] : Fin 1 → IVec S16 32) a x).toNat < S512.size a := fun v1741 k0_hw87 => k0_hw87.1
theorem k0_idx171_inb : ∀ (v1741 : IVec S16 32) (k0_hw87 : k0_chk87 v1741), ∀ a x, ((![v1741] : Fin 1 → IVec S16 32) a x).toNat < S512.size a := fun v1741 k0_hw87 => k0_hw87.2
def k0_off90 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_515 : BitVec 32 := 16#32
  let v1654 : BitVec 32 := Scalar.muli arg16 c16_i32_515
  let c10_i32 : BitVec 32 := 10#32
  let v1655 : BitVec 32 := Scalar.addi v1654 c10_i32
  let c0_i32_541 : BitVec 32 := 0#32
  ![v1655.toNat, 0]

def k0_chk88 (v1759 : IVec S16 32) : Prop :=
  (∀ a x, ((![v1759] : Fin 1 → IVec S16 32) a x).toNat < S512.size a) ∧
  (∀ a x, ((![v1759] : Fin 1 → IVec S16 32) a x).toNat < S512.size a)
theorem k0_idx172_inb : ∀ (v1759 : IVec S16 32) (k0_hw88 : k0_chk88 v1759), ∀ a x, ((![v1759] : Fin 1 → IVec S16 32) a x).toNat < S512.size a := fun v1759 k0_hw88 => k0_hw88.1
theorem k0_idx173_inb : ∀ (v1759 : IVec S16 32) (k0_hw88 : k0_chk88 v1759), ∀ a x, ((![v1759] : Fin 1 → IVec S16 32) a x).toNat < S512.size a := fun v1759 k0_hw88 => k0_hw88.2
def k0_off91 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_515 : BitVec 32 := 16#32
  let v1654 : BitVec 32 := Scalar.muli arg16 c16_i32_515
  let c10_i32 : BitVec 32 := 10#32
  let v1655 : BitVec 32 := Scalar.addi v1654 c10_i32
  let c0_i32_546 : BitVec 32 := 0#32
  ![v1655.toNat, 0]

def k0_chk89 (v1777 : IVec S16 32) : Prop :=
  (∀ a x, ((![v1777] : Fin 1 → IVec S16 32) a x).toNat < S512.size a) ∧
  (∀ a x, ((![v1777] : Fin 1 → IVec S16 32) a x).toNat < S512.size a)
theorem k0_idx174_inb : ∀ (v1777 : IVec S16 32) (k0_hw89 : k0_chk89 v1777), ∀ a x, ((![v1777] : Fin 1 → IVec S16 32) a x).toNat < S512.size a := fun v1777 k0_hw89 => k0_hw89.1
theorem k0_idx175_inb : ∀ (v1777 : IVec S16 32) (k0_hw89 : k0_chk89 v1777), ∀ a x, ((![v1777] : Fin 1 → IVec S16 32) a x).toNat < S512.size a := fun v1777 k0_hw89 => k0_hw89.2
def k0_off92 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_515 : BitVec 32 := 16#32
  let v1654 : BitVec 32 := Scalar.muli arg16 c16_i32_515
  let c10_i32 : BitVec 32 := 10#32
  let v1655 : BitVec 32 := Scalar.addi v1654 c10_i32
  let c0_i32_551 : BitVec 32 := 0#32
  ![v1655.toNat, 0]

def k0_chk90 (v1795 : IVec S16 32) : Prop :=
  (∀ a x, ((![v1795] : Fin 1 → IVec S16 32) a x).toNat < S512.size a) ∧
  (∀ a x, ((![v1795] : Fin 1 → IVec S16 32) a x).toNat < S512.size a)
theorem k0_idx176_inb : ∀ (v1795 : IVec S16 32) (k0_hw90 : k0_chk90 v1795), ∀ a x, ((![v1795] : Fin 1 → IVec S16 32) a x).toNat < S512.size a := fun v1795 k0_hw90 => k0_hw90.1
theorem k0_idx177_inb : ∀ (v1795 : IVec S16 32) (k0_hw90 : k0_chk90 v1795), ∀ a x, ((![v1795] : Fin 1 → IVec S16 32) a x).toNat < S512.size a := fun v1795 k0_hw90 => k0_hw90.2
def k0_off93 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_558 : BitVec 32 := 16#32
  let v1805 : BitVec 32 := Scalar.muli arg16 c16_i32_558
  let c11_i32 : BitVec 32 := 11#32
  let v1806 : BitVec 32 := Scalar.addi v1805 c11_i32
  let c0_i32_559 : BitVec 32 := 0#32
  ![v1806.toNat, 0]

def k0_chk91 (v1820 : IVec S16 32) : Prop :=
  (∀ a x, ((![v1820] : Fin 1 → IVec S16 32) a x).toNat < S512.size a) ∧
  (∀ a x, ((![v1820] : Fin 1 → IVec S16 32) a x).toNat < S512.size a)
theorem k0_idx178_inb : ∀ (v1820 : IVec S16 32) (k0_hw91 : k0_chk91 v1820), ∀ a x, ((![v1820] : Fin 1 → IVec S16 32) a x).toNat < S512.size a := fun v1820 k0_hw91 => k0_hw91.1
theorem k0_idx179_inb : ∀ (v1820 : IVec S16 32) (k0_hw91 : k0_chk91 v1820), ∀ a x, ((![v1820] : Fin 1 → IVec S16 32) a x).toNat < S512.size a := fun v1820 k0_hw91 => k0_hw91.2
def k0_off94 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_558 : BitVec 32 := 16#32
  let v1805 : BitVec 32 := Scalar.muli arg16 c16_i32_558
  let c11_i32 : BitVec 32 := 11#32
  let v1806 : BitVec 32 := Scalar.addi v1805 c11_i32
  let c0_i32_564 : BitVec 32 := 0#32
  ![v1806.toNat, 0]

def k0_chk92 (v1838 : IVec S16 32) : Prop :=
  (∀ a x, ((![v1838] : Fin 1 → IVec S16 32) a x).toNat < S512.size a) ∧
  (∀ a x, ((![v1838] : Fin 1 → IVec S16 32) a x).toNat < S512.size a)
theorem k0_idx180_inb : ∀ (v1838 : IVec S16 32) (k0_hw92 : k0_chk92 v1838), ∀ a x, ((![v1838] : Fin 1 → IVec S16 32) a x).toNat < S512.size a := fun v1838 k0_hw92 => k0_hw92.1
theorem k0_idx181_inb : ∀ (v1838 : IVec S16 32) (k0_hw92 : k0_chk92 v1838), ∀ a x, ((![v1838] : Fin 1 → IVec S16 32) a x).toNat < S512.size a := fun v1838 k0_hw92 => k0_hw92.2
def k0_off95 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_558 : BitVec 32 := 16#32
  let v1805 : BitVec 32 := Scalar.muli arg16 c16_i32_558
  let c11_i32 : BitVec 32 := 11#32
  let v1806 : BitVec 32 := Scalar.addi v1805 c11_i32
  let c0_i32_569 : BitVec 32 := 0#32
  ![v1806.toNat, 0]

def k0_chk93 (v1856 : IVec S16 32) : Prop :=
  (∀ a x, ((![v1856] : Fin 1 → IVec S16 32) a x).toNat < S512.size a) ∧
  (∀ a x, ((![v1856] : Fin 1 → IVec S16 32) a x).toNat < S512.size a)
theorem k0_idx182_inb : ∀ (v1856 : IVec S16 32) (k0_hw93 : k0_chk93 v1856), ∀ a x, ((![v1856] : Fin 1 → IVec S16 32) a x).toNat < S512.size a := fun v1856 k0_hw93 => k0_hw93.1
theorem k0_idx183_inb : ∀ (v1856 : IVec S16 32) (k0_hw93 : k0_chk93 v1856), ∀ a x, ((![v1856] : Fin 1 → IVec S16 32) a x).toNat < S512.size a := fun v1856 k0_hw93 => k0_hw93.2
def k0_off96 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_558 : BitVec 32 := 16#32
  let v1805 : BitVec 32 := Scalar.muli arg16 c16_i32_558
  let c11_i32 : BitVec 32 := 11#32
  let v1806 : BitVec 32 := Scalar.addi v1805 c11_i32
  let c0_i32_574 : BitVec 32 := 0#32
  ![v1806.toNat, 0]

def k0_chk94 (v1874 : IVec S16 32) : Prop :=
  (∀ a x, ((![v1874] : Fin 1 → IVec S16 32) a x).toNat < S512.size a) ∧
  (∀ a x, ((![v1874] : Fin 1 → IVec S16 32) a x).toNat < S512.size a)
theorem k0_idx184_inb : ∀ (v1874 : IVec S16 32) (k0_hw94 : k0_chk94 v1874), ∀ a x, ((![v1874] : Fin 1 → IVec S16 32) a x).toNat < S512.size a := fun v1874 k0_hw94 => k0_hw94.1
theorem k0_idx185_inb : ∀ (v1874 : IVec S16 32) (k0_hw94 : k0_chk94 v1874), ∀ a x, ((![v1874] : Fin 1 → IVec S16 32) a x).toNat < S512.size a := fun v1874 k0_hw94 => k0_hw94.2
def k0_off97 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_558 : BitVec 32 := 16#32
  let v1805 : BitVec 32 := Scalar.muli arg16 c16_i32_558
  let c11_i32 : BitVec 32 := 11#32
  let v1806 : BitVec 32 := Scalar.addi v1805 c11_i32
  let c0_i32_579 : BitVec 32 := 0#32
  ![v1806.toNat, 0]

def k0_chk95 (v1892 : IVec S16 32) : Prop :=
  (∀ a x, ((![v1892] : Fin 1 → IVec S16 32) a x).toNat < S512.size a) ∧
  (∀ a x, ((![v1892] : Fin 1 → IVec S16 32) a x).toNat < S512.size a)
theorem k0_idx186_inb : ∀ (v1892 : IVec S16 32) (k0_hw95 : k0_chk95 v1892), ∀ a x, ((![v1892] : Fin 1 → IVec S16 32) a x).toNat < S512.size a := fun v1892 k0_hw95 => k0_hw95.1
theorem k0_idx187_inb : ∀ (v1892 : IVec S16 32) (k0_hw95 : k0_chk95 v1892), ∀ a x, ((![v1892] : Fin 1 → IVec S16 32) a x).toNat < S512.size a := fun v1892 k0_hw95 => k0_hw95.2
def k0_off98 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_558 : BitVec 32 := 16#32
  let v1805 : BitVec 32 := Scalar.muli arg16 c16_i32_558
  let c11_i32 : BitVec 32 := 11#32
  let v1806 : BitVec 32 := Scalar.addi v1805 c11_i32
  let c0_i32_584 : BitVec 32 := 0#32
  ![v1806.toNat, 0]

def k0_chk96 (v1910 : IVec S16 32) : Prop :=
  (∀ a x, ((![v1910] : Fin 1 → IVec S16 32) a x).toNat < S512.size a) ∧
  (∀ a x, ((![v1910] : Fin 1 → IVec S16 32) a x).toNat < S512.size a)
theorem k0_idx188_inb : ∀ (v1910 : IVec S16 32) (k0_hw96 : k0_chk96 v1910), ∀ a x, ((![v1910] : Fin 1 → IVec S16 32) a x).toNat < S512.size a := fun v1910 k0_hw96 => k0_hw96.1
theorem k0_idx189_inb : ∀ (v1910 : IVec S16 32) (k0_hw96 : k0_chk96 v1910), ∀ a x, ((![v1910] : Fin 1 → IVec S16 32) a x).toNat < S512.size a := fun v1910 k0_hw96 => k0_hw96.2
def k0_off99 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_558 : BitVec 32 := 16#32
  let v1805 : BitVec 32 := Scalar.muli arg16 c16_i32_558
  let c11_i32 : BitVec 32 := 11#32
  let v1806 : BitVec 32 := Scalar.addi v1805 c11_i32
  let c0_i32_589 : BitVec 32 := 0#32
  ![v1806.toNat, 0]

def k0_chk97 (v1928 : IVec S16 32) : Prop :=
  (∀ a x, ((![v1928] : Fin 1 → IVec S16 32) a x).toNat < S512.size a) ∧
  (∀ a x, ((![v1928] : Fin 1 → IVec S16 32) a x).toNat < S512.size a)
theorem k0_idx190_inb : ∀ (v1928 : IVec S16 32) (k0_hw97 : k0_chk97 v1928), ∀ a x, ((![v1928] : Fin 1 → IVec S16 32) a x).toNat < S512.size a := fun v1928 k0_hw97 => k0_hw97.1
theorem k0_idx191_inb : ∀ (v1928 : IVec S16 32) (k0_hw97 : k0_chk97 v1928), ∀ a x, ((![v1928] : Fin 1 → IVec S16 32) a x).toNat < S512.size a := fun v1928 k0_hw97 => k0_hw97.2
def k0_off100 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_558 : BitVec 32 := 16#32
  let v1805 : BitVec 32 := Scalar.muli arg16 c16_i32_558
  let c11_i32 : BitVec 32 := 11#32
  let v1806 : BitVec 32 := Scalar.addi v1805 c11_i32
  let c0_i32_594 : BitVec 32 := 0#32
  ![v1806.toNat, 0]

def k0_chk98 (v1946 : IVec S16 32) : Prop :=
  (∀ a x, ((![v1946] : Fin 1 → IVec S16 32) a x).toNat < S512.size a) ∧
  (∀ a x, ((![v1946] : Fin 1 → IVec S16 32) a x).toNat < S512.size a)
theorem k0_idx192_inb : ∀ (v1946 : IVec S16 32) (k0_hw98 : k0_chk98 v1946), ∀ a x, ((![v1946] : Fin 1 → IVec S16 32) a x).toNat < S512.size a := fun v1946 k0_hw98 => k0_hw98.1
theorem k0_idx193_inb : ∀ (v1946 : IVec S16 32) (k0_hw98 : k0_chk98 v1946), ∀ a x, ((![v1946] : Fin 1 → IVec S16 32) a x).toNat < S512.size a := fun v1946 k0_hw98 => k0_hw98.2
def k0_off101 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_601 : BitVec 32 := 16#32
  let v1956 : BitVec 32 := Scalar.muli arg16 c16_i32_601
  let c12_i32 : BitVec 32 := 12#32
  let v1957 : BitVec 32 := Scalar.addi v1956 c12_i32
  let c0_i32_602 : BitVec 32 := 0#32
  ![v1957.toNat, 0]

def k0_chk99 (v1971 : IVec S16 32) : Prop :=
  (∀ a x, ((![v1971] : Fin 1 → IVec S16 32) a x).toNat < S512.size a) ∧
  (∀ a x, ((![v1971] : Fin 1 → IVec S16 32) a x).toNat < S512.size a)
theorem k0_idx194_inb : ∀ (v1971 : IVec S16 32) (k0_hw99 : k0_chk99 v1971), ∀ a x, ((![v1971] : Fin 1 → IVec S16 32) a x).toNat < S512.size a := fun v1971 k0_hw99 => k0_hw99.1
theorem k0_idx195_inb : ∀ (v1971 : IVec S16 32) (k0_hw99 : k0_chk99 v1971), ∀ a x, ((![v1971] : Fin 1 → IVec S16 32) a x).toNat < S512.size a := fun v1971 k0_hw99 => k0_hw99.2
def k0_off102 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_601 : BitVec 32 := 16#32
  let v1956 : BitVec 32 := Scalar.muli arg16 c16_i32_601
  let c12_i32 : BitVec 32 := 12#32
  let v1957 : BitVec 32 := Scalar.addi v1956 c12_i32
  let c0_i32_607 : BitVec 32 := 0#32
  ![v1957.toNat, 0]

def k0_chk100 (v1989 : IVec S16 32) : Prop :=
  (∀ a x, ((![v1989] : Fin 1 → IVec S16 32) a x).toNat < S512.size a) ∧
  (∀ a x, ((![v1989] : Fin 1 → IVec S16 32) a x).toNat < S512.size a)
theorem k0_idx196_inb : ∀ (v1989 : IVec S16 32) (k0_hw100 : k0_chk100 v1989), ∀ a x, ((![v1989] : Fin 1 → IVec S16 32) a x).toNat < S512.size a := fun v1989 k0_hw100 => k0_hw100.1
theorem k0_idx197_inb : ∀ (v1989 : IVec S16 32) (k0_hw100 : k0_chk100 v1989), ∀ a x, ((![v1989] : Fin 1 → IVec S16 32) a x).toNat < S512.size a := fun v1989 k0_hw100 => k0_hw100.2
def k0_off103 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_601 : BitVec 32 := 16#32
  let v1956 : BitVec 32 := Scalar.muli arg16 c16_i32_601
  let c12_i32 : BitVec 32 := 12#32
  let v1957 : BitVec 32 := Scalar.addi v1956 c12_i32
  let c0_i32_612 : BitVec 32 := 0#32
  ![v1957.toNat, 0]

def k0_chk101 (v2007 : IVec S16 32) : Prop :=
  (∀ a x, ((![v2007] : Fin 1 → IVec S16 32) a x).toNat < S512.size a) ∧
  (∀ a x, ((![v2007] : Fin 1 → IVec S16 32) a x).toNat < S512.size a)
theorem k0_idx198_inb : ∀ (v2007 : IVec S16 32) (k0_hw101 : k0_chk101 v2007), ∀ a x, ((![v2007] : Fin 1 → IVec S16 32) a x).toNat < S512.size a := fun v2007 k0_hw101 => k0_hw101.1
theorem k0_idx199_inb : ∀ (v2007 : IVec S16 32) (k0_hw101 : k0_chk101 v2007), ∀ a x, ((![v2007] : Fin 1 → IVec S16 32) a x).toNat < S512.size a := fun v2007 k0_hw101 => k0_hw101.2
def k0_off104 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_601 : BitVec 32 := 16#32
  let v1956 : BitVec 32 := Scalar.muli arg16 c16_i32_601
  let c12_i32 : BitVec 32 := 12#32
  let v1957 : BitVec 32 := Scalar.addi v1956 c12_i32
  let c0_i32_617 : BitVec 32 := 0#32
  ![v1957.toNat, 0]

def k0_chk102 (v2025 : IVec S16 32) : Prop :=
  (∀ a x, ((![v2025] : Fin 1 → IVec S16 32) a x).toNat < S512.size a) ∧
  (∀ a x, ((![v2025] : Fin 1 → IVec S16 32) a x).toNat < S512.size a)
theorem k0_idx200_inb : ∀ (v2025 : IVec S16 32) (k0_hw102 : k0_chk102 v2025), ∀ a x, ((![v2025] : Fin 1 → IVec S16 32) a x).toNat < S512.size a := fun v2025 k0_hw102 => k0_hw102.1
theorem k0_idx201_inb : ∀ (v2025 : IVec S16 32) (k0_hw102 : k0_chk102 v2025), ∀ a x, ((![v2025] : Fin 1 → IVec S16 32) a x).toNat < S512.size a := fun v2025 k0_hw102 => k0_hw102.2
def k0_off105 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_601 : BitVec 32 := 16#32
  let v1956 : BitVec 32 := Scalar.muli arg16 c16_i32_601
  let c12_i32 : BitVec 32 := 12#32
  let v1957 : BitVec 32 := Scalar.addi v1956 c12_i32
  let c0_i32_622 : BitVec 32 := 0#32
  ![v1957.toNat, 0]

def k0_chk103 (v2043 : IVec S16 32) : Prop :=
  (∀ a x, ((![v2043] : Fin 1 → IVec S16 32) a x).toNat < S512.size a) ∧
  (∀ a x, ((![v2043] : Fin 1 → IVec S16 32) a x).toNat < S512.size a)
theorem k0_idx202_inb : ∀ (v2043 : IVec S16 32) (k0_hw103 : k0_chk103 v2043), ∀ a x, ((![v2043] : Fin 1 → IVec S16 32) a x).toNat < S512.size a := fun v2043 k0_hw103 => k0_hw103.1
theorem k0_idx203_inb : ∀ (v2043 : IVec S16 32) (k0_hw103 : k0_chk103 v2043), ∀ a x, ((![v2043] : Fin 1 → IVec S16 32) a x).toNat < S512.size a := fun v2043 k0_hw103 => k0_hw103.2
def k0_off106 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_601 : BitVec 32 := 16#32
  let v1956 : BitVec 32 := Scalar.muli arg16 c16_i32_601
  let c12_i32 : BitVec 32 := 12#32
  let v1957 : BitVec 32 := Scalar.addi v1956 c12_i32
  let c0_i32_627 : BitVec 32 := 0#32
  ![v1957.toNat, 0]

def k0_chk104 (v2061 : IVec S16 32) : Prop :=
  (∀ a x, ((![v2061] : Fin 1 → IVec S16 32) a x).toNat < S512.size a) ∧
  (∀ a x, ((![v2061] : Fin 1 → IVec S16 32) a x).toNat < S512.size a)
theorem k0_idx204_inb : ∀ (v2061 : IVec S16 32) (k0_hw104 : k0_chk104 v2061), ∀ a x, ((![v2061] : Fin 1 → IVec S16 32) a x).toNat < S512.size a := fun v2061 k0_hw104 => k0_hw104.1
theorem k0_idx205_inb : ∀ (v2061 : IVec S16 32) (k0_hw104 : k0_chk104 v2061), ∀ a x, ((![v2061] : Fin 1 → IVec S16 32) a x).toNat < S512.size a := fun v2061 k0_hw104 => k0_hw104.2
def k0_off107 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_601 : BitVec 32 := 16#32
  let v1956 : BitVec 32 := Scalar.muli arg16 c16_i32_601
  let c12_i32 : BitVec 32 := 12#32
  let v1957 : BitVec 32 := Scalar.addi v1956 c12_i32
  let c0_i32_632 : BitVec 32 := 0#32
  ![v1957.toNat, 0]

def k0_chk105 (v2079 : IVec S16 32) : Prop :=
  (∀ a x, ((![v2079] : Fin 1 → IVec S16 32) a x).toNat < S512.size a) ∧
  (∀ a x, ((![v2079] : Fin 1 → IVec S16 32) a x).toNat < S512.size a)
theorem k0_idx206_inb : ∀ (v2079 : IVec S16 32) (k0_hw105 : k0_chk105 v2079), ∀ a x, ((![v2079] : Fin 1 → IVec S16 32) a x).toNat < S512.size a := fun v2079 k0_hw105 => k0_hw105.1
theorem k0_idx207_inb : ∀ (v2079 : IVec S16 32) (k0_hw105 : k0_chk105 v2079), ∀ a x, ((![v2079] : Fin 1 → IVec S16 32) a x).toNat < S512.size a := fun v2079 k0_hw105 => k0_hw105.2
def k0_off108 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_601 : BitVec 32 := 16#32
  let v1956 : BitVec 32 := Scalar.muli arg16 c16_i32_601
  let c12_i32 : BitVec 32 := 12#32
  let v1957 : BitVec 32 := Scalar.addi v1956 c12_i32
  let c0_i32_637 : BitVec 32 := 0#32
  ![v1957.toNat, 0]

def k0_chk106 (v2097 : IVec S16 32) : Prop :=
  (∀ a x, ((![v2097] : Fin 1 → IVec S16 32) a x).toNat < S512.size a) ∧
  (∀ a x, ((![v2097] : Fin 1 → IVec S16 32) a x).toNat < S512.size a)
theorem k0_idx208_inb : ∀ (v2097 : IVec S16 32) (k0_hw106 : k0_chk106 v2097), ∀ a x, ((![v2097] : Fin 1 → IVec S16 32) a x).toNat < S512.size a := fun v2097 k0_hw106 => k0_hw106.1
theorem k0_idx209_inb : ∀ (v2097 : IVec S16 32) (k0_hw106 : k0_chk106 v2097), ∀ a x, ((![v2097] : Fin 1 → IVec S16 32) a x).toNat < S512.size a := fun v2097 k0_hw106 => k0_hw106.2
def k0_off109 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_644 : BitVec 32 := 16#32
  let v2107 : BitVec 32 := Scalar.muli arg16 c16_i32_644
  let c13_i32 : BitVec 32 := 13#32
  let v2108 : BitVec 32 := Scalar.addi v2107 c13_i32
  let c0_i32_645 : BitVec 32 := 0#32
  ![v2108.toNat, 0]

def k0_chk107 (v2122 : IVec S16 32) : Prop :=
  (∀ a x, ((![v2122] : Fin 1 → IVec S16 32) a x).toNat < S512.size a) ∧
  (∀ a x, ((![v2122] : Fin 1 → IVec S16 32) a x).toNat < S512.size a)
theorem k0_idx210_inb : ∀ (v2122 : IVec S16 32) (k0_hw107 : k0_chk107 v2122), ∀ a x, ((![v2122] : Fin 1 → IVec S16 32) a x).toNat < S512.size a := fun v2122 k0_hw107 => k0_hw107.1
theorem k0_idx211_inb : ∀ (v2122 : IVec S16 32) (k0_hw107 : k0_chk107 v2122), ∀ a x, ((![v2122] : Fin 1 → IVec S16 32) a x).toNat < S512.size a := fun v2122 k0_hw107 => k0_hw107.2
def k0_off110 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_644 : BitVec 32 := 16#32
  let v2107 : BitVec 32 := Scalar.muli arg16 c16_i32_644
  let c13_i32 : BitVec 32 := 13#32
  let v2108 : BitVec 32 := Scalar.addi v2107 c13_i32
  let c0_i32_650 : BitVec 32 := 0#32
  ![v2108.toNat, 0]

def k0_chk108 (v2140 : IVec S16 32) : Prop :=
  (∀ a x, ((![v2140] : Fin 1 → IVec S16 32) a x).toNat < S512.size a) ∧
  (∀ a x, ((![v2140] : Fin 1 → IVec S16 32) a x).toNat < S512.size a)
theorem k0_idx212_inb : ∀ (v2140 : IVec S16 32) (k0_hw108 : k0_chk108 v2140), ∀ a x, ((![v2140] : Fin 1 → IVec S16 32) a x).toNat < S512.size a := fun v2140 k0_hw108 => k0_hw108.1
theorem k0_idx213_inb : ∀ (v2140 : IVec S16 32) (k0_hw108 : k0_chk108 v2140), ∀ a x, ((![v2140] : Fin 1 → IVec S16 32) a x).toNat < S512.size a := fun v2140 k0_hw108 => k0_hw108.2
def k0_off111 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_644 : BitVec 32 := 16#32
  let v2107 : BitVec 32 := Scalar.muli arg16 c16_i32_644
  let c13_i32 : BitVec 32 := 13#32
  let v2108 : BitVec 32 := Scalar.addi v2107 c13_i32
  let c0_i32_655 : BitVec 32 := 0#32
  ![v2108.toNat, 0]

def k0_chk109 (v2158 : IVec S16 32) : Prop :=
  (∀ a x, ((![v2158] : Fin 1 → IVec S16 32) a x).toNat < S512.size a) ∧
  (∀ a x, ((![v2158] : Fin 1 → IVec S16 32) a x).toNat < S512.size a)
theorem k0_idx214_inb : ∀ (v2158 : IVec S16 32) (k0_hw109 : k0_chk109 v2158), ∀ a x, ((![v2158] : Fin 1 → IVec S16 32) a x).toNat < S512.size a := fun v2158 k0_hw109 => k0_hw109.1
theorem k0_idx215_inb : ∀ (v2158 : IVec S16 32) (k0_hw109 : k0_chk109 v2158), ∀ a x, ((![v2158] : Fin 1 → IVec S16 32) a x).toNat < S512.size a := fun v2158 k0_hw109 => k0_hw109.2
def k0_off112 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_644 : BitVec 32 := 16#32
  let v2107 : BitVec 32 := Scalar.muli arg16 c16_i32_644
  let c13_i32 : BitVec 32 := 13#32
  let v2108 : BitVec 32 := Scalar.addi v2107 c13_i32
  let c0_i32_660 : BitVec 32 := 0#32
  ![v2108.toNat, 0]

def k0_chk110 (v2176 : IVec S16 32) : Prop :=
  (∀ a x, ((![v2176] : Fin 1 → IVec S16 32) a x).toNat < S512.size a) ∧
  (∀ a x, ((![v2176] : Fin 1 → IVec S16 32) a x).toNat < S512.size a)
theorem k0_idx216_inb : ∀ (v2176 : IVec S16 32) (k0_hw110 : k0_chk110 v2176), ∀ a x, ((![v2176] : Fin 1 → IVec S16 32) a x).toNat < S512.size a := fun v2176 k0_hw110 => k0_hw110.1
theorem k0_idx217_inb : ∀ (v2176 : IVec S16 32) (k0_hw110 : k0_chk110 v2176), ∀ a x, ((![v2176] : Fin 1 → IVec S16 32) a x).toNat < S512.size a := fun v2176 k0_hw110 => k0_hw110.2
def k0_off113 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_644 : BitVec 32 := 16#32
  let v2107 : BitVec 32 := Scalar.muli arg16 c16_i32_644
  let c13_i32 : BitVec 32 := 13#32
  let v2108 : BitVec 32 := Scalar.addi v2107 c13_i32
  let c0_i32_665 : BitVec 32 := 0#32
  ![v2108.toNat, 0]

def k0_chk111 (v2194 : IVec S16 32) : Prop :=
  (∀ a x, ((![v2194] : Fin 1 → IVec S16 32) a x).toNat < S512.size a) ∧
  (∀ a x, ((![v2194] : Fin 1 → IVec S16 32) a x).toNat < S512.size a)
theorem k0_idx218_inb : ∀ (v2194 : IVec S16 32) (k0_hw111 : k0_chk111 v2194), ∀ a x, ((![v2194] : Fin 1 → IVec S16 32) a x).toNat < S512.size a := fun v2194 k0_hw111 => k0_hw111.1
theorem k0_idx219_inb : ∀ (v2194 : IVec S16 32) (k0_hw111 : k0_chk111 v2194), ∀ a x, ((![v2194] : Fin 1 → IVec S16 32) a x).toNat < S512.size a := fun v2194 k0_hw111 => k0_hw111.2
def k0_off114 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_644 : BitVec 32 := 16#32
  let v2107 : BitVec 32 := Scalar.muli arg16 c16_i32_644
  let c13_i32 : BitVec 32 := 13#32
  let v2108 : BitVec 32 := Scalar.addi v2107 c13_i32
  let c0_i32_670 : BitVec 32 := 0#32
  ![v2108.toNat, 0]

def k0_chk112 (v2212 : IVec S16 32) : Prop :=
  (∀ a x, ((![v2212] : Fin 1 → IVec S16 32) a x).toNat < S512.size a) ∧
  (∀ a x, ((![v2212] : Fin 1 → IVec S16 32) a x).toNat < S512.size a)
theorem k0_idx220_inb : ∀ (v2212 : IVec S16 32) (k0_hw112 : k0_chk112 v2212), ∀ a x, ((![v2212] : Fin 1 → IVec S16 32) a x).toNat < S512.size a := fun v2212 k0_hw112 => k0_hw112.1
theorem k0_idx221_inb : ∀ (v2212 : IVec S16 32) (k0_hw112 : k0_chk112 v2212), ∀ a x, ((![v2212] : Fin 1 → IVec S16 32) a x).toNat < S512.size a := fun v2212 k0_hw112 => k0_hw112.2
def k0_off115 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_644 : BitVec 32 := 16#32
  let v2107 : BitVec 32 := Scalar.muli arg16 c16_i32_644
  let c13_i32 : BitVec 32 := 13#32
  let v2108 : BitVec 32 := Scalar.addi v2107 c13_i32
  let c0_i32_675 : BitVec 32 := 0#32
  ![v2108.toNat, 0]

def k0_chk113 (v2230 : IVec S16 32) : Prop :=
  (∀ a x, ((![v2230] : Fin 1 → IVec S16 32) a x).toNat < S512.size a) ∧
  (∀ a x, ((![v2230] : Fin 1 → IVec S16 32) a x).toNat < S512.size a)
theorem k0_idx222_inb : ∀ (v2230 : IVec S16 32) (k0_hw113 : k0_chk113 v2230), ∀ a x, ((![v2230] : Fin 1 → IVec S16 32) a x).toNat < S512.size a := fun v2230 k0_hw113 => k0_hw113.1
theorem k0_idx223_inb : ∀ (v2230 : IVec S16 32) (k0_hw113 : k0_chk113 v2230), ∀ a x, ((![v2230] : Fin 1 → IVec S16 32) a x).toNat < S512.size a := fun v2230 k0_hw113 => k0_hw113.2
def k0_off116 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_644 : BitVec 32 := 16#32
  let v2107 : BitVec 32 := Scalar.muli arg16 c16_i32_644
  let c13_i32 : BitVec 32 := 13#32
  let v2108 : BitVec 32 := Scalar.addi v2107 c13_i32
  let c0_i32_680 : BitVec 32 := 0#32
  ![v2108.toNat, 0]

def k0_chk114 (v2248 : IVec S16 32) : Prop :=
  (∀ a x, ((![v2248] : Fin 1 → IVec S16 32) a x).toNat < S512.size a) ∧
  (∀ a x, ((![v2248] : Fin 1 → IVec S16 32) a x).toNat < S512.size a)
theorem k0_idx224_inb : ∀ (v2248 : IVec S16 32) (k0_hw114 : k0_chk114 v2248), ∀ a x, ((![v2248] : Fin 1 → IVec S16 32) a x).toNat < S512.size a := fun v2248 k0_hw114 => k0_hw114.1
theorem k0_idx225_inb : ∀ (v2248 : IVec S16 32) (k0_hw114 : k0_chk114 v2248), ∀ a x, ((![v2248] : Fin 1 → IVec S16 32) a x).toNat < S512.size a := fun v2248 k0_hw114 => k0_hw114.2
def k0_off117 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_687 : BitVec 32 := 16#32
  let v2258 : BitVec 32 := Scalar.muli arg16 c16_i32_687
  let c14_i32 : BitVec 32 := 14#32
  let v2259 : BitVec 32 := Scalar.addi v2258 c14_i32
  let c0_i32_688 : BitVec 32 := 0#32
  ![v2259.toNat, 0]

def k0_chk115 (v2273 : IVec S16 32) : Prop :=
  (∀ a x, ((![v2273] : Fin 1 → IVec S16 32) a x).toNat < S512.size a) ∧
  (∀ a x, ((![v2273] : Fin 1 → IVec S16 32) a x).toNat < S512.size a)
theorem k0_idx226_inb : ∀ (v2273 : IVec S16 32) (k0_hw115 : k0_chk115 v2273), ∀ a x, ((![v2273] : Fin 1 → IVec S16 32) a x).toNat < S512.size a := fun v2273 k0_hw115 => k0_hw115.1
theorem k0_idx227_inb : ∀ (v2273 : IVec S16 32) (k0_hw115 : k0_chk115 v2273), ∀ a x, ((![v2273] : Fin 1 → IVec S16 32) a x).toNat < S512.size a := fun v2273 k0_hw115 => k0_hw115.2
def k0_off118 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_687 : BitVec 32 := 16#32
  let v2258 : BitVec 32 := Scalar.muli arg16 c16_i32_687
  let c14_i32 : BitVec 32 := 14#32
  let v2259 : BitVec 32 := Scalar.addi v2258 c14_i32
  let c0_i32_693 : BitVec 32 := 0#32
  ![v2259.toNat, 0]

def k0_chk116 (v2291 : IVec S16 32) : Prop :=
  (∀ a x, ((![v2291] : Fin 1 → IVec S16 32) a x).toNat < S512.size a) ∧
  (∀ a x, ((![v2291] : Fin 1 → IVec S16 32) a x).toNat < S512.size a)
theorem k0_idx228_inb : ∀ (v2291 : IVec S16 32) (k0_hw116 : k0_chk116 v2291), ∀ a x, ((![v2291] : Fin 1 → IVec S16 32) a x).toNat < S512.size a := fun v2291 k0_hw116 => k0_hw116.1
theorem k0_idx229_inb : ∀ (v2291 : IVec S16 32) (k0_hw116 : k0_chk116 v2291), ∀ a x, ((![v2291] : Fin 1 → IVec S16 32) a x).toNat < S512.size a := fun v2291 k0_hw116 => k0_hw116.2
def k0_off119 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_687 : BitVec 32 := 16#32
  let v2258 : BitVec 32 := Scalar.muli arg16 c16_i32_687
  let c14_i32 : BitVec 32 := 14#32
  let v2259 : BitVec 32 := Scalar.addi v2258 c14_i32
  let c0_i32_698 : BitVec 32 := 0#32
  ![v2259.toNat, 0]

def k0_chk117 (v2309 : IVec S16 32) : Prop :=
  (∀ a x, ((![v2309] : Fin 1 → IVec S16 32) a x).toNat < S512.size a) ∧
  (∀ a x, ((![v2309] : Fin 1 → IVec S16 32) a x).toNat < S512.size a)
theorem k0_idx230_inb : ∀ (v2309 : IVec S16 32) (k0_hw117 : k0_chk117 v2309), ∀ a x, ((![v2309] : Fin 1 → IVec S16 32) a x).toNat < S512.size a := fun v2309 k0_hw117 => k0_hw117.1
theorem k0_idx231_inb : ∀ (v2309 : IVec S16 32) (k0_hw117 : k0_chk117 v2309), ∀ a x, ((![v2309] : Fin 1 → IVec S16 32) a x).toNat < S512.size a := fun v2309 k0_hw117 => k0_hw117.2
def k0_off120 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_687 : BitVec 32 := 16#32
  let v2258 : BitVec 32 := Scalar.muli arg16 c16_i32_687
  let c14_i32 : BitVec 32 := 14#32
  let v2259 : BitVec 32 := Scalar.addi v2258 c14_i32
  let c0_i32_703 : BitVec 32 := 0#32
  ![v2259.toNat, 0]

def k0_chk118 (v2327 : IVec S16 32) : Prop :=
  (∀ a x, ((![v2327] : Fin 1 → IVec S16 32) a x).toNat < S512.size a) ∧
  (∀ a x, ((![v2327] : Fin 1 → IVec S16 32) a x).toNat < S512.size a)
theorem k0_idx232_inb : ∀ (v2327 : IVec S16 32) (k0_hw118 : k0_chk118 v2327), ∀ a x, ((![v2327] : Fin 1 → IVec S16 32) a x).toNat < S512.size a := fun v2327 k0_hw118 => k0_hw118.1
theorem k0_idx233_inb : ∀ (v2327 : IVec S16 32) (k0_hw118 : k0_chk118 v2327), ∀ a x, ((![v2327] : Fin 1 → IVec S16 32) a x).toNat < S512.size a := fun v2327 k0_hw118 => k0_hw118.2
def k0_off121 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_687 : BitVec 32 := 16#32
  let v2258 : BitVec 32 := Scalar.muli arg16 c16_i32_687
  let c14_i32 : BitVec 32 := 14#32
  let v2259 : BitVec 32 := Scalar.addi v2258 c14_i32
  let c0_i32_708 : BitVec 32 := 0#32
  ![v2259.toNat, 0]

def k0_chk119 (v2345 : IVec S16 32) : Prop :=
  (∀ a x, ((![v2345] : Fin 1 → IVec S16 32) a x).toNat < S512.size a) ∧
  (∀ a x, ((![v2345] : Fin 1 → IVec S16 32) a x).toNat < S512.size a)
theorem k0_idx234_inb : ∀ (v2345 : IVec S16 32) (k0_hw119 : k0_chk119 v2345), ∀ a x, ((![v2345] : Fin 1 → IVec S16 32) a x).toNat < S512.size a := fun v2345 k0_hw119 => k0_hw119.1
theorem k0_idx235_inb : ∀ (v2345 : IVec S16 32) (k0_hw119 : k0_chk119 v2345), ∀ a x, ((![v2345] : Fin 1 → IVec S16 32) a x).toNat < S512.size a := fun v2345 k0_hw119 => k0_hw119.2
def k0_off122 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_687 : BitVec 32 := 16#32
  let v2258 : BitVec 32 := Scalar.muli arg16 c16_i32_687
  let c14_i32 : BitVec 32 := 14#32
  let v2259 : BitVec 32 := Scalar.addi v2258 c14_i32
  let c0_i32_713 : BitVec 32 := 0#32
  ![v2259.toNat, 0]

def k0_chk120 (v2363 : IVec S16 32) : Prop :=
  (∀ a x, ((![v2363] : Fin 1 → IVec S16 32) a x).toNat < S512.size a) ∧
  (∀ a x, ((![v2363] : Fin 1 → IVec S16 32) a x).toNat < S512.size a)
theorem k0_idx236_inb : ∀ (v2363 : IVec S16 32) (k0_hw120 : k0_chk120 v2363), ∀ a x, ((![v2363] : Fin 1 → IVec S16 32) a x).toNat < S512.size a := fun v2363 k0_hw120 => k0_hw120.1
theorem k0_idx237_inb : ∀ (v2363 : IVec S16 32) (k0_hw120 : k0_chk120 v2363), ∀ a x, ((![v2363] : Fin 1 → IVec S16 32) a x).toNat < S512.size a := fun v2363 k0_hw120 => k0_hw120.2
def k0_off123 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_687 : BitVec 32 := 16#32
  let v2258 : BitVec 32 := Scalar.muli arg16 c16_i32_687
  let c14_i32 : BitVec 32 := 14#32
  let v2259 : BitVec 32 := Scalar.addi v2258 c14_i32
  let c0_i32_718 : BitVec 32 := 0#32
  ![v2259.toNat, 0]

def k0_chk121 (v2381 : IVec S16 32) : Prop :=
  (∀ a x, ((![v2381] : Fin 1 → IVec S16 32) a x).toNat < S512.size a) ∧
  (∀ a x, ((![v2381] : Fin 1 → IVec S16 32) a x).toNat < S512.size a)
theorem k0_idx238_inb : ∀ (v2381 : IVec S16 32) (k0_hw121 : k0_chk121 v2381), ∀ a x, ((![v2381] : Fin 1 → IVec S16 32) a x).toNat < S512.size a := fun v2381 k0_hw121 => k0_hw121.1
theorem k0_idx239_inb : ∀ (v2381 : IVec S16 32) (k0_hw121 : k0_chk121 v2381), ∀ a x, ((![v2381] : Fin 1 → IVec S16 32) a x).toNat < S512.size a := fun v2381 k0_hw121 => k0_hw121.2
def k0_off124 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_687 : BitVec 32 := 16#32
  let v2258 : BitVec 32 := Scalar.muli arg16 c16_i32_687
  let c14_i32 : BitVec 32 := 14#32
  let v2259 : BitVec 32 := Scalar.addi v2258 c14_i32
  let c0_i32_723 : BitVec 32 := 0#32
  ![v2259.toNat, 0]

def k0_chk122 (v2399 : IVec S16 32) : Prop :=
  (∀ a x, ((![v2399] : Fin 1 → IVec S16 32) a x).toNat < S512.size a) ∧
  (∀ a x, ((![v2399] : Fin 1 → IVec S16 32) a x).toNat < S512.size a)
theorem k0_idx240_inb : ∀ (v2399 : IVec S16 32) (k0_hw122 : k0_chk122 v2399), ∀ a x, ((![v2399] : Fin 1 → IVec S16 32) a x).toNat < S512.size a := fun v2399 k0_hw122 => k0_hw122.1
theorem k0_idx241_inb : ∀ (v2399 : IVec S16 32) (k0_hw122 : k0_chk122 v2399), ∀ a x, ((![v2399] : Fin 1 → IVec S16 32) a x).toNat < S512.size a := fun v2399 k0_hw122 => k0_hw122.2
def k0_off125 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_732 : BitVec 32 := 0#32
  ![v2410.toNat, 0]

def k0_chk123 (v2424 : IVec S16 32) : Prop :=
  (∀ a x, ((![v2424] : Fin 1 → IVec S16 32) a x).toNat < S512.size a) ∧
  (∀ a x, ((![v2424] : Fin 1 → IVec S16 32) a x).toNat < S512.size a)
theorem k0_idx242_inb : ∀ (v2424 : IVec S16 32) (k0_hw123 : k0_chk123 v2424), ∀ a x, ((![v2424] : Fin 1 → IVec S16 32) a x).toNat < S512.size a := fun v2424 k0_hw123 => k0_hw123.1
theorem k0_idx243_inb : ∀ (v2424 : IVec S16 32) (k0_hw123 : k0_chk123 v2424), ∀ a x, ((![v2424] : Fin 1 → IVec S16 32) a x).toNat < S512.size a := fun v2424 k0_hw123 => k0_hw123.2
def k0_off126 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_737 : BitVec 32 := 0#32
  ![v2410.toNat, 0]

def k0_chk124 (v2442 : IVec S16 32) : Prop :=
  (∀ a x, ((![v2442] : Fin 1 → IVec S16 32) a x).toNat < S512.size a) ∧
  (∀ a x, ((![v2442] : Fin 1 → IVec S16 32) a x).toNat < S512.size a)
theorem k0_idx244_inb : ∀ (v2442 : IVec S16 32) (k0_hw124 : k0_chk124 v2442), ∀ a x, ((![v2442] : Fin 1 → IVec S16 32) a x).toNat < S512.size a := fun v2442 k0_hw124 => k0_hw124.1
theorem k0_idx245_inb : ∀ (v2442 : IVec S16 32) (k0_hw124 : k0_chk124 v2442), ∀ a x, ((![v2442] : Fin 1 → IVec S16 32) a x).toNat < S512.size a := fun v2442 k0_hw124 => k0_hw124.2
def k0_off127 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_742 : BitVec 32 := 0#32
  ![v2410.toNat, 0]

def k0_chk125 (v2460 : IVec S16 32) : Prop :=
  (∀ a x, ((![v2460] : Fin 1 → IVec S16 32) a x).toNat < S512.size a) ∧
  (∀ a x, ((![v2460] : Fin 1 → IVec S16 32) a x).toNat < S512.size a)
theorem k0_idx246_inb : ∀ (v2460 : IVec S16 32) (k0_hw125 : k0_chk125 v2460), ∀ a x, ((![v2460] : Fin 1 → IVec S16 32) a x).toNat < S512.size a := fun v2460 k0_hw125 => k0_hw125.1
theorem k0_idx247_inb : ∀ (v2460 : IVec S16 32) (k0_hw125 : k0_chk125 v2460), ∀ a x, ((![v2460] : Fin 1 → IVec S16 32) a x).toNat < S512.size a := fun v2460 k0_hw125 => k0_hw125.2
def k0_off128 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_747 : BitVec 32 := 0#32
  ![v2410.toNat, 0]

def k0_chk126 (v2478 : IVec S16 32) : Prop :=
  (∀ a x, ((![v2478] : Fin 1 → IVec S16 32) a x).toNat < S512.size a) ∧
  (∀ a x, ((![v2478] : Fin 1 → IVec S16 32) a x).toNat < S512.size a)
theorem k0_idx248_inb : ∀ (v2478 : IVec S16 32) (k0_hw126 : k0_chk126 v2478), ∀ a x, ((![v2478] : Fin 1 → IVec S16 32) a x).toNat < S512.size a := fun v2478 k0_hw126 => k0_hw126.1
theorem k0_idx249_inb : ∀ (v2478 : IVec S16 32) (k0_hw126 : k0_chk126 v2478), ∀ a x, ((![v2478] : Fin 1 → IVec S16 32) a x).toNat < S512.size a := fun v2478 k0_hw126 => k0_hw126.2
def k0_off129 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_752 : BitVec 32 := 0#32
  ![v2410.toNat, 0]

def k0_chk127 (v2496 : IVec S16 32) : Prop :=
  (∀ a x, ((![v2496] : Fin 1 → IVec S16 32) a x).toNat < S512.size a) ∧
  (∀ a x, ((![v2496] : Fin 1 → IVec S16 32) a x).toNat < S512.size a)
theorem k0_idx250_inb : ∀ (v2496 : IVec S16 32) (k0_hw127 : k0_chk127 v2496), ∀ a x, ((![v2496] : Fin 1 → IVec S16 32) a x).toNat < S512.size a := fun v2496 k0_hw127 => k0_hw127.1
theorem k0_idx251_inb : ∀ (v2496 : IVec S16 32) (k0_hw127 : k0_chk127 v2496), ∀ a x, ((![v2496] : Fin 1 → IVec S16 32) a x).toNat < S512.size a := fun v2496 k0_hw127 => k0_hw127.2
def k0_off130 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_757 : BitVec 32 := 0#32
  ![v2410.toNat, 0]

def k0_chk128 (v2514 : IVec S16 32) : Prop :=
  (∀ a x, ((![v2514] : Fin 1 → IVec S16 32) a x).toNat < S512.size a) ∧
  (∀ a x, ((![v2514] : Fin 1 → IVec S16 32) a x).toNat < S512.size a)
theorem k0_idx252_inb : ∀ (v2514 : IVec S16 32) (k0_hw128 : k0_chk128 v2514), ∀ a x, ((![v2514] : Fin 1 → IVec S16 32) a x).toNat < S512.size a := fun v2514 k0_hw128 => k0_hw128.1
theorem k0_idx253_inb : ∀ (v2514 : IVec S16 32) (k0_hw128 : k0_chk128 v2514), ∀ a x, ((![v2514] : Fin 1 → IVec S16 32) a x).toNat < S512.size a := fun v2514 k0_hw128 => k0_hw128.2
def k0_off131 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_762 : BitVec 32 := 0#32
  ![v2410.toNat, 0]

def k0_chk129 (v2532 : IVec S16 32) : Prop :=
  (∀ a x, ((![v2532] : Fin 1 → IVec S16 32) a x).toNat < S512.size a) ∧
  (∀ a x, ((![v2532] : Fin 1 → IVec S16 32) a x).toNat < S512.size a)
theorem k0_idx254_inb : ∀ (v2532 : IVec S16 32) (k0_hw129 : k0_chk129 v2532), ∀ a x, ((![v2532] : Fin 1 → IVec S16 32) a x).toNat < S512.size a := fun v2532 k0_hw129 => k0_hw129.1
theorem k0_idx255_inb : ∀ (v2532 : IVec S16 32) (k0_hw129 : k0_chk129 v2532), ∀ a x, ((![v2532] : Fin 1 → IVec S16 32) a x).toNat < S512.size a := fun v2532 k0_hw129 => k0_hw129.2
def k0_off132 (v96 : BitVec 32) (k0_t3 : Fin (k0_t3_loop v96).trips) : Fin 2 → Nat :=
  let c0_i32_82 : BitVec 32 := 0#32
  let c1_i32_84 : BitVec 32 := 1#32
  let arg16 : BitVec 32 := Scf.iv c0_i32_82 c1_i32_84 k0_t3
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_767 : BitVec 32 := 0#32
  ![v2410.toNat, 0]

def k0_chk130 (v2550 : IVec S16 32) : Prop :=
  (∀ a x, ((![v2550] : Fin 1 → IVec S16 32) a x).toNat < S512.size a) ∧
  (∀ a x, ((![v2550] : Fin 1 → IVec S16 32) a x).toNat < S512.size a)
theorem k0_idx256_inb : ∀ (v2550 : IVec S16 32) (k0_hw130 : k0_chk130 v2550), ∀ a x, ((![v2550] : Fin 1 → IVec S16 32) a x).toNat < S512.size a := fun v2550 k0_hw130 => k0_hw130.1
theorem k0_idx257_inb : ∀ (v2550 : IVec S16 32) (k0_hw130 : k0_chk130 v2550), ∀ a x, ((![v2550] : Fin 1 → IVec S16 32) a x).toNat < S512.size a := fun v2550 k0_hw130 => k0_hw130.2
@[reducible] def k0_t4_loop (v96 : BitVec 32) : Scf.Loop 32 :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let v130 : BitVec 32 := Scalar.addi c0_i32_82 v129
  let c1_i32_85 : BitVec 32 := 1#32
  ⟨v133, v130, c1_i32_85⟩
def k0_off133 (v96 : BitVec 32) (k0_t4 : Fin (k0_t4_loop v96).trips) : Fin 1 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_86 : BitVec 32 := 16#32
  let v136 : BitVec 32 := Scalar.muli arg16 c16_i32_86
  let v137 : Index := Scalar.indexCast v136
  ![v137.toNat]
def k0_off134 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_89 : BitVec 32 := 16#32
  let v144 : BitVec 32 := Scalar.muli arg16 c16_i32_89
  let c0_i32_90 : BitVec 32 := 0#32
  let v145 : BitVec 32 := Scalar.addi v144 c0_i32_90
  let c0_i32_91 : BitVec 32 := 0#32
  ![v145.toNat, 0]

def k0_chk131 (v159 : IVec S16 32) : Prop :=
  (∀ a x, ((![v159] : Fin 1 → IVec S16 32) a x).toNat < S512.size a) ∧
  (∀ a x, ((![v159] : Fin 1 → IVec S16 32) a x).toNat < S512.size a)
theorem k0_idx258_inb : ∀ (v159 : IVec S16 32) (k0_hw131 : k0_chk131 v159), ∀ a x, ((![v159] : Fin 1 → IVec S16 32) a x).toNat < S512.size a := fun v159 k0_hw131 => k0_hw131.1
theorem k0_idx259_inb : ∀ (v159 : IVec S16 32) (k0_hw131 : k0_chk131 v159), ∀ a x, ((![v159] : Fin 1 → IVec S16 32) a x).toNat < S512.size a := fun v159 k0_hw131 => k0_hw131.2
def k0_off135 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_89 : BitVec 32 := 16#32
  let v144 : BitVec 32 := Scalar.muli arg16 c16_i32_89
  let c0_i32_90 : BitVec 32 := 0#32
  let v145 : BitVec 32 := Scalar.addi v144 c0_i32_90
  let c0_i32_94 : BitVec 32 := 0#32
  ![v145.toNat, 0]

def k0_chk132 (v177 : IVec S16 32) : Prop :=
  (∀ a x, ((![v177] : Fin 1 → IVec S16 32) a x).toNat < S512.size a) ∧
  (∀ a x, ((![v177] : Fin 1 → IVec S16 32) a x).toNat < S512.size a)
theorem k0_idx260_inb : ∀ (v177 : IVec S16 32) (k0_hw132 : k0_chk132 v177), ∀ a x, ((![v177] : Fin 1 → IVec S16 32) a x).toNat < S512.size a := fun v177 k0_hw132 => k0_hw132.1
theorem k0_idx261_inb : ∀ (v177 : IVec S16 32) (k0_hw132 : k0_chk132 v177), ∀ a x, ((![v177] : Fin 1 → IVec S16 32) a x).toNat < S512.size a := fun v177 k0_hw132 => k0_hw132.2
def k0_off136 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_89 : BitVec 32 := 16#32
  let v144 : BitVec 32 := Scalar.muli arg16 c16_i32_89
  let c0_i32_90 : BitVec 32 := 0#32
  let v145 : BitVec 32 := Scalar.addi v144 c0_i32_90
  let c0_i32_99 : BitVec 32 := 0#32
  ![v145.toNat, 0]

def k0_chk133 (v195 : IVec S16 32) : Prop :=
  (∀ a x, ((![v195] : Fin 1 → IVec S16 32) a x).toNat < S512.size a) ∧
  (∀ a x, ((![v195] : Fin 1 → IVec S16 32) a x).toNat < S512.size a)
theorem k0_idx262_inb : ∀ (v195 : IVec S16 32) (k0_hw133 : k0_chk133 v195), ∀ a x, ((![v195] : Fin 1 → IVec S16 32) a x).toNat < S512.size a := fun v195 k0_hw133 => k0_hw133.1
theorem k0_idx263_inb : ∀ (v195 : IVec S16 32) (k0_hw133 : k0_chk133 v195), ∀ a x, ((![v195] : Fin 1 → IVec S16 32) a x).toNat < S512.size a := fun v195 k0_hw133 => k0_hw133.2
def k0_off137 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_89 : BitVec 32 := 16#32
  let v144 : BitVec 32 := Scalar.muli arg16 c16_i32_89
  let c0_i32_90 : BitVec 32 := 0#32
  let v145 : BitVec 32 := Scalar.addi v144 c0_i32_90
  let c0_i32_104 : BitVec 32 := 0#32
  ![v145.toNat, 0]

def k0_chk134 (v213 : IVec S16 32) : Prop :=
  (∀ a x, ((![v213] : Fin 1 → IVec S16 32) a x).toNat < S512.size a) ∧
  (∀ a x, ((![v213] : Fin 1 → IVec S16 32) a x).toNat < S512.size a)
theorem k0_idx264_inb : ∀ (v213 : IVec S16 32) (k0_hw134 : k0_chk134 v213), ∀ a x, ((![v213] : Fin 1 → IVec S16 32) a x).toNat < S512.size a := fun v213 k0_hw134 => k0_hw134.1
theorem k0_idx265_inb : ∀ (v213 : IVec S16 32) (k0_hw134 : k0_chk134 v213), ∀ a x, ((![v213] : Fin 1 → IVec S16 32) a x).toNat < S512.size a := fun v213 k0_hw134 => k0_hw134.2
def k0_off138 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_89 : BitVec 32 := 16#32
  let v144 : BitVec 32 := Scalar.muli arg16 c16_i32_89
  let c0_i32_90 : BitVec 32 := 0#32
  let v145 : BitVec 32 := Scalar.addi v144 c0_i32_90
  let c0_i32_108 : BitVec 32 := 0#32
  ![v145.toNat, 0]

def k0_chk135 (v231 : IVec S16 32) : Prop :=
  (∀ a x, ((![v231] : Fin 1 → IVec S16 32) a x).toNat < S512.size a) ∧
  (∀ a x, ((![v231] : Fin 1 → IVec S16 32) a x).toNat < S512.size a)
theorem k0_idx266_inb : ∀ (v231 : IVec S16 32) (k0_hw135 : k0_chk135 v231), ∀ a x, ((![v231] : Fin 1 → IVec S16 32) a x).toNat < S512.size a := fun v231 k0_hw135 => k0_hw135.1
theorem k0_idx267_inb : ∀ (v231 : IVec S16 32) (k0_hw135 : k0_chk135 v231), ∀ a x, ((![v231] : Fin 1 → IVec S16 32) a x).toNat < S512.size a := fun v231 k0_hw135 => k0_hw135.2
def k0_off139 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_89 : BitVec 32 := 16#32
  let v144 : BitVec 32 := Scalar.muli arg16 c16_i32_89
  let c0_i32_90 : BitVec 32 := 0#32
  let v145 : BitVec 32 := Scalar.addi v144 c0_i32_90
  let c0_i32_112 : BitVec 32 := 0#32
  ![v145.toNat, 0]

def k0_chk136 (v249 : IVec S16 32) : Prop :=
  (∀ a x, ((![v249] : Fin 1 → IVec S16 32) a x).toNat < S512.size a) ∧
  (∀ a x, ((![v249] : Fin 1 → IVec S16 32) a x).toNat < S512.size a)
theorem k0_idx268_inb : ∀ (v249 : IVec S16 32) (k0_hw136 : k0_chk136 v249), ∀ a x, ((![v249] : Fin 1 → IVec S16 32) a x).toNat < S512.size a := fun v249 k0_hw136 => k0_hw136.1
theorem k0_idx269_inb : ∀ (v249 : IVec S16 32) (k0_hw136 : k0_chk136 v249), ∀ a x, ((![v249] : Fin 1 → IVec S16 32) a x).toNat < S512.size a := fun v249 k0_hw136 => k0_hw136.2
def k0_off140 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_89 : BitVec 32 := 16#32
  let v144 : BitVec 32 := Scalar.muli arg16 c16_i32_89
  let c0_i32_90 : BitVec 32 := 0#32
  let v145 : BitVec 32 := Scalar.addi v144 c0_i32_90
  let c0_i32_116 : BitVec 32 := 0#32
  ![v145.toNat, 0]

def k0_chk137 (v267 : IVec S16 32) : Prop :=
  (∀ a x, ((![v267] : Fin 1 → IVec S16 32) a x).toNat < S512.size a) ∧
  (∀ a x, ((![v267] : Fin 1 → IVec S16 32) a x).toNat < S512.size a)
theorem k0_idx270_inb : ∀ (v267 : IVec S16 32) (k0_hw137 : k0_chk137 v267), ∀ a x, ((![v267] : Fin 1 → IVec S16 32) a x).toNat < S512.size a := fun v267 k0_hw137 => k0_hw137.1
theorem k0_idx271_inb : ∀ (v267 : IVec S16 32) (k0_hw137 : k0_chk137 v267), ∀ a x, ((![v267] : Fin 1 → IVec S16 32) a x).toNat < S512.size a := fun v267 k0_hw137 => k0_hw137.2
def k0_off141 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_89 : BitVec 32 := 16#32
  let v144 : BitVec 32 := Scalar.muli arg16 c16_i32_89
  let c0_i32_90 : BitVec 32 := 0#32
  let v145 : BitVec 32 := Scalar.addi v144 c0_i32_90
  let c0_i32_120 : BitVec 32 := 0#32
  ![v145.toNat, 0]

def k0_chk138 (v285 : IVec S16 32) : Prop :=
  (∀ a x, ((![v285] : Fin 1 → IVec S16 32) a x).toNat < S512.size a) ∧
  (∀ a x, ((![v285] : Fin 1 → IVec S16 32) a x).toNat < S512.size a)
theorem k0_idx272_inb : ∀ (v285 : IVec S16 32) (k0_hw138 : k0_chk138 v285), ∀ a x, ((![v285] : Fin 1 → IVec S16 32) a x).toNat < S512.size a := fun v285 k0_hw138 => k0_hw138.1
theorem k0_idx273_inb : ∀ (v285 : IVec S16 32) (k0_hw138 : k0_chk138 v285), ∀ a x, ((![v285] : Fin 1 → IVec S16 32) a x).toNat < S512.size a := fun v285 k0_hw138 => k0_hw138.2
def k0_off142 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_126 : BitVec 32 := 16#32
  let v295 : BitVec 32 := Scalar.muli arg16 c16_i32_126
  let c1_i32_127 : BitVec 32 := 1#32
  let v296 : BitVec 32 := Scalar.addi v295 c1_i32_127
  let c0_i32_128 : BitVec 32 := 0#32
  ![v296.toNat, 0]

def k0_chk139 (v310 : IVec S16 32) : Prop :=
  (∀ a x, ((![v310] : Fin 1 → IVec S16 32) a x).toNat < S512.size a) ∧
  (∀ a x, ((![v310] : Fin 1 → IVec S16 32) a x).toNat < S512.size a)
theorem k0_idx274_inb : ∀ (v310 : IVec S16 32) (k0_hw139 : k0_chk139 v310), ∀ a x, ((![v310] : Fin 1 → IVec S16 32) a x).toNat < S512.size a := fun v310 k0_hw139 => k0_hw139.1
theorem k0_idx275_inb : ∀ (v310 : IVec S16 32) (k0_hw139 : k0_chk139 v310), ∀ a x, ((![v310] : Fin 1 → IVec S16 32) a x).toNat < S512.size a := fun v310 k0_hw139 => k0_hw139.2
def k0_off143 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_126 : BitVec 32 := 16#32
  let v295 : BitVec 32 := Scalar.muli arg16 c16_i32_126
  let c1_i32_127 : BitVec 32 := 1#32
  let v296 : BitVec 32 := Scalar.addi v295 c1_i32_127
  let c0_i32_133 : BitVec 32 := 0#32
  ![v296.toNat, 0]

def k0_chk140 (v328 : IVec S16 32) : Prop :=
  (∀ a x, ((![v328] : Fin 1 → IVec S16 32) a x).toNat < S512.size a) ∧
  (∀ a x, ((![v328] : Fin 1 → IVec S16 32) a x).toNat < S512.size a)
theorem k0_idx276_inb : ∀ (v328 : IVec S16 32) (k0_hw140 : k0_chk140 v328), ∀ a x, ((![v328] : Fin 1 → IVec S16 32) a x).toNat < S512.size a := fun v328 k0_hw140 => k0_hw140.1
theorem k0_idx277_inb : ∀ (v328 : IVec S16 32) (k0_hw140 : k0_chk140 v328), ∀ a x, ((![v328] : Fin 1 → IVec S16 32) a x).toNat < S512.size a := fun v328 k0_hw140 => k0_hw140.2
def k0_off144 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_126 : BitVec 32 := 16#32
  let v295 : BitVec 32 := Scalar.muli arg16 c16_i32_126
  let c1_i32_127 : BitVec 32 := 1#32
  let v296 : BitVec 32 := Scalar.addi v295 c1_i32_127
  let c0_i32_138 : BitVec 32 := 0#32
  ![v296.toNat, 0]

def k0_chk141 (v346 : IVec S16 32) : Prop :=
  (∀ a x, ((![v346] : Fin 1 → IVec S16 32) a x).toNat < S512.size a) ∧
  (∀ a x, ((![v346] : Fin 1 → IVec S16 32) a x).toNat < S512.size a)
theorem k0_idx278_inb : ∀ (v346 : IVec S16 32) (k0_hw141 : k0_chk141 v346), ∀ a x, ((![v346] : Fin 1 → IVec S16 32) a x).toNat < S512.size a := fun v346 k0_hw141 => k0_hw141.1
theorem k0_idx279_inb : ∀ (v346 : IVec S16 32) (k0_hw141 : k0_chk141 v346), ∀ a x, ((![v346] : Fin 1 → IVec S16 32) a x).toNat < S512.size a := fun v346 k0_hw141 => k0_hw141.2
def k0_off145 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_126 : BitVec 32 := 16#32
  let v295 : BitVec 32 := Scalar.muli arg16 c16_i32_126
  let c1_i32_127 : BitVec 32 := 1#32
  let v296 : BitVec 32 := Scalar.addi v295 c1_i32_127
  let c0_i32_143 : BitVec 32 := 0#32
  ![v296.toNat, 0]

def k0_chk142 (v364 : IVec S16 32) : Prop :=
  (∀ a x, ((![v364] : Fin 1 → IVec S16 32) a x).toNat < S512.size a) ∧
  (∀ a x, ((![v364] : Fin 1 → IVec S16 32) a x).toNat < S512.size a)
theorem k0_idx280_inb : ∀ (v364 : IVec S16 32) (k0_hw142 : k0_chk142 v364), ∀ a x, ((![v364] : Fin 1 → IVec S16 32) a x).toNat < S512.size a := fun v364 k0_hw142 => k0_hw142.1
theorem k0_idx281_inb : ∀ (v364 : IVec S16 32) (k0_hw142 : k0_chk142 v364), ∀ a x, ((![v364] : Fin 1 → IVec S16 32) a x).toNat < S512.size a := fun v364 k0_hw142 => k0_hw142.2
def k0_off146 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_126 : BitVec 32 := 16#32
  let v295 : BitVec 32 := Scalar.muli arg16 c16_i32_126
  let c1_i32_127 : BitVec 32 := 1#32
  let v296 : BitVec 32 := Scalar.addi v295 c1_i32_127
  let c0_i32_148 : BitVec 32 := 0#32
  ![v296.toNat, 0]

def k0_chk143 (v382 : IVec S16 32) : Prop :=
  (∀ a x, ((![v382] : Fin 1 → IVec S16 32) a x).toNat < S512.size a) ∧
  (∀ a x, ((![v382] : Fin 1 → IVec S16 32) a x).toNat < S512.size a)
theorem k0_idx282_inb : ∀ (v382 : IVec S16 32) (k0_hw143 : k0_chk143 v382), ∀ a x, ((![v382] : Fin 1 → IVec S16 32) a x).toNat < S512.size a := fun v382 k0_hw143 => k0_hw143.1
theorem k0_idx283_inb : ∀ (v382 : IVec S16 32) (k0_hw143 : k0_chk143 v382), ∀ a x, ((![v382] : Fin 1 → IVec S16 32) a x).toNat < S512.size a := fun v382 k0_hw143 => k0_hw143.2
def k0_off147 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_126 : BitVec 32 := 16#32
  let v295 : BitVec 32 := Scalar.muli arg16 c16_i32_126
  let c1_i32_127 : BitVec 32 := 1#32
  let v296 : BitVec 32 := Scalar.addi v295 c1_i32_127
  let c0_i32_153 : BitVec 32 := 0#32
  ![v296.toNat, 0]

def k0_chk144 (v400 : IVec S16 32) : Prop :=
  (∀ a x, ((![v400] : Fin 1 → IVec S16 32) a x).toNat < S512.size a) ∧
  (∀ a x, ((![v400] : Fin 1 → IVec S16 32) a x).toNat < S512.size a)
theorem k0_idx284_inb : ∀ (v400 : IVec S16 32) (k0_hw144 : k0_chk144 v400), ∀ a x, ((![v400] : Fin 1 → IVec S16 32) a x).toNat < S512.size a := fun v400 k0_hw144 => k0_hw144.1
theorem k0_idx285_inb : ∀ (v400 : IVec S16 32) (k0_hw144 : k0_chk144 v400), ∀ a x, ((![v400] : Fin 1 → IVec S16 32) a x).toNat < S512.size a := fun v400 k0_hw144 => k0_hw144.2
def k0_off148 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_126 : BitVec 32 := 16#32
  let v295 : BitVec 32 := Scalar.muli arg16 c16_i32_126
  let c1_i32_127 : BitVec 32 := 1#32
  let v296 : BitVec 32 := Scalar.addi v295 c1_i32_127
  let c0_i32_158 : BitVec 32 := 0#32
  ![v296.toNat, 0]

def k0_chk145 (v418 : IVec S16 32) : Prop :=
  (∀ a x, ((![v418] : Fin 1 → IVec S16 32) a x).toNat < S512.size a) ∧
  (∀ a x, ((![v418] : Fin 1 → IVec S16 32) a x).toNat < S512.size a)
theorem k0_idx286_inb : ∀ (v418 : IVec S16 32) (k0_hw145 : k0_chk145 v418), ∀ a x, ((![v418] : Fin 1 → IVec S16 32) a x).toNat < S512.size a := fun v418 k0_hw145 => k0_hw145.1
theorem k0_idx287_inb : ∀ (v418 : IVec S16 32) (k0_hw145 : k0_chk145 v418), ∀ a x, ((![v418] : Fin 1 → IVec S16 32) a x).toNat < S512.size a := fun v418 k0_hw145 => k0_hw145.2
def k0_off149 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_126 : BitVec 32 := 16#32
  let v295 : BitVec 32 := Scalar.muli arg16 c16_i32_126
  let c1_i32_127 : BitVec 32 := 1#32
  let v296 : BitVec 32 := Scalar.addi v295 c1_i32_127
  let c0_i32_163 : BitVec 32 := 0#32
  ![v296.toNat, 0]

def k0_chk146 (v436 : IVec S16 32) : Prop :=
  (∀ a x, ((![v436] : Fin 1 → IVec S16 32) a x).toNat < S512.size a) ∧
  (∀ a x, ((![v436] : Fin 1 → IVec S16 32) a x).toNat < S512.size a)
theorem k0_idx288_inb : ∀ (v436 : IVec S16 32) (k0_hw146 : k0_chk146 v436), ∀ a x, ((![v436] : Fin 1 → IVec S16 32) a x).toNat < S512.size a := fun v436 k0_hw146 => k0_hw146.1
theorem k0_idx289_inb : ∀ (v436 : IVec S16 32) (k0_hw146 : k0_chk146 v436), ∀ a x, ((![v436] : Fin 1 → IVec S16 32) a x).toNat < S512.size a := fun v436 k0_hw146 => k0_hw146.2
def k0_off150 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_170 : BitVec 32 := 16#32
  let v446 : BitVec 32 := Scalar.muli arg16 c16_i32_170
  let c2_i32_171 : BitVec 32 := 2#32
  let v447 : BitVec 32 := Scalar.addi v446 c2_i32_171
  let c0_i32_172 : BitVec 32 := 0#32
  ![v447.toNat, 0]

def k0_chk147 (v461 : IVec S16 32) : Prop :=
  (∀ a x, ((![v461] : Fin 1 → IVec S16 32) a x).toNat < S512.size a) ∧
  (∀ a x, ((![v461] : Fin 1 → IVec S16 32) a x).toNat < S512.size a)
theorem k0_idx290_inb : ∀ (v461 : IVec S16 32) (k0_hw147 : k0_chk147 v461), ∀ a x, ((![v461] : Fin 1 → IVec S16 32) a x).toNat < S512.size a := fun v461 k0_hw147 => k0_hw147.1
theorem k0_idx291_inb : ∀ (v461 : IVec S16 32) (k0_hw147 : k0_chk147 v461), ∀ a x, ((![v461] : Fin 1 → IVec S16 32) a x).toNat < S512.size a := fun v461 k0_hw147 => k0_hw147.2
def k0_off151 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_170 : BitVec 32 := 16#32
  let v446 : BitVec 32 := Scalar.muli arg16 c16_i32_170
  let c2_i32_171 : BitVec 32 := 2#32
  let v447 : BitVec 32 := Scalar.addi v446 c2_i32_171
  let c0_i32_177 : BitVec 32 := 0#32
  ![v447.toNat, 0]

def k0_chk148 (v479 : IVec S16 32) : Prop :=
  (∀ a x, ((![v479] : Fin 1 → IVec S16 32) a x).toNat < S512.size a) ∧
  (∀ a x, ((![v479] : Fin 1 → IVec S16 32) a x).toNat < S512.size a)
theorem k0_idx292_inb : ∀ (v479 : IVec S16 32) (k0_hw148 : k0_chk148 v479), ∀ a x, ((![v479] : Fin 1 → IVec S16 32) a x).toNat < S512.size a := fun v479 k0_hw148 => k0_hw148.1
theorem k0_idx293_inb : ∀ (v479 : IVec S16 32) (k0_hw148 : k0_chk148 v479), ∀ a x, ((![v479] : Fin 1 → IVec S16 32) a x).toNat < S512.size a := fun v479 k0_hw148 => k0_hw148.2
def k0_off152 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_170 : BitVec 32 := 16#32
  let v446 : BitVec 32 := Scalar.muli arg16 c16_i32_170
  let c2_i32_171 : BitVec 32 := 2#32
  let v447 : BitVec 32 := Scalar.addi v446 c2_i32_171
  let c0_i32_182 : BitVec 32 := 0#32
  ![v447.toNat, 0]

def k0_chk149 (v497 : IVec S16 32) : Prop :=
  (∀ a x, ((![v497] : Fin 1 → IVec S16 32) a x).toNat < S512.size a) ∧
  (∀ a x, ((![v497] : Fin 1 → IVec S16 32) a x).toNat < S512.size a)
theorem k0_idx294_inb : ∀ (v497 : IVec S16 32) (k0_hw149 : k0_chk149 v497), ∀ a x, ((![v497] : Fin 1 → IVec S16 32) a x).toNat < S512.size a := fun v497 k0_hw149 => k0_hw149.1
theorem k0_idx295_inb : ∀ (v497 : IVec S16 32) (k0_hw149 : k0_chk149 v497), ∀ a x, ((![v497] : Fin 1 → IVec S16 32) a x).toNat < S512.size a := fun v497 k0_hw149 => k0_hw149.2
def k0_off153 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_170 : BitVec 32 := 16#32
  let v446 : BitVec 32 := Scalar.muli arg16 c16_i32_170
  let c2_i32_171 : BitVec 32 := 2#32
  let v447 : BitVec 32 := Scalar.addi v446 c2_i32_171
  let c0_i32_187 : BitVec 32 := 0#32
  ![v447.toNat, 0]

def k0_chk150 (v515 : IVec S16 32) : Prop :=
  (∀ a x, ((![v515] : Fin 1 → IVec S16 32) a x).toNat < S512.size a) ∧
  (∀ a x, ((![v515] : Fin 1 → IVec S16 32) a x).toNat < S512.size a)
theorem k0_idx296_inb : ∀ (v515 : IVec S16 32) (k0_hw150 : k0_chk150 v515), ∀ a x, ((![v515] : Fin 1 → IVec S16 32) a x).toNat < S512.size a := fun v515 k0_hw150 => k0_hw150.1
theorem k0_idx297_inb : ∀ (v515 : IVec S16 32) (k0_hw150 : k0_chk150 v515), ∀ a x, ((![v515] : Fin 1 → IVec S16 32) a x).toNat < S512.size a := fun v515 k0_hw150 => k0_hw150.2
def k0_off154 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_170 : BitVec 32 := 16#32
  let v446 : BitVec 32 := Scalar.muli arg16 c16_i32_170
  let c2_i32_171 : BitVec 32 := 2#32
  let v447 : BitVec 32 := Scalar.addi v446 c2_i32_171
  let c0_i32_192 : BitVec 32 := 0#32
  ![v447.toNat, 0]

def k0_chk151 (v533 : IVec S16 32) : Prop :=
  (∀ a x, ((![v533] : Fin 1 → IVec S16 32) a x).toNat < S512.size a) ∧
  (∀ a x, ((![v533] : Fin 1 → IVec S16 32) a x).toNat < S512.size a)
theorem k0_idx298_inb : ∀ (v533 : IVec S16 32) (k0_hw151 : k0_chk151 v533), ∀ a x, ((![v533] : Fin 1 → IVec S16 32) a x).toNat < S512.size a := fun v533 k0_hw151 => k0_hw151.1
theorem k0_idx299_inb : ∀ (v533 : IVec S16 32) (k0_hw151 : k0_chk151 v533), ∀ a x, ((![v533] : Fin 1 → IVec S16 32) a x).toNat < S512.size a := fun v533 k0_hw151 => k0_hw151.2
def k0_off155 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_170 : BitVec 32 := 16#32
  let v446 : BitVec 32 := Scalar.muli arg16 c16_i32_170
  let c2_i32_171 : BitVec 32 := 2#32
  let v447 : BitVec 32 := Scalar.addi v446 c2_i32_171
  let c0_i32_197 : BitVec 32 := 0#32
  ![v447.toNat, 0]

def k0_chk152 (v551 : IVec S16 32) : Prop :=
  (∀ a x, ((![v551] : Fin 1 → IVec S16 32) a x).toNat < S512.size a) ∧
  (∀ a x, ((![v551] : Fin 1 → IVec S16 32) a x).toNat < S512.size a)
theorem k0_idx300_inb : ∀ (v551 : IVec S16 32) (k0_hw152 : k0_chk152 v551), ∀ a x, ((![v551] : Fin 1 → IVec S16 32) a x).toNat < S512.size a := fun v551 k0_hw152 => k0_hw152.1
theorem k0_idx301_inb : ∀ (v551 : IVec S16 32) (k0_hw152 : k0_chk152 v551), ∀ a x, ((![v551] : Fin 1 → IVec S16 32) a x).toNat < S512.size a := fun v551 k0_hw152 => k0_hw152.2
def k0_off156 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_170 : BitVec 32 := 16#32
  let v446 : BitVec 32 := Scalar.muli arg16 c16_i32_170
  let c2_i32_171 : BitVec 32 := 2#32
  let v447 : BitVec 32 := Scalar.addi v446 c2_i32_171
  let c0_i32_202 : BitVec 32 := 0#32
  ![v447.toNat, 0]

def k0_chk153 (v569 : IVec S16 32) : Prop :=
  (∀ a x, ((![v569] : Fin 1 → IVec S16 32) a x).toNat < S512.size a) ∧
  (∀ a x, ((![v569] : Fin 1 → IVec S16 32) a x).toNat < S512.size a)
theorem k0_idx302_inb : ∀ (v569 : IVec S16 32) (k0_hw153 : k0_chk153 v569), ∀ a x, ((![v569] : Fin 1 → IVec S16 32) a x).toNat < S512.size a := fun v569 k0_hw153 => k0_hw153.1
theorem k0_idx303_inb : ∀ (v569 : IVec S16 32) (k0_hw153 : k0_chk153 v569), ∀ a x, ((![v569] : Fin 1 → IVec S16 32) a x).toNat < S512.size a := fun v569 k0_hw153 => k0_hw153.2
def k0_off157 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_170 : BitVec 32 := 16#32
  let v446 : BitVec 32 := Scalar.muli arg16 c16_i32_170
  let c2_i32_171 : BitVec 32 := 2#32
  let v447 : BitVec 32 := Scalar.addi v446 c2_i32_171
  let c0_i32_207 : BitVec 32 := 0#32
  ![v447.toNat, 0]

def k0_chk154 (v587 : IVec S16 32) : Prop :=
  (∀ a x, ((![v587] : Fin 1 → IVec S16 32) a x).toNat < S512.size a) ∧
  (∀ a x, ((![v587] : Fin 1 → IVec S16 32) a x).toNat < S512.size a)
theorem k0_idx304_inb : ∀ (v587 : IVec S16 32) (k0_hw154 : k0_chk154 v587), ∀ a x, ((![v587] : Fin 1 → IVec S16 32) a x).toNat < S512.size a := fun v587 k0_hw154 => k0_hw154.1
theorem k0_idx305_inb : ∀ (v587 : IVec S16 32) (k0_hw154 : k0_chk154 v587), ∀ a x, ((![v587] : Fin 1 → IVec S16 32) a x).toNat < S512.size a := fun v587 k0_hw154 => k0_hw154.2
def k0_off158 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_214 : BitVec 32 := 16#32
  let v597 : BitVec 32 := Scalar.muli arg16 c16_i32_214
  let c3_i32 : BitVec 32 := 3#32
  let v598 : BitVec 32 := Scalar.addi v597 c3_i32
  let c0_i32_215 : BitVec 32 := 0#32
  ![v598.toNat, 0]

def k0_chk155 (v612 : IVec S16 32) : Prop :=
  (∀ a x, ((![v612] : Fin 1 → IVec S16 32) a x).toNat < S512.size a) ∧
  (∀ a x, ((![v612] : Fin 1 → IVec S16 32) a x).toNat < S512.size a)
theorem k0_idx306_inb : ∀ (v612 : IVec S16 32) (k0_hw155 : k0_chk155 v612), ∀ a x, ((![v612] : Fin 1 → IVec S16 32) a x).toNat < S512.size a := fun v612 k0_hw155 => k0_hw155.1
theorem k0_idx307_inb : ∀ (v612 : IVec S16 32) (k0_hw155 : k0_chk155 v612), ∀ a x, ((![v612] : Fin 1 → IVec S16 32) a x).toNat < S512.size a := fun v612 k0_hw155 => k0_hw155.2
def k0_off159 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_214 : BitVec 32 := 16#32
  let v597 : BitVec 32 := Scalar.muli arg16 c16_i32_214
  let c3_i32 : BitVec 32 := 3#32
  let v598 : BitVec 32 := Scalar.addi v597 c3_i32
  let c0_i32_220 : BitVec 32 := 0#32
  ![v598.toNat, 0]

def k0_chk156 (v630 : IVec S16 32) : Prop :=
  (∀ a x, ((![v630] : Fin 1 → IVec S16 32) a x).toNat < S512.size a) ∧
  (∀ a x, ((![v630] : Fin 1 → IVec S16 32) a x).toNat < S512.size a)
theorem k0_idx308_inb : ∀ (v630 : IVec S16 32) (k0_hw156 : k0_chk156 v630), ∀ a x, ((![v630] : Fin 1 → IVec S16 32) a x).toNat < S512.size a := fun v630 k0_hw156 => k0_hw156.1
theorem k0_idx309_inb : ∀ (v630 : IVec S16 32) (k0_hw156 : k0_chk156 v630), ∀ a x, ((![v630] : Fin 1 → IVec S16 32) a x).toNat < S512.size a := fun v630 k0_hw156 => k0_hw156.2
def k0_off160 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_214 : BitVec 32 := 16#32
  let v597 : BitVec 32 := Scalar.muli arg16 c16_i32_214
  let c3_i32 : BitVec 32 := 3#32
  let v598 : BitVec 32 := Scalar.addi v597 c3_i32
  let c0_i32_225 : BitVec 32 := 0#32
  ![v598.toNat, 0]

def k0_chk157 (v648 : IVec S16 32) : Prop :=
  (∀ a x, ((![v648] : Fin 1 → IVec S16 32) a x).toNat < S512.size a) ∧
  (∀ a x, ((![v648] : Fin 1 → IVec S16 32) a x).toNat < S512.size a)
theorem k0_idx310_inb : ∀ (v648 : IVec S16 32) (k0_hw157 : k0_chk157 v648), ∀ a x, ((![v648] : Fin 1 → IVec S16 32) a x).toNat < S512.size a := fun v648 k0_hw157 => k0_hw157.1
theorem k0_idx311_inb : ∀ (v648 : IVec S16 32) (k0_hw157 : k0_chk157 v648), ∀ a x, ((![v648] : Fin 1 → IVec S16 32) a x).toNat < S512.size a := fun v648 k0_hw157 => k0_hw157.2
def k0_off161 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_214 : BitVec 32 := 16#32
  let v597 : BitVec 32 := Scalar.muli arg16 c16_i32_214
  let c3_i32 : BitVec 32 := 3#32
  let v598 : BitVec 32 := Scalar.addi v597 c3_i32
  let c0_i32_230 : BitVec 32 := 0#32
  ![v598.toNat, 0]

def k0_chk158 (v666 : IVec S16 32) : Prop :=
  (∀ a x, ((![v666] : Fin 1 → IVec S16 32) a x).toNat < S512.size a) ∧
  (∀ a x, ((![v666] : Fin 1 → IVec S16 32) a x).toNat < S512.size a)
theorem k0_idx312_inb : ∀ (v666 : IVec S16 32) (k0_hw158 : k0_chk158 v666), ∀ a x, ((![v666] : Fin 1 → IVec S16 32) a x).toNat < S512.size a := fun v666 k0_hw158 => k0_hw158.1
theorem k0_idx313_inb : ∀ (v666 : IVec S16 32) (k0_hw158 : k0_chk158 v666), ∀ a x, ((![v666] : Fin 1 → IVec S16 32) a x).toNat < S512.size a := fun v666 k0_hw158 => k0_hw158.2
def k0_off162 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_214 : BitVec 32 := 16#32
  let v597 : BitVec 32 := Scalar.muli arg16 c16_i32_214
  let c3_i32 : BitVec 32 := 3#32
  let v598 : BitVec 32 := Scalar.addi v597 c3_i32
  let c0_i32_235 : BitVec 32 := 0#32
  ![v598.toNat, 0]

def k0_chk159 (v684 : IVec S16 32) : Prop :=
  (∀ a x, ((![v684] : Fin 1 → IVec S16 32) a x).toNat < S512.size a) ∧
  (∀ a x, ((![v684] : Fin 1 → IVec S16 32) a x).toNat < S512.size a)
theorem k0_idx314_inb : ∀ (v684 : IVec S16 32) (k0_hw159 : k0_chk159 v684), ∀ a x, ((![v684] : Fin 1 → IVec S16 32) a x).toNat < S512.size a := fun v684 k0_hw159 => k0_hw159.1
theorem k0_idx315_inb : ∀ (v684 : IVec S16 32) (k0_hw159 : k0_chk159 v684), ∀ a x, ((![v684] : Fin 1 → IVec S16 32) a x).toNat < S512.size a := fun v684 k0_hw159 => k0_hw159.2
def k0_off163 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_214 : BitVec 32 := 16#32
  let v597 : BitVec 32 := Scalar.muli arg16 c16_i32_214
  let c3_i32 : BitVec 32 := 3#32
  let v598 : BitVec 32 := Scalar.addi v597 c3_i32
  let c0_i32_240 : BitVec 32 := 0#32
  ![v598.toNat, 0]

def k0_chk160 (v702 : IVec S16 32) : Prop :=
  (∀ a x, ((![v702] : Fin 1 → IVec S16 32) a x).toNat < S512.size a) ∧
  (∀ a x, ((![v702] : Fin 1 → IVec S16 32) a x).toNat < S512.size a)
theorem k0_idx316_inb : ∀ (v702 : IVec S16 32) (k0_hw160 : k0_chk160 v702), ∀ a x, ((![v702] : Fin 1 → IVec S16 32) a x).toNat < S512.size a := fun v702 k0_hw160 => k0_hw160.1
theorem k0_idx317_inb : ∀ (v702 : IVec S16 32) (k0_hw160 : k0_chk160 v702), ∀ a x, ((![v702] : Fin 1 → IVec S16 32) a x).toNat < S512.size a := fun v702 k0_hw160 => k0_hw160.2
def k0_off164 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_214 : BitVec 32 := 16#32
  let v597 : BitVec 32 := Scalar.muli arg16 c16_i32_214
  let c3_i32 : BitVec 32 := 3#32
  let v598 : BitVec 32 := Scalar.addi v597 c3_i32
  let c0_i32_245 : BitVec 32 := 0#32
  ![v598.toNat, 0]

def k0_chk161 (v720 : IVec S16 32) : Prop :=
  (∀ a x, ((![v720] : Fin 1 → IVec S16 32) a x).toNat < S512.size a) ∧
  (∀ a x, ((![v720] : Fin 1 → IVec S16 32) a x).toNat < S512.size a)
theorem k0_idx318_inb : ∀ (v720 : IVec S16 32) (k0_hw161 : k0_chk161 v720), ∀ a x, ((![v720] : Fin 1 → IVec S16 32) a x).toNat < S512.size a := fun v720 k0_hw161 => k0_hw161.1
theorem k0_idx319_inb : ∀ (v720 : IVec S16 32) (k0_hw161 : k0_chk161 v720), ∀ a x, ((![v720] : Fin 1 → IVec S16 32) a x).toNat < S512.size a := fun v720 k0_hw161 => k0_hw161.2
def k0_off165 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_214 : BitVec 32 := 16#32
  let v597 : BitVec 32 := Scalar.muli arg16 c16_i32_214
  let c3_i32 : BitVec 32 := 3#32
  let v598 : BitVec 32 := Scalar.addi v597 c3_i32
  let c0_i32_250 : BitVec 32 := 0#32
  ![v598.toNat, 0]

def k0_chk162 (v738 : IVec S16 32) : Prop :=
  (∀ a x, ((![v738] : Fin 1 → IVec S16 32) a x).toNat < S512.size a) ∧
  (∀ a x, ((![v738] : Fin 1 → IVec S16 32) a x).toNat < S512.size a)
theorem k0_idx320_inb : ∀ (v738 : IVec S16 32) (k0_hw162 : k0_chk162 v738), ∀ a x, ((![v738] : Fin 1 → IVec S16 32) a x).toNat < S512.size a := fun v738 k0_hw162 => k0_hw162.1
theorem k0_idx321_inb : ∀ (v738 : IVec S16 32) (k0_hw162 : k0_chk162 v738), ∀ a x, ((![v738] : Fin 1 → IVec S16 32) a x).toNat < S512.size a := fun v738 k0_hw162 => k0_hw162.2
def k0_off166 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_257 : BitVec 32 := 16#32
  let v748 : BitVec 32 := Scalar.muli arg16 c16_i32_257
  let c4_i32 : BitVec 32 := 4#32
  let v749 : BitVec 32 := Scalar.addi v748 c4_i32
  let c0_i32_258 : BitVec 32 := 0#32
  ![v749.toNat, 0]

def k0_chk163 (v763 : IVec S16 32) : Prop :=
  (∀ a x, ((![v763] : Fin 1 → IVec S16 32) a x).toNat < S512.size a) ∧
  (∀ a x, ((![v763] : Fin 1 → IVec S16 32) a x).toNat < S512.size a)
theorem k0_idx322_inb : ∀ (v763 : IVec S16 32) (k0_hw163 : k0_chk163 v763), ∀ a x, ((![v763] : Fin 1 → IVec S16 32) a x).toNat < S512.size a := fun v763 k0_hw163 => k0_hw163.1
theorem k0_idx323_inb : ∀ (v763 : IVec S16 32) (k0_hw163 : k0_chk163 v763), ∀ a x, ((![v763] : Fin 1 → IVec S16 32) a x).toNat < S512.size a := fun v763 k0_hw163 => k0_hw163.2
def k0_off167 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_257 : BitVec 32 := 16#32
  let v748 : BitVec 32 := Scalar.muli arg16 c16_i32_257
  let c4_i32 : BitVec 32 := 4#32
  let v749 : BitVec 32 := Scalar.addi v748 c4_i32
  let c0_i32_263 : BitVec 32 := 0#32
  ![v749.toNat, 0]

def k0_chk164 (v781 : IVec S16 32) : Prop :=
  (∀ a x, ((![v781] : Fin 1 → IVec S16 32) a x).toNat < S512.size a) ∧
  (∀ a x, ((![v781] : Fin 1 → IVec S16 32) a x).toNat < S512.size a)
theorem k0_idx324_inb : ∀ (v781 : IVec S16 32) (k0_hw164 : k0_chk164 v781), ∀ a x, ((![v781] : Fin 1 → IVec S16 32) a x).toNat < S512.size a := fun v781 k0_hw164 => k0_hw164.1
theorem k0_idx325_inb : ∀ (v781 : IVec S16 32) (k0_hw164 : k0_chk164 v781), ∀ a x, ((![v781] : Fin 1 → IVec S16 32) a x).toNat < S512.size a := fun v781 k0_hw164 => k0_hw164.2
def k0_off168 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_257 : BitVec 32 := 16#32
  let v748 : BitVec 32 := Scalar.muli arg16 c16_i32_257
  let c4_i32 : BitVec 32 := 4#32
  let v749 : BitVec 32 := Scalar.addi v748 c4_i32
  let c0_i32_268 : BitVec 32 := 0#32
  ![v749.toNat, 0]

def k0_chk165 (v799 : IVec S16 32) : Prop :=
  (∀ a x, ((![v799] : Fin 1 → IVec S16 32) a x).toNat < S512.size a) ∧
  (∀ a x, ((![v799] : Fin 1 → IVec S16 32) a x).toNat < S512.size a)
theorem k0_idx326_inb : ∀ (v799 : IVec S16 32) (k0_hw165 : k0_chk165 v799), ∀ a x, ((![v799] : Fin 1 → IVec S16 32) a x).toNat < S512.size a := fun v799 k0_hw165 => k0_hw165.1
theorem k0_idx327_inb : ∀ (v799 : IVec S16 32) (k0_hw165 : k0_chk165 v799), ∀ a x, ((![v799] : Fin 1 → IVec S16 32) a x).toNat < S512.size a := fun v799 k0_hw165 => k0_hw165.2
def k0_off169 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_257 : BitVec 32 := 16#32
  let v748 : BitVec 32 := Scalar.muli arg16 c16_i32_257
  let c4_i32 : BitVec 32 := 4#32
  let v749 : BitVec 32 := Scalar.addi v748 c4_i32
  let c0_i32_273 : BitVec 32 := 0#32
  ![v749.toNat, 0]

def k0_chk166 (v817 : IVec S16 32) : Prop :=
  (∀ a x, ((![v817] : Fin 1 → IVec S16 32) a x).toNat < S512.size a) ∧
  (∀ a x, ((![v817] : Fin 1 → IVec S16 32) a x).toNat < S512.size a)
theorem k0_idx328_inb : ∀ (v817 : IVec S16 32) (k0_hw166 : k0_chk166 v817), ∀ a x, ((![v817] : Fin 1 → IVec S16 32) a x).toNat < S512.size a := fun v817 k0_hw166 => k0_hw166.1
theorem k0_idx329_inb : ∀ (v817 : IVec S16 32) (k0_hw166 : k0_chk166 v817), ∀ a x, ((![v817] : Fin 1 → IVec S16 32) a x).toNat < S512.size a := fun v817 k0_hw166 => k0_hw166.2
def k0_off170 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_257 : BitVec 32 := 16#32
  let v748 : BitVec 32 := Scalar.muli arg16 c16_i32_257
  let c4_i32 : BitVec 32 := 4#32
  let v749 : BitVec 32 := Scalar.addi v748 c4_i32
  let c0_i32_278 : BitVec 32 := 0#32
  ![v749.toNat, 0]

def k0_chk167 (v835 : IVec S16 32) : Prop :=
  (∀ a x, ((![v835] : Fin 1 → IVec S16 32) a x).toNat < S512.size a) ∧
  (∀ a x, ((![v835] : Fin 1 → IVec S16 32) a x).toNat < S512.size a)
theorem k0_idx330_inb : ∀ (v835 : IVec S16 32) (k0_hw167 : k0_chk167 v835), ∀ a x, ((![v835] : Fin 1 → IVec S16 32) a x).toNat < S512.size a := fun v835 k0_hw167 => k0_hw167.1
theorem k0_idx331_inb : ∀ (v835 : IVec S16 32) (k0_hw167 : k0_chk167 v835), ∀ a x, ((![v835] : Fin 1 → IVec S16 32) a x).toNat < S512.size a := fun v835 k0_hw167 => k0_hw167.2
def k0_off171 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_257 : BitVec 32 := 16#32
  let v748 : BitVec 32 := Scalar.muli arg16 c16_i32_257
  let c4_i32 : BitVec 32 := 4#32
  let v749 : BitVec 32 := Scalar.addi v748 c4_i32
  let c0_i32_283 : BitVec 32 := 0#32
  ![v749.toNat, 0]

def k0_chk168 (v853 : IVec S16 32) : Prop :=
  (∀ a x, ((![v853] : Fin 1 → IVec S16 32) a x).toNat < S512.size a) ∧
  (∀ a x, ((![v853] : Fin 1 → IVec S16 32) a x).toNat < S512.size a)
theorem k0_idx332_inb : ∀ (v853 : IVec S16 32) (k0_hw168 : k0_chk168 v853), ∀ a x, ((![v853] : Fin 1 → IVec S16 32) a x).toNat < S512.size a := fun v853 k0_hw168 => k0_hw168.1
theorem k0_idx333_inb : ∀ (v853 : IVec S16 32) (k0_hw168 : k0_chk168 v853), ∀ a x, ((![v853] : Fin 1 → IVec S16 32) a x).toNat < S512.size a := fun v853 k0_hw168 => k0_hw168.2
def k0_off172 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_257 : BitVec 32 := 16#32
  let v748 : BitVec 32 := Scalar.muli arg16 c16_i32_257
  let c4_i32 : BitVec 32 := 4#32
  let v749 : BitVec 32 := Scalar.addi v748 c4_i32
  let c0_i32_288 : BitVec 32 := 0#32
  ![v749.toNat, 0]

def k0_chk169 (v871 : IVec S16 32) : Prop :=
  (∀ a x, ((![v871] : Fin 1 → IVec S16 32) a x).toNat < S512.size a) ∧
  (∀ a x, ((![v871] : Fin 1 → IVec S16 32) a x).toNat < S512.size a)
theorem k0_idx334_inb : ∀ (v871 : IVec S16 32) (k0_hw169 : k0_chk169 v871), ∀ a x, ((![v871] : Fin 1 → IVec S16 32) a x).toNat < S512.size a := fun v871 k0_hw169 => k0_hw169.1
theorem k0_idx335_inb : ∀ (v871 : IVec S16 32) (k0_hw169 : k0_chk169 v871), ∀ a x, ((![v871] : Fin 1 → IVec S16 32) a x).toNat < S512.size a := fun v871 k0_hw169 => k0_hw169.2
def k0_off173 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_257 : BitVec 32 := 16#32
  let v748 : BitVec 32 := Scalar.muli arg16 c16_i32_257
  let c4_i32 : BitVec 32 := 4#32
  let v749 : BitVec 32 := Scalar.addi v748 c4_i32
  let c0_i32_293 : BitVec 32 := 0#32
  ![v749.toNat, 0]

def k0_chk170 (v889 : IVec S16 32) : Prop :=
  (∀ a x, ((![v889] : Fin 1 → IVec S16 32) a x).toNat < S512.size a) ∧
  (∀ a x, ((![v889] : Fin 1 → IVec S16 32) a x).toNat < S512.size a)
theorem k0_idx336_inb : ∀ (v889 : IVec S16 32) (k0_hw170 : k0_chk170 v889), ∀ a x, ((![v889] : Fin 1 → IVec S16 32) a x).toNat < S512.size a := fun v889 k0_hw170 => k0_hw170.1
theorem k0_idx337_inb : ∀ (v889 : IVec S16 32) (k0_hw170 : k0_chk170 v889), ∀ a x, ((![v889] : Fin 1 → IVec S16 32) a x).toNat < S512.size a := fun v889 k0_hw170 => k0_hw170.2
def k0_off174 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_300 : BitVec 32 := 16#32
  let v899 : BitVec 32 := Scalar.muli arg16 c16_i32_300
  let c5_i32 : BitVec 32 := 5#32
  let v900 : BitVec 32 := Scalar.addi v899 c5_i32
  let c0_i32_301 : BitVec 32 := 0#32
  ![v900.toNat, 0]

def k0_chk171 (v914 : IVec S16 32) : Prop :=
  (∀ a x, ((![v914] : Fin 1 → IVec S16 32) a x).toNat < S512.size a) ∧
  (∀ a x, ((![v914] : Fin 1 → IVec S16 32) a x).toNat < S512.size a)
theorem k0_idx338_inb : ∀ (v914 : IVec S16 32) (k0_hw171 : k0_chk171 v914), ∀ a x, ((![v914] : Fin 1 → IVec S16 32) a x).toNat < S512.size a := fun v914 k0_hw171 => k0_hw171.1
theorem k0_idx339_inb : ∀ (v914 : IVec S16 32) (k0_hw171 : k0_chk171 v914), ∀ a x, ((![v914] : Fin 1 → IVec S16 32) a x).toNat < S512.size a := fun v914 k0_hw171 => k0_hw171.2
def k0_off175 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_300 : BitVec 32 := 16#32
  let v899 : BitVec 32 := Scalar.muli arg16 c16_i32_300
  let c5_i32 : BitVec 32 := 5#32
  let v900 : BitVec 32 := Scalar.addi v899 c5_i32
  let c0_i32_306 : BitVec 32 := 0#32
  ![v900.toNat, 0]

def k0_chk172 (v932 : IVec S16 32) : Prop :=
  (∀ a x, ((![v932] : Fin 1 → IVec S16 32) a x).toNat < S512.size a) ∧
  (∀ a x, ((![v932] : Fin 1 → IVec S16 32) a x).toNat < S512.size a)
theorem k0_idx340_inb : ∀ (v932 : IVec S16 32) (k0_hw172 : k0_chk172 v932), ∀ a x, ((![v932] : Fin 1 → IVec S16 32) a x).toNat < S512.size a := fun v932 k0_hw172 => k0_hw172.1
theorem k0_idx341_inb : ∀ (v932 : IVec S16 32) (k0_hw172 : k0_chk172 v932), ∀ a x, ((![v932] : Fin 1 → IVec S16 32) a x).toNat < S512.size a := fun v932 k0_hw172 => k0_hw172.2
def k0_off176 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_300 : BitVec 32 := 16#32
  let v899 : BitVec 32 := Scalar.muli arg16 c16_i32_300
  let c5_i32 : BitVec 32 := 5#32
  let v900 : BitVec 32 := Scalar.addi v899 c5_i32
  let c0_i32_311 : BitVec 32 := 0#32
  ![v900.toNat, 0]

def k0_chk173 (v950 : IVec S16 32) : Prop :=
  (∀ a x, ((![v950] : Fin 1 → IVec S16 32) a x).toNat < S512.size a) ∧
  (∀ a x, ((![v950] : Fin 1 → IVec S16 32) a x).toNat < S512.size a)
theorem k0_idx342_inb : ∀ (v950 : IVec S16 32) (k0_hw173 : k0_chk173 v950), ∀ a x, ((![v950] : Fin 1 → IVec S16 32) a x).toNat < S512.size a := fun v950 k0_hw173 => k0_hw173.1
theorem k0_idx343_inb : ∀ (v950 : IVec S16 32) (k0_hw173 : k0_chk173 v950), ∀ a x, ((![v950] : Fin 1 → IVec S16 32) a x).toNat < S512.size a := fun v950 k0_hw173 => k0_hw173.2
def k0_off177 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_300 : BitVec 32 := 16#32
  let v899 : BitVec 32 := Scalar.muli arg16 c16_i32_300
  let c5_i32 : BitVec 32 := 5#32
  let v900 : BitVec 32 := Scalar.addi v899 c5_i32
  let c0_i32_316 : BitVec 32 := 0#32
  ![v900.toNat, 0]

def k0_chk174 (v968 : IVec S16 32) : Prop :=
  (∀ a x, ((![v968] : Fin 1 → IVec S16 32) a x).toNat < S512.size a) ∧
  (∀ a x, ((![v968] : Fin 1 → IVec S16 32) a x).toNat < S512.size a)
theorem k0_idx344_inb : ∀ (v968 : IVec S16 32) (k0_hw174 : k0_chk174 v968), ∀ a x, ((![v968] : Fin 1 → IVec S16 32) a x).toNat < S512.size a := fun v968 k0_hw174 => k0_hw174.1
theorem k0_idx345_inb : ∀ (v968 : IVec S16 32) (k0_hw174 : k0_chk174 v968), ∀ a x, ((![v968] : Fin 1 → IVec S16 32) a x).toNat < S512.size a := fun v968 k0_hw174 => k0_hw174.2
def k0_off178 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_300 : BitVec 32 := 16#32
  let v899 : BitVec 32 := Scalar.muli arg16 c16_i32_300
  let c5_i32 : BitVec 32 := 5#32
  let v900 : BitVec 32 := Scalar.addi v899 c5_i32
  let c0_i32_321 : BitVec 32 := 0#32
  ![v900.toNat, 0]

def k0_chk175 (v986 : IVec S16 32) : Prop :=
  (∀ a x, ((![v986] : Fin 1 → IVec S16 32) a x).toNat < S512.size a) ∧
  (∀ a x, ((![v986] : Fin 1 → IVec S16 32) a x).toNat < S512.size a)
theorem k0_idx346_inb : ∀ (v986 : IVec S16 32) (k0_hw175 : k0_chk175 v986), ∀ a x, ((![v986] : Fin 1 → IVec S16 32) a x).toNat < S512.size a := fun v986 k0_hw175 => k0_hw175.1
theorem k0_idx347_inb : ∀ (v986 : IVec S16 32) (k0_hw175 : k0_chk175 v986), ∀ a x, ((![v986] : Fin 1 → IVec S16 32) a x).toNat < S512.size a := fun v986 k0_hw175 => k0_hw175.2
def k0_off179 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_300 : BitVec 32 := 16#32
  let v899 : BitVec 32 := Scalar.muli arg16 c16_i32_300
  let c5_i32 : BitVec 32 := 5#32
  let v900 : BitVec 32 := Scalar.addi v899 c5_i32
  let c0_i32_326 : BitVec 32 := 0#32
  ![v900.toNat, 0]

def k0_chk176 (v1004 : IVec S16 32) : Prop :=
  (∀ a x, ((![v1004] : Fin 1 → IVec S16 32) a x).toNat < S512.size a) ∧
  (∀ a x, ((![v1004] : Fin 1 → IVec S16 32) a x).toNat < S512.size a)
theorem k0_idx348_inb : ∀ (v1004 : IVec S16 32) (k0_hw176 : k0_chk176 v1004), ∀ a x, ((![v1004] : Fin 1 → IVec S16 32) a x).toNat < S512.size a := fun v1004 k0_hw176 => k0_hw176.1
theorem k0_idx349_inb : ∀ (v1004 : IVec S16 32) (k0_hw176 : k0_chk176 v1004), ∀ a x, ((![v1004] : Fin 1 → IVec S16 32) a x).toNat < S512.size a := fun v1004 k0_hw176 => k0_hw176.2
def k0_off180 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_300 : BitVec 32 := 16#32
  let v899 : BitVec 32 := Scalar.muli arg16 c16_i32_300
  let c5_i32 : BitVec 32 := 5#32
  let v900 : BitVec 32 := Scalar.addi v899 c5_i32
  let c0_i32_331 : BitVec 32 := 0#32
  ![v900.toNat, 0]

def k0_chk177 (v1022 : IVec S16 32) : Prop :=
  (∀ a x, ((![v1022] : Fin 1 → IVec S16 32) a x).toNat < S512.size a) ∧
  (∀ a x, ((![v1022] : Fin 1 → IVec S16 32) a x).toNat < S512.size a)
theorem k0_idx350_inb : ∀ (v1022 : IVec S16 32) (k0_hw177 : k0_chk177 v1022), ∀ a x, ((![v1022] : Fin 1 → IVec S16 32) a x).toNat < S512.size a := fun v1022 k0_hw177 => k0_hw177.1
theorem k0_idx351_inb : ∀ (v1022 : IVec S16 32) (k0_hw177 : k0_chk177 v1022), ∀ a x, ((![v1022] : Fin 1 → IVec S16 32) a x).toNat < S512.size a := fun v1022 k0_hw177 => k0_hw177.2
def k0_off181 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_300 : BitVec 32 := 16#32
  let v899 : BitVec 32 := Scalar.muli arg16 c16_i32_300
  let c5_i32 : BitVec 32 := 5#32
  let v900 : BitVec 32 := Scalar.addi v899 c5_i32
  let c0_i32_336 : BitVec 32 := 0#32
  ![v900.toNat, 0]

def k0_chk178 (v1040 : IVec S16 32) : Prop :=
  (∀ a x, ((![v1040] : Fin 1 → IVec S16 32) a x).toNat < S512.size a) ∧
  (∀ a x, ((![v1040] : Fin 1 → IVec S16 32) a x).toNat < S512.size a)
theorem k0_idx352_inb : ∀ (v1040 : IVec S16 32) (k0_hw178 : k0_chk178 v1040), ∀ a x, ((![v1040] : Fin 1 → IVec S16 32) a x).toNat < S512.size a := fun v1040 k0_hw178 => k0_hw178.1
theorem k0_idx353_inb : ∀ (v1040 : IVec S16 32) (k0_hw178 : k0_chk178 v1040), ∀ a x, ((![v1040] : Fin 1 → IVec S16 32) a x).toNat < S512.size a := fun v1040 k0_hw178 => k0_hw178.2
def k0_off182 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_343 : BitVec 32 := 16#32
  let v1050 : BitVec 32 := Scalar.muli arg16 c16_i32_343
  let c6_i32 : BitVec 32 := 6#32
  let v1051 : BitVec 32 := Scalar.addi v1050 c6_i32
  let c0_i32_344 : BitVec 32 := 0#32
  ![v1051.toNat, 0]

def k0_chk179 (v1065 : IVec S16 32) : Prop :=
  (∀ a x, ((![v1065] : Fin 1 → IVec S16 32) a x).toNat < S512.size a) ∧
  (∀ a x, ((![v1065] : Fin 1 → IVec S16 32) a x).toNat < S512.size a)
theorem k0_idx354_inb : ∀ (v1065 : IVec S16 32) (k0_hw179 : k0_chk179 v1065), ∀ a x, ((![v1065] : Fin 1 → IVec S16 32) a x).toNat < S512.size a := fun v1065 k0_hw179 => k0_hw179.1
theorem k0_idx355_inb : ∀ (v1065 : IVec S16 32) (k0_hw179 : k0_chk179 v1065), ∀ a x, ((![v1065] : Fin 1 → IVec S16 32) a x).toNat < S512.size a := fun v1065 k0_hw179 => k0_hw179.2
def k0_off183 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_343 : BitVec 32 := 16#32
  let v1050 : BitVec 32 := Scalar.muli arg16 c16_i32_343
  let c6_i32 : BitVec 32 := 6#32
  let v1051 : BitVec 32 := Scalar.addi v1050 c6_i32
  let c0_i32_349 : BitVec 32 := 0#32
  ![v1051.toNat, 0]

def k0_chk180 (v1083 : IVec S16 32) : Prop :=
  (∀ a x, ((![v1083] : Fin 1 → IVec S16 32) a x).toNat < S512.size a) ∧
  (∀ a x, ((![v1083] : Fin 1 → IVec S16 32) a x).toNat < S512.size a)
theorem k0_idx356_inb : ∀ (v1083 : IVec S16 32) (k0_hw180 : k0_chk180 v1083), ∀ a x, ((![v1083] : Fin 1 → IVec S16 32) a x).toNat < S512.size a := fun v1083 k0_hw180 => k0_hw180.1
theorem k0_idx357_inb : ∀ (v1083 : IVec S16 32) (k0_hw180 : k0_chk180 v1083), ∀ a x, ((![v1083] : Fin 1 → IVec S16 32) a x).toNat < S512.size a := fun v1083 k0_hw180 => k0_hw180.2
def k0_off184 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_343 : BitVec 32 := 16#32
  let v1050 : BitVec 32 := Scalar.muli arg16 c16_i32_343
  let c6_i32 : BitVec 32 := 6#32
  let v1051 : BitVec 32 := Scalar.addi v1050 c6_i32
  let c0_i32_354 : BitVec 32 := 0#32
  ![v1051.toNat, 0]

def k0_chk181 (v1101 : IVec S16 32) : Prop :=
  (∀ a x, ((![v1101] : Fin 1 → IVec S16 32) a x).toNat < S512.size a) ∧
  (∀ a x, ((![v1101] : Fin 1 → IVec S16 32) a x).toNat < S512.size a)
theorem k0_idx358_inb : ∀ (v1101 : IVec S16 32) (k0_hw181 : k0_chk181 v1101), ∀ a x, ((![v1101] : Fin 1 → IVec S16 32) a x).toNat < S512.size a := fun v1101 k0_hw181 => k0_hw181.1
theorem k0_idx359_inb : ∀ (v1101 : IVec S16 32) (k0_hw181 : k0_chk181 v1101), ∀ a x, ((![v1101] : Fin 1 → IVec S16 32) a x).toNat < S512.size a := fun v1101 k0_hw181 => k0_hw181.2
def k0_off185 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_343 : BitVec 32 := 16#32
  let v1050 : BitVec 32 := Scalar.muli arg16 c16_i32_343
  let c6_i32 : BitVec 32 := 6#32
  let v1051 : BitVec 32 := Scalar.addi v1050 c6_i32
  let c0_i32_359 : BitVec 32 := 0#32
  ![v1051.toNat, 0]

def k0_chk182 (v1119 : IVec S16 32) : Prop :=
  (∀ a x, ((![v1119] : Fin 1 → IVec S16 32) a x).toNat < S512.size a) ∧
  (∀ a x, ((![v1119] : Fin 1 → IVec S16 32) a x).toNat < S512.size a)
theorem k0_idx360_inb : ∀ (v1119 : IVec S16 32) (k0_hw182 : k0_chk182 v1119), ∀ a x, ((![v1119] : Fin 1 → IVec S16 32) a x).toNat < S512.size a := fun v1119 k0_hw182 => k0_hw182.1
theorem k0_idx361_inb : ∀ (v1119 : IVec S16 32) (k0_hw182 : k0_chk182 v1119), ∀ a x, ((![v1119] : Fin 1 → IVec S16 32) a x).toNat < S512.size a := fun v1119 k0_hw182 => k0_hw182.2
def k0_off186 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_343 : BitVec 32 := 16#32
  let v1050 : BitVec 32 := Scalar.muli arg16 c16_i32_343
  let c6_i32 : BitVec 32 := 6#32
  let v1051 : BitVec 32 := Scalar.addi v1050 c6_i32
  let c0_i32_364 : BitVec 32 := 0#32
  ![v1051.toNat, 0]

def k0_chk183 (v1137 : IVec S16 32) : Prop :=
  (∀ a x, ((![v1137] : Fin 1 → IVec S16 32) a x).toNat < S512.size a) ∧
  (∀ a x, ((![v1137] : Fin 1 → IVec S16 32) a x).toNat < S512.size a)
theorem k0_idx362_inb : ∀ (v1137 : IVec S16 32) (k0_hw183 : k0_chk183 v1137), ∀ a x, ((![v1137] : Fin 1 → IVec S16 32) a x).toNat < S512.size a := fun v1137 k0_hw183 => k0_hw183.1
theorem k0_idx363_inb : ∀ (v1137 : IVec S16 32) (k0_hw183 : k0_chk183 v1137), ∀ a x, ((![v1137] : Fin 1 → IVec S16 32) a x).toNat < S512.size a := fun v1137 k0_hw183 => k0_hw183.2
def k0_off187 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_343 : BitVec 32 := 16#32
  let v1050 : BitVec 32 := Scalar.muli arg16 c16_i32_343
  let c6_i32 : BitVec 32 := 6#32
  let v1051 : BitVec 32 := Scalar.addi v1050 c6_i32
  let c0_i32_369 : BitVec 32 := 0#32
  ![v1051.toNat, 0]

def k0_chk184 (v1155 : IVec S16 32) : Prop :=
  (∀ a x, ((![v1155] : Fin 1 → IVec S16 32) a x).toNat < S512.size a) ∧
  (∀ a x, ((![v1155] : Fin 1 → IVec S16 32) a x).toNat < S512.size a)
theorem k0_idx364_inb : ∀ (v1155 : IVec S16 32) (k0_hw184 : k0_chk184 v1155), ∀ a x, ((![v1155] : Fin 1 → IVec S16 32) a x).toNat < S512.size a := fun v1155 k0_hw184 => k0_hw184.1
theorem k0_idx365_inb : ∀ (v1155 : IVec S16 32) (k0_hw184 : k0_chk184 v1155), ∀ a x, ((![v1155] : Fin 1 → IVec S16 32) a x).toNat < S512.size a := fun v1155 k0_hw184 => k0_hw184.2
def k0_off188 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_343 : BitVec 32 := 16#32
  let v1050 : BitVec 32 := Scalar.muli arg16 c16_i32_343
  let c6_i32 : BitVec 32 := 6#32
  let v1051 : BitVec 32 := Scalar.addi v1050 c6_i32
  let c0_i32_374 : BitVec 32 := 0#32
  ![v1051.toNat, 0]

def k0_chk185 (v1173 : IVec S16 32) : Prop :=
  (∀ a x, ((![v1173] : Fin 1 → IVec S16 32) a x).toNat < S512.size a) ∧
  (∀ a x, ((![v1173] : Fin 1 → IVec S16 32) a x).toNat < S512.size a)
theorem k0_idx366_inb : ∀ (v1173 : IVec S16 32) (k0_hw185 : k0_chk185 v1173), ∀ a x, ((![v1173] : Fin 1 → IVec S16 32) a x).toNat < S512.size a := fun v1173 k0_hw185 => k0_hw185.1
theorem k0_idx367_inb : ∀ (v1173 : IVec S16 32) (k0_hw185 : k0_chk185 v1173), ∀ a x, ((![v1173] : Fin 1 → IVec S16 32) a x).toNat < S512.size a := fun v1173 k0_hw185 => k0_hw185.2
def k0_off189 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_343 : BitVec 32 := 16#32
  let v1050 : BitVec 32 := Scalar.muli arg16 c16_i32_343
  let c6_i32 : BitVec 32 := 6#32
  let v1051 : BitVec 32 := Scalar.addi v1050 c6_i32
  let c0_i32_379 : BitVec 32 := 0#32
  ![v1051.toNat, 0]

def k0_chk186 (v1191 : IVec S16 32) : Prop :=
  (∀ a x, ((![v1191] : Fin 1 → IVec S16 32) a x).toNat < S512.size a) ∧
  (∀ a x, ((![v1191] : Fin 1 → IVec S16 32) a x).toNat < S512.size a)
theorem k0_idx368_inb : ∀ (v1191 : IVec S16 32) (k0_hw186 : k0_chk186 v1191), ∀ a x, ((![v1191] : Fin 1 → IVec S16 32) a x).toNat < S512.size a := fun v1191 k0_hw186 => k0_hw186.1
theorem k0_idx369_inb : ∀ (v1191 : IVec S16 32) (k0_hw186 : k0_chk186 v1191), ∀ a x, ((![v1191] : Fin 1 → IVec S16 32) a x).toNat < S512.size a := fun v1191 k0_hw186 => k0_hw186.2
def k0_off190 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_386 : BitVec 32 := 16#32
  let v1201 : BitVec 32 := Scalar.muli arg16 c16_i32_386
  let c7_i32 : BitVec 32 := 7#32
  let v1202 : BitVec 32 := Scalar.addi v1201 c7_i32
  let c0_i32_387 : BitVec 32 := 0#32
  ![v1202.toNat, 0]

def k0_chk187 (v1216 : IVec S16 32) : Prop :=
  (∀ a x, ((![v1216] : Fin 1 → IVec S16 32) a x).toNat < S512.size a) ∧
  (∀ a x, ((![v1216] : Fin 1 → IVec S16 32) a x).toNat < S512.size a)
theorem k0_idx370_inb : ∀ (v1216 : IVec S16 32) (k0_hw187 : k0_chk187 v1216), ∀ a x, ((![v1216] : Fin 1 → IVec S16 32) a x).toNat < S512.size a := fun v1216 k0_hw187 => k0_hw187.1
theorem k0_idx371_inb : ∀ (v1216 : IVec S16 32) (k0_hw187 : k0_chk187 v1216), ∀ a x, ((![v1216] : Fin 1 → IVec S16 32) a x).toNat < S512.size a := fun v1216 k0_hw187 => k0_hw187.2
def k0_off191 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_386 : BitVec 32 := 16#32
  let v1201 : BitVec 32 := Scalar.muli arg16 c16_i32_386
  let c7_i32 : BitVec 32 := 7#32
  let v1202 : BitVec 32 := Scalar.addi v1201 c7_i32
  let c0_i32_392 : BitVec 32 := 0#32
  ![v1202.toNat, 0]

def k0_chk188 (v1234 : IVec S16 32) : Prop :=
  (∀ a x, ((![v1234] : Fin 1 → IVec S16 32) a x).toNat < S512.size a) ∧
  (∀ a x, ((![v1234] : Fin 1 → IVec S16 32) a x).toNat < S512.size a)
theorem k0_idx372_inb : ∀ (v1234 : IVec S16 32) (k0_hw188 : k0_chk188 v1234), ∀ a x, ((![v1234] : Fin 1 → IVec S16 32) a x).toNat < S512.size a := fun v1234 k0_hw188 => k0_hw188.1
theorem k0_idx373_inb : ∀ (v1234 : IVec S16 32) (k0_hw188 : k0_chk188 v1234), ∀ a x, ((![v1234] : Fin 1 → IVec S16 32) a x).toNat < S512.size a := fun v1234 k0_hw188 => k0_hw188.2
def k0_off192 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_386 : BitVec 32 := 16#32
  let v1201 : BitVec 32 := Scalar.muli arg16 c16_i32_386
  let c7_i32 : BitVec 32 := 7#32
  let v1202 : BitVec 32 := Scalar.addi v1201 c7_i32
  let c0_i32_397 : BitVec 32 := 0#32
  ![v1202.toNat, 0]

def k0_chk189 (v1252 : IVec S16 32) : Prop :=
  (∀ a x, ((![v1252] : Fin 1 → IVec S16 32) a x).toNat < S512.size a) ∧
  (∀ a x, ((![v1252] : Fin 1 → IVec S16 32) a x).toNat < S512.size a)
theorem k0_idx374_inb : ∀ (v1252 : IVec S16 32) (k0_hw189 : k0_chk189 v1252), ∀ a x, ((![v1252] : Fin 1 → IVec S16 32) a x).toNat < S512.size a := fun v1252 k0_hw189 => k0_hw189.1
theorem k0_idx375_inb : ∀ (v1252 : IVec S16 32) (k0_hw189 : k0_chk189 v1252), ∀ a x, ((![v1252] : Fin 1 → IVec S16 32) a x).toNat < S512.size a := fun v1252 k0_hw189 => k0_hw189.2
def k0_off193 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_386 : BitVec 32 := 16#32
  let v1201 : BitVec 32 := Scalar.muli arg16 c16_i32_386
  let c7_i32 : BitVec 32 := 7#32
  let v1202 : BitVec 32 := Scalar.addi v1201 c7_i32
  let c0_i32_402 : BitVec 32 := 0#32
  ![v1202.toNat, 0]

def k0_chk190 (v1270 : IVec S16 32) : Prop :=
  (∀ a x, ((![v1270] : Fin 1 → IVec S16 32) a x).toNat < S512.size a) ∧
  (∀ a x, ((![v1270] : Fin 1 → IVec S16 32) a x).toNat < S512.size a)
theorem k0_idx376_inb : ∀ (v1270 : IVec S16 32) (k0_hw190 : k0_chk190 v1270), ∀ a x, ((![v1270] : Fin 1 → IVec S16 32) a x).toNat < S512.size a := fun v1270 k0_hw190 => k0_hw190.1
theorem k0_idx377_inb : ∀ (v1270 : IVec S16 32) (k0_hw190 : k0_chk190 v1270), ∀ a x, ((![v1270] : Fin 1 → IVec S16 32) a x).toNat < S512.size a := fun v1270 k0_hw190 => k0_hw190.2
def k0_off194 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_386 : BitVec 32 := 16#32
  let v1201 : BitVec 32 := Scalar.muli arg16 c16_i32_386
  let c7_i32 : BitVec 32 := 7#32
  let v1202 : BitVec 32 := Scalar.addi v1201 c7_i32
  let c0_i32_407 : BitVec 32 := 0#32
  ![v1202.toNat, 0]

def k0_chk191 (v1288 : IVec S16 32) : Prop :=
  (∀ a x, ((![v1288] : Fin 1 → IVec S16 32) a x).toNat < S512.size a) ∧
  (∀ a x, ((![v1288] : Fin 1 → IVec S16 32) a x).toNat < S512.size a)
theorem k0_idx378_inb : ∀ (v1288 : IVec S16 32) (k0_hw191 : k0_chk191 v1288), ∀ a x, ((![v1288] : Fin 1 → IVec S16 32) a x).toNat < S512.size a := fun v1288 k0_hw191 => k0_hw191.1
theorem k0_idx379_inb : ∀ (v1288 : IVec S16 32) (k0_hw191 : k0_chk191 v1288), ∀ a x, ((![v1288] : Fin 1 → IVec S16 32) a x).toNat < S512.size a := fun v1288 k0_hw191 => k0_hw191.2
def k0_off195 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_386 : BitVec 32 := 16#32
  let v1201 : BitVec 32 := Scalar.muli arg16 c16_i32_386
  let c7_i32 : BitVec 32 := 7#32
  let v1202 : BitVec 32 := Scalar.addi v1201 c7_i32
  let c0_i32_412 : BitVec 32 := 0#32
  ![v1202.toNat, 0]

def k0_chk192 (v1306 : IVec S16 32) : Prop :=
  (∀ a x, ((![v1306] : Fin 1 → IVec S16 32) a x).toNat < S512.size a) ∧
  (∀ a x, ((![v1306] : Fin 1 → IVec S16 32) a x).toNat < S512.size a)
theorem k0_idx380_inb : ∀ (v1306 : IVec S16 32) (k0_hw192 : k0_chk192 v1306), ∀ a x, ((![v1306] : Fin 1 → IVec S16 32) a x).toNat < S512.size a := fun v1306 k0_hw192 => k0_hw192.1
theorem k0_idx381_inb : ∀ (v1306 : IVec S16 32) (k0_hw192 : k0_chk192 v1306), ∀ a x, ((![v1306] : Fin 1 → IVec S16 32) a x).toNat < S512.size a := fun v1306 k0_hw192 => k0_hw192.2
def k0_off196 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_386 : BitVec 32 := 16#32
  let v1201 : BitVec 32 := Scalar.muli arg16 c16_i32_386
  let c7_i32 : BitVec 32 := 7#32
  let v1202 : BitVec 32 := Scalar.addi v1201 c7_i32
  let c0_i32_417 : BitVec 32 := 0#32
  ![v1202.toNat, 0]

def k0_chk193 (v1324 : IVec S16 32) : Prop :=
  (∀ a x, ((![v1324] : Fin 1 → IVec S16 32) a x).toNat < S512.size a) ∧
  (∀ a x, ((![v1324] : Fin 1 → IVec S16 32) a x).toNat < S512.size a)
theorem k0_idx382_inb : ∀ (v1324 : IVec S16 32) (k0_hw193 : k0_chk193 v1324), ∀ a x, ((![v1324] : Fin 1 → IVec S16 32) a x).toNat < S512.size a := fun v1324 k0_hw193 => k0_hw193.1
theorem k0_idx383_inb : ∀ (v1324 : IVec S16 32) (k0_hw193 : k0_chk193 v1324), ∀ a x, ((![v1324] : Fin 1 → IVec S16 32) a x).toNat < S512.size a := fun v1324 k0_hw193 => k0_hw193.2
def k0_off197 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_386 : BitVec 32 := 16#32
  let v1201 : BitVec 32 := Scalar.muli arg16 c16_i32_386
  let c7_i32 : BitVec 32 := 7#32
  let v1202 : BitVec 32 := Scalar.addi v1201 c7_i32
  let c0_i32_422 : BitVec 32 := 0#32
  ![v1202.toNat, 0]

def k0_chk194 (v1342 : IVec S16 32) : Prop :=
  (∀ a x, ((![v1342] : Fin 1 → IVec S16 32) a x).toNat < S512.size a) ∧
  (∀ a x, ((![v1342] : Fin 1 → IVec S16 32) a x).toNat < S512.size a)
theorem k0_idx384_inb : ∀ (v1342 : IVec S16 32) (k0_hw194 : k0_chk194 v1342), ∀ a x, ((![v1342] : Fin 1 → IVec S16 32) a x).toNat < S512.size a := fun v1342 k0_hw194 => k0_hw194.1
theorem k0_idx385_inb : ∀ (v1342 : IVec S16 32) (k0_hw194 : k0_chk194 v1342), ∀ a x, ((![v1342] : Fin 1 → IVec S16 32) a x).toNat < S512.size a := fun v1342 k0_hw194 => k0_hw194.2
def k0_off198 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_429 : BitVec 32 := 16#32
  let v1352 : BitVec 32 := Scalar.muli arg16 c16_i32_429
  let c8_i32 : BitVec 32 := 8#32
  let v1353 : BitVec 32 := Scalar.addi v1352 c8_i32
  let c0_i32_430 : BitVec 32 := 0#32
  ![v1353.toNat, 0]

def k0_chk195 (v1367 : IVec S16 32) : Prop :=
  (∀ a x, ((![v1367] : Fin 1 → IVec S16 32) a x).toNat < S512.size a) ∧
  (∀ a x, ((![v1367] : Fin 1 → IVec S16 32) a x).toNat < S512.size a)
theorem k0_idx386_inb : ∀ (v1367 : IVec S16 32) (k0_hw195 : k0_chk195 v1367), ∀ a x, ((![v1367] : Fin 1 → IVec S16 32) a x).toNat < S512.size a := fun v1367 k0_hw195 => k0_hw195.1
theorem k0_idx387_inb : ∀ (v1367 : IVec S16 32) (k0_hw195 : k0_chk195 v1367), ∀ a x, ((![v1367] : Fin 1 → IVec S16 32) a x).toNat < S512.size a := fun v1367 k0_hw195 => k0_hw195.2
def k0_off199 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_429 : BitVec 32 := 16#32
  let v1352 : BitVec 32 := Scalar.muli arg16 c16_i32_429
  let c8_i32 : BitVec 32 := 8#32
  let v1353 : BitVec 32 := Scalar.addi v1352 c8_i32
  let c0_i32_435 : BitVec 32 := 0#32
  ![v1353.toNat, 0]

def k0_chk196 (v1385 : IVec S16 32) : Prop :=
  (∀ a x, ((![v1385] : Fin 1 → IVec S16 32) a x).toNat < S512.size a) ∧
  (∀ a x, ((![v1385] : Fin 1 → IVec S16 32) a x).toNat < S512.size a)
theorem k0_idx388_inb : ∀ (v1385 : IVec S16 32) (k0_hw196 : k0_chk196 v1385), ∀ a x, ((![v1385] : Fin 1 → IVec S16 32) a x).toNat < S512.size a := fun v1385 k0_hw196 => k0_hw196.1
theorem k0_idx389_inb : ∀ (v1385 : IVec S16 32) (k0_hw196 : k0_chk196 v1385), ∀ a x, ((![v1385] : Fin 1 → IVec S16 32) a x).toNat < S512.size a := fun v1385 k0_hw196 => k0_hw196.2
def k0_off200 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_429 : BitVec 32 := 16#32
  let v1352 : BitVec 32 := Scalar.muli arg16 c16_i32_429
  let c8_i32 : BitVec 32 := 8#32
  let v1353 : BitVec 32 := Scalar.addi v1352 c8_i32
  let c0_i32_440 : BitVec 32 := 0#32
  ![v1353.toNat, 0]

def k0_chk197 (v1403 : IVec S16 32) : Prop :=
  (∀ a x, ((![v1403] : Fin 1 → IVec S16 32) a x).toNat < S512.size a) ∧
  (∀ a x, ((![v1403] : Fin 1 → IVec S16 32) a x).toNat < S512.size a)
theorem k0_idx390_inb : ∀ (v1403 : IVec S16 32) (k0_hw197 : k0_chk197 v1403), ∀ a x, ((![v1403] : Fin 1 → IVec S16 32) a x).toNat < S512.size a := fun v1403 k0_hw197 => k0_hw197.1
theorem k0_idx391_inb : ∀ (v1403 : IVec S16 32) (k0_hw197 : k0_chk197 v1403), ∀ a x, ((![v1403] : Fin 1 → IVec S16 32) a x).toNat < S512.size a := fun v1403 k0_hw197 => k0_hw197.2
def k0_off201 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_429 : BitVec 32 := 16#32
  let v1352 : BitVec 32 := Scalar.muli arg16 c16_i32_429
  let c8_i32 : BitVec 32 := 8#32
  let v1353 : BitVec 32 := Scalar.addi v1352 c8_i32
  let c0_i32_445 : BitVec 32 := 0#32
  ![v1353.toNat, 0]

def k0_chk198 (v1421 : IVec S16 32) : Prop :=
  (∀ a x, ((![v1421] : Fin 1 → IVec S16 32) a x).toNat < S512.size a) ∧
  (∀ a x, ((![v1421] : Fin 1 → IVec S16 32) a x).toNat < S512.size a)
theorem k0_idx392_inb : ∀ (v1421 : IVec S16 32) (k0_hw198 : k0_chk198 v1421), ∀ a x, ((![v1421] : Fin 1 → IVec S16 32) a x).toNat < S512.size a := fun v1421 k0_hw198 => k0_hw198.1
theorem k0_idx393_inb : ∀ (v1421 : IVec S16 32) (k0_hw198 : k0_chk198 v1421), ∀ a x, ((![v1421] : Fin 1 → IVec S16 32) a x).toNat < S512.size a := fun v1421 k0_hw198 => k0_hw198.2
def k0_off202 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_429 : BitVec 32 := 16#32
  let v1352 : BitVec 32 := Scalar.muli arg16 c16_i32_429
  let c8_i32 : BitVec 32 := 8#32
  let v1353 : BitVec 32 := Scalar.addi v1352 c8_i32
  let c0_i32_450 : BitVec 32 := 0#32
  ![v1353.toNat, 0]

def k0_chk199 (v1439 : IVec S16 32) : Prop :=
  (∀ a x, ((![v1439] : Fin 1 → IVec S16 32) a x).toNat < S512.size a) ∧
  (∀ a x, ((![v1439] : Fin 1 → IVec S16 32) a x).toNat < S512.size a)
theorem k0_idx394_inb : ∀ (v1439 : IVec S16 32) (k0_hw199 : k0_chk199 v1439), ∀ a x, ((![v1439] : Fin 1 → IVec S16 32) a x).toNat < S512.size a := fun v1439 k0_hw199 => k0_hw199.1
theorem k0_idx395_inb : ∀ (v1439 : IVec S16 32) (k0_hw199 : k0_chk199 v1439), ∀ a x, ((![v1439] : Fin 1 → IVec S16 32) a x).toNat < S512.size a := fun v1439 k0_hw199 => k0_hw199.2
def k0_off203 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_429 : BitVec 32 := 16#32
  let v1352 : BitVec 32 := Scalar.muli arg16 c16_i32_429
  let c8_i32 : BitVec 32 := 8#32
  let v1353 : BitVec 32 := Scalar.addi v1352 c8_i32
  let c0_i32_455 : BitVec 32 := 0#32
  ![v1353.toNat, 0]

def k0_chk200 (v1457 : IVec S16 32) : Prop :=
  (∀ a x, ((![v1457] : Fin 1 → IVec S16 32) a x).toNat < S512.size a) ∧
  (∀ a x, ((![v1457] : Fin 1 → IVec S16 32) a x).toNat < S512.size a)
theorem k0_idx396_inb : ∀ (v1457 : IVec S16 32) (k0_hw200 : k0_chk200 v1457), ∀ a x, ((![v1457] : Fin 1 → IVec S16 32) a x).toNat < S512.size a := fun v1457 k0_hw200 => k0_hw200.1
theorem k0_idx397_inb : ∀ (v1457 : IVec S16 32) (k0_hw200 : k0_chk200 v1457), ∀ a x, ((![v1457] : Fin 1 → IVec S16 32) a x).toNat < S512.size a := fun v1457 k0_hw200 => k0_hw200.2
def k0_off204 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_429 : BitVec 32 := 16#32
  let v1352 : BitVec 32 := Scalar.muli arg16 c16_i32_429
  let c8_i32 : BitVec 32 := 8#32
  let v1353 : BitVec 32 := Scalar.addi v1352 c8_i32
  let c0_i32_460 : BitVec 32 := 0#32
  ![v1353.toNat, 0]

def k0_chk201 (v1475 : IVec S16 32) : Prop :=
  (∀ a x, ((![v1475] : Fin 1 → IVec S16 32) a x).toNat < S512.size a) ∧
  (∀ a x, ((![v1475] : Fin 1 → IVec S16 32) a x).toNat < S512.size a)
theorem k0_idx398_inb : ∀ (v1475 : IVec S16 32) (k0_hw201 : k0_chk201 v1475), ∀ a x, ((![v1475] : Fin 1 → IVec S16 32) a x).toNat < S512.size a := fun v1475 k0_hw201 => k0_hw201.1
theorem k0_idx399_inb : ∀ (v1475 : IVec S16 32) (k0_hw201 : k0_chk201 v1475), ∀ a x, ((![v1475] : Fin 1 → IVec S16 32) a x).toNat < S512.size a := fun v1475 k0_hw201 => k0_hw201.2
def k0_off205 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_429 : BitVec 32 := 16#32
  let v1352 : BitVec 32 := Scalar.muli arg16 c16_i32_429
  let c8_i32 : BitVec 32 := 8#32
  let v1353 : BitVec 32 := Scalar.addi v1352 c8_i32
  let c0_i32_465 : BitVec 32 := 0#32
  ![v1353.toNat, 0]

def k0_chk202 (v1493 : IVec S16 32) : Prop :=
  (∀ a x, ((![v1493] : Fin 1 → IVec S16 32) a x).toNat < S512.size a) ∧
  (∀ a x, ((![v1493] : Fin 1 → IVec S16 32) a x).toNat < S512.size a)
theorem k0_idx400_inb : ∀ (v1493 : IVec S16 32) (k0_hw202 : k0_chk202 v1493), ∀ a x, ((![v1493] : Fin 1 → IVec S16 32) a x).toNat < S512.size a := fun v1493 k0_hw202 => k0_hw202.1
theorem k0_idx401_inb : ∀ (v1493 : IVec S16 32) (k0_hw202 : k0_chk202 v1493), ∀ a x, ((![v1493] : Fin 1 → IVec S16 32) a x).toNat < S512.size a := fun v1493 k0_hw202 => k0_hw202.2
def k0_off206 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_472 : BitVec 32 := 16#32
  let v1503 : BitVec 32 := Scalar.muli arg16 c16_i32_472
  let c9_i32 : BitVec 32 := 9#32
  let v1504 : BitVec 32 := Scalar.addi v1503 c9_i32
  let c0_i32_473 : BitVec 32 := 0#32
  ![v1504.toNat, 0]

def k0_chk203 (v1518 : IVec S16 32) : Prop :=
  (∀ a x, ((![v1518] : Fin 1 → IVec S16 32) a x).toNat < S512.size a) ∧
  (∀ a x, ((![v1518] : Fin 1 → IVec S16 32) a x).toNat < S512.size a)
theorem k0_idx402_inb : ∀ (v1518 : IVec S16 32) (k0_hw203 : k0_chk203 v1518), ∀ a x, ((![v1518] : Fin 1 → IVec S16 32) a x).toNat < S512.size a := fun v1518 k0_hw203 => k0_hw203.1
theorem k0_idx403_inb : ∀ (v1518 : IVec S16 32) (k0_hw203 : k0_chk203 v1518), ∀ a x, ((![v1518] : Fin 1 → IVec S16 32) a x).toNat < S512.size a := fun v1518 k0_hw203 => k0_hw203.2
def k0_off207 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_472 : BitVec 32 := 16#32
  let v1503 : BitVec 32 := Scalar.muli arg16 c16_i32_472
  let c9_i32 : BitVec 32 := 9#32
  let v1504 : BitVec 32 := Scalar.addi v1503 c9_i32
  let c0_i32_478 : BitVec 32 := 0#32
  ![v1504.toNat, 0]

def k0_chk204 (v1536 : IVec S16 32) : Prop :=
  (∀ a x, ((![v1536] : Fin 1 → IVec S16 32) a x).toNat < S512.size a) ∧
  (∀ a x, ((![v1536] : Fin 1 → IVec S16 32) a x).toNat < S512.size a)
theorem k0_idx404_inb : ∀ (v1536 : IVec S16 32) (k0_hw204 : k0_chk204 v1536), ∀ a x, ((![v1536] : Fin 1 → IVec S16 32) a x).toNat < S512.size a := fun v1536 k0_hw204 => k0_hw204.1
theorem k0_idx405_inb : ∀ (v1536 : IVec S16 32) (k0_hw204 : k0_chk204 v1536), ∀ a x, ((![v1536] : Fin 1 → IVec S16 32) a x).toNat < S512.size a := fun v1536 k0_hw204 => k0_hw204.2
def k0_off208 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_472 : BitVec 32 := 16#32
  let v1503 : BitVec 32 := Scalar.muli arg16 c16_i32_472
  let c9_i32 : BitVec 32 := 9#32
  let v1504 : BitVec 32 := Scalar.addi v1503 c9_i32
  let c0_i32_483 : BitVec 32 := 0#32
  ![v1504.toNat, 0]

def k0_chk205 (v1554 : IVec S16 32) : Prop :=
  (∀ a x, ((![v1554] : Fin 1 → IVec S16 32) a x).toNat < S512.size a) ∧
  (∀ a x, ((![v1554] : Fin 1 → IVec S16 32) a x).toNat < S512.size a)
theorem k0_idx406_inb : ∀ (v1554 : IVec S16 32) (k0_hw205 : k0_chk205 v1554), ∀ a x, ((![v1554] : Fin 1 → IVec S16 32) a x).toNat < S512.size a := fun v1554 k0_hw205 => k0_hw205.1
theorem k0_idx407_inb : ∀ (v1554 : IVec S16 32) (k0_hw205 : k0_chk205 v1554), ∀ a x, ((![v1554] : Fin 1 → IVec S16 32) a x).toNat < S512.size a := fun v1554 k0_hw205 => k0_hw205.2
def k0_off209 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_472 : BitVec 32 := 16#32
  let v1503 : BitVec 32 := Scalar.muli arg16 c16_i32_472
  let c9_i32 : BitVec 32 := 9#32
  let v1504 : BitVec 32 := Scalar.addi v1503 c9_i32
  let c0_i32_488 : BitVec 32 := 0#32
  ![v1504.toNat, 0]

def k0_chk206 (v1572 : IVec S16 32) : Prop :=
  (∀ a x, ((![v1572] : Fin 1 → IVec S16 32) a x).toNat < S512.size a) ∧
  (∀ a x, ((![v1572] : Fin 1 → IVec S16 32) a x).toNat < S512.size a)
theorem k0_idx408_inb : ∀ (v1572 : IVec S16 32) (k0_hw206 : k0_chk206 v1572), ∀ a x, ((![v1572] : Fin 1 → IVec S16 32) a x).toNat < S512.size a := fun v1572 k0_hw206 => k0_hw206.1
theorem k0_idx409_inb : ∀ (v1572 : IVec S16 32) (k0_hw206 : k0_chk206 v1572), ∀ a x, ((![v1572] : Fin 1 → IVec S16 32) a x).toNat < S512.size a := fun v1572 k0_hw206 => k0_hw206.2
def k0_off210 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_472 : BitVec 32 := 16#32
  let v1503 : BitVec 32 := Scalar.muli arg16 c16_i32_472
  let c9_i32 : BitVec 32 := 9#32
  let v1504 : BitVec 32 := Scalar.addi v1503 c9_i32
  let c0_i32_493 : BitVec 32 := 0#32
  ![v1504.toNat, 0]

def k0_chk207 (v1590 : IVec S16 32) : Prop :=
  (∀ a x, ((![v1590] : Fin 1 → IVec S16 32) a x).toNat < S512.size a) ∧
  (∀ a x, ((![v1590] : Fin 1 → IVec S16 32) a x).toNat < S512.size a)
theorem k0_idx410_inb : ∀ (v1590 : IVec S16 32) (k0_hw207 : k0_chk207 v1590), ∀ a x, ((![v1590] : Fin 1 → IVec S16 32) a x).toNat < S512.size a := fun v1590 k0_hw207 => k0_hw207.1
theorem k0_idx411_inb : ∀ (v1590 : IVec S16 32) (k0_hw207 : k0_chk207 v1590), ∀ a x, ((![v1590] : Fin 1 → IVec S16 32) a x).toNat < S512.size a := fun v1590 k0_hw207 => k0_hw207.2
def k0_off211 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_472 : BitVec 32 := 16#32
  let v1503 : BitVec 32 := Scalar.muli arg16 c16_i32_472
  let c9_i32 : BitVec 32 := 9#32
  let v1504 : BitVec 32 := Scalar.addi v1503 c9_i32
  let c0_i32_498 : BitVec 32 := 0#32
  ![v1504.toNat, 0]

def k0_chk208 (v1608 : IVec S16 32) : Prop :=
  (∀ a x, ((![v1608] : Fin 1 → IVec S16 32) a x).toNat < S512.size a) ∧
  (∀ a x, ((![v1608] : Fin 1 → IVec S16 32) a x).toNat < S512.size a)
theorem k0_idx412_inb : ∀ (v1608 : IVec S16 32) (k0_hw208 : k0_chk208 v1608), ∀ a x, ((![v1608] : Fin 1 → IVec S16 32) a x).toNat < S512.size a := fun v1608 k0_hw208 => k0_hw208.1
theorem k0_idx413_inb : ∀ (v1608 : IVec S16 32) (k0_hw208 : k0_chk208 v1608), ∀ a x, ((![v1608] : Fin 1 → IVec S16 32) a x).toNat < S512.size a := fun v1608 k0_hw208 => k0_hw208.2
def k0_off212 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_472 : BitVec 32 := 16#32
  let v1503 : BitVec 32 := Scalar.muli arg16 c16_i32_472
  let c9_i32 : BitVec 32 := 9#32
  let v1504 : BitVec 32 := Scalar.addi v1503 c9_i32
  let c0_i32_503 : BitVec 32 := 0#32
  ![v1504.toNat, 0]

def k0_chk209 (v1626 : IVec S16 32) : Prop :=
  (∀ a x, ((![v1626] : Fin 1 → IVec S16 32) a x).toNat < S512.size a) ∧
  (∀ a x, ((![v1626] : Fin 1 → IVec S16 32) a x).toNat < S512.size a)
theorem k0_idx414_inb : ∀ (v1626 : IVec S16 32) (k0_hw209 : k0_chk209 v1626), ∀ a x, ((![v1626] : Fin 1 → IVec S16 32) a x).toNat < S512.size a := fun v1626 k0_hw209 => k0_hw209.1
theorem k0_idx415_inb : ∀ (v1626 : IVec S16 32) (k0_hw209 : k0_chk209 v1626), ∀ a x, ((![v1626] : Fin 1 → IVec S16 32) a x).toNat < S512.size a := fun v1626 k0_hw209 => k0_hw209.2
def k0_off213 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_472 : BitVec 32 := 16#32
  let v1503 : BitVec 32 := Scalar.muli arg16 c16_i32_472
  let c9_i32 : BitVec 32 := 9#32
  let v1504 : BitVec 32 := Scalar.addi v1503 c9_i32
  let c0_i32_508 : BitVec 32 := 0#32
  ![v1504.toNat, 0]

def k0_chk210 (v1644 : IVec S16 32) : Prop :=
  (∀ a x, ((![v1644] : Fin 1 → IVec S16 32) a x).toNat < S512.size a) ∧
  (∀ a x, ((![v1644] : Fin 1 → IVec S16 32) a x).toNat < S512.size a)
theorem k0_idx416_inb : ∀ (v1644 : IVec S16 32) (k0_hw210 : k0_chk210 v1644), ∀ a x, ((![v1644] : Fin 1 → IVec S16 32) a x).toNat < S512.size a := fun v1644 k0_hw210 => k0_hw210.1
theorem k0_idx417_inb : ∀ (v1644 : IVec S16 32) (k0_hw210 : k0_chk210 v1644), ∀ a x, ((![v1644] : Fin 1 → IVec S16 32) a x).toNat < S512.size a := fun v1644 k0_hw210 => k0_hw210.2
def k0_off214 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_515 : BitVec 32 := 16#32
  let v1654 : BitVec 32 := Scalar.muli arg16 c16_i32_515
  let c10_i32 : BitVec 32 := 10#32
  let v1655 : BitVec 32 := Scalar.addi v1654 c10_i32
  let c0_i32_516 : BitVec 32 := 0#32
  ![v1655.toNat, 0]

def k0_chk211 (v1669 : IVec S16 32) : Prop :=
  (∀ a x, ((![v1669] : Fin 1 → IVec S16 32) a x).toNat < S512.size a) ∧
  (∀ a x, ((![v1669] : Fin 1 → IVec S16 32) a x).toNat < S512.size a)
theorem k0_idx418_inb : ∀ (v1669 : IVec S16 32) (k0_hw211 : k0_chk211 v1669), ∀ a x, ((![v1669] : Fin 1 → IVec S16 32) a x).toNat < S512.size a := fun v1669 k0_hw211 => k0_hw211.1
theorem k0_idx419_inb : ∀ (v1669 : IVec S16 32) (k0_hw211 : k0_chk211 v1669), ∀ a x, ((![v1669] : Fin 1 → IVec S16 32) a x).toNat < S512.size a := fun v1669 k0_hw211 => k0_hw211.2
def k0_off215 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_515 : BitVec 32 := 16#32
  let v1654 : BitVec 32 := Scalar.muli arg16 c16_i32_515
  let c10_i32 : BitVec 32 := 10#32
  let v1655 : BitVec 32 := Scalar.addi v1654 c10_i32
  let c0_i32_521 : BitVec 32 := 0#32
  ![v1655.toNat, 0]

def k0_chk212 (v1687 : IVec S16 32) : Prop :=
  (∀ a x, ((![v1687] : Fin 1 → IVec S16 32) a x).toNat < S512.size a) ∧
  (∀ a x, ((![v1687] : Fin 1 → IVec S16 32) a x).toNat < S512.size a)
theorem k0_idx420_inb : ∀ (v1687 : IVec S16 32) (k0_hw212 : k0_chk212 v1687), ∀ a x, ((![v1687] : Fin 1 → IVec S16 32) a x).toNat < S512.size a := fun v1687 k0_hw212 => k0_hw212.1
theorem k0_idx421_inb : ∀ (v1687 : IVec S16 32) (k0_hw212 : k0_chk212 v1687), ∀ a x, ((![v1687] : Fin 1 → IVec S16 32) a x).toNat < S512.size a := fun v1687 k0_hw212 => k0_hw212.2
def k0_off216 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_515 : BitVec 32 := 16#32
  let v1654 : BitVec 32 := Scalar.muli arg16 c16_i32_515
  let c10_i32 : BitVec 32 := 10#32
  let v1655 : BitVec 32 := Scalar.addi v1654 c10_i32
  let c0_i32_526 : BitVec 32 := 0#32
  ![v1655.toNat, 0]

def k0_chk213 (v1705 : IVec S16 32) : Prop :=
  (∀ a x, ((![v1705] : Fin 1 → IVec S16 32) a x).toNat < S512.size a) ∧
  (∀ a x, ((![v1705] : Fin 1 → IVec S16 32) a x).toNat < S512.size a)
theorem k0_idx422_inb : ∀ (v1705 : IVec S16 32) (k0_hw213 : k0_chk213 v1705), ∀ a x, ((![v1705] : Fin 1 → IVec S16 32) a x).toNat < S512.size a := fun v1705 k0_hw213 => k0_hw213.1
theorem k0_idx423_inb : ∀ (v1705 : IVec S16 32) (k0_hw213 : k0_chk213 v1705), ∀ a x, ((![v1705] : Fin 1 → IVec S16 32) a x).toNat < S512.size a := fun v1705 k0_hw213 => k0_hw213.2
def k0_off217 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_515 : BitVec 32 := 16#32
  let v1654 : BitVec 32 := Scalar.muli arg16 c16_i32_515
  let c10_i32 : BitVec 32 := 10#32
  let v1655 : BitVec 32 := Scalar.addi v1654 c10_i32
  let c0_i32_531 : BitVec 32 := 0#32
  ![v1655.toNat, 0]

def k0_chk214 (v1723 : IVec S16 32) : Prop :=
  (∀ a x, ((![v1723] : Fin 1 → IVec S16 32) a x).toNat < S512.size a) ∧
  (∀ a x, ((![v1723] : Fin 1 → IVec S16 32) a x).toNat < S512.size a)
theorem k0_idx424_inb : ∀ (v1723 : IVec S16 32) (k0_hw214 : k0_chk214 v1723), ∀ a x, ((![v1723] : Fin 1 → IVec S16 32) a x).toNat < S512.size a := fun v1723 k0_hw214 => k0_hw214.1
theorem k0_idx425_inb : ∀ (v1723 : IVec S16 32) (k0_hw214 : k0_chk214 v1723), ∀ a x, ((![v1723] : Fin 1 → IVec S16 32) a x).toNat < S512.size a := fun v1723 k0_hw214 => k0_hw214.2
def k0_off218 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_515 : BitVec 32 := 16#32
  let v1654 : BitVec 32 := Scalar.muli arg16 c16_i32_515
  let c10_i32 : BitVec 32 := 10#32
  let v1655 : BitVec 32 := Scalar.addi v1654 c10_i32
  let c0_i32_536 : BitVec 32 := 0#32
  ![v1655.toNat, 0]

def k0_chk215 (v1741 : IVec S16 32) : Prop :=
  (∀ a x, ((![v1741] : Fin 1 → IVec S16 32) a x).toNat < S512.size a) ∧
  (∀ a x, ((![v1741] : Fin 1 → IVec S16 32) a x).toNat < S512.size a)
theorem k0_idx426_inb : ∀ (v1741 : IVec S16 32) (k0_hw215 : k0_chk215 v1741), ∀ a x, ((![v1741] : Fin 1 → IVec S16 32) a x).toNat < S512.size a := fun v1741 k0_hw215 => k0_hw215.1
theorem k0_idx427_inb : ∀ (v1741 : IVec S16 32) (k0_hw215 : k0_chk215 v1741), ∀ a x, ((![v1741] : Fin 1 → IVec S16 32) a x).toNat < S512.size a := fun v1741 k0_hw215 => k0_hw215.2
def k0_off219 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_515 : BitVec 32 := 16#32
  let v1654 : BitVec 32 := Scalar.muli arg16 c16_i32_515
  let c10_i32 : BitVec 32 := 10#32
  let v1655 : BitVec 32 := Scalar.addi v1654 c10_i32
  let c0_i32_541 : BitVec 32 := 0#32
  ![v1655.toNat, 0]

def k0_chk216 (v1759 : IVec S16 32) : Prop :=
  (∀ a x, ((![v1759] : Fin 1 → IVec S16 32) a x).toNat < S512.size a) ∧
  (∀ a x, ((![v1759] : Fin 1 → IVec S16 32) a x).toNat < S512.size a)
theorem k0_idx428_inb : ∀ (v1759 : IVec S16 32) (k0_hw216 : k0_chk216 v1759), ∀ a x, ((![v1759] : Fin 1 → IVec S16 32) a x).toNat < S512.size a := fun v1759 k0_hw216 => k0_hw216.1
theorem k0_idx429_inb : ∀ (v1759 : IVec S16 32) (k0_hw216 : k0_chk216 v1759), ∀ a x, ((![v1759] : Fin 1 → IVec S16 32) a x).toNat < S512.size a := fun v1759 k0_hw216 => k0_hw216.2
def k0_off220 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_515 : BitVec 32 := 16#32
  let v1654 : BitVec 32 := Scalar.muli arg16 c16_i32_515
  let c10_i32 : BitVec 32 := 10#32
  let v1655 : BitVec 32 := Scalar.addi v1654 c10_i32
  let c0_i32_546 : BitVec 32 := 0#32
  ![v1655.toNat, 0]

def k0_chk217 (v1777 : IVec S16 32) : Prop :=
  (∀ a x, ((![v1777] : Fin 1 → IVec S16 32) a x).toNat < S512.size a) ∧
  (∀ a x, ((![v1777] : Fin 1 → IVec S16 32) a x).toNat < S512.size a)
theorem k0_idx430_inb : ∀ (v1777 : IVec S16 32) (k0_hw217 : k0_chk217 v1777), ∀ a x, ((![v1777] : Fin 1 → IVec S16 32) a x).toNat < S512.size a := fun v1777 k0_hw217 => k0_hw217.1
theorem k0_idx431_inb : ∀ (v1777 : IVec S16 32) (k0_hw217 : k0_chk217 v1777), ∀ a x, ((![v1777] : Fin 1 → IVec S16 32) a x).toNat < S512.size a := fun v1777 k0_hw217 => k0_hw217.2
def k0_off221 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_515 : BitVec 32 := 16#32
  let v1654 : BitVec 32 := Scalar.muli arg16 c16_i32_515
  let c10_i32 : BitVec 32 := 10#32
  let v1655 : BitVec 32 := Scalar.addi v1654 c10_i32
  let c0_i32_551 : BitVec 32 := 0#32
  ![v1655.toNat, 0]

def k0_chk218 (v1795 : IVec S16 32) : Prop :=
  (∀ a x, ((![v1795] : Fin 1 → IVec S16 32) a x).toNat < S512.size a) ∧
  (∀ a x, ((![v1795] : Fin 1 → IVec S16 32) a x).toNat < S512.size a)
theorem k0_idx432_inb : ∀ (v1795 : IVec S16 32) (k0_hw218 : k0_chk218 v1795), ∀ a x, ((![v1795] : Fin 1 → IVec S16 32) a x).toNat < S512.size a := fun v1795 k0_hw218 => k0_hw218.1
theorem k0_idx433_inb : ∀ (v1795 : IVec S16 32) (k0_hw218 : k0_chk218 v1795), ∀ a x, ((![v1795] : Fin 1 → IVec S16 32) a x).toNat < S512.size a := fun v1795 k0_hw218 => k0_hw218.2
def k0_off222 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_558 : BitVec 32 := 16#32
  let v1805 : BitVec 32 := Scalar.muli arg16 c16_i32_558
  let c11_i32 : BitVec 32 := 11#32
  let v1806 : BitVec 32 := Scalar.addi v1805 c11_i32
  let c0_i32_559 : BitVec 32 := 0#32
  ![v1806.toNat, 0]

def k0_chk219 (v1820 : IVec S16 32) : Prop :=
  (∀ a x, ((![v1820] : Fin 1 → IVec S16 32) a x).toNat < S512.size a) ∧
  (∀ a x, ((![v1820] : Fin 1 → IVec S16 32) a x).toNat < S512.size a)
theorem k0_idx434_inb : ∀ (v1820 : IVec S16 32) (k0_hw219 : k0_chk219 v1820), ∀ a x, ((![v1820] : Fin 1 → IVec S16 32) a x).toNat < S512.size a := fun v1820 k0_hw219 => k0_hw219.1
theorem k0_idx435_inb : ∀ (v1820 : IVec S16 32) (k0_hw219 : k0_chk219 v1820), ∀ a x, ((![v1820] : Fin 1 → IVec S16 32) a x).toNat < S512.size a := fun v1820 k0_hw219 => k0_hw219.2
def k0_off223 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_558 : BitVec 32 := 16#32
  let v1805 : BitVec 32 := Scalar.muli arg16 c16_i32_558
  let c11_i32 : BitVec 32 := 11#32
  let v1806 : BitVec 32 := Scalar.addi v1805 c11_i32
  let c0_i32_564 : BitVec 32 := 0#32
  ![v1806.toNat, 0]

def k0_chk220 (v1838 : IVec S16 32) : Prop :=
  (∀ a x, ((![v1838] : Fin 1 → IVec S16 32) a x).toNat < S512.size a) ∧
  (∀ a x, ((![v1838] : Fin 1 → IVec S16 32) a x).toNat < S512.size a)
theorem k0_idx436_inb : ∀ (v1838 : IVec S16 32) (k0_hw220 : k0_chk220 v1838), ∀ a x, ((![v1838] : Fin 1 → IVec S16 32) a x).toNat < S512.size a := fun v1838 k0_hw220 => k0_hw220.1
theorem k0_idx437_inb : ∀ (v1838 : IVec S16 32) (k0_hw220 : k0_chk220 v1838), ∀ a x, ((![v1838] : Fin 1 → IVec S16 32) a x).toNat < S512.size a := fun v1838 k0_hw220 => k0_hw220.2
def k0_off224 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_558 : BitVec 32 := 16#32
  let v1805 : BitVec 32 := Scalar.muli arg16 c16_i32_558
  let c11_i32 : BitVec 32 := 11#32
  let v1806 : BitVec 32 := Scalar.addi v1805 c11_i32
  let c0_i32_569 : BitVec 32 := 0#32
  ![v1806.toNat, 0]

def k0_chk221 (v1856 : IVec S16 32) : Prop :=
  (∀ a x, ((![v1856] : Fin 1 → IVec S16 32) a x).toNat < S512.size a) ∧
  (∀ a x, ((![v1856] : Fin 1 → IVec S16 32) a x).toNat < S512.size a)
theorem k0_idx438_inb : ∀ (v1856 : IVec S16 32) (k0_hw221 : k0_chk221 v1856), ∀ a x, ((![v1856] : Fin 1 → IVec S16 32) a x).toNat < S512.size a := fun v1856 k0_hw221 => k0_hw221.1
theorem k0_idx439_inb : ∀ (v1856 : IVec S16 32) (k0_hw221 : k0_chk221 v1856), ∀ a x, ((![v1856] : Fin 1 → IVec S16 32) a x).toNat < S512.size a := fun v1856 k0_hw221 => k0_hw221.2
def k0_off225 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_558 : BitVec 32 := 16#32
  let v1805 : BitVec 32 := Scalar.muli arg16 c16_i32_558
  let c11_i32 : BitVec 32 := 11#32
  let v1806 : BitVec 32 := Scalar.addi v1805 c11_i32
  let c0_i32_574 : BitVec 32 := 0#32
  ![v1806.toNat, 0]

def k0_chk222 (v1874 : IVec S16 32) : Prop :=
  (∀ a x, ((![v1874] : Fin 1 → IVec S16 32) a x).toNat < S512.size a) ∧
  (∀ a x, ((![v1874] : Fin 1 → IVec S16 32) a x).toNat < S512.size a)
theorem k0_idx440_inb : ∀ (v1874 : IVec S16 32) (k0_hw222 : k0_chk222 v1874), ∀ a x, ((![v1874] : Fin 1 → IVec S16 32) a x).toNat < S512.size a := fun v1874 k0_hw222 => k0_hw222.1
theorem k0_idx441_inb : ∀ (v1874 : IVec S16 32) (k0_hw222 : k0_chk222 v1874), ∀ a x, ((![v1874] : Fin 1 → IVec S16 32) a x).toNat < S512.size a := fun v1874 k0_hw222 => k0_hw222.2
def k0_off226 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_558 : BitVec 32 := 16#32
  let v1805 : BitVec 32 := Scalar.muli arg16 c16_i32_558
  let c11_i32 : BitVec 32 := 11#32
  let v1806 : BitVec 32 := Scalar.addi v1805 c11_i32
  let c0_i32_579 : BitVec 32 := 0#32
  ![v1806.toNat, 0]

def k0_chk223 (v1892 : IVec S16 32) : Prop :=
  (∀ a x, ((![v1892] : Fin 1 → IVec S16 32) a x).toNat < S512.size a) ∧
  (∀ a x, ((![v1892] : Fin 1 → IVec S16 32) a x).toNat < S512.size a)
theorem k0_idx442_inb : ∀ (v1892 : IVec S16 32) (k0_hw223 : k0_chk223 v1892), ∀ a x, ((![v1892] : Fin 1 → IVec S16 32) a x).toNat < S512.size a := fun v1892 k0_hw223 => k0_hw223.1
theorem k0_idx443_inb : ∀ (v1892 : IVec S16 32) (k0_hw223 : k0_chk223 v1892), ∀ a x, ((![v1892] : Fin 1 → IVec S16 32) a x).toNat < S512.size a := fun v1892 k0_hw223 => k0_hw223.2
def k0_off227 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_558 : BitVec 32 := 16#32
  let v1805 : BitVec 32 := Scalar.muli arg16 c16_i32_558
  let c11_i32 : BitVec 32 := 11#32
  let v1806 : BitVec 32 := Scalar.addi v1805 c11_i32
  let c0_i32_584 : BitVec 32 := 0#32
  ![v1806.toNat, 0]

def k0_chk224 (v1910 : IVec S16 32) : Prop :=
  (∀ a x, ((![v1910] : Fin 1 → IVec S16 32) a x).toNat < S512.size a) ∧
  (∀ a x, ((![v1910] : Fin 1 → IVec S16 32) a x).toNat < S512.size a)
theorem k0_idx444_inb : ∀ (v1910 : IVec S16 32) (k0_hw224 : k0_chk224 v1910), ∀ a x, ((![v1910] : Fin 1 → IVec S16 32) a x).toNat < S512.size a := fun v1910 k0_hw224 => k0_hw224.1
theorem k0_idx445_inb : ∀ (v1910 : IVec S16 32) (k0_hw224 : k0_chk224 v1910), ∀ a x, ((![v1910] : Fin 1 → IVec S16 32) a x).toNat < S512.size a := fun v1910 k0_hw224 => k0_hw224.2
def k0_off228 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_558 : BitVec 32 := 16#32
  let v1805 : BitVec 32 := Scalar.muli arg16 c16_i32_558
  let c11_i32 : BitVec 32 := 11#32
  let v1806 : BitVec 32 := Scalar.addi v1805 c11_i32
  let c0_i32_589 : BitVec 32 := 0#32
  ![v1806.toNat, 0]

def k0_chk225 (v1928 : IVec S16 32) : Prop :=
  (∀ a x, ((![v1928] : Fin 1 → IVec S16 32) a x).toNat < S512.size a) ∧
  (∀ a x, ((![v1928] : Fin 1 → IVec S16 32) a x).toNat < S512.size a)
theorem k0_idx446_inb : ∀ (v1928 : IVec S16 32) (k0_hw225 : k0_chk225 v1928), ∀ a x, ((![v1928] : Fin 1 → IVec S16 32) a x).toNat < S512.size a := fun v1928 k0_hw225 => k0_hw225.1
theorem k0_idx447_inb : ∀ (v1928 : IVec S16 32) (k0_hw225 : k0_chk225 v1928), ∀ a x, ((![v1928] : Fin 1 → IVec S16 32) a x).toNat < S512.size a := fun v1928 k0_hw225 => k0_hw225.2
def k0_off229 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_558 : BitVec 32 := 16#32
  let v1805 : BitVec 32 := Scalar.muli arg16 c16_i32_558
  let c11_i32 : BitVec 32 := 11#32
  let v1806 : BitVec 32 := Scalar.addi v1805 c11_i32
  let c0_i32_594 : BitVec 32 := 0#32
  ![v1806.toNat, 0]

def k0_chk226 (v1946 : IVec S16 32) : Prop :=
  (∀ a x, ((![v1946] : Fin 1 → IVec S16 32) a x).toNat < S512.size a) ∧
  (∀ a x, ((![v1946] : Fin 1 → IVec S16 32) a x).toNat < S512.size a)
theorem k0_idx448_inb : ∀ (v1946 : IVec S16 32) (k0_hw226 : k0_chk226 v1946), ∀ a x, ((![v1946] : Fin 1 → IVec S16 32) a x).toNat < S512.size a := fun v1946 k0_hw226 => k0_hw226.1
theorem k0_idx449_inb : ∀ (v1946 : IVec S16 32) (k0_hw226 : k0_chk226 v1946), ∀ a x, ((![v1946] : Fin 1 → IVec S16 32) a x).toNat < S512.size a := fun v1946 k0_hw226 => k0_hw226.2
def k0_off230 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_601 : BitVec 32 := 16#32
  let v1956 : BitVec 32 := Scalar.muli arg16 c16_i32_601
  let c12_i32 : BitVec 32 := 12#32
  let v1957 : BitVec 32 := Scalar.addi v1956 c12_i32
  let c0_i32_602 : BitVec 32 := 0#32
  ![v1957.toNat, 0]

def k0_chk227 (v1971 : IVec S16 32) : Prop :=
  (∀ a x, ((![v1971] : Fin 1 → IVec S16 32) a x).toNat < S512.size a) ∧
  (∀ a x, ((![v1971] : Fin 1 → IVec S16 32) a x).toNat < S512.size a)
theorem k0_idx450_inb : ∀ (v1971 : IVec S16 32) (k0_hw227 : k0_chk227 v1971), ∀ a x, ((![v1971] : Fin 1 → IVec S16 32) a x).toNat < S512.size a := fun v1971 k0_hw227 => k0_hw227.1
theorem k0_idx451_inb : ∀ (v1971 : IVec S16 32) (k0_hw227 : k0_chk227 v1971), ∀ a x, ((![v1971] : Fin 1 → IVec S16 32) a x).toNat < S512.size a := fun v1971 k0_hw227 => k0_hw227.2
def k0_off231 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_601 : BitVec 32 := 16#32
  let v1956 : BitVec 32 := Scalar.muli arg16 c16_i32_601
  let c12_i32 : BitVec 32 := 12#32
  let v1957 : BitVec 32 := Scalar.addi v1956 c12_i32
  let c0_i32_607 : BitVec 32 := 0#32
  ![v1957.toNat, 0]

def k0_chk228 (v1989 : IVec S16 32) : Prop :=
  (∀ a x, ((![v1989] : Fin 1 → IVec S16 32) a x).toNat < S512.size a) ∧
  (∀ a x, ((![v1989] : Fin 1 → IVec S16 32) a x).toNat < S512.size a)
theorem k0_idx452_inb : ∀ (v1989 : IVec S16 32) (k0_hw228 : k0_chk228 v1989), ∀ a x, ((![v1989] : Fin 1 → IVec S16 32) a x).toNat < S512.size a := fun v1989 k0_hw228 => k0_hw228.1
theorem k0_idx453_inb : ∀ (v1989 : IVec S16 32) (k0_hw228 : k0_chk228 v1989), ∀ a x, ((![v1989] : Fin 1 → IVec S16 32) a x).toNat < S512.size a := fun v1989 k0_hw228 => k0_hw228.2
def k0_off232 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_601 : BitVec 32 := 16#32
  let v1956 : BitVec 32 := Scalar.muli arg16 c16_i32_601
  let c12_i32 : BitVec 32 := 12#32
  let v1957 : BitVec 32 := Scalar.addi v1956 c12_i32
  let c0_i32_612 : BitVec 32 := 0#32
  ![v1957.toNat, 0]

def k0_chk229 (v2007 : IVec S16 32) : Prop :=
  (∀ a x, ((![v2007] : Fin 1 → IVec S16 32) a x).toNat < S512.size a) ∧
  (∀ a x, ((![v2007] : Fin 1 → IVec S16 32) a x).toNat < S512.size a)
theorem k0_idx454_inb : ∀ (v2007 : IVec S16 32) (k0_hw229 : k0_chk229 v2007), ∀ a x, ((![v2007] : Fin 1 → IVec S16 32) a x).toNat < S512.size a := fun v2007 k0_hw229 => k0_hw229.1
theorem k0_idx455_inb : ∀ (v2007 : IVec S16 32) (k0_hw229 : k0_chk229 v2007), ∀ a x, ((![v2007] : Fin 1 → IVec S16 32) a x).toNat < S512.size a := fun v2007 k0_hw229 => k0_hw229.2
def k0_off233 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_601 : BitVec 32 := 16#32
  let v1956 : BitVec 32 := Scalar.muli arg16 c16_i32_601
  let c12_i32 : BitVec 32 := 12#32
  let v1957 : BitVec 32 := Scalar.addi v1956 c12_i32
  let c0_i32_617 : BitVec 32 := 0#32
  ![v1957.toNat, 0]

def k0_chk230 (v2025 : IVec S16 32) : Prop :=
  (∀ a x, ((![v2025] : Fin 1 → IVec S16 32) a x).toNat < S512.size a) ∧
  (∀ a x, ((![v2025] : Fin 1 → IVec S16 32) a x).toNat < S512.size a)
theorem k0_idx456_inb : ∀ (v2025 : IVec S16 32) (k0_hw230 : k0_chk230 v2025), ∀ a x, ((![v2025] : Fin 1 → IVec S16 32) a x).toNat < S512.size a := fun v2025 k0_hw230 => k0_hw230.1
theorem k0_idx457_inb : ∀ (v2025 : IVec S16 32) (k0_hw230 : k0_chk230 v2025), ∀ a x, ((![v2025] : Fin 1 → IVec S16 32) a x).toNat < S512.size a := fun v2025 k0_hw230 => k0_hw230.2
def k0_off234 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_601 : BitVec 32 := 16#32
  let v1956 : BitVec 32 := Scalar.muli arg16 c16_i32_601
  let c12_i32 : BitVec 32 := 12#32
  let v1957 : BitVec 32 := Scalar.addi v1956 c12_i32
  let c0_i32_622 : BitVec 32 := 0#32
  ![v1957.toNat, 0]

def k0_chk231 (v2043 : IVec S16 32) : Prop :=
  (∀ a x, ((![v2043] : Fin 1 → IVec S16 32) a x).toNat < S512.size a) ∧
  (∀ a x, ((![v2043] : Fin 1 → IVec S16 32) a x).toNat < S512.size a)
theorem k0_idx458_inb : ∀ (v2043 : IVec S16 32) (k0_hw231 : k0_chk231 v2043), ∀ a x, ((![v2043] : Fin 1 → IVec S16 32) a x).toNat < S512.size a := fun v2043 k0_hw231 => k0_hw231.1
theorem k0_idx459_inb : ∀ (v2043 : IVec S16 32) (k0_hw231 : k0_chk231 v2043), ∀ a x, ((![v2043] : Fin 1 → IVec S16 32) a x).toNat < S512.size a := fun v2043 k0_hw231 => k0_hw231.2
def k0_off235 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_601 : BitVec 32 := 16#32
  let v1956 : BitVec 32 := Scalar.muli arg16 c16_i32_601
  let c12_i32 : BitVec 32 := 12#32
  let v1957 : BitVec 32 := Scalar.addi v1956 c12_i32
  let c0_i32_627 : BitVec 32 := 0#32
  ![v1957.toNat, 0]

def k0_chk232 (v2061 : IVec S16 32) : Prop :=
  (∀ a x, ((![v2061] : Fin 1 → IVec S16 32) a x).toNat < S512.size a) ∧
  (∀ a x, ((![v2061] : Fin 1 → IVec S16 32) a x).toNat < S512.size a)
theorem k0_idx460_inb : ∀ (v2061 : IVec S16 32) (k0_hw232 : k0_chk232 v2061), ∀ a x, ((![v2061] : Fin 1 → IVec S16 32) a x).toNat < S512.size a := fun v2061 k0_hw232 => k0_hw232.1
theorem k0_idx461_inb : ∀ (v2061 : IVec S16 32) (k0_hw232 : k0_chk232 v2061), ∀ a x, ((![v2061] : Fin 1 → IVec S16 32) a x).toNat < S512.size a := fun v2061 k0_hw232 => k0_hw232.2
def k0_off236 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_601 : BitVec 32 := 16#32
  let v1956 : BitVec 32 := Scalar.muli arg16 c16_i32_601
  let c12_i32 : BitVec 32 := 12#32
  let v1957 : BitVec 32 := Scalar.addi v1956 c12_i32
  let c0_i32_632 : BitVec 32 := 0#32
  ![v1957.toNat, 0]

def k0_chk233 (v2079 : IVec S16 32) : Prop :=
  (∀ a x, ((![v2079] : Fin 1 → IVec S16 32) a x).toNat < S512.size a) ∧
  (∀ a x, ((![v2079] : Fin 1 → IVec S16 32) a x).toNat < S512.size a)
theorem k0_idx462_inb : ∀ (v2079 : IVec S16 32) (k0_hw233 : k0_chk233 v2079), ∀ a x, ((![v2079] : Fin 1 → IVec S16 32) a x).toNat < S512.size a := fun v2079 k0_hw233 => k0_hw233.1
theorem k0_idx463_inb : ∀ (v2079 : IVec S16 32) (k0_hw233 : k0_chk233 v2079), ∀ a x, ((![v2079] : Fin 1 → IVec S16 32) a x).toNat < S512.size a := fun v2079 k0_hw233 => k0_hw233.2
def k0_off237 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_601 : BitVec 32 := 16#32
  let v1956 : BitVec 32 := Scalar.muli arg16 c16_i32_601
  let c12_i32 : BitVec 32 := 12#32
  let v1957 : BitVec 32 := Scalar.addi v1956 c12_i32
  let c0_i32_637 : BitVec 32 := 0#32
  ![v1957.toNat, 0]

def k0_chk234 (v2097 : IVec S16 32) : Prop :=
  (∀ a x, ((![v2097] : Fin 1 → IVec S16 32) a x).toNat < S512.size a) ∧
  (∀ a x, ((![v2097] : Fin 1 → IVec S16 32) a x).toNat < S512.size a)
theorem k0_idx464_inb : ∀ (v2097 : IVec S16 32) (k0_hw234 : k0_chk234 v2097), ∀ a x, ((![v2097] : Fin 1 → IVec S16 32) a x).toNat < S512.size a := fun v2097 k0_hw234 => k0_hw234.1
theorem k0_idx465_inb : ∀ (v2097 : IVec S16 32) (k0_hw234 : k0_chk234 v2097), ∀ a x, ((![v2097] : Fin 1 → IVec S16 32) a x).toNat < S512.size a := fun v2097 k0_hw234 => k0_hw234.2
def k0_off238 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_644 : BitVec 32 := 16#32
  let v2107 : BitVec 32 := Scalar.muli arg16 c16_i32_644
  let c13_i32 : BitVec 32 := 13#32
  let v2108 : BitVec 32 := Scalar.addi v2107 c13_i32
  let c0_i32_645 : BitVec 32 := 0#32
  ![v2108.toNat, 0]

def k0_chk235 (v2122 : IVec S16 32) : Prop :=
  (∀ a x, ((![v2122] : Fin 1 → IVec S16 32) a x).toNat < S512.size a) ∧
  (∀ a x, ((![v2122] : Fin 1 → IVec S16 32) a x).toNat < S512.size a)
theorem k0_idx466_inb : ∀ (v2122 : IVec S16 32) (k0_hw235 : k0_chk235 v2122), ∀ a x, ((![v2122] : Fin 1 → IVec S16 32) a x).toNat < S512.size a := fun v2122 k0_hw235 => k0_hw235.1
theorem k0_idx467_inb : ∀ (v2122 : IVec S16 32) (k0_hw235 : k0_chk235 v2122), ∀ a x, ((![v2122] : Fin 1 → IVec S16 32) a x).toNat < S512.size a := fun v2122 k0_hw235 => k0_hw235.2
def k0_off239 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_644 : BitVec 32 := 16#32
  let v2107 : BitVec 32 := Scalar.muli arg16 c16_i32_644
  let c13_i32 : BitVec 32 := 13#32
  let v2108 : BitVec 32 := Scalar.addi v2107 c13_i32
  let c0_i32_650 : BitVec 32 := 0#32
  ![v2108.toNat, 0]

def k0_chk236 (v2140 : IVec S16 32) : Prop :=
  (∀ a x, ((![v2140] : Fin 1 → IVec S16 32) a x).toNat < S512.size a) ∧
  (∀ a x, ((![v2140] : Fin 1 → IVec S16 32) a x).toNat < S512.size a)
theorem k0_idx468_inb : ∀ (v2140 : IVec S16 32) (k0_hw236 : k0_chk236 v2140), ∀ a x, ((![v2140] : Fin 1 → IVec S16 32) a x).toNat < S512.size a := fun v2140 k0_hw236 => k0_hw236.1
theorem k0_idx469_inb : ∀ (v2140 : IVec S16 32) (k0_hw236 : k0_chk236 v2140), ∀ a x, ((![v2140] : Fin 1 → IVec S16 32) a x).toNat < S512.size a := fun v2140 k0_hw236 => k0_hw236.2
def k0_off240 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_644 : BitVec 32 := 16#32
  let v2107 : BitVec 32 := Scalar.muli arg16 c16_i32_644
  let c13_i32 : BitVec 32 := 13#32
  let v2108 : BitVec 32 := Scalar.addi v2107 c13_i32
  let c0_i32_655 : BitVec 32 := 0#32
  ![v2108.toNat, 0]

def k0_chk237 (v2158 : IVec S16 32) : Prop :=
  (∀ a x, ((![v2158] : Fin 1 → IVec S16 32) a x).toNat < S512.size a) ∧
  (∀ a x, ((![v2158] : Fin 1 → IVec S16 32) a x).toNat < S512.size a)
theorem k0_idx470_inb : ∀ (v2158 : IVec S16 32) (k0_hw237 : k0_chk237 v2158), ∀ a x, ((![v2158] : Fin 1 → IVec S16 32) a x).toNat < S512.size a := fun v2158 k0_hw237 => k0_hw237.1
theorem k0_idx471_inb : ∀ (v2158 : IVec S16 32) (k0_hw237 : k0_chk237 v2158), ∀ a x, ((![v2158] : Fin 1 → IVec S16 32) a x).toNat < S512.size a := fun v2158 k0_hw237 => k0_hw237.2
def k0_off241 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_644 : BitVec 32 := 16#32
  let v2107 : BitVec 32 := Scalar.muli arg16 c16_i32_644
  let c13_i32 : BitVec 32 := 13#32
  let v2108 : BitVec 32 := Scalar.addi v2107 c13_i32
  let c0_i32_660 : BitVec 32 := 0#32
  ![v2108.toNat, 0]

def k0_chk238 (v2176 : IVec S16 32) : Prop :=
  (∀ a x, ((![v2176] : Fin 1 → IVec S16 32) a x).toNat < S512.size a) ∧
  (∀ a x, ((![v2176] : Fin 1 → IVec S16 32) a x).toNat < S512.size a)
theorem k0_idx472_inb : ∀ (v2176 : IVec S16 32) (k0_hw238 : k0_chk238 v2176), ∀ a x, ((![v2176] : Fin 1 → IVec S16 32) a x).toNat < S512.size a := fun v2176 k0_hw238 => k0_hw238.1
theorem k0_idx473_inb : ∀ (v2176 : IVec S16 32) (k0_hw238 : k0_chk238 v2176), ∀ a x, ((![v2176] : Fin 1 → IVec S16 32) a x).toNat < S512.size a := fun v2176 k0_hw238 => k0_hw238.2
def k0_off242 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_644 : BitVec 32 := 16#32
  let v2107 : BitVec 32 := Scalar.muli arg16 c16_i32_644
  let c13_i32 : BitVec 32 := 13#32
  let v2108 : BitVec 32 := Scalar.addi v2107 c13_i32
  let c0_i32_665 : BitVec 32 := 0#32
  ![v2108.toNat, 0]

def k0_chk239 (v2194 : IVec S16 32) : Prop :=
  (∀ a x, ((![v2194] : Fin 1 → IVec S16 32) a x).toNat < S512.size a) ∧
  (∀ a x, ((![v2194] : Fin 1 → IVec S16 32) a x).toNat < S512.size a)
theorem k0_idx474_inb : ∀ (v2194 : IVec S16 32) (k0_hw239 : k0_chk239 v2194), ∀ a x, ((![v2194] : Fin 1 → IVec S16 32) a x).toNat < S512.size a := fun v2194 k0_hw239 => k0_hw239.1
theorem k0_idx475_inb : ∀ (v2194 : IVec S16 32) (k0_hw239 : k0_chk239 v2194), ∀ a x, ((![v2194] : Fin 1 → IVec S16 32) a x).toNat < S512.size a := fun v2194 k0_hw239 => k0_hw239.2
def k0_off243 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_644 : BitVec 32 := 16#32
  let v2107 : BitVec 32 := Scalar.muli arg16 c16_i32_644
  let c13_i32 : BitVec 32 := 13#32
  let v2108 : BitVec 32 := Scalar.addi v2107 c13_i32
  let c0_i32_670 : BitVec 32 := 0#32
  ![v2108.toNat, 0]

def k0_chk240 (v2212 : IVec S16 32) : Prop :=
  (∀ a x, ((![v2212] : Fin 1 → IVec S16 32) a x).toNat < S512.size a) ∧
  (∀ a x, ((![v2212] : Fin 1 → IVec S16 32) a x).toNat < S512.size a)
theorem k0_idx476_inb : ∀ (v2212 : IVec S16 32) (k0_hw240 : k0_chk240 v2212), ∀ a x, ((![v2212] : Fin 1 → IVec S16 32) a x).toNat < S512.size a := fun v2212 k0_hw240 => k0_hw240.1
theorem k0_idx477_inb : ∀ (v2212 : IVec S16 32) (k0_hw240 : k0_chk240 v2212), ∀ a x, ((![v2212] : Fin 1 → IVec S16 32) a x).toNat < S512.size a := fun v2212 k0_hw240 => k0_hw240.2
def k0_off244 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_644 : BitVec 32 := 16#32
  let v2107 : BitVec 32 := Scalar.muli arg16 c16_i32_644
  let c13_i32 : BitVec 32 := 13#32
  let v2108 : BitVec 32 := Scalar.addi v2107 c13_i32
  let c0_i32_675 : BitVec 32 := 0#32
  ![v2108.toNat, 0]

def k0_chk241 (v2230 : IVec S16 32) : Prop :=
  (∀ a x, ((![v2230] : Fin 1 → IVec S16 32) a x).toNat < S512.size a) ∧
  (∀ a x, ((![v2230] : Fin 1 → IVec S16 32) a x).toNat < S512.size a)
theorem k0_idx478_inb : ∀ (v2230 : IVec S16 32) (k0_hw241 : k0_chk241 v2230), ∀ a x, ((![v2230] : Fin 1 → IVec S16 32) a x).toNat < S512.size a := fun v2230 k0_hw241 => k0_hw241.1
theorem k0_idx479_inb : ∀ (v2230 : IVec S16 32) (k0_hw241 : k0_chk241 v2230), ∀ a x, ((![v2230] : Fin 1 → IVec S16 32) a x).toNat < S512.size a := fun v2230 k0_hw241 => k0_hw241.2
def k0_off245 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_644 : BitVec 32 := 16#32
  let v2107 : BitVec 32 := Scalar.muli arg16 c16_i32_644
  let c13_i32 : BitVec 32 := 13#32
  let v2108 : BitVec 32 := Scalar.addi v2107 c13_i32
  let c0_i32_680 : BitVec 32 := 0#32
  ![v2108.toNat, 0]

def k0_chk242 (v2248 : IVec S16 32) : Prop :=
  (∀ a x, ((![v2248] : Fin 1 → IVec S16 32) a x).toNat < S512.size a) ∧
  (∀ a x, ((![v2248] : Fin 1 → IVec S16 32) a x).toNat < S512.size a)
theorem k0_idx480_inb : ∀ (v2248 : IVec S16 32) (k0_hw242 : k0_chk242 v2248), ∀ a x, ((![v2248] : Fin 1 → IVec S16 32) a x).toNat < S512.size a := fun v2248 k0_hw242 => k0_hw242.1
theorem k0_idx481_inb : ∀ (v2248 : IVec S16 32) (k0_hw242 : k0_chk242 v2248), ∀ a x, ((![v2248] : Fin 1 → IVec S16 32) a x).toNat < S512.size a := fun v2248 k0_hw242 => k0_hw242.2
def k0_off246 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_687 : BitVec 32 := 16#32
  let v2258 : BitVec 32 := Scalar.muli arg16 c16_i32_687
  let c14_i32 : BitVec 32 := 14#32
  let v2259 : BitVec 32 := Scalar.addi v2258 c14_i32
  let c0_i32_688 : BitVec 32 := 0#32
  ![v2259.toNat, 0]

def k0_chk243 (v2273 : IVec S16 32) : Prop :=
  (∀ a x, ((![v2273] : Fin 1 → IVec S16 32) a x).toNat < S512.size a) ∧
  (∀ a x, ((![v2273] : Fin 1 → IVec S16 32) a x).toNat < S512.size a)
theorem k0_idx482_inb : ∀ (v2273 : IVec S16 32) (k0_hw243 : k0_chk243 v2273), ∀ a x, ((![v2273] : Fin 1 → IVec S16 32) a x).toNat < S512.size a := fun v2273 k0_hw243 => k0_hw243.1
theorem k0_idx483_inb : ∀ (v2273 : IVec S16 32) (k0_hw243 : k0_chk243 v2273), ∀ a x, ((![v2273] : Fin 1 → IVec S16 32) a x).toNat < S512.size a := fun v2273 k0_hw243 => k0_hw243.2
def k0_off247 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_687 : BitVec 32 := 16#32
  let v2258 : BitVec 32 := Scalar.muli arg16 c16_i32_687
  let c14_i32 : BitVec 32 := 14#32
  let v2259 : BitVec 32 := Scalar.addi v2258 c14_i32
  let c0_i32_693 : BitVec 32 := 0#32
  ![v2259.toNat, 0]

def k0_chk244 (v2291 : IVec S16 32) : Prop :=
  (∀ a x, ((![v2291] : Fin 1 → IVec S16 32) a x).toNat < S512.size a) ∧
  (∀ a x, ((![v2291] : Fin 1 → IVec S16 32) a x).toNat < S512.size a)
theorem k0_idx484_inb : ∀ (v2291 : IVec S16 32) (k0_hw244 : k0_chk244 v2291), ∀ a x, ((![v2291] : Fin 1 → IVec S16 32) a x).toNat < S512.size a := fun v2291 k0_hw244 => k0_hw244.1
theorem k0_idx485_inb : ∀ (v2291 : IVec S16 32) (k0_hw244 : k0_chk244 v2291), ∀ a x, ((![v2291] : Fin 1 → IVec S16 32) a x).toNat < S512.size a := fun v2291 k0_hw244 => k0_hw244.2
def k0_off248 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_687 : BitVec 32 := 16#32
  let v2258 : BitVec 32 := Scalar.muli arg16 c16_i32_687
  let c14_i32 : BitVec 32 := 14#32
  let v2259 : BitVec 32 := Scalar.addi v2258 c14_i32
  let c0_i32_698 : BitVec 32 := 0#32
  ![v2259.toNat, 0]

def k0_chk245 (v2309 : IVec S16 32) : Prop :=
  (∀ a x, ((![v2309] : Fin 1 → IVec S16 32) a x).toNat < S512.size a) ∧
  (∀ a x, ((![v2309] : Fin 1 → IVec S16 32) a x).toNat < S512.size a)
theorem k0_idx486_inb : ∀ (v2309 : IVec S16 32) (k0_hw245 : k0_chk245 v2309), ∀ a x, ((![v2309] : Fin 1 → IVec S16 32) a x).toNat < S512.size a := fun v2309 k0_hw245 => k0_hw245.1
theorem k0_idx487_inb : ∀ (v2309 : IVec S16 32) (k0_hw245 : k0_chk245 v2309), ∀ a x, ((![v2309] : Fin 1 → IVec S16 32) a x).toNat < S512.size a := fun v2309 k0_hw245 => k0_hw245.2
def k0_off249 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_687 : BitVec 32 := 16#32
  let v2258 : BitVec 32 := Scalar.muli arg16 c16_i32_687
  let c14_i32 : BitVec 32 := 14#32
  let v2259 : BitVec 32 := Scalar.addi v2258 c14_i32
  let c0_i32_703 : BitVec 32 := 0#32
  ![v2259.toNat, 0]

def k0_chk246 (v2327 : IVec S16 32) : Prop :=
  (∀ a x, ((![v2327] : Fin 1 → IVec S16 32) a x).toNat < S512.size a) ∧
  (∀ a x, ((![v2327] : Fin 1 → IVec S16 32) a x).toNat < S512.size a)
theorem k0_idx488_inb : ∀ (v2327 : IVec S16 32) (k0_hw246 : k0_chk246 v2327), ∀ a x, ((![v2327] : Fin 1 → IVec S16 32) a x).toNat < S512.size a := fun v2327 k0_hw246 => k0_hw246.1
theorem k0_idx489_inb : ∀ (v2327 : IVec S16 32) (k0_hw246 : k0_chk246 v2327), ∀ a x, ((![v2327] : Fin 1 → IVec S16 32) a x).toNat < S512.size a := fun v2327 k0_hw246 => k0_hw246.2
def k0_off250 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_687 : BitVec 32 := 16#32
  let v2258 : BitVec 32 := Scalar.muli arg16 c16_i32_687
  let c14_i32 : BitVec 32 := 14#32
  let v2259 : BitVec 32 := Scalar.addi v2258 c14_i32
  let c0_i32_708 : BitVec 32 := 0#32
  ![v2259.toNat, 0]

def k0_chk247 (v2345 : IVec S16 32) : Prop :=
  (∀ a x, ((![v2345] : Fin 1 → IVec S16 32) a x).toNat < S512.size a) ∧
  (∀ a x, ((![v2345] : Fin 1 → IVec S16 32) a x).toNat < S512.size a)
theorem k0_idx490_inb : ∀ (v2345 : IVec S16 32) (k0_hw247 : k0_chk247 v2345), ∀ a x, ((![v2345] : Fin 1 → IVec S16 32) a x).toNat < S512.size a := fun v2345 k0_hw247 => k0_hw247.1
theorem k0_idx491_inb : ∀ (v2345 : IVec S16 32) (k0_hw247 : k0_chk247 v2345), ∀ a x, ((![v2345] : Fin 1 → IVec S16 32) a x).toNat < S512.size a := fun v2345 k0_hw247 => k0_hw247.2
def k0_off251 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_687 : BitVec 32 := 16#32
  let v2258 : BitVec 32 := Scalar.muli arg16 c16_i32_687
  let c14_i32 : BitVec 32 := 14#32
  let v2259 : BitVec 32 := Scalar.addi v2258 c14_i32
  let c0_i32_713 : BitVec 32 := 0#32
  ![v2259.toNat, 0]

def k0_chk248 (v2363 : IVec S16 32) : Prop :=
  (∀ a x, ((![v2363] : Fin 1 → IVec S16 32) a x).toNat < S512.size a) ∧
  (∀ a x, ((![v2363] : Fin 1 → IVec S16 32) a x).toNat < S512.size a)
theorem k0_idx492_inb : ∀ (v2363 : IVec S16 32) (k0_hw248 : k0_chk248 v2363), ∀ a x, ((![v2363] : Fin 1 → IVec S16 32) a x).toNat < S512.size a := fun v2363 k0_hw248 => k0_hw248.1
theorem k0_idx493_inb : ∀ (v2363 : IVec S16 32) (k0_hw248 : k0_chk248 v2363), ∀ a x, ((![v2363] : Fin 1 → IVec S16 32) a x).toNat < S512.size a := fun v2363 k0_hw248 => k0_hw248.2
def k0_off252 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_687 : BitVec 32 := 16#32
  let v2258 : BitVec 32 := Scalar.muli arg16 c16_i32_687
  let c14_i32 : BitVec 32 := 14#32
  let v2259 : BitVec 32 := Scalar.addi v2258 c14_i32
  let c0_i32_718 : BitVec 32 := 0#32
  ![v2259.toNat, 0]

def k0_chk249 (v2381 : IVec S16 32) : Prop :=
  (∀ a x, ((![v2381] : Fin 1 → IVec S16 32) a x).toNat < S512.size a) ∧
  (∀ a x, ((![v2381] : Fin 1 → IVec S16 32) a x).toNat < S512.size a)
theorem k0_idx494_inb : ∀ (v2381 : IVec S16 32) (k0_hw249 : k0_chk249 v2381), ∀ a x, ((![v2381] : Fin 1 → IVec S16 32) a x).toNat < S512.size a := fun v2381 k0_hw249 => k0_hw249.1
theorem k0_idx495_inb : ∀ (v2381 : IVec S16 32) (k0_hw249 : k0_chk249 v2381), ∀ a x, ((![v2381] : Fin 1 → IVec S16 32) a x).toNat < S512.size a := fun v2381 k0_hw249 => k0_hw249.2
def k0_off253 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_687 : BitVec 32 := 16#32
  let v2258 : BitVec 32 := Scalar.muli arg16 c16_i32_687
  let c14_i32 : BitVec 32 := 14#32
  let v2259 : BitVec 32 := Scalar.addi v2258 c14_i32
  let c0_i32_723 : BitVec 32 := 0#32
  ![v2259.toNat, 0]

def k0_chk250 (v2399 : IVec S16 32) : Prop :=
  (∀ a x, ((![v2399] : Fin 1 → IVec S16 32) a x).toNat < S512.size a) ∧
  (∀ a x, ((![v2399] : Fin 1 → IVec S16 32) a x).toNat < S512.size a)
theorem k0_idx496_inb : ∀ (v2399 : IVec S16 32) (k0_hw250 : k0_chk250 v2399), ∀ a x, ((![v2399] : Fin 1 → IVec S16 32) a x).toNat < S512.size a := fun v2399 k0_hw250 => k0_hw250.1
theorem k0_idx497_inb : ∀ (v2399 : IVec S16 32) (k0_hw250 : k0_chk250 v2399), ∀ a x, ((![v2399] : Fin 1 → IVec S16 32) a x).toNat < S512.size a := fun v2399 k0_hw250 => k0_hw250.2
def k0_off254 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_732 : BitVec 32 := 0#32
  ![v2410.toNat, 0]

def k0_chk251 (v2424 : IVec S16 32) : Prop :=
  (∀ a x, ((![v2424] : Fin 1 → IVec S16 32) a x).toNat < S512.size a) ∧
  (∀ a x, ((![v2424] : Fin 1 → IVec S16 32) a x).toNat < S512.size a)
theorem k0_idx498_inb : ∀ (v2424 : IVec S16 32) (k0_hw251 : k0_chk251 v2424), ∀ a x, ((![v2424] : Fin 1 → IVec S16 32) a x).toNat < S512.size a := fun v2424 k0_hw251 => k0_hw251.1
theorem k0_idx499_inb : ∀ (v2424 : IVec S16 32) (k0_hw251 : k0_chk251 v2424), ∀ a x, ((![v2424] : Fin 1 → IVec S16 32) a x).toNat < S512.size a := fun v2424 k0_hw251 => k0_hw251.2
def k0_off255 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_737 : BitVec 32 := 0#32
  ![v2410.toNat, 0]

def k0_chk252 (v2442 : IVec S16 32) : Prop :=
  (∀ a x, ((![v2442] : Fin 1 → IVec S16 32) a x).toNat < S512.size a) ∧
  (∀ a x, ((![v2442] : Fin 1 → IVec S16 32) a x).toNat < S512.size a)
theorem k0_idx500_inb : ∀ (v2442 : IVec S16 32) (k0_hw252 : k0_chk252 v2442), ∀ a x, ((![v2442] : Fin 1 → IVec S16 32) a x).toNat < S512.size a := fun v2442 k0_hw252 => k0_hw252.1
theorem k0_idx501_inb : ∀ (v2442 : IVec S16 32) (k0_hw252 : k0_chk252 v2442), ∀ a x, ((![v2442] : Fin 1 → IVec S16 32) a x).toNat < S512.size a := fun v2442 k0_hw252 => k0_hw252.2
def k0_off256 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_742 : BitVec 32 := 0#32
  ![v2410.toNat, 0]

def k0_chk253 (v2460 : IVec S16 32) : Prop :=
  (∀ a x, ((![v2460] : Fin 1 → IVec S16 32) a x).toNat < S512.size a) ∧
  (∀ a x, ((![v2460] : Fin 1 → IVec S16 32) a x).toNat < S512.size a)
theorem k0_idx502_inb : ∀ (v2460 : IVec S16 32) (k0_hw253 : k0_chk253 v2460), ∀ a x, ((![v2460] : Fin 1 → IVec S16 32) a x).toNat < S512.size a := fun v2460 k0_hw253 => k0_hw253.1
theorem k0_idx503_inb : ∀ (v2460 : IVec S16 32) (k0_hw253 : k0_chk253 v2460), ∀ a x, ((![v2460] : Fin 1 → IVec S16 32) a x).toNat < S512.size a := fun v2460 k0_hw253 => k0_hw253.2
def k0_off257 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_747 : BitVec 32 := 0#32
  ![v2410.toNat, 0]

def k0_chk254 (v2478 : IVec S16 32) : Prop :=
  (∀ a x, ((![v2478] : Fin 1 → IVec S16 32) a x).toNat < S512.size a) ∧
  (∀ a x, ((![v2478] : Fin 1 → IVec S16 32) a x).toNat < S512.size a)
theorem k0_idx504_inb : ∀ (v2478 : IVec S16 32) (k0_hw254 : k0_chk254 v2478), ∀ a x, ((![v2478] : Fin 1 → IVec S16 32) a x).toNat < S512.size a := fun v2478 k0_hw254 => k0_hw254.1
theorem k0_idx505_inb : ∀ (v2478 : IVec S16 32) (k0_hw254 : k0_chk254 v2478), ∀ a x, ((![v2478] : Fin 1 → IVec S16 32) a x).toNat < S512.size a := fun v2478 k0_hw254 => k0_hw254.2
def k0_off258 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_752 : BitVec 32 := 0#32
  ![v2410.toNat, 0]

def k0_chk255 (v2496 : IVec S16 32) : Prop :=
  (∀ a x, ((![v2496] : Fin 1 → IVec S16 32) a x).toNat < S512.size a) ∧
  (∀ a x, ((![v2496] : Fin 1 → IVec S16 32) a x).toNat < S512.size a)
theorem k0_idx506_inb : ∀ (v2496 : IVec S16 32) (k0_hw255 : k0_chk255 v2496), ∀ a x, ((![v2496] : Fin 1 → IVec S16 32) a x).toNat < S512.size a := fun v2496 k0_hw255 => k0_hw255.1
theorem k0_idx507_inb : ∀ (v2496 : IVec S16 32) (k0_hw255 : k0_chk255 v2496), ∀ a x, ((![v2496] : Fin 1 → IVec S16 32) a x).toNat < S512.size a := fun v2496 k0_hw255 => k0_hw255.2
def k0_off259 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_757 : BitVec 32 := 0#32
  ![v2410.toNat, 0]

def k0_chk256 (v2514 : IVec S16 32) : Prop :=
  (∀ a x, ((![v2514] : Fin 1 → IVec S16 32) a x).toNat < S512.size a) ∧
  (∀ a x, ((![v2514] : Fin 1 → IVec S16 32) a x).toNat < S512.size a)
theorem k0_idx508_inb : ∀ (v2514 : IVec S16 32) (k0_hw256 : k0_chk256 v2514), ∀ a x, ((![v2514] : Fin 1 → IVec S16 32) a x).toNat < S512.size a := fun v2514 k0_hw256 => k0_hw256.1
theorem k0_idx509_inb : ∀ (v2514 : IVec S16 32) (k0_hw256 : k0_chk256 v2514), ∀ a x, ((![v2514] : Fin 1 → IVec S16 32) a x).toNat < S512.size a := fun v2514 k0_hw256 => k0_hw256.2
def k0_off260 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_762 : BitVec 32 := 0#32
  ![v2410.toNat, 0]

def k0_chk257 (v2532 : IVec S16 32) : Prop :=
  (∀ a x, ((![v2532] : Fin 1 → IVec S16 32) a x).toNat < S512.size a) ∧
  (∀ a x, ((![v2532] : Fin 1 → IVec S16 32) a x).toNat < S512.size a)
theorem k0_idx510_inb : ∀ (v2532 : IVec S16 32) (k0_hw257 : k0_chk257 v2532), ∀ a x, ((![v2532] : Fin 1 → IVec S16 32) a x).toNat < S512.size a := fun v2532 k0_hw257 => k0_hw257.1
theorem k0_idx511_inb : ∀ (v2532 : IVec S16 32) (k0_hw257 : k0_chk257 v2532), ∀ a x, ((![v2532] : Fin 1 → IVec S16 32) a x).toNat < S512.size a := fun v2532 k0_hw257 => k0_hw257.2
def k0_off261 (v96 : BitVec 32) (k0_t4 : Fin (k0_t4_loop v96).trips) : Fin 2 → Nat :=
  let c0_i32_82 : BitVec 32 := 0#32
  let c256_i32 : BitVec 32 := 256#32
  let v97 : BitVec 32 := Scalar.minsi v96 c256_i32
  let c15_i32 : BitVec 32 := 15#32
  let v110 : BitVec 32 := Scalar.addi v97 c15_i32
  let c0_i32_75 : BitVec 32 := 0#32
  let v112 : BitVec 1 := Scalar.cmpi .sgt v110 c0_i32_75
  let v113 : BitVec 32 := Scalar.extui v112
  let c0_i32_76 : BitVec 32 := 0#32
  let v114 : BitVec 1 := Scalar.cmpi .slt v110 c0_i32_76
  let v115 : BitVec 32 := Scalar.extui v114
  let v116 : BitVec 32 := Scalar.subi v113 v115
  let c16_i32 : BitVec 32 := 16#32
  let c0_i32_77 : BitVec 32 := 0#32
  let v117 : BitVec 1 := Scalar.cmpi .sgt c16_i32 c0_i32_77
  let v118 : BitVec 32 := Scalar.extui v117
  let c0_i32_78 : BitVec 32 := 0#32
  let v119 : BitVec 1 := Scalar.cmpi .slt c16_i32 c0_i32_78
  let v120 : BitVec 32 := Scalar.extui v119
  let v121 : BitVec 32 := Scalar.subi v118 v120
  let v122 : BitVec 1 := Scalar.cmpi .ne v116 v121
  let v123 : BitVec 32 := Scalar.remsi v110 c16_i32
  let c0_i32_79 : BitVec 32 := 0#32
  let v124 : BitVec 1 := Scalar.cmpi .ne v123 c0_i32_79
  let v125 : BitVec 1 := Scalar.andi v122 v124
  let v111 : BitVec 32 := Scalar.divsi v110 c16_i32
  let c1_i32_80 : BitVec 32 := 1#32
  let v126 : BitVec 32 := Scalar.subi v111 c1_i32_80
  let v127 : BitVec 32 := Scalar.select v125 v126 v111
  let v129 : BitVec 32 := Scalar.subi v127 c0_i32_82
  let c1_i32_83 : BitVec 32 := 1#32
  let v131 : BitVec 32 := Scalar.divsi v129 c1_i32_83
  let v132 : BitVec 32 := Scalar.muli v131 c1_i32_83
  let v133 : BitVec 32 := Scalar.addi c0_i32_82 v132
  let c1_i32_85 : BitVec 32 := 1#32
  let arg16 : BitVec 32 := Scf.iv v133 c1_i32_85 k0_t4
  let c16_i32_730 : BitVec 32 := 16#32
  let v2409 : BitVec 32 := Scalar.muli arg16 c16_i32_730
  let c15_i32_731 : BitVec 32 := 15#32
  let v2410 : BitVec 32 := Scalar.addi v2409 c15_i32_731
  let c0_i32_767 : BitVec 32 := 0#32
  ![v2410.toNat, 0]

def k0_chk2_0 (v96 : BitVec 32) : Prop :=
  ((k0_t3_loop v96).OK) ∧
  (∀ k0_t3 : Fin (k0_t3_loop v96).trips, ∀ a, (k0_off4 v96 k0_t3) a + S16.size a ≤ S256.size a) ∧
  (∀ k0_t3 : Fin (k0_t3_loop v96).trips, ∀ a, (k0_off5 v96 k0_t3) a + S1x128.size a ≤ S256x128.size a) ∧
  (∀ k0_t3 : Fin (k0_t3_loop v96).trips, ∀ a, (k0_off6 v96 k0_t3) a + S1x128.size a ≤ S256x128.size a) ∧
  (∀ k0_t3 : Fin (k0_t3_loop v96).trips, ∀ a, (k0_off7 v96 k0_t3) a + S1x128.size a ≤ S256x128.size a) ∧
  (∀ k0_t3 : Fin (k0_t3_loop v96).trips, ∀ a, (k0_off8 v96 k0_t3) a + S1x128.size a ≤ S256x128.size a) ∧
  (∀ k0_t3 : Fin (k0_t3_loop v96).trips, ∀ a, (k0_off9 v96 k0_t3) a + S1x128.size a ≤ S256x128.size a) ∧
  (∀ k0_t3 : Fin (k0_t3_loop v96).trips, ∀ a, (k0_off10 v96 k0_t3) a + S1x128.size a ≤ S256x128.size a) ∧
  (∀ k0_t3 : Fin (k0_t3_loop v96).trips, ∀ a, (k0_off11 v96 k0_t3) a + S1x128.size a ≤ S256x128.size a) ∧
  (∀ k0_t3 : Fin (k0_t3_loop v96).trips, ∀ a, (k0_off12 v96 k0_t3) a + S1x128.size a ≤ S256x128.size a) ∧
  (∀ k0_t3 : Fin (k0_t3_loop v96).trips, ∀ a, (k0_off13 v96 k0_t3) a + S1x128.size a ≤ S256x128.size a) ∧
  (∀ k0_t3 : Fin (k0_t3_loop v96).trips, ∀ a, (k0_off14 v96 k0_t3) a + S1x128.size a ≤ S256x128.size a) ∧
  (∀ k0_t3 : Fin (k0_t3_loop v96).trips, ∀ a, (k0_off15 v96 k0_t3) a + S1x128.size a ≤ S256x128.size a) ∧
  (∀ k0_t3 : Fin (k0_t3_loop v96).trips, ∀ a, (k0_off16 v96 k0_t3) a + S1x128.size a ≤ S256x128.size a) ∧
  (∀ k0_t3 : Fin (k0_t3_loop v96).trips, ∀ a, (k0_off17 v96 k0_t3) a + S1x128.size a ≤ S256x128.size a) ∧
  (∀ k0_t3 : Fin (k0_t3_loop v96).trips, ∀ a, (k0_off18 v96 k0_t3) a + S1x128.size a ≤ S256x128.size a) ∧
  (∀ k0_t3 : Fin (k0_t3_loop v96).trips, ∀ a, (k0_off19 v96 k0_t3) a + S1x128.size a ≤ S256x128.size a) ∧
  (∀ k0_t3 : Fin (k0_t3_loop v96).trips, ∀ a, (k0_off20 v96 k0_t3) a + S1x128.size a ≤ S256x128.size a) ∧
  (∀ k0_t3 : Fin (k0_t3_loop v96).trips, ∀ a, (k0_off21 v96 k0_t3) a + S1x128.size a ≤ S256x128.size a) ∧
  (∀ k0_t3 : Fin (k0_t3_loop v96).trips, ∀ a, (k0_off22 v96 k0_t3) a + S1x128.size a ≤ S256x128.size a) ∧
  (∀ k0_t3 : Fin (k0_t3_loop v96).trips, ∀ a, (k0_off23 v96 k0_t3) a + S1x128.size a ≤ S256x128.size a) ∧
  (∀ k0_t3 : Fin (k0_t3_loop v96).trips, ∀ a, (k0_off24 v96 k0_t3) a + S1x128.size a ≤ S256x128.size a) ∧
  (∀ k0_t3 : Fin (k0_t3_loop v96).trips, ∀ a, (k0_off25 v96 k0_t3) a + S1x128.size a ≤ S256x128.size a) ∧
  (∀ k0_t3 : Fin (k0_t3_loop v96).trips, ∀ a, (k0_off26 v96 k0_t3) a + S1x128.size a ≤ S256x128.size a) ∧
  (∀ k0_t3 : Fin (k0_t3_loop v96).trips, ∀ a, (k0_off27 v96 k0_t3) a + S1x128.size a ≤ S256x128.size a) ∧
  (∀ k0_t3 : Fin (k0_t3_loop v96).trips, ∀ a, (k0_off28 v96 k0_t3) a + S1x128.size a ≤ S256x128.size a) ∧
  (∀ k0_t3 : Fin (k0_t3_loop v96).trips, ∀ a, (k0_off29 v96 k0_t3) a + S1x128.size a ≤ S256x128.size a) ∧
  (∀ k0_t3 : Fin (k0_t3_loop v96).trips, ∀ a, (k0_off30 v96 k0_t3) a + S1x128.size a ≤ S256x128.size a) ∧
  (∀ k0_t3 : Fin (k0_t3_loop v96).trips, ∀ a, (k0_off31 v96 k0_t3) a + S1x128.size a ≤ S256x128.size a) ∧
  (∀ k0_t3 : Fin (k0_t3_loop v96).trips, ∀ a, (k0_off32 v96 k0_t3) a + S1x128.size a ≤ S256x128.size a) ∧
  (∀ k0_t3 : Fin (k0_t3_loop v96).trips, ∀ a, (k0_off33 v96 k0_t3) a + S1x128.size a ≤ S256x128.size a) ∧
  (∀ k0_t3 : Fin (k0_t3_loop v96).trips, ∀ a, (k0_off34 v96 k0_t3) a + S1x128.size a ≤ S256x128.size a)
def k0_chk2_1 (v96 : BitVec 32) : Prop :=
  (∀ k0_t3 : Fin (k0_t3_loop v96).trips, ∀ a, (k0_off35 v96 k0_t3) a + S1x128.size a ≤ S256x128.size a) ∧
  (∀ k0_t3 : Fin (k0_t3_loop v96).trips, ∀ a, (k0_off36 v96 k0_t3) a + S1x128.size a ≤ S256x128.size a) ∧
  (∀ k0_t3 : Fin (k0_t3_loop v96).trips, ∀ a, (k0_off37 v96 k0_t3) a + S1x128.size a ≤ S256x128.size a) ∧
  (∀ k0_t3 : Fin (k0_t3_loop v96).trips, ∀ a, (k0_off38 v96 k0_t3) a + S1x128.size a ≤ S256x128.size a) ∧
  (∀ k0_t3 : Fin (k0_t3_loop v96).trips, ∀ a, (k0_off39 v96 k0_t3) a + S1x128.size a ≤ S256x128.size a) ∧
  (∀ k0_t3 : Fin (k0_t3_loop v96).trips, ∀ a, (k0_off40 v96 k0_t3) a + S1x128.size a ≤ S256x128.size a) ∧
  (∀ k0_t3 : Fin (k0_t3_loop v96).trips, ∀ a, (k0_off41 v96 k0_t3) a + S1x128.size a ≤ S256x128.size a) ∧
  (∀ k0_t3 : Fin (k0_t3_loop v96).trips, ∀ a, (k0_off42 v96 k0_t3) a + S1x128.size a ≤ S256x128.size a) ∧
  (∀ k0_t3 : Fin (k0_t3_loop v96).trips, ∀ a, (k0_off43 v96 k0_t3) a + S1x128.size a ≤ S256x128.size a) ∧
  (∀ k0_t3 : Fin (k0_t3_loop v96).trips, ∀ a, (k0_off44 v96 k0_t3) a + S1x128.size a ≤ S256x128.size a) ∧
  (∀ k0_t3 : Fin (k0_t3_loop v96).trips, ∀ a, (k0_off45 v96 k0_t3) a + S1x128.size a ≤ S256x128.size a) ∧
  (∀ k0_t3 : Fin (k0_t3_loop v96).trips, ∀ a, (k0_off46 v96 k0_t3) a + S1x128.size a ≤ S256x128.size a) ∧
  (∀ k0_t3 : Fin (k0_t3_loop v96).trips, ∀ a, (k0_off47 v96 k0_t3) a + S1x128.size a ≤ S256x128.size a) ∧
  (∀ k0_t3 : Fin (k0_t3_loop v96).trips, ∀ a, (k0_off48 v96 k0_t3) a + S1x128.size a ≤ S256x128.size a) ∧
  (∀ k0_t3 : Fin (k0_t3_loop v96).trips, ∀ a, (k0_off49 v96 k0_t3) a + S1x128.size a ≤ S256x128.size a) ∧
  (∀ k0_t3 : Fin (k0_t3_loop v96).trips, ∀ a, (k0_off50 v96 k0_t3) a + S1x128.size a ≤ S256x128.size a) ∧
  (∀ k0_t3 : Fin (k0_t3_loop v96).trips, ∀ a, (k0_off51 v96 k0_t3) a + S1x128.size a ≤ S256x128.size a) ∧
  (∀ k0_t3 : Fin (k0_t3_loop v96).trips, ∀ a, (k0_off52 v96 k0_t3) a + S1x128.size a ≤ S256x128.size a) ∧
  (∀ k0_t3 : Fin (k0_t3_loop v96).trips, ∀ a, (k0_off53 v96 k0_t3) a + S1x128.size a ≤ S256x128.size a) ∧
  (∀ k0_t3 : Fin (k0_t3_loop v96).trips, ∀ a, (k0_off54 v96 k0_t3) a + S1x128.size a ≤ S256x128.size a) ∧
  (∀ k0_t3 : Fin (k0_t3_loop v96).trips, ∀ a, (k0_off55 v96 k0_t3) a + S1x128.size a ≤ S256x128.size a) ∧
  (∀ k0_t3 : Fin (k0_t3_loop v96).trips, ∀ a, (k0_off56 v96 k0_t3) a + S1x128.size a ≤ S256x128.size a) ∧
  (∀ k0_t3 : Fin (k0_t3_loop v96).trips, ∀ a, (k0_off57 v96 k0_t3) a + S1x128.size a ≤ S256x128.size a) ∧
  (∀ k0_t3 : Fin (k0_t3_loop v96).trips, ∀ a, (k0_off58 v96 k0_t3) a + S1x128.size a ≤ S256x128.size a) ∧
  (∀ k0_t3 : Fin (k0_t3_loop v96).trips, ∀ a, (k0_off59 v96 k0_t3) a + S1x128.size a ≤ S256x128.size a) ∧
  (∀ k0_t3 : Fin (k0_t3_loop v96).trips, ∀ a, (k0_off60 v96 k0_t3) a + S1x128.size a ≤ S256x128.size a) ∧
  (∀ k0_t3 : Fin (k0_t3_loop v96).trips, ∀ a, (k0_off61 v96 k0_t3) a + S1x128.size a ≤ S256x128.size a) ∧
  (∀ k0_t3 : Fin (k0_t3_loop v96).trips, ∀ a, (k0_off62 v96 k0_t3) a + S1x128.size a ≤ S256x128.size a) ∧
  (∀ k0_t3 : Fin (k0_t3_loop v96).trips, ∀ a, (k0_off63 v96 k0_t3) a + S1x128.size a ≤ S256x128.size a) ∧
  (∀ k0_t3 : Fin (k0_t3_loop v96).trips, ∀ a, (k0_off64 v96 k0_t3) a + S1x128.size a ≤ S256x128.size a) ∧
  (∀ k0_t3 : Fin (k0_t3_loop v96).trips, ∀ a, (k0_off65 v96 k0_t3) a + S1x128.size a ≤ S256x128.size a) ∧
  (∀ k0_t3 : Fin (k0_t3_loop v96).trips, ∀ a, (k0_off66 v96 k0_t3) a + S1x128.size a ≤ S256x128.size a)
def k0_chk2_2 (v96 : BitVec 32) : Prop :=
  (∀ k0_t3 : Fin (k0_t3_loop v96).trips, ∀ a, (k0_off67 v96 k0_t3) a + S1x128.size a ≤ S256x128.size a) ∧
  (∀ k0_t3 : Fin (k0_t3_loop v96).trips, ∀ a, (k0_off68 v96 k0_t3) a + S1x128.size a ≤ S256x128.size a) ∧
  (∀ k0_t3 : Fin (k0_t3_loop v96).trips, ∀ a, (k0_off69 v96 k0_t3) a + S1x128.size a ≤ S256x128.size a) ∧
  (∀ k0_t3 : Fin (k0_t3_loop v96).trips, ∀ a, (k0_off70 v96 k0_t3) a + S1x128.size a ≤ S256x128.size a) ∧
  (∀ k0_t3 : Fin (k0_t3_loop v96).trips, ∀ a, (k0_off71 v96 k0_t3) a + S1x128.size a ≤ S256x128.size a) ∧
  (∀ k0_t3 : Fin (k0_t3_loop v96).trips, ∀ a, (k0_off72 v96 k0_t3) a + S1x128.size a ≤ S256x128.size a) ∧
  (∀ k0_t3 : Fin (k0_t3_loop v96).trips, ∀ a, (k0_off73 v96 k0_t3) a + S1x128.size a ≤ S256x128.size a) ∧
  (∀ k0_t3 : Fin (k0_t3_loop v96).trips, ∀ a, (k0_off74 v96 k0_t3) a + S1x128.size a ≤ S256x128.size a) ∧
  (∀ k0_t3 : Fin (k0_t3_loop v96).trips, ∀ a, (k0_off75 v96 k0_t3) a + S1x128.size a ≤ S256x128.size a) ∧
  (∀ k0_t3 : Fin (k0_t3_loop v96).trips, ∀ a, (k0_off76 v96 k0_t3) a + S1x128.size a ≤ S256x128.size a) ∧
  (∀ k0_t3 : Fin (k0_t3_loop v96).trips, ∀ a, (k0_off77 v96 k0_t3) a + S1x128.size a ≤ S256x128.size a) ∧
  (∀ k0_t3 : Fin (k0_t3_loop v96).trips, ∀ a, (k0_off78 v96 k0_t3) a + S1x128.size a ≤ S256x128.size a) ∧
  (∀ k0_t3 : Fin (k0_t3_loop v96).trips, ∀ a, (k0_off79 v96 k0_t3) a + S1x128.size a ≤ S256x128.size a) ∧
  (∀ k0_t3 : Fin (k0_t3_loop v96).trips, ∀ a, (k0_off80 v96 k0_t3) a + S1x128.size a ≤ S256x128.size a) ∧
  (∀ k0_t3 : Fin (k0_t3_loop v96).trips, ∀ a, (k0_off81 v96 k0_t3) a + S1x128.size a ≤ S256x128.size a) ∧
  (∀ k0_t3 : Fin (k0_t3_loop v96).trips, ∀ a, (k0_off82 v96 k0_t3) a + S1x128.size a ≤ S256x128.size a) ∧
  (∀ k0_t3 : Fin (k0_t3_loop v96).trips, ∀ a, (k0_off83 v96 k0_t3) a + S1x128.size a ≤ S256x128.size a) ∧
  (∀ k0_t3 : Fin (k0_t3_loop v96).trips, ∀ a, (k0_off84 v96 k0_t3) a + S1x128.size a ≤ S256x128.size a) ∧
  (∀ k0_t3 : Fin (k0_t3_loop v96).trips, ∀ a, (k0_off85 v96 k0_t3) a + S1x128.size a ≤ S256x128.size a) ∧
  (∀ k0_t3 : Fin (k0_t3_loop v96).trips, ∀ a, (k0_off86 v96 k0_t3) a + S1x128.size a ≤ S256x128.size a) ∧
  (∀ k0_t3 : Fin (k0_t3_loop v96).trips, ∀ a, (k0_off87 v96 k0_t3) a + S1x128.size a ≤ S256x128.size a) ∧
  (∀ k0_t3 : Fin (k0_t3_loop v96).trips, ∀ a, (k0_off88 v96 k0_t3) a + S1x128.size a ≤ S256x128.size a) ∧
  (∀ k0_t3 : Fin (k0_t3_loop v96).trips, ∀ a, (k0_off89 v96 k0_t3) a + S1x128.size a ≤ S256x128.size a) ∧
  (∀ k0_t3 : Fin (k0_t3_loop v96).trips, ∀ a, (k0_off90 v96 k0_t3) a + S1x128.size a ≤ S256x128.size a) ∧
  (∀ k0_t3 : Fin (k0_t3_loop v96).trips, ∀ a, (k0_off91 v96 k0_t3) a + S1x128.size a ≤ S256x128.size a) ∧
  (∀ k0_t3 : Fin (k0_t3_loop v96).trips, ∀ a, (k0_off92 v96 k0_t3) a + S1x128.size a ≤ S256x128.size a) ∧
  (∀ k0_t3 : Fin (k0_t3_loop v96).trips, ∀ a, (k0_off93 v96 k0_t3) a + S1x128.size a ≤ S256x128.size a) ∧
  (∀ k0_t3 : Fin (k0_t3_loop v96).trips, ∀ a, (k0_off94 v96 k0_t3) a + S1x128.size a ≤ S256x128.size a) ∧
  (∀ k0_t3 : Fin (k0_t3_loop v96).trips, ∀ a, (k0_off95 v96 k0_t3) a + S1x128.size a ≤ S256x128.size a) ∧
  (∀ k0_t3 : Fin (k0_t3_loop v96).trips, ∀ a, (k0_off96 v96 k0_t3) a + S1x128.size a ≤ S256x128.size a) ∧
  (∀ k0_t3 : Fin (k0_t3_loop v96).trips, ∀ a, (k0_off97 v96 k0_t3) a + S1x128.size a ≤ S256x128.size a) ∧
  (∀ k0_t3 : Fin (k0_t3_loop v96).trips, ∀ a, (k0_off98 v96 k0_t3) a + S1x128.size a ≤ S256x128.size a)
def k0_chk2_3 (v96 : BitVec 32) : Prop :=
  (∀ k0_t3 : Fin (k0_t3_loop v96).trips, ∀ a, (k0_off99 v96 k0_t3) a + S1x128.size a ≤ S256x128.size a) ∧
  (∀ k0_t3 : Fin (k0_t3_loop v96).trips, ∀ a, (k0_off100 v96 k0_t3) a + S1x128.size a ≤ S256x128.size a) ∧
  (∀ k0_t3 : Fin (k0_t3_loop v96).trips, ∀ a, (k0_off101 v96 k0_t3) a + S1x128.size a ≤ S256x128.size a) ∧
  (∀ k0_t3 : Fin (k0_t3_loop v96).trips, ∀ a, (k0_off102 v96 k0_t3) a + S1x128.size a ≤ S256x128.size a) ∧
  (∀ k0_t3 : Fin (k0_t3_loop v96).trips, ∀ a, (k0_off103 v96 k0_t3) a + S1x128.size a ≤ S256x128.size a) ∧
  (∀ k0_t3 : Fin (k0_t3_loop v96).trips, ∀ a, (k0_off104 v96 k0_t3) a + S1x128.size a ≤ S256x128.size a) ∧
  (∀ k0_t3 : Fin (k0_t3_loop v96).trips, ∀ a, (k0_off105 v96 k0_t3) a + S1x128.size a ≤ S256x128.size a) ∧
  (∀ k0_t3 : Fin (k0_t3_loop v96).trips, ∀ a, (k0_off106 v96 k0_t3) a + S1x128.size a ≤ S256x128.size a) ∧
  (∀ k0_t3 : Fin (k0_t3_loop v96).trips, ∀ a, (k0_off107 v96 k0_t3) a + S1x128.size a ≤ S256x128.size a) ∧
  (∀ k0_t3 : Fin (k0_t3_loop v96).trips, ∀ a, (k0_off108 v96 k0_t3) a + S1x128.size a ≤ S256x128.size a) ∧
  (∀ k0_t3 : Fin (k0_t3_loop v96).trips, ∀ a, (k0_off109 v96 k0_t3) a + S1x128.size a ≤ S256x128.size a) ∧
  (∀ k0_t3 : Fin (k0_t3_loop v96).trips, ∀ a, (k0_off110 v96 k0_t3) a + S1x128.size a ≤ S256x128.size a) ∧
  (∀ k0_t3 : Fin (k0_t3_loop v96).trips, ∀ a, (k0_off111 v96 k0_t3) a + S1x128.size a ≤ S256x128.size a) ∧
  (∀ k0_t3 : Fin (k0_t3_loop v96).trips, ∀ a, (k0_off112 v96 k0_t3) a + S1x128.size a ≤ S256x128.size a) ∧
  (∀ k0_t3 : Fin (k0_t3_loop v96).trips, ∀ a, (k0_off113 v96 k0_t3) a + S1x128.size a ≤ S256x128.size a) ∧
  (∀ k0_t3 : Fin (k0_t3_loop v96).trips, ∀ a, (k0_off114 v96 k0_t3) a + S1x128.size a ≤ S256x128.size a) ∧
  (∀ k0_t3 : Fin (k0_t3_loop v96).trips, ∀ a, (k0_off115 v96 k0_t3) a + S1x128.size a ≤ S256x128.size a) ∧
  (∀ k0_t3 : Fin (k0_t3_loop v96).trips, ∀ a, (k0_off116 v96 k0_t3) a + S1x128.size a ≤ S256x128.size a) ∧
  (∀ k0_t3 : Fin (k0_t3_loop v96).trips, ∀ a, (k0_off117 v96 k0_t3) a + S1x128.size a ≤ S256x128.size a) ∧
  (∀ k0_t3 : Fin (k0_t3_loop v96).trips, ∀ a, (k0_off118 v96 k0_t3) a + S1x128.size a ≤ S256x128.size a) ∧
  (∀ k0_t3 : Fin (k0_t3_loop v96).trips, ∀ a, (k0_off119 v96 k0_t3) a + S1x128.size a ≤ S256x128.size a) ∧
  (∀ k0_t3 : Fin (k0_t3_loop v96).trips, ∀ a, (k0_off120 v96 k0_t3) a + S1x128.size a ≤ S256x128.size a) ∧
  (∀ k0_t3 : Fin (k0_t3_loop v96).trips, ∀ a, (k0_off121 v96 k0_t3) a + S1x128.size a ≤ S256x128.size a) ∧
  (∀ k0_t3 : Fin (k0_t3_loop v96).trips, ∀ a, (k0_off122 v96 k0_t3) a + S1x128.size a ≤ S256x128.size a) ∧
  (∀ k0_t3 : Fin (k0_t3_loop v96).trips, ∀ a, (k0_off123 v96 k0_t3) a + S1x128.size a ≤ S256x128.size a) ∧
  (∀ k0_t3 : Fin (k0_t3_loop v96).trips, ∀ a, (k0_off124 v96 k0_t3) a + S1x128.size a ≤ S256x128.size a) ∧
  (∀ k0_t3 : Fin (k0_t3_loop v96).trips, ∀ a, (k0_off125 v96 k0_t3) a + S1x128.size a ≤ S256x128.size a) ∧
  (∀ k0_t3 : Fin (k0_t3_loop v96).trips, ∀ a, (k0_off126 v96 k0_t3) a + S1x128.size a ≤ S256x128.size a) ∧
  (∀ k0_t3 : Fin (k0_t3_loop v96).trips, ∀ a, (k0_off127 v96 k0_t3) a + S1x128.size a ≤ S256x128.size a) ∧
  (∀ k0_t3 : Fin (k0_t3_loop v96).trips, ∀ a, (k0_off128 v96 k0_t3) a + S1x128.size a ≤ S256x128.size a) ∧
  (∀ k0_t3 : Fin (k0_t3_loop v96).trips, ∀ a, (k0_off129 v96 k0_t3) a + S1x128.size a ≤ S256x128.size a) ∧
  (∀ k0_t3 : Fin (k0_t3_loop v96).trips, ∀ a, (k0_off130 v96 k0_t3) a + S1x128.size a ≤ S256x128.size a)
def k0_chk2_4 (v96 : BitVec 32) : Prop :=
  (∀ k0_t3 : Fin (k0_t3_loop v96).trips, ∀ a, (k0_off131 v96 k0_t3) a + S1x128.size a ≤ S256x128.size a) ∧
  (∀ k0_t3 : Fin (k0_t3_loop v96).trips, ∀ a, (k0_off132 v96 k0_t3) a + S1x128.size a ≤ S256x128.size a) ∧
  ((k0_t4_loop v96).OK) ∧
  (∀ k0_t4 : Fin (k0_t4_loop v96).trips, ∀ a, (k0_off133 v96 k0_t4) a + S16.size a ≤ S256.size a) ∧
  (∀ k0_t4 : Fin (k0_t4_loop v96).trips, ∀ a, (k0_off134 v96 k0_t4) a + S1x128.size a ≤ S256x128.size a) ∧
  (∀ k0_t4 : Fin (k0_t4_loop v96).trips, ∀ a, (k0_off135 v96 k0_t4) a + S1x128.size a ≤ S256x128.size a) ∧
  (∀ k0_t4 : Fin (k0_t4_loop v96).trips, ∀ a, (k0_off136 v96 k0_t4) a + S1x128.size a ≤ S256x128.size a) ∧
  (∀ k0_t4 : Fin (k0_t4_loop v96).trips, ∀ a, (k0_off137 v96 k0_t4) a + S1x128.size a ≤ S256x128.size a) ∧
  (∀ k0_t4 : Fin (k0_t4_loop v96).trips, ∀ a, (k0_off138 v96 k0_t4) a + S1x128.size a ≤ S256x128.size a) ∧
  (∀ k0_t4 : Fin (k0_t4_loop v96).trips, ∀ a, (k0_off139 v96 k0_t4) a + S1x128.size a ≤ S256x128.size a) ∧
  (∀ k0_t4 : Fin (k0_t4_loop v96).trips, ∀ a, (k0_off140 v96 k0_t4) a + S1x128.size a ≤ S256x128.size a) ∧
  (∀ k0_t4 : Fin (k0_t4_loop v96).trips, ∀ a, (k0_off141 v96 k0_t4) a + S1x128.size a ≤ S256x128.size a) ∧
  (∀ k0_t4 : Fin (k0_t4_loop v96).trips, ∀ a, (k0_off142 v96 k0_t4) a + S1x128.size a ≤ S256x128.size a) ∧
  (∀ k0_t4 : Fin (k0_t4_loop v96).trips, ∀ a, (k0_off143 v96 k0_t4) a + S1x128.size a ≤ S256x128.size a) ∧
  (∀ k0_t4 : Fin (k0_t4_loop v96).trips, ∀ a, (k0_off144 v96 k0_t4) a + S1x128.size a ≤ S256x128.size a) ∧
  (∀ k0_t4 : Fin (k0_t4_loop v96).trips, ∀ a, (k0_off145 v96 k0_t4) a + S1x128.size a ≤ S256x128.size a) ∧
  (∀ k0_t4 : Fin (k0_t4_loop v96).trips, ∀ a, (k0_off146 v96 k0_t4) a + S1x128.size a ≤ S256x128.size a) ∧
  (∀ k0_t4 : Fin (k0_t4_loop v96).trips, ∀ a, (k0_off147 v96 k0_t4) a + S1x128.size a ≤ S256x128.size a) ∧
  (∀ k0_t4 : Fin (k0_t4_loop v96).trips, ∀ a, (k0_off148 v96 k0_t4) a + S1x128.size a ≤ S256x128.size a) ∧
  (∀ k0_t4 : Fin (k0_t4_loop v96).trips, ∀ a, (k0_off149 v96 k0_t4) a + S1x128.size a ≤ S256x128.size a) ∧
  (∀ k0_t4 : Fin (k0_t4_loop v96).trips, ∀ a, (k0_off150 v96 k0_t4) a + S1x128.size a ≤ S256x128.size a) ∧
  (∀ k0_t4 : Fin (k0_t4_loop v96).trips, ∀ a, (k0_off151 v96 k0_t4) a + S1x128.size a ≤ S256x128.size a) ∧
  (∀ k0_t4 : Fin (k0_t4_loop v96).trips, ∀ a, (k0_off152 v96 k0_t4) a + S1x128.size a ≤ S256x128.size a) ∧
  (∀ k0_t4 : Fin (k0_t4_loop v96).trips, ∀ a, (k0_off153 v96 k0_t4) a + S1x128.size a ≤ S256x128.size a) ∧
  (∀ k0_t4 : Fin (k0_t4_loop v96).trips, ∀ a, (k0_off154 v96 k0_t4) a + S1x128.size a ≤ S256x128.size a) ∧
  (∀ k0_t4 : Fin (k0_t4_loop v96).trips, ∀ a, (k0_off155 v96 k0_t4) a + S1x128.size a ≤ S256x128.size a) ∧
  (∀ k0_t4 : Fin (k0_t4_loop v96).trips, ∀ a, (k0_off156 v96 k0_t4) a + S1x128.size a ≤ S256x128.size a) ∧
  (∀ k0_t4 : Fin (k0_t4_loop v96).trips, ∀ a, (k0_off157 v96 k0_t4) a + S1x128.size a ≤ S256x128.size a) ∧
  (∀ k0_t4 : Fin (k0_t4_loop v96).trips, ∀ a, (k0_off158 v96 k0_t4) a + S1x128.size a ≤ S256x128.size a) ∧
  (∀ k0_t4 : Fin (k0_t4_loop v96).trips, ∀ a, (k0_off159 v96 k0_t4) a + S1x128.size a ≤ S256x128.size a) ∧
  (∀ k0_t4 : Fin (k0_t4_loop v96).trips, ∀ a, (k0_off160 v96 k0_t4) a + S1x128.size a ≤ S256x128.size a) ∧
  (∀ k0_t4 : Fin (k0_t4_loop v96).trips, ∀ a, (k0_off161 v96 k0_t4) a + S1x128.size a ≤ S256x128.size a)
def k0_chk2_5 (v96 : BitVec 32) : Prop :=
  (∀ k0_t4 : Fin (k0_t4_loop v96).trips, ∀ a, (k0_off162 v96 k0_t4) a + S1x128.size a ≤ S256x128.size a) ∧
  (∀ k0_t4 : Fin (k0_t4_loop v96).trips, ∀ a, (k0_off163 v96 k0_t4) a + S1x128.size a ≤ S256x128.size a) ∧
  (∀ k0_t4 : Fin (k0_t4_loop v96).trips, ∀ a, (k0_off164 v96 k0_t4) a + S1x128.size a ≤ S256x128.size a) ∧
  (∀ k0_t4 : Fin (k0_t4_loop v96).trips, ∀ a, (k0_off165 v96 k0_t4) a + S1x128.size a ≤ S256x128.size a) ∧
  (∀ k0_t4 : Fin (k0_t4_loop v96).trips, ∀ a, (k0_off166 v96 k0_t4) a + S1x128.size a ≤ S256x128.size a) ∧
  (∀ k0_t4 : Fin (k0_t4_loop v96).trips, ∀ a, (k0_off167 v96 k0_t4) a + S1x128.size a ≤ S256x128.size a) ∧
  (∀ k0_t4 : Fin (k0_t4_loop v96).trips, ∀ a, (k0_off168 v96 k0_t4) a + S1x128.size a ≤ S256x128.size a) ∧
  (∀ k0_t4 : Fin (k0_t4_loop v96).trips, ∀ a, (k0_off169 v96 k0_t4) a + S1x128.size a ≤ S256x128.size a) ∧
  (∀ k0_t4 : Fin (k0_t4_loop v96).trips, ∀ a, (k0_off170 v96 k0_t4) a + S1x128.size a ≤ S256x128.size a) ∧
  (∀ k0_t4 : Fin (k0_t4_loop v96).trips, ∀ a, (k0_off171 v96 k0_t4) a + S1x128.size a ≤ S256x128.size a) ∧
  (∀ k0_t4 : Fin (k0_t4_loop v96).trips, ∀ a, (k0_off172 v96 k0_t4) a + S1x128.size a ≤ S256x128.size a) ∧
  (∀ k0_t4 : Fin (k0_t4_loop v96).trips, ∀ a, (k0_off173 v96 k0_t4) a + S1x128.size a ≤ S256x128.size a) ∧
  (∀ k0_t4 : Fin (k0_t4_loop v96).trips, ∀ a, (k0_off174 v96 k0_t4) a + S1x128.size a ≤ S256x128.size a) ∧
  (∀ k0_t4 : Fin (k0_t4_loop v96).trips, ∀ a, (k0_off175 v96 k0_t4) a + S1x128.size a ≤ S256x128.size a) ∧
  (∀ k0_t4 : Fin (k0_t4_loop v96).trips, ∀ a, (k0_off176 v96 k0_t4) a + S1x128.size a ≤ S256x128.size a) ∧
  (∀ k0_t4 : Fin (k0_t4_loop v96).trips, ∀ a, (k0_off177 v96 k0_t4) a + S1x128.size a ≤ S256x128.size a) ∧
  (∀ k0_t4 : Fin (k0_t4_loop v96).trips, ∀ a, (k0_off178 v96 k0_t4) a + S1x128.size a ≤ S256x128.size a) ∧
  (∀ k0_t4 : Fin (k0_t4_loop v96).trips, ∀ a, (k0_off179 v96 k0_t4) a + S1x128.size a ≤ S256x128.size a) ∧
  (∀ k0_t4 : Fin (k0_t4_loop v96).trips, ∀ a, (k0_off180 v96 k0_t4) a + S1x128.size a ≤ S256x128.size a) ∧
  (∀ k0_t4 : Fin (k0_t4_loop v96).trips, ∀ a, (k0_off181 v96 k0_t4) a + S1x128.size a ≤ S256x128.size a) ∧
  (∀ k0_t4 : Fin (k0_t4_loop v96).trips, ∀ a, (k0_off182 v96 k0_t4) a + S1x128.size a ≤ S256x128.size a) ∧
  (∀ k0_t4 : Fin (k0_t4_loop v96).trips, ∀ a, (k0_off183 v96 k0_t4) a + S1x128.size a ≤ S256x128.size a) ∧
  (∀ k0_t4 : Fin (k0_t4_loop v96).trips, ∀ a, (k0_off184 v96 k0_t4) a + S1x128.size a ≤ S256x128.size a) ∧
  (∀ k0_t4 : Fin (k0_t4_loop v96).trips, ∀ a, (k0_off185 v96 k0_t4) a + S1x128.size a ≤ S256x128.size a) ∧
  (∀ k0_t4 : Fin (k0_t4_loop v96).trips, ∀ a, (k0_off186 v96 k0_t4) a + S1x128.size a ≤ S256x128.size a) ∧
  (∀ k0_t4 : Fin (k0_t4_loop v96).trips, ∀ a, (k0_off187 v96 k0_t4) a + S1x128.size a ≤ S256x128.size a) ∧
  (∀ k0_t4 : Fin (k0_t4_loop v96).trips, ∀ a, (k0_off188 v96 k0_t4) a + S1x128.size a ≤ S256x128.size a) ∧
  (∀ k0_t4 : Fin (k0_t4_loop v96).trips, ∀ a, (k0_off189 v96 k0_t4) a + S1x128.size a ≤ S256x128.size a) ∧
  (∀ k0_t4 : Fin (k0_t4_loop v96).trips, ∀ a, (k0_off190 v96 k0_t4) a + S1x128.size a ≤ S256x128.size a) ∧
  (∀ k0_t4 : Fin (k0_t4_loop v96).trips, ∀ a, (k0_off191 v96 k0_t4) a + S1x128.size a ≤ S256x128.size a) ∧
  (∀ k0_t4 : Fin (k0_t4_loop v96).trips, ∀ a, (k0_off192 v96 k0_t4) a + S1x128.size a ≤ S256x128.size a) ∧
  (∀ k0_t4 : Fin (k0_t4_loop v96).trips, ∀ a, (k0_off193 v96 k0_t4) a + S1x128.size a ≤ S256x128.size a)
def k0_chk2_6 (v96 : BitVec 32) : Prop :=
  (∀ k0_t4 : Fin (k0_t4_loop v96).trips, ∀ a, (k0_off194 v96 k0_t4) a + S1x128.size a ≤ S256x128.size a) ∧
  (∀ k0_t4 : Fin (k0_t4_loop v96).trips, ∀ a, (k0_off195 v96 k0_t4) a + S1x128.size a ≤ S256x128.size a) ∧
  (∀ k0_t4 : Fin (k0_t4_loop v96).trips, ∀ a, (k0_off196 v96 k0_t4) a + S1x128.size a ≤ S256x128.size a) ∧
  (∀ k0_t4 : Fin (k0_t4_loop v96).trips, ∀ a, (k0_off197 v96 k0_t4) a + S1x128.size a ≤ S256x128.size a) ∧
  (∀ k0_t4 : Fin (k0_t4_loop v96).trips, ∀ a, (k0_off198 v96 k0_t4) a + S1x128.size a ≤ S256x128.size a) ∧
  (∀ k0_t4 : Fin (k0_t4_loop v96).trips, ∀ a, (k0_off199 v96 k0_t4) a + S1x128.size a ≤ S256x128.size a) ∧
  (∀ k0_t4 : Fin (k0_t4_loop v96).trips, ∀ a, (k0_off200 v96 k0_t4) a + S1x128.size a ≤ S256x128.size a) ∧
  (∀ k0_t4 : Fin (k0_t4_loop v96).trips, ∀ a, (k0_off201 v96 k0_t4) a + S1x128.size a ≤ S256x128.size a) ∧
  (∀ k0_t4 : Fin (k0_t4_loop v96).trips, ∀ a, (k0_off202 v96 k0_t4) a + S1x128.size a ≤ S256x128.size a) ∧
  (∀ k0_t4 : Fin (k0_t4_loop v96).trips, ∀ a, (k0_off203 v96 k0_t4) a + S1x128.size a ≤ S256x128.size a) ∧
  (∀ k0_t4 : Fin (k0_t4_loop v96).trips, ∀ a, (k0_off204 v96 k0_t4) a + S1x128.size a ≤ S256x128.size a) ∧
  (∀ k0_t4 : Fin (k0_t4_loop v96).trips, ∀ a, (k0_off205 v96 k0_t4) a + S1x128.size a ≤ S256x128.size a) ∧
  (∀ k0_t4 : Fin (k0_t4_loop v96).trips, ∀ a, (k0_off206 v96 k0_t4) a + S1x128.size a ≤ S256x128.size a) ∧
  (∀ k0_t4 : Fin (k0_t4_loop v96).trips, ∀ a, (k0_off207 v96 k0_t4) a + S1x128.size a ≤ S256x128.size a) ∧
  (∀ k0_t4 : Fin (k0_t4_loop v96).trips, ∀ a, (k0_off208 v96 k0_t4) a + S1x128.size a ≤ S256x128.size a) ∧
  (∀ k0_t4 : Fin (k0_t4_loop v96).trips, ∀ a, (k0_off209 v96 k0_t4) a + S1x128.size a ≤ S256x128.size a) ∧
  (∀ k0_t4 : Fin (k0_t4_loop v96).trips, ∀ a, (k0_off210 v96 k0_t4) a + S1x128.size a ≤ S256x128.size a) ∧
  (∀ k0_t4 : Fin (k0_t4_loop v96).trips, ∀ a, (k0_off211 v96 k0_t4) a + S1x128.size a ≤ S256x128.size a) ∧
  (∀ k0_t4 : Fin (k0_t4_loop v96).trips, ∀ a, (k0_off212 v96 k0_t4) a + S1x128.size a ≤ S256x128.size a) ∧
  (∀ k0_t4 : Fin (k0_t4_loop v96).trips, ∀ a, (k0_off213 v96 k0_t4) a + S1x128.size a ≤ S256x128.size a) ∧
  (∀ k0_t4 : Fin (k0_t4_loop v96).trips, ∀ a, (k0_off214 v96 k0_t4) a + S1x128.size a ≤ S256x128.size a) ∧
  (∀ k0_t4 : Fin (k0_t4_loop v96).trips, ∀ a, (k0_off215 v96 k0_t4) a + S1x128.size a ≤ S256x128.size a) ∧
  (∀ k0_t4 : Fin (k0_t4_loop v96).trips, ∀ a, (k0_off216 v96 k0_t4) a + S1x128.size a ≤ S256x128.size a) ∧
  (∀ k0_t4 : Fin (k0_t4_loop v96).trips, ∀ a, (k0_off217 v96 k0_t4) a + S1x128.size a ≤ S256x128.size a) ∧
  (∀ k0_t4 : Fin (k0_t4_loop v96).trips, ∀ a, (k0_off218 v96 k0_t4) a + S1x128.size a ≤ S256x128.size a) ∧
  (∀ k0_t4 : Fin (k0_t4_loop v96).trips, ∀ a, (k0_off219 v96 k0_t4) a + S1x128.size a ≤ S256x128.size a) ∧
  (∀ k0_t4 : Fin (k0_t4_loop v96).trips, ∀ a, (k0_off220 v96 k0_t4) a + S1x128.size a ≤ S256x128.size a) ∧
  (∀ k0_t4 : Fin (k0_t4_loop v96).trips, ∀ a, (k0_off221 v96 k0_t4) a + S1x128.size a ≤ S256x128.size a) ∧
  (∀ k0_t4 : Fin (k0_t4_loop v96).trips, ∀ a, (k0_off222 v96 k0_t4) a + S1x128.size a ≤ S256x128.size a) ∧
  (∀ k0_t4 : Fin (k0_t4_loop v96).trips, ∀ a, (k0_off223 v96 k0_t4) a + S1x128.size a ≤ S256x128.size a) ∧
  (∀ k0_t4 : Fin (k0_t4_loop v96).trips, ∀ a, (k0_off224 v96 k0_t4) a + S1x128.size a ≤ S256x128.size a) ∧
  (∀ k0_t4 : Fin (k0_t4_loop v96).trips, ∀ a, (k0_off225 v96 k0_t4) a + S1x128.size a ≤ S256x128.size a)
def k0_chk2_7 (v96 : BitVec 32) : Prop :=
  (∀ k0_t4 : Fin (k0_t4_loop v96).trips, ∀ a, (k0_off226 v96 k0_t4) a + S1x128.size a ≤ S256x128.size a) ∧
  (∀ k0_t4 : Fin (k0_t4_loop v96).trips, ∀ a, (k0_off227 v96 k0_t4) a + S1x128.size a ≤ S256x128.size a) ∧
  (∀ k0_t4 : Fin (k0_t4_loop v96).trips, ∀ a, (k0_off228 v96 k0_t4) a + S1x128.size a ≤ S256x128.size a) ∧
  (∀ k0_t4 : Fin (k0_t4_loop v96).trips, ∀ a, (k0_off229 v96 k0_t4) a + S1x128.size a ≤ S256x128.size a) ∧
  (∀ k0_t4 : Fin (k0_t4_loop v96).trips, ∀ a, (k0_off230 v96 k0_t4) a + S1x128.size a ≤ S256x128.size a) ∧
  (∀ k0_t4 : Fin (k0_t4_loop v96).trips, ∀ a, (k0_off231 v96 k0_t4) a + S1x128.size a ≤ S256x128.size a) ∧
  (∀ k0_t4 : Fin (k0_t4_loop v96).trips, ∀ a, (k0_off232 v96 k0_t4) a + S1x128.size a ≤ S256x128.size a) ∧
  (∀ k0_t4 : Fin (k0_t4_loop v96).trips, ∀ a, (k0_off233 v96 k0_t4) a + S1x128.size a ≤ S256x128.size a) ∧
  (∀ k0_t4 : Fin (k0_t4_loop v96).trips, ∀ a, (k0_off234 v96 k0_t4) a + S1x128.size a ≤ S256x128.size a) ∧
  (∀ k0_t4 : Fin (k0_t4_loop v96).trips, ∀ a, (k0_off235 v96 k0_t4) a + S1x128.size a ≤ S256x128.size a) ∧
  (∀ k0_t4 : Fin (k0_t4_loop v96).trips, ∀ a, (k0_off236 v96 k0_t4) a + S1x128.size a ≤ S256x128.size a) ∧
  (∀ k0_t4 : Fin (k0_t4_loop v96).trips, ∀ a, (k0_off237 v96 k0_t4) a + S1x128.size a ≤ S256x128.size a) ∧
  (∀ k0_t4 : Fin (k0_t4_loop v96).trips, ∀ a, (k0_off238 v96 k0_t4) a + S1x128.size a ≤ S256x128.size a) ∧
  (∀ k0_t4 : Fin (k0_t4_loop v96).trips, ∀ a, (k0_off239 v96 k0_t4) a + S1x128.size a ≤ S256x128.size a) ∧
  (∀ k0_t4 : Fin (k0_t4_loop v96).trips, ∀ a, (k0_off240 v96 k0_t4) a + S1x128.size a ≤ S256x128.size a) ∧
  (∀ k0_t4 : Fin (k0_t4_loop v96).trips, ∀ a, (k0_off241 v96 k0_t4) a + S1x128.size a ≤ S256x128.size a) ∧
  (∀ k0_t4 : Fin (k0_t4_loop v96).trips, ∀ a, (k0_off242 v96 k0_t4) a + S1x128.size a ≤ S256x128.size a) ∧
  (∀ k0_t4 : Fin (k0_t4_loop v96).trips, ∀ a, (k0_off243 v96 k0_t4) a + S1x128.size a ≤ S256x128.size a) ∧
  (∀ k0_t4 : Fin (k0_t4_loop v96).trips, ∀ a, (k0_off244 v96 k0_t4) a + S1x128.size a ≤ S256x128.size a) ∧
  (∀ k0_t4 : Fin (k0_t4_loop v96).trips, ∀ a, (k0_off245 v96 k0_t4) a + S1x128.size a ≤ S256x128.size a) ∧
  (∀ k0_t4 : Fin (k0_t4_loop v96).trips, ∀ a, (k0_off246 v96 k0_t4) a + S1x128.size a ≤ S256x128.size a) ∧
  (∀ k0_t4 : Fin (k0_t4_loop v96).trips, ∀ a, (k0_off247 v96 k0_t4) a + S1x128.size a ≤ S256x128.size a) ∧
  (∀ k0_t4 : Fin (k0_t4_loop v96).trips, ∀ a, (k0_off248 v96 k0_t4) a + S1x128.size a ≤ S256x128.size a) ∧
  (∀ k0_t4 : Fin (k0_t4_loop v96).trips, ∀ a, (k0_off249 v96 k0_t4) a + S1x128.size a ≤ S256x128.size a) ∧
  (∀ k0_t4 : Fin (k0_t4_loop v96).trips, ∀ a, (k0_off250 v96 k0_t4) a + S1x128.size a ≤ S256x128.size a) ∧
  (∀ k0_t4 : Fin (k0_t4_loop v96).trips, ∀ a, (k0_off251 v96 k0_t4) a + S1x128.size a ≤ S256x128.size a) ∧
  (∀ k0_t4 : Fin (k0_t4_loop v96).trips, ∀ a, (k0_off252 v96 k0_t4) a + S1x128.size a ≤ S256x128.size a) ∧
  (∀ k0_t4 : Fin (k0_t4_loop v96).trips, ∀ a, (k0_off253 v96 k0_t4) a + S1x128.size a ≤ S256x128.size a) ∧
  (∀ k0_t4 : Fin (k0_t4_loop v96).trips, ∀ a, (k0_off254 v96 k0_t4) a + S1x128.size a ≤ S256x128.size a) ∧
  (∀ k0_t4 : Fin (k0_t4_loop v96).trips, ∀ a, (k0_off255 v96 k0_t4) a + S1x128.size a ≤ S256x128.size a) ∧
  (∀ k0_t4 : Fin (k0_t4_loop v96).trips, ∀ a, (k0_off256 v96 k0_t4) a + S1x128.size a ≤ S256x128.size a) ∧
  (∀ k0_t4 : Fin (k0_t4_loop v96).trips, ∀ a, (k0_off257 v96 k0_t4) a + S1x128.size a ≤ S256x128.size a)
def k0_chk2_8 (v96 : BitVec 32) : Prop :=
  (∀ k0_t4 : Fin (k0_t4_loop v96).trips, ∀ a, (k0_off258 v96 k0_t4) a + S1x128.size a ≤ S256x128.size a) ∧
  (∀ k0_t4 : Fin (k0_t4_loop v96).trips, ∀ a, (k0_off259 v96 k0_t4) a + S1x128.size a ≤ S256x128.size a) ∧
  (∀ k0_t4 : Fin (k0_t4_loop v96).trips, ∀ a, (k0_off260 v96 k0_t4) a + S1x128.size a ≤ S256x128.size a) ∧
  (∀ k0_t4 : Fin (k0_t4_loop v96).trips, ∀ a, (k0_off261 v96 k0_t4) a + S1x128.size a ≤ S256x128.size a)
def k0_chk2 (v96 : BitVec 32) : Prop :=
  k0_chk2_0 v96 ∧
  k0_chk2_1 v96 ∧
  k0_chk2_2 v96 ∧
  k0_chk2_3 v96 ∧
  k0_chk2_4 v96 ∧
  k0_chk2_5 v96 ∧
  k0_chk2_6 v96 ∧
  k0_chk2_7 v96 ∧
  k0_chk2_8 v96
theorem k0_t3_ok : ∀ (v96 : BitVec 32) (k0_hw2 : k0_chk2 v96), (k0_t3_loop v96).OK := fun v96 k0_hw2 => k0_hw2.1.1
theorem k0_off4_inb : ∀ (v96 : BitVec 32) (k0_hw2 : k0_chk2 v96) (k0_t3 : Fin (k0_t3_loop v96).trips), ∀ a, (k0_off4 v96 k0_t3) a + S16.size a ≤ S256.size a := fun v96 k0_hw2 k0_t3 => k0_hw2.1.2.1 k0_t3
theorem k0_off5_inb : ∀ (v96 : BitVec 32) (k0_hw2 : k0_chk2 v96) (k0_t3 : Fin (k0_t3_loop v96).trips), ∀ a, (k0_off5 v96 k0_t3) a + S1x128.size a ≤ S256x128.size a := fun v96 k0_hw2 k0_t3 => k0_hw2.1.2.2.1 k0_t3
theorem k0_off6_inb : ∀ (v96 : BitVec 32) (k0_hw2 : k0_chk2 v96) (k0_t3 : Fin (k0_t3_loop v96).trips), ∀ a, (k0_off6 v96 k0_t3) a + S1x128.size a ≤ S256x128.size a := fun v96 k0_hw2 k0_t3 => k0_hw2.1.2.2.2.1 k0_t3
theorem k0_off7_inb : ∀ (v96 : BitVec 32) (k0_hw2 : k0_chk2 v96) (k0_t3 : Fin (k0_t3_loop v96).trips), ∀ a, (k0_off7 v96 k0_t3) a + S1x128.size a ≤ S256x128.size a := fun v96 k0_hw2 k0_t3 => k0_hw2.1.2.2.2.2.1 k0_t3
theorem k0_off8_inb : ∀ (v96 : BitVec 32) (k0_hw2 : k0_chk2 v96) (k0_t3 : Fin (k0_t3_loop v96).trips), ∀ a, (k0_off8 v96 k0_t3) a + S1x128.size a ≤ S256x128.size a := fun v96 k0_hw2 k0_t3 => k0_hw2.1.2.2.2.2.2.1 k0_t3
theorem k0_off9_inb : ∀ (v96 : BitVec 32) (k0_hw2 : k0_chk2 v96) (k0_t3 : Fin (k0_t3_loop v96).trips), ∀ a, (k0_off9 v96 k0_t3) a + S1x128.size a ≤ S256x128.size a := fun v96 k0_hw2 k0_t3 => k0_hw2.1.2.2.2.2.2.2.1 k0_t3
theorem k0_off10_inb : ∀ (v96 : BitVec 32) (k0_hw2 : k0_chk2 v96) (k0_t3 : Fin (k0_t3_loop v96).trips), ∀ a, (k0_off10 v96 k0_t3) a + S1x128.size a ≤ S256x128.size a := fun v96 k0_hw2 k0_t3 => k0_hw2.1.2.2.2.2.2.2.2.1 k0_t3
theorem k0_off11_inb : ∀ (v96 : BitVec 32) (k0_hw2 : k0_chk2 v96) (k0_t3 : Fin (k0_t3_loop v96).trips), ∀ a, (k0_off11 v96 k0_t3) a + S1x128.size a ≤ S256x128.size a := fun v96 k0_hw2 k0_t3 => k0_hw2.1.2.2.2.2.2.2.2.2.1 k0_t3
theorem k0_off12_inb : ∀ (v96 : BitVec 32) (k0_hw2 : k0_chk2 v96) (k0_t3 : Fin (k0_t3_loop v96).trips), ∀ a, (k0_off12 v96 k0_t3) a + S1x128.size a ≤ S256x128.size a := fun v96 k0_hw2 k0_t3 => k0_hw2.1.2.2.2.2.2.2.2.2.2.1 k0_t3
theorem k0_off13_inb : ∀ (v96 : BitVec 32) (k0_hw2 : k0_chk2 v96) (k0_t3 : Fin (k0_t3_loop v96).trips), ∀ a, (k0_off13 v96 k0_t3) a + S1x128.size a ≤ S256x128.size a := fun v96 k0_hw2 k0_t3 => k0_hw2.1.2.2.2.2.2.2.2.2.2.2.1 k0_t3
theorem k0_off14_inb : ∀ (v96 : BitVec 32) (k0_hw2 : k0_chk2 v96) (k0_t3 : Fin (k0_t3_loop v96).trips), ∀ a, (k0_off14 v96 k0_t3) a + S1x128.size a ≤ S256x128.size a := fun v96 k0_hw2 k0_t3 => k0_hw2.1.2.2.2.2.2.2.2.2.2.2.2.1 k0_t3
theorem k0_off15_inb : ∀ (v96 : BitVec 32) (k0_hw2 : k0_chk2 v96) (k0_t3 : Fin (k0_t3_loop v96).trips), ∀ a, (k0_off15 v96 k0_t3) a + S1x128.size a ≤ S256x128.size a := fun v96 k0_hw2 k0_t3 => k0_hw2.1.2.2.2.2.2.2.2.2.2.2.2.2.1 k0_t3
theorem k0_off16_inb : ∀ (v96 : BitVec 32) (k0_hw2 : k0_chk2 v96) (k0_t3 : Fin (k0_t3_loop v96).trips), ∀ a, (k0_off16 v96 k0_t3) a + S1x128.size a ≤ S256x128.size a := fun v96 k0_hw2 k0_t3 => k0_hw2.1.2.2.2.2.2.2.2.2.2.2.2.2.2.1 k0_t3
theorem k0_off17_inb : ∀ (v96 : BitVec 32) (k0_hw2 : k0_chk2 v96) (k0_t3 : Fin (k0_t3_loop v96).trips), ∀ a, (k0_off17 v96 k0_t3) a + S1x128.size a ≤ S256x128.size a := fun v96 k0_hw2 k0_t3 => k0_hw2.1.2.2.2.2.2.2.2.2.2.2.2.2.2.2.1 k0_t3
theorem k0_off18_inb : ∀ (v96 : BitVec 32) (k0_hw2 : k0_chk2 v96) (k0_t3 : Fin (k0_t3_loop v96).trips), ∀ a, (k0_off18 v96 k0_t3) a + S1x128.size a ≤ S256x128.size a := fun v96 k0_hw2 k0_t3 => k0_hw2.1.2.2.2.2.2.2.2.2.2.2.2.2.2.2.2.1 k0_t3
theorem k0_off19_inb : ∀ (v96 : BitVec 32) (k0_hw2 : k0_chk2 v96) (k0_t3 : Fin (k0_t3_loop v96).trips), ∀ a, (k0_off19 v96 k0_t3) a + S1x128.size a ≤ S256x128.size a := fun v96 k0_hw2 k0_t3 => k0_hw2.1.2.2.2.2.2.2.2.2.2.2.2.2.2.2.2.2.1 k0_t3
theorem k0_off20_inb : ∀ (v96 : BitVec 32) (k0_hw2 : k0_chk2 v96) (k0_t3 : Fin (k0_t3_loop v96).trips), ∀ a, (k0_off20 v96 k0_t3) a + S1x128.size a ≤ S256x128.size a := fun v96 k0_hw2 k0_t3 => k0_hw2.1.2.2.2.2.2.2.2.2.2.2.2.2.2.2.2.2.2.1 k0_t3
theorem k0_off21_inb : ∀ (v96 : BitVec 32) (k0_hw2 : k0_chk2 v96) (k0_t3 : Fin (k0_t3_loop v96).trips), ∀ a, (k0_off21 v96 k0_t3) a + S1x128.size a ≤ S256x128.size a := fun v96 k0_hw2 k0_t3 => k0_hw2.1.2.2.2.2.2.2.2.2.2.2.2.2.2.2.2.2.2.2.1 k0_t3
theorem k0_off22_inb : ∀ (v96 : BitVec 32) (k0_hw2 : k0_chk2 v96) (k0_t3 : Fin (k0_t3_loop v96).trips), ∀ a, (k0_off22 v96 k0_t3) a + S1x128.size a ≤ S256x128.size a := fun v96 k0_hw2 k0_t3 => k0_hw2.1.2.2.2.2.2.2.2.2.2.2.2.2.2.2.2.2.2.2.2.1 k0_t3
theorem k0_off23_inb : ∀ (v96 : BitVec 32) (k0_hw2 : k0_chk2 v96) (k0_t3 : Fin (k0_t3_loop v96).trips), ∀ a, (k0_off23 v96 k0_t3) a + S1x128.size a ≤ S256x128.size a := fun v96 k0_hw2 k0_t3 => k0_hw2.1.2.2.2.2.2.2.2.2.2.2.2.2.2.2.2.2.2.2.2.2.1 k0_t3
theorem k0_off24_inb : ∀ (v96 : BitVec 32) (k0_hw2 : k0_chk2 v96) (k0_t3 : Fin (k0_t3_loop v96).trips), ∀ a, (k0_off24 v96 k0_t3) a + S1x128.size a ≤ S256x128.size a := fun v96 k0_hw2 k0_t3 => k0_hw2.1.2.2.2.2.2.2.2.2.2.2.2.2.2.2.2.2.2.2.2.2.2.1 k0_t3
theorem k0_off25_inb : ∀ (v96 : BitVec 32) (k0_hw2 : k0_chk2 v96) (k0_t3 : Fin (k0_t3_loop v96).trips), ∀ a, (k0_off25 v96 k0_t3) a + S1x128.size a ≤ S256x128.size a := fun v96 k0_hw2 k0_t3 => k0_hw2.1.2.2.2.2.2.2.2.2.2.2.2.2.2.2.2.2.2.2.2.2.2.2.1 k0_t3
theorem k0_off26_inb : ∀ (v96 : BitVec 32) (k0_hw2 : k0_chk2 v96) (k0_t3 : Fin (k0_t3_loop v96).trips), ∀ a, (k0_off26 v96 k0_t3) a + S1x128.size a ≤ S256x128.size a := fun v96 k0_hw2 k0_t3 => k0_hw2.1.2.2.2.2.2.2.2.2.2.2.2.2.2.2.2.2.2.2.2.2.2.2.2.1 k0_t3
theorem k0_off27_inb : ∀ (v96 : BitVec 32) (k0_hw2 : k0_chk2 v96) (k0_t3 : Fin (k0_t3_loop v96).trips), ∀ a, (k0_off27 v96 k0_t3) a + S1x128.size a ≤ S256x128.size a := fun v96 k0_hw2 k0_t3 => k0_hw2.1.2.2.2.2.2.2.2.2.2.2.2.2.2.2.2.2.2.2.2.2.2.2.2.2.1 k0_t3
theorem k0_off28_inb : ∀ (v96 : BitVec 32) (k0_hw2 : k0_chk2 v96) (k0_t3 : Fin (k0_t3_loop v96).trips), ∀ a, (k0_off28 v96 k0_t3) a + S1x128.size a ≤ S256x128.size a := fun v96 k0_hw2 k0_t3 => k0_hw2.1.2.2.2.2.2.2.2.2.2.2.2.2.2.2.2.2.2.2.2.2.2.2.2.2.2.1 k0_t3
theorem k0_off29_inb : ∀ (v96 : BitVec 32) (k0_hw2 : k0_chk2 v96) (k0_t3 : Fin (k0_t3_loop v96).trips), ∀ a, (k0_off29 v96 k0_t3) a + S1x128.size a ≤ S256x128.size a := fun v96 k0_hw2 k0_t3 => k0_hw2.1.2.2.2.2.2.2.2.2.2.2.2.2.2.2.2.2.2.2.2.2.2.2.2.2.2.2.1 k0_t3
theorem k0_off30_inb : ∀ (v96 : BitVec 32) (k0_hw2 : k0_chk2 v96) (k0_t3 : Fin (k0_t3_loop v96).trips), ∀ a, (k0_off30 v96 k0_t3) a + S1x128.size a ≤ S256x128.size a := fun v96 k0_hw2 k0_t3 => k0_hw2.1.2.2.2.2.2.2.2.2.2.2.2.2.2.2.2.2.2.2.2.2.2.2.2.2.2.2.2.1 k0_t3
theorem k0_off31_inb : ∀ (v96 : BitVec 32) (k0_hw2 : k0_chk2 v96) (k0_t3 : Fin (k0_t3_loop v96).trips), ∀ a, (k0_off31 v96 k0_t3) a + S1x128.size a ≤ S256x128.size a := fun v96 k0_hw2 k0_t3 => k0_hw2.1.2.2.2.2.2.2.2.2.2.2.2.2.2.2.2.2.2.2.2.2.2.2.2.2.2.2.2.2.1 k0_t3
theorem k0_off32_inb : ∀ (v96 : BitVec 32) (k0_hw2 : k0_chk2 v96) (k0_t3 : Fin (k0_t3_loop v96).trips), ∀ a, (k0_off32 v96 k0_t3) a + S1x128.size a ≤ S256x128.size a := fun v96 k0_hw2 k0_t3 => k0_hw2.1.2.2.2.2.2.2.2.2.2.2.2.2.2.2.2.2.2.2.2.2.2.2.2.2.2.2.2.2.2.1 k0_t3
theorem k0_off33_inb : ∀ (v96 : BitVec 32) (k0_hw2 : k0_chk2 v96) (k0_t3 : Fin (k0_t3_loop v96).trips), ∀ a, (k0_off33 v96 k0_t3) a + S1x128.size a ≤ S256x128.size a := fun v96 k0_hw2 k0_t3 => k0_hw2.1.2.2.2.2.2.2.2.2.2.2.2.2.2.2.2.2.2.2.2.2.2.2.2.2.2.2.2.2.2.2.1 k0_t3
theorem k0_off34_inb : ∀ (v96 : BitVec 32) (k0_hw2 : k0_chk2 v96) (k0_t3 : Fin (k0_t3_loop v96).trips), ∀ a, (k0_off34 v96 k0_t3) a + S1x128.size a ≤ S256x128.size a := fun v96 k0_hw2 k0_t3 => k0_hw2.1.2.2.2.2.2.2.2.2.2.2.2.2.2.2.2.2.2.2.2.2.2.2.2.2.2.2.2.2.2.2.2 k0_t3
theorem k0_off35_inb : ∀ (v96 : BitVec 32) (k0_hw2 : k0_chk2 v96) (k0_t3 : Fin (k0_t3_loop v96).trips), ∀ a, (k0_off35 v96 k0_t3) a + S1x128.size a ≤ S256x128.size a := fun v96 k0_hw2 k0_t3 => k0_hw2.2.1.1 k0_t3
theorem k0_off36_inb : ∀ (v96 : BitVec 32) (k0_hw2 : k0_chk2 v96) (k0_t3 : Fin (k0_t3_loop v96).trips), ∀ a, (k0_off36 v96 k0_t3) a + S1x128.size a ≤ S256x128.size a := fun v96 k0_hw2 k0_t3 => k0_hw2.2.1.2.1 k0_t3
theorem k0_off37_inb : ∀ (v96 : BitVec 32) (k0_hw2 : k0_chk2 v96) (k0_t3 : Fin (k0_t3_loop v96).trips), ∀ a, (k0_off37 v96 k0_t3) a + S1x128.size a ≤ S256x128.size a := fun v96 k0_hw2 k0_t3 => k0_hw2.2.1.2.2.1 k0_t3
theorem k0_off38_inb : ∀ (v96 : BitVec 32) (k0_hw2 : k0_chk2 v96) (k0_t3 : Fin (k0_t3_loop v96).trips), ∀ a, (k0_off38 v96 k0_t3) a + S1x128.size a ≤ S256x128.size a := fun v96 k0_hw2 k0_t3 => k0_hw2.2.1.2.2.2.1 k0_t3
theorem k0_off39_inb : ∀ (v96 : BitVec 32) (k0_hw2 : k0_chk2 v96) (k0_t3 : Fin (k0_t3_loop v96).trips), ∀ a, (k0_off39 v96 k0_t3) a + S1x128.size a ≤ S256x128.size a := fun v96 k0_hw2 k0_t3 => k0_hw2.2.1.2.2.2.2.1 k0_t3
theorem k0_off40_inb : ∀ (v96 : BitVec 32) (k0_hw2 : k0_chk2 v96) (k0_t3 : Fin (k0_t3_loop v96).trips), ∀ a, (k0_off40 v96 k0_t3) a + S1x128.size a ≤ S256x128.size a := fun v96 k0_hw2 k0_t3 => k0_hw2.2.1.2.2.2.2.2.1 k0_t3
theorem k0_off41_inb : ∀ (v96 : BitVec 32) (k0_hw2 : k0_chk2 v96) (k0_t3 : Fin (k0_t3_loop v96).trips), ∀ a, (k0_off41 v96 k0_t3) a + S1x128.size a ≤ S256x128.size a := fun v96 k0_hw2 k0_t3 => k0_hw2.2.1.2.2.2.2.2.2.1 k0_t3
theorem k0_off42_inb : ∀ (v96 : BitVec 32) (k0_hw2 : k0_chk2 v96) (k0_t3 : Fin (k0_t3_loop v96).trips), ∀ a, (k0_off42 v96 k0_t3) a + S1x128.size a ≤ S256x128.size a := fun v96 k0_hw2 k0_t3 => k0_hw2.2.1.2.2.2.2.2.2.2.1 k0_t3
theorem k0_off43_inb : ∀ (v96 : BitVec 32) (k0_hw2 : k0_chk2 v96) (k0_t3 : Fin (k0_t3_loop v96).trips), ∀ a, (k0_off43 v96 k0_t3) a + S1x128.size a ≤ S256x128.size a := fun v96 k0_hw2 k0_t3 => k0_hw2.2.1.2.2.2.2.2.2.2.2.1 k0_t3
theorem k0_off44_inb : ∀ (v96 : BitVec 32) (k0_hw2 : k0_chk2 v96) (k0_t3 : Fin (k0_t3_loop v96).trips), ∀ a, (k0_off44 v96 k0_t3) a + S1x128.size a ≤ S256x128.size a := fun v96 k0_hw2 k0_t3 => k0_hw2.2.1.2.2.2.2.2.2.2.2.2.1 k0_t3
theorem k0_off45_inb : ∀ (v96 : BitVec 32) (k0_hw2 : k0_chk2 v96) (k0_t3 : Fin (k0_t3_loop v96).trips), ∀ a, (k0_off45 v96 k0_t3) a + S1x128.size a ≤ S256x128.size a := fun v96 k0_hw2 k0_t3 => k0_hw2.2.1.2.2.2.2.2.2.2.2.2.2.1 k0_t3
theorem k0_off46_inb : ∀ (v96 : BitVec 32) (k0_hw2 : k0_chk2 v96) (k0_t3 : Fin (k0_t3_loop v96).trips), ∀ a, (k0_off46 v96 k0_t3) a + S1x128.size a ≤ S256x128.size a := fun v96 k0_hw2 k0_t3 => k0_hw2.2.1.2.2.2.2.2.2.2.2.2.2.2.1 k0_t3
theorem k0_off47_inb : ∀ (v96 : BitVec 32) (k0_hw2 : k0_chk2 v96) (k0_t3 : Fin (k0_t3_loop v96).trips), ∀ a, (k0_off47 v96 k0_t3) a + S1x128.size a ≤ S256x128.size a := fun v96 k0_hw2 k0_t3 => k0_hw2.2.1.2.2.2.2.2.2.2.2.2.2.2.2.1 k0_t3
theorem k0_off48_inb : ∀ (v96 : BitVec 32) (k0_hw2 : k0_chk2 v96) (k0_t3 : Fin (k0_t3_loop v96).trips), ∀ a, (k0_off48 v96 k0_t3) a + S1x128.size a ≤ S256x128.size a := fun v96 k0_hw2 k0_t3 => k0_hw2.2.1.2.2.2.2.2.2.2.2.2.2.2.2.2.1 k0_t3
theorem k0_off49_inb : ∀ (v96 : BitVec 32) (k0_hw2 : k0_chk2 v96) (k0_t3 : Fin (k0_t3_loop v96).trips), ∀ a, (k0_off49 v96 k0_t3) a + S1x128.size a ≤ S256x128.size a := fun v96 k0_hw2 k0_t3 => k0_hw2.2.1.2.2.2.2.2.2.2.2.2.2.2.2.2.2.1 k0_t3
theorem k0_off50_inb : ∀ (v96 : BitVec 32) (k0_hw2 : k0_chk2 v96) (k0_t3 : Fin (k0_t3_loop v96).trips), ∀ a, (k0_off50 v96 k0_t3) a + S1x128.size a ≤ S256x128.size a := fun v96 k0_hw2 k0_t3 => k0_hw2.2.1.2.2.2.2.2.2.2.2.2.2.2.2.2.2.2.1 k0_t3
theorem k0_off51_inb : ∀ (v96 : BitVec 32) (k0_hw2 : k0_chk2 v96) (k0_t3 : Fin (k0_t3_loop v96).trips), ∀ a, (k0_off51 v96 k0_t3) a + S1x128.size a ≤ S256x128.size a := fun v96 k0_hw2 k0_t3 => k0_hw2.2.1.2.2.2.2.2.2.2.2.2.2.2.2.2.2.2.2.1 k0_t3
theorem k0_off52_inb : ∀ (v96 : BitVec 32) (k0_hw2 : k0_chk2 v96) (k0_t3 : Fin (k0_t3_loop v96).trips), ∀ a, (k0_off52 v96 k0_t3) a + S1x128.size a ≤ S256x128.size a := fun v96 k0_hw2 k0_t3 => k0_hw2.2.1.2.2.2.2.2.2.2.2.2.2.2.2.2.2.2.2.2.1 k0_t3
theorem k0_off53_inb : ∀ (v96 : BitVec 32) (k0_hw2 : k0_chk2 v96) (k0_t3 : Fin (k0_t3_loop v96).trips), ∀ a, (k0_off53 v96 k0_t3) a + S1x128.size a ≤ S256x128.size a := fun v96 k0_hw2 k0_t3 => k0_hw2.2.1.2.2.2.2.2.2.2.2.2.2.2.2.2.2.2.2.2.2.1 k0_t3
theorem k0_off54_inb : ∀ (v96 : BitVec 32) (k0_hw2 : k0_chk2 v96) (k0_t3 : Fin (k0_t3_loop v96).trips), ∀ a, (k0_off54 v96 k0_t3) a + S1x128.size a ≤ S256x128.size a := fun v96 k0_hw2 k0_t3 => k0_hw2.2.1.2.2.2.2.2.2.2.2.2.2.2.2.2.2.2.2.2.2.2.1 k0_t3
theorem k0_off55_inb : ∀ (v96 : BitVec 32) (k0_hw2 : k0_chk2 v96) (k0_t3 : Fin (k0_t3_loop v96).trips), ∀ a, (k0_off55 v96 k0_t3) a + S1x128.size a ≤ S256x128.size a := fun v96 k0_hw2 k0_t3 => k0_hw2.2.1.2.2.2.2.2.2.2.2.2.2.2.2.2.2.2.2.2.2.2.2.1 k0_t3
theorem k0_off56_inb : ∀ (v96 : BitVec 32) (k0_hw2 : k0_chk2 v96) (k0_t3 : Fin (k0_t3_loop v96).trips), ∀ a, (k0_off56 v96 k0_t3) a + S1x128.size a ≤ S256x128.size a := fun v96 k0_hw2 k0_t3 => k0_hw2.2.1.2.2.2.2.2.2.2.2.2.2.2.2.2.2.2.2.2.2.2.2.2.1 k0_t3
theorem k0_off57_inb : ∀ (v96 : BitVec 32) (k0_hw2 : k0_chk2 v96) (k0_t3 : Fin (k0_t3_loop v96).trips), ∀ a, (k0_off57 v96 k0_t3) a + S1x128.size a ≤ S256x128.size a := fun v96 k0_hw2 k0_t3 => k0_hw2.2.1.2.2.2.2.2.2.2.2.2.2.2.2.2.2.2.2.2.2.2.2.2.2.1 k0_t3
theorem k0_off58_inb : ∀ (v96 : BitVec 32) (k0_hw2 : k0_chk2 v96) (k0_t3 : Fin (k0_t3_loop v96).trips), ∀ a, (k0_off58 v96 k0_t3) a + S1x128.size a ≤ S256x128.size a := fun v96 k0_hw2 k0_t3 => k0_hw2.2.1.2.2.2.2.2.2.2.2.2.2.2.2.2.2.2.2.2.2.2.2.2.2.2.1 k0_t3
theorem k0_off59_inb : ∀ (v96 : BitVec 32) (k0_hw2 : k0_chk2 v96) (k0_t3 : Fin (k0_t3_loop v96).trips), ∀ a, (k0_off59 v96 k0_t3) a + S1x128.size a ≤ S256x128.size a := fun v96 k0_hw2 k0_t3 => k0_hw2.2.1.2.2.2.2.2.2.2.2.2.2.2.2.2.2.2.2.2.2.2.2.2.2.2.2.1 k0_t3
theorem k0_off60_inb : ∀ (v96 : BitVec 32) (k0_hw2 : k0_chk2 v96) (k0_t3 : Fin (k0_t3_loop v96).trips), ∀ a, (k0_off60 v96 k0_t3) a + S1x128.size a ≤ S256x128.size a := fun v96 k0_hw2 k0_t3 => k0_hw2.2.1.2.2.2.2.2.2.2.2.2.2.2.2.2.2.2.2.2.2.2.2.2.2.2.2.2.1 k0_t3
theorem k0_off61_inb : ∀ (v96 : BitVec 32) (k0_hw2 : k0_chk2 v96) (k0_t3 : Fin (k0_t3_loop v96).trips), ∀ a, (k0_off61 v96 k0_t3) a + S1x128.size a ≤ S256x128.size a := fun v96 k0_hw2 k0_t3 => k0_hw2.2.1.2.2.2.2.2.2.2.2.2.2.2.2.2.2.2.2.2.2.2.2.2.2.2.2.2.2.1 k0_t3
theorem k0_off62_inb : ∀ (v96 : BitVec 32) (k0_hw2 : k0_chk2 v96) (k0_t3 : Fin (k0_t3_loop v96).trips), ∀ a, (k0_off62 v96 k0_t3) a + S1x128.size a ≤ S256x128.size a := fun v96 k0_hw2 k0_t3 => k0_hw2.2.1.2.2.2.2.2.2.2.2.2.2.2.2.2.2.2.2.2.2.2.2.2.2.2.2.2.2.2.1 k0_t3
theorem k0_off63_inb : ∀ (v96 : BitVec 32) (k0_hw2 : k0_chk2 v96) (k0_t3 : Fin (k0_t3_loop v96).trips), ∀ a, (k0_off63 v96 k0_t3) a + S1x128.size a ≤ S256x128.size a := fun v96 k0_hw2 k0_t3 => k0_hw2.2.1.2.2.2.2.2.2.2.2.2.2.2.2.2.2.2.2.2.2.2.2.2.2.2.2.2.2.2.2.1 k0_t3
theorem k0_off64_inb : ∀ (v96 : BitVec 32) (k0_hw2 : k0_chk2 v96) (k0_t3 : Fin (k0_t3_loop v96).trips), ∀ a, (k0_off64 v96 k0_t3) a + S1x128.size a ≤ S256x128.size a := fun v96 k0_hw2 k0_t3 => k0_hw2.2.1.2.2.2.2.2.2.2.2.2.2.2.2.2.2.2.2.2.2.2.2.2.2.2.2.2.2.2.2.2.1 k0_t3
theorem k0_off65_inb : ∀ (v96 : BitVec 32) (k0_hw2 : k0_chk2 v96) (k0_t3 : Fin (k0_t3_loop v96).trips), ∀ a, (k0_off65 v96 k0_t3) a + S1x128.size a ≤ S256x128.size a := fun v96 k0_hw2 k0_t3 => k0_hw2.2.1.2.2.2.2.2.2.2.2.2.2.2.2.2.2.2.2.2.2.2.2.2.2.2.2.2.2.2.2.2.2.1 k0_t3
theorem k0_off66_inb : ∀ (v96 : BitVec 32) (k0_hw2 : k0_chk2 v96) (k0_t3 : Fin (k0_t3_loop v96).trips), ∀ a, (k0_off66 v96 k0_t3) a + S1x128.size a ≤ S256x128.size a := fun v96 k0_hw2 k0_t3 => k0_hw2.2.1.2.2.2.2.2.2.2.2.2.2.2.2.2.2.2.2.2.2.2.2.2.2.2.2.2.2.2.2.2.2.2 k0_t3
theorem k0_off67_inb : ∀ (v96 : BitVec 32) (k0_hw2 : k0_chk2 v96) (k0_t3 : Fin (k0_t3_loop v96).trips), ∀ a, (k0_off67 v96 k0_t3) a + S1x128.size a ≤ S256x128.size a := fun v96 k0_hw2 k0_t3 => k0_hw2.2.2.1.1 k0_t3
theorem k0_off68_inb : ∀ (v96 : BitVec 32) (k0_hw2 : k0_chk2 v96) (k0_t3 : Fin (k0_t3_loop v96).trips), ∀ a, (k0_off68 v96 k0_t3) a + S1x128.size a ≤ S256x128.size a := fun v96 k0_hw2 k0_t3 => k0_hw2.2.2.1.2.1 k0_t3
theorem k0_off69_inb : ∀ (v96 : BitVec 32) (k0_hw2 : k0_chk2 v96) (k0_t3 : Fin (k0_t3_loop v96).trips), ∀ a, (k0_off69 v96 k0_t3) a + S1x128.size a ≤ S256x128.size a := fun v96 k0_hw2 k0_t3 => k0_hw2.2.2.1.2.2.1 k0_t3
theorem k0_off70_inb : ∀ (v96 : BitVec 32) (k0_hw2 : k0_chk2 v96) (k0_t3 : Fin (k0_t3_loop v96).trips), ∀ a, (k0_off70 v96 k0_t3) a + S1x128.size a ≤ S256x128.size a := fun v96 k0_hw2 k0_t3 => k0_hw2.2.2.1.2.2.2.1 k0_t3
theorem k0_off71_inb : ∀ (v96 : BitVec 32) (k0_hw2 : k0_chk2 v96) (k0_t3 : Fin (k0_t3_loop v96).trips), ∀ a, (k0_off71 v96 k0_t3) a + S1x128.size a ≤ S256x128.size a := fun v96 k0_hw2 k0_t3 => k0_hw2.2.2.1.2.2.2.2.1 k0_t3
theorem k0_off72_inb : ∀ (v96 : BitVec 32) (k0_hw2 : k0_chk2 v96) (k0_t3 : Fin (k0_t3_loop v96).trips), ∀ a, (k0_off72 v96 k0_t3) a + S1x128.size a ≤ S256x128.size a := fun v96 k0_hw2 k0_t3 => k0_hw2.2.2.1.2.2.2.2.2.1 k0_t3
theorem k0_off73_inb : ∀ (v96 : BitVec 32) (k0_hw2 : k0_chk2 v96) (k0_t3 : Fin (k0_t3_loop v96).trips), ∀ a, (k0_off73 v96 k0_t3) a + S1x128.size a ≤ S256x128.size a := fun v96 k0_hw2 k0_t3 => k0_hw2.2.2.1.2.2.2.2.2.2.1 k0_t3
theorem k0_off74_inb : ∀ (v96 : BitVec 32) (k0_hw2 : k0_chk2 v96) (k0_t3 : Fin (k0_t3_loop v96).trips), ∀ a, (k0_off74 v96 k0_t3) a + S1x128.size a ≤ S256x128.size a := fun v96 k0_hw2 k0_t3 => k0_hw2.2.2.1.2.2.2.2.2.2.2.1 k0_t3
theorem k0_off75_inb : ∀ (v96 : BitVec 32) (k0_hw2 : k0_chk2 v96) (k0_t3 : Fin (k0_t3_loop v96).trips), ∀ a, (k0_off75 v96 k0_t3) a + S1x128.size a ≤ S256x128.size a := fun v96 k0_hw2 k0_t3 => k0_hw2.2.2.1.2.2.2.2.2.2.2.2.1 k0_t3
theorem k0_off76_inb : ∀ (v96 : BitVec 32) (k0_hw2 : k0_chk2 v96) (k0_t3 : Fin (k0_t3_loop v96).trips), ∀ a, (k0_off76 v96 k0_t3) a + S1x128.size a ≤ S256x128.size a := fun v96 k0_hw2 k0_t3 => k0_hw2.2.2.1.2.2.2.2.2.2.2.2.2.1 k0_t3
theorem k0_off77_inb : ∀ (v96 : BitVec 32) (k0_hw2 : k0_chk2 v96) (k0_t3 : Fin (k0_t3_loop v96).trips), ∀ a, (k0_off77 v96 k0_t3) a + S1x128.size a ≤ S256x128.size a := fun v96 k0_hw2 k0_t3 => k0_hw2.2.2.1.2.2.2.2.2.2.2.2.2.2.1 k0_t3
theorem k0_off78_inb : ∀ (v96 : BitVec 32) (k0_hw2 : k0_chk2 v96) (k0_t3 : Fin (k0_t3_loop v96).trips), ∀ a, (k0_off78 v96 k0_t3) a + S1x128.size a ≤ S256x128.size a := fun v96 k0_hw2 k0_t3 => k0_hw2.2.2.1.2.2.2.2.2.2.2.2.2.2.2.1 k0_t3
theorem k0_off79_inb : ∀ (v96 : BitVec 32) (k0_hw2 : k0_chk2 v96) (k0_t3 : Fin (k0_t3_loop v96).trips), ∀ a, (k0_off79 v96 k0_t3) a + S1x128.size a ≤ S256x128.size a := fun v96 k0_hw2 k0_t3 => k0_hw2.2.2.1.2.2.2.2.2.2.2.2.2.2.2.2.1 k0_t3
theorem k0_off80_inb : ∀ (v96 : BitVec 32) (k0_hw2 : k0_chk2 v96) (k0_t3 : Fin (k0_t3_loop v96).trips), ∀ a, (k0_off80 v96 k0_t3) a + S1x128.size a ≤ S256x128.size a := fun v96 k0_hw2 k0_t3 => k0_hw2.2.2.1.2.2.2.2.2.2.2.2.2.2.2.2.2.1 k0_t3
theorem k0_off81_inb : ∀ (v96 : BitVec 32) (k0_hw2 : k0_chk2 v96) (k0_t3 : Fin (k0_t3_loop v96).trips), ∀ a, (k0_off81 v96 k0_t3) a + S1x128.size a ≤ S256x128.size a := fun v96 k0_hw2 k0_t3 => k0_hw2.2.2.1.2.2.2.2.2.2.2.2.2.2.2.2.2.2.1 k0_t3
theorem k0_off82_inb : ∀ (v96 : BitVec 32) (k0_hw2 : k0_chk2 v96) (k0_t3 : Fin (k0_t3_loop v96).trips), ∀ a, (k0_off82 v96 k0_t3) a + S1x128.size a ≤ S256x128.size a := fun v96 k0_hw2 k0_t3 => k0_hw2.2.2.1.2.2.2.2.2.2.2.2.2.2.2.2.2.2.2.1 k0_t3
theorem k0_off83_inb : ∀ (v96 : BitVec 32) (k0_hw2 : k0_chk2 v96) (k0_t3 : Fin (k0_t3_loop v96).trips), ∀ a, (k0_off83 v96 k0_t3) a + S1x128.size a ≤ S256x128.size a := fun v96 k0_hw2 k0_t3 => k0_hw2.2.2.1.2.2.2.2.2.2.2.2.2.2.2.2.2.2.2.2.1 k0_t3
theorem k0_off84_inb : ∀ (v96 : BitVec 32) (k0_hw2 : k0_chk2 v96) (k0_t3 : Fin (k0_t3_loop v96).trips), ∀ a, (k0_off84 v96 k0_t3) a + S1x128.size a ≤ S256x128.size a := fun v96 k0_hw2 k0_t3 => k0_hw2.2.2.1.2.2.2.2.2.2.2.2.2.2.2.2.2.2.2.2.2.1 k0_t3
theorem k0_off85_inb : ∀ (v96 : BitVec 32) (k0_hw2 : k0_chk2 v96) (k0_t3 : Fin (k0_t3_loop v96).trips), ∀ a, (k0_off85 v96 k0_t3) a + S1x128.size a ≤ S256x128.size a := fun v96 k0_hw2 k0_t3 => k0_hw2.2.2.1.2.2.2.2.2.2.2.2.2.2.2.2.2.2.2.2.2.2.1 k0_t3
theorem k0_off86_inb : ∀ (v96 : BitVec 32) (k0_hw2 : k0_chk2 v96) (k0_t3 : Fin (k0_t3_loop v96).trips), ∀ a, (k0_off86 v96 k0_t3) a + S1x128.size a ≤ S256x128.size a := fun v96 k0_hw2 k0_t3 => k0_hw2.2.2.1.2.2.2.2.2.2.2.2.2.2.2.2.2.2.2.2.2.2.2.1 k0_t3
theorem k0_off87_inb : ∀ (v96 : BitVec 32) (k0_hw2 : k0_chk2 v96) (k0_t3 : Fin (k0_t3_loop v96).trips), ∀ a, (k0_off87 v96 k0_t3) a + S1x128.size a ≤ S256x128.size a := fun v96 k0_hw2 k0_t3 => k0_hw2.2.2.1.2.2.2.2.2.2.2.2.2.2.2.2.2.2.2.2.2.2.2.2.1 k0_t3
theorem k0_off88_inb : ∀ (v96 : BitVec 32) (k0_hw2 : k0_chk2 v96) (k0_t3 : Fin (k0_t3_loop v96).trips), ∀ a, (k0_off88 v96 k0_t3) a + S1x128.size a ≤ S256x128.size a := fun v96 k0_hw2 k0_t3 => k0_hw2.2.2.1.2.2.2.2.2.2.2.2.2.2.2.2.2.2.2.2.2.2.2.2.2.1 k0_t3
theorem k0_off89_inb : ∀ (v96 : BitVec 32) (k0_hw2 : k0_chk2 v96) (k0_t3 : Fin (k0_t3_loop v96).trips), ∀ a, (k0_off89 v96 k0_t3) a + S1x128.size a ≤ S256x128.size a := fun v96 k0_hw2 k0_t3 => k0_hw2.2.2.1.2.2.2.2.2.2.2.2.2.2.2.2.2.2.2.2.2.2.2.2.2.2.1 k0_t3
theorem k0_off90_inb : ∀ (v96 : BitVec 32) (k0_hw2 : k0_chk2 v96) (k0_t3 : Fin (k0_t3_loop v96).trips), ∀ a, (k0_off90 v96 k0_t3) a + S1x128.size a ≤ S256x128.size a := fun v96 k0_hw2 k0_t3 => k0_hw2.2.2.1.2.2.2.2.2.2.2.2.2.2.2.2.2.2.2.2.2.2.2.2.2.2.2.1 k0_t3
theorem k0_off91_inb : ∀ (v96 : BitVec 32) (k0_hw2 : k0_chk2 v96) (k0_t3 : Fin (k0_t3_loop v96).trips), ∀ a, (k0_off91 v96 k0_t3) a + S1x128.size a ≤ S256x128.size a := fun v96 k0_hw2 k0_t3 => k0_hw2.2.2.1.2.2.2.2.2.2.2.2.2.2.2.2.2.2.2.2.2.2.2.2.2.2.2.2.1 k0_t3
theorem k0_off92_inb : ∀ (v96 : BitVec 32) (k0_hw2 : k0_chk2 v96) (k0_t3 : Fin (k0_t3_loop v96).trips), ∀ a, (k0_off92 v96 k0_t3) a + S1x128.size a ≤ S256x128.size a := fun v96 k0_hw2 k0_t3 => k0_hw2.2.2.1.2.2.2.2.2.2.2.2.2.2.2.2.2.2.2.2.2.2.2.2.2.2.2.2.2.1 k0_t3
theorem k0_off93_inb : ∀ (v96 : BitVec 32) (k0_hw2 : k0_chk2 v96) (k0_t3 : Fin (k0_t3_loop v96).trips), ∀ a, (k0_off93 v96 k0_t3) a + S1x128.size a ≤ S256x128.size a := fun v96 k0_hw2 k0_t3 => k0_hw2.2.2.1.2.2.2.2.2.2.2.2.2.2.2.2.2.2.2.2.2.2.2.2.2.2.2.2.2.2.1 k0_t3
theorem k0_off94_inb : ∀ (v96 : BitVec 32) (k0_hw2 : k0_chk2 v96) (k0_t3 : Fin (k0_t3_loop v96).trips), ∀ a, (k0_off94 v96 k0_t3) a + S1x128.size a ≤ S256x128.size a := fun v96 k0_hw2 k0_t3 => k0_hw2.2.2.1.2.2.2.2.2.2.2.2.2.2.2.2.2.2.2.2.2.2.2.2.2.2.2.2.2.2.2.1 k0_t3
theorem k0_off95_inb : ∀ (v96 : BitVec 32) (k0_hw2 : k0_chk2 v96) (k0_t3 : Fin (k0_t3_loop v96).trips), ∀ a, (k0_off95 v96 k0_t3) a + S1x128.size a ≤ S256x128.size a := fun v96 k0_hw2 k0_t3 => k0_hw2.2.2.1.2.2.2.2.2.2.2.2.2.2.2.2.2.2.2.2.2.2.2.2.2.2.2.2.2.2.2.2.1 k0_t3
theorem k0_off96_inb : ∀ (v96 : BitVec 32) (k0_hw2 : k0_chk2 v96) (k0_t3 : Fin (k0_t3_loop v96).trips), ∀ a, (k0_off96 v96 k0_t3) a + S1x128.size a ≤ S256x128.size a := fun v96 k0_hw2 k0_t3 => k0_hw2.2.2.1.2.2.2.2.2.2.2.2.2.2.2.2.2.2.2.2.2.2.2.2.2.2.2.2.2.2.2.2.2.1 k0_t3
theorem k0_off97_inb : ∀ (v96 : BitVec 32) (k0_hw2 : k0_chk2 v96) (k0_t3 : Fin (k0_t3_loop v96).trips), ∀ a, (k0_off97 v96 k0_t3) a + S1x128.size a ≤ S256x128.size a := fun v96 k0_hw2 k0_t3 => k0_hw2.2.2.1.2.2.2.2.2.2.2.2.2.2.2.2.2.2.2.2.2.2.2.2.2.2.2.2.2.2.2.2.2.2.1 k0_t3
theorem k0_off98_inb : ∀ (v96 : BitVec 32) (k0_hw2 : k0_chk2 v96) (k0_t3 : Fin (k0_t3_loop v96).trips), ∀ a, (k0_off98 v96 k0_t3) a + S1x128.size a ≤ S256x128.size a := fun v96 k0_hw2 k0_t3 => k0_hw2.2.2.1.2.2.2.2.2.2.2.2.2.2.2.2.2.2.2.2.2.2.2.2.2.2.2.2.2.2.2.2.2.2.2 k0_t3
theorem k0_off99_inb : ∀ (v96 : BitVec 32) (k0_hw2 : k0_chk2 v96) (k0_t3 : Fin (k0_t3_loop v96).trips), ∀ a, (k0_off99 v96 k0_t3) a + S1x128.size a ≤ S256x128.size a := fun v96 k0_hw2 k0_t3 => k0_hw2.2.2.2.1.1 k0_t3
theorem k0_off100_inb : ∀ (v96 : BitVec 32) (k0_hw2 : k0_chk2 v96) (k0_t3 : Fin (k0_t3_loop v96).trips), ∀ a, (k0_off100 v96 k0_t3) a + S1x128.size a ≤ S256x128.size a := fun v96 k0_hw2 k0_t3 => k0_hw2.2.2.2.1.2.1 k0_t3
theorem k0_off101_inb : ∀ (v96 : BitVec 32) (k0_hw2 : k0_chk2 v96) (k0_t3 : Fin (k0_t3_loop v96).trips), ∀ a, (k0_off101 v96 k0_t3) a + S1x128.size a ≤ S256x128.size a := fun v96 k0_hw2 k0_t3 => k0_hw2.2.2.2.1.2.2.1 k0_t3
theorem k0_off102_inb : ∀ (v96 : BitVec 32) (k0_hw2 : k0_chk2 v96) (k0_t3 : Fin (k0_t3_loop v96).trips), ∀ a, (k0_off102 v96 k0_t3) a + S1x128.size a ≤ S256x128.size a := fun v96 k0_hw2 k0_t3 => k0_hw2.2.2.2.1.2.2.2.1 k0_t3
theorem k0_off103_inb : ∀ (v96 : BitVec 32) (k0_hw2 : k0_chk2 v96) (k0_t3 : Fin (k0_t3_loop v96).trips), ∀ a, (k0_off103 v96 k0_t3) a + S1x128.size a ≤ S256x128.size a := fun v96 k0_hw2 k0_t3 => k0_hw2.2.2.2.1.2.2.2.2.1 k0_t3
theorem k0_off104_inb : ∀ (v96 : BitVec 32) (k0_hw2 : k0_chk2 v96) (k0_t3 : Fin (k0_t3_loop v96).trips), ∀ a, (k0_off104 v96 k0_t3) a + S1x128.size a ≤ S256x128.size a := fun v96 k0_hw2 k0_t3 => k0_hw2.2.2.2.1.2.2.2.2.2.1 k0_t3
theorem k0_off105_inb : ∀ (v96 : BitVec 32) (k0_hw2 : k0_chk2 v96) (k0_t3 : Fin (k0_t3_loop v96).trips), ∀ a, (k0_off105 v96 k0_t3) a + S1x128.size a ≤ S256x128.size a := fun v96 k0_hw2 k0_t3 => k0_hw2.2.2.2.1.2.2.2.2.2.2.1 k0_t3
theorem k0_off106_inb : ∀ (v96 : BitVec 32) (k0_hw2 : k0_chk2 v96) (k0_t3 : Fin (k0_t3_loop v96).trips), ∀ a, (k0_off106 v96 k0_t3) a + S1x128.size a ≤ S256x128.size a := fun v96 k0_hw2 k0_t3 => k0_hw2.2.2.2.1.2.2.2.2.2.2.2.1 k0_t3
theorem k0_off107_inb : ∀ (v96 : BitVec 32) (k0_hw2 : k0_chk2 v96) (k0_t3 : Fin (k0_t3_loop v96).trips), ∀ a, (k0_off107 v96 k0_t3) a + S1x128.size a ≤ S256x128.size a := fun v96 k0_hw2 k0_t3 => k0_hw2.2.2.2.1.2.2.2.2.2.2.2.2.1 k0_t3
theorem k0_off108_inb : ∀ (v96 : BitVec 32) (k0_hw2 : k0_chk2 v96) (k0_t3 : Fin (k0_t3_loop v96).trips), ∀ a, (k0_off108 v96 k0_t3) a + S1x128.size a ≤ S256x128.size a := fun v96 k0_hw2 k0_t3 => k0_hw2.2.2.2.1.2.2.2.2.2.2.2.2.2.1 k0_t3
theorem k0_off109_inb : ∀ (v96 : BitVec 32) (k0_hw2 : k0_chk2 v96) (k0_t3 : Fin (k0_t3_loop v96).trips), ∀ a, (k0_off109 v96 k0_t3) a + S1x128.size a ≤ S256x128.size a := fun v96 k0_hw2 k0_t3 => k0_hw2.2.2.2.1.2.2.2.2.2.2.2.2.2.2.1 k0_t3
theorem k0_off110_inb : ∀ (v96 : BitVec 32) (k0_hw2 : k0_chk2 v96) (k0_t3 : Fin (k0_t3_loop v96).trips), ∀ a, (k0_off110 v96 k0_t3) a + S1x128.size a ≤ S256x128.size a := fun v96 k0_hw2 k0_t3 => k0_hw2.2.2.2.1.2.2.2.2.2.2.2.2.2.2.2.1 k0_t3
theorem k0_off111_inb : ∀ (v96 : BitVec 32) (k0_hw2 : k0_chk2 v96) (k0_t3 : Fin (k0_t3_loop v96).trips), ∀ a, (k0_off111 v96 k0_t3) a + S1x128.size a ≤ S256x128.size a := fun v96 k0_hw2 k0_t3 => k0_hw2.2.2.2.1.2.2.2.2.2.2.2.2.2.2.2.2.1 k0_t3
theorem k0_off112_inb : ∀ (v96 : BitVec 32) (k0_hw2 : k0_chk2 v96) (k0_t3 : Fin (k0_t3_loop v96).trips), ∀ a, (k0_off112 v96 k0_t3) a + S1x128.size a ≤ S256x128.size a := fun v96 k0_hw2 k0_t3 => k0_hw2.2.2.2.1.2.2.2.2.2.2.2.2.2.2.2.2.2.1 k0_t3
theorem k0_off113_inb : ∀ (v96 : BitVec 32) (k0_hw2 : k0_chk2 v96) (k0_t3 : Fin (k0_t3_loop v96).trips), ∀ a, (k0_off113 v96 k0_t3) a + S1x128.size a ≤ S256x128.size a := fun v96 k0_hw2 k0_t3 => k0_hw2.2.2.2.1.2.2.2.2.2.2.2.2.2.2.2.2.2.2.1 k0_t3
theorem k0_off114_inb : ∀ (v96 : BitVec 32) (k0_hw2 : k0_chk2 v96) (k0_t3 : Fin (k0_t3_loop v96).trips), ∀ a, (k0_off114 v96 k0_t3) a + S1x128.size a ≤ S256x128.size a := fun v96 k0_hw2 k0_t3 => k0_hw2.2.2.2.1.2.2.2.2.2.2.2.2.2.2.2.2.2.2.2.1 k0_t3
theorem k0_off115_inb : ∀ (v96 : BitVec 32) (k0_hw2 : k0_chk2 v96) (k0_t3 : Fin (k0_t3_loop v96).trips), ∀ a, (k0_off115 v96 k0_t3) a + S1x128.size a ≤ S256x128.size a := fun v96 k0_hw2 k0_t3 => k0_hw2.2.2.2.1.2.2.2.2.2.2.2.2.2.2.2.2.2.2.2.2.1 k0_t3
theorem k0_off116_inb : ∀ (v96 : BitVec 32) (k0_hw2 : k0_chk2 v96) (k0_t3 : Fin (k0_t3_loop v96).trips), ∀ a, (k0_off116 v96 k0_t3) a + S1x128.size a ≤ S256x128.size a := fun v96 k0_hw2 k0_t3 => k0_hw2.2.2.2.1.2.2.2.2.2.2.2.2.2.2.2.2.2.2.2.2.2.1 k0_t3
theorem k0_off117_inb : ∀ (v96 : BitVec 32) (k0_hw2 : k0_chk2 v96) (k0_t3 : Fin (k0_t3_loop v96).trips), ∀ a, (k0_off117 v96 k0_t3) a + S1x128.size a ≤ S256x128.size a := fun v96 k0_hw2 k0_t3 => k0_hw2.2.2.2.1.2.2.2.2.2.2.2.2.2.2.2.2.2.2.2.2.2.2.1 k0_t3
theorem k0_off118_inb : ∀ (v96 : BitVec 32) (k0_hw2 : k0_chk2 v96) (k0_t3 : Fin (k0_t3_loop v96).trips), ∀ a, (k0_off118 v96 k0_t3) a + S1x128.size a ≤ S256x128.size a := fun v96 k0_hw2 k0_t3 => k0_hw2.2.2.2.1.2.2.2.2.2.2.2.2.2.2.2.2.2.2.2.2.2.2.2.1 k0_t3
theorem k0_off119_inb : ∀ (v96 : BitVec 32) (k0_hw2 : k0_chk2 v96) (k0_t3 : Fin (k0_t3_loop v96).trips), ∀ a, (k0_off119 v96 k0_t3) a + S1x128.size a ≤ S256x128.size a := fun v96 k0_hw2 k0_t3 => k0_hw2.2.2.2.1.2.2.2.2.2.2.2.2.2.2.2.2.2.2.2.2.2.2.2.2.1 k0_t3
theorem k0_off120_inb : ∀ (v96 : BitVec 32) (k0_hw2 : k0_chk2 v96) (k0_t3 : Fin (k0_t3_loop v96).trips), ∀ a, (k0_off120 v96 k0_t3) a + S1x128.size a ≤ S256x128.size a := fun v96 k0_hw2 k0_t3 => k0_hw2.2.2.2.1.2.2.2.2.2.2.2.2.2.2.2.2.2.2.2.2.2.2.2.2.2.1 k0_t3
theorem k0_off121_inb : ∀ (v96 : BitVec 32) (k0_hw2 : k0_chk2 v96) (k0_t3 : Fin (k0_t3_loop v96).trips), ∀ a, (k0_off121 v96 k0_t3) a + S1x128.size a ≤ S256x128.size a := fun v96 k0_hw2 k0_t3 => k0_hw2.2.2.2.1.2.2.2.2.2.2.2.2.2.2.2.2.2.2.2.2.2.2.2.2.2.2.1 k0_t3
theorem k0_off122_inb : ∀ (v96 : BitVec 32) (k0_hw2 : k0_chk2 v96) (k0_t3 : Fin (k0_t3_loop v96).trips), ∀ a, (k0_off122 v96 k0_t3) a + S1x128.size a ≤ S256x128.size a := fun v96 k0_hw2 k0_t3 => k0_hw2.2.2.2.1.2.2.2.2.2.2.2.2.2.2.2.2.2.2.2.2.2.2.2.2.2.2.2.1 k0_t3
theorem k0_off123_inb : ∀ (v96 : BitVec 32) (k0_hw2 : k0_chk2 v96) (k0_t3 : Fin (k0_t3_loop v96).trips), ∀ a, (k0_off123 v96 k0_t3) a + S1x128.size a ≤ S256x128.size a := fun v96 k0_hw2 k0_t3 => k0_hw2.2.2.2.1.2.2.2.2.2.2.2.2.2.2.2.2.2.2.2.2.2.2.2.2.2.2.2.2.1 k0_t3
theorem k0_off124_inb : ∀ (v96 : BitVec 32) (k0_hw2 : k0_chk2 v96) (k0_t3 : Fin (k0_t3_loop v96).trips), ∀ a, (k0_off124 v96 k0_t3) a + S1x128.size a ≤ S256x128.size a := fun v96 k0_hw2 k0_t3 => k0_hw2.2.2.2.1.2.2.2.2.2.2.2.2.2.2.2.2.2.2.2.2.2.2.2.2.2.2.2.2.2.1 k0_t3
theorem k0_off125_inb : ∀ (v96 : BitVec 32) (k0_hw2 : k0_chk2 v96) (k0_t3 : Fin (k0_t3_loop v96).trips), ∀ a, (k0_off125 v96 k0_t3) a + S1x128.size a ≤ S256x128.size a := fun v96 k0_hw2 k0_t3 => k0_hw2.2.2.2.1.2.2.2.2.2.2.2.2.2.2.2.2.2.2.2.2.2.2.2.2.2.2.2.2.2.2.1 k0_t3
theorem k0_off126_inb : ∀ (v96 : BitVec 32) (k0_hw2 : k0_chk2 v96) (k0_t3 : Fin (k0_t3_loop v96).trips), ∀ a, (k0_off126 v96 k0_t3) a + S1x128.size a ≤ S256x128.size a := fun v96 k0_hw2 k0_t3 => k0_hw2.2.2.2.1.2.2.2.2.2.2.2.2.2.2.2.2.2.2.2.2.2.2.2.2.2.2.2.2.2.2.2.1 k0_t3
theorem k0_off127_inb : ∀ (v96 : BitVec 32) (k0_hw2 : k0_chk2 v96) (k0_t3 : Fin (k0_t3_loop v96).trips), ∀ a, (k0_off127 v96 k0_t3) a + S1x128.size a ≤ S256x128.size a := fun v96 k0_hw2 k0_t3 => k0_hw2.2.2.2.1.2.2.2.2.2.2.2.2.2.2.2.2.2.2.2.2.2.2.2.2.2.2.2.2.2.2.2.2.1 k0_t3
theorem k0_off128_inb : ∀ (v96 : BitVec 32) (k0_hw2 : k0_chk2 v96) (k0_t3 : Fin (k0_t3_loop v96).trips), ∀ a, (k0_off128 v96 k0_t3) a + S1x128.size a ≤ S256x128.size a := fun v96 k0_hw2 k0_t3 => k0_hw2.2.2.2.1.2.2.2.2.2.2.2.2.2.2.2.2.2.2.2.2.2.2.2.2.2.2.2.2.2.2.2.2.2.1 k0_t3
theorem k0_off129_inb : ∀ (v96 : BitVec 32) (k0_hw2 : k0_chk2 v96) (k0_t3 : Fin (k0_t3_loop v96).trips), ∀ a, (k0_off129 v96 k0_t3) a + S1x128.size a ≤ S256x128.size a := fun v96 k0_hw2 k0_t3 => k0_hw2.2.2.2.1.2.2.2.2.2.2.2.2.2.2.2.2.2.2.2.2.2.2.2.2.2.2.2.2.2.2.2.2.2.2.1 k0_t3
theorem k0_off130_inb : ∀ (v96 : BitVec 32) (k0_hw2 : k0_chk2 v96) (k0_t3 : Fin (k0_t3_loop v96).trips), ∀ a, (k0_off130 v96 k0_t3) a + S1x128.size a ≤ S256x128.size a := fun v96 k0_hw2 k0_t3 => k0_hw2.2.2.2.1.2.2.2.2.2.2.2.2.2.2.2.2.2.2.2.2.2.2.2.2.2.2.2.2.2.2.2.2.2.2.2 k0_t3
theorem k0_off131_inb : ∀ (v96 : BitVec 32) (k0_hw2 : k0_chk2 v96) (k0_t3 : Fin (k0_t3_loop v96).trips), ∀ a, (k0_off131 v96 k0_t3) a + S1x128.size a ≤ S256x128.size a := fun v96 k0_hw2 k0_t3 => k0_hw2.2.2.2.2.1.1 k0_t3
theorem k0_off132_inb : ∀ (v96 : BitVec 32) (k0_hw2 : k0_chk2 v96) (k0_t3 : Fin (k0_t3_loop v96).trips), ∀ a, (k0_off132 v96 k0_t3) a + S1x128.size a ≤ S256x128.size a := fun v96 k0_hw2 k0_t3 => k0_hw2.2.2.2.2.1.2.1 k0_t3
theorem k0_t4_ok : ∀ (v96 : BitVec 32) (k0_hw2 : k0_chk2 v96), (k0_t4_loop v96).OK := fun v96 k0_hw2 => k0_hw2.2.2.2.2.1.2.2.1
theorem k0_off133_inb : ∀ (v96 : BitVec 32) (k0_hw2 : k0_chk2 v96) (k0_t4 : Fin (k0_t4_loop v96).trips), ∀ a, (k0_off133 v96 k0_t4) a + S16.size a ≤ S256.size a := fun v96 k0_hw2 k0_t4 => k0_hw2.2.2.2.2.1.2.2.2.1 k0_t4
theorem k0_off134_inb : ∀ (v96 : BitVec 32) (k0_hw2 : k0_chk2 v96) (k0_t4 : Fin (k0_t4_loop v96).trips), ∀ a, (k0_off134 v96 k0_t4) a + S1x128.size a ≤ S256x128.size a := fun v96 k0_hw2 k0_t4 => k0_hw2.2.2.2.2.1.2.2.2.2.1 k0_t4
theorem k0_off135_inb : ∀ (v96 : BitVec 32) (k0_hw2 : k0_chk2 v96) (k0_t4 : Fin (k0_t4_loop v96).trips), ∀ a, (k0_off135 v96 k0_t4) a + S1x128.size a ≤ S256x128.size a := fun v96 k0_hw2 k0_t4 => k0_hw2.2.2.2.2.1.2.2.2.2.2.1 k0_t4
theorem k0_off136_inb : ∀ (v96 : BitVec 32) (k0_hw2 : k0_chk2 v96) (k0_t4 : Fin (k0_t4_loop v96).trips), ∀ a, (k0_off136 v96 k0_t4) a + S1x128.size a ≤ S256x128.size a := fun v96 k0_hw2 k0_t4 => k0_hw2.2.2.2.2.1.2.2.2.2.2.2.1 k0_t4
theorem k0_off137_inb : ∀ (v96 : BitVec 32) (k0_hw2 : k0_chk2 v96) (k0_t4 : Fin (k0_t4_loop v96).trips), ∀ a, (k0_off137 v96 k0_t4) a + S1x128.size a ≤ S256x128.size a := fun v96 k0_hw2 k0_t4 => k0_hw2.2.2.2.2.1.2.2.2.2.2.2.2.1 k0_t4
theorem k0_off138_inb : ∀ (v96 : BitVec 32) (k0_hw2 : k0_chk2 v96) (k0_t4 : Fin (k0_t4_loop v96).trips), ∀ a, (k0_off138 v96 k0_t4) a + S1x128.size a ≤ S256x128.size a := fun v96 k0_hw2 k0_t4 => k0_hw2.2.2.2.2.1.2.2.2.2.2.2.2.2.1 k0_t4
theorem k0_off139_inb : ∀ (v96 : BitVec 32) (k0_hw2 : k0_chk2 v96) (k0_t4 : Fin (k0_t4_loop v96).trips), ∀ a, (k0_off139 v96 k0_t4) a + S1x128.size a ≤ S256x128.size a := fun v96 k0_hw2 k0_t4 => k0_hw2.2.2.2.2.1.2.2.2.2.2.2.2.2.2.1 k0_t4
theorem k0_off140_inb : ∀ (v96 : BitVec 32) (k0_hw2 : k0_chk2 v96) (k0_t4 : Fin (k0_t4_loop v96).trips), ∀ a, (k0_off140 v96 k0_t4) a + S1x128.size a ≤ S256x128.size a := fun v96 k0_hw2 k0_t4 => k0_hw2.2.2.2.2.1.2.2.2.2.2.2.2.2.2.2.1 k0_t4
theorem k0_off141_inb : ∀ (v96 : BitVec 32) (k0_hw2 : k0_chk2 v96) (k0_t4 : Fin (k0_t4_loop v96).trips), ∀ a, (k0_off141 v96 k0_t4) a + S1x128.size a ≤ S256x128.size a := fun v96 k0_hw2 k0_t4 => k0_hw2.2.2.2.2.1.2.2.2.2.2.2.2.2.2.2.2.1 k0_t4
theorem k0_off142_inb : ∀ (v96 : BitVec 32) (k0_hw2 : k0_chk2 v96) (k0_t4 : Fin (k0_t4_loop v96).trips), ∀ a, (k0_off142 v96 k0_t4) a + S1x128.size a ≤ S256x128.size a := fun v96 k0_hw2 k0_t4 => k0_hw2.2.2.2.2.1.2.2.2.2.2.2.2.2.2.2.2.2.1 k0_t4
theorem k0_off143_inb : ∀ (v96 : BitVec 32) (k0_hw2 : k0_chk2 v96) (k0_t4 : Fin (k0_t4_loop v96).trips), ∀ a, (k0_off143 v96 k0_t4) a + S1x128.size a ≤ S256x128.size a := fun v96 k0_hw2 k0_t4 => k0_hw2.2.2.2.2.1.2.2.2.2.2.2.2.2.2.2.2.2.2.1 k0_t4
theorem k0_off144_inb : ∀ (v96 : BitVec 32) (k0_hw2 : k0_chk2 v96) (k0_t4 : Fin (k0_t4_loop v96).trips), ∀ a, (k0_off144 v96 k0_t4) a + S1x128.size a ≤ S256x128.size a := fun v96 k0_hw2 k0_t4 => k0_hw2.2.2.2.2.1.2.2.2.2.2.2.2.2.2.2.2.2.2.2.1 k0_t4
theorem k0_off145_inb : ∀ (v96 : BitVec 32) (k0_hw2 : k0_chk2 v96) (k0_t4 : Fin (k0_t4_loop v96).trips), ∀ a, (k0_off145 v96 k0_t4) a + S1x128.size a ≤ S256x128.size a := fun v96 k0_hw2 k0_t4 => k0_hw2.2.2.2.2.1.2.2.2.2.2.2.2.2.2.2.2.2.2.2.2.1 k0_t4
theorem k0_off146_inb : ∀ (v96 : BitVec 32) (k0_hw2 : k0_chk2 v96) (k0_t4 : Fin (k0_t4_loop v96).trips), ∀ a, (k0_off146 v96 k0_t4) a + S1x128.size a ≤ S256x128.size a := fun v96 k0_hw2 k0_t4 => k0_hw2.2.2.2.2.1.2.2.2.2.2.2.2.2.2.2.2.2.2.2.2.2.1 k0_t4
theorem k0_off147_inb : ∀ (v96 : BitVec 32) (k0_hw2 : k0_chk2 v96) (k0_t4 : Fin (k0_t4_loop v96).trips), ∀ a, (k0_off147 v96 k0_t4) a + S1x128.size a ≤ S256x128.size a := fun v96 k0_hw2 k0_t4 => k0_hw2.2.2.2.2.1.2.2.2.2.2.2.2.2.2.2.2.2.2.2.2.2.2.1 k0_t4
theorem k0_off148_inb : ∀ (v96 : BitVec 32) (k0_hw2 : k0_chk2 v96) (k0_t4 : Fin (k0_t4_loop v96).trips), ∀ a, (k0_off148 v96 k0_t4) a + S1x128.size a ≤ S256x128.size a := fun v96 k0_hw2 k0_t4 => k0_hw2.2.2.2.2.1.2.2.2.2.2.2.2.2.2.2.2.2.2.2.2.2.2.2.1 k0_t4
theorem k0_off149_inb : ∀ (v96 : BitVec 32) (k0_hw2 : k0_chk2 v96) (k0_t4 : Fin (k0_t4_loop v96).trips), ∀ a, (k0_off149 v96 k0_t4) a + S1x128.size a ≤ S256x128.size a := fun v96 k0_hw2 k0_t4 => k0_hw2.2.2.2.2.1.2.2.2.2.2.2.2.2.2.2.2.2.2.2.2.2.2.2.2.1 k0_t4
theorem k0_off150_inb : ∀ (v96 : BitVec 32) (k0_hw2 : k0_chk2 v96) (k0_t4 : Fin (k0_t4_loop v96).trips), ∀ a, (k0_off150 v96 k0_t4) a + S1x128.size a ≤ S256x128.size a := fun v96 k0_hw2 k0_t4 => k0_hw2.2.2.2.2.1.2.2.2.2.2.2.2.2.2.2.2.2.2.2.2.2.2.2.2.2.1 k0_t4
theorem k0_off151_inb : ∀ (v96 : BitVec 32) (k0_hw2 : k0_chk2 v96) (k0_t4 : Fin (k0_t4_loop v96).trips), ∀ a, (k0_off151 v96 k0_t4) a + S1x128.size a ≤ S256x128.size a := fun v96 k0_hw2 k0_t4 => k0_hw2.2.2.2.2.1.2.2.2.2.2.2.2.2.2.2.2.2.2.2.2.2.2.2.2.2.2.1 k0_t4
theorem k0_off152_inb : ∀ (v96 : BitVec 32) (k0_hw2 : k0_chk2 v96) (k0_t4 : Fin (k0_t4_loop v96).trips), ∀ a, (k0_off152 v96 k0_t4) a + S1x128.size a ≤ S256x128.size a := fun v96 k0_hw2 k0_t4 => k0_hw2.2.2.2.2.1.2.2.2.2.2.2.2.2.2.2.2.2.2.2.2.2.2.2.2.2.2.2.1 k0_t4
theorem k0_off153_inb : ∀ (v96 : BitVec 32) (k0_hw2 : k0_chk2 v96) (k0_t4 : Fin (k0_t4_loop v96).trips), ∀ a, (k0_off153 v96 k0_t4) a + S1x128.size a ≤ S256x128.size a := fun v96 k0_hw2 k0_t4 => k0_hw2.2.2.2.2.1.2.2.2.2.2.2.2.2.2.2.2.2.2.2.2.2.2.2.2.2.2.2.2.1 k0_t4
theorem k0_off154_inb : ∀ (v96 : BitVec 32) (k0_hw2 : k0_chk2 v96) (k0_t4 : Fin (k0_t4_loop v96).trips), ∀ a, (k0_off154 v96 k0_t4) a + S1x128.size a ≤ S256x128.size a := fun v96 k0_hw2 k0_t4 => k0_hw2.2.2.2.2.1.2.2.2.2.2.2.2.2.2.2.2.2.2.2.2.2.2.2.2.2.2.2.2.2.1 k0_t4
theorem k0_off155_inb : ∀ (v96 : BitVec 32) (k0_hw2 : k0_chk2 v96) (k0_t4 : Fin (k0_t4_loop v96).trips), ∀ a, (k0_off155 v96 k0_t4) a + S1x128.size a ≤ S256x128.size a := fun v96 k0_hw2 k0_t4 => k0_hw2.2.2.2.2.1.2.2.2.2.2.2.2.2.2.2.2.2.2.2.2.2.2.2.2.2.2.2.2.2.2.1 k0_t4
theorem k0_off156_inb : ∀ (v96 : BitVec 32) (k0_hw2 : k0_chk2 v96) (k0_t4 : Fin (k0_t4_loop v96).trips), ∀ a, (k0_off156 v96 k0_t4) a + S1x128.size a ≤ S256x128.size a := fun v96 k0_hw2 k0_t4 => k0_hw2.2.2.2.2.1.2.2.2.2.2.2.2.2.2.2.2.2.2.2.2.2.2.2.2.2.2.2.2.2.2.2.1 k0_t4
theorem k0_off157_inb : ∀ (v96 : BitVec 32) (k0_hw2 : k0_chk2 v96) (k0_t4 : Fin (k0_t4_loop v96).trips), ∀ a, (k0_off157 v96 k0_t4) a + S1x128.size a ≤ S256x128.size a := fun v96 k0_hw2 k0_t4 => k0_hw2.2.2.2.2.1.2.2.2.2.2.2.2.2.2.2.2.2.2.2.2.2.2.2.2.2.2.2.2.2.2.2.2.1 k0_t4
theorem k0_off158_inb : ∀ (v96 : BitVec 32) (k0_hw2 : k0_chk2 v96) (k0_t4 : Fin (k0_t4_loop v96).trips), ∀ a, (k0_off158 v96 k0_t4) a + S1x128.size a ≤ S256x128.size a := fun v96 k0_hw2 k0_t4 => k0_hw2.2.2.2.2.1.2.2.2.2.2.2.2.2.2.2.2.2.2.2.2.2.2.2.2.2.2.2.2.2.2.2.2.2.1 k0_t4
theorem k0_off159_inb : ∀ (v96 : BitVec 32) (k0_hw2 : k0_chk2 v96) (k0_t4 : Fin (k0_t4_loop v96).trips), ∀ a, (k0_off159 v96 k0_t4) a + S1x128.size a ≤ S256x128.size a := fun v96 k0_hw2 k0_t4 => k0_hw2.2.2.2.2.1.2.2.2.2.2.2.2.2.2.2.2.2.2.2.2.2.2.2.2.2.2.2.2.2.2.2.2.2.2.1 k0_t4
theorem k0_off160_inb : ∀ (v96 : BitVec 32) (k0_hw2 : k0_chk2 v96) (k0_t4 : Fin (k0_t4_loop v96).trips), ∀ a, (k0_off160 v96 k0_t4) a + S1x128.size a ≤ S256x128.size a := fun v96 k0_hw2 k0_t4 => k0_hw2.2.2.2.2.1.2.2.2.2.2.2.2.2.2.2.2.2.2.2.2.2.2.2.2.2.2.2.2.2.2.2.2.2.2.2.1 k0_t4
theorem k0_off161_inb : ∀ (v96 : BitVec 32) (k0_hw2 : k0_chk2 v96) (k0_t4 : Fin (k0_t4_loop v96).trips), ∀ a, (k0_off161 v96 k0_t4) a + S1x128.size a ≤ S256x128.size a := fun v96 k0_hw2 k0_t4 => k0_hw2.2.2.2.2.1.2.2.2.2.2.2.2.2.2.2.2.2.2.2.2.2.2.2.2.2.2.2.2.2.2.2.2.2.2.2.2 k0_t4
theorem k0_off162_inb : ∀ (v96 : BitVec 32) (k0_hw2 : k0_chk2 v96) (k0_t4 : Fin (k0_t4_loop v96).trips), ∀ a, (k0_off162 v96 k0_t4) a + S1x128.size a ≤ S256x128.size a := fun v96 k0_hw2 k0_t4 => k0_hw2.2.2.2.2.2.1.1 k0_t4
theorem k0_off163_inb : ∀ (v96 : BitVec 32) (k0_hw2 : k0_chk2 v96) (k0_t4 : Fin (k0_t4_loop v96).trips), ∀ a, (k0_off163 v96 k0_t4) a + S1x128.size a ≤ S256x128.size a := fun v96 k0_hw2 k0_t4 => k0_hw2.2.2.2.2.2.1.2.1 k0_t4
theorem k0_off164_inb : ∀ (v96 : BitVec 32) (k0_hw2 : k0_chk2 v96) (k0_t4 : Fin (k0_t4_loop v96).trips), ∀ a, (k0_off164 v96 k0_t4) a + S1x128.size a ≤ S256x128.size a := fun v96 k0_hw2 k0_t4 => k0_hw2.2.2.2.2.2.1.2.2.1 k0_t4
theorem k0_off165_inb : ∀ (v96 : BitVec 32) (k0_hw2 : k0_chk2 v96) (k0_t4 : Fin (k0_t4_loop v96).trips), ∀ a, (k0_off165 v96 k0_t4) a + S1x128.size a ≤ S256x128.size a := fun v96 k0_hw2 k0_t4 => k0_hw2.2.2.2.2.2.1.2.2.2.1 k0_t4
theorem k0_off166_inb : ∀ (v96 : BitVec 32) (k0_hw2 : k0_chk2 v96) (k0_t4 : Fin (k0_t4_loop v96).trips), ∀ a, (k0_off166 v96 k0_t4) a + S1x128.size a ≤ S256x128.size a := fun v96 k0_hw2 k0_t4 => k0_hw2.2.2.2.2.2.1.2.2.2.2.1 k0_t4
theorem k0_off167_inb : ∀ (v96 : BitVec 32) (k0_hw2 : k0_chk2 v96) (k0_t4 : Fin (k0_t4_loop v96).trips), ∀ a, (k0_off167 v96 k0_t4) a + S1x128.size a ≤ S256x128.size a := fun v96 k0_hw2 k0_t4 => k0_hw2.2.2.2.2.2.1.2.2.2.2.2.1 k0_t4
theorem k0_off168_inb : ∀ (v96 : BitVec 32) (k0_hw2 : k0_chk2 v96) (k0_t4 : Fin (k0_t4_loop v96).trips), ∀ a, (k0_off168 v96 k0_t4) a + S1x128.size a ≤ S256x128.size a := fun v96 k0_hw2 k0_t4 => k0_hw2.2.2.2.2.2.1.2.2.2.2.2.2.1 k0_t4
theorem k0_off169_inb : ∀ (v96 : BitVec 32) (k0_hw2 : k0_chk2 v96) (k0_t4 : Fin (k0_t4_loop v96).trips), ∀ a, (k0_off169 v96 k0_t4) a + S1x128.size a ≤ S256x128.size a := fun v96 k0_hw2 k0_t4 => k0_hw2.2.2.2.2.2.1.2.2.2.2.2.2.2.1 k0_t4
theorem k0_off170_inb : ∀ (v96 : BitVec 32) (k0_hw2 : k0_chk2 v96) (k0_t4 : Fin (k0_t4_loop v96).trips), ∀ a, (k0_off170 v96 k0_t4) a + S1x128.size a ≤ S256x128.size a := fun v96 k0_hw2 k0_t4 => k0_hw2.2.2.2.2.2.1.2.2.2.2.2.2.2.2.1 k0_t4
theorem k0_off171_inb : ∀ (v96 : BitVec 32) (k0_hw2 : k0_chk2 v96) (k0_t4 : Fin (k0_t4_loop v96).trips), ∀ a, (k0_off171 v96 k0_t4) a + S1x128.size a ≤ S256x128.size a := fun v96 k0_hw2 k0_t4 => k0_hw2.2.2.2.2.2.1.2.2.2.2.2.2.2.2.2.1 k0_t4
theorem k0_off172_inb : ∀ (v96 : BitVec 32) (k0_hw2 : k0_chk2 v96) (k0_t4 : Fin (k0_t4_loop v96).trips), ∀ a, (k0_off172 v96 k0_t4) a + S1x128.size a ≤ S256x128.size a := fun v96 k0_hw2 k0_t4 => k0_hw2.2.2.2.2.2.1.2.2.2.2.2.2.2.2.2.2.1 k0_t4
theorem k0_off173_inb : ∀ (v96 : BitVec 32) (k0_hw2 : k0_chk2 v96) (k0_t4 : Fin (k0_t4_loop v96).trips), ∀ a, (k0_off173 v96 k0_t4) a + S1x128.size a ≤ S256x128.size a := fun v96 k0_hw2 k0_t4 => k0_hw2.2.2.2.2.2.1.2.2.2.2.2.2.2.2.2.2.2.1 k0_t4
theorem k0_off174_inb : ∀ (v96 : BitVec 32) (k0_hw2 : k0_chk2 v96) (k0_t4 : Fin (k0_t4_loop v96).trips), ∀ a, (k0_off174 v96 k0_t4) a + S1x128.size a ≤ S256x128.size a := fun v96 k0_hw2 k0_t4 => k0_hw2.2.2.2.2.2.1.2.2.2.2.2.2.2.2.2.2.2.2.1 k0_t4
theorem k0_off175_inb : ∀ (v96 : BitVec 32) (k0_hw2 : k0_chk2 v96) (k0_t4 : Fin (k0_t4_loop v96).trips), ∀ a, (k0_off175 v96 k0_t4) a + S1x128.size a ≤ S256x128.size a := fun v96 k0_hw2 k0_t4 => k0_hw2.2.2.2.2.2.1.2.2.2.2.2.2.2.2.2.2.2.2.2.1 k0_t4
theorem k0_off176_inb : ∀ (v96 : BitVec 32) (k0_hw2 : k0_chk2 v96) (k0_t4 : Fin (k0_t4_loop v96).trips), ∀ a, (k0_off176 v96 k0_t4) a + S1x128.size a ≤ S256x128.size a := fun v96 k0_hw2 k0_t4 => k0_hw2.2.2.2.2.2.1.2.2.2.2.2.2.2.2.2.2.2.2.2.2.1 k0_t4
theorem k0_off177_inb : ∀ (v96 : BitVec 32) (k0_hw2 : k0_chk2 v96) (k0_t4 : Fin (k0_t4_loop v96).trips), ∀ a, (k0_off177 v96 k0_t4) a + S1x128.size a ≤ S256x128.size a := fun v96 k0_hw2 k0_t4 => k0_hw2.2.2.2.2.2.1.2.2.2.2.2.2.2.2.2.2.2.2.2.2.2.1 k0_t4
theorem k0_off178_inb : ∀ (v96 : BitVec 32) (k0_hw2 : k0_chk2 v96) (k0_t4 : Fin (k0_t4_loop v96).trips), ∀ a, (k0_off178 v96 k0_t4) a + S1x128.size a ≤ S256x128.size a := fun v96 k0_hw2 k0_t4 => k0_hw2.2.2.2.2.2.1.2.2.2.2.2.2.2.2.2.2.2.2.2.2.2.2.1 k0_t4
theorem k0_off179_inb : ∀ (v96 : BitVec 32) (k0_hw2 : k0_chk2 v96) (k0_t4 : Fin (k0_t4_loop v96).trips), ∀ a, (k0_off179 v96 k0_t4) a + S1x128.size a ≤ S256x128.size a := fun v96 k0_hw2 k0_t4 => k0_hw2.2.2.2.2.2.1.2.2.2.2.2.2.2.2.2.2.2.2.2.2.2.2.2.1 k0_t4
theorem k0_off180_inb : ∀ (v96 : BitVec 32) (k0_hw2 : k0_chk2 v96) (k0_t4 : Fin (k0_t4_loop v96).trips), ∀ a, (k0_off180 v96 k0_t4) a + S1x128.size a ≤ S256x128.size a := fun v96 k0_hw2 k0_t4 => k0_hw2.2.2.2.2.2.1.2.2.2.2.2.2.2.2.2.2.2.2.2.2.2.2.2.2.1 k0_t4
theorem k0_off181_inb : ∀ (v96 : BitVec 32) (k0_hw2 : k0_chk2 v96) (k0_t4 : Fin (k0_t4_loop v96).trips), ∀ a, (k0_off181 v96 k0_t4) a + S1x128.size a ≤ S256x128.size a := fun v96 k0_hw2 k0_t4 => k0_hw2.2.2.2.2.2.1.2.2.2.2.2.2.2.2.2.2.2.2.2.2.2.2.2.2.2.1 k0_t4
theorem k0_off182_inb : ∀ (v96 : BitVec 32) (k0_hw2 : k0_chk2 v96) (k0_t4 : Fin (k0_t4_loop v96).trips), ∀ a, (k0_off182 v96 k0_t4) a + S1x128.size a ≤ S256x128.size a := fun v96 k0_hw2 k0_t4 => k0_hw2.2.2.2.2.2.1.2.2.2.2.2.2.2.2.2.2.2.2.2.2.2.2.2.2.2.2.1 k0_t4
theorem k0_off183_inb : ∀ (v96 : BitVec 32) (k0_hw2 : k0_chk2 v96) (k0_t4 : Fin (k0_t4_loop v96).trips), ∀ a, (k0_off183 v96 k0_t4) a + S1x128.size a ≤ S256x128.size a := fun v96 k0_hw2 k0_t4 => k0_hw2.2.2.2.2.2.1.2.2.2.2.2.2.2.2.2.2.2.2.2.2.2.2.2.2.2.2.2.1 k0_t4
theorem k0_off184_inb : ∀ (v96 : BitVec 32) (k0_hw2 : k0_chk2 v96) (k0_t4 : Fin (k0_t4_loop v96).trips), ∀ a, (k0_off184 v96 k0_t4) a + S1x128.size a ≤ S256x128.size a := fun v96 k0_hw2 k0_t4 => k0_hw2.2.2.2.2.2.1.2.2.2.2.2.2.2.2.2.2.2.2.2.2.2.2.2.2.2.2.2.2.1 k0_t4
theorem k0_off185_inb : ∀ (v96 : BitVec 32) (k0_hw2 : k0_chk2 v96) (k0_t4 : Fin (k0_t4_loop v96).trips), ∀ a, (k0_off185 v96 k0_t4) a + S1x128.size a ≤ S256x128.size a := fun v96 k0_hw2 k0_t4 => k0_hw2.2.2.2.2.2.1.2.2.2.2.2.2.2.2.2.2.2.2.2.2.2.2.2.2.2.2.2.2.2.1 k0_t4
theorem k0_off186_inb : ∀ (v96 : BitVec 32) (k0_hw2 : k0_chk2 v96) (k0_t4 : Fin (k0_t4_loop v96).trips), ∀ a, (k0_off186 v96 k0_t4) a + S1x128.size a ≤ S256x128.size a := fun v96 k0_hw2 k0_t4 => k0_hw2.2.2.2.2.2.1.2.2.2.2.2.2.2.2.2.2.2.2.2.2.2.2.2.2.2.2.2.2.2.2.1 k0_t4
theorem k0_off187_inb : ∀ (v96 : BitVec 32) (k0_hw2 : k0_chk2 v96) (k0_t4 : Fin (k0_t4_loop v96).trips), ∀ a, (k0_off187 v96 k0_t4) a + S1x128.size a ≤ S256x128.size a := fun v96 k0_hw2 k0_t4 => k0_hw2.2.2.2.2.2.1.2.2.2.2.2.2.2.2.2.2.2.2.2.2.2.2.2.2.2.2.2.2.2.2.2.1 k0_t4
theorem k0_off188_inb : ∀ (v96 : BitVec 32) (k0_hw2 : k0_chk2 v96) (k0_t4 : Fin (k0_t4_loop v96).trips), ∀ a, (k0_off188 v96 k0_t4) a + S1x128.size a ≤ S256x128.size a := fun v96 k0_hw2 k0_t4 => k0_hw2.2.2.2.2.2.1.2.2.2.2.2.2.2.2.2.2.2.2.2.2.2.2.2.2.2.2.2.2.2.2.2.2.1 k0_t4
theorem k0_off189_inb : ∀ (v96 : BitVec 32) (k0_hw2 : k0_chk2 v96) (k0_t4 : Fin (k0_t4_loop v96).trips), ∀ a, (k0_off189 v96 k0_t4) a + S1x128.size a ≤ S256x128.size a := fun v96 k0_hw2 k0_t4 => k0_hw2.2.2.2.2.2.1.2.2.2.2.2.2.2.2.2.2.2.2.2.2.2.2.2.2.2.2.2.2.2.2.2.2.2.1 k0_t4
theorem k0_off190_inb : ∀ (v96 : BitVec 32) (k0_hw2 : k0_chk2 v96) (k0_t4 : Fin (k0_t4_loop v96).trips), ∀ a, (k0_off190 v96 k0_t4) a + S1x128.size a ≤ S256x128.size a := fun v96 k0_hw2 k0_t4 => k0_hw2.2.2.2.2.2.1.2.2.2.2.2.2.2.2.2.2.2.2.2.2.2.2.2.2.2.2.2.2.2.2.2.2.2.2.1 k0_t4
theorem k0_off191_inb : ∀ (v96 : BitVec 32) (k0_hw2 : k0_chk2 v96) (k0_t4 : Fin (k0_t4_loop v96).trips), ∀ a, (k0_off191 v96 k0_t4) a + S1x128.size a ≤ S256x128.size a := fun v96 k0_hw2 k0_t4 => k0_hw2.2.2.2.2.2.1.2.2.2.2.2.2.2.2.2.2.2.2.2.2.2.2.2.2.2.2.2.2.2.2.2.2.2.2.2.1 k0_t4
theorem k0_off192_inb : ∀ (v96 : BitVec 32) (k0_hw2 : k0_chk2 v96) (k0_t4 : Fin (k0_t4_loop v96).trips), ∀ a, (k0_off192 v96 k0_t4) a + S1x128.size a ≤ S256x128.size a := fun v96 k0_hw2 k0_t4 => k0_hw2.2.2.2.2.2.1.2.2.2.2.2.2.2.2.2.2.2.2.2.2.2.2.2.2.2.2.2.2.2.2.2.2.2.2.2.2.1 k0_t4
theorem k0_off193_inb : ∀ (v96 : BitVec 32) (k0_hw2 : k0_chk2 v96) (k0_t4 : Fin (k0_t4_loop v96).trips), ∀ a, (k0_off193 v96 k0_t4) a + S1x128.size a ≤ S256x128.size a := fun v96 k0_hw2 k0_t4 => k0_hw2.2.2.2.2.2.1.2.2.2.2.2.2.2.2.2.2.2.2.2.2.2.2.2.2.2.2.2.2.2.2.2.2.2.2.2.2.2 k0_t4
theorem k0_off194_inb : ∀ (v96 : BitVec 32) (k0_hw2 : k0_chk2 v96) (k0_t4 : Fin (k0_t4_loop v96).trips), ∀ a, (k0_off194 v96 k0_t4) a + S1x128.size a ≤ S256x128.size a := fun v96 k0_hw2 k0_t4 => k0_hw2.2.2.2.2.2.2.1.1 k0_t4
theorem k0_off195_inb : ∀ (v96 : BitVec 32) (k0_hw2 : k0_chk2 v96) (k0_t4 : Fin (k0_t4_loop v96).trips), ∀ a, (k0_off195 v96 k0_t4) a + S1x128.size a ≤ S256x128.size a := fun v96 k0_hw2 k0_t4 => k0_hw2.2.2.2.2.2.2.1.2.1 k0_t4
theorem k0_off196_inb : ∀ (v96 : BitVec 32) (k0_hw2 : k0_chk2 v96) (k0_t4 : Fin (k0_t4_loop v96).trips), ∀ a, (k0_off196 v96 k0_t4) a + S1x128.size a ≤ S256x128.size a := fun v96 k0_hw2 k0_t4 => k0_hw2.2.2.2.2.2.2.1.2.2.1 k0_t4
theorem k0_off197_inb : ∀ (v96 : BitVec 32) (k0_hw2 : k0_chk2 v96) (k0_t4 : Fin (k0_t4_loop v96).trips), ∀ a, (k0_off197 v96 k0_t4) a + S1x128.size a ≤ S256x128.size a := fun v96 k0_hw2 k0_t4 => k0_hw2.2.2.2.2.2.2.1.2.2.2.1 k0_t4
theorem k0_off198_inb : ∀ (v96 : BitVec 32) (k0_hw2 : k0_chk2 v96) (k0_t4 : Fin (k0_t4_loop v96).trips), ∀ a, (k0_off198 v96 k0_t4) a + S1x128.size a ≤ S256x128.size a := fun v96 k0_hw2 k0_t4 => k0_hw2.2.2.2.2.2.2.1.2.2.2.2.1 k0_t4
theorem k0_off199_inb : ∀ (v96 : BitVec 32) (k0_hw2 : k0_chk2 v96) (k0_t4 : Fin (k0_t4_loop v96).trips), ∀ a, (k0_off199 v96 k0_t4) a + S1x128.size a ≤ S256x128.size a := fun v96 k0_hw2 k0_t4 => k0_hw2.2.2.2.2.2.2.1.2.2.2.2.2.1 k0_t4
theorem k0_off200_inb : ∀ (v96 : BitVec 32) (k0_hw2 : k0_chk2 v96) (k0_t4 : Fin (k0_t4_loop v96).trips), ∀ a, (k0_off200 v96 k0_t4) a + S1x128.size a ≤ S256x128.size a := fun v96 k0_hw2 k0_t4 => k0_hw2.2.2.2.2.2.2.1.2.2.2.2.2.2.1 k0_t4
theorem k0_off201_inb : ∀ (v96 : BitVec 32) (k0_hw2 : k0_chk2 v96) (k0_t4 : Fin (k0_t4_loop v96).trips), ∀ a, (k0_off201 v96 k0_t4) a + S1x128.size a ≤ S256x128.size a := fun v96 k0_hw2 k0_t4 => k0_hw2.2.2.2.2.2.2.1.2.2.2.2.2.2.2.1 k0_t4
theorem k0_off202_inb : ∀ (v96 : BitVec 32) (k0_hw2 : k0_chk2 v96) (k0_t4 : Fin (k0_t4_loop v96).trips), ∀ a, (k0_off202 v96 k0_t4) a + S1x128.size a ≤ S256x128.size a := fun v96 k0_hw2 k0_t4 => k0_hw2.2.2.2.2.2.2.1.2.2.2.2.2.2.2.2.1 k0_t4
theorem k0_off203_inb : ∀ (v96 : BitVec 32) (k0_hw2 : k0_chk2 v96) (k0_t4 : Fin (k0_t4_loop v96).trips), ∀ a, (k0_off203 v96 k0_t4) a + S1x128.size a ≤ S256x128.size a := fun v96 k0_hw2 k0_t4 => k0_hw2.2.2.2.2.2.2.1.2.2.2.2.2.2.2.2.2.1 k0_t4
theorem k0_off204_inb : ∀ (v96 : BitVec 32) (k0_hw2 : k0_chk2 v96) (k0_t4 : Fin (k0_t4_loop v96).trips), ∀ a, (k0_off204 v96 k0_t4) a + S1x128.size a ≤ S256x128.size a := fun v96 k0_hw2 k0_t4 => k0_hw2.2.2.2.2.2.2.1.2.2.2.2.2.2.2.2.2.2.1 k0_t4
theorem k0_off205_inb : ∀ (v96 : BitVec 32) (k0_hw2 : k0_chk2 v96) (k0_t4 : Fin (k0_t4_loop v96).trips), ∀ a, (k0_off205 v96 k0_t4) a + S1x128.size a ≤ S256x128.size a := fun v96 k0_hw2 k0_t4 => k0_hw2.2.2.2.2.2.2.1.2.2.2.2.2.2.2.2.2.2.2.1 k0_t4
theorem k0_off206_inb : ∀ (v96 : BitVec 32) (k0_hw2 : k0_chk2 v96) (k0_t4 : Fin (k0_t4_loop v96).trips), ∀ a, (k0_off206 v96 k0_t4) a + S1x128.size a ≤ S256x128.size a := fun v96 k0_hw2 k0_t4 => k0_hw2.2.2.2.2.2.2.1.2.2.2.2.2.2.2.2.2.2.2.2.1 k0_t4
theorem k0_off207_inb : ∀ (v96 : BitVec 32) (k0_hw2 : k0_chk2 v96) (k0_t4 : Fin (k0_t4_loop v96).trips), ∀ a, (k0_off207 v96 k0_t4) a + S1x128.size a ≤ S256x128.size a := fun v96 k0_hw2 k0_t4 => k0_hw2.2.2.2.2.2.2.1.2.2.2.2.2.2.2.2.2.2.2.2.2.1 k0_t4
theorem k0_off208_inb : ∀ (v96 : BitVec 32) (k0_hw2 : k0_chk2 v96) (k0_t4 : Fin (k0_t4_loop v96).trips), ∀ a, (k0_off208 v96 k0_t4) a + S1x128.size a ≤ S256x128.size a := fun v96 k0_hw2 k0_t4 => k0_hw2.2.2.2.2.2.2.1.2.2.2.2.2.2.2.2.2.2.2.2.2.2.1 k0_t4
theorem k0_off209_inb : ∀ (v96 : BitVec 32) (k0_hw2 : k0_chk2 v96) (k0_t4 : Fin (k0_t4_loop v96).trips), ∀ a, (k0_off209 v96 k0_t4) a + S1x128.size a ≤ S256x128.size a := fun v96 k0_hw2 k0_t4 => k0_hw2.2.2.2.2.2.2.1.2.2.2.2.2.2.2.2.2.2.2.2.2.2.2.1 k0_t4
theorem k0_off210_inb : ∀ (v96 : BitVec 32) (k0_hw2 : k0_chk2 v96) (k0_t4 : Fin (k0_t4_loop v96).trips), ∀ a, (k0_off210 v96 k0_t4) a + S1x128.size a ≤ S256x128.size a := fun v96 k0_hw2 k0_t4 => k0_hw2.2.2.2.2.2.2.1.2.2.2.2.2.2.2.2.2.2.2.2.2.2.2.2.1 k0_t4
theorem k0_off211_inb : ∀ (v96 : BitVec 32) (k0_hw2 : k0_chk2 v96) (k0_t4 : Fin (k0_t4_loop v96).trips), ∀ a, (k0_off211 v96 k0_t4) a + S1x128.size a ≤ S256x128.size a := fun v96 k0_hw2 k0_t4 => k0_hw2.2.2.2.2.2.2.1.2.2.2.2.2.2.2.2.2.2.2.2.2.2.2.2.2.1 k0_t4
theorem k0_off212_inb : ∀ (v96 : BitVec 32) (k0_hw2 : k0_chk2 v96) (k0_t4 : Fin (k0_t4_loop v96).trips), ∀ a, (k0_off212 v96 k0_t4) a + S1x128.size a ≤ S256x128.size a := fun v96 k0_hw2 k0_t4 => k0_hw2.2.2.2.2.2.2.1.2.2.2.2.2.2.2.2.2.2.2.2.2.2.2.2.2.2.1 k0_t4
theorem k0_off213_inb : ∀ (v96 : BitVec 32) (k0_hw2 : k0_chk2 v96) (k0_t4 : Fin (k0_t4_loop v96).trips), ∀ a, (k0_off213 v96 k0_t4) a + S1x128.size a ≤ S256x128.size a := fun v96 k0_hw2 k0_t4 => k0_hw2.2.2.2.2.2.2.1.2.2.2.2.2.2.2.2.2.2.2.2.2.2.2.2.2.2.2.1 k0_t4
theorem k0_off214_inb : ∀ (v96 : BitVec 32) (k0_hw2 : k0_chk2 v96) (k0_t4 : Fin (k0_t4_loop v96).trips), ∀ a, (k0_off214 v96 k0_t4) a + S1x128.size a ≤ S256x128.size a := fun v96 k0_hw2 k0_t4 => k0_hw2.2.2.2.2.2.2.1.2.2.2.2.2.2.2.2.2.2.2.2.2.2.2.2.2.2.2.2.1 k0_t4
theorem k0_off215_inb : ∀ (v96 : BitVec 32) (k0_hw2 : k0_chk2 v96) (k0_t4 : Fin (k0_t4_loop v96).trips), ∀ a, (k0_off215 v96 k0_t4) a + S1x128.size a ≤ S256x128.size a := fun v96 k0_hw2 k0_t4 => k0_hw2.2.2.2.2.2.2.1.2.2.2.2.2.2.2.2.2.2.2.2.2.2.2.2.2.2.2.2.2.1 k0_t4
theorem k0_off216_inb : ∀ (v96 : BitVec 32) (k0_hw2 : k0_chk2 v96) (k0_t4 : Fin (k0_t4_loop v96).trips), ∀ a, (k0_off216 v96 k0_t4) a + S1x128.size a ≤ S256x128.size a := fun v96 k0_hw2 k0_t4 => k0_hw2.2.2.2.2.2.2.1.2.2.2.2.2.2.2.2.2.2.2.2.2.2.2.2.2.2.2.2.2.2.1 k0_t4
theorem k0_off217_inb : ∀ (v96 : BitVec 32) (k0_hw2 : k0_chk2 v96) (k0_t4 : Fin (k0_t4_loop v96).trips), ∀ a, (k0_off217 v96 k0_t4) a + S1x128.size a ≤ S256x128.size a := fun v96 k0_hw2 k0_t4 => k0_hw2.2.2.2.2.2.2.1.2.2.2.2.2.2.2.2.2.2.2.2.2.2.2.2.2.2.2.2.2.2.2.1 k0_t4
theorem k0_off218_inb : ∀ (v96 : BitVec 32) (k0_hw2 : k0_chk2 v96) (k0_t4 : Fin (k0_t4_loop v96).trips), ∀ a, (k0_off218 v96 k0_t4) a + S1x128.size a ≤ S256x128.size a := fun v96 k0_hw2 k0_t4 => k0_hw2.2.2.2.2.2.2.1.2.2.2.2.2.2.2.2.2.2.2.2.2.2.2.2.2.2.2.2.2.2.2.2.1 k0_t4
theorem k0_off219_inb : ∀ (v96 : BitVec 32) (k0_hw2 : k0_chk2 v96) (k0_t4 : Fin (k0_t4_loop v96).trips), ∀ a, (k0_off219 v96 k0_t4) a + S1x128.size a ≤ S256x128.size a := fun v96 k0_hw2 k0_t4 => k0_hw2.2.2.2.2.2.2.1.2.2.2.2.2.2.2.2.2.2.2.2.2.2.2.2.2.2.2.2.2.2.2.2.2.1 k0_t4
theorem k0_off220_inb : ∀ (v96 : BitVec 32) (k0_hw2 : k0_chk2 v96) (k0_t4 : Fin (k0_t4_loop v96).trips), ∀ a, (k0_off220 v96 k0_t4) a + S1x128.size a ≤ S256x128.size a := fun v96 k0_hw2 k0_t4 => k0_hw2.2.2.2.2.2.2.1.2.2.2.2.2.2.2.2.2.2.2.2.2.2.2.2.2.2.2.2.2.2.2.2.2.2.1 k0_t4
theorem k0_off221_inb : ∀ (v96 : BitVec 32) (k0_hw2 : k0_chk2 v96) (k0_t4 : Fin (k0_t4_loop v96).trips), ∀ a, (k0_off221 v96 k0_t4) a + S1x128.size a ≤ S256x128.size a := fun v96 k0_hw2 k0_t4 => k0_hw2.2.2.2.2.2.2.1.2.2.2.2.2.2.2.2.2.2.2.2.2.2.2.2.2.2.2.2.2.2.2.2.2.2.2.1 k0_t4
theorem k0_off222_inb : ∀ (v96 : BitVec 32) (k0_hw2 : k0_chk2 v96) (k0_t4 : Fin (k0_t4_loop v96).trips), ∀ a, (k0_off222 v96 k0_t4) a + S1x128.size a ≤ S256x128.size a := fun v96 k0_hw2 k0_t4 => k0_hw2.2.2.2.2.2.2.1.2.2.2.2.2.2.2.2.2.2.2.2.2.2.2.2.2.2.2.2.2.2.2.2.2.2.2.2.1 k0_t4
theorem k0_off223_inb : ∀ (v96 : BitVec 32) (k0_hw2 : k0_chk2 v96) (k0_t4 : Fin (k0_t4_loop v96).trips), ∀ a, (k0_off223 v96 k0_t4) a + S1x128.size a ≤ S256x128.size a := fun v96 k0_hw2 k0_t4 => k0_hw2.2.2.2.2.2.2.1.2.2.2.2.2.2.2.2.2.2.2.2.2.2.2.2.2.2.2.2.2.2.2.2.2.2.2.2.2.1 k0_t4
theorem k0_off224_inb : ∀ (v96 : BitVec 32) (k0_hw2 : k0_chk2 v96) (k0_t4 : Fin (k0_t4_loop v96).trips), ∀ a, (k0_off224 v96 k0_t4) a + S1x128.size a ≤ S256x128.size a := fun v96 k0_hw2 k0_t4 => k0_hw2.2.2.2.2.2.2.1.2.2.2.2.2.2.2.2.2.2.2.2.2.2.2.2.2.2.2.2.2.2.2.2.2.2.2.2.2.2.1 k0_t4
theorem k0_off225_inb : ∀ (v96 : BitVec 32) (k0_hw2 : k0_chk2 v96) (k0_t4 : Fin (k0_t4_loop v96).trips), ∀ a, (k0_off225 v96 k0_t4) a + S1x128.size a ≤ S256x128.size a := fun v96 k0_hw2 k0_t4 => k0_hw2.2.2.2.2.2.2.1.2.2.2.2.2.2.2.2.2.2.2.2.2.2.2.2.2.2.2.2.2.2.2.2.2.2.2.2.2.2.2 k0_t4
theorem k0_off226_inb : ∀ (v96 : BitVec 32) (k0_hw2 : k0_chk2 v96) (k0_t4 : Fin (k0_t4_loop v96).trips), ∀ a, (k0_off226 v96 k0_t4) a + S1x128.size a ≤ S256x128.size a := fun v96 k0_hw2 k0_t4 => k0_hw2.2.2.2.2.2.2.2.1.1 k0_t4
theorem k0_off227_inb : ∀ (v96 : BitVec 32) (k0_hw2 : k0_chk2 v96) (k0_t4 : Fin (k0_t4_loop v96).trips), ∀ a, (k0_off227 v96 k0_t4) a + S1x128.size a ≤ S256x128.size a := fun v96 k0_hw2 k0_t4 => k0_hw2.2.2.2.2.2.2.2.1.2.1 k0_t4
theorem k0_off228_inb : ∀ (v96 : BitVec 32) (k0_hw2 : k0_chk2 v96) (k0_t4 : Fin (k0_t4_loop v96).trips), ∀ a, (k0_off228 v96 k0_t4) a + S1x128.size a ≤ S256x128.size a := fun v96 k0_hw2 k0_t4 => k0_hw2.2.2.2.2.2.2.2.1.2.2.1 k0_t4
theorem k0_off229_inb : ∀ (v96 : BitVec 32) (k0_hw2 : k0_chk2 v96) (k0_t4 : Fin (k0_t4_loop v96).trips), ∀ a, (k0_off229 v96 k0_t4) a + S1x128.size a ≤ S256x128.size a := fun v96 k0_hw2 k0_t4 => k0_hw2.2.2.2.2.2.2.2.1.2.2.2.1 k0_t4
theorem k0_off230_inb : ∀ (v96 : BitVec 32) (k0_hw2 : k0_chk2 v96) (k0_t4 : Fin (k0_t4_loop v96).trips), ∀ a, (k0_off230 v96 k0_t4) a + S1x128.size a ≤ S256x128.size a := fun v96 k0_hw2 k0_t4 => k0_hw2.2.2.2.2.2.2.2.1.2.2.2.2.1 k0_t4
theorem k0_off231_inb : ∀ (v96 : BitVec 32) (k0_hw2 : k0_chk2 v96) (k0_t4 : Fin (k0_t4_loop v96).trips), ∀ a, (k0_off231 v96 k0_t4) a + S1x128.size a ≤ S256x128.size a := fun v96 k0_hw2 k0_t4 => k0_hw2.2.2.2.2.2.2.2.1.2.2.2.2.2.1 k0_t4
theorem k0_off232_inb : ∀ (v96 : BitVec 32) (k0_hw2 : k0_chk2 v96) (k0_t4 : Fin (k0_t4_loop v96).trips), ∀ a, (k0_off232 v96 k0_t4) a + S1x128.size a ≤ S256x128.size a := fun v96 k0_hw2 k0_t4 => k0_hw2.2.2.2.2.2.2.2.1.2.2.2.2.2.2.1 k0_t4
theorem k0_off233_inb : ∀ (v96 : BitVec 32) (k0_hw2 : k0_chk2 v96) (k0_t4 : Fin (k0_t4_loop v96).trips), ∀ a, (k0_off233 v96 k0_t4) a + S1x128.size a ≤ S256x128.size a := fun v96 k0_hw2 k0_t4 => k0_hw2.2.2.2.2.2.2.2.1.2.2.2.2.2.2.2.1 k0_t4
theorem k0_off234_inb : ∀ (v96 : BitVec 32) (k0_hw2 : k0_chk2 v96) (k0_t4 : Fin (k0_t4_loop v96).trips), ∀ a, (k0_off234 v96 k0_t4) a + S1x128.size a ≤ S256x128.size a := fun v96 k0_hw2 k0_t4 => k0_hw2.2.2.2.2.2.2.2.1.2.2.2.2.2.2.2.2.1 k0_t4
theorem k0_off235_inb : ∀ (v96 : BitVec 32) (k0_hw2 : k0_chk2 v96) (k0_t4 : Fin (k0_t4_loop v96).trips), ∀ a, (k0_off235 v96 k0_t4) a + S1x128.size a ≤ S256x128.size a := fun v96 k0_hw2 k0_t4 => k0_hw2.2.2.2.2.2.2.2.1.2.2.2.2.2.2.2.2.2.1 k0_t4
theorem k0_off236_inb : ∀ (v96 : BitVec 32) (k0_hw2 : k0_chk2 v96) (k0_t4 : Fin (k0_t4_loop v96).trips), ∀ a, (k0_off236 v96 k0_t4) a + S1x128.size a ≤ S256x128.size a := fun v96 k0_hw2 k0_t4 => k0_hw2.2.2.2.2.2.2.2.1.2.2.2.2.2.2.2.2.2.2.1 k0_t4
theorem k0_off237_inb : ∀ (v96 : BitVec 32) (k0_hw2 : k0_chk2 v96) (k0_t4 : Fin (k0_t4_loop v96).trips), ∀ a, (k0_off237 v96 k0_t4) a + S1x128.size a ≤ S256x128.size a := fun v96 k0_hw2 k0_t4 => k0_hw2.2.2.2.2.2.2.2.1.2.2.2.2.2.2.2.2.2.2.2.1 k0_t4
theorem k0_off238_inb : ∀ (v96 : BitVec 32) (k0_hw2 : k0_chk2 v96) (k0_t4 : Fin (k0_t4_loop v96).trips), ∀ a, (k0_off238 v96 k0_t4) a + S1x128.size a ≤ S256x128.size a := fun v96 k0_hw2 k0_t4 => k0_hw2.2.2.2.2.2.2.2.1.2.2.2.2.2.2.2.2.2.2.2.2.1 k0_t4
theorem k0_off239_inb : ∀ (v96 : BitVec 32) (k0_hw2 : k0_chk2 v96) (k0_t4 : Fin (k0_t4_loop v96).trips), ∀ a, (k0_off239 v96 k0_t4) a + S1x128.size a ≤ S256x128.size a := fun v96 k0_hw2 k0_t4 => k0_hw2.2.2.2.2.2.2.2.1.2.2.2.2.2.2.2.2.2.2.2.2.2.1 k0_t4
theorem k0_off240_inb : ∀ (v96 : BitVec 32) (k0_hw2 : k0_chk2 v96) (k0_t4 : Fin (k0_t4_loop v96).trips), ∀ a, (k0_off240 v96 k0_t4) a + S1x128.size a ≤ S256x128.size a := fun v96 k0_hw2 k0_t4 => k0_hw2.2.2.2.2.2.2.2.1.2.2.2.2.2.2.2.2.2.2.2.2.2.2.1 k0_t4
theorem k0_off241_inb : ∀ (v96 : BitVec 32) (k0_hw2 : k0_chk2 v96) (k0_t4 : Fin (k0_t4_loop v96).trips), ∀ a, (k0_off241 v96 k0_t4) a + S1x128.size a ≤ S256x128.size a := fun v96 k0_hw2 k0_t4 => k0_hw2.2.2.2.2.2.2.2.1.2.2.2.2.2.2.2.2.2.2.2.2.2.2.2.1 k0_t4
theorem k0_off242_inb : ∀ (v96 : BitVec 32) (k0_hw2 : k0_chk2 v96) (k0_t4 : Fin (k0_t4_loop v96).trips), ∀ a, (k0_off242 v96 k0_t4) a + S1x128.size a ≤ S256x128.size a := fun v96 k0_hw2 k0_t4 => k0_hw2.2.2.2.2.2.2.2.1.2.2.2.2.2.2.2.2.2.2.2.2.2.2.2.2.1 k0_t4
theorem k0_off243_inb : ∀ (v96 : BitVec 32) (k0_hw2 : k0_chk2 v96) (k0_t4 : Fin (k0_t4_loop v96).trips), ∀ a, (k0_off243 v96 k0_t4) a + S1x128.size a ≤ S256x128.size a := fun v96 k0_hw2 k0_t4 => k0_hw2.2.2.2.2.2.2.2.1.2.2.2.2.2.2.2.2.2.2.2.2.2.2.2.2.2.1 k0_t4
theorem k0_off244_inb : ∀ (v96 : BitVec 32) (k0_hw2 : k0_chk2 v96) (k0_t4 : Fin (k0_t4_loop v96).trips), ∀ a, (k0_off244 v96 k0_t4) a + S1x128.size a ≤ S256x128.size a := fun v96 k0_hw2 k0_t4 => k0_hw2.2.2.2.2.2.2.2.1.2.2.2.2.2.2.2.2.2.2.2.2.2.2.2.2.2.2.1 k0_t4
theorem k0_off245_inb : ∀ (v96 : BitVec 32) (k0_hw2 : k0_chk2 v96) (k0_t4 : Fin (k0_t4_loop v96).trips), ∀ a, (k0_off245 v96 k0_t4) a + S1x128.size a ≤ S256x128.size a := fun v96 k0_hw2 k0_t4 => k0_hw2.2.2.2.2.2.2.2.1.2.2.2.2.2.2.2.2.2.2.2.2.2.2.2.2.2.2.2.1 k0_t4
theorem k0_off246_inb : ∀ (v96 : BitVec 32) (k0_hw2 : k0_chk2 v96) (k0_t4 : Fin (k0_t4_loop v96).trips), ∀ a, (k0_off246 v96 k0_t4) a + S1x128.size a ≤ S256x128.size a := fun v96 k0_hw2 k0_t4 => k0_hw2.2.2.2.2.2.2.2.1.2.2.2.2.2.2.2.2.2.2.2.2.2.2.2.2.2.2.2.2.1 k0_t4
theorem k0_off247_inb : ∀ (v96 : BitVec 32) (k0_hw2 : k0_chk2 v96) (k0_t4 : Fin (k0_t4_loop v96).trips), ∀ a, (k0_off247 v96 k0_t4) a + S1x128.size a ≤ S256x128.size a := fun v96 k0_hw2 k0_t4 => k0_hw2.2.2.2.2.2.2.2.1.2.2.2.2.2.2.2.2.2.2.2.2.2.2.2.2.2.2.2.2.2.1 k0_t4
theorem k0_off248_inb : ∀ (v96 : BitVec 32) (k0_hw2 : k0_chk2 v96) (k0_t4 : Fin (k0_t4_loop v96).trips), ∀ a, (k0_off248 v96 k0_t4) a + S1x128.size a ≤ S256x128.size a := fun v96 k0_hw2 k0_t4 => k0_hw2.2.2.2.2.2.2.2.1.2.2.2.2.2.2.2.2.2.2.2.2.2.2.2.2.2.2.2.2.2.2.1 k0_t4
theorem k0_off249_inb : ∀ (v96 : BitVec 32) (k0_hw2 : k0_chk2 v96) (k0_t4 : Fin (k0_t4_loop v96).trips), ∀ a, (k0_off249 v96 k0_t4) a + S1x128.size a ≤ S256x128.size a := fun v96 k0_hw2 k0_t4 => k0_hw2.2.2.2.2.2.2.2.1.2.2.2.2.2.2.2.2.2.2.2.2.2.2.2.2.2.2.2.2.2.2.2.1 k0_t4
theorem k0_off250_inb : ∀ (v96 : BitVec 32) (k0_hw2 : k0_chk2 v96) (k0_t4 : Fin (k0_t4_loop v96).trips), ∀ a, (k0_off250 v96 k0_t4) a + S1x128.size a ≤ S256x128.size a := fun v96 k0_hw2 k0_t4 => k0_hw2.2.2.2.2.2.2.2.1.2.2.2.2.2.2.2.2.2.2.2.2.2.2.2.2.2.2.2.2.2.2.2.2.1 k0_t4
theorem k0_off251_inb : ∀ (v96 : BitVec 32) (k0_hw2 : k0_chk2 v96) (k0_t4 : Fin (k0_t4_loop v96).trips), ∀ a, (k0_off251 v96 k0_t4) a + S1x128.size a ≤ S256x128.size a := fun v96 k0_hw2 k0_t4 => k0_hw2.2.2.2.2.2.2.2.1.2.2.2.2.2.2.2.2.2.2.2.2.2.2.2.2.2.2.2.2.2.2.2.2.2.1 k0_t4
theorem k0_off252_inb : ∀ (v96 : BitVec 32) (k0_hw2 : k0_chk2 v96) (k0_t4 : Fin (k0_t4_loop v96).trips), ∀ a, (k0_off252 v96 k0_t4) a + S1x128.size a ≤ S256x128.size a := fun v96 k0_hw2 k0_t4 => k0_hw2.2.2.2.2.2.2.2.1.2.2.2.2.2.2.2.2.2.2.2.2.2.2.2.2.2.2.2.2.2.2.2.2.2.2.1 k0_t4
theorem k0_off253_inb : ∀ (v96 : BitVec 32) (k0_hw2 : k0_chk2 v96) (k0_t4 : Fin (k0_t4_loop v96).trips), ∀ a, (k0_off253 v96 k0_t4) a + S1x128.size a ≤ S256x128.size a := fun v96 k0_hw2 k0_t4 => k0_hw2.2.2.2.2.2.2.2.1.2.2.2.2.2.2.2.2.2.2.2.2.2.2.2.2.2.2.2.2.2.2.2.2.2.2.2.1 k0_t4
theorem k0_off254_inb : ∀ (v96 : BitVec 32) (k0_hw2 : k0_chk2 v96) (k0_t4 : Fin (k0_t4_loop v96).trips), ∀ a, (k0_off254 v96 k0_t4) a + S1x128.size a ≤ S256x128.size a := fun v96 k0_hw2 k0_t4 => k0_hw2.2.2.2.2.2.2.2.1.2.2.2.2.2.2.2.2.2.2.2.2.2.2.2.2.2.2.2.2.2.2.2.2.2.2.2.2.1 k0_t4
theorem k0_off255_inb : ∀ (v96 : BitVec 32) (k0_hw2 : k0_chk2 v96) (k0_t4 : Fin (k0_t4_loop v96).trips), ∀ a, (k0_off255 v96 k0_t4) a + S1x128.size a ≤ S256x128.size a := fun v96 k0_hw2 k0_t4 => k0_hw2.2.2.2.2.2.2.2.1.2.2.2.2.2.2.2.2.2.2.2.2.2.2.2.2.2.2.2.2.2.2.2.2.2.2.2.2.2.1 k0_t4
theorem k0_off256_inb : ∀ (v96 : BitVec 32) (k0_hw2 : k0_chk2 v96) (k0_t4 : Fin (k0_t4_loop v96).trips), ∀ a, (k0_off256 v96 k0_t4) a + S1x128.size a ≤ S256x128.size a := fun v96 k0_hw2 k0_t4 => k0_hw2.2.2.2.2.2.2.2.1.2.2.2.2.2.2.2.2.2.2.2.2.2.2.2.2.2.2.2.2.2.2.2.2.2.2.2.2.2.2.1 k0_t4
theorem k0_off257_inb : ∀ (v96 : BitVec 32) (k0_hw2 : k0_chk2 v96) (k0_t4 : Fin (k0_t4_loop v96).trips), ∀ a, (k0_off257 v96 k0_t4) a + S1x128.size a ≤ S256x128.size a := fun v96 k0_hw2 k0_t4 => k0_hw2.2.2.2.2.2.2.2.1.2.2.2.2.2.2.2.2.2.2.2.2.2.2.2.2.2.2.2.2.2.2.2.2.2.2.2.2.2.2.2 k0_t4
theorem k0_off258_inb : ∀ (v96 : BitVec 32) (k0_hw2 : k0_chk2 v96) (k0_t4 : Fin (k0_t4_loop v96).trips), ∀ a, (k0_off258 v96 k0_t4) a + S1x128.size a ≤ S256x128.size a := fun v96 k0_hw2 k0_t4 => k0_hw2.2.2.2.2.2.2.2.2.1 k0_t4
theorem k0_off259_inb : ∀ (v96 : BitVec 32) (k0_hw2 : k0_chk2 v96) (k0_t4 : Fin (k0_t4_loop v96).trips), ∀ a, (k0_off259 v96 k0_t4) a + S1x128.size a ≤ S256x128.size a := fun v96 k0_hw2 k0_t4 => k0_hw2.2.2.2.2.2.2.2.2.2.1 k0_t4
theorem k0_off260_inb : ∀ (v96 : BitVec 32) (k0_hw2 : k0_chk2 v96) (k0_t4 : Fin (k0_t4_loop v96).trips), ∀ a, (k0_off260 v96 k0_t4) a + S1x128.size a ≤ S256x128.size a := fun v96 k0_hw2 k0_t4 => k0_hw2.2.2.2.2.2.2.2.2.2.2.1 k0_t4
theorem k0_off261_inb : ∀ (v96 : BitVec 32) (k0_hw2 : k0_chk2 v96) (k0_t4 : Fin (k0_t4_loop v96).trips), ∀ a, (k0_off261 v96 k0_t4) a + S1x128.size a ≤ S256x128.size a := fun v96 k0_hw2 k0_t4 => k0_hw2.2.2.2.2.2.2.2.2.2.2.2 k0_t4

def k0_chk258 (v2550 : IVec S16 32) : Prop :=
  (∀ a x, ((![v2550] : Fin 1 → IVec S16 32) a x).toNat < S512.size a) ∧
  (∀ a x, ((![v2550] : Fin 1 → IVec S16 32) a x).toNat < S512.size a)
theorem k0_idx512_inb : ∀ (v2550 : IVec S16 32) (k0_hw258 : k0_chk258 v2550), ∀ a x, ((![v2550] : Fin 1 → IVec S16 32) a x).toNat < S512.size a := fun v2550 k0_hw258 => k0_hw258.1
theorem k0_idx513_inb : ∀ (v2550 : IVec S16 32) (k0_hw258 : k0_chk258 v2550), ∀ a x, ((![v2550] : Fin 1 → IVec S16 32) a x).toNat < S512.size a := fun v2550 k0_hw258 => k0_hw258.2
def k0_off262 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v4 : BitVec 32 := Scalar.muli v1 c32_i32_2
  let c0_i32_0 : BitVec 32 := 0#32
  let c1_i32 : BitVec 32 := 1#32
  let arg15 : BitVec 32 := Scf.iv c0_i32_0 c1_i32 k0_t1
  let v5 : BitVec 32 := Scalar.addi v4 arg15
  let c0_i32_86_r2 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x800 : Shape := ⟨2, ![1024, 800]⟩
abbrev S1024x16 : Shape := ⟨2, ![1024, 16]⟩
abbrev S1024x102400 : Shape := ⟨2, ![1024, 102400]⟩
abbrev S1024x1 : Shape := ⟨2, ![1024, 1]⟩
abbrev S_ : Shape := ⟨0, ![]⟩
abbrev S1024x512 : Shape := ⟨2, ![1024, 512]⟩
abbrev S1024x512x1 : Shape := ⟨3, ![1024, 512, 1]⟩
abbrev S1 : Shape := ⟨1, ![1]⟩
abbrev S1x1x1 : Shape := ⟨3, ![1, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S1024x800, .f32⟩
  | .hbm, ⟨1, _⟩ => ⟨S1024x16, .f32⟩
  | .hbm, ⟨2, _⟩ => ⟨S1024x102400, .f32⟩
  | .hbm, ⟨3, _⟩ => ⟨S1024x102400, .i32⟩
  | .hbm, ⟨4, _⟩ => ⟨S1024x1, .f32⟩
  | .hbm, ⟨5, _⟩ => ⟨S1024x102400, .f32⟩
  | .hbm, ⟨6, _⟩ => ⟨S1024x102400, .i1⟩
  | .hbm, ⟨7, _⟩ => ⟨S_, .i32⟩
  | .hbm, ⟨8, _⟩ => ⟨S_, .i32⟩
  | .hbm, ⟨9, _⟩ => ⟨S1024x102400, .i32⟩
  | .hbm, ⟨10, _⟩ => ⟨S1024x102400, .i32⟩
  | .hbm, ⟨11, _⟩ => ⟨S1024x102400, .i32⟩
  | .hbm, ⟨12, _⟩ => ⟨S1024x512, .i32⟩
  | .hbm, ⟨13, _⟩ => ⟨S_, .i32⟩
  | .hbm, ⟨14, _⟩ => ⟨S1024x512, .i32⟩
  | .hbm, ⟨15, _⟩ => ⟨S1024x512, .i1⟩
  | .hbm, ⟨16, _⟩ => ⟨S_, .i32⟩
  | .hbm, ⟨17, _⟩ => ⟨S_, .i32⟩
  | .hbm, ⟨18, _⟩ => ⟨S1024x512, .i32⟩
  | .hbm, ⟨19, _⟩ => ⟨S1024x512, .i32⟩
  | .hbm, ⟨20, _⟩ => ⟨S_, .i32⟩
  | .hbm, ⟨21, _⟩ => ⟨S1024x512, .i32⟩
  | .hbm, ⟨22, _⟩ => ⟨S1024x512, .i1⟩
  | .hbm, ⟨23, _⟩ => ⟨S_, .i32⟩
  | .hbm, ⟨24, _⟩ => ⟨S1024x512, .i32⟩
  | .hbm, ⟨25, _⟩ => ⟨S1024x512, .i32⟩
  | .hbm, ⟨26, _⟩ => ⟨S1024x512, .i32⟩
  | .hbm, ⟨27, _⟩ => ⟨S1024x512x1, .i32⟩
  | .hbm, ⟨28, _⟩ => ⟨S1, .i32⟩
  | .hbm, ⟨29, _⟩ => ⟨S_, .i32⟩
  | .hbm, ⟨30, _⟩ => ⟨S1024x512x1, .i32⟩
  | .hbm, ⟨31, _⟩ => ⟨S1024x512x1, .i1⟩
  | .hbm, ⟨32, _⟩ => ⟨S1x1x1, .i32⟩
  | .hbm, ⟨33, _⟩ => ⟨S1024x512x1, .i32⟩
  | .hbm, ⟨34, _⟩ => ⟨S1024x512x1, .i1⟩
  | .hbm, ⟨35, _⟩ => ⟨S1024x512x1, .i1⟩
  | .hbm, ⟨36, _⟩ => ⟨S_, .i1⟩
  | .hbm, ⟨37, _⟩ => ⟨S1024x512, .i1⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | _, _ => ⟨S1024x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_call2_v1 : Ref sig .tc := ⟨.hbm, 18, rfl⟩
abbrev main_v9 : Ref sig .tc := ⟨.hbm, 19, rfl⟩
abbrev main_call3_c : Ref sig .tc := ⟨.hbm, 20, rfl⟩
abbrev main_call3_v0 : Ref sig .tc := ⟨.hbm, 21, rfl⟩
abbrev main_call3_v1 : Ref sig .tc := ⟨.hbm, 22, rfl⟩
abbrev main_call3_c_0 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_call3_v5 : Ref sig .tc := ⟨.hbm, 27, rfl⟩
abbrev main_call3_c_1 : Ref sig .tc := ⟨.hbm, 28, rfl⟩
abbrev main_call3_c_2 : Ref sig .tc := ⟨.hbm, 29, rfl⟩
abbrev main_call3_v6 : Ref sig .tc := ⟨.hbm, 30, rfl⟩
abbrev main_call3_v7 : Ref sig .tc := ⟨.hbm, 31, rfl⟩
abbrev main_call3_v8 : Ref sig .tc := ⟨.hbm, 32, rfl⟩
abbrev main_call3_v9 : Ref sig .tc := ⟨.hbm, 33, rfl⟩
abbrev main_call3_v10 : Ref sig .tc := ⟨.hbm, 34, rfl⟩
abbrev main_call3_v11 : Ref sig .tc := ⟨.hbm, 35, rfl⟩
abbrev main_call3_c_3 : Ref sig .tc := ⟨.hbm, 36, rfl⟩
abbrev main_call3_v12 : Ref sig .tc := ⟨.hbm, 37, rfl⟩
abbrev main_call3_v13 : Ref sig .tc := ⟨.hbm, 38, rfl⟩
abbrev main_call3_cst : Ref sig .tc := ⟨.hbm, 39, rfl⟩
abbrev main_call3_v14 : Ref sig .tc := ⟨.hbm, 40, rfl⟩
abbrev main_v10 : Ref sig .tc := ⟨.hbm, 41, rfl⟩
abbrev main_cst : Ref sig .tc := ⟨.hbm, 42, rfl⟩
abbrev main_call4_v0 : Ref sig .tc := ⟨.hbm, 43, rfl⟩
abbrev main_v11 : Ref sig .tc := ⟨.hbm, 44, rfl⟩

abbrev nD : Nat := 1
abbrev τ : Topo := Topo.v7x

variable {F : FTy → Type} [FloatOps F]
-- ==== Select.lean ====
abbrev S1024x512 : Shape := ⟨2, ![1024, 512]⟩
abbrev S1024x1 : Shape := ⟨2, ![1024, 1]⟩
abbrev S1024x100 : Shape := ⟨2, ![1024, 100]⟩
abbrev S1024x128 : Shape := ⟨2, ![1024, 128]⟩
abbrev S1024 : Shape := ⟨1, ![1024]⟩

abbrev nBuf : Space → Nat
  | .hbm => 11
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x1, .f32⟩
  | .hbm, ⟨2, _⟩ => ⟨S1024x1, .f32⟩
  | .hbm, ⟨3, _⟩ => ⟨S1024x512, .i32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x100, .i32⟩
  | .hbm, ⟨10, _⟩ => ⟨S1024x100, .f32⟩
  | .local _ .vmem, ⟨0, _⟩ => ⟨S1024x512, .f32⟩
  | .local _ .vmem, ⟨1, _⟩ => ⟨S1024x512, .i32⟩
  | .local _ .vmem, ⟨2, _⟩ => ⟨S1024x100, .i32⟩
  | .local _ .vmem, ⟨3, _⟩ => ⟨S1024x100, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_3 : BitVec 32 := 0#32
  let c100_i32 : BitVec 32 := 100#32
  let v6 : BitVec 32 := Scalar.addi c0_i32_3 c100_i32
  let c1_i32 : BitVec 32 := 1#32
  ⟨c0_i32_3, v6, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x100 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SelectReferenceIdeal.lean ====
abbrev S1024x512 : Shape := ⟨2, ![1024, 512]⟩
abbrev S1024x1 : Shape := ⟨2, ![1024, 1]⟩
abbrev S1024x100 : Shape := ⟨2, ![1024, 100]⟩
abbrev S_ : Shape := ⟨0, ![]⟩
abbrev S1024x100x1 : Shape := ⟨3, ![1024, 100, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1, .f32⟩
  | .hbm, ⟨2, _⟩ => ⟨S1024x1, .f32⟩
  | .hbm, ⟨3, _⟩ => ⟨S1024x512, .i32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .i32⟩
  | .hbm, ⟨11, _⟩ => ⟨S1024x512, .f32⟩
  | .hbm, ⟨12, _⟩ => ⟨S1024x512, .i32⟩
  | .hbm, ⟨13, _⟩ => ⟨S1024x100, .i32⟩
  | .hbm, ⟨14, _⟩ => ⟨S_, .i32⟩
  | .hbm, ⟨15, _⟩ => ⟨S1024x100, .i32⟩
  | .hbm, ⟨16, _⟩ => ⟨S1024x100, .i1⟩
  | .hbm, ⟨17, _⟩ => ⟨S_, .i32⟩
  | .hbm, ⟨18, _⟩ => ⟨S1024x100, .i32⟩
  | .hbm, ⟨19, _⟩ => ⟨S1024x100, .i32⟩
  | .hbm, ⟨20, _⟩ => ⟨S1024x100, .i32⟩
  | .hbm, ⟨21, _⟩ => ⟨S1024x100x1, .i32⟩
  | .hbm, ⟨22, _⟩ => ⟨S1, .i32⟩
  | .hbm, ⟨23, _⟩ => ⟨S_, .i32⟩
  | .hbm, ⟨24, _⟩ => ⟨S1024x100x1, .i32⟩
  | .hbm, ⟨25, _⟩ => ⟨S1024x100x1, .i1⟩
  | .hbm, ⟨26, _⟩ => ⟨S1x1x1, .i32⟩
  | .hbm, ⟨27, _⟩ => ⟨S1024x100x1, .i32⟩
  | .hbm, ⟨28, _⟩ => ⟨S1024x100x1, .i1⟩
  | .hbm, ⟨29, _⟩ => ⟨S1024x100x1, .i1⟩
  | .hbm, ⟨30, _⟩ => ⟨S_, .i1⟩
  | .hbm, ⟨31, _⟩ => ⟨S1024x100, .i1⟩
  | .hbm, ⟨32, _⟩ => ⟨S1024x100, .i32⟩
  | .hbm, ⟨33, _⟩ => ⟨S_, .i32⟩
  | .hbm, ⟨34, _⟩ => ⟨S1024x100, .i32⟩
  | .hbm, ⟨35, _⟩ => ⟨S1024x100, .i32⟩
  | .hbm, ⟨36, _⟩ => ⟨S_, .i32⟩
  | .hbm, ⟨37, _⟩ => ⟨S1024x100, .i32⟩
  | .hbm, ⟨38, _⟩ => ⟨S1024x100, .i1⟩
  | .hbm, ⟨39, _⟩ => ⟨S_, .i32⟩
  | .hbm, ⟨40, _⟩ => ⟨S1024x100, .i32⟩
  | .hbm, ⟨41, _⟩ => ⟨S1024x100, .i32⟩
  | .hbm, ⟨42, _⟩ => ⟨S1024x100, .i32⟩
  | .hbm, ⟨43, _⟩ => ⟨S1024x100x1, .i32⟩
  | .hbm, ⟨44, _⟩ => ⟨S1, .i32⟩
  | .hbm, ⟨45, _⟩ => ⟨S_, .i32⟩
  | .hbm, ⟨46, _⟩ => ⟨S1024x100x1, .i32⟩
  | .hbm, ⟨47, _⟩ => ⟨S1024x100x1, .i1⟩
  | .hbm, ⟨48, _⟩ => ⟨S1x1x1, .i32⟩
  | .hbm, ⟨49, _⟩ => ⟨S1024x100x1, .i32⟩
  | .hbm, ⟨50, _⟩ => ⟨S1024x100x1, .i1⟩
  | .hbm, ⟨51, _⟩ => ⟨S1024x100x1, .i1⟩
  | .hbm, ⟨52, _⟩ => ⟨S_, .i1⟩
  | .hbm, ⟨53, _⟩ => ⟨S1024x100, .i1⟩
  | .hbm, ⟨54, _⟩ => ⟨S1024x100, .f32⟩
  | .hbm, ⟨55, _⟩ => ⟨S_, .f32⟩
  | .hbm, ⟨56, _⟩ => ⟨S1024x100, .f32⟩
  | .hbm, ⟨57, _⟩ => ⟨S1024x100, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1_0 : Ref sig .tc := ⟨.hbm, 11, rfl⟩
abbrev main_v6 : Ref sig .tc := ⟨.hbm, 12, rfl⟩
abbrev main_v7 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_c_4 : Ref sig .tc := ⟨.hbm, 33, rfl⟩
abbrev main_call1_v14 : Ref sig .tc := ⟨.hbm, 34, rfl⟩
abbrev main_v8 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v9 : Ref sig .tc := ⟨.hbm, 57, rfl⟩

abbrev nD : Nat := 1
abbrev τ : Topo := Topo.v7x

variable {F : FTy → Type} [FloatOps F]
-- ==== Scores.lean ====
abbrev S1024x64 : Shape := ⟨2, ![1024, 64]⟩
abbrev S64x100000 : Shape := ⟨2, ![64, 100000]⟩
abbrev S100000 : Shape := ⟨1, ![100000]⟩
abbrev S_ : Shape := ⟨0, ![]⟩
abbrev S64x102400 : Shape := ⟨2, ![64, 102400]⟩
abbrev S102400 : Shape := ⟨1, ![102400]⟩
abbrev S1x102400 : Shape := ⟨2, ![1, 102400]⟩
abbrev S1024x102400 : Shape := ⟨2, ![1024, 102400]⟩
abbrev S64x2048 : Shape := ⟨2, ![64, 2048]⟩
abbrev S1x2048 : Shape := ⟨2, ![1, 2048]⟩
abbrev S1024x2048 : Shape := ⟨2, ![1024, 2048]⟩

abbrev nBuf : Space → Nat
  | .hbm => 11
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S64x100000, .f32⟩
  | .hbm, ⟨2, _⟩ => ⟨S100000, .f32⟩
  | .hbm, ⟨3, _⟩ => ⟨S_, .i32⟩
  | .hbm, ⟨4, _⟩ => ⟨S_, .f32⟩
  | .hbm, ⟨5, _⟩ => ⟨S64x102400, .f32⟩
  | .hbm, ⟨6, _⟩ => ⟨S_, .f32⟩
  | .hbm, ⟨7, _⟩ => ⟨S_, .f32⟩
  | .hbm, ⟨8, _⟩ => ⟨S102400, .f32⟩
  | .hbm, ⟨9, _⟩ => ⟨S1x102400, .f32⟩
  | .hbm, ⟨10, _⟩ => ⟨S1024x102400, .f32⟩
  | .local _ .vmem, ⟨0, _⟩ => ⟨S1024x64, .f32⟩
  | .local _ .vmem, ⟨1, _⟩ => ⟨S64x2048, .f32⟩
  | .local _ .vmem, ⟨2, _⟩ => ⟨S64x2048, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScoresReferenceIdeal.lean ====
abbrev S1024x64 : Shape := ⟨2, ![1024, 64]⟩
abbrev S64x100000 : Shape := ⟨2, ![64, 100000]⟩
abbrev S100000 : Shape := ⟨1, ![100000]⟩
abbrev S1024x100000 : Shape := ⟨2, ![1024, 100000]⟩
abbrev S1x100000 : Shape := ⟨2, ![1, 100000]⟩
abbrev S_ : Shape := ⟨0, ![]⟩
abbrev S1024x102400 : Shape := ⟨2, ![1024, 102400]⟩

abbrev nBuf : Space → Nat
  | .hbm => 10
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S64x100000, .f32⟩
  | .hbm, ⟨2, _⟩ => ⟨S100000, .f32⟩
  | .hbm, ⟨3, _⟩ => ⟨S1024x100000, .f32⟩
  | .hbm, ⟨4, _⟩ => ⟨S1x100000, .f32⟩
  | .hbm, ⟨5, _⟩ => ⟨S1024x100000, .f32⟩
  | .hbm, ⟨6, _⟩ => ⟨S1024x100000, .f32⟩
  | .hbm, ⟨7, _⟩ => ⟨S_, .f32⟩
  | .hbm, ⟨8, _⟩ => ⟨S_, .f32⟩
  | .hbm, ⟨9, _⟩ => ⟨S1024x102400, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Stats.lean ====
abbrev S1024x102400 : Shape := ⟨2, ![1024, 102400]⟩
abbrev S1024x1 : Shape := ⟨2, ![1024, 1]⟩
abbrev S1024x800 : Shape := ⟨2, ![1024, 800]⟩
abbrev S1024x16 : Shape := ⟨2, ![1024, 16]⟩
abbrev S8x102400 : Shape := ⟨2, ![8, 102400]⟩
abbrev S8x1 : Shape := ⟨2, ![8, 1]⟩
abbrev S8x800 : Shape := ⟨2, ![8, 800]⟩
abbrev S8x16 : Shape := ⟨2, ![8, 16]⟩
abbrev S8 : Shape := ⟨1, ![8]⟩
abbrev S8x800x128 : Shape := ⟨3, ![8, 800, 128]⟩
abbrev S8x128 : Shape := ⟨2, ![8, 128]⟩

abbrev nBuf : Space → Nat
  | .hbm => 5
  | .vmem => 10
  | .smem => 0
  | _ => 0

abbrev bufTy : (tb : Table) → Fin (tcTables nBuf tb) → BufTy
  | .hbm, ⟨0, _⟩ => ⟨S1024x102400, .f32⟩
  | .hbm, ⟨1, _⟩ => ⟨S1024x1, .f32⟩
  | .hbm, ⟨2, _⟩ => ⟨S1024x1, .f32⟩
  | .hbm, ⟨3, _⟩ => ⟨S1024x800, .f32⟩
  | .hbm, ⟨4, _⟩ => ⟨S1024x16, .f32⟩
  | .local _ .vmem, ⟨0, _⟩ => ⟨S8x102400, .f32⟩
  | .local _ .vmem, ⟨1, _⟩ => ⟨S8x102400, .f32⟩
  | .local _ .vmem, ⟨2, _⟩ => ⟨S8x1, .f32⟩
  | .local _ .vmem, ⟨3, _⟩ => ⟨S8x1, .f32⟩
  | .local _ .vmem, ⟨4, _⟩ => ⟨S8x1, .f32⟩
  | .local _ .vmem, ⟨5, _⟩ => ⟨S8x1, .f32⟩
  | .local _ .vmem, ⟨6, _⟩ => ⟨S8x800, .f32⟩
  | .local _ .vmem, ⟨7, _⟩ => ⟨S8x800, .f32⟩
  | .local _ .vmem, ⟨8, _⟩ => ⟨S8x16, .f32⟩
  | .local _ .vmem, ⟨9, _⟩ => ⟨S8x16, .f32⟩
  | _, _ => ⟨S1024x102400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![128], ![false]⟩

@[reducible] def k0_t1_loop : Scf.Loop 32 :=
  let c0_i32_7 : BitVec 32 := 0#32
  let c31_i32 : BitVec 32 := 31#32
  let v28 : BitVec 32 := Scalar.addi c0_i32_7 c31_i32
  let c1_i32 : BitVec 32 := 1#32
  ⟨c0_i32_7, v28, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x102400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StatsReference.lean ====
abbrev S1024x102400 : Shape := ⟨2, ![1024, 102400]⟩
abbrev S_ : Shape := ⟨0, ![]⟩
abbrev S1024 : Shape := ⟨1, ![1024]⟩
abbrev S1024x1 : Shape := ⟨2, ![1024, 1]⟩
abbrev S1024x800x128 : Shape := ⟨3, ![1024, 800, 128]⟩
abbrev S1024x800 : Shape := ⟨2, ![1024, 800]⟩
abbrev S1024x16 : Shape := ⟨2, ![1024, 16]⟩

abbrev nBuf : Space → Nat
  | .hbm => 29
  | .vmem => 0
  | .smem => 0
  | _ => 0

abbrev bufTy : (tb : Table) → Fin (tcTables nBuf tb) → BufTy
  | .hbm, ⟨0, _⟩ => ⟨S1024x102400, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x800x128, .f32⟩
  | .hbm, ⟨5, _⟩ => ⟨S_, .f32⟩
  | .hbm, ⟨6, _⟩ => ⟨S1024x800, .f32⟩
  | .hbm, ⟨7, _⟩ => ⟨S1024x800, .i32⟩
  | .hbm, ⟨8, _⟩ => ⟨S_, .i32⟩
  | .hbm, ⟨9, _⟩ => ⟨S1024x800, .i32⟩
  | .hbm, ⟨10, _⟩ => ⟨S1024x800, .i1⟩
  | .hbm, ⟨11, _⟩ => ⟨S_, .i32⟩
  | .hbm, ⟨12, _⟩ => ⟨S1024x800, .i32⟩
  | .hbm, ⟨13, _⟩ => ⟨S1024x800, .i32⟩
  | .hbm, ⟨14, _⟩ => ⟨S1024x800, .i32⟩
  | .hbm, ⟨15, _⟩ => ⟨S1024x800, .i32⟩
  | .hbm, ⟨16, _⟩ => ⟨S1024x1, .i32⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S_, .i32⟩
  | .hbm, ⟨21, _⟩ => ⟨S1024x1, .i32⟩
  | .hbm, ⟨22, _⟩ => ⟨S1024x1, .i1⟩
  | .hbm, ⟨23, _⟩ => ⟨S_, .i32⟩
  | .hbm, ⟨24, _⟩ => ⟨S1024x1, .i32⟩
  | .hbm, ⟨25, _⟩ => ⟨S1024x1, .i32⟩
  | .hbm, ⟨26, _⟩ => ⟨S1024x1, .i32⟩
  | .hbm, ⟨27, _⟩ => ⟨S1024x1, .f32⟩
  | .hbm, ⟨28, _⟩ => ⟨S1024x16, .f32⟩
  | _, _ => ⟨S1024x102400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [BitOps F]
-- ==== Proof.State.lean ====
/-
  Appending the marked lanes of sixteen to a list: the running sum of the marks as a count, the store at the counted
  places, and the state of the list after so many candidates.
-/
module

public import Idealize.ShloMosaic.PureOps
public import Mathlib.Data.Fintype.Card
public import Mathlib.Data.Fin.Basic

@[expose] public section

noncomputable section

namespace Cert.Append

open Idealize.ShloMosaic

/-- Lane `k` of sixteen. -/
abbrev lane (k : Fin 16) : (⟨1, ![16]⟩ : Shape).Idx := Shape.ofLane (d := ![16]) k

theorem lane_zero (k : Fin 16) : ((lane k) 0).val = k.val := rfl

theorem eq_lane (x : (⟨1, ![16]⟩ : Shape).Idx) : x = lane (x 0) := by
  funext a
  obtain rfl : a = 0 := Subsingleton.elim _ _
  rfl

/-- How many of the first `k` lanes are marked. -/
def cnt (msk : IVec ⟨1, ![16]⟩ 1) : Nat → Nat
  | 0 => 0
  | k + 1 => cnt msk k + (if h : k < 16 then (if msk (lane ⟨k, h⟩) = 1#1 then 1 else 0) else 0)

theorem cnt_succ (msk : IVec ⟨1, ![16]⟩ 1) (k : Fin 16) : cnt msk (k.val + 1) = cnt msk k.val + (if msk (lane k) = 1#1 then 1 else 0) := by
  rw [cnt, dif_pos k.isLt]

theorem cnt_le (msk : IVec ⟨1, ![16]⟩ 1) (k : Nat) : cnt msk k ≤ k := by
  induction k with
  | zero => simp [cnt]
  | succ k ih => rw [cnt]; split_ifs <;> omega

theorem cnt_mono (msk : IVec ⟨1, ![16]⟩ 1) {j k : Nat} (h : j ≤ k) : cnt msk j ≤ cnt msk k := by
  induction h with
  | refl => exact le_rfl
  | step _ ih => exact ih.trans (by rw [cnt]; omega)

theorem cnt_lt (msk : IVec ⟨1, ![16]⟩ 1) (j : Fin 16) {k : Nat} (h : j.val < k) (hj : msk (lane j) = 1#1) : cnt msk j.val < cnt msk k := by
  have := cnt_mono msk (show j.val + 1 ≤ k from h)
  rw [cnt_succ, if_pos hj] at this
  omega

theorem bit_toNat (b : BitVec 1) : (b.setWidth 32).toNat = if b = 1#1 then 1 else 0 := by
  revert b; decide

theorem lanes_succ : ∀ k : Fin 15, (List.finRange 16).filter (fun i : Fin 16 => decide (0 < i.val ∧ i.val ≤ k.val + 1))
    = (List.finRange 16).filter (fun i : Fin 16 => decide (0 < i.val ∧ i.val ≤ k.val)) ++ [k.succ] := by decide

theorem lanes_zero : (List.finRange 16).filter (fun i : Fin 16 => decide (0 < i.val ∧ i.val ≤ 0)) = [] := by decide

/-- The running sum of the marks counts them. -/
theorem scan_toNat (msk : IVec ⟨1, ![16]⟩ 1) (hw : 1 < 32) : ∀ (k : Nat) (h : k < 16),
    (scan .sum (extui 32 msk hw) (lane ⟨k, h⟩)).toNat = cnt msk (k + 1)
  | 0, h => by
    have e : scan .sum (extui 32 msk hw) (lane ⟨0, h⟩)
      = ((List.finRange 16).filter (fun i : Fin 16 => decide (0 < i.val ∧ i.val ≤ 0))).foldl
        (fun r i => IntOp.addi r (extui 32 msk hw (lane i))) (extui 32 msk hw (lane 0)) := rfl
    rw [e, lanes_zero, List.foldl_nil, show (0 : Nat) + 1 = (0 : Fin 16).val + 1 from rfl, cnt_succ]
    show ((msk (lane 0)).setWidth 32).toNat = _
    rw [bit_toNat]; simp [cnt]
  | k + 1, h => by
    have ih := scan_toNat msk hw k (by omega)
    have e : scan .sum (extui 32 msk hw) (lane ⟨k + 1, h⟩)
      = ((List.finRange 16).filter (fun i : Fin 16 => decide (0 < i.val ∧ i.val ≤ k + 1))).foldl
        (fun r i => IntOp.addi r (extui 32 msk hw (lane i))) (extui 32 msk hw (lane 0)) := rfl
    have e' : scan .sum (extui 32 msk hw) (lane ⟨k, by omega⟩)
      = ((List.finRange 16).filter (fun i : Fin 16 => decide (0 < i.val ∧ i.val ≤ k))).foldl
        (fun r i => IntOp.addi r (extui 32 msk hw (lane i))) (extui 32 msk hw (lane 0)) := rfl
    rw [e' ] at ih
    rw [e, lanes_succ ⟨k, by omega⟩, List.foldl_append, List.foldl_cons, List.foldl_nil]
    show (_ + (msk (lane ⟨k + 1, h⟩)).setWidth 32).toNat = _
    rw [BitVec.toNat_add, ih, bit_toNat, show k + 1 + 1 = (⟨k + 1, h⟩ : Fin 16).val + 1 from rfl, cnt_succ]
    have := cnt_le msk (k + 1)
    apply Nat.mod_eq_of_lt
    split_ifs <;> omega

/-- Where the marked lanes go: after the first `n` (or the capacity), in lane order. -/
theorem pos_toNat (msk : IVec ⟨1, ![16]⟩ 1) (hw : 1 < 32) (n c : Nat) (hn : n < 2 ^ 31) (hc : c < 2 ^ 30) (x : (⟨1, ![16]⟩ : Shape).Idx) :
    (addi (minsi (broadcast ⟨1, ![16]⟩ (BitVec.ofNat 32 n)) (broadcast ⟨1, ![16]⟩ (BitVec.ofNat 32 c)))
      (subi (scan .sum (extui 32 msk hw)) (extui 32 msk hw)) x).toNat = min n c + cnt msk (x 0).val := by
  have hs := scan_toNat msk hw (x 0).val (x 0).isLt
  have hx : x = lane ⟨(x 0).val, (x 0).isLt⟩ := eq_lane x
  rw [← hx] at hs
  have hb : (extui 32 msk hw x).toNat = if msk x = 1#1 then 1 else 0 := bit_toNat _
  have hc1 : cnt msk ((x 0).val + 1) = cnt msk (x 0).val + (if msk x = 1#1 then 1 else 0) := by
    have := cnt_succ msk ⟨(x 0).val, (x 0).isLt⟩
    rw [← hx] at this; exact this
  have hle := cnt_le msk (x 0).val
  have hx16 : (x 0).val < 16 := (x 0).isLt
  have hmin : (IntOp.minsi (BitVec.ofNat 32 n) (BitVec.ofNat 32 c)).toNat = min n c := by
    unfold IntOp.minsi
    have h1 : (BitVec.ofNat 32 n).toInt = n := by
      rw [BitVec.toInt_eq_toNat_of_lt] <;> rw [BitVec.toNat_ofNat, Nat.mod_eq_of_lt (by omega)]; omega
    have h2 : (BitVec.ofNat 32 c).toInt = c := by
      rw [BitVec.toInt_eq_toNat_of_lt] <;> rw [BitVec.toNat_ofNat, Nat.mod_eq_of_lt (by omega)]; omega
    simp only [BitVec.slt, BitVec.sle, h1, h2]
    split_ifs with h <;> rw [BitVec.toNat_ofNat, Nat.mod_eq_of_lt (by omega)] <;> simp at h <;> omega
  show (IntOp.minsi (BitVec.ofNat 32 n) (BitVec.ofNat 32 c) + (scan .sum (extui 32 msk hw) x - extui 32 msk hw x)).toNat = _
  rw [BitVec.toNat_add, BitVec.toNat_sub, hmin, hs, hb, hc1]
  split_ifs <;> omega

/-- The count after sixteen lanes. -/
theorem off_step (msk : IVec ⟨1, ![16]⟩ 1) (hw : 1 < 32) (n : Nat)
    (hsl : (⟨1, ![16]⟩ : Shape).Slices ![15] ⟨1, ![1]⟩) (hp : ∀ a, (![0] : Fin 1 → Nat) a < (⟨1, ![1]⟩ : Shape).size a) :
    addi (broadcast ⟨1, ![16]⟩ (BitVec.ofNat 32 n))
        (broadcast ⟨1, ![16]⟩ (extractAt ![0] (extractStridedSlice ⟨1, ![1]⟩ ![15] (scan .sum (extui 32 msk hw)) hsl) hp))
      = broadcast ⟨1, ![16]⟩ (BitVec.ofNat 32 (n + cnt msk 16)) := by
  have hs := scan_toNat msk hw 15 (by omega)
  generalize scan .sum (extui 32 msk hw) = S at hs ⊢
  have e : extractAt ![0] (extractStridedSlice ⟨1, ![1]⟩ ![15] S hsl) hp = S (lane ⟨15, by omega⟩) :=
    congrArg S (funext fun a => Fin.ext (by obtain rfl : a = 0 := Subsingleton.elim _ _; rfl))
  rw [e]
  funext x
  show BitVec.ofNat 32 n + S (lane ⟨15, by omega⟩) = BitVec.ofNat 32 (n + cnt msk 16)
  apply BitVec.eq_of_toNat_eq
  rw [BitVec.toNat_add, hs, BitVec.toNat_ofNat, BitVec.toNat_ofNat, Nat.mod_add_mod]

section Store

variable {F : FTy → Type} [FloatOps F] {e : EltTy} {cap : Nat}

/-- The store at the marked lanes' places, lane by lane. -/
def stores (pos : Fin 16 → Nat) (v : Vec F ⟨1, ![16]⟩ e) (msk : IVec ⟨1, ![16]⟩ 1) (l : List (Fin 16)) (f : Vec F ⟨1, ![cap]⟩ e) : Vec F ⟨1, ![cap]⟩ e :=
  l.foldl (fun g k => if msk (lane k) = 1 then fun j => if (j 0).val = pos k then v (lane k) else g j else g) f

theorem storeIdx_eq (f : Vec F ⟨1, ![cap]⟩ e) (pos : IVec ⟨1, ![16]⟩ 32) (v : Vec F ⟨1, ![16]⟩ e) (msk : IVec ⟨1, ![16]⟩ 1)
    (h : ∀ a x, ((![pos] : Fin 1 → IVec ⟨1, ![16]⟩ 32) a x).toNat < (⟨1, ![cap]⟩ : Shape).size a) :
    storeIdx f ![pos] v msk false h = stores (fun k => (pos (lane k)).toNat) v msk (List.finRange 16) f := by
  unfold storeIdx stores
  congr 1
  funext g k
  by_cases hm : msk (lane k) = 1
  · simp only [hm, if_true]
    funext j
    have : (∀ a, (j a).val = (idxAt (![pos]) h (Shape.ofLane k) a).val) ↔ (j 0).val = (pos (lane k)).toNat := by
      constructor
      · intro H; exact H 0
      · intro H a
        obtain rfl : a = 0 := Subsingleton.elim _ _
        exact H
    by_cases hj : (j 0).val = (pos (lane k)).toNat
    · rw [if_pos hj]; exact if_pos (this.mpr hj)
    · rw [if_neg hj]; exact if_neg (fun H => hj (this.mp H))
  · simp only [hm, if_false]

theorem stores_miss (pos : Fin 16 → Nat) (v : Vec F ⟨1, ![16]⟩ e) (msk : IVec ⟨1, ![16]⟩ 1) (j : (⟨1, ![cap]⟩ : Shape).Idx) :
    ∀ (l : List (Fin 16)) (f : Vec F ⟨1, ![cap]⟩ e), (∀ k ∈ l, msk (lane k) = 1 → (j 0).val ≠ pos k) → stores pos v msk l f j = f j
  | [], f, _ => rfl
  | k :: l, f, h => by
    unfold stores
    rw [List.foldl_cons]
    refine (stores_miss pos v msk j l _ fun k' hk' => h k' (List.mem_cons_of_mem _ hk')).trans ?_
    by_cases hm : msk (lane k) = 1
    · rw [if_pos hm, if_neg (h k (List.mem_cons_self ..) hm)]
    · rw [if_neg hm]

theorem stores_hit (pos : Fin 16 → Nat) (v : Vec F ⟨1, ![16]⟩ e) (msk : IVec ⟨1, ![16]⟩ 1) (j : (⟨1, ![cap]⟩ : Shape).Idx) (k : Fin 16)
    (hk : msk (lane k) = 1) (hj : (j 0).val = pos k) (hu : ∀ k', msk (lane k') = 1 → (j 0).val = pos k' → k' = k) :
    ∀ (l : List (Fin 16)) (f : Vec F ⟨1, ![cap]⟩ e), k ∈ l → stores pos v msk l f j = v (lane k)
  | [], f, h => absurd h List.not_mem_nil
  | a :: l, f, h => by
    by_cases hl : k ∈ l
    · unfold stores
      rw [List.foldl_cons]
      exact stores_hit pos v msk j k hk hj hu l _ hl
    · obtain rfl : k = a := (List.mem_cons.mp h).resolve_right hl
      unfold stores
      rw [List.foldl_cons]
      refine (stores_miss pos v msk j l _ fun k' hk' hm he => hl (hu k' hm he ▸ hk')).trans ?_
      rw [if_pos hk, if_pos hj]

theorem stores_or (pos : Fin 16 → Nat) (v : Vec F ⟨1, ![16]⟩ e) (msk : IVec ⟨1, ![16]⟩ 1) (j : (⟨1, ![cap]⟩ : Shape).Idx) :
    ∀ (l : List (Fin 16)) (f : Vec F ⟨1, ![cap]⟩ e), stores pos v msk l f j = f j ∨ ∃ k, msk (lane k) = 1 ∧ stores pos v msk l f j = v (lane k)
  | [], f => .inl rfl
  | a :: l, f => by
    unfold stores
    rw [List.foldl_cons]
    rcases stores_or pos v msk j l (if msk (lane a) = 1 then fun j => if (j 0).val = pos a then v (lane a) else f j else f) with h | ⟨k, hm, h⟩
    · unfold stores at h
      rw [h]
      by_cases hm : msk (lane a) = 1
      · rw [if_pos hm]
        by_cases hj : (j 0).val = pos a
        · rw [if_pos hj]; exact .inr ⟨a, hm, rfl⟩
        · rw [if_neg hj]; exact .inl rfl
      · rw [if_neg hm]; exact .inl rfl
    · exact .inr ⟨k, hm, h⟩

end Store

/-- How many of the first `p` candidates are kept. -/
def rk (live : Nat → Bool) : Nat → Nat
  | 0 => 0
  | p + 1 => rk live p + (if live p = true then 1 else 0)

theorem rk_le (live : Nat → Bool) (p : Nat) : rk live p ≤ p := by
  induction p with
  | zero => simp [rk]
  | succ p ih => rw [rk]; split_ifs <;> omega

theorem rk_mono (live : Nat → Bool) {p q : Nat} (h : p ≤ q) : rk live p ≤ rk live q := by
  induction h with
  | refl => exact le_rfl
  | step _ ih => exact ih.trans (by rw [rk]; omega)

theorem rk_lt (live : Nat → Bool) {p q : Nat} (h : p < q) (hp : live p = true) : rk live p < rk live q := by
  have := rk_mono live (show p + 1 ≤ q from h)
  rw [rk, if_pos hp] at this; omega

/-- The marks of sixteen candidates from `p` on count them. -/
theorem rk_add (live : Nat → Bool) (p : Nat) (msk : IVec ⟨1, ![16]⟩ 1) (h : ∀ k : Fin 16, msk (lane k) = 1#1 ↔ live (p + k.val) = true) :
    ∀ k : Nat, k ≤ 16 → rk live (p + k) = rk live p + cnt msk k
  | 0, _ => by simp [cnt]
  | k + 1, hk => by
    have ih := rk_add live p msk h k (by omega)
    have hc := cnt_succ msk ⟨k, by omega⟩
    simp only at hc
    rw [show p + (k + 1) = (p + k) + 1 from rfl, rk, ih, hc, if_congr (h ⟨k, by omega⟩) rfl rfl]
    exact Nat.add_assoc ..

section Inv

variable {F : FTy → Type} [FloatOps F] {e : EltTy} {cap : Nat}

/-- The list after the first `p` candidates: the kept ones in order and the fill after them, as long as the list is
    not within sixteen of full; in any case each entry is the fill or one of the candidates. -/
structure Inv (live : Nat → Bool) (item : Nat → Elt F e) (init : Elt F e) (p : Nat) (f : Vec F ⟨1, ![cap]⟩ e) : Prop where
  rest : rk live p + 16 ≤ cap → ∀ j : (⟨1, ![cap]⟩ : Shape).Idx, rk live p ≤ (j 0).val → f j = init
  kept : rk live p + 16 ≤ cap → ∀ j : (⟨1, ![cap]⟩ : Shape).Idx, ∀ q < p, live q = true → rk live q = (j 0).val → f j = item q
  any : ∀ j : (⟨1, ![cap]⟩ : Shape).Idx, f j = init ∨ ∃ q < p, f j = item q

theorem Inv.zero (live : Nat → Bool) (item : Nat → Elt F e) (init : Elt F e) (f : Vec F ⟨1, ![cap]⟩ e) (h : ∀ j, f j = init) :
    Inv live item init 0 f :=
  ⟨fun _ j _ => h j, fun _ _ q hq => absurd hq (Nat.not_lt_zero q), fun j => .inl (h j)⟩

theorem Inv.step {live : Nat → Bool} {item : Nat → Elt F e} {init : Elt F e} {p : Nat} {f : Vec F ⟨1, ![cap]⟩ e} (I : Inv live item init p f)
    (pos : IVec ⟨1, ![16]⟩ 32) (v : Vec F ⟨1, ![16]⟩ e) (msk : IVec ⟨1, ![16]⟩ 1)
    (h : ∀ a x, ((![pos] : Fin 1 → IVec ⟨1, ![16]⟩ 32) a x).toNat < (⟨1, ![cap]⟩ : Shape).size a)
    (hl : ∀ k : Fin 16, msk (lane k) = 1#1 ↔ live (p + k.val) = true)
    (hv : ∀ k : Fin 16, v (lane k) = item (p + k.val))
    (hpos : rk live p + 16 ≤ cap → ∀ k : Fin 16, (pos (lane k)).toNat = rk live p + cnt msk k.val) :
    Inv live item init (p + 16) (storeIdx f ![pos] v msk false h) := by
  have hrk := rk_add live p msk hl
  have hmono : rk live p ≤ rk live (p + 16) := rk_mono live (by omega)
  rw [storeIdx_eq]
  refine ⟨fun hc j hj => ?_, fun hc j q hq hlq hjq => ?_, fun j => ?_⟩
  · have hp := hpos (by omega)
    rw [stores_miss _ _ _ _ _ _ fun k _ hm => ?_]
    · exact I.rest (by omega) j (by omega)
    · rw [hp k]
      have := cnt_lt msk k k.isLt hm
      have := hrk 16 le_rfl
      omega
  · have hp := hpos (by omega)
    by_cases hqp : q < p
    · rw [stores_miss _ _ _ _ _ _ fun k _ hm => ?_]
      · exact I.kept (by omega) j q hqp hlq hjq
      · rw [hp k]
        have := rk_lt live hqp hlq
        omega
    · obtain ⟨k, rfl⟩ : ∃ k, q = p + k := ⟨q - p, by omega⟩
      have hk : k < 16 := by omega
      have hm : msk (lane ⟨k, hk⟩) = 1#1 := (hl ⟨k, hk⟩).mpr hlq
      have e1 := hrk k (by omega)
      rw [stores_hit _ _ _ _ (⟨k, hk⟩ : Fin 16) hm (by rw [hp]; simp only; omega) ?_ _ _ (List.mem_finRange _)]
      · exact hv ⟨k, hk⟩
      · intro k' hm' he
        rw [hp] at he
        rcases Nat.lt_trichotomy k'.val k with h1 | h1 | h1
        · have := cnt_lt msk k' h1 hm'; omega
        · exact Fin.ext h1
        · have := cnt_lt msk ⟨k, hk⟩ h1 hm; simp only at this; omega
  · rcases stores_or (fun k => (pos (lane k)).toNat) v msk j (List.finRange 16) f with h1 | ⟨k, hm, h1⟩
    · rw [h1]
      rcases I.any j with h2 | ⟨q, hq, h2⟩
      · exact .inl h2
      · exact .inr ⟨q, by omega, h2⟩
    · exact .inr ⟨p + k.val, by omega, h1.trans (hv k)⟩

end Inv

end Cert.Append

end
-- ==== Proof.Rows.lean ====
/-
  Rows and windows of two-axis arrays by their coordinates: what a squeezed row names, and the reading of it.
-/
module

public import Idealize.ShloMosaic.PureOps

@[expose] public section

noncomputable section

namespace Cert.Rows

open Idealize.ShloMosaic

/-- The entry at row `i`, column `j`. -/
def at2 {a b : Nat} (i : Fin a) (j : Fin b) : (⟨2, ![a, b]⟩ : Shape).Idx := fun
  | 0 => i
  | 1 => j

/-- Entry `i` of a one-axis array. -/
def at1 {a : Nat} (i : Fin a) : (⟨1, ![a]⟩ : Shape).Idx := fun
  | 0 => i

theorem eq_at2 {a b : Nat} (x : (⟨2, ![a, b]⟩ : Shape).Idx) {i j : Nat} (hi : i < a) (hj : j < b) (h0 : (x 0).val = i) (h1 : (x 1).val = j) :
    x = at2 ⟨i, hi⟩ ⟨j, hj⟩ := by
  funext k
  match k with
  | 0 => exact Fin.ext h0
  | 1 => exact Fin.ext h1

theorem eq_at1 {a : Nat} (x : (⟨1, ![a]⟩ : Shape).Idx) {i : Nat} (hi : i < a) (h0 : (x 0).val = i) : x = at1 ⟨i, hi⟩ := by
  funext k
  match k with
  | 0 => exact Fin.ext h0

/-- A row of `n` entries taken as a one-axis array keeps its columns. -/
theorem reshape_row {n : Nat} (h : (⟨1, ![n]⟩ : Shape).numel = (⟨2, ![1, n]⟩ : Shape).numel) (x : (⟨1, ![n]⟩ : Shape).Idx) :
    Shape.reshapeEquiv h x = (at2 ⟨0, by omega⟩ (x 0) : (⟨2, ![1, n]⟩ : Shape).Idx) := by
  apply Shape.reshapeEquiv_eq_of_rowMajor h
  rw [Shape.rowMajor_val_two, Shape.rowMajor_val_one]
  show 0 * n + (x 0).val = (x 0).val
  omega

end Cert.Rows

end
-- ==== Proof.TwoGathers.lean ====
/-
  Two indirect gathers in flight on one semaphore: each gathered row is one transfer of a batch whose deliveries are
  fixed before the first gather starts. The first wait learns nothing, the second finds every row landed.
-/
module

public import Idealize.ShloMosaic.Lib.Batch
public import Idealize.ShloMosaic.Lib.SparseCore.Stream

@[expose] public section

noncomputable section

namespace Cert.RowBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

theorem sep_assoc_eq (A B C : sProp 𝕄) : (iprop(A ∗ (B ∗ C)) ⊢ iprop((A ∗ B) ∗ C)) ∧ (iprop((A ∗ B) ∗ C) ⊢ iprop(A ∗ (B ∗ C))) :=
  ⟨by iintro ⟨HA, HB, HC⟩
      isplitr [HC]; · isplitl [HA] <;> iassumption
      iexact HC,
   by iintro ⟨⟨HA, HB⟩, HC⟩
      isplitl [HA]; · iexact HA
      isplitl [HB] <;> iassumption⟩

/-- The issue rights from `j` on are those of the next `o` transfers and those from `j + o` on. -/
theorem pending_take {n : ℕ} (Φ : Fin n → sProp 𝕄) : ∀ (o j : ℕ) (h : j + o ≤ n),
    bigSep (Transfers.pending j) Φ = iprop((bigSep Finset.univ fun k : Fin o => Φ ⟨j + k.val, by omega⟩) ∗ bigSep (Transfers.pending (j + o)) Φ)
  | 0, j, h => by
    rw [show (Finset.univ : Finset (Fin 0)) = ∅ from rfl, BI.bigSep_empty]
    refine BI.Entails.antisymm (show bigSep (Transfers.pending j) Φ ⊢ iprop(emp ∗ bigSep (Transfers.pending j) Φ) from ?_)
      (show iprop(emp ∗ bigSep (Transfers.pending j) Φ) ⊢ bigSep (Transfers.pending j) Φ from ?_)
    · iintro H; isplitr; · iempintro
      iexact H
    · iintro ⟨-, H⟩; iexact H
  | o + 1, j, h => by
    rw [Transfers.bigSep_pending_step Φ j (by omega), pending_take Φ o (j + 1) (by omega), bigSep_univ_succ]
    have e : Transfers.pending (n := n) (j + 1 + o) = Transfers.pending (j + (o + 1)) := congrArg Transfers.pending (by omega)
    rw [e]
    have e2 : (bigSep Finset.univ fun k : Fin o => Φ ⟨j + 1 + k.val, by omega⟩)
        = (bigSep Finset.univ fun k : Fin o => Φ ⟨j + k.succ.val, by have := k.isLt; simp only [Fin.val_succ]; omega⟩) :=
      BI.bigSep_congr fun k _ => congrArg Φ (Fin.ext (by simp only [Fin.val_succ]; omega))
    rw [e2]
    exact BI.Entails.antisymm (sep_assoc_eq _ _ _).1 (sep_assoc_eq _ _ _).2

/-- A batch of `o + o'` deliveries, all landed, is its first `o` and its last `o'`. -/
theorem deliveries_split {o o' : ℕ} (D : Fin (o + o') → sProp 𝕄) :
    bigSep Finset.univ D ⊢ iprop((bigSep Finset.univ fun k : Fin o => D ⟨k.val, by omega⟩)
      ∗ bigSep Finset.univ fun k : Fin o' => D ⟨o + k.val, by omega⟩) := by
  rw [Transfers.bigSep_pending_zero, pending_take D o 0 (by omega), pending_take D o' (0 + o) (by omega)]
  iintro ⟨H1, H2, -⟩
  isplitl [H1]
  · iapply (Entails.of_eq (BI.bigSep_congr fun k _ => congrArg D (Fin.ext (Nat.zero_add _)))) $$ H1
  · iapply (Entails.of_eq (BI.bigSep_congr fun k _ => congrArg D (Fin.ext (by simp)))) $$ H2

section Gather

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}
variable (src : Memref sig c.2.kind sp s₀ e) (dst : Memref sig c.2.kind .vmem s e) (hg : s₀.Gathers a s)
variable (offs : Memref sig c.2.kind .vmem si .i32) (hn : si.numel = s.size hg.axis') (ho : 0 < s.size hg.axis')
variable (q qo : PosShare TreeShare) (fs : Buf (Elt F) (src.view.loc c)) (fd : Buf (Elt F) (dst.view.loc c)) (fo : Buf (Elt F) (offs.view.loc c))
variable (hin : ∀ x, (offs.view.read (Elt F) fo x).toNat < s₀.size hg.axis)

/-- Row `k` of what a gather writes. -/
def rowVal (k : Fin (s.size hg.axis')) : (s.rowShape hg.axis').Idx → Elt F e :=
  fun i => src.view.read (Elt F) fs (hg.rowIdx (rows (offs.view.read (Elt F) fo) hn hin k) i)

/-- What entry `k` of a gather delivers: row `k` of the destination written with the named row of the source, the
    list's element and a piece of the source's share back. -/
def rowD (k : Fin (s.size hg.axis')) : sProp 𝕄 :=
  iprop(((dst.view.loc c ↦[(dst.view.slice (s.rowRect hg.axis' k)).set]{fullShare}
          ((dst.view.slice (s.rowRect hg.axis' k)).write (Elt F) fd
            (rowVal c src hg offs hn fs fo hin k) Finset.univ))
      ∗ (offs.view.loc c ↦[{offs.view.emb (si.rowMajor.symm (k.cast hn.symm))}]{qo} fo))
    ∗ (src.view.loc c ↦[src.view.set]{pieceOf q _ ho k} fs))

instance rowD_storable (k : Fin (s.size hg.axis')) :
    Storable (upEmb : UEmb _ 𝕄) (rowD c src dst hg offs hn ho q qo fs fd fo hin k) := by
  unfold rowD; infer_instance

omit [Preorder Lvl] in
/-- All the rows of a gather: the destination written, the source's and the list's shares back. -/
theorem rowD_join :
    bigSep Finset.univ (rowD (Ix := Ix) (Name := Name) (U := U) (Lvl := Lvl) c src dst hg offs hn ho q qo fs fd fo hin)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective (fun k : Fin (s.size hg.axis') => si.rowMajor.symm (k.cast hn.symm)) :=
    (si.rowMajor.symm.bijective.comp (finCongr hn.symm).bijective)
  unfold rowD
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd
      (rowVal c src hg offs hn fs fo hin)
      (gatherPayload hg (src.view.read (Elt F) fs) (rows (offs.view.read (Elt F) fo) hn hin)) (fun k i => by
      unfold rowVal gatherPayload; rw [Shape.Gathers.idx_rowRect_emb])) $$ Hrows
  isplitl [Hsrc]; · iapply (Entails.of_eq (pointsTo_piecesOf (src.view.set) fs ho q).symm) $$ Hsrc
  iapply (Entails.of_eq (pointsTo_entries c offs.view _ hen qo fo).symm) $$ Hoffs

/-- A gather's issue as the next `o` transfers of a batch, one per row. -/
theorem wp_gatherBatch [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {n : ℕ} {D : Fin n → sProp 𝕄} {j u : ℕ}
    (ι : Ix) (N : ℕ) (hN : ∀ i, (dst.slice (s.rowRect hg.axis' i) (s.stride_rowRect hg.axis' i)).view.dmaCredit = N)
    (hj : j + s.size hg.axis' ≤ n) (hu : u ≤ j * N)
    (hD : ∀ i : Fin (s.size hg.axis'), rowD c src dst hg offs hn ho q qo fs fd fo hin i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  let w : (i : Fin (s.size hg.axis')) → (s.rowShape hg.axis').Idx → Elt F e := fun i x => src.view.read (Elt F) fs (hg.rowIdx (r i) x)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry :=
    (si.rowMajor.symm.bijective.comp (finCongr hn.symm).bijective)
  have hsum : ∑ i, (rd i).dst.view.dmaCredit = s.size hg.axis' * N := by
    rw [Finset.sum_congr rfl fun i _ => show (rd i).dst.view.dmaCredit = N from hN i]; simp
  unfold Transfers.Batch
  iintro ⟨Hs, Hd, Ho, ⟨%γ, %γ₀, %κ, #Hinv, HI, H0, Hcred⟩⟩ Hk
  ihave HI' := (Entails.of_eq (pending_take (fun t => count EC (γ t) 0) (s.size hg.axis') j hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare} ((dst.view.slice (s.rowRect hg.axis' i)).write (Elt F) fd (w i) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hc := Transfers.batch_creditUpdate EC (g := (c, SemLoc.dma sem)) (N := N) (D := D) (γ := γ) (γ₀ := γ₀) (ι := κ) ⟨j + i.val, by omega⟩ (hD i)
        have hNi : (rd i).dst.view.amount (SemLoc.dma sem) = N := hN i
        unfold rowD at hc
        have hc' := hc.trans (Entails.of_eq (congrArg (fun N' => creditUpdate (c, SemLoc.dma sem) N' 0 (rowD c src dst hg offs hn ho q qo fs fd fo hin i)) hNi.symm))
        unfold rowD at hc'
        iapply (hc' : _ ⊢ creditUpdate (c, SemLoc.dma sem) ((rd i).dst.view.amount (SemLoc.dma sem)) 0
          iprop(((dst.view.loc c ↦[(dst.view.slice (s.rowRect hg.axis' i)).set]{fullShare} ((dst.view.slice (s.rowRect hg.axis' i)).write (Elt F) fd (w i) Finset.univ)) ∗ S.heldEntry qo fo i)
            ∗ (src.view.loc c ↦[src.view.set]{pieceOf q _ ho i} fs)))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Gather

end Cert.RowBatch

end
-- ==== Proof.Copy.lean ====
/-
  A local copy and its wait as one step, by a core that owes: the wait is recorded and nothing else of the debt changes.
-/
module

public import Idealize.ShloMosaic.Lib.Batch
public import Idealize.ShloMosaic.Lib.SparseCore.Quiescent

@[expose] public section

noncomputable section

namespace Cert.Copy

open Idealize.ShloMosaic Idealize.ShloMosaic.SparseCore
open Idealize.ShloMosaic.SparseCore.Cfg (HIx)
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {F : FTy → Type} {U : Type} [URA U] {N : Nat}

local notation "𝕄" => MT nD τ sig (HIx N) (Elt F) ℕ U ℕ

/-- What the core owes, with waits recorded beyond `W` on index `none` only, and the leave to wait. -/
def Ow (c : Thread nD τ) (O : CellTallies nD τ sig (HIx N)) (W : Waits sig (HIx N)) : sProp 𝕄 :=
  iprop(Transfers.MayWaits c (default : HIx N) O ∗ ∃ W', ⌜∀ p ∈ W', p ∈ W ∨ p.2 = none⌝ ∗ owes c O W')

theorem Ow.intro (c : Thread nD τ) (O : CellTallies nD τ sig (HIx N)) (W : Waits sig (HIx N)) :
    iprop(Transfers.MayWaits c (default : HIx N) O ∗ owes c O W) ⊢ (Ow c O W : sProp 𝕄) := by
  unfold Ow
  iintro ⟨Hm, HO⟩
  isplitl [Hm]; · iexact Hm
  iexists W
  isplitr
  · ipureintro; exact fun p hp => .inl hp
  · iexact HO

variable {Λ : Labels} {defs : Defs nD τ sig (Elt F) Λ} (EC : UEmb Counters (MT nD τ sig (HIx N) (Elt F) ℕ U ℕ)) (𝒱 : Variants) (c : Thread nD τ) (bd : Option 𝒱.V)
variable {sp sp' : Space} {s : Shape} {e : EltTy} {α : Type}

theorem wp_copy [EC.LandsIn (upEmb : UEmb _ 𝕄)] {Q : α → sProp (MT nD τ sig (HIx N) (Elt F) ℕ U ℕ)}
    {O : CellTallies nD τ sig (HIx N)} {W : Waits sig (HIx N)}
    (src : Memref sig c.2.kind sp s e) (dst : Memref sig c.2.kind sp' s e) (sem : DmaSem sig)
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig (Elt F) Λ c.2) α} {q : PosShare TreeShare} {fs : Buf (Elt F) (src.view.loc c)}
    {Sd : Finset (Idx (dst.view.loc c))} {fd : Buf (Elt F) (dst.view.loc c)}
    (hN0 : 0 < dst.view.dmaCredit) (hSd : dst.view.set ⊆ Sd) :
    iprop(Ow c O W ∗ semVal (c, .dma sem) 0 ∗ (src.view.loc c ↦[src.view.set]{q} fs) ∗ (dst.view.loc c ↦[Sd]{fullShare} fd))
      ⊢ iprop((iprop(Ow c O W ∗ semVal (c, .dma sem) 0 ∗ (src.view.loc c ↦[src.view.set]{q} fs)
            ∗ (dst.view.loc c ↦[Sd]{fullShare} (dst.view.write (Elt F) fd (src.view.read (Elt F) fs) Finset.univ)))
          -∗ wp frame (wpE defs 𝒱 c bd) Set.univ (k ⟨⟩) Q)
        -∗ wp frame (wpE defs 𝒱 c bd) Set.univ (.op (.enqueueDma src (.here dst) (.dma sem) hsrc hdst hsem)
            fun _ => .op (.waitDma2 sem src dst hsrc' hdst') k) Q) := by
  unfold Ow
  iintro ⟨⟨#Hm, %W', %hW', HO⟩, Hv, Hs, Hd⟩ Hk
  iapply (Transfers.wp_dmaLocal EC 𝒱 c bd (via := .same) (default : HIx N) dst.view.dmaCredit rfl hN0 hSd) $$ [Hs Hd Hv]
  · isplitl [Hs]; · iexact Hs
    isplitl [Hd]; · iexact Hd
    iexact Hv
  iintro Hfl
  iapply (Transfers.wp_waitLocalO EC 𝒱 c bd (default : HIx N) (rfl : dst.view.dmaCredit = _)) $$ [Hfl HO]
  · isplitl [Hfl]; · iexact Hfl
    isplitl [HO]; · iexact HO
    iapply (Transfers.MayWaits.elim (SemLoc.dma sem)) $$ Hm
  iintro ⟨⟨Hd, Hs⟩, Hv, HO⟩
  iapply Hk
  isplitl [HO]
  · isplitr; · iexact Hm
    iexists _
    isplitr
    rotate_left
    · iexact HO
    · ipureintro
      intro p hp
      rcases Finset.mem_insert.mp hp with hp | hp
      · exact .inr (hp ▸ rfl)
      · exact hW' p hp
  isplitl [Hv]; · iexact Hv
  isplitl [Hs]; · iexact Hs
  iexact Hd

end Cert.Copy

end
-- ==== Proof.Split.lean ====
/-
  An array over the blocks of a colouring of its cells, and a whole array's share over the members of two groups.
-/
module

public import Idealize.ShloMosaic.Lib.SparseCore.Stream
public import Idealize.ShloMosaic.Lib.SparseCore.Quiescent
public import Idealize.ShloMosaic.Lib.Tactic

@[expose] public section

noncomputable section

namespace Cert.Split

open Idealize.ShloMosaic Idealize.ShloMosaic.SparseCore
open Idealize.ShloMosaic.SparseCore.Cfg (HIx)
open Idealize.SL
open Idealize.SL.BI (sProp Storable bigSep bigSep_exists_pi bigSep_pure_sep)
open Idealize.SL.BI (bigSep_sep')
open scoped Idealize.SL.BI
open Idealize.SL.BI.BIBase Idealize.SL.BI.Laws Idealize.SL.Sem Idealize.SL.ProofMode
open Idealize.SL.RA

variable {nD : Nat} {τ : Topo} {sig : RefSig} {F : FTy → Type} {U : Type} [URA U] {N : Nat}

local notation "𝕄" => MT nD τ sig (HIx N) (Elt F) ℕ U ℕ

variable {ℓ ℓ₁ ℓ₂ : Loc nD τ sig} {n : Nat}

theorem fiber_disjoint (g : Idx ℓ → Fin n) (I : Finset (Idx ℓ)) :
    ∀ k ∈ (Finset.univ : Finset (Fin n)), ∀ k' ∈ (Finset.univ : Finset (Fin n)), k ≠ k' → Disjoint (I.filter (g · = k)) (I.filter (g · = k')) := by
  intro k _ k' _ h
  rw [Finset.disjoint_left]
  intro i hi hi'
  exact h ((Finset.mem_filter.mp hi).2.symm.trans (Finset.mem_filter.mp hi').2)

theorem fiber_cover (g : Idx ℓ → Fin n) (I : Finset (Idx ℓ)) :
    (Finset.univ : Finset (Fin n)).biUnion (fun k => I.filter (g · = k)) = I := by
  ext i
  simp

/-- An array's cells at once are its blocks' cells. -/
theorem fiber_split (g : Idx ℓ → Fin n) (I : Finset (Idx ℓ)) (q : PosShare TreeShare) (f : Buf (Elt F) ℓ) :
    (ℓ ↦[I]{q} f : sProp 𝕄) = bigSep Finset.univ fun k : Fin n => ℓ ↦[I.filter (g · = k)]{q} f := by
  have h := pointsTo_biUnion (Ix := HIx N) (Name := ℕ) (U := U) (Lvl := ℕ) (Val := Elt F) (ℓ := ℓ) (q := q) (f := f) Finset.univ (fun k : Fin n => I.filter (g · = k)) (fiber_disjoint g I)
  rw [fiber_cover] at h
  exact h

/-- The blocks of two arrays, each with what is known of its contents, are the two arrays. -/
theorem fiber_join (g₁ : Idx ℓ₁ → Fin n) (g₂ : Idx ℓ₂ → Fin n) (I₁ : Finset (Idx ℓ₁)) (I₂ : Finset (Idx ℓ₂))
    (P : Fin n → Buf (Elt F) ℓ₁ → Buf (Elt F) ℓ₂ → Prop)
    (hP : ∀ k f f' h h', (∀ i ∈ I₁.filter (g₁ · = k), f' i = f i) → (∀ i ∈ I₂.filter (g₂ · = k), h' i = h i) → P k f h → P k f' h')
    (f₀ : Buf (Elt F) ℓ₁) (h₀ : Buf (Elt F) ℓ₂) :
    (bigSep Finset.univ fun k : Fin n => iprop(∃ f h, ⌜P k f h⌝ ∗ (ℓ₁ ↦[I₁.filter (g₁ · = k)]{fullShare} f) ∗ (ℓ₂ ↦[I₂.filter (g₂ · = k)]{fullShare} h)) : sProp 𝕄)
      ⊢ iprop(∃ f h, ⌜∀ k, P k f h⌝ ∗ (ℓ₁ ↦[I₁]{fullShare} f) ∗ (ℓ₂ ↦[I₂]{fullShare} h)) := by
  haveI : Nonempty (Buf (Elt F) ℓ₁) := ⟨f₀⟩
  haveI : Nonempty (Buf (Elt F) ℓ₂) := ⟨h₀⟩
  refine (bigSep_exists_pi Finset.univ (fun k (f : Buf (Elt F) ℓ₁) =>
    iprop(∃ h, ⌜P k f h⌝ ∗ (ℓ₁ ↦[I₁.filter (g₁ · = k)]{fullShare} f) ∗ (ℓ₂ ↦[I₂.filter (g₂ · = k)]{fullShare} h)))).trans ?_
  iintro ⟨%fs, H⟩
  ihave H' := (bigSep_exists_pi Finset.univ (fun k (h : Buf (Elt F) ℓ₂) =>
    iprop(⌜P k (fs k) h⌝ ∗ (ℓ₁ ↦[I₁.filter (g₁ · = k)]{fullShare} fs k) ∗ (ℓ₂ ↦[I₂.filter (g₂ · = k)]{fullShare} h)))) $$ H
  icases H' with ⟨%hs, H⟩
  ihave H' := (bigSep_pure_sep Finset.univ (fun k => P k (fs k) (hs k)) (fun k =>
    iprop((ℓ₁ ↦[I₁.filter (g₁ · = k)]{fullShare} fs k) ∗ (ℓ₂ ↦[I₂.filter (g₂ · = k)]{fullShare} hs k)))) $$ H
  icases H' with ⟨%hk, H⟩
  ihave H' := (Entails.of_eq (bigSep_sep' Finset.univ (fun k => iprop(ℓ₁ ↦[I₁.filter (g₁ · = k)]{fullShare} fs k)) (fun k =>
    iprop(ℓ₂ ↦[I₂.filter (g₂ · = k)]{fullShare} hs k)))) $$ H
  icases H' with ⟨H1, H2⟩
  ihave H1' := (pointsTo_biUnion_join (ℓ := ℓ₁) (q := fullShare) (Val := Elt F) Finset.univ (fun k => I₁.filter (g₁ · = k)) fs f₀ (fiber_disjoint g₁ I₁)) $$ H1
  ihave H2' := (pointsTo_biUnion_join (ℓ := ℓ₂) (q := fullShare) (Val := Elt F) Finset.univ (fun k => I₂.filter (g₂ · = k)) hs h₀ (fiber_disjoint g₂ I₂)) $$ H2
  icases H1' with ⟨%f, %hf, H1⟩
  icases H2' with ⟨%h, %hh, H2⟩
  rw [fiber_cover, fiber_cover]
  iexists f, h
  isplitr
  · ipureintro
    exact fun k => hP k (fs k) f (hs k) h (hf k (Finset.mem_univ _)) (hh k (Finset.mem_univ _)) (hk k (Finset.mem_univ _))
  isplitl [H1]; · iexact H1
  iexact H2

/-- The share of an array that member `i` of group `c` gets. -/
def part {a b : Nat} (ha : 0 < a) (hb : 0 < b) (c : Fin a) (i : Fin b) : PosShare TreeShare := pieceOf (pieceOf fullShare a ha c) b hb i

theorem share_split {a b : Nat} (ha : 0 < a) (hb : 0 < b) (f : Buf (Elt F) ℓ) :
    (ℓ ↦{fullShare} f : sProp 𝕄) = bigSep Finset.univ fun c : Fin a => bigSep Finset.univ fun i : Fin b => ℓ ↦{part ha hb c i} f := by
  rw [pointsTo_piecesOf Finset.univ f ha fullShare]
  exact BI.bigSep_congr fun c _ => pointsTo_piecesOf Finset.univ f hb _

end Cert.Split

end
-- ==== Proof.IdealGroup.lean ====
/-
  The inner loop of the kernel's row: sixteen gathered chunks of 128 scores, each read as eight vectors of sixteen
  lanes, the printed program's unrolled text stated as one step repeated.
-/
module

public import proofs.«01_k».proof.KernelIdeal

@[expose] public section

noncomputable section

namespace Cert.KernelIdeal.Tile

open Cert.KernelIdeal
open Idealize.ShloMosaic Idealize.SL.Sem

variable {F : FTy → Type} [FloatOps F] [Facts]
open Facts₀ Facts

/-- Where row `16·t + j` of the gathered chunks begins. -/
def rowOff (v96 : BitVec 32) (t : Fin (k0_t3_loop v96).trips) (j : Nat) : Fin 2 → Nat :=
  ![(Scalar.addi (Scalar.muli (Scf.iv 0#32 1#32 t) 16#32) (BitVec.ofNat 32 j)).toNat, 0]

theorem rowOff_inb (v96 : BitVec 32) (hw : k0_chk2 v96) (t : Fin (k0_t3_loop v96).trips) (j : Nat) (hj : j ≤ 15) :
    ∀ a, rowOff v96 t j a + S1x128.size a ≤ S256x128.size a := by
  have h0 := k0_off5_inb v96 hw t 0
  have h1 := k0_off132_inb v96 hw t 0
  simp only [k0_off5, k0_off132, Matrix.cons_val_zero] at h0 h1
  intro a
  fin_cases a
  · simp only [rowOff, Scalar.addi, Scalar.muli, IntOp.addi, IntOp.muli] at h0 h1 ⊢
    generalize Scf.iv 0#32 1#32 t.val * 16#32 = x at h0 h1 ⊢
    simp [BitVec.toNat_add] at h0 h1 ⊢
    have hj' : j % 4294967296 = j := Nat.mod_eq_of_lt (by omega)
    omega
  · simp [rowOff]

/-- One vector of sixteen scores: those at least the threshold are appended, in lane order, with their columns. -/
def step (i : grid0.Coords) (arg10 : Memref sig .scVector .vmem S256x128 .f32) (arg11 : Memref sig .scVector .vmem S512 .f32)
    (arg12 : Memref sig .scVector .vmem S512 .i32) (v2 : IVec S16 32) (v6 : Vec F S16 .f32) (v96 : BitVec 32) (hw : k0_chk2 v96)
    (t : Fin (k0_t3_loop v96).trips) (base : BitVec 32) (j : Nat) (hj : j ≤ 15) (l : Nat) (hl : ∀ a, (![l] : Fin 1 → Nat) a + S16.size a ≤ S128.size a)
    (off : IVec S16 32) : Prog (TpuEff nD τ sig (Elt F) Λ₀ (.scVector ((i 0).castLE hcore0) ((i 1).castLE hsub0))) (IVec S16 32) := do
  let row : Memref sig .scVector .vmem S1x128 .f32 := arg10.slice (Rect.unit (s := S256x128) (rowOff v96 t j) S1x128.size (rowOff_inb v96 hw t j hj)) (fun _ => rfl)
  let row1 : Memref sig .scVector .vmem S128 .f32 := row.squeeze S128 squeezes_S1x128_S128
  let val : Vec F S16 .f32 ← Prog.lift (.load row1 (Rect.unit (s := S128) ![l] S16.size hl).toLoadRect (View.loadsAt_vmem h_S16))
  have msk : IVec S16 1 := cmpf .oge val v6
  have idx : IVec S16 32 := addi (broadcast S16 (Scalar.addi base (BitVec.ofNat 32 l))) v2
  have one : IVec S16 32 := extui 32 msk natLt_1_32
  have rank : IVec S16 32 := scan .sum one
  have pos : IVec S16 32 := addi (minsi off (broadcast S16 496#32)) (subi rank one)
  have hp : k0_chk3 pos := (← Prog.lift (TpuEff.assume (k0_chk3 pos) (k0_chk3.dec pos))).down
  SparseCore.vectorStoreIdx arg11 ![pos] val msk false (k0_idx2_inb pos hp) (View.stores_vmem_bits_univ h_S512 rfl)
  SparseCore.vectorStoreIdx arg12 ![pos] idx msk false (k0_idx3_inb pos hp) (View.stores_vmem_bits_univ h_S512 rfl)
  have last : IVec S1 32 := extractStridedSlice S1 ![15] rank slices_S16_o15_S1
  pure (addi off (broadcast S16 (extractAt ![0] last inpos_S1_p0)))

/-- The eight vectors of one gathered chunk. -/
def chunkSteps (i : grid0.Coords) (arg10 : Memref sig .scVector .vmem S256x128 .f32) (arg11 : Memref sig .scVector .vmem S512 .f32)
    (arg12 : Memref sig .scVector .vmem S512 .i32) (v2 : IVec S16 32) (v5 : BitVec 32) (v6 : Vec F S16 .f32) (v96 : BitVec 32) (hw : k0_chk2 v96)
    (t : Fin (k0_t3_loop v96).trips) (v138 : IVec S16 32) (j : Nat) (hj : j ≤ 15) (hs : S16.Slices ![j] S1)
    (off : IVec S16 32) : Prog (TpuEff nD τ sig (Elt F) Λ₀ (.scVector ((i 0).castLE hcore0) ((i 1).castLE hsub0))) (IVec S16 32) := do
  have base : BitVec 32 := Scalar.muli (Scalar.subi (extractAt ![0] (extractStridedSlice S1 ![j] v138 hs) inpos_S1_p0) (Scalar.muli v5 800#32)) 128#32
  let off ← step i arg10 arg11 arg12 v2 v6 v96 hw t base j hj 0 inb_S128_S16_0 off
  let off ← step i arg10 arg11 arg12 v2 v6 v96 hw t base j hj 16 inb_S128_S16_16 off
  let off ← step i arg10 arg11 arg12 v2 v6 v96 hw t base j hj 32 inb_S128_S16_32 off
  let off ← step i arg10 arg11 arg12 v2 v6 v96 hw t base j hj 48 inb_S128_S16_48 off
  let off ← step i arg10 arg11 arg12 v2 v6 v96 hw t base j hj 64 inb_S128_S16_64 off
  let off ← step i arg10 arg11 arg12 v2 v6 v96 hw t base j hj 80 inb_S128_S16_80 off
  let off ← step i arg10 arg11 arg12 v2 v6 v96 hw t base j hj 96 inb_S128_S16_96 off
  let off ← step i arg10 arg11 arg12 v2 v6 v96 hw t base j hj 112 inb_S128_S16_112 off
  pure off

/-- The sixteen chunks of one group. -/
def groupSteps (i : grid0.Coords) (arg9 : Memref sig .scVector .vmem S256 .i32) (arg10 : Memref sig .scVector .vmem S256x128 .f32) (arg11 : Memref sig .scVector .vmem S512 .f32)
    (arg12 : Memref sig .scVector .vmem S512 .i32) (v2 : IVec S16 32) (v5 : BitVec 32) (v6 : Vec F S16 .f32) (v96 : BitVec 32) (hw : k0_chk2 v96)
    (t : Fin (k0_t3_loop v96).trips)
    (off : IVec S16 32) : Prog (TpuEff nD τ sig (Elt F) Λ₀ (.scVector ((i 0).castLE hcore0) ((i 1).castLE hsub0))) (IVec S16 32) := do
  let v138 : Vec F S16 .i32 ← Prog.lift (.load arg9 (Rect.unit (s := S256) (k0_off4 v96 t) S16.size (k0_off4_inb v96 hw t)).toLoadRect (View.loadsAt_vmem h_S16))
  let off ← chunkSteps i arg10 arg11 arg12 v2 v5 v6 v96 hw t v138 0 (by decide) slices_S16_o0_S1 off
  let off ← chunkSteps i arg10 arg11 arg12 v2 v5 v6 v96 hw t v138 1 (by decide) slices_S16_o1_S1 off
  let off ← chunkSteps i arg10 arg11 arg12 v2 v5 v6 v96 hw t v138 2 (by decide) slices_S16_o2_S1 off
  let off ← chunkSteps i arg10 arg11 arg12 v2 v5 v6 v96 hw t v138 3 (by decide) slices_S16_o3_S1 off
  let off ← chunkSteps i arg10 arg11 arg12 v2 v5 v6 v96 hw t v138 4 (by decide) slices_S16_o4_S1 off
  let off ← chunkSteps i arg10 arg11 arg12 v2 v5 v6 v96 hw t v138 5 (by decide) slices_S16_o5_S1 off
  let off ← chunkSteps i arg10 arg11 arg12 v2 v5 v6 v96 hw t v138 6 (by decide) slices_S16_o6_S1 off
  let off ← chunkSteps i arg10 arg11 arg12 v2 v5 v6 v96 hw t v138 7 (by decide) slices_S16_o7_S1 off
  let off ← chunkSteps i arg10 arg11 arg12 v2 v5 v6 v96 hw t v138 8 (by decide) slices_S16_o8_S1 off
  let off ← chunkSteps i arg10 arg11 arg12 v2 v5 v6 v96 hw t v138 9 (by decide) slices_S16_o9_S1 off
  let off ← chunkSteps i arg10 arg11 arg12 v2 v5 v6 v96 hw t v138 10 (by decide) slices_S16_o10_S1 off
  let off ← chunkSteps i arg10 arg11 arg12 v2 v5 v6 v96 hw t v138 11 (by decide) slices_S16_o11_S1 off
  let off ← chunkSteps i arg10 arg11 arg12 v2 v5 v6 v96 hw t v138 12 (by decide) slices_S16_o12_S1 off
  let off ← chunkSteps i arg10 arg11 arg12 v2 v5 v6 v96 hw t v138 13 (by decide) slices_S16_o13_S1 off
  let off ← chunkSteps i arg10 arg11 arg12 v2 v5 v6 v96 hw t v138 14 (by decide) slices_S16_o14_S1 off
  let off ← chunkSteps i arg10 arg11 arg12 v2 v5 v6 v96 hw t v138 15 (by decide) slices_S16_o15_S1 off
  pure off

/-- The loop body as the program prints it. -/
def groupPrinted (i : grid0.Coords)
  (arg2 : Memref sig .scVector .hbm S1024x800 .f32) (harg2 : arg2.IsWhole) (arg3 : Memref sig .scVector .hbm S1024x16 .f32) (harg3 : arg3.IsWhole)
  (arg4 : Memref sig .scVector .hbm S819200x128 .f32) (harg4 : arg4.IsWhole) (arg5 : Memref sig .scVector .hbm S1024x512 .f32) (harg5 : arg5.IsWhole)
  (arg6 : Memref sig .scVector .hbm S1024x512 .i32) (harg6 : arg6.IsWhole) (arg7 : Memref sig .scVector .vmem S800 .f32) (harg7 : arg7.IsWhole)
  (arg8 : Memref sig .scVector .vmem S16 .f32) (harg8 : arg8.IsWhole) (arg9 : Memref sig .scVector .vmem S256 .i32) (harg9 : arg9.IsWhole)
  (arg10 : Memref sig .scVector .vmem S256x128 .f32) (harg10 : arg10.IsWhole) (arg11 : Memref sig .scVector .vmem S512 .f32) (harg11 : arg11.IsWhole)
  (arg12 : Memref sig .scVector .vmem S512 .i32) (harg12 : arg12.IsWhole) (arg13 : Memref sig .scVector .vmem S16 .i32) (harg13 : arg13.IsWhole)
  (arg14 : DmaSems sig S_) (v136_r0 : DmaSems sig S_) (v136_r1 : DmaSems sig S_) (v136_r2 : DmaSems sig S_) (v136_r3 : DmaSems sig S_)
    (v2 : IVec S16 32) (v5 : BitVec 32) (v6 : Vec F S16 .f32) (v96 : BitVec 32) (k0_hw2 : k0_chk2 v96) (t : Fin (k0_t3_loop v96).trips)
    (off : IVec S16 32) : Prog (TpuEff nD τ sig (Elt F) Λ₀ (.scVector ((i 0).castLE hcore0) ((i 1).castLE hsub0))) (IVec S16 32) := do
  let ⟨v2408, v2518, v2535⟩ : Σ' (v2408 : BitVec 32) (v2518 : IVec S16 32), IVec S16 32 ← k0_part59 i arg2 harg2 arg3 harg3 arg4 harg4 arg5 harg5 arg6 harg6 arg7 harg7 arg8 harg8 arg9 harg9 arg10 harg10 arg11 harg11 arg12 harg12 arg13 harg13 arg14 v136_r0 v136_r1 v136_r2 v136_r3 v2 v5 v6 v96 k0_hw2 0#32 1#32 t off
  step i arg10 arg11 arg12 v2 v6 v96 k0_hw2 t v2408 15 (by decide) 112 inb_S128_S16_112 (addi v2518 v2535)

set_option maxRecDepth 1000000 in
set_option maxHeartbeats 0 in
theorem groupPrinted_eq : groupPrinted (F := F) = fun i arg2 harg2 arg3 harg3 arg4 harg4 arg5 harg5 arg6 harg6 arg7 harg7 arg8 harg8 arg9 harg9 arg10 harg10 arg11 harg11 arg12 harg12 arg13 harg13 arg14 v136_r0 v136_r1 v136_r2 v136_r3 v2 v5 v6 v96 hw t off => groupSteps i arg9 arg10 arg11 arg12 v2 v5 v6 v96 hw t off := by
  with_unfolding_all rfl

end Cert.KernelIdeal.Tile
-- ==== Proof.IdealBase.lean ====
/-
  The kernel's tiles: the program as the launch takes it, the tile's buffers by name, and the rules for its scatters and
  row loads over whole buffers.
-/
module

public import proofs.«01_k».proof.Proof.IdealGroup
public import proofs.«01_k».proof.Proof.State
public import proofs.«01_k».proof.Proof.Rows
public import proofs.«01_k».proof.Proof.TwoGathers
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Cert.Append Cert.Rows
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem cfgFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The tiles' resource algebra. -/
abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

abbrev mCm : Memref sig .scVector .hbm S1024x800 .f32 := Memref.whole main_arg0_scv
abbrev mTau : Memref sig .scVector .hbm S1024x16 .f32 := Memref.whole main_arg1_scv
abbrev mTbl : Memref sig .scVector .hbm S819200x128 .f32 := Memref.whole main_v0_scv
abbrev mOv : Memref sig .scVector .hbm S1024x512 .f32 := Memref.whole main_v1_0_scv
abbrev mOi : Memref sig .scVector .hbm S1024x512 .i32 := Memref.whole main_v1_1_scv
abbrev s7 : Memref sig .scVector .vmem S800 .f32 := Memref.whole cc0_scratch0
abbrev s8 : Memref sig .scVector .vmem S16 .f32 := Memref.whole cc0_scratch1
abbrev s9 : Memref sig .scVector .vmem S256 .i32 := Memref.whole cc0_scratch2
abbrev s10 : Memref sig .scVector .vmem S256x128 .f32 := Memref.whole cc0_scratch3
abbrev s11 : Memref sig .scVector .vmem S512 .f32 := Memref.whole cc0_scratch4
abbrev s12 : Memref sig .scVector .vmem S512 .i32 := Memref.whole cc0_scratch5
abbrev s13 : Memref sig .scVector .vmem S16 .i32 := Memref.whole cc0_scratch6

variable [FloatOps F] (d : Dev nD) (L : grid0.Coords)

abbrev pt7 (f : Vec F S800 .f32) : sProp 𝕄 := (s7.view.loc (thr d L)) ↦{fullShare} f
abbrev pt8 (f : Vec F S16 .f32) : sProp 𝕄 := (s8.view.loc (thr d L)) ↦{fullShare} f
abbrev pt9 (f : Vec F S256 .i32) : sProp 𝕄 := (s9.view.loc (thr d L)) ↦{fullShare} f
abbrev pt10 (f : Vec F S256x128 .f32) : sProp 𝕄 := (s10.view.loc (thr d L)) ↦{fullShare} f
abbrev pt11 (f : Vec F S512 .f32) : sProp 𝕄 := (s11.view.loc (thr d L)) ↦{fullShare} f
abbrev pt12 (f : Vec F S512 .i32) : sProp 𝕄 := (s12.view.loc (thr d L)) ↦{fullShare} f

/-- A program of the tile, run under the kernel's bodies. -/
abbrev wpT {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

section Rules

variable {α : Type}

/-- A scatter into the list of scores. -/
theorem wp_scatter11 {Q : α → sProp 𝕄} (f : Vec F S512 .f32) (pos : IVec S16 32) (v : Vec F S16 .f32) (msk : IVec S16 1)
    (h : ∀ a x, ((![pos] : Fin 1 → IVec S16 32) a x).toNat < S512.size a) (hs : ((s11).access (.whole S512)).Stores Finset.univ)
    (k : PUnit → Prog (TpuEff nD τ sig (Elt F) Λ₀ (.scVector (cV L) (jV L))) α) :
    pt11 d L f ⊢ iprop((pt11 d L (storeIdx f ![pos] v msk false h) -∗ wpT d L (k ⟨⟩) Q)
      -∗ wpT d L (SparseCore.vectorStoreIdx s11 ![pos] v msk false h hs >>= k) Q) := by
  have e1 : ((s11).access (.whole S512)).set = Finset.univ := Memref.set_access_whole (cc0_scratch4 : Ref sig .scVector)
  have e2 : ((s11).access (.whole S512)).write (Elt F) f (storeIdx f ![pos] v msk false h) Finset.univ
    = storeIdx f ![pos] v msk false h := Memref.write_access_whole_univ (Elt F) (cc0_scratch4 : Ref sig .scVector) f _
  have e3 : ((s11).access (.whole S512)).read (Elt F) f = f := Memref.read_access_whole (Elt F) (cc0_scratch4 : Ref sig .scVector) f
  have e4 : pt11 d L f = (((s11).access (.whole S512)).loc (thr d L) ↦[((s11).access (.whole S512)).set]{fullShare} f : sProp 𝕄) := by rw [e1]
  have e5 : (((s11).access (.whole S512)).loc (thr d L) ↦[((s11).access (.whole S512)).set]{fullShare} (((s11).access (.whole S512)).write (Elt F) f (storeIdx (((s11).access (.whole S512)).read (Elt F) f) ![pos] v msk false h) Finset.univ) : sProp 𝕄)
      = pt11 d L (storeIdx f ![pos] v msk false h) := by rw [e1, e3, e2]
  iintro H Hk
  ihave H' := (Entails.of_eq e4) $$ H
  iapply (SparseCore.wp_vectorStoreIdx 𝒱₀ (thr d L) none Set.univ (base := s11)) $$ H'
  iintro H
  iapply Hk
  ihave H2 := (Entails.of_eq e5) $$ H
  iexact H2

/-- A scatter into the list of columns. -/
theorem wp_scatter12 {Q : α → sProp 𝕄} (f : Vec F S512 .i32) (pos : IVec S16 32) (v : Vec F S16 .i32) (msk : IVec S16 1)
    (h : ∀ a x, ((![pos] : Fin 1 → IVec S16 32) a x).toNat < S512.size a) (hs : ((s12).access (.whole S512)).Stores Finset.univ)
    (k : PUnit → Prog (TpuEff nD τ sig (Elt F) Λ₀ (.scVector (cV L) (jV L))) α) :
    pt12 d L f ⊢ iprop((pt12 d L (storeIdx f ![pos] v msk false h) -∗ wpT d L (k ⟨⟩) Q)
      -∗ wpT d L (SparseCore.vectorStoreIdx s12 ![pos] v msk false h hs >>= k) Q) := by
  have e1 : ((s12).access (.whole S512)).set = Finset.univ := Memref.set_access_whole (cc0_scratch5 : Ref sig .scVector)
  have e2 : ((s12).access (.whole S512)).write (Elt F) f (storeIdx f ![pos] v msk false h) Finset.univ
    = storeIdx f ![pos] v msk false h := Memref.write_access_whole_univ (Elt F) (cc0_scratch5 : Ref sig .scVector) f _
  have e3 : ((s12).access (.whole S512)).read (Elt F) f = f := Memref.read_access_whole (Elt F) (cc0_scratch5 : Ref sig .scVector) f
  have e4 : pt12 d L f = (((s12).access (.whole S512)).loc (thr d L) ↦[((s12).access (.whole S512)).set]{fullShare} f : sProp 𝕄) := by rw [e1]
  have e5 : (((s12).access (.whole S512)).loc (thr d L) ↦[((s12).access (.whole S512)).set]{fullShare} (((s12).access (.whole S512)).write (Elt F) f (storeIdx (((s12).access (.whole S512)).read (Elt F) f) ![pos] v msk false h) Finset.univ) : sProp 𝕄)
      = pt12 d L (storeIdx f ![pos] v msk false h) := by rw [e1, e3, e2]
  iintro H Hk
  ihave H' := (Entails.of_eq e4) $$ H
  iapply (SparseCore.wp_vectorStoreIdx 𝒱₀ (thr d L) none Set.univ (base := s12)) $$ H'
  iintro H
  iapply Hk
  ihave H2 := (Entails.of_eq e5) $$ H
  iexact H2

/-- A scatter into the list of chunks. -/
theorem wp_scatter9 {Q : α → sProp 𝕄} (f : Vec F S256 .i32) (pos : IVec S16 32) (v : Vec F S16 .i32) (msk : IVec S16 1)
    (h : ∀ a x, ((![pos] : Fin 1 → IVec S16 32) a x).toNat < S256.size a) (hs : ((s9).access (.whole S256)).Stores Finset.univ)
    (k : PUnit → Prog (TpuEff nD τ sig (Elt F) Λ₀ (.scVector (cV L) (jV L))) α) :
    pt9 d L f ⊢ iprop((pt9 d L (storeIdx f ![pos] v msk false h) -∗ wpT d L (k ⟨⟩) Q)
      -∗ wpT d L (SparseCore.vectorStoreIdx s9 ![pos] v msk false h hs >>= k) Q) := by
  have e1 : ((s9).access (.whole S256)).set = Finset.univ := Memref.set_access_whole (cc0_scratch2 : Ref sig .scVector)
  have e2 : ((s9).access (.whole S256)).write (Elt F) f (storeIdx f ![pos] v msk false h) Finset.univ
    = storeIdx f ![pos] v msk false h := Memref.write_access_whole_univ (Elt F) (cc0_scratch2 : Ref sig .scVector) f _
  have e3 : ((s9).access (.whole S256)).read (Elt F) f = f := Memref.read_access_whole (Elt F) (cc0_scratch2 : Ref sig .scVector) f
  have e4 : pt9 d L f = (((s9).access (.whole S256)).loc (thr d L) ↦[((s9).access (.whole S256)).set]{fullShare} f : sProp 𝕄) := by rw [e1]
  have e5 : (((s9).access (.whole S256)).loc (thr d L) ↦[((s9).access (.whole S256)).set]{fullShare} (((s9).access (.whole S256)).write (Elt F) f (storeIdx (((s9).access (.whole S256)).read (Elt F) f) ![pos] v msk false h) Finset.univ) : sProp 𝕄)
      = pt9 d L (storeIdx f ![pos] v msk false h) := by rw [e1, e3, e2]
  iintro H Hk
  ihave H' := (Entails.of_eq e4) $$ H
  iapply (SparseCore.wp_vectorStoreIdx 𝒱₀ (thr d L) none Set.univ (base := s9)) $$ H'
  iintro H
  iapply Hk
  ihave H2 := (Entails.of_eq e5) $$ H
  iexact H2

end Rules

end Cert.KernelIdeal.Tile

end
-- ==== Proof.IdealFill.lean ====
/-
  Filling the tile's lists: the stores of sixteen equal entries, and what holds of the first entries after each.
-/
module

public import proofs.«01_k».proof.Proof.IdealBase

@[expose] public section

noncomputable section

namespace Cert.KernelIdeal.Tile

open Cert.KernelIdeal Cert.KernelIdeal.Gen
open Cert.Append Cert.Rows
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

local notation "𝕄" => MT nD τ sig (HIx 1) (Elt F) ℕ UU ℕ

/-- The first `m` entries of a list are `w`. -/
def Filled {e : EltTy} {n : Nat} (w : Elt F e) (m : Nat) (f : Vec F ⟨1, ![n]⟩ e) : Prop := ∀ j, (j 0).val < m → f j = w

variable {α : Type}

/-- The list of chunks, its first `m` entries filled. -/
def fl9 (w : Elt F .i32) (m : Nat) : sProp 𝕄 := iprop(∃ f : Vec F S256 .i32, ⌜Filled w m f⌝ ∗ pt9 d L f)

theorem load9 {Q : α → sProp 𝕄} (w : Elt F .i32) (m l : Nat) (hl : ∀ a, (![l] : Fin 1 → Nat) a + S16.size a ≤ S256.size a)
    {hx : s9.view.LoadsAt (Rect.unit (s := S256) ![l] S16.size hl).toLoadRect}
    (k : Prog (TpuEff nD τ sig (Elt F) Λ₀ (.scVector (cV L) (jV L))) α) :
    fl9 d L w m ⊢ iprop((fl9 d L w m -∗ wpT d L k Q)
      -∗ wpT d L (.op (.load s9 (Rect.unit (s := S256) ![l] S16.size hl).toLoadRect hx) fun _ => k) Q) := by
  unfold fl9
  iintro ⟨%f, %hf, H⟩ Hk
  iapply (wp_load 𝒱₀ (thr d L) none Set.univ (m := s9) (S := Finset.univ) (Finset.subset_univ _)) $$ H
  iintro H
  iapply Hk
  iexists f
  isplitr
  · ipureintro; exact hf
  · iexact H

theorem store9 {Q : α → sProp 𝕄} (w : Elt F .i32) (v : Vec F S16 .i32) (hv : v = fun _ => w) (l : Nat) (hl : ∀ a, (![l] : Fin 1 → Nat) a + S16.size a ≤ S256.size a)
    {hx : (s9.access (Rect.unit (s := S256) ![l] S16.size hl)).Stores Finset.univ}
    {hm : (Finset.univ : Finset (Rect.unit (s := S256) ![l] S16.size hl).shape.Idx) = Finset.univ ∨ ∀ a, (Rect.unit (s := S256) ![l] S16.size hl).stride a = 1}
    (k : PUnit → Prog (TpuEff nD τ sig (Elt F) Λ₀ (.scVector (cV L) (jV L))) α) :
    fl9 d L w l ⊢ iprop((fl9 d L w (l + 16) -∗ wpT d L (k ⟨⟩) Q)
      -∗ wpT d L (.op (.store s9 (Rect.unit (s := S256) ![l] S16.size hl) v Finset.univ hx hm) k) Q) := by
  subst hv
  unfold fl9
  iintro ⟨%f, %hf, H⟩ Hk
  iapply (wp_store 𝒱₀ (thr d L) none Set.univ (m := s9) (r := Rect.unit (s := S256) ![l] S16.size hl) (S := Finset.univ) (Finset.subset_univ _)) $$ H
  iintro H
  iapply Hk
  iexists _
  isplitr
  rotate_left
  · iexact H
  · ipureintro
    intro j hj
    by_cases h : j ∈ (s9.access (Rect.unit (s := S256) ![l] S16.size hl)).setOn Finset.univ
    · obtain ⟨x, -, rfl⟩ := Finset.mem_map.mp h
      exact View.write_emb_of_mem (Val := Elt F) (v := s9.access (Rect.unit (s := S256) ![l] S16.size hl)) f (fun _ => w) (Finset.mem_univ x)
    · refine (View.write_of_not_mem (Val := Elt F) (v := s9.access (Rect.unit (s := S256) ![l] S16.size hl)) f (fun _ => w) Finset.univ h).trans ?_
      by_cases hj' : (j 0).val < l
      · exact hf j hj'
      · refine absurd (Finset.mem_map.mpr ⟨lane ⟨(j 0).val - l, by omega⟩, Finset.mem_univ _, ?_⟩) h
        refine (eq_at1 _ (j 0).isLt ?_).trans (eq_at1 j (j 0).isLt rfl).symm
        show l + 1 * ((j 0).val - l) = _
        omega

/-- The list of scores, its first `m` entries filled. -/
def fl11 (w : Elt F .f32) (m : Nat) : sProp 𝕄 := iprop(∃ f : Vec F S512 .f32, ⌜Filled w m f⌝ ∗ pt11 d L f)

theorem load11 {Q : α → sProp 𝕄} (w : Elt F .f32) (m l : Nat) (hl : ∀ a, (![l] : Fin 1 → Nat) a + S16.size a ≤ S512.size a)
    {hx : s11.view.LoadsAt (Rect.unit (s := S512) ![l] S16.size hl).toLoadRect}
    (k : Prog (TpuEff nD τ sig (Elt F) Λ₀ (.scVector (cV L) (jV L))) α) :
    fl11 d L w m ⊢ iprop((fl11 d L w m -∗ wpT d L k Q)
      -∗ wpT d L (.op (.load s11 (Rect.unit (s := S512) ![l] S16.size hl).toLoadRect hx) fun _ => k) Q) := by
  unfold fl11
  iintro ⟨%f, %hf, H⟩ Hk
  iapply (wp_load 𝒱₀ (thr d L) none Set.univ (m := s11) (S := Finset.univ) (Finset.subset_univ _)) $$ H
  iintro H
  iapply Hk
  iexists f
  isplitr
  · ipureintro; exact hf
  · iexact H

theorem store11 {Q : α → sProp 𝕄} (w : Elt F .f32) (v : Vec F S16 .f32) (hv : v = fun _ => w) (l : Nat) (hl : ∀ a, (![l] : Fin 1 → Nat) a + S16.size a ≤ S512.size a)
    {hx : (s11.access (Rect.unit (s := S512) ![l] S16.size hl)).Stores Finset.univ}
    {hm : (Finset.univ : Finset (Rect.unit (s := S512) ![l] S16.size hl).shape.Idx) = Finset.univ ∨ ∀ a, (Rect.unit (s := S512) ![l] S16.size hl).stride a = 1}
    (k : PUnit → Prog (TpuEff nD τ sig (Elt F) Λ₀ (.scVector (cV L) (jV L))) α) :
    fl11 d L w l ⊢ iprop((fl11 d L w (l + 16) -∗ wpT d L (k ⟨⟩) Q)
      -∗ wpT d L (.op (.store s11 (Rect.unit (s := S512) ![l] S16.size hl) v Finset.univ hx hm) k) Q) := by
  subst hv
  unfold fl11
  iintro ⟨%f, %hf, H⟩ Hk
  iapply (wp_store 𝒱₀ (thr d L) none Set.univ (m := s11) (r := Rect.unit (s := S512) ![l] S16.size hl) (S := Finset.univ) (Finset.subset_univ _)) $$ H
  iintro H
  iapply Hk
  iexists _
  isplitr
  rotate_left
  · iexact H
  · ipureintro
    intro j hj
    by_cases h : j ∈ (s11.access (Rect.unit (s := S512) ![l] S16.size hl)).setOn Finset.univ
    · obtain ⟨x, -, rfl⟩ := Finset.mem_map.mp h
      exact View.write_emb_of_mem (Val := Elt F) (v := s11.access (Rect.unit (s := S512) ![l] S16.size hl)) f (fun _ => w) (Finset.mem_univ x)
    · refine (View.write_of_not_mem (Val := Elt F) (v := s11.access (Rect.unit (s := S512) ![l] S16.size hl)) f (fun _ => w) Finset.univ h).trans ?_
      by_cases hj' : (j 0).val < l
      · exact hf j hj'
      · refine absurd (Finset.mem_map.mpr ⟨lane ⟨(j 0).val - l, by omega⟩, Finset.mem_univ _, ?_⟩) h
        refine (eq_at1 _ (j 0).isLt ?_).trans (eq_at1 j (j 0).isLt rfl).symm
        show l + 1 * ((j 0).val - l) = _
        omega

/-- The list of columns, its first `m` entries filled. -/
def fl12 (w : Elt F .i32) (m : Nat) : sProp 𝕄 := iprop(∃ f : Vec F S512 .i32, ⌜Filled w m f⌝ ∗ pt12 d L f)

theorem load12 {Q : α → sProp 𝕄} (w : Elt F .i32) (m l : Nat) (hl : ∀ a, (![l] : Fin 1 → Nat) a + S16.size a ≤ S512.size a)
    {hx : s12.view.LoadsAt (Rect.unit (s := S512) ![l] S16.size hl).toLoadRect}
    (k : Prog (TpuEff nD τ sig (Elt F) Λ₀ (.scVector (cV L) (jV L))) α) :
    fl12 d L w m ⊢ iprop((fl12 d L w m -∗ wpT d L k Q)
      -∗ wpT d L (.op (.load s12 (Rect.unit (s := S512) ![l] S16.size hl).toLoadRect hx) fun _ => k) Q) := by
  unfold fl12
  iintro ⟨%f, %hf, H⟩ Hk
  iapply (wp_load 𝒱₀ (thr d L) none Set.univ (m := s12) (S := Finset.univ) (Finset.subset_univ _)) $$ H
  iintro H
  iapply Hk
  iexists f
  isplitr
  · ipureintro; exact hf
  · iexact H

theorem store12 {Q : α → sProp 𝕄} (w : Elt F .i32) (v : Vec F S16 .i32) (hv : v = fun _ => w) (l : Nat) (hl : ∀ a, (![l] : Fin 1 → Nat) a + S16.size a ≤ S512.size a)
    {hx : (s12.access (Rect.unit (s := S512) ![l] S16.size hl)).Stores Finset.univ}
    {hm : (Finset.univ : Finset (Rect.unit (s := S512) ![l] S16.size hl).shape.Idx) = Finset.univ ∨ ∀ a, (Rect.unit (s := S512) ![l] S16.size hl).stride a = 1}
    (k : PUnit → Prog (TpuEff nD τ sig (Elt F) Λ₀ (.scVector (cV L) (jV L))) α) :
    fl12 d L w l ⊢ iprop((fl12 d L w (l + 16) -∗ wpT d L (k ⟨⟩) Q)
      -∗ wpT d L (.op (.store s12 (Rect.unit (s := S512) ![l] S16.size hl) v Finset.univ hx hm) k) Q) := by
  subst hv
  unfold fl12
  iintro ⟨%f, %hf, H⟩ Hk
  iapply (wp_store 𝒱₀ (thr d L) none Set.univ (m := s12) (r := Rect.unit (s := S512) ![l] S16.size hl) (S := Finset.univ) (Finset.subset_univ _)) $$ H
  iintro H
  iapply Hk
  iexists _
  isplitr
  rotate_left
  · iexact H
  · ipureintro
    intro j hj
    by_cases h : j ∈ (s12.access (Rect.unit (s := S512) ![l] S16.size hl)).setOn Finset.univ
    · obtain ⟨x, -, rfl⟩ := Finset.mem_map.mp h
      exact View.write_emb_of_mem (Val := Elt F) (v := s12.access (Rect.unit (s := S512) ![l] S16.size hl)) f (fun _ => w) (Finset.mem_univ x)
    · refine (View.write_of_not_mem (Val := Elt F) (v := s12.access (Rect.unit (s := S512) ![l] S16.size hl)) f (fun _ => w) Finset.univ h).trans ?_
      by_cases hj' : (j 0).val < l
      · exact hf j hj'
      · refine absurd (Finset.mem_map.mpr ⟨lane ⟨(j 0).val - l, by omega⟩, Finset.mem_univ _, ?_⟩) h
        refine (eq_at1 _ (j 0).isLt ?_).trans (eq_at1 j (j 0).isLt rfl).symm
        show l + 1 * ((j 0).val - l) = _
        omega

end Cert.KernelIdeal.Tile

end
-- ==== Proof.IdealStep.lean ====
/-
  One vector of sixteen scores appended, the eight of a gathered row, and the sixteen rows of a group, as steps of the
  list's state.
-/
module

public import proofs.«01_k».proof.Proof.IdealBase

@[expose] public section

noncomputable section

namespace Cert.KernelIdeal.Tile

open Cert.KernelIdeal Cert.KernelIdeal.Gen
open Cert.Append Cert.Rows
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

local notation "𝕄" => MT nD τ sig (HIx 1) (Elt F) ℕ UU ℕ

/-- A gathered row of the tile's buffer. -/
abbrev rowM (off : Fin 2 → Nat) (ho : ∀ a, off a + S1x128.size a ≤ S256x128.size a) : Memref sig .scVector .vmem S128 .f32 :=
  (s10.slice (Rect.unit (s := S256x128) off S1x128.size ho) (fun _ => rfl)).squeeze S128 squeezes_S1x128_S128

/-- What a load of sixteen lanes of one gathered row reads. -/
theorem row_read (f : Vec F S256x128 .f32) (off : Fin 2 → Nat) (ho : ∀ a, off a + S1x128.size a ≤ S256x128.size a) (r : Nat) (hr : r < 256)
    (hoff : off 0 = r) (hoff1 : off 1 = 0) (l : Nat) (hl : ∀ a, (![l] : Fin 1 → Nat) a + S16.size a ≤ S128.size a) (k : Fin 16) (hlk : l + k.val < 128) :
    ((rowM off ho).view.readAt (Elt F)
      (Rect.unit (s := S128) ![l] S16.size hl).toLoadRect f (lane k) : Elt F .f32) = f (at2 ⟨r, hr⟩ ⟨l + k.val, hlk⟩) := by
  have hn : S128.numel = S1x128.numel := by decide
  show f ((Rect.unit (s := S256x128) off S1x128.size ho).emb (Shape.reshapeEquiv hn ((Rect.unit (s := S128) ![l] S16.size hl).emb (lane k)))) = _
  refine congrArg f (eq_at2 _ hr hlk ?_ ?_)
  · rw [reshape_row]
    show off 0 + 1 * 0 = r
    omega
  · rw [reshape_row]
    show off 1 + 1 * (l + 1 * k.val) = _
    omega

/-- The score that candidate `q` of the gathered chunks is. -/
def itemV (f10 : Vec F S256x128 .f32) (q : Nat) : Elt F .f32 :=
  f10 (at2 ⟨q / 128 % 256, Nat.mod_lt _ (by decide)⟩ ⟨q % 128, Nat.mod_lt _ (by decide)⟩)

/-- Its column, from the chunks' numbers. -/
def itemI (f9 : Vec F S256 .i32) (v5 : BitVec 32) (q : Nat) : Elt F .i32 :=
  Scalar.muli (Scalar.subi (f9 (at1 ⟨q / 128 % 256, Nat.mod_lt _ (by decide)⟩)) (Scalar.muli v5 800#32)) 128#32 + BitVec.ofNat 32 (q % 128)

/-- Whether it is at least the threshold of its lane. -/
def live2 (f10 : Vec F S256x128 .f32) (v6 : Vec F S16 .f32) (q : Nat) : Bool :=
  decide (FloatOps.cmpf .oge (itemV f10 q) (v6 (lane ⟨q % 16, Nat.mod_lt _ (by decide)⟩)) = 1#1)

/-- The two lists after `p` candidates. -/
def St (f9 : Vec F S256 .i32) (f10 : Vec F S256x128 .f32) (v5 : BitVec 32) (v6 : Vec F S16 .f32) (iv : Elt F .f32) (p : Nat) : sProp 𝕄 :=
  iprop(∃ f11 : Vec F S512 .f32, ∃ f12 : Vec F S512 .i32, ⌜Inv (live2 f10 v6) (itemV f10) iv p f11 ∧ Inv (live2 f10 v6) (itemI f9 v5) 2147483647#32 p f12⌝
    ∗ pt11 d L f11 ∗ pt12 d L f12)

/-- The list's length as the program keeps it. -/
abbrev offv (n : Nat) : IVec S16 32 := broadcast S16 (BitVec.ofNat 32 n)

theorem chk3_of (pos : IVec S16 32) (h : ∀ x, (pos x).toNat < 512) : k0_chk3 pos := by
  have h' : ∀ a x, ((![pos] : Fin 1 → IVec S16 32) a x).toNat < S512.size a := by
    intro a x
    obtain rfl : a = 0 := Subsingleton.elim _ _
    exact h x
  exact ⟨h', h'⟩

section Steps

variable (f9 : Vec F S256 .i32) (f10 : Vec F S256x128 .f32) (v5 : BitVec 32) (v6 : Vec F S16 .f32) (iv : Elt F .f32)
variable (v2 : IVec S16 32) (hv2 : ∀ k : Fin 16, v2 (lane k) = BitVec.ofNat 32 k.val)
variable (v96 : BitVec 32) (hw : k0_chk2 v96) (t : Fin (k0_t3_loop v96).trips)
variable {α : Type}
include hv2

theorem step_wp {Q : α → sProp 𝕄} (base : BitVec 32) (j : Nat) (hj : j ≤ 15) (l : Nat) (hl : ∀ a, (![l] : Fin 1 → Nat) a + S16.size a ≤ S128.size a)
    (r : Nat) (hr : r < 256) (hro : rowOff v96 t j 0 = r) (hl16 : l % 16 = 0)
    (hb : base = Scalar.muli (Scalar.subi (f9 (at1 ⟨r, hr⟩)) (Scalar.muli v5 800#32)) 128#32)
    (k : IVec S16 32 → Prog (TpuEff nD τ sig (Elt F) Λ₀ (.scVector (cV L) (jV L))) α) :
    iprop(St d L f9 f10 v5 v6 iv (r * 128 + l) ∗ pt10 d L f10) ⊢
      iprop((St d L f9 f10 v5 v6 iv (r * 128 + (l + 16)) ∗ pt10 d L f10 -∗ wpT d L (k (offv (rk (live2 f10 v6) (r * 128 + (l + 16))))) Q)
      -∗ wpT d L (step L s10 s11 s12 v2 v6 v96 hw t base j hj l hl (offv (rk (live2 f10 v6) (r * 128 + l))) >>= k) Q) := by
  have hl128 : l + 16 ≤ 128 := hl 0
  have hval : ∀ k : Fin 16, ((rowM (rowOff v96 t j) (rowOff_inb v96 hw t j hj)).view.readAt (Elt F)
      (Rect.unit (s := S128) ![l] S16.size hl).toLoadRect f10 (lane k) : Elt F .f32) = itemV f10 (r * 128 + l + k.val) := by
    intro k
    rw [row_read f10 _ (rowOff_inb v96 hw t j hj) r hr hro rfl l hl k (by omega)]
    unfold itemV
    refine congrArg f10 ?_
    have h1 : (r * 128 + l + k.val) / 128 % 256 = r := by omega
    have h2 : (r * 128 + l + k.val) % 128 = l + k.val := by omega
    simp only [h1, h2]
  have hrk : rk (live2 f10 v6) (r * 128 + l) < 2 ^ 31 := lt_of_le_of_lt (rk_le _ _) (by omega)
  unfold step
  simp only [Prog.lift, Prog.bind_op, Prog.bind_ret, Prog.pure_eq_ret, bind_assoc, pure_bind]
  unfold St
  iintro ⟨⟨%f11, %f12, %hI, H11, H12⟩, H10⟩ Hk
  iapply (wp_load 𝒱₀ (thr d L) none Set.univ (m := rowM (rowOff v96 t j) (rowOff_inb v96 hw t j hj)) (S := Finset.univ) (Finset.subset_univ _)) $$ H10
  iintro H10
  obtain ⟨val, hval'⟩ : ∃ val : Vec F S16 .f32, (rowM (rowOff v96 t j) (rowOff_inb v96 hw t j hj)).view.readAt (Elt F)
      (Rect.unit (s := S128) ![l] S16.size hl).toLoadRect f10 = val := ⟨_, rfl⟩
  rw [hval'] at hval ⊢
  have hlive : ∀ k : Fin 16, cmpf .oge val v6 (lane k) = 1#1 ↔ live2 f10 v6 (r * 128 + l + k.val) = true := by
    intro k
    unfold live2
    rw [decide_eq_true_iff]
    show FloatOps.cmpf .oge (val (lane k)) (v6 (lane k)) = 1#1 ↔ _
    rw [hval k]
    have h1 : (r * 128 + l + k.val) % 16 = k.val := by omega
    simp only [h1]
  have hpos := fun x => pos_toNat (cmpf .oge val v6) natLt_1_32 (rk (live2 f10 v6) (r * 128 + l)) 496 hrk (by decide) x
  have hchk : k0_chk3 (addi (minsi (offv (rk (live2 f10 v6) (r * 128 + l))) (broadcast S16 496#32))
      (subi (scan .sum (extui 32 (cmpf .oge val v6) natLt_1_32)) (extui 32 (cmpf .oge val v6) natLt_1_32))) := by
    refine chk3_of _ fun x => ?_
    have := cnt_le (cmpf .oge val v6) (x 0).val
    have : (x 0).val < 16 := (x 0).isLt
    refine (hpos x).trans_lt ?_
    omega
  iapply (wp_assume 𝒱₀ (thr d L) none Set.univ hchk)
  iapply (wp_scatter11 d L _ _ _ _ _ _ _) $$ H11
  iintro H11
  iapply (wp_scatter12 d L _ _ _ _ _ _ _) $$ H12
  iintro H12
  rw [off_step (cmpf .oge val v6) natLt_1_32 (rk (live2 f10 v6) (r * 128 + l)) slices_S16_o15_S1 inpos_S1_p0,
    ← rk_add (live2 f10 v6) (r * 128 + l) (cmpf .oge val v6) hlive 16 le_rfl]
  iapply Hk
  isplitr [H10]
  · iexists _; iexists _
    isplitr
    rotate_left
    · isplitl [H11]
      · iexact H11
      · iexact H12
    · ipureintro
      refine ⟨hI.1.step _ _ _ _ hlive hval ?_, hI.2.step _ _ _ _ hlive ?_ ?_⟩
      · intro hc k
        rw [hpos (lane k), lane_zero]
        omega
      · intro k
        show base + BitVec.ofNat 32 l + v2 (lane k) = _
        rw [hv2 k, hb]
        unfold itemI
        have h1 : (r * 128 + l + k.val) / 128 % 256 = r := by omega
        have h2 : (r * 128 + l + k.val) % 128 = l + k.val := by omega
        simp only [h1, h2]
        rw [BitVec.add_assoc, BitVec.ofNat_add]
      · intro hc k
        rw [hpos (lane k), lane_zero]
        omega
  · iexact H10

theorem chunk_wp {Q : α → sProp 𝕄} (v138 : IVec S16 32) (j : Nat) (hj : j ≤ 15) (hs : S16.Slices ![j] S1)
    (r : Nat) (hr : r < 256) (hro : rowOff v96 t j 0 = r) (h138 : extractAt ![0] (extractStridedSlice S1 ![j] v138 hs) inpos_S1_p0 = f9 (at1 ⟨r, hr⟩))
    (k : IVec S16 32 → Prog (TpuEff nD τ sig (Elt F) Λ₀ (.scVector (cV L) (jV L))) α) :
    iprop(St d L f9 f10 v5 v6 iv (r * 128) ∗ pt10 d L f10) ⊢
      iprop((St d L f9 f10 v5 v6 iv ((r + 1) * 128) ∗ pt10 d L f10 -∗ wpT d L (k (offv (rk (live2 f10 v6) ((r + 1) * 128)))) Q)
      -∗ wpT d L (chunkSteps L s10 s11 s12 v2 v5 v6 v96 hw t v138 j hj hs (offv (rk (live2 f10 v6) (r * 128))) >>= k) Q) := by
  have S := fun l hl hl16 k => step_wp d L f9 f10 v5 v6 iv v2 hv2 v96 hw t (Q := Q) _ j hj l hl r hr hro hl16 rfl k
  unfold chunkSteps
  simp only [bind_assoc, pure_bind]
  rw [h138]
  iintro H Hk
  iapply (S 0 inb_S128_S16_0 rfl _) $$ H; iintro H
  iapply (S 16 inb_S128_S16_16 rfl _) $$ H; iintro H
  iapply (S 32 inb_S128_S16_32 rfl _) $$ H; iintro H
  iapply (S 48 inb_S128_S16_48 rfl _) $$ H; iintro H
  iapply (S 64 inb_S128_S16_64 rfl _) $$ H; iintro H
  iapply (S 80 inb_S128_S16_80 rfl _) $$ H; iintro H
  iapply (S 96 inb_S128_S16_96 rfl _) $$ H; iintro H
  iapply (S 112 inb_S128_S16_112 rfl _) $$ H; iintro H
  rw [show r * 128 + (112 + 16) = (r + 1) * 128 by omega]
  iapply Hk $$ H

theorem group_wp {Q : α → sProp 𝕄} (hro : ∀ j, j ≤ 15 → rowOff v96 t j 0 = 16 * t.val + j) (ht : t.val < 16)
    (k : IVec S16 32 → Prog (TpuEff nD τ sig (Elt F) Λ₀ (.scVector (cV L) (jV L))) α) :
    iprop(St d L f9 f10 v5 v6 iv (16 * t.val * 128) ∗ pt10 d L f10 ∗ pt9 d L f9) ⊢
      iprop((St d L f9 f10 v5 v6 iv (16 * (t.val + 1) * 128) ∗ pt10 d L f10 ∗ pt9 d L f9 -∗ wpT d L (k (offv (rk (live2 f10 v6) (16 * (t.val + 1) * 128)))) Q)
      -∗ wpT d L (groupSteps L s9 s10 s11 s12 v2 v5 v6 v96 hw t (offv (rk (live2 f10 v6) (16 * t.val * 128))) >>= k) Q) := by
  unfold groupSteps
  simp only [Prog.lift, Prog.bind_op, Prog.bind_ret, bind_assoc, pure_bind]
  iintro ⟨HS, H10, H9⟩ Hk
  iapply (wp_load 𝒱₀ (thr d L) none Set.univ (m := s9) (S := Finset.univ) (Finset.subset_univ _)) $$ H9
  iintro H9
  obtain ⟨v138, hv138⟩ : ∃ v138 : Vec F S16 .i32, s9.view.readAt (Elt F) (Rect.unit (s := S256) (k0_off4 v96 t) S16.size (k0_off4_inb v96 hw t)).toLoadRect f9 = v138 := ⟨_, rfl⟩
  rw [hv138]
  have h138 : ∀ (j : Nat) (hj : j ≤ 15) (hs : S16.Slices ![j] S1), extractAt ![0] (extractStridedSlice S1 ![j] v138 hs) inpos_S1_p0
      = f9 (at1 ⟨16 * t.val + j, by omega⟩) := by
    intro j hj hs
    rw [← hv138]
    show f9 _ = f9 _
    refine congrArg f9 (eq_at1 _ _ ?_)
    have h0 := hro 0 (by decide)
    have h1 : rowOff v96 t 0 0 = k0_off4 v96 t 0 := by
      show (Scf.iv 0#32 1#32 t.val * 16#32 + 0#32).toNat = (Scf.iv 0#32 1#32 t.val * 16#32).toNat
      rw [BitVec.add_zero]
    show k0_off4 v96 t 0 + 1 * (j + 1 * 0) = _
    omega
  have C := fun j hj hs k => chunk_wp d L f9 f10 v5 v6 iv v2 hv2 v96 hw t (Q := Q) _ j hj hs _ _ (hro j hj) (h138 j hj hs) k
  iapply (C 0 _ slices_S16_o0_S1 _) $$ [HS H10]
  · isplitl [HS]
    · iexact HS
    · iexact H10
  iintro H
  iapply (C 1 _ slices_S16_o1_S1 _) $$ H; iintro H
  iapply (C 2 _ slices_S16_o2_S1 _) $$ H; iintro H
  iapply (C 3 _ slices_S16_o3_S1 _) $$ H; iintro H
  iapply (C 4 _ slices_S16_o4_S1 _) $$ H; iintro H
  iapply (C 5 _ slices_S16_o5_S1 _) $$ H; iintro H
  iapply (C 6 _ slices_S16_o6_S1 _) $$ H; iintro H
  iapply (C 7 _ slices_S16_o7_S1 _) $$ H; iintro H
  iapply (C 8 _ slices_S16_o8_S1 _) $$ H; iintro H
  iapply (C 9 _ slices_S16_o9_S1 _) $$ H; iintro H
  iapply (C 10 _ slices_S16_o10_S1 _) $$ H; iintro H
  iapply (C 11 _ slices_S16_o11_S1 _) $$ H; iintro H
  iapply (C 12 _ slices_S16_o12_S1 _) $$ H; iintro H
  iapply (C 13 _ slices_S16_o13_S1 _) $$ H; iintro H
  iapply (C 14 _ slices_S16_o14_S1 _) $$ H; iintro H
  iapply (C 15 _ slices_S16_o15_S1 _) $$ H; iintro ⟨HS, H10⟩
  rw [show (16 * t.val + 15 + 1) * 128 = 16 * (t.val + 1) * 128 by omega]
  iapply Hk
  isplitl [HS]
  · iexact HS
  isplitl [H10]
  · iexact H10
  · iexact H9

end Steps

end Cert.KernelIdeal.Tile

end
-- ==== Proof.IdealCounts.lean ====
/-
  The inner loops' trip counts from the number of live chunks, and the bounds of the rows they read.
-/
module

public import proofs.«01_k».proof.Proof.IdealGroup

@[expose] public section

noncomputable section

namespace Cert.KernelIdeal.Tile

open Cert.KernelIdeal
open Idealize.ShloMosaic

theorem t3_trips_fin : ∀ n : Fin 801, (k0_t3_loop (BitVec.ofNat 32 n.val)).trips = (min n.val 256 + 15) / 16 := by decide +kernel

theorem t3_ok_fin : ∀ n : Fin 801, (k0_t3_loop (BitVec.ofNat 32 n.val)).OK := by decide +kernel

theorem t4_trips_fin : ∀ n : Fin 801, (k0_t4_loop (BitVec.ofNat 32 n.val)).trips = 0 := by decide +kernel

theorem t4_ok_fin : ∀ n : Fin 801, (k0_t4_loop (BitVec.ofNat 32 n.val)).OK := by decide +kernel

/-- As many groups of sixteen as the live chunks (at most 256) fill. -/
theorem t3_trips (n : Nat) (hn : n ≤ 800) : (k0_t3_loop (BitVec.ofNat 32 n)).trips = (min n 256 + 15) / 16 := t3_trips_fin ⟨n, by omega⟩

theorem t4_trips (n : Nat) (hn : n ≤ 800) : (k0_t4_loop (BitVec.ofNat 32 n)).trips = 0 := t4_trips_fin ⟨n, by omega⟩

/-- The loop variable is the trip. -/
theorem iv_eq (t : Nat) : Scf.iv 0#32 1#32 t = BitVec.ofNat 32 t := by
  simp [Scf.iv]

theorem row_inb (t : Nat) (ht : t < 16) (c : BitVec 32) (hc : c.toNat ≤ 15) :
    ∀ a, (![(Scalar.addi (Scalar.muli (Scf.iv 0#32 1#32 t) 16#32) c).toNat, 0] : Fin 2 → Nat) a + S1x128.size a ≤ S256x128.size a := by
  intro a
  rw [iv_eq]
  fin_cases a
  · show (BitVec.ofNat 32 t * 16#32 + c).toNat + 1 ≤ 256
    simp only [BitVec.toNat_add, BitVec.toNat_mul, BitVec.toNat_ofNat]
    omega
  · show 0 + 128 ≤ 128
    omega

theorem lanes_inb (t : Nat) (ht : t < 16) :
    ∀ a, (![(Scalar.muli (Scf.iv 0#32 1#32 t) 16#32).toNat] : Fin 1 → Nat) a + S16.size a ≤ S256.size a := by
  intro a
  rw [iv_eq]
  fin_cases a
  show (BitVec.ofNat 32 t * 16#32).toNat + 16 ≤ 256
  simp only [BitVec.toNat_mul, BitVec.toNat_ofNat]
  omega

/-- The row a group reads is its sixteenfold plus the chunk's place. -/
theorem rowOff_eq (v96 : BitVec 32) (t : Fin (k0_t3_loop v96).trips) (ht : t.val < 16) (j : Nat) (hj : j ≤ 15) : rowOff v96 t j 0 = 16 * t.val + j := by
  show (Scf.iv 0#32 1#32 t.val * 16#32 + BitVec.ofNat 32 j).toNat = _
  rw [iv_eq]
  simp only [BitVec.toNat_add, BitVec.toNat_mul, BitVec.toNat_ofNat]
  omega

theorem trip_lt (n : Nat) (hn : n ≤ 800) (t : Fin (k0_t3_loop (BitVec.ofNat 32 n)).trips) : t.val < 16 := by
  have h := lt_of_lt_of_eq t.isLt (t3_trips n hn)
  omega

theorem no_trip (n : Nat) (hn : n ≤ 800) (t : Fin (k0_t4_loop (BitVec.ofNat 32 n)).trips) : False := by
  have h := lt_of_lt_of_eq t.isLt (t4_trips n hn)
  omega

section Checks

variable (n : Nat) (hn : n ≤ 800)
include hn

theorem chk2_0_of : k0_chk2_0 (BitVec.ofNat 32 n) := by
  have h3 : (k0_t3_loop (BitVec.ofNat 32 n)).OK := t3_ok_fin ⟨n, by omega⟩
  have r : ∀ (c : BitVec 32), c.toNat ≤ 15 → ∀ t : Fin (k0_t3_loop (BitVec.ofNat 32 n)).trips, ∀ a, (![(Scalar.addi (Scalar.muli (Scf.iv 0#32 1#32 t) 16#32) c).toNat, 0] : Fin 2 → Nat) a + S1x128.size a ≤ S256x128.size a :=
    fun c hc t => row_inb t.val (trip_lt n hn t) c hc
  exact ⟨h3,
    fun t => lanes_inb t.val (trip_lt n hn t),
    r 0#32 (by decide),
    r 0#32 (by decide),
    r 0#32 (by decide),
    r 0#32 (by decide),
    r 0#32 (by decide),
    r 0#32 (by decide),
    r 0#32 (by decide),
    r 0#32 (by decide),
    r 1#32 (by decide),
    r 1#32 (by decide),
    r 1#32 (by decide),
    r 1#32 (by decide),
    r 1#32 (by decide),
    r 1#32 (by decide),
    r 1#32 (by decide),
    r 1#32 (by decide),
    r 2#32 (by decide),
    r 2#32 (by decide),
    r 2#32 (by decide),
    r 2#32 (by decide),
    r 2#32 (by decide),
    r 2#32 (by decide),
    r 2#32 (by decide),
    r 2#32 (by decide),
    r 3#32 (by decide),
    r 3#32 (by decide),
    r 3#32 (by decide),
    r 3#32 (by decide),
    r 3#32 (by decide),
    r 3#32 (by decide)⟩

theorem chk2_1_of : k0_chk2_1 (BitVec.ofNat 32 n) := by
  have r : ∀ (c : BitVec 32), c.toNat ≤ 15 → ∀ t : Fin (k0_t3_loop (BitVec.ofNat 32 n)).trips, ∀ a, (![(Scalar.addi (Scalar.muli (Scf.iv 0#32 1#32 t) 16#32) c).toNat, 0] : Fin 2 → Nat) a + S1x128.size a ≤ S256x128.size a :=
    fun c hc t => row_inb t.val (trip_lt n hn t) c hc
  exact ⟨r 3#32 (by decide),
    r 3#32 (by decide),
    r 4#32 (by decide),
    r 4#32 (by decide),
    r 4#32 (by decide),
    r 4#32 (by decide),
    r 4#32 (by decide),
    r 4#32 (by decide),
    r 4#32 (by decide),
    r 4#32 (by decide),
    r 5#32 (by decide),
    r 5#32 (by decide),
    r 5#32 (by decide),
    r 5#32 (by decide),
    r 5#32 (by decide),
    r 5#32 (by decide),
    r 5#32 (by decide),
    r 5#32 (by decide),
    r 6#32 (by decide),
    r 6#32 (by decide),
    r 6#32 (by decide),
    r 6#32 (by decide),
    r 6#32 (by decide),
    r 6#32 (by decide),
    r 6#32 (by decide),
    r 6#32 (by decide),
    r 7#32 (by decide),
    r 7#32 (by decide),
    r 7#32 (by decide),
    r 7#32 (by decide),
    r 7#32 (by decide),
    r 7#32 (by decide)⟩

theorem chk2_2_of : k0_chk2_2 (BitVec.ofNat 32 n) := by
  have r : ∀ (c : BitVec 32), c.toNat ≤ 15 → ∀ t : Fin (k0_t3_loop (BitVec.ofNat 32 n)).trips, ∀ a, (![(Scalar.addi (Scalar.muli (Scf.iv 0#32 1#32 t) 16#32) c).toNat, 0] : Fin 2 → Nat) a + S1x128.size a ≤ S256x128.size a :=
    fun c hc t => row_inb t.val (trip_lt n hn t) c hc
  exact ⟨r 7#32 (by decide),
    r 7#32 (by decide),
    r 8#32 (by decide),
    r 8#32 (by decide),
    r 8#32 (by decide),
    r 8#32 (by decide),
    r 8#32 (by decide),
    r 8#32 (by decide),
    r 8#32 (by decide),
    r 8#32 (by decide),
    r 9#32 (by decide),
    r 9#32 (by decide),
    r 9#32 (by decide),
    r 9#32 (by decide),
    r 9#32 (by decide),
    r 9#32 (by decide),
    r 9#32 (by decide),
    r 9#32 (by decide),
    r 10#32 (by decide),
    r 10#32 (by decide),
    r 10#32 (by decide),
    r 10#32 (by decide),
    r 10#32 (by decide),
    r 10#32 (by decide),
    r 10#32 (by decide),
    r 10#32 (by decide),
    r 11#32 (by decide),
    r 11#32 (by decide),
    r 11#32 (by decide),
    r 11#32 (by decide),
    r 11#32 (by decide),
    r 11#32 (by decide)⟩

theorem chk2_3_of : k0_chk2_3 (BitVec.ofNat 32 n) := by
  have r : ∀ (c : BitVec 32), c.toNat ≤ 15 → ∀ t : Fin (k0_t3_loop (BitVec.ofNat 32 n)).trips, ∀ a, (![(Scalar.addi (Scalar.muli (Scf.iv 0#32 1#32 t) 16#32) c).toNat, 0] : Fin 2 → Nat) a + S1x128.size a ≤ S256x128.size a :=
    fun c hc t => row_inb t.val (trip_lt n hn t) c hc
  exact ⟨r 11#32 (by decide),
    r 11#32 (by decide),
    r 12#32 (by decide),
    r 12#32 (by decide),
    r 12#32 (by decide),
    r 12#32 (by decide),
    r 12#32 (by decide),
    r 12#32 (by decide),
    r 12#32 (by decide),
    r 12#32 (by decide),
    r 13#32 (by decide),
    r 13#32 (by decide),
    r 13#32 (by decide),
    r 13#32 (by decide),
    r 13#32 (by decide),
    r 13#32 (by decide),
    r 13#32 (by decide),
    r 13#32 (by decide),
    r 14#32 (by decide),
    r 14#32 (by decide),
    r 14#32 (by decide),
    r 14#32 (by decide),
    r 14#32 (by decide),
    r 14#32 (by decide),
    r 14#32 (by decide),
    r 14#32 (by decide),
    r 15#32 (by decide),
    r 15#32 (by decide),
    r 15#32 (by decide),
    r 15#32 (by decide),
    r 15#32 (by decide),
    r 15#32 (by decide)⟩

theorem chk2_4_of : k0_chk2_4 (BitVec.ofNat 32 n) := by
  have h4 : (k0_t4_loop (BitVec.ofNat 32 n)).OK := t4_ok_fin ⟨n, by omega⟩
  have r : ∀ (c : BitVec 32), c.toNat ≤ 15 → ∀ t : Fin (k0_t3_loop (BitVec.ofNat 32 n)).trips, ∀ a, (![(Scalar.addi (Scalar.muli (Scf.iv 0#32 1#32 t) 16#32) c).toNat, 0] : Fin 2 → Nat) a + S1x128.size a ≤ S256x128.size a :=
    fun c hc t => row_inb t.val (trip_lt n hn t) c hc
  exact ⟨r 15#32 (by decide),
    r 15#32 (by decide),
    h4,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim⟩

theorem chk2_5_of : k0_chk2_5 (BitVec.ofNat 32 n) := by
  exact ⟨fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim⟩

theorem chk2_6_of : k0_chk2_6 (BitVec.ofNat 32 n) := by
  exact ⟨fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim⟩

theorem chk2_7_of : k0_chk2_7 (BitVec.ofNat 32 n) := by
  exact ⟨fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim,
    fun t => (no_trip n hn t).elim⟩

theorem chk2_8_of : k0_chk2_8 (BitVec.ofNat 32 n) := by
  exact ⟨fun t => (no_trip n hn t).elim,
    fun t => (no_trip n hn t).elim,
    fun t => (no_trip n hn t).elim,
    fun t => (no_trip n hn t).elim⟩

/-- The kernel's check of the number of live chunks holds of every number it can be. -/
theorem chk2_of : k0_chk2 (BitVec.ofNat 32 n) :=
  ⟨chk2_0_of n hn, chk2_1_of n hn, chk2_2_of n hn, chk2_3_of n hn, chk2_4_of n hn, chk2_5_of n hn, chk2_6_of n hn, chk2_7_of n hn, chk2_8_of n hn⟩

end Checks

end Cert.KernelIdeal.Tile

end
-- ==== Proof.IdealParts.lean ====
/-
  The kernel's row body, part by part: the fills of the lists and the loop over the row's chunk maxima.
-/
module

public import proofs.«01_k».proof.Proof.IdealFill
public import proofs.«01_k».proof.Proof.IdealStep
public import proofs.«01_k».proof.Proof.IdealCounts

@[expose] public section

noncomputable section

namespace Cert.KernelIdeal.Tile

open Cert.KernelIdeal Cert.KernelIdeal.Gen
open Cert.Append Cert.Rows
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

local notation "𝕄" => MT nD τ sig (HIx 1) (Elt F) ℕ UU ℕ

variable {α : Type}

abbrev p119 (v1 : BitVec 32) (t : Fin k0_t1_loop.trips) : Prog (TpuEff nD τ sig (Elt F) Λ₀ (.scVector (cV L) (jV L))) (Σ' (v5 : BitVec 32) (v6 : Vec F S16 .f32), IVec S16 32) :=
  k0_part119 L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v1 0#32 1#32 t

abbrev p120 (v9 : IVec S16 32) : Prog (TpuEff nD τ sig (Elt F) Λ₀ (.scVector (cV L) (jV L))) (Σ' (v26 : FVec F S16 .f32), IVec S16 32) :=
  k0_part120 L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v9

abbrev p121 (v26 : FVec F S16 .f32) (v27 : IVec S16 32) : Prog (TpuEff nD τ sig (Elt F) Λ₀ (.scVector (cV L) (jV L))) (PUnit) :=
  k0_part121 L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v26 v27

abbrev p122 (v26 : FVec F S16 .f32) (v27 : IVec S16 32) : Prog (TpuEff nD τ sig (Elt F) Λ₀ (.scVector (cV L) (jV L))) (PUnit) :=
  k0_part122 L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v26 v27

abbrev p123 (v2 : IVec S16 32) (v5 : BitVec 32) (v6 : Vec F S16 .f32) (v26 : FVec F S16 .f32) (v27 : IVec S16 32) : Prog (TpuEff nD τ sig (Elt F) Λ₀ (.scVector (cV L) (jV L))) (Σ' (v96 : BitVec 32) (k0_hw2 : k0_chk2 v96), BitVec 32) :=
  k0_part123 L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v2 v5 v6 v26 v27

abbrev p124 (v97 : BitVec 32) : Prog (TpuEff nD τ sig (Elt F) Λ₀ (.scVector (cV L) (jV L))) (Σ' (v127 : BitVec 32), IVec S16 32) :=
  k0_part124 L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v97

abbrev b2 (v2 : IVec S16 32) (v5 : BitVec 32) (v6 : Vec F S16 .f32) (v26 : FVec F S16 .f32) (v27 : IVec S16 32) : Fin k0_t2_loop.trips → IVec S16 32 → Prog (TpuEff nD τ sig (Elt F) Λ₀ (.scVector (cV L) (jV L))) (IVec S16 32) :=
  k0_t2_body L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v2 v5 v6 v26 v27

variable (w9 : BitVec 32) (w11 : Elt F .f32) (w12 : BitVec 32)

theorem part120_wp {Q : α → sProp 𝕄} (v9 : IVec S16 32) (hv9 : v9 = fun _ => w9)
    (k : (Σ' (v26 : FVec F S16 .f32), IVec S16 32) → Prog (TpuEff nD τ sig (Elt F) Λ₀ (.scVector (cV L) (jV L))) α) :
    iprop(fl9 d L w9 112 ∗ fl11 d L (Scalar.ofBits .f32 0xF149F2CA#32) 0 ∗ fl12 d L 2147483647#32 0) ⊢ iprop((iprop(fl9 d L w9 256 ∗ fl11 d L (Scalar.ofBits .f32 0xF149F2CA#32) 80 ∗ fl12 d L 2147483647#32 64) -∗ wpT d L (k ⟨k0_pay1602, k0_pay1603⟩) Q) -∗ wpT d L (p120 L v9 >>= k) Q) := by
  have hv11 : (k0_pay1602 : FVec F S16 .f32) = fun _ => Scalar.ofBits .f32 0xF149F2CA#32 := rfl
  have hv12 : k0_pay1603 = fun _ => 2147483647#32 := rfl
  simp only [p120, k0_part120_eq_skeleton]; unfold k0_part120_skel
  simp only [Prog.lift, Prog.bind_op, Prog.bind_ret, Prog.pure_eq_ret, bind_assoc, pure_bind]
  iintro ⟨H9, H11, H12⟩ Hk
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply Hk
  isplitl [H9]; · iexact H9
  isplitl [H11]; · iexact H11
  iexact H12

theorem part121_wp {Q : α → sProp 𝕄} (v26 : FVec F S16 .f32) (v27 : IVec S16 32) (hv11 : v26 = fun _ => w11) (hv12 : v27 = fun _ => w12)
    (k : PUnit → Prog (TpuEff nD τ sig (Elt F) Λ₀ (.scVector (cV L) (jV L))) α) :
    iprop(fl11 d L w11 80 ∗ fl12 d L w12 64) ⊢ iprop((iprop(fl11 d L w11 240 ∗ fl12 d L w12 224) -∗ wpT d L (k ⟨⟩) Q) -∗ wpT d L (p121 L v26 v27 >>= k) Q) := by
  simp only [p121, k0_part121_eq_skeleton]; unfold k0_part121_skel
  simp only [Prog.lift, Prog.bind_op, Prog.bind_ret, Prog.pure_eq_ret, bind_assoc, pure_bind]
  iintro ⟨H11, H12⟩ Hk
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply Hk
  isplitl [H11]; · iexact H11
  iexact H12

theorem part122_wp {Q : α → sProp 𝕄} (v26 : FVec F S16 .f32) (v27 : IVec S16 32) (hv11 : v26 = fun _ => w11) (hv12 : v27 = fun _ => w12)
    (k : PUnit → Prog (TpuEff nD τ sig (Elt F) Λ₀ (.scVector (cV L) (jV L))) α) :
    iprop(fl11 d L w11 240 ∗ fl12 d L w12 224) ⊢ iprop((iprop(fl11 d L w11 400 ∗ fl12 d L w12 384) -∗ wpT d L (k ⟨⟩) Q) -∗ wpT d L (p122 L v26 v27 >>= k) Q) := by
  simp only [p122, k0_part122_eq_skeleton]; unfold k0_part122_skel
  simp only [Prog.lift, Prog.bind_op, Prog.bind_ret, Prog.pure_eq_ret, bind_assoc, pure_bind]
  iintro ⟨H11, H12⟩ Hk
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply Hk
  isplitl [H11]; · iexact H11
  iexact H12

end Cert.KernelIdeal.Tile

end
-- ==== Proof.IdealMvLoop.lean ====
/-
  The loop over a row's chunk maxima: the live chunks' numbers appended to the list, and their count.
-/
module

public import proofs.«01_k».proof.Proof.IdealParts

@[expose] public section

noncomputable section

namespace Cert.KernelIdeal.Tile

open Cert.KernelIdeal Cert.KernelIdeal.Gen
open Cert.Append Cert.Rows
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

local notation "𝕄" => MT nD τ sig (HIx 1) (Elt F) ℕ UU ℕ

variable {α : Type}

/-- Chunk `q`'s maximum against the threshold of its lane. -/
def live1 (fm : Vec F S800 .f32) (v6 : Vec F S16 .f32) (q : Nat) : Bool :=
  decide (FloatOps.cmpf .oge (fm (at1 ⟨q % 800, Nat.mod_lt _ (by decide)⟩)) (v6 (lane ⟨q % 16, Nat.mod_lt _ (by decide)⟩)) = 1#1)

/-- The table row of chunk `q` of the row. -/
def item1 (v5 : BitVec 32) (q : Nat) : Elt F .i32 := Scalar.muli v5 800#32 + BitVec.ofNat 32 q

/-- The table row of the row's last chunk, the list's fill. -/
abbrev last1 (v5 : BitVec 32) : BitVec 32 := Scalar.addi (Scalar.muli v5 800#32) 799#32

/-- The list of chunks after the first `p`. -/
def St1 (fm : Vec F S800 .f32) (v5 : BitVec 32) (v6 : Vec F S16 .f32) (p : Nat) : sProp 𝕄 :=
  iprop(∃ f9 : Vec F S256 .i32, ⌜Inv (live1 fm v6) (item1 (F := F) v5) (last1 v5) p f9⌝ ∗ pt9 d L f9)

theorem chk1_of (pos : IVec S16 32) (h : ∀ x, (pos x).toNat < 256) : k0_chk1 pos := by
  intro a x
  obtain rfl : a = 0 := Subsingleton.elim _ _
  exact h x

section Loop

variable (fm : Vec F S800 .f32) (v5 : BitVec 32) (v6 : Vec F S16 .f32)
variable (v2 : IVec S16 32) (hv2 : ∀ k : Fin 16, v2 (lane k) = BitVec.ofNat 32 k.val)
variable (v26 : FVec F S16 .f32) (v27 : IVec S16 32)
include hv2

theorem mv_step {Q : IVec S16 32 → sProp 𝕄} (t : Fin k0_t2_loop.trips) :
    iprop(St1 d L fm v5 v6 (16 * t.val) ∗ pt7 d L fm) ⊢
      iprop((iprop(St1 d L fm v5 v6 (16 * (t.val + 1)) ∗ pt7 d L fm) -∗ Q (offv (rk (live1 fm v6) (16 * (t.val + 1)))))
      -∗ wpT d L (b2 L v2 v5 v6 v26 v27 t (offv (rk (live1 fm v6) (16 * t.val)))) Q) := by
  have ht : t.val < 50 := lt_of_lt_of_eq t.isLt (by decide)
  have hval : ∀ k : Fin 16, (s7.view.readAt (Elt F) (Rect.unit (s := S800) (k0_off3 t) S16.size (k0_off3_inb t)).toLoadRect fm (lane k) : Elt F .f32)
      = fm (at1 ⟨(16 * t.val + k.val) % 800, Nat.mod_lt _ (by decide)⟩) := by
    intro k
    show fm _ = fm _
    refine congrArg fm (eq_at1 _ _ ?_)
    have h3 : k0_off3 t 0 = 16 * t.val := by rw [k0_off3_eq]; rfl
    show k0_off3 t 0 + 1 * k.val = _
    omega
  have hrk : rk (live1 fm v6) (16 * t.val) < 2 ^ 31 := lt_of_le_of_lt (rk_le _ _) (by omega)
  simp only [b2]
  unfold k0_t2_body
  simp only [Prog.lift, Prog.bind_op, Prog.bind_ret, Prog.pure_eq_ret, bind_assoc, pure_bind]
  unfold St1
  iintro ⟨⟨%f9, %hI, H9⟩, H7⟩ Hk
  iapply (wp_load 𝒱₀ (thr d L) none Set.univ (m := s7) (S := Finset.univ) (Finset.subset_univ _)) $$ H7
  iintro H7
  obtain ⟨val, hval'⟩ : ∃ val : Vec F S16 .f32, s7.view.readAt (Elt F) (Rect.unit (s := S800) (k0_off3 t) S16.size (k0_off3_inb t)).toLoadRect fm = val := ⟨_, rfl⟩
  rw [hval'] at hval ⊢
  have hlive : ∀ k : Fin 16, cmpf .oge val v6 (lane k) = 1#1 ↔ live1 fm v6 (16 * t.val + k.val) = true := by
    intro k
    unfold live1
    rw [decide_eq_true_iff]
    show FloatOps.cmpf .oge (val (lane k)) (v6 (lane k)) = 1#1 ↔ _
    rw [hval k]
    have h1 : (16 * t.val + k.val) % 16 = k.val := by omega
    simp only [h1]
  have hpos := fun x => pos_toNat (cmpf .oge val v6) natLt_1_32 (rk (live1 fm v6) (16 * t.val)) 240 hrk (by decide) x
  have hchk : k0_chk1 (k0_pay1609 v6 (offv (rk (live1 fm v6) (16 * t.val))) val) := by
    refine chk1_of _ fun x => ?_
    have := cnt_le (cmpf .oge val v6) (x 0).val
    have : (x 0).val < 16 := (x 0).isLt
    refine (hpos x).trans_lt ?_
    omega
  iapply (wp_assume 𝒱₀ (thr d L) none Set.univ hchk)
  iapply (wp_scatter9 d L _ _ _ _ _ _ _) $$ H9
  iintro H9
  have he : k0_pay1610 v6 (offv (rk (live1 fm v6) (16 * t.val))) val = offv (rk (live1 fm v6) (16 * (t.val + 1))) := by
    refine (off_step (cmpf .oge val v6) natLt_1_32 (rk (live1 fm v6) (16 * t.val)) slices_S16_o15_S1 inpos_S1_p0).trans ?_
    rw [← rk_add (live1 fm v6) (16 * t.val) (cmpf .oge val v6) hlive 16 le_rfl]
    rfl
  rw [he]
  unfold wpT
  rw [wp_ret]
  imodintro
  iapply Hk
  isplitr [H7]
  · iexists _
    isplitr
    rotate_left
    · iexact H9
    · ipureintro
      refine hI.step _ _ _ _ hlive ?_ ?_
      · intro k
        show Scalar.muli v5 800#32 + Scf.iv 0#32 1#32 t.val * 16#32 + v2 (lane k) = _
        rw [hv2 k, iv_eq]
        unfold item1
        rw [BitVec.add_assoc]
        refine congrArg (Scalar.muli v5 800#32 + ·) (BitVec.eq_of_toNat_eq ?_)
        simp only [BitVec.toNat_add, BitVec.toNat_mul, BitVec.toNat_ofNat]
        omega
      · intro hc k
        refine (hpos (lane k)).trans ?_
        rw [lane_zero]
        show min (rk (live1 fm v6) (16 * t.val)) 240 + cnt (cmpf .oge val v6) k.val = rk (live1 fm v6) (16 * t.val) + cnt (cmpf .oge val v6) k.val
        omega
  · iexact H7

/-- The number of the row's live chunks. -/
abbrev nLive (fm : Vec F S800 .f32) (v6 : Vec F S16 .f32) : Nat := rk (live1 fm v6) 800

theorem mv_loop {Q : α → sProp 𝕄} (k : IVec S16 32 → Prog (TpuEff nD τ sig (Elt F) Λ₀ (.scVector (cV L) (jV L))) α) :
    iprop(St1 d L fm v5 v6 0 ∗ pt7 d L fm) ⊢
      iprop((iprop(St1 d L fm v5 v6 800 ∗ pt7 d L fm) -∗ wpT d L (k (offv (nLive fm v6))) Q)
      -∗ wpT d L (Scf.Loop.for k0_t2_loop k0_t2_ok k0_pay1604 (b2 L v2 v5 v6 v26 v27) >>= k) Q) := by
  iintro H Hk
  iapply (Scf.wp_for_bind frame (wpE (defs₀ (F := F)) 𝒱₀ (thr d L) none) Set.univ k0_t2_loop.lb k0_t2_loop.ub k0_t2_loop.st k0_t2_ok k0_pay1604 (b2 L v2 v5 v6 v26 v27)
    (fun n acc => iprop(⌜acc = offv (rk (live1 fm v6) (16 * n))⌝ ∗ St1 d L fm v5 v6 (16 * n) ∗ pt7 d L fm)) ?_) $$ [H]
  · intro t acc
    iintro ⟨%hacc, H⟩
    subst hacc
    iapply (mv_step d L fm v5 v6 v2 hv2 v26 v27 t) $$ H
    iintro H
    isplitr
    · ipureintro; rfl
    · iexact H
  · isplitr
    · ipureintro; rfl
    · iexact H
  iintro %acc ⟨%hacc, H⟩
  have h50 : 16 * Scf.trips k0_t2_loop.lb k0_t2_loop.ub k0_t2_loop.st = 800 := by decide
  rw [h50] at hacc
  subst hacc
  rw [h50]
  iapply Hk $$ H

theorem part123_wp {Q : α → sProp 𝕄} (w11 : Elt F .f32) (w12 : BitVec 32) (hv11 : v26 = fun _ => w11) (hv12 : v27 = fun _ => w12)
    (hw : k0_chk2 (BitVec.ofNat 32 (nLive fm v6)))
    (k : (Σ' (v96 : BitVec 32) (k0_hw2 : k0_chk2 v96), BitVec 32) → Prog (TpuEff nD τ sig (Elt F) Λ₀ (.scVector (cV L) (jV L))) α) :
    iprop(fl9 d L (last1 v5) 256 ∗ fl11 d L w11 400 ∗ fl12 d L w12 384 ∗ pt7 d L fm) ⊢
      iprop((iprop(St1 d L fm v5 v6 800 ∗ fl11 d L w11 512 ∗ fl12 d L w12 512 ∗ pt7 d L fm)
          -∗ wpT d L (k ⟨BitVec.ofNat 32 (nLive fm v6), hw, Scalar.minsi (BitVec.ofNat 32 (nLive fm v6)) 256#32⟩) Q)
      -∗ wpT d L (p123 L v2 v5 v6 v26 v27 >>= k) Q) := by
  simp only [p123, k0_part123_eq_skeleton]; unfold k0_part123_skel
  simp only [Prog.lift, Prog.bind_op, Prog.bind_ret, Prog.pure_eq_ret, bind_assoc, pure_bind]
  iintro ⟨H9, H11, H12, H7⟩ Hk
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (load11 d L _ _ _ _ _) $$ H11; iintro H11
  iapply (store11 d L _ _ hv11 _ _ _) $$ H11; iintro H11
  iapply (load12 d L _ _ _ _ _) $$ H12; iintro H12
  iapply (store12 d L _ _ hv12 _ _ _) $$ H12; iintro H12
  iapply (mv_loop d L fm v5 v6 v2 hv2 v26 v27 _) $$ [H9 H7]
  · isplitl [H9]
    · unfold St1 fl9
      icases H9 with ⟨%f9, %hf, H9⟩
      iexists f9
      isplitr
      · ipureintro
        exact Inv.zero _ _ _ _ fun j => hf j (j 0).isLt
      · iexact H9
    · iexact H7
  iintro ⟨H9, H7⟩
  have e : extractAt ![0] (k0_pay1611 (offv (nLive fm v6))) inpos_S1_p0 = BitVec.ofNat 32 (nLive fm v6) := rfl
  have hw' : k0_chk2 (extractAt ![0] (k0_pay1611 (offv (nLive fm v6))) inpos_S1_p0) := e.symm ▸ hw
  iapply (wp_assume 𝒱₀ (thr d L) none Set.univ hw')
  iapply Hk
  isplitl [H9]; · iexact H9
  isplitl [H11]; · iexact H11
  isplitl [H12]; · iexact H12
  iexact H7

end Loop

end Cert.KernelIdeal.Tile

end
-- ==== Proof.IdealRowIn.lean ====
/-
  The copies of a row: its chunk maxima and thresholds into the tile's buffers, its two lists out to the results.
-/
module

public import proofs.«01_k».proof.Proof.IdealMvLoop
public import proofs.«01_k».proof.Proof.Copy

@[expose] public section

noncomputable section

namespace Cert.KernelIdeal.Tile

open Cert.KernelIdeal Cert.KernelIdeal.Gen
open Cert.Append Cert.Rows Cert.Copy
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

local notation "𝕄" => MT nD τ sig (HIx 1) (Elt F) ℕ UU ℕ

variable {α : Type}

/-- The row a trip of a tile's loop works on. -/
def rowNo (L : grid0.Coords) (t : Fin k0_t1_loop.trips) : Nat := 64 * (L 1).val + 32 * (L 0).val + t.val

theorem rowNo_lt (t : Fin k0_t1_loop.trips) : rowNo L t < 1024 := by
  have h1 : (L 1).val < 16 := (L 1).isLt
  have h0 : (L 0).val < 2 := (L 0).isLt
  have ht : t.val < 32 := t.isLt
  unfold rowNo
  omega

/-- A row of a two-axis array. -/
def rowV {a b : Nat} {e : EltTy} (f : Vec F ⟨2, ![a, b]⟩ e) (r : Fin a) : Vec F ⟨1, ![b]⟩ e := fun x => f (at2 r (x 0))

abbrev inCm (t : Fin k0_t1_loop.trips) : Memref sig .scVector .hbm S800 .f32 := (mCm.slice (Rect.unit (s := S1024x800) (k0_off1 L t) S1x800.size (k0_off1_inb L t)) (fun _ => rfl)).squeeze S800 squeezes_S1x800_S800
abbrev inTau (t : Fin k0_t1_loop.trips) : Memref sig .scVector .hbm S16 .f32 := (mTau.slice (Rect.unit (s := S1024x16) (k0_off2 L t) S1x16.size (k0_off2_inb L t)) (fun _ => rfl)).squeeze S16 squeezes_S1x16_S16
abbrev outV (t : Fin k0_t1_loop.trips) : Memref sig .scVector .hbm S512 .f32 := (mOv.slice (Rect.unit (s := S1024x512) (k0_off262 L t) S1x512.size (k0_off262_inb L t)) (fun _ => rfl)).squeeze S512 squeezes_S1x512_S512
abbrev outI (t : Fin k0_t1_loop.trips) : Memref sig .scVector .hbm S512 .i32 := (mOi.slice (Rect.unit (s := S1024x512) (k0_off262 L t) S1x512.size (k0_off262_inb L t)) (fun _ => rfl)).squeeze S512 squeezes_S1x512_S512

theorem read_cm (t : Fin k0_t1_loop.trips) (cm : Vec F S1024x800 .f32) :
    (inCm L t).view.read (Elt F) cm = (rowV cm ⟨rowNo L t, rowNo_lt L t⟩ : Vec F S800 .f32) := by
  funext x
  have hn : S800.numel = S1x800.numel := by decide
  show cm ((Rect.unit (s := S1024x800) (k0_off1 L t) S1x800.size (k0_off1_inb L t)).emb (Shape.reshapeEquiv hn x)) = _
  refine congrArg cm (eq_at2 _ _ (x 0).isLt ?_ ?_)
  · rw [reshape_row]
    show k0_off1 L t 0 + 1 * 0 = _
    rw [k0_off1_eq]; rfl
  · rw [reshape_row]
    show k0_off1 L t 1 + 1 * (x 0).val = _
    rw [k0_off1_eq]
    show 0 + 1 * (x 0).val = _
    omega

theorem read_tau (t : Fin k0_t1_loop.trips) (tau : Vec F S1024x16 .f32) :
    (inTau L t).view.read (Elt F) tau = (rowV tau ⟨rowNo L t, rowNo_lt L t⟩ : Vec F S16 .f32) := by
  funext x
  have hn : S16.numel = S1x16.numel := by decide
  show tau ((Rect.unit (s := S1024x16) (k0_off2 L t) S1x16.size (k0_off2_inb L t)).emb (Shape.reshapeEquiv hn x)) = _
  refine congrArg tau (eq_at2 _ _ (x 0).isLt ?_ ?_)
  · rw [reshape_row]
    show k0_off2 L t 0 + 1 * 0 = _
    rw [k0_off2_eq]; rfl
  · rw [reshape_row]
    show k0_off2 L t 1 + 1 * (x 0).val = _
    rw [k0_off2_eq]
    show 0 + 1 * (x 0).val = _
    omega

theorem part119_wp {Q : α → sProp 𝕄} {O : CellTallies nD τ sig (HIx 1)} {W : Waits sig (HIx 1)} (v1 : BitVec 32) (t : Fin k0_t1_loop.trips)
    (cm : Vec F S1024x800 .f32) (tau : Vec F S1024x16 .f32) (q : PosShare TreeShare) (f7 : Vec F S800 .f32) (f8 : Vec F S16 .f32)
    (k : (Σ' (v5 : BitVec 32) (v6 : Vec F S16 .f32), IVec S16 32) → Prog (TpuEff nD τ sig (Elt F) Λ₀ (.scVector (cV L) (jV L))) α) :
    iprop(Ow (thr d L) O W ∗ semVal (thr d L, .dma cc0_scoped0.sem) 0 ∗ semVal (thr d L, .dma cc0_scoped1.sem) 0
        ∗ (mCm.view.loc (thr d L) ↦{q} cm) ∗ (mTau.view.loc (thr d L) ↦{q} tau) ∗ pt7 d L f7 ∗ pt8 d L f8 ∗ fl9 d L (last1 (Scalar.addi (Scalar.muli v1 32#32) (Scf.iv 0#32 1#32 t.val))) 0) ⊢
      iprop((iprop(Ow (thr d L) O W ∗ semVal (thr d L, .dma cc0_scoped0.sem) 0 ∗ semVal (thr d L, .dma cc0_scoped1.sem) 0
            ∗ (mCm.view.loc (thr d L) ↦{q} cm) ∗ (mTau.view.loc (thr d L) ↦{q} tau)
            ∗ pt7 d L (rowV cm ⟨rowNo L t, rowNo_lt L t⟩) ∗ pt8 d L (rowV tau ⟨rowNo L t, rowNo_lt L t⟩)
            ∗ fl9 d L (last1 (Scalar.addi (Scalar.muli v1 32#32) (Scf.iv 0#32 1#32 t.val))) 112)
          -∗ wpT d L (k ⟨Scalar.addi (Scalar.muli v1 32#32) (Scf.iv 0#32 1#32 t.val), rowV tau ⟨rowNo L t, rowNo_lt L t⟩, k0_pay1601 v1 0#32 1#32 t⟩) Q)
      -∗ wpT d L (p119 L v1 t >>= k) Q) := by
  have hv9 : k0_pay1601 v1 0#32 1#32 t = fun _ => last1 (Scalar.addi (Scalar.muli v1 32#32) (Scf.iv 0#32 1#32 t.val)) := rfl
  simp only [p119, k0_part119_eq_skeleton]; unfold k0_part119_skel
  simp only [Prog.lift, Prog.bind_op, Prog.bind_ret, Prog.pure_eq_ret, bind_assoc, pure_bind]
  iintro ⟨HO, Hv0, Hv1, Hcm, Htau, H7, H8, H9⟩ Hk
  ihave Hcm' := (pointsTo_split_subset (q := q) (f := cm) (S := Finset.univ) (Finset.subset_univ (inCm L t).view.set)).1 $$ Hcm
  icases Hcm' with ⟨Hcm, Hcmr⟩
  ihave Htau' := (pointsTo_split_subset (q := q) (f := tau) (S := Finset.univ) (Finset.subset_univ (inTau L t).view.set)).1 $$ Htau
  icases Htau' with ⟨Htau, Htaur⟩
  iapply (wp_copy countersEmb 𝒱₀ (thr d L) none (inCm L t) s7 cc0_scoped0.sem (show 0 < (cc0_scratch0 : Ref sig .scVector).dmaCredit S800 .f32 by decide) (Finset.subset_univ _)) $$ [HO Hv0 Hcm H7]
  · isplitl [HO]; · iexact HO
    isplitl [Hv0]; · iexact Hv0
    isplitl [Hcm]; · iexact Hcm
    iexact H7
  iintro ⟨HO, Hv0, Hcm, H7⟩
  iapply (wp_copy countersEmb 𝒱₀ (thr d L) none (inTau L t) s8 cc0_scoped1.sem (show 0 < (cc0_scratch1 : Ref sig .scVector).dmaCredit S16 .f32 by decide) (Finset.subset_univ _)) $$ [HO Hv1 Htau H8]
  · isplitl [HO]; · iexact HO
    isplitl [Hv1]; · iexact Hv1
    isplitl [Htau]; · iexact Htau
    iexact H8
  iintro ⟨HO, Hv1, Htau, H8⟩
  have e7 : s7.view.write (Elt F) f7 ((inCm L t).view.read (Elt F) cm) Finset.univ = (rowV cm ⟨rowNo L t, rowNo_lt L t⟩ : Vec F S800 .f32) := by
    rw [read_cm]; exact View.write_whole_univ ..
  have e8 : s8.view.write (Elt F) f8 ((inTau L t).view.read (Elt F) tau) Finset.univ = (rowV tau ⟨rowNo L t, rowNo_lt L t⟩ : Vec F S16 .f32) := by
    rw [read_tau]; exact View.write_whole_univ ..
  rw [e7, e8]
  iapply (wp_load 𝒱₀ (thr d L) none Set.univ (m := s8) (S := Finset.univ) (Finset.subset_univ _)) $$ H8
  iintro H8
  have e6 : s8.view.readAt (Elt F) (Rect.unit (s := S16) ![0] S16.size inb_S16_S16_0).toLoadRect (rowV tau ⟨rowNo L t, rowNo_lt L t⟩ : Vec F S16 .f32) = (rowV tau ⟨rowNo L t, rowNo_lt L t⟩ : Vec F S16 .f32) := by
    funext x
    show (rowV tau ⟨rowNo L t, rowNo_lt L t⟩ : Vec F S16 .f32) _ = _
    refine congrArg _ ((eq_at1 _ (x 0).isLt ?_).trans (eq_at1 x (x 0).isLt rfl).symm)
    show 0 + 1 * (x 0).val = _
    omega
  rw [e6]
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply (load9 d L _ _ _ _ _) $$ H9; iintro H9
  iapply (store9 d L _ _ hv9 _ _ _) $$ H9; iintro H9
  iapply Hk
  isplitl [HO]; · iexact HO
  isplitl [Hv0]; · iexact Hv0
  isplitl [Hv1]; · iexact Hv1
  isplitl [Hcm Hcmr]
  · iapply (pointsTo_split_subset (ℓ := mCm.view.loc (thr d L)) (q := q) (f := cm) (S := Finset.univ) (Finset.subset_univ (inCm L t).view.set)).2
    isplitl [Hcm] <;> iassumption
  isplitl [Htau Htaur]
  · iapply (pointsTo_split_subset (ℓ := mTau.view.loc (thr d L)) (q := q) (f := tau) (S := Finset.univ) (Finset.subset_univ (inTau L t).view.set)).2
    isplitl [Htau] <;> iassumption
  isplitl [H7]; · iexact H7
  isplitl [H8]; · iexact H8
  iexact H9

theorem setV (t : Fin k0_t1_loop.trips) (i : S1024x512.Idx) : i ∈ (outV L t).view.set ↔ (i 0).val = rowNo L t := by
  have hn : S512.numel = S1x512.numel := by decide
  have emb0 : ∀ x, (((outV L t).view.emb x : S1024x512.Idx) 0).val = rowNo L t := by
    intro x
    show k0_off262 L t 0 + 1 * (Shape.reshapeEquiv hn x 0).val = _
    rw [reshape_row, k0_off262_eq]
    rfl
  have emb1 : ∀ x, (((outV L t).view.emb x : S1024x512.Idx) 1).val = (x 0).val := by
    intro x
    show k0_off262 L t 1 + 1 * (Shape.reshapeEquiv hn x 1).val = _
    rw [reshape_row, k0_off262_eq]
    show 0 + 1 * (x 0).val = _
    omega
  constructor
  · intro h
    obtain ⟨x, -, rfl⟩ := Finset.mem_map.mp h
    exact emb0 x
  · intro h
    refine Finset.mem_map.mpr ⟨at1 (i 1), Finset.mem_univ _, ?_⟩
    refine (eq_at2 _ (i 0).isLt (i 1).isLt ?_ ?_).trans (eq_at2 i (i 0).isLt (i 1).isLt rfl rfl).symm
    · rw [emb0, h]
    · rw [emb1]; rfl

theorem embV (t : Fin k0_t1_loop.trips) (x : S512.Idx) : ((outV L t).view.emb x : S1024x512.Idx) = at2 ⟨rowNo L t, rowNo_lt L t⟩ (x 0) := by
  have hn : S512.numel = S1x512.numel := by decide
  refine eq_at2 _ _ (x 0).isLt ?_ ?_
  · show k0_off262 L t 0 + 1 * (Shape.reshapeEquiv hn x 0).val = _
    rw [reshape_row, k0_off262_eq]
    rfl
  · show k0_off262 L t 1 + 1 * (Shape.reshapeEquiv hn x 1).val = _
    rw [reshape_row, k0_off262_eq]
    show 0 + 1 * (x 0).val = _
    omega

/-- The row written out is the list; the other rows are unchanged. -/
theorem writeV (t : Fin k0_t1_loop.trips) (fv : Vec F S1024x512 .f32) (w : Vec F S512 .f32) (r : Fin 1024) :
    rowV ((outV L t).view.write (Elt F) fv w Finset.univ) r = if r.val = rowNo L t then w else rowV fv r := by
  funext x
  have hx : (rowV ((outV L t).view.write (Elt F) fv w Finset.univ) r : Vec F S512 .f32) x = (outV L t).view.write (Elt F) fv w Finset.univ (at2 r (x 0)) := rfl
  rw [hx]
  split_ifs with h
  · have e : (at2 r (x 0) : S1024x512.Idx) = (outV L t).view.emb x := by
      rw [embV L t x]
      exact congrArg (fun q => at2 q (x 0)) (Fin.ext h)
    rw [e, View.write_emb_of_mem (Val := Elt F) (v := (outV L t).view) fv w (Finset.mem_univ _)]
    rfl
  · rw [View.write_of_not_mem (Val := Elt F) (v := (outV L t).view) fv w Finset.univ (fun hm => h ((setV L t _).mp hm))]
    rfl

theorem setI (t : Fin k0_t1_loop.trips) (i : S1024x512.Idx) : i ∈ (outI L t).view.set ↔ (i 0).val = rowNo L t := by
  have hn : S512.numel = S1x512.numel := by decide
  have emb0 : ∀ x, (((outI L t).view.emb x : S1024x512.Idx) 0).val = rowNo L t := by
    intro x
    show k0_off262 L t 0 + 1 * (Shape.reshapeEquiv hn x 0).val = _
    rw [reshape_row, k0_off262_eq]
    rfl
  have emb1 : ∀ x, (((outI L t).view.emb x : S1024x512.Idx) 1).val = (x 0).val := by
    intro x
    show k0_off262 L t 1 + 1 * (Shape.reshapeEquiv hn x 1).val = _
    rw [reshape_row, k0_off262_eq]
    show 0 + 1 * (x 0).val = _
    omega
  constructor
  · intro h
    obtain ⟨x, -, rfl⟩ := Finset.mem_map.mp h
    exact emb0 x
  · intro h
    refine Finset.mem_map.mpr ⟨at1 (i 1), Finset.mem_univ _, ?_⟩
    refine (eq_at2 _ (i 0).isLt (i 1).isLt ?_ ?_).trans (eq_at2 i (i 0).isLt (i 1).isLt rfl rfl).symm
    · rw [emb0, h]
    · rw [emb1]; rfl

theorem embI (t : Fin k0_t1_loop.trips) (x : S512.Idx) : ((outI L t).view.emb x : S1024x512.Idx) = at2 ⟨rowNo L t, rowNo_lt L t⟩ (x 0) := by
  have hn : S512.numel = S1x512.numel := by decide
  refine eq_at2 _ _ (x 0).isLt ?_ ?_
  · show k0_off262 L t 0 + 1 * (Shape.reshapeEquiv hn x 0).val = _
    rw [reshape_row, k0_off262_eq]
    rfl
  · show k0_off262 L t 1 + 1 * (Shape.reshapeEquiv hn x 1).val = _
    rw [reshape_row, k0_off262_eq]
    show 0 + 1 * (x 0).val = _
    omega

/-- The row written out is the list; the other rows are unchanged. -/
theorem writeI (t : Fin k0_t1_loop.trips) (fv : Vec F S1024x512 .i32) (w : Vec F S512 .i32) (r : Fin 1024) :
    rowV ((outI L t).view.write (Elt F) fv w Finset.univ) r = if r.val = rowNo L t then w else rowV fv r := by
  funext x
  have hx : (rowV ((outI L t).view.write (Elt F) fv w Finset.univ) r : Vec F S512 .i32) x = (outI L t).view.write (Elt F) fv w Finset.univ (at2 r (x 0)) := rfl
  rw [hx]
  split_ifs with h
  · have e : (at2 r (x 0) : S1024x512.Idx) = (outI L t).view.emb x := by
      rw [embI L t x]
      exact congrArg (fun q => at2 q (x 0)) (Fin.ext h)
    rw [e, View.write_emb_of_mem (Val := Elt F) (v := (outI L t).view) fv w (Finset.mem_univ _)]
    rfl
  · rw [View.write_of_not_mem (Val := Elt F) (v := (outI L t).view) fv w Finset.univ (fun hm => h ((setI L t _).mp hm))]
    rfl

end Cert.KernelIdeal.Tile

end
-- ==== Proof.IdealGather.lean ====
/-
  The two gathers of a row's live chunks: 256 rows of the table by the list's entries, on one semaphore.
-/
module

public import proofs.«01_k».proof.Proof.IdealMvLoop
public import proofs.«01_k».proof.Proof.Copy

@[expose] public section

noncomputable section

namespace Cert.KernelIdeal.Tile

open Cert.KernelIdeal Cert.KernelIdeal.Gen
open Cert.Append Cert.Rows Cert.RowBatch Cert.Copy
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

local notation "𝕄" => MT nD τ sig (HIx 1) (Elt F) ℕ UU ℕ

variable {α : Type}

/-- The table as the gathers name it, the two halves of the list, and the two windows of the buffer. -/
abbrev gT : Memref sig .scVector .hbm S819200x128 .f32 := mTbl.slice (Rect.unit (s := S819200x128) ![0, 0] S819200x128.size inb_S819200x128_S819200x128_0_0) (fun _ => rfl)
abbrev gLA : Memref sig .scVector .vmem S128 .i32 := s9.slice (Rect.unit (s := S256) ![0] S128.size inb_S256_S128_0) (fun _ => rfl)
abbrev gLB : Memref sig .scVector .vmem S128 .i32 := s9.slice (Rect.unit (s := S256) ![128] S128.size inb_S256_S128_128) (fun _ => rfl)
abbrev gWA : Memref sig .scVector .vmem S128x128 .f32 := s10.slice (Rect.unit (s := S256x128) ![0, 0] S128x128.size inb_S256x128_S128x128_0_0) (fun _ => rfl)
abbrev gWB : Memref sig .scVector .vmem S128x128 .f32 := s10.slice (Rect.unit (s := S256x128) ![128, 0] S128x128.size inb_S256x128_S128x128_128_0) (fun _ => rfl)

/-- A gathered row's credit. -/
abbrev rowCr : ℕ := (cc0_scratch3 : Ref sig .scVector).dmaCredit (S128x128.rowShape (gathers_S819200x128_S128x128).axis') .f32

theorem memA (i : S256x128.Idx) : i ∈ gWA.view.set ↔ (i 0).val < 128 := by
  constructor
  · intro h
    obtain ⟨x, -, rfl⟩ := Finset.mem_map.mp h
    have : (x 0).val < 128 := (x 0).isLt
    show 0 + 1 * (x 0).val < 128
    omega
  · intro h
    refine Finset.mem_map.mpr ⟨at2 ⟨(i 0).val, h⟩ (i 1), Finset.mem_univ _, ?_⟩
    refine (eq_at2 _ (i 0).isLt (i 1).isLt ?_ ?_).trans (eq_at2 i (i 0).isLt (i 1).isLt rfl rfl).symm
    · show 0 + 1 * (i 0).val = _; omega
    · show 0 + 1 * (i 1).val = _; omega

theorem memB (i : S256x128.Idx) : i ∈ gWB.view.set ↔ 128 ≤ (i 0).val := by
  constructor
  · intro h
    obtain ⟨x, -, rfl⟩ := Finset.mem_map.mp h
    show 128 ≤ 128 + 1 * (x 0).val
    omega
  · intro h
    have h2 : (i 0).val < 256 := (i 0).isLt
    refine Finset.mem_map.mpr ⟨at2 ⟨(i 0).val - 128, by omega⟩ (i 1), Finset.mem_univ _, ?_⟩
    refine (eq_at2 _ (i 0).isLt (i 1).isLt ?_ ?_).trans (eq_at2 i (i 0).isLt (i 1).isLt rfl rfl).symm
    · show 128 + 1 * ((i 0).val - 128) = _; omega
    · show 0 + 1 * (i 1).val = _; omega

theorem memLA (i : S256.Idx) : i ∈ gLA.view.set → (i 0).val < 128 := by
  intro h
  obtain ⟨x, -, rfl⟩ := Finset.mem_map.mp h
  have : (x 0).val < 128 := (x 0).isLt
  show 0 + 1 * (x 0).val < 128
  omega

theorem memLB (i : S256.Idx) : i ∈ gLB.view.set → 128 ≤ (i 0).val := by
  intro h
  obtain ⟨x, -, rfl⟩ := Finset.mem_map.mp h
  show 128 ≤ 128 + 1 * (x 0).val
  omega

/-- The rows the list names. -/
def GatheredOf (f9 : Vec F S256 .i32) (tbl : Vec F S819200x128 .f32) (f10 : Vec F S256x128 .f32) : Prop :=
  ∀ (ρ : Fin 256) (c : Fin 128) (h : (f9 (at1 ρ)).toNat < 819200), f10 (at2 ρ c) = tbl (at2 ⟨(f9 (at1 ρ)).toNat, h⟩ c)

section Gather

variable (f9 : Vec F S256 .i32) (tbl : Vec F S819200x128 .f32) (g : Vec F S256x128 .f32)
variable (hin : ∀ x, (f9 x).toNat < 819200) (q qo : PosShare TreeShare)

include hin in
theorem inA : ∀ x, (gLA.view.read (Elt F) f9 x).toNat < S819200x128.size (gathers_S819200x128_S128x128).axis := fun x => hin _
include hin in
theorem inB : ∀ x, (gLB.view.read (Elt F) f9 x).toNat < S819200x128.size (gathers_S819200x128_S128x128).axis := fun x => hin _

/-- What the first gather writes at row `k`, column `c`. -/
theorem payA (k c : Fin 128) :
    SparseCore.gatherPayload (gathers_S819200x128_S128x128) (gT.view.read (Elt F) tbl)
      (SparseCore.rows (gLA.view.read (Elt F) f9) (rfl : S128.numel = S128x128.size (gathers_S819200x128_S128x128).axis') (inA f9 hin)) (at2 k c)
      = tbl (at2 ⟨(f9 (at1 ⟨k.val, by omega⟩)).toNat, hin _⟩ c) := by
  show tbl _ = tbl _
  refine congrArg tbl (eq_at2 _ _ _ ?_ ?_)
  · show 0 + 1 * (f9 _).toNat = _
    rw [Nat.zero_add, Nat.one_mul]
    refine congrArg (fun i => (f9 i).toNat) (eq_at1 _ _ ?_)
    show 0 + 1 * (S128.rowMajor.symm ⟨k.val, _⟩ 0).val = k.val
    have h := Shape.rowMajor_val_one (S128.rowMajor.symm ⟨k.val, k.isLt⟩)
    have h2 := congrArg Fin.val (Equiv.apply_symm_apply S128.rowMajor ⟨k.val, k.isLt⟩)
    have h3 : k.val = (S128.rowMajor.symm ⟨k.val, k.isLt⟩ 0).val := h2.symm.trans h
    omega
  · show 0 + 1 * c.val = c.val
    omega

theorem payB (k c : Fin 128) :
    SparseCore.gatherPayload (gathers_S819200x128_S128x128) (gT.view.read (Elt F) tbl)
      (SparseCore.rows (gLB.view.read (Elt F) f9) (rfl : S128.numel = S128x128.size (gathers_S819200x128_S128x128).axis') (inB f9 hin)) (at2 k c)
      = tbl (at2 ⟨(f9 (at1 ⟨128 + k.val, by omega⟩)).toNat, hin _⟩ c) := by
  show tbl _ = tbl _
  refine congrArg tbl (eq_at2 _ _ _ ?_ ?_)
  · show 0 + 1 * (f9 _).toNat = _
    rw [Nat.zero_add, Nat.one_mul]
    refine congrArg (fun i => (f9 i).toNat) (eq_at1 _ _ ?_)
    show 128 + 1 * (S128.rowMajor.symm ⟨k.val, _⟩ 0).val = 128 + k.val
    have h := Shape.rowMajor_val_one (S128.rowMajor.symm ⟨k.val, k.isLt⟩)
    have h2 := congrArg Fin.val (Equiv.apply_symm_apply S128.rowMajor ⟨k.val, k.isLt⟩)
    have h3 : k.val = (S128.rowMajor.symm ⟨k.val, k.isLt⟩ 0).val := h2.symm.trans h
    omega
  · show 0 + 1 * c.val = c.val
    omega

/-- The deliveries of the two gathers' rows, the first's then the second's. -/
def DA (k : Fin 128) : sProp 𝕄 :=
  rowD (thr d L) gT gWA gathers_S819200x128_S128x128 gLA rfl (by decide) (pieceOf q 2 (by decide) 0) qo tbl g f9 (inA f9 hin) k
def DB (k : Fin 128) : sProp 𝕄 :=
  rowD (thr d L) gT gWB gathers_S819200x128_S128x128 gLB rfl (by decide) (pieceOf q 2 (by decide) 1) qo tbl g f9 (inB f9 hin) k
def DD (t : Fin (128 + 128)) : sProp 𝕄 :=
  if h : t.val < 128 then DA d L f9 tbl g hin q qo ⟨t.val, h⟩ else DB d L f9 tbl g hin q qo ⟨t.val - 128, by omega⟩

instance (t : Fin (128 + 128)) : Storable (upEmb : UEmb _ 𝕄) (DD d L f9 tbl g hin q qo t) := by
  unfold DD
  split
  · unfold DA; exact rowD_storable (thr d L) _ _ _ _ _ _ _ _ _ _ _ _ _
  · unfold DB; exact rowD_storable (thr d L) _ _ _ _ _ _ _ _ _ _ _ _ _

theorem DA_join : bigSep Finset.univ (DA d L f9 tbl g hin q qo) ⊢
    (iprop((gWA.view.loc (thr d L) ↦[gWA.view.set]{fullShare} (gWA.view.write (Elt F) g
        (SparseCore.gatherPayload (gathers_S819200x128_S128x128) (gT.view.read (Elt F) tbl)
          (SparseCore.rows (gLA.view.read (Elt F) f9) (rfl : S128.numel = S128x128.size (gathers_S819200x128_S128x128).axis') (inA f9 hin))) Finset.univ))
      ∗ (gT.view.loc (thr d L) ↦[gT.view.set]{pieceOf q 2 (by decide) 0} tbl) ∗ (gLA.view.loc (thr d L) ↦[gLA.view.set]{qo} f9)) : sProp 𝕄) :=
  rowD_join (Ix := HIx 1) (Name := ℕ) (U := UU) (Lvl := ℕ) (thr d L) gT gWA gathers_S819200x128_S128x128 gLA rfl (by decide) (pieceOf q 2 (by decide) 0) qo tbl g f9 (inA f9 hin)

theorem DB_join : bigSep Finset.univ (DB d L f9 tbl g hin q qo) ⊢
    (iprop((gWB.view.loc (thr d L) ↦[gWB.view.set]{fullShare} (gWB.view.write (Elt F) g
        (SparseCore.gatherPayload (gathers_S819200x128_S128x128) (gT.view.read (Elt F) tbl)
          (SparseCore.rows (gLB.view.read (Elt F) f9) (rfl : S128.numel = S128x128.size (gathers_S819200x128_S128x128).axis') (inB f9 hin))) Finset.univ))
      ∗ (gT.view.loc (thr d L) ↦[gT.view.set]{pieceOf q 2 (by decide) 1} tbl) ∗ (gLB.view.loc (thr d L) ↦[gLB.view.set]{qo} f9)) : sProp 𝕄) :=
  rowD_join (Ix := HIx 1) (Name := ℕ) (U := UU) (Lvl := ℕ) (thr d L) gT gWB gathers_S819200x128_S128x128 gLB rfl (by decide) (pieceOf q 2 (by decide) 1) qo tbl g f9 (inB f9 hin)

theorem DD_A (t : Fin (128 + 128)) (k : Fin 128) (h : t.val = k.val) : DD d L f9 tbl g hin q qo t = DA d L f9 tbl g hin q qo k := by
  unfold DD
  rw [dif_pos (show t.val < 128 by omega)]
  exact congrArg _ (Fin.ext h)

theorem DD_B (t : Fin (128 + 128)) (k : Fin 128) (h : t.val = 128 + k.val) : DD d L f9 tbl g hin q qo t = DB d L f9 tbl g hin q qo k := by
  unfold DD
  rw [dif_neg (show ¬ (t.val < 128) by omega)]
  exact congrArg _ (Fin.ext (show t.val - 128 = k.val by omega))

include hin in
theorem part124_wp {Q : α → sProp 𝕄} {O : CellTallies nD τ sig (HIx 1)} {W : Waits sig (HIx 1)} (v97 : BitVec 32)
    (k : (Σ' (v127 : BitVec 32), IVec S16 32) → Prog (TpuEff nD τ sig (Elt F) Λ₀ (.scVector (cV L) (jV L))) α) :
    iprop(Ow (thr d L) O W ∗ semVal (thr d L, .dma cc0_scratch7.sem) 0 ∗ (mTbl.view.loc (thr d L) ↦{q} tbl) ∗ pt9 d L f9 ∗ pt10 d L g) ⊢
      iprop((∀ v127 : BitVec 32, iprop(Ow (thr d L) O W ∗ semVal (thr d L, .dma cc0_scratch7.sem) 0 ∗ (mTbl.view.loc (thr d L) ↦{q} tbl) ∗ pt9 d L f9
            ∗ ∃ f10 : Vec F S256x128 .f32, ⌜GatheredOf f9 tbl f10⌝ ∗ pt10 d L f10)
          -∗ wpT d L (k ⟨v127, k0_pay1612⟩) Q)
      -∗ wpT d L (p124 L v97 >>= k) Q) := by
  simp only [p124, k0_part124_eq_skeleton]; unfold k0_part124_skel
  simp only [SparseCore.waitIndirectGather, Prog.lift, Prog.bind_op, Prog.bind_ret, Prog.pure_eq_ret, bind_assoc, pure_bind]
  unfold Ow
  iintro ⟨⟨#Hm, %W', %hW', HO⟩, Hv, HT, H9, H10⟩ Hk
  imod (Transfers.batch_alloc' countersEmb (c := thr d L) (sm := .dma cc0_scratch7.sem) (default : HIx 1) rowCr (DD d L f9 tbl g hin q fullShare) (E := Set.univ)) $$ Hv with HB
  -- the table's share in two
  ihave HT2 := (Entails.of_eq (pointsTo_piecesOf (ℓ := mTbl.view.loc (thr d L)) Finset.univ tbl (o := 2) (by decide) q)) $$ HT
  ihave HT3 := (Entails.of_eq (Idealize.SL.BI.bigSep_univ_two _)) $$ HT2
  icases HT3 with ⟨HTA, HTB⟩
  ihave HTA' := (pointsTo_split_subset (q := pieceOf q 2 _ 0) (f := tbl) (S := Finset.univ) (Finset.subset_univ gT.view.set)).1 $$ HTA
  icases HTA' with ⟨HTA, HTAr⟩
  ihave HTB' := (pointsTo_split_subset (q := pieceOf q 2 _ 1) (f := tbl) (S := Finset.univ) (Finset.subset_univ gT.view.set)).1 $$ HTB
  icases HTB' with ⟨HTB, HTBr⟩
  -- the list in halves
  have hdL : gLB.view.set ⊆ Finset.univ \ gLA.view.set := fun i hi => Finset.mem_sdiff.mpr ⟨Finset.mem_univ _, fun h => by
    have h1 := memLA i h
    have h2 := memLB i hi
    omega⟩
  ihave H9' := (pointsTo_split_subset (q := fullShare) (f := f9) (S := Finset.univ) (Finset.subset_univ gLA.view.set)).1 $$ H9
  icases H9' with ⟨H9A, H9r⟩
  ihave H9' := (pointsTo_split_subset (q := fullShare) (f := f9) hdL).1 $$ H9r
  icases H9' with ⟨H9B, H9r⟩
  -- the buffer in windows
  have hdW : gWB.view.set ⊆ Finset.univ \ gWA.view.set := fun i hi => Finset.mem_sdiff.mpr ⟨Finset.mem_univ _, fun h => by
    have h1 := (memA i).mp h
    have h2 := (memB i).mp hi
    omega⟩
  ihave H10' := (pointsTo_split_subset (q := fullShare) (f := g) (S := Finset.univ) (Finset.subset_univ gWA.view.set)).1 $$ H10
  icases H10' with ⟨H10A, H10r⟩
  ihave H10' := (pointsTo_split_subset (q := fullShare) (f := g) hdW).1 $$ H10r
  icases H10' with ⟨H10B, H10r⟩
  iapply (wp_gatherBatch countersEmb 𝒱₀ (thr d L) none (src := gT) (dst := gWA) (hg := gathers_S819200x128_S128x128) (offs := gLA) (hn := rfl) (ho := by decide)
      (q := pieceOf q 2 (by decide) 0) (qo := fullShare) (fs := tbl) (fd := g) (fo := f9) (hin := inA f9 hin) (default : HIx 1) rowCr (fun _ => rfl)
      (j := 0) (u := 0) (n := 128 + 128) (D := DD d L f9 tbl g hin q fullShare) (by decide) (by decide) ?_) $$ [HTA H10A H9A HB]
  · intro i
    have hi : i.val < 128 := i.isLt
    exact Entails.of_eq (DD_A d L f9 tbl g hin q fullShare _ i (show 0 + i.val = i.val by omega)).symm
  · isplitl [HTA]; · iexact HTA
    isplitl [H10A]; · iexact H10A
    isplitl [H9A]; · iexact H9A
    iexact HB
  iintro HB
  iapply (wp_gatherBatch countersEmb 𝒱₀ (thr d L) none (src := gT) (dst := gWB) (hg := gathers_S819200x128_S128x128) (offs := gLB) (hn := rfl) (ho := by decide)
      (q := pieceOf q 2 (by decide) 1) (qo := fullShare) (fs := tbl) (fd := g) (fo := f9) (hin := inB f9 hin) (default : HIx 1) rowCr (fun _ => rfl)
      (j := 0 + S128x128.size (gathers_S819200x128_S128x128).axis') (u := 0) (n := 128 + 128) (D := DD d L f9 tbl g hin q fullShare) (by decide) (by omega) ?_) $$ [HTB H10B H9B HB]
  · intro i
    have hi : i.val < 128 := i.isLt
    exact Entails.of_eq (DD_B d L f9 tbl g hin q fullShare _ i (show 0 + 128 + i.val = 128 + i.val by omega)).symm
  · isplitl [HTB]; · iexact HTB
    isplitl [H10B]; · iexact H10B
    isplitl [H9B]; · iexact H9B
    iexact HB
  iintro HB
  iapply (Transfers.wp_waitBatchMulO countersEmb 𝒱₀ (thr d L) none (default : HIx 1) (N := rowCr) (n := 128 + 128) (j := 128 + 128) (u := 0) 128 (by decide) (by decide)) $$ [HB HO]
  · isplitl [HB]; · iexact HB
    isplitl [HO]; · iexact HO
    iapply (Transfers.MayWaits.elim (SemLoc.dma cc0_scratch7.sem)) $$ Hm
  iintro ⟨HB, HO⟩
  iapply (Transfers.wp_waitBatchAllO countersEmb 𝒱₀ (thr d L) none (default : HIx 1) (N := rowCr) (n := 128 + 128) (u := 0 + 128 * rowCr) (J := 128 * rowCr) (by decide) (by decide) (by decide)) $$ [HB HO]
  · isplitl [HB]; · iexact HB
    isplitl [HO]; · iexact HO
    iapply (Transfers.MayWaits.elim (SemLoc.dma cc0_scratch7.sem)) $$ Hm
  iintro ⟨HD, Hv, HO⟩
  ihave HD' := (deliveries_split _) $$ HD
  icases HD' with ⟨HDA, HDB⟩
  have eA : (bigSep Finset.univ fun k : Fin 128 => DD d L f9 tbl g hin q fullShare ⟨k.val, by omega⟩) = bigSep Finset.univ (DA d L f9 tbl g hin q fullShare) := by
    refine BI.bigSep_congr fun k _ => ?_
    exact DD_A d L f9 tbl g hin q fullShare _ k rfl
  have eB : (bigSep Finset.univ fun k : Fin 128 => DD d L f9 tbl g hin q fullShare ⟨128 + k.val, by omega⟩) = bigSep Finset.univ (DB d L f9 tbl g hin q fullShare) := by
    refine BI.bigSep_congr fun k _ => ?_
    exact DD_B d L f9 tbl g hin q fullShare _ k rfl
  ihave HDA1 := (Entails.of_eq eA) $$ HDA
  ihave HDB1 := (Entails.of_eq eB) $$ HDB
  ihave HDA2 := (DA_join d L f9 tbl g hin q fullShare) $$ HDA1
  ihave HDB2 := (DB_join d L f9 tbl g hin q fullShare) $$ HDB1
  icases HDA2 with ⟨H10A, HTA, H9A⟩
  icases HDB2 with ⟨H10B, HTB, H9B⟩
  ihave H9r' := (pointsTo_split_subset (ℓ := s9.view.loc (thr d L)) (q := fullShare) (f := f9) hdL).2 $$ [H9B H9r]
  · isplitl [H9B] <;> iassumption
  ihave H9 := (pointsTo_split_subset (ℓ := s9.view.loc (thr d L)) (q := fullShare) (f := f9) (S := Finset.univ) (Finset.subset_univ gLA.view.set)).2 $$ [H9A H9r']
  · isplitl [H9A] <;> iassumption
  ihave HTA' := (pointsTo_split_subset (ℓ := mTbl.view.loc (thr d L)) (q := pieceOf q 2 _ 0) (f := tbl) (S := Finset.univ) (Finset.subset_univ gT.view.set)).2 $$ [HTA HTAr]
  · isplitl [HTA] <;> iassumption
  ihave HTB' := (pointsTo_split_subset (ℓ := mTbl.view.loc (thr d L)) (q := pieceOf q 2 _ 1) (f := tbl) (S := Finset.univ) (Finset.subset_univ gT.view.set)).2 $$ [HTB HTBr]
  · isplitl [HTB] <;> iassumption
  ihave HT2 := (Entails.of_eq (Idealize.SL.BI.bigSep_univ_two (fun k : Fin 2 => (mTbl.view.loc (thr d L) ↦{pieceOf q 2 (by decide) k} tbl : sProp 𝕄))).symm) $$ [HTA' HTB']
  · isplitl [HTA'] <;> iassumption
  ihave HT := (Entails.of_eq (pointsTo_piecesOf (ℓ := mTbl.view.loc (thr d L)) Finset.univ tbl (o := 2) _ q).symm) $$ HT2
  -- the buffer's contents, window by window
  obtain ⟨pA, hpA⟩ : ∃ pA : S128x128.Idx → Elt F .f32, SparseCore.gatherPayload (gathers_S819200x128_S128x128) (gT.view.read (Elt F) tbl)
      (SparseCore.rows (gLA.view.read (Elt F) f9) (rfl : S128.numel = S128x128.size (gathers_S819200x128_S128x128).axis') (inA f9 hin)) = pA := ⟨_, rfl⟩
  obtain ⟨pB, hpB⟩ : ∃ pB : S128x128.Idx → Elt F .f32, SparseCore.gatherPayload (gathers_S819200x128_S128x128) (gT.view.read (Elt F) tbl)
      (SparseCore.rows (gLB.view.read (Elt F) f9) (rfl : S128.numel = S128x128.size (gathers_S819200x128_S128x128).axis') (inB f9 hin)) = pB := ⟨_, rfl⟩
  obtain ⟨f10, hf10⟩ : ∃ f10 : Vec F S256x128 .f32, f10 = fun i => if (i 0).val < 128 then gWA.view.write (Elt F) g pA Finset.univ i else gWB.view.write (Elt F) g pB Finset.univ i := ⟨_, rfl⟩
  have eWA : (gWA.view.loc (thr d L) ↦[gWA.view.set]{fullShare} (gWA.view.write (Elt F) g pA Finset.univ) : sProp 𝕄) = (s10.view.loc (thr d L) ↦[gWA.view.set]{fullShare} f10) := by
    refine pointsTo_congr fun i hi => ?_
    rw [hf10]; exact (if_pos ((memA i).mp hi)).symm
  have eWB : (gWB.view.loc (thr d L) ↦[gWB.view.set]{fullShare} (gWB.view.write (Elt F) g pB Finset.univ) : sProp 𝕄) = (s10.view.loc (thr d L) ↦[gWB.view.set]{fullShare} f10) := by
    refine pointsTo_congr fun i hi => ?_
    rw [hf10]; exact (if_neg (by have := (memB i).mp hi; omega)).symm
  have eWr : (s10.view.loc (thr d L) ↦[(Finset.univ \ gWA.view.set) \ gWB.view.set]{fullShare} g : sProp 𝕄) = (s10.view.loc (thr d L) ↦[(Finset.univ \ gWA.view.set) \ gWB.view.set]{fullShare} f10) := by
    refine pointsTo_congr fun i hi => absurd (?_ : (i 0).val < 128 ∨ 128 ≤ (i 0).val) ?_
    · omega
    · have h1 := Finset.mem_sdiff.mp hi
      have h2 := Finset.mem_sdiff.mp h1.1
      rintro (h | h)
      · exact h2.2 ((memA i).mpr h)
      · exact h1.2 ((memB i).mpr h)
  rw [hpA, hpB]
  ihave H10A' := (Entails.of_eq eWA) $$ H10A
  ihave H10B' := (Entails.of_eq eWB) $$ H10B
  ihave H10r1 := (Entails.of_eq eWr) $$ H10r
  ihave H10r' := (pointsTo_split_subset (ℓ := s10.view.loc (thr d L)) (q := fullShare) (f := f10) hdW).2 $$ [H10B' H10r1]
  · isplitl [H10B'] <;> iassumption
  ihave H10 := (pointsTo_split_subset (ℓ := s10.view.loc (thr d L)) (q := fullShare) (f := f10) (S := Finset.univ) (Finset.subset_univ gWA.view.set)).2 $$ [H10A' H10r']
  · isplitl [H10A'] <;> iassumption
  iapply Hk
  isplitl [HO]
  · isplitr; · iexact Hm
    iexists _
    isplitr
    rotate_left
    · iexact HO
    · ipureintro
      intro p hp
      rcases Finset.mem_insert.mp hp with hp | hp
      · exact .inr (hp ▸ rfl)
      rcases Finset.mem_insert.mp hp with hp | hp
      · exact .inr (hp ▸ rfl)
      · exact hW' p hp
  isplitl [Hv]; · iexact Hv
  isplitl [HT]; · iexact HT
  isplitl [H9]; · iexact H9
  iexists f10
  isplitr
  · ipureintro
    intro ρ c h
    by_cases hρ : ρ.val < 128
    · have e1 : (at2 ρ c : S256x128.Idx) = gWA.view.emb (at2 ⟨ρ.val, hρ⟩ c) := by
        refine (eq_at2 _ ρ.isLt c.isLt ?_ ?_).symm
        · show 0 + 1 * ρ.val = _; omega
        · show 0 + 1 * c.val = _; omega
      rw [hf10]
      show (if ρ.val < 128 then _ else _) = _
      rw [if_pos hρ, e1, View.write_emb_of_mem (Val := Elt F) (v := gWA.view) g pA (Finset.mem_univ _), ← hpA]
      exact payA f9 tbl hin ⟨ρ.val, hρ⟩ c
    · have e1 : (at2 ρ c : S256x128.Idx) = gWB.view.emb (at2 ⟨ρ.val - 128, by omega⟩ c) := by
        refine (eq_at2 _ ρ.isLt c.isLt ?_ ?_).symm
        · show 128 + 1 * (ρ.val - 128) = _; omega
        · show 0 + 1 * c.val = _; omega
      rw [hf10]
      show (if ρ.val < 128 then _ else _) = _
      rw [if_neg hρ, e1, View.write_emb_of_mem (Val := Elt F) (v := gWB.view) g pB (Finset.mem_univ _), ← hpB]
      refine (payB f9 tbl hin ⟨ρ.val - 128, by omega⟩ c).trans (congrArg tbl (eq_at2 _ _ _ ?_ rfl))
      show (f9 (at1 ⟨128 + (ρ.val - 128), _⟩)).toNat = (f9 (at1 ρ)).toNat
      refine congrArg (fun i => (f9 (at1 i)).toNat) (Fin.ext ?_)
      show 128 + (ρ.val - 128) = ρ.val
      omega
  · iexact H10

end Gather

end Cert.KernelIdeal.Tile

end
-- ==== Proof.IdealRow.lean ====
/-
  One row: its maxima and thresholds in, the list of its live chunks, their scores gathered, the two lists of its live
  scores, and those out.
-/
module

public import proofs.«01_k».proof.Proof.IdealRowIn
public import proofs.«01_k».proof.Proof.IdealGather

@[expose] public section

noncomputable section

namespace Cert.KernelIdeal.Tile

open Cert.KernelIdeal Cert.KernelIdeal.Gen
open Cert.Append Cert.Rows Cert.Copy
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

local notation "𝕄" => MT nD τ sig (HIx 1) (Elt F) ℕ UU ℕ

variable {α : Type}

abbrev b1 (v1 : BitVec 32) (v2 : IVec S16 32) : Fin k0_t1_loop.trips → Unit → Prog (TpuEff nD τ sig (Elt F) Λ₀ (.scVector (cV L) (jV L))) Unit :=
  k0_t1_body L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v1 v2

abbrev b3 (v2 : IVec S16 32) (v5 : BitVec 32) (v6 : Vec F S16 .f32) (v96 : BitVec 32) (hw : k0_chk2 v96) :
    Fin (k0_t3_loop v96).trips → IVec S16 32 → Prog (TpuEff nD τ sig (Elt F) Λ₀ (.scVector (cV L) (jV L))) (IVec S16 32) :=
  k0_t3_body L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 v2 v5 v6 v96 hw

/-- The lane numbers. -/
abbrev lanes : IVec S16 32 := iota .scVector S16 32 [0] iota_S16_d0_w32_scVector

theorem tail_eq (v6 : Vec F S16 .f32) (v96 : BitVec 32) (hw : k0_chk2 v96) (t : Fin (k0_t3_loop v96).trips) (a : BitVec 32) (b c : IVec S16 32) :
    (do
      let v2537 : Memref sig .scVector .vmem S1x128 .f32 := s10.slice (Rect.unit (s := S256x128) (k0_off132 v96 t) S1x128.size (k0_off132_inb v96 hw t)) (fun _ => rfl)
      let v2538 : Memref sig .scVector .vmem S128 .f32 := v2537.squeeze S128 squeezes_S1x128_S128
      let v2539 : Vec F S16 .f32 ← Prog.lift (.load v2538 (Rect.unit (s := S128) ![112] S16.size inb_S128_S16_112).toLoadRect (View.loadsAt_vmem h_S16))
      have v2550 : IVec S16 32 := k0_pay6 v6 b c v2539
      have hp : k0_chk130 v2550 := (← Prog.lift (TpuEff.assume (k0_chk130 v2550) (k0_chk130.dec v2550))).down
      SparseCore.vectorStoreIdx s11 ![v2550] v2539 (k0_pay2 v6 v2539) false (k0_idx256_inb v2550 hp) (View.stores_vmem_bits_univ h_S512 rfl)
      SparseCore.vectorStoreIdx s12 ![v2550] (k0_pay3 a) (k0_pay2 v6 v2539) false (k0_idx257_inb v2550 hp) (View.stores_vmem_bits_univ h_S512 rfl)
      pure (k0_pay7 v6 b c v2539) : Prog (TpuEff nD τ sig (Elt F) Λ₀ (.scVector (cV L) (jV L))) (IVec S16 32))
      = step L s10 s11 s12 lanes v6 v96 hw t a 15 (by decide) 112 inb_S128_S16_112 (addi b c) := rfl

theorem b3_eq (v5 : BitVec 32) (v6 : Vec F S16 .f32) (v96 : BitVec 32) (hw : k0_chk2 v96) (t : Fin (k0_t3_loop v96).trips) (off : IVec S16 32) :
    b3 L lanes v5 v6 v96 hw t off = groupSteps L s9 s10 s11 s12 lanes v5 v6 v96 hw t off := by
  have h : b3 L lanes v5 v6 v96 hw t off = groupPrinted L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3 lanes v5 v6 v96 hw t off := by
    simp only [b3]
    unfold k0_t3_body groupPrinted
    exact congrArg (Bind.bind _) (funext fun p => tail_eq L v6 v96 hw t p.1 p.2.1 p.2.2)
  rw [h, groupPrinted_eq]

/-- The fill of the list of scores. -/
abbrev fillV : Elt F .f32 := Scalar.ofBits .f32 0xF149F2CA#32

/-- How many entries of the gathered buffer the row's groups go through. -/
def total (n : Nat) : Nat := 16 * ((min n 256 + 15) / 16) * 128

/-- A row's results: the lists of its live scores and of their columns, over the gathered live chunks. -/
def RowOK (cm : Vec F S1024x800 .f32) (tau : Vec F S1024x16 .f32) (tbl : Vec F S819200x128 .f32) (r : Fin 1024)
    (f11 : Vec F S512 .f32) (f12 : Vec F S512 .i32) : Prop :=
  ∃ (f9 : Vec F S256 .i32) (f10 : Vec F S256x128 .f32),
    Inv (live1 (rowV cm r) (rowV tau r)) (item1 (F := F) (BitVec.ofNat 32 r.val)) (last1 (BitVec.ofNat 32 r.val)) 800 f9
    ∧ GatheredOf f9 tbl f10
    ∧ Inv (live2 f10 (rowV tau r)) (itemV f10) (fillV (F := F)) (total (nLive (rowV cm r) (rowV tau r))) f11
    ∧ Inv (live2 f10 (rowV tau r)) (itemI f9 (BitVec.ofNat 32 r.val)) 2147483647#32 (total (nLive (rowV cm r) (rowV tau r))) f12

/-- The list's entries are rows of the table. -/
theorem inTable (live : Nat → Bool) (r : Nat) (hr : r < 1024) (f9 : Vec F S256 .i32)
    (hI : Inv live (item1 (F := F) (BitVec.ofNat 32 r)) (last1 (BitVec.ofNat 32 r)) 800 f9) (x : S256.Idx) : (f9 x).toNat < 819200 := by
  have hitem : ∀ q, q < 800 → (item1 (F := F) (BitVec.ofNat 32 r) q).toNat = r * 800 + q := by
    intro q hq
    show (BitVec.ofNat 32 r * 800#32 + BitVec.ofNat 32 q).toNat = _
    simp only [BitVec.toNat_add, BitVec.toNat_mul, BitVec.toNat_ofNat]
    omega
  rcases hI.any x with h | ⟨q, hq, h⟩
  · rw [h]
    have := hitem 799 (by decide)
    show (item1 (F := F) (BitVec.ofNat 32 r) 799).toNat < _
    omega
  · rw [h]
    have := hitem q hq
    omega

section Loop

variable (f9 : Vec F S256 .i32) (f10 : Vec F S256x128 .f32) (v5 : BitVec 32) (v6 : Vec F S16 .f32) (iv : Elt F .f32)
variable (v2 : IVec S16 32) (hv2 : ∀ k : Fin 16, v2 (lane k) = BitVec.ofNat 32 k.val)
include hv2

theorem groups_wp {Q : α → sProp 𝕄} (hl : v2 = lanes) (n : Nat) (hn : n ≤ 800) (hw : k0_chk2 (BitVec.ofNat 32 n)) (hok : (k0_t3_loop (BitVec.ofNat 32 n)).OK)
    (k : IVec S16 32 → Prog (TpuEff nD τ sig (Elt F) Λ₀ (.scVector (cV L) (jV L))) α) :
    iprop(St d L f9 f10 v5 v6 iv 0 ∗ pt10 d L f10 ∗ pt9 d L f9) ⊢
      iprop((∀ acc, iprop(St d L f9 f10 v5 v6 iv (total n) ∗ pt10 d L f10 ∗ pt9 d L f9) -∗ wpT d L (k acc) Q)
      -∗ wpT d L (Scf.Loop.for (k0_t3_loop (BitVec.ofNat 32 n)) hok k0_pay1612 (b3 L v2 v5 v6 (BitVec.ofNat 32 n) hw) >>= k) Q) := by
  iintro H Hk
  iapply (Scf.wp_for_bind frame (wpE (defs₀ (F := F)) 𝒱₀ (thr d L) none) Set.univ (k0_t3_loop (BitVec.ofNat 32 n)).lb (k0_t3_loop (BitVec.ofNat 32 n)).ub (k0_t3_loop (BitVec.ofNat 32 n)).st
    hok k0_pay1612 (b3 L v2 v5 v6 (BitVec.ofNat 32 n) hw)
    (fun m acc => iprop(⌜acc = offv (rk (live2 f10 v6) (16 * m * 128))⌝ ∗ St d L f9 f10 v5 v6 iv (16 * m * 128) ∗ pt10 d L f10 ∗ pt9 d L f9)) ?_) $$ [H]
  · intro t acc
    iintro ⟨%hacc, H⟩
    subst hacc
    have e : b3 L v2 v5 v6 (BitVec.ofNat 32 n) hw t (offv (rk (live2 f10 v6) (16 * t.val * 128))) = groupSteps L s9 s10 s11 s12 v2 v5 v6 (BitVec.ofNat 32 n) hw t (offv (rk (live2 f10 v6) (16 * t.val * 128))) := by
      rw [hl]; exact b3_eq L v5 v6 (BitVec.ofNat 32 n) hw t (offv (rk (live2 f10 v6) (16 * t.val * 128)))
    have e' := bind_pure (b3 L v2 v5 v6 (BitVec.ofNat 32 n) hw t (offv (rk (live2 f10 v6) (16 * t.val * 128))))
    rw [← e', e]
    iapply (group_wp d L f9 f10 v5 v6 iv v2 hv2 (BitVec.ofNat 32 n) hw t (fun j hj => rowOff_eq _ t (trip_lt n hn t) j hj) (trip_lt n hn t) _) $$ H
    iintro H
    unfold wpT
    rw [Prog.pure_eq_ret, wp_ret]
    imodintro
    isplitr
    · ipureintro; rfl
    · iexact H
  · isplitr
    · ipureintro; rfl
    · iexact H
  iintro %acc ⟨%hacc, H⟩
  have ht : 16 * Scf.trips (k0_t3_loop (BitVec.ofNat 32 n)).lb (k0_t3_loop (BitVec.ofNat 32 n)).ub (k0_t3_loop (BitVec.ofNat 32 n)).st * 128 = total n := by
    unfold total; rw [← t3_trips n hn]
  rw [ht]
  iapply Hk $$ H

omit hv2 in
theorem none_wp {Q : α → sProp 𝕄} (n : Nat) (hn : n ≤ 800) (hok : (k0_t4_loop (BitVec.ofNat 32 n)).OK) (acc : IVec S16 32)
    (body : Fin (k0_t4_loop (BitVec.ofNat 32 n)).trips → IVec S16 32 → Prog (TpuEff nD τ sig (Elt F) Λ₀ (.scVector (cV L) (jV L))) (IVec S16 32)) (k : IVec S16 32 → Prog (TpuEff nD τ sig (Elt F) Λ₀ (.scVector (cV L) (jV L))) α) :
    iprop(emp) ⊢
      iprop((∀ acc, wpT d L (k acc) Q)
      -∗ wpT d L (Scf.Loop.for (k0_t4_loop (BitVec.ofNat 32 n)) hok acc body >>= k) Q) := by
  iintro - Hk
  iapply (Scf.wp_for_bind frame (wpE (defs₀ (F := F)) 𝒱₀ (thr d L) none) Set.univ (k0_t4_loop (BitVec.ofNat 32 n)).lb (k0_t4_loop (BitVec.ofNat 32 n)).ub (k0_t4_loop (BitVec.ofNat 32 n)).st
    hok acc body (fun m acc => iprop(emp)) ?_) $$ []
  · intro t acc
    exact (no_trip n hn t).elim
  · iempintro
  iintro %acc -
  iapply Hk

end Loop

theorem fl9_zero (w : Elt F .i32) (f : Vec F S256 .i32) : pt9 d L f ⊢ fl9 d L w 0 := by
  unfold fl9
  iintro H
  iexists f
  isplitr
  · ipureintro; exact fun j h => absurd h (Nat.not_lt_zero _)
  · iexact H

theorem fl11_zero (w : Elt F .f32) (f : Vec F S512 .f32) : pt11 d L f ⊢ fl11 d L w 0 := by
  unfold fl11
  iintro H
  iexists f
  isplitr
  · ipureintro; exact fun j h => absurd h (Nat.not_lt_zero _)
  · iexact H

theorem fl12_zero (w : Elt F .i32) (f : Vec F S512 .i32) : pt12 d L f ⊢ fl12 d L w 0 := by
  unfold fl12
  iintro H
  iexists f
  isplitr
  · ipureintro; exact fun j h => absurd h (Nat.not_lt_zero _)
  · iexact H

theorem St_zero (f9 : Vec F S256 .i32) (f10 : Vec F S256x128 .f32) (v5 : BitVec 32) (v6 : Vec F S16 .f32) (iv : Elt F .f32) :
    iprop(fl11 d L iv 512 ∗ fl12 d L 2147483647#32 512) ⊢ St d L f9 f10 v5 v6 iv 0 := by
  unfold fl11 fl12 St
  iintro ⟨⟨%f11, %h11, H11⟩, %f12, %h12, H12⟩
  iexists f11, f12
  isplitr
  · ipureintro
    exact ⟨Inv.zero _ _ _ _ fun j => h11 j (j 0).isLt, Inv.zero _ _ _ _ fun j => h12 j (j 0).isLt⟩
  isplitl [H11] <;> iassumption

/-- What a tile's row leaves and takes. -/
def Res (O : CellTallies nD τ sig (HIx 1)) (W : Waits sig (HIx 1)) (cm : Vec F S1024x800 .f32) (tau : Vec F S1024x16 .f32) (tbl : Vec F S819200x128 .f32)
    (q : PosShare TreeShare) : sProp 𝕄 :=
  iprop(Ow (thr d L) O W ∗ semVal (thr d L, .dma cc0_scratch7.sem) 0 ∗ semVal (thr d L, .dma cc0_scoped0.sem) 0 ∗ semVal (thr d L, .dma cc0_scoped1.sem) 0
    ∗ semVal (thr d L, .dma cc0_scoped2.sem) 0 ∗ semVal (thr d L, .dma cc0_scoped3.sem) 0
    ∗ (mCm.view.loc (thr d L) ↦{q} cm) ∗ (mTau.view.loc (thr d L) ↦{q} tau) ∗ (mTbl.view.loc (thr d L) ↦{q} tbl)
    ∗ (∃ f, pt7 d L f) ∗ (∃ f, pt8 d L f) ∗ (∃ f, pt9 d L f) ∗ (∃ f, pt10 d L f) ∗ (∃ f, pt11 d L f) ∗ (∃ f, pt12 d L f))

/-- The rows of a tile. -/
def Outs (B : Finset S1024x512.Idx) (fv : Vec F S1024x512 .f32) (fi : Vec F S1024x512 .i32) : sProp 𝕄 :=
  iprop((mOv.view.loc (thr d L) ↦[B]{fullShare} fv) ∗ (mOi.view.loc (thr d L) ↦[B]{fullShare} fi))

theorem row_wp {Q : Unit → sProp 𝕄} {O : CellTallies nD τ sig (HIx 1)} {W : Waits sig (HIx 1)} (t : Fin k0_t1_loop.trips)
    (cm : Vec F S1024x800 .f32) (tau : Vec F S1024x16 .f32) (tbl : Vec F S819200x128 .f32) (q : PosShare TreeShare)
    (v1 : BitVec 32) (v2 : IVec S16 32) (hl : v2 = lanes) (hv1 : v1 = BitVec.ofNat 32 (2 * (L 1).val + (L 0).val)) (hv2 : ∀ k : Fin 16, v2 (lane k) = BitVec.ofNat 32 k.val)
    (B : Finset S1024x512.Idx) (hB : ∀ i : S1024x512.Idx, (i 0).val = rowNo L t → i ∈ B) (fv : Vec F S1024x512 .f32) (fi : Vec F S1024x512 .i32) :
    iprop(Res d L O W cm tau tbl q ∗ Outs d L B fv fi) ⊢
      iprop((∀ f11 f12, iprop(⌜RowOK cm tau tbl ⟨rowNo L t, rowNo_lt L t⟩ f11 f12⌝ ∗ Res d L O W cm tau tbl q
          ∗ Outs d L B ((outV L t).view.write (Elt F) fv f11 Finset.univ) ((outI L t).view.write (Elt F) fi f12 Finset.univ)) -∗ Q ⟨⟩)
      -∗ wpT d L (b1 L v1 v2 t ()) Q) := by
  have hrow := rowNo_lt L t
  have hv5 : Scalar.addi (Scalar.muli v1 32#32) (Scf.iv 0#32 1#32 t.val) = BitVec.ofNat 32 (rowNo L t) := by
    rw [hv1, iv_eq]
    show BitVec.ofNat 32 _ * 32#32 + BitVec.ofNat 32 _ = _
    refine BitVec.eq_of_toNat_eq ?_
    have h1 : (L 1).val < 16 := (L 1).isLt
    have h0 : (L 0).val < 2 := (L 0).isLt
    have ht : t.val < 32 := t.isLt
    unfold rowNo
    simp only [BitVec.toNat_add, BitVec.toNat_mul, BitVec.toNat_ofNat]
    omega
  have hn : nLive (rowV cm ⟨rowNo L t, hrow⟩) (rowV tau ⟨rowNo L t, hrow⟩) ≤ 800 := rk_le _ _
  have hw := chk2_of _ hn
  simp only [b1]
  unfold k0_t1_body
  unfold Res Outs
  iintro ⟨⟨HO, Hg, Hv0, Hv1, Hv2, Hv3, Hcm, Htau, Htbl, ⟨%f7, H7⟩, ⟨%f8, H8⟩, ⟨%f9, H9⟩, ⟨%f10, H10⟩, ⟨%f11, H11⟩, ⟨%f12, H12⟩⟩, Hov, Hoi⟩ Hk
  ihave F9 := (fl9_zero d L (last1 (Scalar.addi (Scalar.muli v1 32#32) (Scf.iv 0#32 1#32 t.val))) f9) $$ H9
  ihave F11 := (fl11_zero d L (fillV (F := F)) f11) $$ H11
  ihave F12 := (fl12_zero d L 2147483647#32 f12) $$ H12
  iapply (part119_wp d L v1 t cm tau q f7 f8 _) $$ [HO Hv0 Hv1 Hcm Htau H7 H8 F9]
  · isplitl [HO]; · iexact HO
    isplitl [Hv0]; · iexact Hv0
    isplitl [Hv1]; · iexact Hv1
    isplitl [Hcm]; · iexact Hcm
    isplitl [Htau]; · iexact Htau
    isplitl [H7]; · iexact H7
    isplitl [H8]; · iexact H8
    iexact F9
  iintro ⟨HO, Hv0, Hv1, Hcm, Htau, H7, H8, F9⟩
  have hv9 : k0_pay1601 v1 0#32 1#32 t = fun _ => last1 (Scalar.addi (Scalar.muli v1 32#32) (Scf.iv 0#32 1#32 t.val)) := rfl
  rw [hv5] at hv9 ⊢
  obtain ⟨v6, hv6⟩ : ∃ v6 : Vec F S16 .f32, rowV tau ⟨rowNo L t, hrow⟩ = v6 := ⟨_, rfl⟩
  obtain ⟨fm, hfm⟩ : ∃ fm : Vec F S800 .f32, rowV cm ⟨rowNo L t, hrow⟩ = fm := ⟨_, rfl⟩
  obtain ⟨v5, hv5'⟩ : ∃ v5 : BitVec 32, BitVec.ofNat 32 (rowNo L t) = v5 := ⟨_, rfl⟩
  rw [hv6, hfm] at hn hw ⊢
  rw [hv5'] at hv9 ⊢
  iapply (part120_wp d L (last1 v5) _ hv9 _) $$ [F9 F11 F12]
  · isplitl [F9]; · iexact F9
    isplitl [F11]; · iexact F11
    iexact F12
  iintro ⟨F9, F11, F12⟩
  iapply (part121_wp d L (fillV (F := F)) 2147483647#32 _ _ rfl rfl _) $$ [F11 F12]
  · isplitl [F11]; · iexact F11
    iexact F12
  iintro ⟨F11, F12⟩
  iapply (part122_wp d L (fillV (F := F)) 2147483647#32 _ _ rfl rfl _) $$ [F11 F12]
  · isplitl [F11]; · iexact F11
    iexact F12
  iintro ⟨F11, F12⟩
  iapply (part123_wp d L fm v5 v6 v2 hv2 _ _ (fillV (F := F)) 2147483647#32 rfl rfl hw _) $$ [F9 F11 F12 H7]
  · isplitl [F9]; · iexact F9
    isplitl [F11]; · iexact F11
    isplitl [F12]; · iexact F12
    iexact H7
  iintro ⟨S9, F11, F12, H7⟩
  unfold St1
  icases S9 with ⟨%g9, %hI9, H9⟩
  have hI9' := hI9
  rw [← hv5'] at hI9'
  have hin := fun x => inTable _ _ hrow g9 hI9' x
  iapply (part124_wp d L g9 tbl f10 hin q _ _) $$ [HO Hg Htbl H9 H10]
  · isplitl [HO]; · iexact HO
    isplitl [Hg]; · iexact Hg
    isplitl [Htbl]; · iexact Htbl
    isplitl [H9]; · iexact H9
    iexact H10
  iintro %v127 ⟨HO, Hg, Htbl, H9, %g10, %hg10, H10⟩
  ihave HS := (St_zero d L g9 g10 v5 v6 (fillV (F := F))) $$ [F11 F12]
  · isplitl [F11]; · iexact F11
    iexact F12
  iapply (groups_wp d L g9 g10 v5 v6 (fillV (F := F)) v2 hv2 hl _ hn hw _ _) $$ [HS H10 H9]
  · isplitl [HS]; · iexact HS
    isplitl [H10]; · iexact H10
    iexact H9
  iintro %acc ⟨HS, H10, H9⟩
  iapply (none_wp d L _ hn _ _ _ _) $$ []
  · iempintro
  iintro %acc2
  unfold St
  icases HS with ⟨%g11, %g12, %hI, H11, H12⟩
  simp only [Prog.lift, Prog.bind_op, Prog.bind_ret, Prog.pure_eq_ret, bind_assoc, pure_bind]
  iapply (wp_copy countersEmb 𝒱₀ (thr d L) none s11 (outV L t) cc0_scoped2.sem (Sd := B) (show 0 < (main_v1_0_scv : Ref sig .scVector).dmaCredit S512 .f32 by decide) (fun i hi => hB i ((setV L t i).mp hi))) $$ [HO Hv2 H11 Hov]
  · isplitl [HO]; · iexact HO
    isplitl [Hv2]; · iexact Hv2
    isplitl [H11]
    · iapply (Entails.of_eq (congrArg (fun S => (s11.view.loc (thr d L) ↦[S]{fullShare} g11 : sProp 𝕄)) (View.set_whole cc0_scratch4).symm)) $$ H11
    · iexact Hov
  iintro ⟨HO, Hv2, H11, Hov⟩
  iapply (wp_copy countersEmb 𝒱₀ (thr d L) none s12 (outI L t) cc0_scoped3.sem (Sd := B) (show 0 < (main_v1_1_scv : Ref sig .scVector).dmaCredit S512 .i32 by decide) (fun i hi => hB i ((setI L t i).mp hi))) $$ [HO Hv3 H12 Hoi]
  · isplitl [HO]; · iexact HO
    isplitl [Hv3]; · iexact Hv3
    isplitl [H12]
    · iapply (Entails.of_eq (congrArg (fun S => (s12.view.loc (thr d L) ↦[S]{fullShare} g12 : sProp 𝕄)) (View.set_whole cc0_scratch5).symm)) $$ H12
    · iexact Hoi
  iintro ⟨HO, Hv3, H12, Hoi⟩
  rw [wp_ret]
  imodintro
  iapply Hk $$ %g11 %g12
  isplitr
  · ipureintro
    refine ⟨g9, g10, ?_, hg10, ?_, ?_⟩
    · rw [hfm, hv6]; exact hI9'
    · rw [hfm, hv6]; exact hI.1
    · rw [hfm, hv6, hv5']; exact hI.2
  isplitr [Hov Hoi]
  · isplitl [HO]; · iexact HO
    isplitl [Hg]; · iexact Hg
    isplitl [Hv0]; · iexact Hv0
    isplitl [Hv1]; · iexact Hv1
    isplitl [Hv2]; · iexact Hv2
    isplitl [Hv3]; · iexact Hv3
    isplitl [Hcm]; · iexact Hcm
    isplitl [Htau]; · iexact Htau
    isplitl [Htbl]; · iexact Htbl
    isplitl [H7]; · iexists _; iexact H7
    isplitl [H8]; · iexists _; iexact H8
    isplitl [H9]; · iexists _; iexact H9
    isplitl [H10]; · iexists _; iexact H10
    isplitl [H11]
    · iexists g11
      iapply (Entails.of_eq (congrArg (fun S => (s11.view.loc (thr d L) ↦[S]{fullShare} g11 : sProp 𝕄)) (View.set_whole cc0_scratch4))) $$ H11
    · iexists g12
      iapply (Entails.of_eq (congrArg (fun S => (s12.view.loc (thr d L) ↦[S]{fullShare} g12 : sProp 𝕄)) (View.set_whole cc0_scratch5))) $$ H12
  · isplitl [Hov]
    · iexact Hov
    · iexact Hoi

end Cert.KernelIdeal.Tile

end
-- ==== Proof.IdealTile.lean ====
/-
  A tile: its thirty-two rows, one after another.
-/
module

public import proofs.«01_k».proof.Proof.IdealRow

@[expose] public section

noncomputable section

namespace Cert.KernelIdeal.Tile

open Cert.KernelIdeal Cert.KernelIdeal.Gen
open Cert.Append Cert.Rows Cert.Copy
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

local notation "𝕄" => MT nD τ sig (HIx 1) (Elt F) ℕ UU ℕ

theorem ne_cell {a b : SemLoc sig} (h : a ≠ b) : ((thr d L, a) : GSem nD τ sig) ≠ (thr d L, b) := fun e => h (congrArg Prod.snd e)

theorem ownSems0_tile : (ownSems0 (thr d L) : sProp 𝕄)
      = iprop(semVal ((thr d L, .dma cc0_scratch7.sem) : GSem nD τ sig) 0 ∗ semVal ((thr d L, .dma cc0_scoped0.sem) : GSem nD τ sig) 0 ∗ semVal ((thr d L, .dma cc0_scoped1.sem) : GSem nD τ sig) 0 ∗ semVal ((thr d L, .dma cc0_scoped2.sem) : GSem nD τ sig) 0 ∗ semVal ((thr d L, .dma cc0_scoped3.sem) : GSem nD τ sig) 0 ∗ bigSep ((((((ownCells (thr d L)).erase ((thr d L, .dma cc0_scratch7.sem) : GSem nD τ sig)).erase ((thr d L, .dma cc0_scoped0.sem) : GSem nD τ sig)).erase ((thr d L, .dma cc0_scoped1.sem) : GSem nD τ sig)).erase ((thr d L, .dma cc0_scoped2.sem) : GSem nD τ sig)).erase ((thr d L, .dma cc0_scoped3.sem) : GSem nD τ sig)) fun g => semVal g 0) := by
  unfold SparseCore.Cfg.ownSems0
  rw [SparseCore.bigSep_erase' ((mem_ownCells (g := ((thr d L, .dma cc0_scratch7.sem) : GSem nD τ sig))).mpr ⟨rfl, by show (SemLoc.dma cc0_scratch7.sem : SemLoc sig).isScoped .scVector = true; decide⟩),
    SparseCore.bigSep_erase' (Finset.mem_erase.mpr ⟨ne_cell d L (show (SemLoc.dma cc0_scoped0.sem : SemLoc sig) ≠ SemLoc.dma cc0_scratch7.sem by decide), (mem_ownCells (g := ((thr d L, .dma cc0_scoped0.sem) : GSem nD τ sig))).mpr ⟨rfl, by show (SemLoc.dma cc0_scoped0.sem : SemLoc sig).isScoped .scVector = true; decide⟩⟩),
    SparseCore.bigSep_erase' (Finset.mem_erase.mpr ⟨ne_cell d L (show (SemLoc.dma cc0_scoped1.sem : SemLoc sig) ≠ SemLoc.dma cc0_scoped0.sem by decide), Finset.mem_erase.mpr ⟨ne_cell d L (show (SemLoc.dma cc0_scoped1.sem : SemLoc sig) ≠ SemLoc.dma cc0_scratch7.sem by decide), (mem_ownCells (g := ((thr d L, .dma cc0_scoped1.sem) : GSem nD τ sig))).mpr ⟨rfl, by show (SemLoc.dma cc0_scoped1.sem : SemLoc sig).isScoped .scVector = true; decide⟩⟩⟩),
    SparseCore.bigSep_erase' (Finset.mem_erase.mpr ⟨ne_cell d L (show (SemLoc.dma cc0_scoped2.sem : SemLoc sig) ≠ SemLoc.dma cc0_scoped1.sem by decide), Finset.mem_erase.mpr ⟨ne_cell d L (show (SemLoc.dma cc0_scoped2.sem : SemLoc sig) ≠ SemLoc.dma cc0_scoped0.sem by decide), Finset.mem_erase.mpr ⟨ne_cell d L (show (SemLoc.dma cc0_scoped2.sem : SemLoc sig) ≠ SemLoc.dma cc0_scratch7.sem by decide), (mem_ownCells (g := ((thr d L, .dma cc0_scoped2.sem) : GSem nD τ sig))).mpr ⟨rfl, by show (SemLoc.dma cc0_scoped2.sem : SemLoc sig).isScoped .scVector = true; decide⟩⟩⟩⟩),
    SparseCore.bigSep_erase' (Finset.mem_erase.mpr ⟨ne_cell d L (show (SemLoc.dma cc0_scoped3.sem : SemLoc sig) ≠ SemLoc.dma cc0_scoped2.sem by decide), Finset.mem_erase.mpr ⟨ne_cell d L (show (SemLoc.dma cc0_scoped3.sem : SemLoc sig) ≠ SemLoc.dma cc0_scoped1.sem by decide), Finset.mem_erase.mpr ⟨ne_cell d L (show (SemLoc.dma cc0_scoped3.sem : SemLoc sig) ≠ SemLoc.dma cc0_scoped0.sem by decide), Finset.mem_erase.mpr ⟨ne_cell d L (show (SemLoc.dma cc0_scoped3.sem : SemLoc sig) ≠ SemLoc.dma cc0_scratch7.sem by decide), (mem_ownCells (g := ((thr d L, .dma cc0_scoped3.sem) : GSem nD τ sig))).mpr ⟨rfl, by show (SemLoc.dma cc0_scoped3.sem : SemLoc sig).isScoped .scVector = true; decide⟩⟩⟩⟩⟩)]

theorem ownBufs_tile :
    (ownBufs (thr d L) : sProp 𝕄)
      = iprop((∃ f, pt7 d L f) ∗ (∃ f, pt8 d L f) ∗ (∃ f, pt9 d L f) ∗ (∃ f, pt10 d L f) ∗ (∃ f, pt11 d L f) ∗ (∃ f, pt12 d L f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]
  rfl

/-- The rows of a tile that are done. -/
def Done (cm : Vec F S1024x800 .f32) (tau : Vec F S1024x16 .f32) (tbl : Vec F S819200x128 .f32) (n : Nat) (fv : Vec F S1024x512 .f32) (fi : Vec F S1024x512 .i32) : Prop :=
  ∀ t : Fin k0_t1_loop.trips, t.val < n → RowOK cm tau tbl ⟨rowNo L t, rowNo_lt L t⟩ (rowV fv ⟨rowNo L t, rowNo_lt L t⟩) (rowV fi ⟨rowNo L t, rowNo_lt L t⟩)

theorem Done.step {cm : Vec F S1024x800 .f32} {tau : Vec F S1024x16 .f32} {tbl : Vec F S819200x128 .f32} (t : Fin k0_t1_loop.trips) {fv : Vec F S1024x512 .f32} {fi : Vec F S1024x512 .i32}
    (h : Done L cm tau tbl t.val fv fi) (f11 : Vec F S512 .f32) (f12 : Vec F S512 .i32) (hr : RowOK cm tau tbl ⟨rowNo L t, rowNo_lt L t⟩ f11 f12) :
    Done L cm tau tbl (t.val + 1) ((outV L t).view.write (Elt F) fv f11 Finset.univ) ((outI L t).view.write (Elt F) fi f12 Finset.univ) := by
  intro t' ht'
  rw [writeV, writeI]
  by_cases e : t' = t
  · subst e
    rw [if_pos rfl, if_pos rfl]
    exact hr
  · have hne : t'.val ≠ t.val := fun q => e (Fin.ext q)
    have hn : ¬ (rowNo L t' = rowNo L t) := by unfold rowNo; omega
    rw [if_neg hn, if_neg hn]
    exact h t' (by omega)

theorem lanes_val (k : Fin 16) : lanes (lane k) = BitVec.ofNat 32 k.val := by
  revert k; decide

set_option maxHeartbeats 1000000 in
theorem tile_wp {Q : PUnit → sProp 𝕄} {O : CellTallies nD τ sig (HIx 1)} {W : Waits sig (HIx 1)}
    (cm : Vec F S1024x800 .f32) (tau : Vec F S1024x16 .f32) (tbl : Vec F S819200x128 .f32) (q : PosShare TreeShare)
    (B : Finset S1024x512.Idx) (hB : ∀ (t : Fin k0_t1_loop.trips) (i : S1024x512.Idx), (i 0).val = rowNo L t → i ∈ B) (fv : Vec F S1024x512 .f32) (fi : Vec F S1024x512 .i32) :
    iprop(Res d L O W cm tau tbl q ∗ Outs d L B fv fi) ⊢
      iprop((∀ fv' fi', iprop(⌜Done L cm tau tbl 32 fv' fi'⌝ ∗ Res d L O W cm tau tbl q ∗ Outs d L B fv' fi') -∗ Q ⟨⟩)
      -∗ wpT d L (cc0__sc_select_kernel L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3) Q) := by
  simp only [cc0__sc_select_kernel_eq_skeleton]; unfold cc0__sc_select_kernel_skel
  iintro H Hk
  iapply (Scf.wp_for_bind frame (wpE (defs₀ (F := F)) 𝒱₀ (thr d L) none) Set.univ k0_t1_loop.lb k0_t1_loop.ub k0_t1_loop.st k0_t1_ok ⟨⟩
    (b1 L (Scalar.addi (Scalar.muli (BitVec.ofNat 32 (L 1).val) 2#32) (BitVec.ofNat 32 (L 0).val)) lanes)
    (fun n acc => iprop(∃ fv fi, ⌜Done L cm tau tbl n fv fi⌝ ∗ Res d L O W cm tau tbl q ∗ Outs d L B fv fi)) ?_) $$ [H]
  · intro t acc
    have hv1 : Scalar.addi (Scalar.muli (BitVec.ofNat 32 (L 1).val) 2#32) (BitVec.ofNat 32 (L 0).val) = BitVec.ofNat 32 (2 * (L 1).val + (L 0).val) := by
      have h1 : (L 1).val < 16 := (L 1).isLt
      have h0 : (L 0).val < 2 := (L 0).isLt
      show BitVec.ofNat 32 _ * 2#32 + BitVec.ofNat 32 _ = _
      refine BitVec.eq_of_toNat_eq ?_
      simp only [BitVec.toNat_add, BitVec.toNat_mul, BitVec.toNat_ofNat]
      omega
    iintro ⟨%gv, %gi, %hD, H⟩
    iapply (row_wp d L t cm tau tbl q _ lanes rfl hv1 lanes_val B (hB t) gv gi) $$ H
    iintro %f11 %f12 ⟨%hr, H⟩
    iexists _, _
    isplitr
    rotate_left
    · iexact H
    · ipureintro
      exact hD.step L t f11 f12 hr
  · iexists fv, fi
    isplitr
    · ipureintro
      exact fun t ht => absurd ht (Nat.not_lt_zero _)
    · iexact H
  iintro %acc ⟨%gv, %gi, %hD, H⟩
  rw [Prog.pure_eq_ret, wp_ret]
  imodintro
  iapply Hk $$ %gv %gi
  isplitr
  · ipureintro
    exact hD
  · iexact H

/-- The tile's task, from what its launch hands it. -/
theorem tile_body {O : CellTallies nD τ sig (HIx 1)} {W : Waits sig (HIx 1)} (hO : ∀ g, O g none = 0)
    (cm : Vec F S1024x800 .f32) (tau : Vec F S1024x16 .f32) (tbl : Vec F S819200x128 .f32) (q : PosShare TreeShare)
    (B : Finset S1024x512.Idx) (hB : ∀ (t : Fin k0_t1_loop.trips) (i : S1024x512.Idx), (i 0).val = rowNo L t → i ∈ B) (fv : Vec F S1024x512 .f32) (fi : Vec F S1024x512 .i32) :
    iprop(levAts (K (F := F)).L (K (F := F)).lev ∗ emp
        ∗ ((mCm.view.loc (thr d L) ↦{q} cm) ∗ (mTau.view.loc (thr d L) ↦{q} tau) ∗ (mTbl.view.loc (thr d L) ↦{q} tbl) ∗ Outs d L B fv fi)
        ∗ scopedBufs (thr d L) ∗ scopedSems0 (thr d L) ∗ owes (thr d L) O W)
      ⊢ wpT d L (cc0__sc_select_kernel L mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3)
          fun _ => iprop(((mCm.view.loc (thr d L) ↦{q} cm) ∗ (mTau.view.loc (thr d L) ↦{q} tau) ∗ (mTbl.view.loc (thr d L) ↦{q} tbl)
              ∗ ∃ fv' fi', ⌜Done L cm tau tbl 32 fv' fi'⌝ ∗ Outs d L B fv' fi')
            ∗ scopedBufs (thr d L) ∗ scopedSems0 (thr d L) ∗ ∃ W', ⌜∀ p ∈ W', p ∈ W ∨ p.2 = none⌝ ∗ owes (thr d L) O W') := by
  rw [(K (F := F)).scopedBufs_V cfgFacts d (cV L) (jV L), SparseCore.Cfg.scopedSems0_V (Val := Elt F) d (cV L) (jV L), ownSems0_tile, ownBufs_tile]
  iintro ⟨#Hlv, -, ⟨Hcm, Htau, Htbl, Hout⟩, ⟨H7, H8, H9, H10, H11, H12, Hbufs⟩, ⟨Hg, Hv0, Hv1, Hv2, Hv3, Hsems⟩, HO⟩
  ihave Hmw := (show levAts (K (F := F)).L (K (F := F)).lev ⊢ Transfers.MayWaits (thr d L) (default : HIx 1) O from
    (K (F := F)).mayWaits_none (thr := thr d L) hO) $$ Hlv
  ihave HW := (Ow.intro (N := 1) (U := UU) (F := F) (thr d L) O W) $$ [Hmw HO]
  · isplitl [Hmw]; · iexact Hmw
    iexact HO
  iapply (tile_wp d L cm tau tbl q B hB fv fi) $$ [HW Hcm Htau Htbl Hout H7 H8 H9 H10 H11 H12 Hg Hv0 Hv1 Hv2 Hv3]
  · isplitr [Hout]
    · unfold Res
      isplitl [HW]; · iexact HW
      isplitl [Hg]; · iexact Hg
      isplitl [Hv0]; · iexact Hv0
      isplitl [Hv1]; · iexact Hv1
      isplitl [Hv2]; · iexact Hv2
      isplitl [Hv3]; · iexact Hv3
      isplitl [Hcm]; · iexact Hcm
      isplitl [Htau]; · iexact Htau
      isplitl [Htbl]; · iexact Htbl
      isplitl [H7]; · iexact H7
      isplitl [H8]; · iexact H8
      isplitl [H9]; · iexact H9
      isplitl [H10]; · iexact H10
      isplitl [H11]; · iexact H11
      iexact H12
    · iexact Hout
  iintro %gv %gi ⟨%hD, HR, Hout⟩
  unfold Res Ow
  icases HR with ⟨⟨-, HO⟩, Hg, Hv0, Hv1, Hv2, Hv3, Hcm, Htau, Htbl, H7, H8, H9, H10, H11, H12⟩
  isplitl [Hcm Htau Htbl Hout]
  · isplitl [Hcm]; · iexact Hcm
    isplitl [Htau]; · iexact Htau
    isplitl [Htbl]; · iexact Htbl
    iexists gv, gi
    isplitr
    · ipureintro; exact hD
    · iexact Hout
  isplitl [H7 H8 H9 H10 H11 H12 Hbufs]
  · isplitl [H7]; · iexact H7
    isplitl [H8]; · iexact H8
    isplitl [H9]; · iexact H9
    isplitl [H10]; · iexact H10
    isplitl [H11]; · iexact H11
    isplitl [H12]; · iexact H12
    iexact Hbufs
  isplitl [Hg Hv0 Hv1 Hv2 Hv3 Hsems]
  · isplitl [Hg]; · iexact Hg
    isplitl [Hv0]; · iexact Hv0
    isplitl [Hv1]; · iexact Hv1
    isplitl [Hv2]; · iexact Hv2
    isplitl [Hv3]; · iexact Hv3
    iexact Hsems
  iexact HO

end Cert.KernelIdeal.Tile

end
-- ==== Proof.IdealLaunch.lean ====
/-
  The launch: what the call hands each tile and takes back, the tiles' blocks of the two results, and the run of the
  whole program from any memory.
-/
module

public import proofs.«01_k».proof.Proof.IdealTile
public import proofs.«01_k».proof.Proof.Split

@[expose] public section

noncomputable section

namespace Cert.KernelIdeal.Tile

open Cert.KernelIdeal Cert.KernelIdeal.Gen
open Cert.Append Cert.Rows Cert.Copy Cert.Split
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev aLoc (d : Dev nD) : Loc nD τ sig := (SparseCore.T d).loc main_arg0
abbrev tLoc (d : Dev nD) : Loc nD τ sig := (SparseCore.T d).loc main_arg1
abbrev sLoc (d : Dev nD) : Loc nD τ sig := (SparseCore.T d).loc main_arg2
abbrev bLoc (d : Dev nD) : Loc nD τ sig := (SparseCore.T d).loc main_v0
abbrev vLoc (d : Dev nD) : Loc nD τ sig := (SparseCore.T d).loc main_v1_0
abbrev iLoc (d : Dev nD) : Loc nD τ sig := (SparseCore.T d).loc main_v1_1

/-- The scores as rows of one chunk each. -/
def chunks (x : Vec F S1024x102400 .f32) : Vec F S819200x128 .f32 := shapeCast S819200x128 x shapeCasts_S1024x102400_S819200x128

/-- Tile `i` of core `c`. -/
def coordsV (c : Fin (grid0.bound 0)) (s : Fin (grid0.bound 1)) : grid0.Coords :=
  fun | 0 => c | 1 => s | ⟨_ + 2, h⟩ => absurd h (Nat.not_lt.2 (Nat.le_add_left _ _))

def coreOf (i : S1024x512.Idx) : Fin 2 := ⟨(i 0).val / 32 % 2, Nat.mod_lt _ (by decide)⟩
def tileOf (i : S1024x512.Idx) : Fin 16 := ⟨(i 0).val / 64, by have h : (i 0).val < 1024 := (i 0).isLt; omega⟩

/-- The cells of core `c`; of its tile `i`. -/
abbrev cellsC (c : Fin 2) : Finset S1024x512.Idx := Finset.univ.filter (coreOf · = c)
abbrev cellsT (c : Fin 2) (i : Fin 16) : Finset S1024x512.Idx := (cellsC c).filter (tileOf · = i)

theorem row_mem (c : Fin 2) (i : Fin 16) (t : Fin k0_t1_loop.trips) (x : S1024x512.Idx) (h : (x 0).val = rowNo (coordsV c i) t) : x ∈ cellsT c i := by
  have ht : t.val < 32 := t.isLt
  have hc : c.val < 2 := c.isLt
  have e : rowNo (coordsV c i) t = 64 * i.val + 32 * c.val + t.val := rfl
  rw [e] at h
  refine Finset.mem_filter.mpr ⟨Finset.mem_filter.mpr ⟨Finset.mem_univ _, Fin.ext ?_⟩, Fin.ext ?_⟩
  · show (x 0).val / 32 % 2 = c.val
    omega
  · show (x 0).val / 64 = i.val
    omega

abbrev sh (c : Fin 2) (i : Fin 16) : PosShare TreeShare := part (by decide : 0 < 2) (by decide : 0 < 16) c i

/-- The three inputs of a tile, read by every tile. -/
abbrev ins (d : Dev nD) (c : Fin 2) (i : Fin 16) : sProp 𝕄 :=
  iprop((aLoc d ↦{sh c i} m (aLoc d)) ∗ (tLoc d ↦{sh c i} m (tLoc d)) ∗ (bLoc d ↦{sh c i} chunks (m (sLoc d))))

/-- A tile's rows of the two results, done. -/
abbrev outsDone (d : Dev nD) (c : Fin 2) (i : Fin 16) : sProp 𝕄 :=
  iprop(∃ (f : Buf (Elt F) (vLoc d)) (h : Buf (Elt F) (iLoc d)), ⌜Done (coordsV c i) (m (aLoc d)) (m (tLoc d)) (chunks (m (sLoc d))) 32 f h⌝
    ∗ (vLoc d ↦[cellsT c i]{fullShare} f) ∗ (iLoc d ↦[cellsT c i]{fullShare} h))

abbrev give (d : Dev nD) (c : Fin 2) (i : Fin 16) : sProp 𝕄 :=
  iprop(ins m d c i ∗ (vLoc d ↦[cellsT c i]{fullShare} m (vLoc d)) ∗ (iLoc d ↦[cellsT c i]{fullShare} m (iLoc d)))
abbrev take (d : Dev nD) (c : Fin 2) (i : Fin 16) : sProp 𝕄 := iprop(ins m d c i ∗ outsDone m d c i)

theorem give_storable (d : Dev nD) (c : Fin 2) (i : Fin 16) : BI.Storable (upEmb : UEmb _ 𝕄) (give m d c i) := inferInstance
theorem take_storable (d : Dev nD) (c : Fin 2) (i : Fin 16) : BI.Storable (upEmb : UEmb _ 𝕄) (take m d c i) := inferInstance

def P : (K (F := F)).Pay (nD := nD) (Val := Elt F) (Name := ℕ) (U := UU) where
  st := fun q d c => match q with | 0 => bigSep Finset.univ fun i : Fin ((K (F := F)).nSub 0) => give m d (Fin.cast nCore_zero c) (Fin.cast nSub_zero i)
  dn := fun q d c => match q with | 0 => bigSep Finset.univ fun i : Fin ((K (F := F)).nSub 0) => take m d (Fin.cast nCore_zero c) (Fin.cast nSub_zero i)
  go := fun q d c i => match q with | 0 => give m d (Fin.cast nCore_zero c) (Fin.cast nSub_zero i)
  td := fun q d c i => match q with | 0 => take m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => give m d (Fin.cast nCore_zero c) (Fin.cast nSub_zero i)))
  dn q d c := match q with
    | 0 => (inferInstance : BI.Storable (upEmb : UEmb _ 𝕄) (bigSep Finset.univ fun i : Fin ((K (F := F)).nSub 0) => take m d (Fin.cast nCore_zero c) (Fin.cast nSub_zero i)))
  go q d c i := match q with
    | 0 => give_storable m d (Fin.cast nCore_zero c) (Fin.cast nSub_zero i)
  td q d c i := match q with
    | 0 => take_storable m d (Fin.cast nCore_zero c) (Fin.cast nSub_zero i)

theorem vecSplit : (K (F := F)).VecSplit' (P m) 0 := by
  intro d c
  show (bigSep Finset.univ fun i : Fin ((K (F := F)).nSub 0) => give m d (Fin.cast nCore_zero c) (Fin.cast nSub_zero i)) ⊢ |={Set.univ}=> iprop(
      (bigSep Finset.univ fun i : Fin ((K (F := F)).nSub 0) => give m d (Fin.cast nCore_zero c) (Fin.cast nSub_zero i))
      ∗ ((bigSep Finset.univ fun i : Fin ((K (F := F)).nSub 0) => take m d (Fin.cast nCore_zero c) (Fin.cast nSub_zero i))
          -∗ (bigSep Finset.univ fun i : Fin ((K (F := F)).nSub 0) => take m d (Fin.cast nCore_zero c) (Fin.cast nSub_zero i))))
  iintro H; imodintro
  isplitl [H]; · iexact H
  iintro H
  iexact H

theorem defs₀_vector (c : Fin τ.nSC) (s : Fin τ.nSub) :
    defs₀ (F := F) (.scVector c s) 0 ()
      = SparseCore.onTile hcore0 hsub0 (fun c s => cc0__sc_select_kernel (coordsV c s) mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem task_pre {O : CellTallies nD τ sig (HIx 1)} {W : Waits sig (HIx 1)} (d : Dev nD) (c : Fin 2) (i : Fin 16) :
    iprop(levAts (K (F := F)).L (K (F := F)).lev ∗ emp ∗ give m d c i
        ∗ scopedBufs (thr d (coordsV c i)) ∗ scopedSems0 (thr d (coordsV c i)) ∗ owes (thr d (coordsV c i)) O W)
      ⊢ (iprop(levAts (K (F := F)).L (K (F := F)).lev ∗ emp
        ∗ ((mCm.view.loc (thr d (coordsV c i)) ↦{sh c i} m (aLoc d)) ∗ (mTau.view.loc (thr d (coordsV c i)) ↦{sh c i} m (tLoc d))
          ∗ (mTbl.view.loc (thr d (coordsV c i)) ↦{sh c i} chunks (m (sLoc d))) ∗ Outs d (coordsV c i) (cellsT c i) (m (vLoc d)) (m (iLoc d)))
        ∗ scopedBufs (thr d (coordsV c i)) ∗ scopedSems0 (thr d (coordsV c i)) ∗ owes (thr d (coordsV c i)) O W) : sProp 𝕄) := by
  unfold Outs
  iintro ⟨Hl, He, ⟨⟨Ha, Ht, Hb⟩, Hv, Hi⟩, HB, HS, HO⟩
  isplitl [Hl]; · iexact Hl
  isplitl [He]; · iexact He
  isplitl [Ha Ht Hb Hv Hi]
  · isplitl [Ha]; · iexact Ha
    isplitl [Ht]; · iexact Ht
    isplitl [Hb]; · iexact Hb
    isplitl [Hv]; · iexact Hv
    iexact Hi
  isplitl [HB]; · iexact HB
  isplitl [HS]; · iexact HS
  iexact HO

theorem task_post {R S E : sProp 𝕄} (d : Dev nD) (c : Fin 2) (i : Fin 16) :
    iprop(((mCm.view.loc (thr d (coordsV c i)) ↦{sh c i} m (aLoc d)) ∗ (mTau.view.loc (thr d (coordsV c i)) ↦{sh c i} m (tLoc d))
          ∗ (mTbl.view.loc (thr d (coordsV c i)) ↦{sh c i} chunks (m (sLoc d)))
          ∗ ∃ fv' fi', ⌜Done (coordsV c i) (m (aLoc d)) (m (tLoc d)) (chunks (m (sLoc d))) 32 fv' fi'⌝ ∗ Outs d (coordsV c i) (cellsT c i) fv' fi')
        ∗ R ∗ S ∗ E) ⊢ (iprop(take m d c i ∗ R ∗ S ∗ E) : sProp 𝕄) := by
  unfold Outs
  iintro ⟨⟨Ha, Ht, Hb, %f, %g, %hD, Hv, Hi⟩, HB, HS, HO⟩
  isplitl [Ha Ht Hb Hv Hi]
  · isplitl [Ha Ht Hb]
    · isplitl [Ha]; · iexact Ha
      isplitl [Ht]; · iexact Ht
      iexact Hb
    iexists f, g
    isplitr
    · ipureintro; exact hD
    isplitl [Hv]; · iexact Hv
    iexact Hi
  isplitl [HB]; · iexact HB
  isplitl [HS]; · iexact HS
  iexact HO

/-- A tile's task from its payload. -/
theorem tile_task {O : CellTallies nD τ sig (HIx 1)} {W : Waits sig (HIx 1)} (d : Dev nD) (c : Fin 2) (i : Fin 16) (hO : ∀ g, O g none = 0) :
    iprop(levAts (K (F := F)).L (K (F := F)).lev ∗ emp ∗ give m d c i
        ∗ scopedBufs (thr d (coordsV c i)) ∗ scopedSems0 (thr d (coordsV c i)) ∗ owes (thr d (coordsV c i)) O W)
      ⊢ wpT d (coordsV c i) (cc0__sc_select_kernel (coordsV c i) mCm (Memref.isWhole_whole _) mTau (Memref.isWhole_whole _) mTbl (Memref.isWhole_whole _) mOv (Memref.isWhole_whole _) mOi (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) cc0_scratch7 cc0_scoped0 cc0_scoped1 cc0_scoped2 cc0_scoped3)
          fun _ => iprop(take m d c i
            ∗ scopedBufs (thr d (coordsV c i)) ∗ scopedSems0 (thr d (coordsV c i)) ∗ ∃ W', ⌜∀ p ∈ W', p ∈ W ∨ p.2 = none⌝ ∗ owes (thr d (coordsV c i)) O W') := by
  have h := tile_body d (coordsV c i) (O := O) (W := W) hO (m (aLoc d)) (m (tLoc d)) (chunks (m (sLoc d))) (sh c i) (cellsT c i) (row_mem c i)
    (m (vLoc d)) (m (iLoc d))
  exact (task_pre m d c i).trans (h.trans (wp_mono frame _ _ fun _ => task_post m d c i))

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d (Fin.cast nCore_zero c) (Fin.cast nSub_zero i) hO).trans (wp_mono frame _ _ fun _ => obl_post)

/-- What is known of a row of the results, kept where the cells agree. -/
theorem Done.congr {L : grid0.Coords} {cm : Vec F S1024x800 .f32} {tau : Vec F S1024x16 .f32} {tbl : Vec F S819200x128 .f32} {n : Nat} {f f' : Vec F S1024x512 .f32} {h h' : Vec F S1024x512 .i32}
    {B : Finset S1024x512.Idx} (hB : ∀ (t : Fin k0_t1_loop.trips) (i : S1024x512.Idx), (i 0).val = rowNo L t → i ∈ B)
    (hf : ∀ i ∈ B, f' i = f i) (hh : ∀ i ∈ B, h' i = h i) (hD : Done L cm tau tbl n f h) : Done L cm tau tbl n f' h' := by
  intro t ht
  have e1 : rowV f' ⟨rowNo L t, rowNo_lt L t⟩ = rowV f ⟨rowNo L t, rowNo_lt L t⟩ := funext fun x => hf _ (hB t _ rfl)
  have e2 : rowV h' ⟨rowNo L t, rowNo_lt L t⟩ = rowV h ⟨rowNo L t, rowNo_lt L t⟩ := funext fun x => hh _ (hB t _ rfl)
  rw [e1, e2]
  exact hD t ht

/-- The two results, all rows done. -/
def AllDone (d : Dev nD) (f : Buf (Elt F) (vLoc d)) (h : Buf (Elt F) (iLoc d)) : Prop :=
  ∀ (c : Fin 2) (i : Fin 16), Done (coordsV c i) (m (aLoc d)) (m (tLoc d)) (chunks (m (sLoc d))) 32 f h

theorem outs_join (d : Dev nD) :
    (bigSep Finset.univ fun c : Fin 2 => bigSep Finset.univ fun i : Fin 16 => outsDone m d c i)
      ⊢ (iprop(∃ (f : Buf (Elt F) (vLoc d)) (h : Buf (Elt F) (iLoc d)), ⌜AllDone m d f h⌝ ∗ (vLoc d ↦{fullShare} f) ∗ (iLoc d ↦{fullShare} h)) : sProp 𝕄) := by
  refine (BI.bigSep_mono fun (c : Fin 2) _ => fiber_join (n := 16) (ℓ₁ := vLoc d) (ℓ₂ := iLoc d) tileOf tileOf (cellsC c) (cellsC c)
    (fun (i : Fin 16) f h => Done (coordsV c i) (m (aLoc d)) (m (tLoc d)) (chunks (m (sLoc d))) 32 f h)
    (fun i f f' h h' hf hh hD => hD.congr (B := cellsT c i) (row_mem c i) hf hh) (m (vLoc d)) (m (iLoc d))).trans ?_
  exact fiber_join (n := 2) (ℓ₁ := vLoc d) (ℓ₂ := iLoc d) coreOf coreOf Finset.univ Finset.univ
    (fun (c : Fin 2) f h => ∀ i : Fin 16, Done (coordsV c i) (m (aLoc d)) (m (tLoc d)) (chunks (m (sLoc d))) 32 f h)
    (fun c f f' h h' hf hh hD i => (hD i).congr (B := cellsT c i) (row_mem c i)
      (fun x hx => hf x (Finset.mem_filter.mp hx).1) (fun x hx => hh x (Finset.mem_filter.mp hx).1)) (m (vLoc d)) (m (iLoc d))

theorem ins_join (d : Dev nD) (Φ : Fin 2 → Fin 16 → sProp 𝕄) :
    (bigSep Finset.univ fun c : Fin 2 => bigSep Finset.univ fun i : Fin 16 => iprop(ins m d c i ∗ Φ c i))
      = iprop(((aLoc d ↦{fullShare} m (aLoc d)) ∗ (tLoc d ↦{fullShare} m (tLoc d)) ∗ (bLoc d ↦{fullShare} chunks (m (sLoc d))))
        ∗ bigSep Finset.univ fun c : Fin 2 => bigSep Finset.univ fun i : Fin 16 => Φ c i) := by
  rw [share_split (ℓ := aLoc d) (by decide : 0 < 2) (by decide : 0 < 16), share_split (ℓ := tLoc d) (by decide : 0 < 2) (by decide : 0 < 16),
    share_split (ℓ := bLoc d) (by decide : 0 < 2) (by decide : 0 < 16)]
  simp only [bigSep_sep']

theorem results_split (d : Dev nD) :
    (bigSep Finset.univ fun c : Fin 2 => bigSep Finset.univ fun i : Fin 16 =>
        iprop((vLoc d ↦[cellsT c i]{fullShare} m (vLoc d)) ∗ (iLoc d ↦[cellsT c i]{fullShare} m (iLoc d))))
      = (iprop((vLoc d ↦{fullShare} m (vLoc d)) ∗ (iLoc d ↦{fullShare} m (iLoc d))) : sProp 𝕄) := by
  rw [fiber_split (ℓ := vLoc d) coreOf Finset.univ, fiber_split (ℓ := iLoc d) coreOf Finset.univ, ← bigSep_sep']
  refine BI.bigSep_congr fun c _ => ?_
  exact (bigSep_sep' _ _ _).trans (congrArg₂ (fun x y : sProp 𝕄 => iprop(x ∗ y)) (fiber_split (ℓ := vLoc d) tileOf (cellsC c) fullShare (m (vLoc d))).symm
    (fiber_split (ℓ := iLoc d) tileOf (cellsC c) fullShare (m (iLoc d))).symm)

theorem st_eq (d : Dev nD) : (bigSep Finset.univ fun c : Fin ((K (F := F)).nCore 0) => (P m).st 0 d c)
    = iprop(((aLoc d ↦{fullShare} m (aLoc d)) ∗ (tLoc d ↦{fullShare} m (tLoc d)) ∗ (bLoc d ↦{fullShare} chunks (m (sLoc d))))
      ∗ (vLoc d ↦{fullShare} m (vLoc d)) ∗ (iLoc d ↦{fullShare} m (iLoc d))) := by
  rw [← results_split]
  exact ins_join m d (fun c i => iprop((vLoc d ↦[cellsT c i]{fullShare} m (vLoc d)) ∗ (iLoc d ↦[cellsT c i]{fullShare} m (iLoc d))))

theorem dn_eq (d : Dev nD) : (bigSep Finset.univ fun c : Fin ((K (F := F)).nCore 0) => (P m).dn 0 d c)
    = iprop(((aLoc d ↦{fullShare} m (aLoc d)) ∗ (tLoc d ↦{fullShare} m (tLoc d)) ∗ (bLoc d ↦{fullShare} chunks (m (sLoc d))))
      ∗ bigSep Finset.univ fun c : Fin 2 => bigSep Finset.univ fun i : Fin 16 => outsDone m d c i) :=
  ins_join m d (fun c i => outsDone m d c i)

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

abbrev a' : DevRef τ sig := Proc.devRef .tc (main_arg0 : Ref sig .tc)
abbrev t' : DevRef τ sig := Proc.devRef .tc (main_arg1 : Ref sig .tc)
abbrev s' : DevRef τ sig := Proc.devRef .tc (main_arg2 : Ref sig .tc)
abbrev b' : DevRef τ sig := Proc.devRef .tc (main_v0 : Ref sig .tc)
abbrev v' : DevRef τ sig := Proc.devRef .tc (main_v1_0 : Ref sig .tc)
abbrev i' : DevRef τ sig := Proc.devRef .tc (main_v1_1 : Ref sig .tc)
abbrev opR : HloOp τ sig (Elt F) := StableHlo.reshape main_arg2 main_v0 (rfl : (.f32 : EltTy) = .f32) shapeCasts_S1024x102400_S819200x128

/-- The arrays of `main`. -/
abbrev S6 : Finset (DevRef τ sig) := {a', t', s', b', v', i'}

theorem held_S6 (d : Dev nD) (W : Valuation τ sig (Elt F)) :
    (held (T d) S6 W : sProp 𝕄) = iprop((aLoc d ↦{fullShare} W a') ∗ (tLoc d ↦{fullShare} W t') ∗ (sLoc d ↦{fullShare} W s') ∗ (bLoc d ↦{fullShare} W b')
      ∗ (vLoc d ↦{fullShare} W v') ∗ (iLoc d ↦{fullShare} W i')) := by
  unfold held S6
  rw [SparseCore.bigSep_insert' (by decide), SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (sLoc d ↦{fullShare} W main_arg2) ∗ (bLoc d ↦{fullShare} W main_v0)
      ∗ (vLoc d ↦{fullShare} W main_v1_0) ∗ (iLoc d ↦{fullShare} W main_v1_1)) := by
  unfold unscopedBufs
  rw [show (Finset.univ.filter fun b : Ref sig .tc => ¬ b.isScoped) = {main_arg0, main_arg1, main_arg2, main_v0, main_v1_0, main_v1_1} by decide,
    SparseCore.bigSep_insert' (by decide), SparseCore.bigSep_insert' (by decide), SparseCore.bigSep_insert' (by decide), SparseCore.bigSep_insert' (by decide),
    SparseCore.bigSep_insert' (by decide), bigSep_singleton]

/-- The memory the program starts from. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

theorem opR_b (d : Dev nD) : (opR (F := F)).result (V0 m d) b' = chunks (m (sLoc d)) :=
  StableHlo.reshape_result main_arg2 main_v0 _ _ _ _ _

theorem opR_ne (d : Dev nD) {r : DevRef τ sig} (h : r ∉ ({b'} : Finset (DevRef τ sig))) : (opR (F := F)).result (V0 m d) r = m (d, r) :=
  (opR (F := F)).result_of_not_mem (V0 m d) (b := r) h

theorem held_R (d : Dev nD) : (held (T d) S6 ((opR (F := F)).result (V0 m d)) : sProp 𝕄)
    = iprop((aLoc d ↦{fullShare} m (aLoc d)) ∗ (tLoc d ↦{fullShare} m (tLoc d)) ∗ (sLoc d ↦{fullShare} m (sLoc d)) ∗ (bLoc d ↦{fullShare} chunks (m (sLoc d)))
      ∗ (vLoc d ↦{fullShare} m (vLoc d)) ∗ (iLoc d ↦{fullShare} m (iLoc d))) := by
  rw [held_S6, opR_b, opR_ne m d (r := a') (by decide), opR_ne m d (r := t') (by decide), opR_ne m d (r := s') (by decide), opR_ne m d (r := v') (by decide),
    opR_ne m d (r := i') (by decide)]

theorem hR : (opR (F := F)).bufs ⊆ S6 := show ({s', b'} : Finset (DevRef τ sig)) ⊆ S6 by decide

/-- What `main` leaves: the arguments as they were, the two results done. -/
abbrev FIN (d : Dev nD) : sProp 𝕄 :=
  iprop((aLoc d ↦{fullShare} m (aLoc d)) ∗ (tLoc d ↦{fullShare} m (tLoc d)) ∗ (sLoc d ↦{fullShare} m (sLoc d))
    ∗ ∃ (f : Buf (Elt F) (vLoc d)) (h : Buf (Elt F) (iLoc d)), ⌜AllDone m d f h⌝ ∗ (vLoc d ↦{fullShare} f) ∗ (iLoc d ↦{fullShare} h))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S6) hR (V := V0 m d)) $$ [Hb Hheld]
  · isplitl [Hb]; · iexact Hb
    iexact Hheld
  iintro ⟨Hb, Hheld⟩
  ihave Hh := (Entails.of_eq (held_R (F := F) m d)) $$ Hheld
  icases Hh with ⟨Ha, Ht, Hs, Hc, Hv, Hi⟩
  rw [wp_ret]; imodintro
  iapply ((K (F := F)).wp_run (D (F := F)) 𝒱 (EH := EH) (P := P m) κ d 0) $$ [Hst Ha Ht Hs Hc Hv Hi Hb Hts]
  isplitr; · iexact Hctx
  isplitl [Hst]; · iexact Hst
  isplitl [Ha Ht Hc Hv Hi]
  · rw [st_eq]
    isplitl [Ha Ht Hc]
    · isplitl [Ha]; · iexact Ha
      isplitl [Ht]; · iexact Ht
      iexact Hc
    isplitl [Hv]; · iexact Hv
    iexact Hi
  iintro ⟨Hst, Hdn⟩
  ihave Hdn' := (Entails.of_eq (dn_eq m d)) $$ Hdn
  icases Hdn' with ⟨⟨Ha, Ht, -⟩, Hout⟩
  ihave Hout' := (outs_join m d) $$ Hout
  imodintro
  isplitl [Hst]; · iexact Hst
  isplitr [Hb Hts]
  · isplitl [Ha]; · iexact Ha
    isplitl [Ht]; · iexact Ht
    isplitl [Hs]; · iexact Hs
    iexact Hout'
  isplitl [Hb] <;> iassumption

/-- The arguments as they were and the two results done, in the memory at the end. -/
def fq (d : Dev nD) (st : Phys nD τ sig (Elt F)) : Prop :=
  st.mem.mem (aLoc d) = m (aLoc d) ∧ st.mem.mem (tLoc d) = m (tLoc d) ∧ st.mem.mem (sLoc d) = m (sLoc d) ∧ AllDone m d (st.mem.mem (vLoc d)) (st.mem.mem (iLoc d))

theorem agree (st : Phys nD τ sig (Elt F)) (ℓ : Loc nD τ sig) (f : Buf (Elt F) ℓ) :
    iprop((ℓ ↦{fullShare} f) ∗ SI st) ⊢ (iprop(⌜st.mem.mem ℓ = f⌝ ∗ SI st) : sProp 𝕄) := by
  iintro ⟨H, HSI⟩
  ihave H := (persistent_entails_right (SI_pointsTo_agree (st := st) (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (st : Phys nD τ sig (Elt F)) : iprop(FIN m d ∗ SI st) ⊢ (⌜fq m d st⌝ : sProp 𝕄) := by
  iintro ⟨⟨Ha, Ht, Hs, %f, %h, %hD, Hv, Hi⟩, HSI⟩
  ihave H := (agree st (aLoc d) (m (aLoc d))) $$ [HSI Ha]
  · isplitl [Ha] <;> iassumption
  icases H with ⟨%e1, HSI⟩
  ihave H := (agree st (tLoc d) (m (tLoc d))) $$ [HSI Ht]
  · isplitl [Ht] <;> iassumption
  icases H with ⟨%e2, HSI⟩
  ihave H := (agree st (sLoc d) (m (sLoc d))) $$ [HSI Hs]
  · isplitl [Hs] <;> iassumption
  icases H with ⟨%e3, HSI⟩
  ihave H := (agree st (vLoc d) f) $$ [HSI Hv]
  · isplitl [Hv] <;> iassumption
  icases H with ⟨%e4, HSI⟩
  ihave H := (agree st (iLoc d) h) $$ [HSI Hi]
  · isplitl [Hi] <;> iassumption
  icases H with ⟨%e5, HSI⟩
  ipureintro
  refine ⟨e1, e2, e3, ?_⟩
  rw [e4, e5]
  exact hD

def QC : PUnit × MemSt nD τ sig (Elt F) → Prop := fun r =>
  (∀ c : Dev nD, r.2.mem (aLoc c) = m (aLoc c) ∧ r.2.mem (tLoc c) = m (tLoc c) ∧ r.2.mem (sLoc c) = m (sLoc c) ∧ AllDone m c (r.2.mem (vLoc c)) (r.2.mem (iLoc c)))
    ∧ r.2.sem = fun _ => 0

/-- The whole program, from any memory. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) cfgFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- Every row of the two results, from `AllDone`. -/
theorem AllDone.row {d : Dev nD} {f : Buf (Elt F) (vLoc d)} {h : Buf (Elt F) (iLoc d)} (H : AllDone m d f h) (r : Fin 1024) :
    RowOK (m (aLoc d)) (m (tLoc d)) (chunks (m (sLoc d))) r (rowV (a := 1024) (b := 512) (e := .f32) f r) (rowV (a := 1024) (b := 512) (e := .i32) h r) := by
  have hr : r.val < 1024 := r.isLt
  have e := H (⟨r.val / 32 % 2, Nat.mod_lt _ (by decide)⟩ : Fin 2) (⟨r.val / 64, by omega⟩ : Fin 16) ⟨r.val % 32, Nat.mod_lt _ (by decide)⟩ (Nat.mod_lt _ (by decide))
  have key : ∀ r' : Fin 1024, r' = r → RowOK (m (aLoc d)) (m (tLoc d)) (chunks (m (sLoc d))) r' (rowV (a := 1024) (b := 512) (e := .f32) f r') (rowV (a := 1024) (b := 512) (e := .i32) h r')
      → RowOK (m (aLoc d)) (m (tLoc d)) (chunks (m (sLoc d))) r (rowV (a := 1024) (b := 512) (e := .f32) f r) (rowV (a := 1024) (b := 512) (e := .i32) h r) := by
    rintro r' rfl h'
    exact h'
  exact key _ (Fin.ext (show 64 * (r.val / 64) + 32 * (r.val / 32 % 2) + r.val % 32 = r.val by omega)) e

end Cert.KernelIdeal.Tile

end
-- ==== Proof.Frames.lean ====
/-
  The frames: each program runs from any memory, leaves its arguments and its counters as they were.
-/
module

public import proofs.«01_k».proof.Defs
public import proofs.«01_k».proof.Proof.Launch
public import proofs.«01_k».proof.Proof.IdealLaunch
public import proofs.«01_k».proof.Proof.Gen.ReferenceIdeal.Run
public import proofs.«01_k».proof.Proof.Gen.Select.Frame
public import proofs.«01_k».proof.Proof.Gen.SelectIdeal.Frame
public import proofs.«01_k».proof.Proof.Gen.SelectReferenceIdeal.Run
public import proofs.«01_k».proof.Proof.Gen.Scores.Frame
public import proofs.«01_k».proof.Proof.Gen.ScoresIdeal.Frame
public import proofs.«01_k».proof.Proof.Gen.ScoresReferenceIdeal.Run
public import proofs.«01_k».proof.Proof.Gen.Stats.Frame
public import proofs.«01_k».proof.Proof.Gen.StatsReference.Run

@[expose] public section

noncomputable section

namespace Cert.Frames

open Idealize.ShloMosaic Idealize.SL.Sem

theorem kernel : Cert.quiescent_Kernel := fun m ρ _ =>
  (θ_run Cert.Kernel.defs _ _).mono (fun _ h => ⟨fun c => ⟨(h.1 c).1, (h.1 c).2.1, (h.1 c).2.2.1⟩, h.2⟩) (Cert.Kernel.Tile.run_main (F := Bits) m ρ)

theorem kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (Cert.KernelIdeal.Tile.run_main (F := Ideal) m ρ)

theorem referenceIdeal : Cert.quiescent_ReferenceIdeal := fun m ρ _ =>
  (θ_run Cert.ReferenceIdeal.defs _ _).mono (fun r h => ⟨fun c => ⟨(h c).2.2.1, (h c).2.2.2.1, (h c).2.2.2.2⟩,
      sem_eq_zero_of_no_sems (by decide) r.2⟩) (Cert.ReferenceIdeal.Value.run (F := Ideal) m ρ)

theorem select : Cert.quiescent_Select := fun m ρ _ => Cert.Select.Gen.frame (F := Bits) m ρ

theorem selectIdeal : Cert.quiescent_SelectIdeal := fun m ρ _ => Cert.SelectIdeal.Gen.frame (F := Ideal) m ρ

theorem selectReferenceIdeal : Cert.quiescent_SelectReferenceIdeal := fun m ρ _ =>
  (θ_run Cert.SelectReferenceIdeal.defs _ _).mono (fun r h => ⟨fun c => (h c).2.2,
      sem_eq_zero_of_no_sems (by decide) r.2⟩) (Cert.SelectReferenceIdeal.Value.run (F := Ideal) m ρ)

theorem scores : Cert.quiescent_Scores := fun m ρ _ => Cert.Scores.Gen.frame (F := Bits) m ρ

theorem scoresIdeal : Cert.quiescent_ScoresIdeal := fun m ρ _ => Cert.ScoresIdeal.Gen.frame (F := Ideal) m ρ

theorem scoresReferenceIdeal : Cert.quiescent_ScoresReferenceIdeal := fun m ρ _ =>
  (θ_run Cert.ScoresReferenceIdeal.defs _ _).mono (fun r h => ⟨fun c => ⟨(h c).2.1, (h c).2.2.1, (h c).2.2.2⟩,
      sem_eq_zero_of_no_sems (by decide) r.2⟩) (Cert.ScoresReferenceIdeal.Value.run (F := Ideal) m ρ)

theorem stats : Cert.quiescent_Stats := fun m ρ _ => Cert.Stats.Gen.frame (F := Bits) m ρ

theorem statsReference : Cert.quiescent_StatsReference := fun m ρ _ =>
  (θ_run Cert.StatsReference.defs _ _).mono (fun r h => ⟨fun c => (h c).2.2.2,
      sem_eq_zero_of_no_sems (by decide) r.2⟩) (Cert.StatsReference.Value.run (F := Bits) m ρ)

end Cert.Frames

end
-- ==== Proof.Ranks.lean ====
/-
  How many of the first columns are live, counted two ways: by column, and by place among the columns of the chunks that
  were gathered. And what a sorted list holds at a place, from how many of its elements are smaller.
-/
module

public import proofs.«01_k».proof.Proof.State
public import Idealize.ShloMosaic.Lib.SortFacts
public import Mathlib.Algebra.BigOperators.Fin

@[expose] public section

noncomputable section

namespace Cert.Append

open Idealize.ShloMosaic

/-- The rank is the number of live candidates below. -/
theorem rk_card (live : Nat → Bool) (N : Nat) : ((Finset.univ : Finset (Fin N)).filter fun x => live x.val = true).card = rk live N := by
  induction N with
  | zero => simp [rk]
  | succ n ih =>
    rw [Finset.card_filter, Fin.sum_univ_castSucc, rk]
    rw [Finset.card_filter] at ih
    exact congrArg₂ (· + ·) ih rfl

/-- Ranks of sequences that agree below `n` agree. -/
theorem rk_congr {f g : Nat → Bool} {n : Nat} (h : ∀ q < n, f q = g q) : rk f n = rk g n := by
  induction n with
  | zero => rfl
  | succ n ih => rw [rk, rk, ih fun q hq => h q (by omega), h n (by omega)]

/-- The live candidates below `a` are counted by the rank at `a`. -/
theorem rk_card_lt (live : Nat → Bool) {a N : Nat} (h : a ≤ N) :
    ((Finset.univ : Finset (Fin N)).filter fun x => live x.val = true ∧ x.val < a).card = rk live a := by
  have h1 : ∀ n, a ≤ n → rk (fun x => live x && decide (x < a)) n = rk live a := by
    intro n hn
    induction hn with
    | refl => exact rk_congr fun q hq => by simp [hq]
    | step hn ih => rw [rk, ih]; simp only [Nat.le_eq] at hn; simp [Nat.not_lt.2 hn]
  rw [← h1 N h, ← rk_card]
  exact congrArg Finset.card (Finset.filter_congr fun x _ => by simp)

/-- A sequence of dead candidates leaves the rank. -/
theorem rk_dead (live : Nat → Bool) {a b : Nat} (hab : a ≤ b) (h : ∀ q, a ≤ q → q < b → live q = false) : rk live b = rk live a := by
  induction hab with
  | refl => rfl
  | step hn ih =>
    simp only [Nat.le_eq] at hn
    rw [rk, ih fun q h1 h2 => h q h1 (by omega), h _ hn (by omega)]; simp

/-- Every place below the count is the rank of a live candidate. -/
theorem exists_rk (live : Nat → Bool) {k N : Nat} (h : k < rk live N) : ∃ x < N, live x = true ∧ rk live x = k := by
  induction N with
  | zero => simp [rk] at h
  | succ n ih =>
    by_cases hk : k < rk live n
    · obtain ⟨x, h1, h2⟩ := ih hk
      exact ⟨x, by omega, h2⟩
    · rw [rk] at h
      split_ifs at h with hl
      · exact ⟨n, by omega, hl, by omega⟩
      · omega

/-- The same stretch of candidates read in two sequences counts alike. -/
theorem rk_shift (f g : Nat → Bool) {a b n : Nat} (h0 : rk f a = rk g b) (h : ∀ c < n, f (a + c) = g (b + c)) : rk f (a + n) = rk g (b + n) := by
  induction n with
  | zero => exact h0
  | succ n ih =>
    rw [← Nat.add_assoc, ← Nat.add_assoc, rk, rk, ih fun c hc => h c (by omega), h n (by omega)]

section Chunks

variable {col chunk item : Nat → Bool} {N : Nat}

/-- Columns before a chunk, counted by column and by place. -/
theorem rk_chunks (hdead : ∀ q < N, chunk q = false → ∀ c < 128, col (q * 128 + c) = false)
    (hitem : ∀ q < N, chunk q = true → ∀ c < 128, item (128 * rk chunk q + c) = col (q * 128 + c)) :
    ∀ q ≤ N, rk col (q * 128) = rk item (128 * rk chunk q) := by
  intro q
  induction q with
  | zero => intro _; simp [rk]
  | succ q ih =>
    intro hq
    have ih := ih (by omega)
    cases hc : chunk q with
    | false =>
      rw [show rk chunk (q + 1) = rk chunk q by rw [rk]; simp [hc], ← ih]
      refine rk_dead col (by omega) fun x h1 h2 => ?_
      have := hdead q (by omega) hc (x - q * 128) (by omega)
      rwa [show q * 128 + (x - q * 128) = x by omega] at this
    | true =>
      rw [show rk chunk (q + 1) = rk chunk q + 1 by rw [rk]; simp [hc], Nat.mul_add, Nat.add_mul]
      exact rk_shift col item ih fun c h => (hitem q (by omega) hc c (by omega)).symm

/-- Columns before a column of a live chunk, likewise. -/
theorem rk_column (hdead : ∀ q < N, chunk q = false → ∀ c < 128, col (q * 128 + c) = false)
    (hitem : ∀ q < N, chunk q = true → ∀ c < 128, item (128 * rk chunk q + c) = col (q * 128 + c)) {q c : Nat} (hq : q < N)
    (hc : chunk q = true) (h : c ≤ 128) : rk item (128 * rk chunk q + c) = rk col (q * 128 + c) :=
  (rk_shift col item (rk_chunks hdead hitem q hq.le) fun d hd => (hitem q hq hc d (by omega)).symm).symm

/-- Every live column's place is below the columns gathered. -/
theorem place_lt {q c : Nat} (hq : q < N) (hc : chunk q = true) (h : c < 128) : 128 * rk chunk q + c < 128 * rk chunk N := by
  have := rk_lt chunk hq hc
  omega

end Chunks

/-- A list in order holds, at a place, the key with no more smaller elements than the place and more that are no larger. -/
theorem sorted_at {n : Nat} (y : Fin n → Int) (hy : ∀ i j, i < j → y i ≤ y j) (a : Int) (k : Fin n)
    (h1 : ((Finset.univ : Finset (Fin n)).filter fun i => y i < a).card ≤ k.val)
    (h2 : k.val < ((Finset.univ : Finset (Fin n)).filter fun i => y i ≤ a).card) : y k = a := by
  have hc1 : ((Finset.univ : Finset (Fin n)).filter fun i => i ≤ k).card = k.val + 1 := by
    rw [show ((Finset.univ : Finset (Fin n)).filter fun i => i ≤ k) = Finset.Iic k by ext; simp]; simp
  have hc2 : ((Finset.univ : Finset (Fin n)).filter fun i => i < k).card = k.val := by
    rw [show ((Finset.univ : Finset (Fin n)).filter fun i => i < k) = Finset.Iio k by ext; simp]; simp
  refine le_antisymm (not_lt.1 fun hlt => ?_) (not_lt.1 fun hlt => ?_)
  · have : ((Finset.univ : Finset (Fin n)).filter fun i => y i ≤ a) ⊆ ((Finset.univ : Finset (Fin n)).filter fun i => i < k) := by
      intro i hi
      simp only [Finset.mem_filter, Finset.mem_univ, true_and] at hi ⊢
      by_contra hik
      rcases (not_lt.1 hik).eq_or_lt with rfl | h
      · omega
      · have := hy k i h; omega
    have := Finset.card_le_card this
    omega
  · have : ((Finset.univ : Finset (Fin n)).filter fun i => i ≤ k) ⊆ ((Finset.univ : Finset (Fin n)).filter fun i => y i < a) := by
      intro i hi
      simp only [Finset.mem_filter, Finset.mem_univ, true_and] at hi ⊢
      rcases hi.eq_or_lt with rfl | h
      · omega
      · have := hy i k h; omega
    have := Finset.card_le_card this
    omega

/-- The stable sort of words by the signed order: the word at a place, by counting. -/
theorem sortedFrom_at {n : Nat} (x : Fin n → BitVec 32) (a : BitVec 32) (k : Fin n)
    (h1 : ((Finset.univ : Finset (Fin n)).filter fun i => (x i).toInt < a.toInt).card ≤ k.val)
    (h2 : k.val < ((Finset.univ : Finset (Fin n)).filter fun i => (x i).toInt ≤ a.toInt).card)
    (B : Fin n → Fin n → Bool) (hB : ∀ i j, B i j = decide ((x i).toInt < (x j).toInt)) : x (sortedFrom B k) = a := by
  have inj := sortedFrom_injective B
  have hbij : Function.Bijective (sortedFrom B) := ⟨inj, sortedFrom_surjective B⟩
  have hcard : ∀ p : Fin n → Prop, ∀ [DecidablePred p], ((Finset.univ : Finset (Fin n)).filter fun i => p (sortedFrom B i)).card
      = ((Finset.univ : Finset (Fin n)).filter p).card := by
    intro p _
    refine Finset.card_bij (fun i _ => sortedFrom B i) (fun i hi => by simpa using hi) (fun i _ j _ h => inj h) fun j hj => ?_
    obtain ⟨i, rfl⟩ := hbij.2 j
    exact ⟨i, by simpa using hj, rfl⟩
  refine BitVec.eq_of_toInt_eq (sorted_at (fun i => (x (sortedFrom B i)).toInt) (fun i j hij => ?_) a.toInt k ?_ ?_)
  · have := sortedFrom_noInversion B B (fun a b h => by rw [hB] at h ⊢; simp only [decide_eq_true_eq, decide_eq_false_iff_not] at h ⊢; omega)
      (fun _ _ h => h) (fun a b c h h' => by rw [hB] at h h' ⊢; simp only [decide_eq_false_iff_not] at h h' ⊢; omega) i j hij
    rw [hB] at this
    simp only [decide_eq_false_iff_not] at this
    omega
  · rw [hcard fun i => (x i).toInt < a.toInt]; exact h1
  · rw [hcard fun i => (x i).toInt ≤ a.toInt]; exact h2

/-- The live columns sorted to the front: the column of rank `k`, and past the last of them the filler. -/
theorem sorted_column {n : Nat} (live : Nat → Bool) (hn : n < 2147483647) (B : Fin n → Fin n → Bool) (x : Fin n → BitVec 32)
    (hx : ∀ i, x i = if live i.val = true then BitVec.ofNat 32 i.val else 2147483647#32)
    (hB : ∀ i j, B i j = decide ((x i).toInt < (x j).toInt)) (k : Fin n) :
    (∀ a < n, live a = true → rk live a = k.val → x (sortedFrom B k) = BitVec.ofNat 32 a)
      ∧ (rk live n ≤ k.val → x (sortedFrom B k) = 2147483647#32) := by
  have htop : (2147483647#32).toInt = 2147483647 := by decide
  have hsm : ∀ a < n, (BitVec.ofNat 32 a).toInt = a := by
    intro a ha
    rw [BitVec.toInt_eq_toNat_of_lt] <;> rw [BitVec.toNat_ofNat, Nat.mod_eq_of_lt] <;> omega
  have hxi : ∀ i, (x i).toInt = if live i.val = true then (i.val : Int) else 2147483647 := by
    intro i; rw [hx]; split_ifs
    · exact hsm _ i.isLt
    · exact htop
  constructor
  · intro a ha hl hr
    refine sortedFrom_at x _ k ?_ ?_ B hB
    · rw [hsm a ha, ← hr, ← rk_card_lt live ha.le]
      refine le_of_eq (congrArg Finset.card (Finset.filter_congr fun i _ => ?_))
      rw [hxi]; split_ifs with h
      · simp [h]
      · simp only [h, Bool.false_eq_true, false_and, iff_false]; omega
    · rw [hsm a ha]
      have e : rk live (a + 1) = k.val + 1 := by rw [rk, if_pos hl, hr]
      rw [show k.val < _ ↔ k.val + 1 ≤ _ from Iff.rfl, ← e, ← rk_card_lt live (show a + 1 ≤ n from ha)]
      refine le_of_eq (congrArg Finset.card (Finset.filter_congr fun i _ => ?_))
      rw [hxi]; split_ifs with h
      · simp only [h, true_and]; omega
      · simp only [h, Bool.false_eq_true, false_and, false_iff]; omega
  · intro hr
    refine sortedFrom_at x _ k ?_ ?_ B hB
    · refine le_trans (le_of_eq ?_) hr
      rw [← rk_card, htop]
      refine congrArg Finset.card (Finset.filter_congr fun i _ => ?_)
      rw [hxi]; split_ifs with h
      · simp only [h, iff_true]; omega
      · simp only [h, Bool.false_eq_true, iff_false]; omega
    · rw [htop, Finset.filter_true_of_mem, Finset.card_univ, Fintype.card_fin]
      · exact k.isLt
      · intro i _
        rw [hxi]; split_ifs <;> omega

end Cert.Append

end
-- ==== Proof.Picked.lean ====
/-
  What a row's two results hold: at place `k` the live column of rank `k` and its score, and past the last live column
  the fills.
-/
module

public import proofs.«01_k».proof.Proof.IdealLaunch
public import proofs.«01_k».proof.Proof.Ranks

@[expose] public section

noncomputable section

namespace Cert.KernelIdeal.Tile

open Cert.KernelIdeal Cert.KernelIdeal.Gen
open Cert.Append Cert.Rows
open Idealize.ShloMosaic

variable {F : FTy → Type} [FloatOps F]

/-- The chunks' rows, by row and column of the scores. -/
theorem chunks_at (sc : Vec F S1024x102400 .f32) (g : Fin 819200) (c : Fin 128) (r : Fin 1024) (x : Fin 102400)
    (h : r.val * 102400 + x.val = g.val * 128 + c.val) : chunks sc (at2 g c) = sc (at2 r x) := by
  unfold chunks shapeCast
  refine congrArg sc (Shape.reshapeEquiv_eq_of_rowMajor _ ?_)
  rw [Shape.rowMajor_val_two, Shape.rowMajor_val_two]
  exact h

section

variable (cm : Vec F S1024x800 .f32) (tau : Vec F S1024x16 .f32) (sc : Vec F S1024x102400 .f32) (r : Fin 1024)

/-- Whether chunk `q` of the row reaches the threshold. -/
def chk (q : Nat) : Bool := decide (FloatOps.cmpf .oge (cm (at2 r ⟨q % 800, Nat.mod_lt _ (by decide)⟩)) (tau (at2 r 0)) = 1#1)

/-- Whether column `x` of the row does. -/
def col (x : Nat) : Bool := decide (FloatOps.cmpf .oge (sc (at2 r ⟨x % 102400, Nat.mod_lt _ (by decide)⟩)) (tau (at2 r 0)) = 1#1)

/-- A row the lists have room for. -/
structure Fits : Prop where
  one : ∀ l : Fin 16, tau (at2 r l) = tau (at2 r 0)
  bounded : ∀ q < 800, chk cm tau r q = false → ∀ c < 128, col tau sc r (q * 128 + c) = false
  last : ∀ c < 128, col tau sc r (799 * 128 + c) = false
  fewChunks : rk (chk cm tau r) 800 ≤ 240
  fewScores : rk (col tau sc r) 102400 ≤ 496

variable {cm tau sc r}

theorem live1_eq (P : Fits cm tau sc r) : live1 (rowV cm r) (rowV tau r) = chk cm tau r := by
  funext q
  exact congrArg (fun t => decide (FloatOps.cmpf .oge (cm (at2 r ⟨q % 800, Nat.mod_lt _ (by decide)⟩)) t = 1#1)) (P.one ⟨q % 16, Nat.mod_lt _ (by decide)⟩)

theorem item1_eq (q : Nat) : item1 (F := F) (BitVec.ofNat 32 r.val) q = BitVec.ofNat 32 (r.val * 800 + q) := by
  rw [BitVec.ofNat_add, BitVec.ofNat_mul]; rfl

theorem last1_eq : last1 (BitVec.ofNat 32 r.val) = BitVec.ofNat 32 (r.val * 800 + 799) := by
  rw [BitVec.ofNat_add, BitVec.ofNat_mul]; rfl

variable {f9 : Vec F S256 .i32} {f10 : Vec F S256x128 .f32}

/-- A slot holding chunk `q` gathers its scores. -/
theorem gathered_at (G : GatheredOf f9 (chunks sc) f10) (j : Fin 256) (q : Nat) (hq : q < 800) (e : f9 (at1 j) = BitVec.ofNat 32 (r.val * 800 + q)) (c : Fin 128) :
    f10 (at2 j c) = sc (at2 r ⟨(q * 128 + c.val) % 102400, Nat.mod_lt _ (by decide)⟩) := by
  have hr := r.isLt
  have hc := c.isLt
  have en : (f9 (at1 j)).toNat = r.val * 800 + q := by
    rw [e, BitVec.toNat_ofNat, Nat.mod_eq_of_lt]; omega
  refine (G j c (by rw [en]; omega)).trans (chunks_at sc _ c r _ ?_)
  show r.val * 102400 + (q * 128 + c.val) % 102400 = (f9 (at1 j)).toNat * 128 + c.val
  rw [en, Nat.mod_eq_of_lt (by omega)]; omega

/-- Its candidates are live where its columns are. -/
theorem live2_at (P : Fits cm tau sc r) (G : GatheredOf f9 (chunks sc) f10) (j : Fin 256) (q : Nat) (hq : q < 800)
    (e : f9 (at1 j) = BitVec.ofNat 32 (r.val * 800 + q)) (c : Fin 128) : live2 f10 (rowV tau r) (128 * j.val + c.val) = col tau sc r (q * 128 + c.val) := by
  have hv : itemV f10 (128 * j.val + c.val) = sc (at2 r ⟨(q * 128 + c.val) % 102400, Nat.mod_lt _ (by decide)⟩) := by
    refine Eq.trans ?_ (gathered_at G j q hq e c)
    unfold itemV
    exact congrArg₂ (fun a b => f10 (at2 a b)) (Fin.ext (show (128 * j.val + c.val) / 128 % 256 = j.val by omega)) (Fin.ext (show (128 * j.val + c.val) % 128 = c.val by omega))
  unfold live2 col
  rw [hv]
  exact congrArg (fun t => decide (FloatOps.cmpf .oge (sc (at2 r ⟨(q * 128 + c.val) % 102400, Nat.mod_lt _ (by decide)⟩)) t = 1#1)) (P.one _)

theorem itemV_at (G : GatheredOf f9 (chunks sc) f10) (j : Fin 256) (q : Nat) (hq : q < 800)
    (e : f9 (at1 j) = BitVec.ofNat 32 (r.val * 800 + q)) (c : Fin 128) :
    itemV f10 (128 * j.val + c.val) = sc (at2 r ⟨(q * 128 + c.val) % 102400, Nat.mod_lt _ (by decide)⟩) := by
  refine Eq.trans ?_ (gathered_at G j q hq e c)
  unfold itemV
  exact congrArg₂ (fun a b => f10 (at2 a b)) (Fin.ext (show (128 * j.val + c.val) / 128 % 256 = j.val by omega)) (Fin.ext (show (128 * j.val + c.val) % 128 = c.val by omega))

theorem itemI_at (j : Fin 256) (q : Nat) (e : f9 (at1 j) = BitVec.ofNat 32 (r.val * 800 + q)) (c : Fin 128) :
    itemI f9 (BitVec.ofNat 32 r.val) (128 * j.val + c.val) = BitVec.ofNat 32 (q * 128 + c.val) := by
  have e1 : f9 (at1 ⟨(128 * j.val + c.val) / 128 % 256, Nat.mod_lt _ (by decide)⟩) = BitVec.ofNat 32 (r.val * 800 + q) :=
    (congrArg (fun a => f9 (at1 a)) (Fin.ext (show (128 * j.val + c.val) / 128 % 256 = j.val by omega))).trans e
  unfold itemI
  rw [e1, show (128 * j.val + c.val) % 128 = c.val by omega, BitVec.ofNat_add, BitVec.ofNat_add, BitVec.ofNat_mul, BitVec.ofNat_mul]
  show (BitVec.ofNat 32 r.val * 800#32 + BitVec.ofNat 32 q - BitVec.ofNat 32 r.val * 800#32) * 128#32 + _ = _
  rw [BitVec.add_comm (BitVec.ofNat 32 r.val * 800#32), BitVec.add_sub_cancel]

/-- The row's results at place `k`. -/
theorem RowOK.value {f11 : Vec F S512 .f32} {f12 : Vec F S512 .i32} (H : RowOK cm tau (chunks sc) r f11 f12) (P : Fits cm tau sc r) (k : Fin 512) :
    (∀ x < 102400, col tau sc r x = true → rk (col tau sc r) x = k.val →
        f12 (at1 k) = BitVec.ofNat 32 x ∧ f11 (at1 k) = sc (at2 r ⟨x % 102400, Nat.mod_lt _ (by decide)⟩))
      ∧ (rk (col tau sc r) 102400 ≤ k.val → f12 (at1 k) = 2147483647#32 ∧ f11 (at1 k) = fillV (F := F)) := by
  obtain ⟨f9, f10, I9, G, I11, I12⟩ := H
  rw [show nLive (rowV cm r) (rowV tau r) = rk (chk cm tau r) 800 by unfold nLive; rw [live1_eq P]] at I11 I12
  rw [live1_eq P] at I9
  have hn := P.fewChunks
  have hM := P.fewScores
  have hslot : ∀ q < 800, chk cm tau r q = true → rk (chk cm tau r) q < 240 := fun q hq hl => (rk_lt _ hq hl).trans_le hn
  have g1 : ∀ q (hq : q < 800) (hl : chk cm tau r q = true), f9 (at1 ⟨rk (chk cm tau r) q, (hslot q hq hl).trans (by decide)⟩) = BitVec.ofNat 32 (r.val * 800 + q) :=
    fun q hq hl => (I9.kept (by omega) _ q hq hl rfl).trans (item1_eq q)
  have g2 : ∀ j : Fin 256, rk (chk cm tau r) 800 ≤ j.val → f9 (at1 j) = BitVec.ofNat 32 (r.val * 800 + 799) :=
    fun j hj => (I9.rest (by omega) (at1 j) hj).trans last1_eq
  have hitem : ∀ q < 800, chk cm tau r q = true → ∀ c < 128, live2 f10 (rowV tau r) (128 * rk (chk cm tau r) q + c) = col tau sc r (q * 128 + c) :=
    fun q hq hl c hc => live2_at P G ⟨rk (chk cm tau r) q, (hslot q hq hl).trans (by decide)⟩ q hq (g1 q hq hl) ⟨c, hc⟩
  have htot : 128 * rk (chk cm tau r) 800 ≤ total (rk (chk cm tau r) 800) := by unfold total; omega
  have htot' : total (rk (chk cm tau r) 800) ≤ 32768 := by unfold total; omega
  have hall : rk (live2 f10 (rowV tau r)) (total (rk (chk cm tau r) 800)) = rk (col tau sc r) 102400 := by
    refine (rk_dead _ htot fun p h1 h2 => ?_).trans (rk_chunks P.bounded hitem 800 le_rfl).symm
    have e := live2_at P G ⟨p / 128, by omega⟩ 799 (by decide) (g2 _ (show _ ≤ p / 128 by omega)) ⟨p % 128, Nat.mod_lt _ (by decide)⟩
    rw [show 128 * (p / 128) + p % 128 = p by omega] at e
    exact e.trans (P.last _ (Nat.mod_lt _ (by decide)))
  constructor
  · intro x hx hl hk
    have hq : x / 128 < 800 := by omega
    have hxe : x / 128 * 128 + x % 128 = x := by omega
    have hcq : chk cm tau r (x / 128) = true := by
      by_contra h
      have := P.bounded _ hq (by simpa using h) (x % 128) (Nat.mod_lt _ (by decide))
      rw [hxe, hl] at this
      exact Bool.noConfusion this
    have hp := place_lt hq hcq (Nat.mod_lt x (show 0 < 128 by decide))
    have hlive := hitem _ hq hcq (x % 128) (Nat.mod_lt _ (by decide))
    have hrank := rk_column P.bounded hitem hq hcq (Nat.mod_lt x (show 0 < 128 by decide)).le
    rw [hxe] at hlive hrank
    have ej : (at1 k 0).val = k.val := rfl
    have a12 := I12.kept (by omega) (at1 k) _ (hp.trans_le htot) (hlive.trans hl) (hrank.trans hk)
    have a11 := I11.kept (by omega) (at1 k) _ (hp.trans_le htot) (hlive.trans hl) (hrank.trans hk)
    have b12 := itemI_at ⟨_, (hslot _ hq hcq).trans (by decide)⟩ _ (g1 _ hq hcq) ⟨x % 128, Nat.mod_lt _ (by decide)⟩
    have b11 := itemV_at G ⟨_, (hslot _ hq hcq).trans (by decide)⟩ _ hq (g1 _ hq hcq) ⟨x % 128, Nat.mod_lt _ (by decide)⟩
    refine ⟨a12.trans (b12.trans ?_), a11.trans (b11.trans ?_)⟩
    · exact congrArg (BitVec.ofNat 32) hxe
    · exact congrArg (fun y => sc (at2 r y)) (Fin.ext (congrArg (· % 102400) hxe))
  · intro hk
    exact ⟨I12.rest (by omega) (at1 k) (by rw [hall]; exact hk), I11.rest (by omega) (at1 k) (by rw [hall]; exact hk)⟩

end

end Cert.KernelIdeal.Tile

end
-- ==== Proof.Fitting.lean ====
/-
  The precondition, row by row: one threshold in all lanes, no live column outside a live chunk or in the last chunk, and
  few enough of both for the lists.
-/
module

public import proofs.«01_k».proof.Proof.Picked
public import proofs.«01_k».proof.Proof.Gen.Pre_selection_fits
public import Idealize.ShloMosaic.Lib.IndicatorCount
public import Idealize.ShloMosaic.PureOps.Ideal

@[expose] public section

noncomputable section

namespace Cert.Fitting

open Cert.Append Cert.Rows
open Idealize.ShloMosaic
open Cert.Pre_selection_fits Cert.Pre_selection_fits.Facts

/-- A threshold of a row, spread along any axis. -/
theorem spread {α : Type} {n : Nat} (x : S1024x16.Idx → α) (hs : S1024x16.Slices ![0, 0] S1024x1)
    (hb : S1024x1.BroadcastsInDim ⟨2, ![1024, n]⟩ (![0, 1] : Fin 2 → Fin 2)) (r : Fin 1024) (c : Fin n) :
    broadcastInDim (s := S1024x1) ⟨2, ![1024, n]⟩ (![0, 1] : Fin 2 → Fin 2) hb (extractStridedSlice S1024x1 ![0, 0] x hs) (at2 r c) = x (at2 r 0) := by
  unfold broadcastInDim extractStridedSlice
  refine congrArg x (funext fun a => Fin.ext ?_)
  match a with
  | 0 => exact Nat.zero_add _
  | 1 => rfl

/-- A sum of marks of 0 and 1 along a row counts them. -/
theorem count_row {n : Nat} (hn : n < 2 ^ 31) (p : (⟨2, ![1024, n]⟩ : Shape).Idx → BitVec 1) (h' : (⟨2, ![1024, n]⟩ : Shape).ReducesTo [1] S1024)
    (h : (⟨2, ![1024, n]⟩ : Shape).Reduces [1] S1024) (hu : 0 < S_.numel) (r : Fin 1024) (B : BitVec 32)
    (e : IntOp.cmpi .sle (Host.reduce IntOp.addi (extui 32 p (by decide)) (constantI S_ 32 0#32) h' hu (at1 r)) B = 1#1) (live : Nat → Bool)
    (hl : ∀ k : Fin n, p (at2 r k) = 1#1 ↔ live k.val = true) : (rk live n : Int) ≤ B.toInt := by
  have hfold : Host.reduce IntOp.addi (extui 32 p (by decide)) (constantI S_ 32 0#32) h' hu (at1 r) = BitVec.ofNat 32 (rk live n) := by
    rw [Host.reduce_eq_fold_single _ _ _ h' h hu (at1 r), ← rk_card]
    refine (IndicatorCount.fold_addi_setWidth_eq_card (w := 32) (fun k => p (h.lift (at1 r) k)) Finset.univ).trans (congrArg (BitVec.ofNat 32) (congrArg Finset.card (Finset.filter_congr fun k _ => ?_)))
    have : h.lift (at1 r) k = at2 r k := by
      funext c
      match c with
      | 0 => rfl
      | 1 => rfl
    rw [this]
    exact hl k
  rw [hfold] at e
  have hle := rk_le live n
  have hT : (BitVec.ofNat 32 (rk live n)).toInt = rk live n := by
    rw [BitVec.toInt_eq_toNat_of_lt] <;> rw [BitVec.toNat_ofNat, Nat.mod_eq_of_lt] <;> omega
  have e' : (BitVec.ofNat 32 (rk live n)).sle B = true := by
    have e0 : BitVec.ofBool ((BitVec.ofNat 32 (rk live n)).sle B) = 1#1 := e
    revert e0
    generalize (BitVec.ofNat 32 (rk live n)).sle B = b
    revert b
    decide
  rw [BitVec.sle_eq_decide, hT] at e'
  exact of_decide_eq_true e'

variable (a0 : FVec Ideal S1024x800 .f32) (a1 : FVec Ideal S1024x16 .f32) (a2 : FVec Ideal S1024x102400 .f32)

/-- The chunks and the columns that reach their row's threshold. -/
abbrev mk0 : IVec S1024x800 1 := cmpf .oge a0 (broadcastInDim S1024x800 ![0, 1] bcast_S1024x1_S1024x800_0_1 (extractStridedSlice S1024x1 ![0, 0] a1 slices_S1024x16_S1024x1_0_0))
abbrev mk2 : IVec S1024x102400 1 := cmpf .oge a2 (broadcastInDim S1024x102400 ![0, 1] bcast_S1024x1_S1024x102400_0_1 (extractStridedSlice S1024x1 ![0, 0] a1 slices_S1024x16_S1024x1_0_0))

theorem mk0_at (r : Fin 1024) (q : Fin 800) : mk0 a0 a1 (at2 r q) = 1#1 ↔ KernelIdeal.Tile.chk (F := Ideal) a0 a1 r q.val = true := by
  have e : (⟨q.val % 800, Nat.mod_lt _ (by decide)⟩ : Fin 800) = q := Fin.ext (Nat.mod_eq_of_lt q.isLt)
  unfold KernelIdeal.Tile.chk
  rw [e, decide_eq_true_iff]
  exact Iff.of_eq (congrArg (fun t => FloatOps.cmpf (F := Ideal) .oge (a0 (at2 r q)) t = 1#1) (spread a1 _ _ r q))

theorem mk2_at (r : Fin 1024) (x : Fin 102400) : mk2 a1 a2 (at2 r x) = 1#1 ↔ KernelIdeal.Tile.col (F := Ideal) a1 a2 r x.val = true := by
  have e : (⟨x.val % 102400, Nat.mod_lt _ (by decide)⟩ : Fin 102400) = x := Fin.ext (Nat.mod_eq_of_lt x.isLt)
  unfold KernelIdeal.Tile.col
  rw [e, decide_eq_true_iff]
  exact Iff.of_eq (congrArg (fun t => FloatOps.cmpf (F := Ideal) .oge (a2 (at2 r x)) t = 1#1) (spread a1 _ _ r x))

/-- An index of a three-axis array. -/
def at3 {a b c : Nat} (i : Fin a) (j : Fin b) (k : Fin c) : (⟨3, ![a, b, c]⟩ : Shape).Idx := fun
  | 0 => i
  | 1 => j
  | 2 => k

/-- The marks of the columns, by chunk. -/
theorem byChunk {α : Type} (y : S1024x102400.Idx → α) (hc : S1024x102400.ShapeCasts S1024x800x128) (r : Fin 1024) (q : Fin 800) (c : Fin 128) :
    shapeCast S1024x800x128 y hc (at3 r q c) = y (at2 r ⟨q.val * 128 + c.val, by omega⟩) := by
  unfold shapeCast
  refine congrArg y (Shape.reshapeEquiv_eq_of_rowMajor _ ?_)
  rw [Shape.rowMajor_val_two, Shape.rowMajor_val_three]
  show r.val * 102400 + (q.val * 128 + c.val) = (r.val * 800 + q.val) * 128 + c.val
  omega

theorem red0 : (⟨2, ![1024, 800]⟩ : Shape).Reduces [1] S1024 := by decide
theorem red2 : (⟨2, ![1024, 102400]⟩ : Shape).Reduces [1] S1024 := by decide

theorem fits (h1 : (fn a0 a1 a2).1 = fun _ => 1#1) (h2 : (fn a0 a1 a2).2.1 = fun _ => 1#1) (h3 : (fn a0 a1 a2).2.2.1 = fun _ => 1#1)
    (h4 : (fn a0 a1 a2).2.2.2.1 = fun _ => 1#1) (h5 : (fn a0 a1 a2).2.2.2.2 = fun _ => 1#1) (r : Fin 1024) : KernelIdeal.Tile.Fits (F := Ideal) a0 a1 a2 r where
  one l := by
    have e := congrFun h1 (at2 r l)
    have e' : FloatOps.cmpf (F := Ideal) .oeq (a1 (at2 r l)) (a1 (at2 r 0)) = 1#1 :=
      (congrArg (fun t => FloatOps.cmpf (F := Ideal) .oeq (a1 (at2 r l)) t) (spread a1 slices_S1024x16_S1024x1_0_0 bcast_S1024x1_S1024x16_0_1 r l)).symm.trans e
    by_contra hne
    revert e'
    show BitVec.ofBool (decide (a1 (at2 r l) = a1 (at2 r 0))) = 1#1 → False
    rw [decide_eq_false hne]
    decide
  bounded q hq hc c hcc := by
    have e := congrFun h2 (at3 r ⟨q, hq⟩ ⟨c, hcc⟩)
    by_contra hl
    have hcol := (mk2_at a1 a2 r ⟨q * 128 + c, by omega⟩).2 (by simpa using hl)
    have hchk : mk0 a0 a1 (at2 r ⟨q, hq⟩) = 0#1 := by
      have h0 : mk0 a0 a1 (at2 r ⟨q, hq⟩) ≠ 1#1 := fun h => by
        rw [(mk0_at a0 a1 r ⟨q, hq⟩).1 h] at hc
        exact Bool.noConfusion hc
      revert h0
      generalize mk0 a0 a1 (at2 r ⟨q, hq⟩) = b
      revert b; decide
    have e' : ~~~(shapeCast S1024x800x128 (mk2 a1 a2) shapeCasts_S1024x102400_S1024x800x128 (at3 r ⟨q, hq⟩ ⟨c, hcc⟩)) ||| mk0 a0 a1 (at2 r ⟨q, hq⟩) = 1#1 := by
      refine Eq.trans (congrArg (fun t => ~~~(shapeCast S1024x800x128 (mk2 a1 a2) shapeCasts_S1024x102400_S1024x800x128 (at3 r ⟨q, hq⟩ ⟨c, hcc⟩)) ||| mk0 a0 a1 t) ?_) e
      funext a
      match a with
      | 0 => rfl
      | 1 => rfl
    rw [byChunk, hcol, hchk] at e'
    revert e'; decide
  last c hcc := by
    have e := congrFun h3 (at2 r ⟨c, hcc⟩)
    by_contra hl
    have hcol := (mk2_at a1 a2 r ⟨799 * 128 + c, by omega⟩).2 (by simpa using hl)
    have e' : ~~~(shapeCast S1024x800x128 (mk2 a1 a2) shapeCasts_S1024x102400_S1024x800x128 (at3 r 799 ⟨c, hcc⟩)) = 1#1 := by
      refine Eq.trans (congrArg (fun t => ~~~(shapeCast S1024x800x128 (mk2 a1 a2) shapeCasts_S1024x102400_S1024x800x128 t)) ?_) e
      have e0 : Shape.reshapeEquiv shapeCasts_S1024x1x128_S1024x128 (at2 r ⟨c, hcc⟩) = (at3 r 0 ⟨c, hcc⟩ : S1024x1x128.Idx) := by
        refine Shape.reshapeEquiv_eq_of_rowMajor _ ?_
        rw [Shape.rowMajor_val_two, Shape.rowMajor_val_three]
        show (r.val * 1 + 0) * 128 + c = r.val * 128 + c
        omega
      rw [e0]
      funext a
      match a with
      | 0 => exact Fin.ext (Nat.zero_add _).symm
      | 1 => rfl
      | 2 => exact Fin.ext (Nat.zero_add _).symm
    rw [byChunk] at e'
    rw [show (at2 r ⟨(799 : Fin 800).val * 128 + c, by omega⟩ : S1024x102400.Idx) = at2 r ⟨799 * 128 + c, by omega⟩ from rfl, hcol] at e'
    revert e'; decide
  fewChunks := by
    have e : (fn a0 a1 a2).2.2.2.1 = cmpi .sle (Host.reduce IntOp.addi (extui 32 (mk0 a0 a1) natLt_1_32) (constantI S_ 32 0#32) reducesTo_S1024x800_S1024_d1 h_S_)
      (broadcastInDim S1024 ![] bcast_S_S1024 (constantI S_ 32 240#32)) := by unfold fn fn_part1; dsimp only
    have := count_row (n := 800) (by decide) (mk0 a0 a1) reducesTo_S1024x800_S1024_d1 red0 h_S_ r _ (congrFun (e.symm.trans h4) (at1 r)) _ (mk0_at a0 a1 r)
    change _ ≤ (240#32 : BitVec 32).toInt at this
    rw [show (240#32).toInt = 240 by decide] at this
    omega
  fewScores := by
    have e : (fn a0 a1 a2).2.2.2.2 = cmpi .sle (Host.reduce IntOp.addi (extui 32 (mk2 a1 a2) natLt_1_32) (constantI S_ 32 0#32) reducesTo_S1024x102400_S1024_d1 h_S_)
      (broadcastInDim S1024 ![] bcast_S_S1024 (constantI S_ 32 496#32)) := by unfold fn fn_part1; dsimp only
    have := count_row (n := 102400) (by decide) (mk2 a1 a2) reducesTo_S1024x102400_S1024_d1 red2 h_S_ r _ (congrFun (e.symm.trans h5) (at1 r)) _ (mk2_at a1 a2 r)
    change _ ≤ (496#32 : BitVec 32).toInt at this
    rw [show (496#32).toInt = 496 by decide] at this
    omega

end Cert.Fitting

end
-- ==== Proof.Columns.lean ====
/-
  A column of one entry a row: what it is made from and what it spreads to; the row a reduction or a sort runs along; and what holds after the rounds of a loop.
-/
module

public import Idealize.ShloMosaic.PureOps
public import Idealize.ShloMosaic.PureOps.Reduce
public import proofs.«01_k».proof.Proof.Rows

@[expose] public section

noncomputable section

namespace Cert.Columns

open Cert.Rows
open Idealize.ShloMosaic

theorem lift_at {a b : Nat} (h : (⟨2, ![a, b]⟩ : Shape).Reduces [1] ⟨1, ![a]⟩) (r : Fin a) (k : Fin b) : h.lift (at1 r) k = at2 r k := by
  funext c
  match c with
  | 0 => rfl
  | 1 => rfl

theorem column_at {α : Type} {a : Nat} (y : (⟨1, ![a]⟩ : Shape).Idx → α) (h : (⟨1, ![a]⟩ : Shape).ShapeCasts ⟨2, ![a, 1]⟩) (r : Fin a) :
    shapeCast ⟨2, ![a, 1]⟩ y h (at2 r 0) = y (at1 r) := by
  unfold shapeCast
  refine congrArg y (Shape.reshapeEquiv_eq_of_rowMajor _ ?_)
  rw [Shape.rowMajor_val_two, Shape.rowMajor_val_one]
  show r.val = r.val * 1 + 0
  omega

theorem spread_at {α : Type} {a n : Nat} (y : (⟨2, ![a, 1]⟩ : Shape).Idx → α) (h : (⟨2, ![a, 1]⟩ : Shape).Broadcasts ⟨2, ![a, n]⟩) (r : Fin a) (k : Fin n) :
    broadcastTo ⟨2, ![a, n]⟩ y h (at2 r k) = y (at2 r 0) := by
  unfold broadcastTo
  refine congrArg y (funext fun d => ?_)
  match d with
  | 0 =>
    by_cases h1 : a = 1
    · subst h1
      exact Subsingleton.elim (α := Fin 1) _ _
    · exact (dif_neg h1).trans rfl
  | 1 => rfl

/-- The places along a row are the row's. -/
theorem along_at {a b : Nat} (r : Fin a) (k i : Fin b) : Shape.Idx.along (s := ⟨2, ![a, b]⟩) (at2 r k) 1 i = at2 r i := by
  funext d
  match d with
  | 0 => rfl
  | 1 => rfl

theorem select_bool {α : Type} (b : Bool) (x y : α) : Scalar.select (BitVec.ofBool b) x y = if b then x else y := by
  cases b <;> rfl

/-- What holds at the start and is kept by each round holds after all of them. -/
theorem folds {σ : Type} (P : Nat → σ → Prop) : ∀ (n : Nat) (g : Fin n → σ → σ) (s : σ), P 0 s → (∀ (k : Fin n) (s : σ), P k.val s → P (k.val + 1) (g k s)) →
    P n ((List.finRange n).foldl (fun acc k => g k acc) s)
  | 0, _, _, h, _ => h
  | n + 1, g, s, h, hg => by
    rw [List.finRange_succ_last, List.foldl_append, List.foldl_map]
    exact hg (Fin.last n) _ (folds P n (fun k => g k.castSucc) s h fun k => hg k.castSucc)

end Cert.Columns

end
-- ==== Proof.Cands.lean ====
/-
  The reference read at an index: at place `k` of a row the live column of rank `k` and its score, and past the last live
  column the fills.
-/
module

public import proofs.«01_k».proof.Proof.Picked
public import proofs.«01_k».proof.Proof.Gen.ReferenceIdeal.Run
public import proofs.«01_k».proof.Proof.Columns
public import Idealize.ShloMosaic.PureOps.Reduce

@[expose] public section

noncomputable section

namespace Cert.Cands

open Cert.Append Cert.Rows Cert.Columns
open Idealize.ShloMosaic
open Cert.ReferenceIdeal Cert.ReferenceIdeal.Gen

variable {F : FTy → Type} [FloatOps F]

/-- The sort's keys: a live column its number, a dead one the largest word. -/
def keys (a1 : FVec F S1024x16 .f32) (a2 : FVec F S1024x102400 .f32) : IVec S1024x102400 32 :=
  select (cmpf .oge a2 (broadcastInDim S1024x102400 ![0, 1] bcast_S1024x1_S1024x102400_0_1 (extractStridedSlice S1024x1 ![0, 0] a1 slices_S1024x16_S1024x1_0_0)))
    (iotaInDim S1024x102400 32 1) (broadcastInDim S1024x102400 ![] bcast_S_S1024x102400 (id (constantI S_ 32 2147483647#32)))

/-- The first keys in order. -/
def cands (a1 : FVec F S1024x16 .f32) (a2 : FVec F S1024x102400 .f32) : IVec S1024x512 32 :=
  extractStridedSlice S1024x512 ![0, 0] (Host.sort S1024x102400 1 comparator_i32_d1 (keys a1 a2)) slices_S1024x102400_S1024x512_0_0

theorem keys_at (a1 : FVec F S1024x16 .f32) (a2 : FVec F S1024x102400 .f32) (r : Fin 1024) (x : Fin 102400) :
    keys a1 a2 (at2 r x) = if KernelIdeal.Tile.col (F := F) a1 a2 r x.val = true then BitVec.ofNat 32 x.val else 2147483647#32 := by
  have e : (⟨x.val % 102400, Nat.mod_lt _ (by decide)⟩ : Fin 102400) = x := Fin.ext (Nat.mod_eq_of_lt x.isLt)
  have eb : broadcastInDim S1024x102400 ![0, 1] bcast_S1024x1_S1024x102400_0_1 (extractStridedSlice S1024x1 ![0, 0] a1 slices_S1024x16_S1024x1_0_0) (at2 r x) = a1 (at2 r 0) := by
    unfold broadcastInDim extractStridedSlice
    refine congrArg a1 (funext fun a => Fin.ext ?_)
    match a with
    | 0 => exact Nat.zero_add _
    | 1 => rfl
  unfold KernelIdeal.Tile.col
  rw [e]
  show Scalar.select (FloatOps.cmpf .oge (a2 (at2 r x)) (broadcastInDim S1024x102400 ![0, 1] bcast_S1024x1_S1024x102400_0_1 (extractStridedSlice S1024x1 ![0, 0] a1 slices_S1024x16_S1024x1_0_0) (at2 r x))) (BitVec.ofNat 32 x.val) (2147483647#32) = _
  rw [eb]
  unfold Scalar.select
  simp only [decide_eq_true_eq]
  rfl

/-- The reference's columns. -/
theorem cands_at (a1 : FVec F S1024x16 .f32) (a2 : FVec F S1024x102400 .f32) (r : Fin 1024) (k : Fin 512) :
    (∀ x < 102400, KernelIdeal.Tile.col (F := F) a1 a2 r x = true → rk (KernelIdeal.Tile.col (F := F) a1 a2 r) x = k.val → cands a1 a2 (at2 r k) = BitVec.ofNat 32 x)
      ∧ (rk (KernelIdeal.Tile.col (F := F) a1 a2 r) 102400 ≤ k.val → cands a1 a2 (at2 r k) = 2147483647#32) := by
  have hk := k.isLt
  have e : cands a1 a2 (at2 r k) = Host.sort S1024x102400 1 comparator_i32_d1 (keys a1 a2) (at2 r ⟨k.val, by omega⟩) := by
    unfold cands extractStridedSlice
    refine congrArg (Host.sort S1024x102400 1 comparator_i32_d1 (keys a1 a2)) (funext fun a => Fin.ext ?_)
    match a with
    | 0 => exact Nat.zero_add _
    | 1 => exact Nat.zero_add _
  have e2 : Host.sort S1024x102400 1 comparator_i32_d1 (keys a1 a2) (at2 r ⟨k.val, by omega⟩)
      = keys a1 a2 (at2 r (sortedFrom (fun i j => comparator_i32_d1 (keys a1 a2 (at2 r i)) (keys a1 a2 (at2 r j)) == 1#1) ⟨k.val, by omega⟩)) := by
    unfold Host.sort
    rw [dif_pos (show 1 < S1024x102400.rank by decide)]
    refine (congrArg (keys a1 a2) (along_at r _ _)).trans ?_
    refine congrArg (fun B => keys a1 a2 (at2 r (sortedFrom B ⟨k.val, by omega⟩))) (funext fun i => funext fun j => ?_)
    exact congrArg₂ (fun u v => comparator_i32_d1 (keys a1 a2 u) (keys a1 a2 v) == 1#1) (along_at r _ _) (along_at r _ _)
  have h := sorted_column (n := 102400) (KernelIdeal.Tile.col (F := F) a1 a2 r) (by decide) (fun i j => comparator_i32_d1 (keys a1 a2 (at2 r i)) (keys a1 a2 (at2 r j)) == 1#1)
    (fun x => keys a1 a2 (at2 r x)) (keys_at a1 a2 r) (fun i j => by
      show (BitVec.ofBool ((keys a1 a2 (at2 r i)).slt (keys a1 a2 (at2 r j))) == 1#1) = _
      rw [← BitVec.slt_eq_decide]
      generalize (keys a1 a2 (at2 r i)).slt (keys a1 a2 (at2 r j)) = b
      revert b; decide) ⟨k.val, by omega⟩
  rw [e, e2]
  exact h

/-! ## The scores at the columns -/

/-- A word of a live column, and zero for a filler. -/
def word (y : IVec S1024x512 32) : IVec S1024x512 32 :=
  select (cmpi .slt y (broadcastInDim S1024x512 ![] bcast_S_S1024x512 (constantI S_ 32 2147483647#32))) y (broadcastInDim S1024x512 ![] bcast_S_S1024x512 (id (constantI S_ 32 0#32)))

/-- The same counted from the end when negative. -/
def wrap (y : IVec S1024x512 32) : IVec S1024x512 32 :=
  select (cmpi .slt (word y) (broadcastInDim S1024x512 ![] bcast_S_S1024x512 (constantI S_ 32 0#32)))
    (addi (word y) (broadcastInDim S1024x512 ![] bcast_S_S1024x512 (constantI S_ 32 102400#32))) (word y)

/-- As start indices. -/
def starts (y : IVec S1024x512 32) : IVec S1024x512x1 32 := shapeCast S1024x512x1 (wrap y) shapeCasts_S1024x512_S1024x512x1

/-- Whether each is a column. -/
def inside (y : IVec S1024x512 32) : IVec S1024x512x1 1 :=
  andi (cmpi .sge (starts y) (broadcastInDim S1024x512x1 ![] bcast_S_S1024x512x1 (constantI S_ 32 0#32)))
    (cmpi .sle (starts y) (broadcastInDim S1024x512x1 ![0, 1, 2] bcast_S1x1x1_S1024x512x1_0_1_2 (broadcastInDim S1x1x1 ![2] bcast_S1_S1x1x1_2 (constantI S1 32 102399#32))))

/-- The scores at the words, and the fill at a filler. -/
def vals (a2 : FVec F S1024x102400 .f32) (y : IVec S1024x512 32) : FVec F S1024x512 .f32 :=
  select (cmpi .slt y (broadcastInDim S1024x512 ![] bcast_S_S1024x512 (constantI S_ 32 2147483647#32)))
    (select (Host.reduce IntOp.andi (inside y) (constantI S_ 1 1#1) reducesTo_S1024x512x1_S1024x512_d2 h_S_)
      (Host.gather gather_S1024x102400_S1024x512x1_S1024x512_n_1_0_0_1_2_11 a2 (starts y))
      (broadcastInDim S1024x512 ![] bcast_S_S1024x512 (constant S_ .f32 0x7FC00000#32)))
    (broadcastInDim S1024x512 ![] bcast_S_S1024x512 (constant S_ .f32 0xF149F2CA#32))

def at3 {a b c : Nat} (i : Fin a) (j : Fin b) (k : Fin c) : (⟨3, ![a, b, c]⟩ : Shape).Idx := fun
  | 0 => i
  | 1 => j
  | 2 => k

theorem small {x : Nat} (hx : x < 102400) : (BitVec.ofNat 32 x).toInt = x := by
  rw [BitVec.toInt_eq_toNat_of_lt] <;> rw [BitVec.toNat_ofNat, Nat.mod_eq_of_lt] <;> omega

theorem slt_top {x : Nat} (hx : x < 102400) : IntOp.cmpi .slt (BitVec.ofNat 32 x) 2147483647#32 = 1#1 := by
  show BitVec.ofBool ((BitVec.ofNat 32 x).slt 2147483647#32) = 1#1
  rw [BitVec.slt_eq_decide, small hx, decide_eq_true (by rw [show (2147483647#32).toInt = 2147483647 by decide]; omega)]
  rfl

theorem slt_zero {x : Nat} (hx : x < 102400) : IntOp.cmpi .slt (BitVec.ofNat 32 x) 0#32 = 0#1 := by
  show BitVec.ofBool ((BitVec.ofNat 32 x).slt 0#32) = 0#1
  rw [BitVec.slt_eq_decide, small hx, decide_eq_false (by rw [show (0#32).toInt = 0 by decide]; omega)]
  rfl

theorem sge_zero {x : Nat} (hx : x < 102400) : IntOp.cmpi .sge (BitVec.ofNat 32 x) 0#32 = 1#1 := by
  show BitVec.ofBool ((0#32).sle (BitVec.ofNat 32 x)) = 1#1
  rw [BitVec.sle_eq_decide, small hx, decide_eq_true (by rw [show (0#32).toInt = 0 by decide]; omega)]
  rfl

theorem sle_last {x : Nat} (hx : x < 102400) : IntOp.cmpi .sle (BitVec.ofNat 32 x) 102399#32 = 1#1 := by
  show BitVec.ofBool ((BitVec.ofNat 32 x).sle 102399#32) = 1#1
  rw [BitVec.sle_eq_decide, small hx, decide_eq_true (by rw [show (102399#32).toInt = 102399 by decide]; omega)]
  rfl

variable (y : IVec S1024x512 32) (r : Fin 1024) (k : Fin 512) {x : Nat} (hx : x < 102400) (hy : y (at2 r k) = BitVec.ofNat 32 x)

include hx hy

theorem word_at : word y (at2 r k) = BitVec.ofNat 32 x := by
  show Scalar.select (IntOp.cmpi .slt (y (at2 r k)) 2147483647#32) (y (at2 r k)) 0#32 = _
  rw [hy, slt_top hx]; rfl

theorem wrap_at : wrap y (at2 r k) = BitVec.ofNat 32 x := by
  show Scalar.select (IntOp.cmpi .slt (word y (at2 r k)) 0#32) (word y (at2 r k) + 102400#32) (word y (at2 r k)) = _
  rw [word_at y r k hx hy, slt_zero hx]; rfl

theorem starts_at : starts y (at3 r k 0) = BitVec.ofNat 32 x := by
  refine Eq.trans ?_ (wrap_at y r k hx hy)
  unfold starts shapeCast
  refine congrArg (wrap y) (Shape.reshapeEquiv_eq_of_rowMajor _ ?_)
  rw [Shape.rowMajor_val_two, Shape.rowMajor_val_three]
  show r.val * 512 + k.val = (r.val * 512 + k.val) * 1 + 0
  omega

theorem inside_at : inside y (at3 r k 0) = 1#1 := by
  show IntOp.cmpi .sge (starts y (at3 r k 0)) 0#32 &&& IntOp.cmpi .sle (starts y (at3 r k 0)) 102399#32 = 1#1
  rw [starts_at y r k hx hy, sge_zero hx, sle_last hx]; rfl

omit hx hy in
theorem red3 : S1024x512x1.Reduces [2] S1024x512 := by decide

theorem mask_at : Host.reduce IntOp.andi (inside y) (constantI S_ 1 1#1) reducesTo_S1024x512x1_S1024x512_d2 h_S_ (at2 r k) = 1#1 := by
  rw [Host.reduce_eq_fold_single _ _ _ reducesTo_S1024x512x1_S1024x512_d2 red3 h_S_ (at2 r k)]
  have h1 : ∀ i : Fin 1, inside y (red3.lift (at2 r k) i) = 1#1 := fun i => by
    have : red3.lift (at2 r k) i = at3 r k 0 := by
      funext c
      match c with
      | 0 => rfl
      | 1 => rfl
      | 2 => exact Subsingleton.elim (α := Fin 1) _ _
    rw [this]; exact inside_at y r k hx hy
  refine (congrArg (fun f => (Finset.univ : Finset (Fin 1)).fold IntOp.andi 1#1 f) (funext h1 : inside y ∘ red3.lift (at2 r k) = fun _ => 1#1)).trans ?_
  rfl

theorem gather_at (a2 : FVec F S1024x102400 .f32) :
    Host.gather gather_S1024x102400_S1024x512x1_S1024x512_n_1_0_0_1_2_11 a2 (starts y) (at2 r k) = a2 (at2 r ⟨x % 102400, Nat.mod_lt _ (by decide)⟩) := by
  unfold Host.gather
  refine congrArg a2 (funext fun a => Fin.ext ?_)
  show GatherDims.start _ (at2 r k) (starts y) a + GatherDims.batchCoord _ (at2 r k) a + GatherDims.offCoord _ (at2 r k) a = _
  match a with
  | 0 =>
    rw [GatherDims.start_batching _ _ _ _ (List.mem_singleton.mpr rfl), GatherDims.offCoord_eq_zero _ _ _ (by decide), Nat.zero_add, Nat.add_zero]
    rfl
  | 1 =>
    rw [GatherDims.batchCoord_eq_zero _ _ _ (by decide), GatherDims.offCoord_eq_zero _ _ _ (by decide), Nat.add_zero]
    unfold GatherDims.start
    rw [dif_pos (show (1 : Fin S1024x102400.rank) ∈ gather_S1024x102400_S1024x512x1_S1024x512_n_1_0_0_1_2_11.startIndexMap from List.mem_singleton.mpr rfl)]
    have hs : GatherDims.siIdx gather_S1024x102400_S1024x512x1_S1024x512_n_1_0_0_1_2_11 (at2 r k) ⟨List.idxOf 1 [1], by decide⟩ = at3 r k 0 := by
      funext b
      match b with
      | 0 => rfl
      | 1 => rfl
      | 2 => rfl
    refine (congrArg (fun i => min (starts y i).toInt.toNat 102399) hs).trans ?_
    rw [starts_at y r k hx hy, small hx]
    show min x 102399 = x % 102400
    rw [Nat.mod_eq_of_lt hx]; omega

theorem vals_at (a2 : FVec F S1024x102400 .f32) : vals a2 y (at2 r k) = a2 (at2 r ⟨x % 102400, Nat.mod_lt _ (by decide)⟩) := by
  show Scalar.select (IntOp.cmpi .slt (y (at2 r k)) 2147483647#32) (Scalar.select (Host.reduce IntOp.andi (inside y) (constantI S_ 1 1#1) reducesTo_S1024x512x1_S1024x512_d2 h_S_ (at2 r k))
    (Host.gather gather_S1024x102400_S1024x512x1_S1024x512_n_1_0_0_1_2_11 a2 (starts y) (at2 r k)) _) _ = _
  rw [hy, slt_top hx, mask_at y r k hx hy, gather_at y r k hx hy a2]
  rfl

omit hx hy in
theorem vals_fill (a2 : FVec F S1024x102400 .f32) (h : y (at2 r k) = 2147483647#32) : vals a2 y (at2 r k) = KernelIdeal.Tile.fillV (F := F) := by
  show Scalar.select (IntOp.cmpi .slt (y (at2 r k)) 2147483647#32) _ (FloatOps.ofBits .f32 0xF149F2CA#32) = _
  rw [h, show IntOp.cmpi .slt 2147483647#32 2147483647#32 = 0#1 by decide]
  rfl

end Cert.Cands

end
-- ==== Proof.Algebraic.lean ====
/-
  On the extended reals the kernel and the reference give the same values and the same columns.
-/
module

public import proofs.«01_k».proof.Defs
public import proofs.«01_k».proof.Proof.Fitting
public import proofs.«01_k».proof.Proof.Cands

@[expose] public section

noncomputable section

namespace Cert.Algebraic

open Cert.Append Cert.Rows
open Idealize.ShloMosaic Idealize.SL.Sem

/-- A row whose lists the run fills is the reference's. -/
theorem row_eq {a0 : FVec Ideal KernelIdeal.S1024x800 .f32} {a1 : FVec Ideal ReferenceIdeal.S1024x16 .f32} {a2 : FVec Ideal ReferenceIdeal.S1024x102400 .f32} {r : Fin 1024} {f11 f12}
    (H : KernelIdeal.Tile.RowOK (F := Ideal) a0 a1 (KernelIdeal.Tile.chunks a2) r f11 f12) (P : KernelIdeal.Tile.Fits (F := Ideal) a0 a1 a2 r) (k : Fin 512) :
    f11 (at1 k) = Cands.vals (F := Ideal) a2 (Cands.cands (F := Ideal) a1 a2) (at2 r k) ∧ f12 (at1 k) = Cands.cands (F := Ideal) a1 a2 (at2 r k) := by
  have hv := KernelIdeal.Tile.RowOK.value H P k
  have hc := Cands.cands_at (F := Ideal) a1 a2 r k
  by_cases hk : k.val < rk (KernelIdeal.Tile.col (F := Ideal) a1 a2 r) 102400
  · obtain ⟨x, hx, hl, hr⟩ := exists_rk _ hk
    have h1 := hv.1 x hx hl hr
    have h2 := hc.1 x hx hl hr
    exact ⟨h1.2.trans (Cands.vals_at _ r k hx h2 a2).symm, h1.1.trans h2.symm⟩
  · have h1 := hv.2 (by omega)
    have h2 := hc.2 (by omega)
    exact ⟨h1.2.trans (Cands.vals_fill _ r k a2 h2).symm, h1.1.trans h2.symm⟩

variable (m : (ℓ : Loc KernelIdeal.nD KernelIdeal.τ KernelIdeal.sig) → Buf (Elt Ideal) ℓ) (c : Dev KernelIdeal.nD)

/-- The columns of one device's arguments. -/
def columns : IVec ReferenceIdeal.S1024x512 32 :=
  Cands.cands (F := Ideal) (m (KernelIdeal.Tile.tLoc c)) (m (KernelIdeal.Tile.sLoc c))

/-- The scores of one device's arguments at those columns. -/
def values : FVec Ideal ReferenceIdeal.S1024x512 .f32 := Cands.vals (F := Ideal) (m (KernelIdeal.Tile.sLoc c)) (columns m c)

theorem kernel_at {f : Buf (Elt Ideal) (KernelIdeal.Tile.vLoc c)} {h : Buf (Elt Ideal) (KernelIdeal.Tile.iLoc c)}
    (H : KernelIdeal.Tile.AllDone m c f h) (hp : Pre_KernelIdeal_selection_fits m) : f = values m c ∧ h = columns m c := by
  have hr : ∀ (r : Fin 1024) (k : Fin 512), f (at2 r k) = values m c (at2 r k) ∧ h (at2 r k) = columns m c (at2 r k) := fun r k =>
    row_eq (KernelIdeal.Tile.AllDone.row m H r) (Fitting.fits _ _ _ (hp c).1 (hp c).2.1 (hp c).2.2.1 (hp c).2.2.2.1 (hp c).2.2.2.2 r) k
  have hx : ∀ x : ReferenceIdeal.S1024x512.Idx, x = at2 (x 0) (x 1) := fun x => by
    funext a
    match a with
    | 0 => rfl
    | 1 => rfl
  refine ⟨funext fun (x : ReferenceIdeal.S1024x512.Idx) => ?_, funext fun (x : ReferenceIdeal.S1024x512.Idx) => ?_⟩
  · exact ((congrArg f (hx x)).trans (hr (x 0) (x 1)).1).trans (congrArg (values m c) (hx x)).symm
  · exact ((congrArg h (hx x)).trans (hr (x 0) (x 1)).2).trans (congrArg (columns m c) (hx x)).symm

theorem reference_values (m' : (ℓ : Loc ReferenceIdeal.nD ReferenceIdeal.τ ReferenceIdeal.sig) → Buf (Elt Ideal) ℓ) (d : Dev ReferenceIdeal.nD) :
    ReferenceIdeal.Value.res_main_v11 m' d = Cands.vals (F := Ideal) (m' ((d.tc : Thread ReferenceIdeal.nD ReferenceIdeal.τ).loc ReferenceIdeal.main_arg2))
      (Cands.cands (F := Ideal) (m' ((d.tc : Thread ReferenceIdeal.nD ReferenceIdeal.τ).loc ReferenceIdeal.main_arg1)) (m' ((d.tc : Thread ReferenceIdeal.nD ReferenceIdeal.τ).loc ReferenceIdeal.main_arg2))) := by
  unfold ReferenceIdeal.Value.res_main_v11 Cands.vals Cands.inside Cands.starts Cands.wrap Cands.word Cands.cands Cands.keys
  rfl

theorem claim : Cert.algebraic_KernelIdeal_ReferenceIdeal_pre_selection_fits := fun m g m' g' hp hm =>
  ⟨values m, columns m,
    (θ_run Cert.KernelIdeal.defs _ _).mono (fun _ h c =>
      ⟨(kernel_at m c (h.1 c).2.2.2 hp).1, (kernel_at m c (h.1 c).2.2.2 hp).2, (h.1 c).1, (h.1 c).2.1, (h.1 c).2.2.1⟩) (Cert.KernelIdeal.Tile.run_main (F := Ideal) m g),
    (θ_run Cert.ReferenceIdeal.defs _ _).mono (fun _ h c =>
      ⟨(h c).1.trans ((reference_values m' c).trans (congrArg₂ (fun (u : FVec Ideal ReferenceIdeal.S1024x16 .f32) (v : FVec Ideal ReferenceIdeal.S1024x102400 .f32) => Cands.vals (F := Ideal) v (Cands.cands (F := Ideal) u v)) (hm c).2.1 (hm c).2.2)),
        (h c).2.1.trans (congrArg₂ (fun (u : FVec Ideal ReferenceIdeal.S1024x16 .f32) (v : FVec Ideal ReferenceIdeal.S1024x102400 .f32) => Cands.cands (F := Ideal) u v) (hm c).2.1 (hm c).2.2),
        (h c).2.2.1, (h c).2.2.2.1, (h c).2.2.2.2⟩) (Cert.ReferenceIdeal.Value.run (F := Ideal) m' g')⟩

end Cert.Algebraic

end
-- ==== Proof.RankOrder.lean ====
/-
  The order of a row's entries by value, largest first and equal ones by place, and the first rounds of taking the
  largest entry away.
-/
module

public import Idealize.ShloMosaic.Lib.SortFacts
public import Mathlib.Data.EReal.Operations
public import Mathlib.Order.Interval.Finset.Fin

@[expose] public section

noncomputable section

namespace Cert.RankOrder

open Idealize.ShloMosaic

variable {n : Nat}

/-- A sort never asks about two places that stand in order but this way round. -/
theorem sorts_alike (R R' : Fin n → Fin n → Bool) (l : List (Fin n)) (hl : l.Pairwise (· < ·)) (h : ∀ a b, a < b → R b a = R' b a) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem places_alike (R R' : Fin n → Fin n → Bool) (h : ∀ a b, a < b → R b a = R' b a) : sortedFrom R = sortedFrom R' := by
  funext k
  unfold sortedFrom
  have : sortPositions n R = sortPositions n R' := sorts_alike R R' _ (List.pairwise_lt_finRange n) h
  rw [List.get_of_eq this]
  rfl

/-- The place of rank `k`. -/
def rank (x : Fin n → EReal) (k : Fin n) : Fin n := sortedFrom (fun i j => decide (x j < x i)) k

/-- Larger, or equal and earlier. -/
def ahead (x : Fin n → EReal) (i j : Fin n) : Bool := decide (x j < x i ∨ (x i = x j ∧ i < j))

theorem rank_ahead (x : Fin n → EReal) {i j : Fin n} (hij : i < j) : x (rank x j) < x (rank x i) ∨ (x (rank x i) = x (rank x j) ∧ rank x i < rank x j) := by
  have e : rank x = sortedFrom (ahead x) := by
    refine places_alike _ _ fun a b hab => ?_
    unfold ahead
    refine decide_eq_decide.2 ⟨fun h => .inl h, fun h => h.elim id fun h => absurd (h.2.trans hab) (lt_irrefl _)⟩
  have hne : rank x i ≠ rank x j := fun h => hij.ne (sortedFrom_injective _ h)
  have h := sortedFrom_noInversion (ahead x) (ahead x) ?_ (fun _ _ h => h) ?_ i j hij
  · rw [← e] at h
    have h' := of_decide_eq_false h
    rcases lt_trichotomy (x (rank x i)) (x (rank x j)) with hx | hx | hx
    · exact absurd (.inl hx) h'
    · rcases lt_or_gt_of_ne hne with hl | hl
      · exact .inr ⟨hx, hl⟩
      · exact absurd (.inr ⟨hx.symm, hl⟩) h'
    · exact .inl hx
  · intro a b hab
    have hab' := of_decide_eq_true hab
    refine decide_eq_false fun hba => ?_
    rcases hab' with h1 | ⟨h1, h2⟩ <;> rcases hba with h3 | ⟨h3, h4⟩
    · exact lt_asymm h1 h3
    · exact h1.ne h3
    · exact h3.ne h1
    · exact lt_asymm h2 h4
  · intro a b c hab hbc
    have h1 := of_decide_eq_false hab
    have h2 := of_decide_eq_false hbc
    push Not at h1 h2
    refine decide_eq_false fun h => ?_
    rcases h with h | ⟨h, h'⟩
    · exact absurd ((h1.1.trans h2.1).trans_lt h) (lt_irrefl _)
    · have e1 : x a = x b := le_antisymm h1.1 (h ▸ h2.1)
      have e2 : x b = x c := e1.symm.trans h
      exact absurd (h'.trans_le ((h2.2 e2).trans (h1.2 e1))) (lt_irrefl _)

theorem exists_rank (x : Fin n → EReal) (i : Fin n) : ∃ k, rank x k = i := sortedFrom_surjective _ i

theorem rank_inj (x : Fin n → EReal) {i j : Fin n} (h : rank x i = rank x j) : i = j := sortedFrom_injective _ h

/-- What the rounds ask of a row: among `K` entries above a floor of at least `-1`, the columns tell equal ones apart and
    grow along the row. -/
structure Ranked (K : Nat) (x : Fin n → EReal) (ci : Fin n → Int) (floor : EReal) : Prop where
  above : -1 ≤ floor
  ordered : ∀ i j, i < j → ci i ≤ ci j
  apart : ∀ i j, i < j → floor < x j → ci i < ci j
  enough : K ≤ (Finset.univ.filter fun i => floor < x i).card

/-- A row after the entries of the first `k` ranks are gone. -/
def gone (x : Fin n → EReal) (k : Nat) (i : Fin n) : EReal := if ∃ s : Fin n, s.val < k ∧ rank x s = i then -1 else x i

variable {K : Nat} {x : Fin n → EReal} {ci : Fin n → Int} {floor : EReal} (H : Ranked K x ci floor)
include H

/-- The first `K` ranks are above the floor. -/
theorem Ranked.live (k : Fin n) (hk : k.val < K) : floor < x (rank x k) := by
  by_contra hn
  have hsub : (Finset.univ.filter fun i => floor < x i) ⊆ (Finset.univ.filter fun s : Fin n => s < k).image (rank x) := fun i hi => by
    obtain ⟨s, rfl⟩ := exists_rank x i
    refine Finset.mem_image.2 ⟨s, Finset.mem_filter.2 ⟨Finset.mem_univ _, ?_⟩, rfl⟩
    by_contra hs
    have hl := (Finset.mem_filter.1 hi).2
    rcases lt_or_eq_of_le (not_lt.1 hs) with h | h
    · rcases rank_ahead x h with h' | h'
      · exact hn (hl.trans h')
      · exact hn (h'.1 ▸ hl)
    · exact hn (h ▸ hl)
  have hc := (Finset.card_le_card hsub).trans Finset.card_image_le
  have h2 : (Finset.univ.filter fun s : Fin n => s < k).card = k.val :=
    (congrArg Finset.card (Finset.ext fun s => by rw [Finset.mem_filter, Finset.mem_Iio]; exact and_iff_right (Finset.mem_univ _))).trans (Fin.card_Iio k)
  have := H.enough
  omega

theorem Ranked.gone_rank (k : Fin n) : gone x k.val (rank x k) = x (rank x k) := by
  unfold gone
  rw [if_neg]
  rintro ⟨s, hs, e⟩
  have := rank_inj x e
  subst this
  exact lt_irrefl _ hs

/-- The entry of rank `k` is the largest of those left. -/
theorem Ranked.largest (k : Fin n) (hk : k.val < K) (i : Fin n) : gone x k.val i ≤ x (rank x k) := by
  unfold gone
  split
  · exact (H.above.trans_lt (H.live k hk)).le
  · rename_i h
    obtain ⟨s, rfl⟩ := exists_rank x i
    rcases lt_trichotomy k s with h' | h' | h'
    · rcases rank_ahead x h' with e | e
      · exact e.le
      · exact e.1.symm.le
    · subst h'; exact le_rfl
    · exact absurd ⟨s, h', rfl⟩ h

/-- An entry left with the largest value has the same rank or a later place. -/
theorem Ranked.tied (k : Fin n) (hk : k.val < K) (i : Fin n) (hi : gone x k.val i = x (rank x k)) : i = rank x k ∨ (rank x k < i ∧ x i = x (rank x k)) := by
  unfold gone at hi
  split at hi
  · exact absurd (hi ▸ H.above.trans_lt (H.live k hk)) (lt_irrefl _)
  · rename_i h
    obtain ⟨s, rfl⟩ := exists_rank x i
    rcases lt_trichotomy k s with h' | h' | h'
    · rcases rank_ahead x h' with e | e
      · exact absurd (hi ▸ e) (lt_irrefl _)
      · exact .inr ⟨e.2, e.1.symm⟩
    · subst h'; exact .inl rfl
    · exact absurd ⟨s, h', rfl⟩ h

/-- Its column is the smallest among them. -/
theorem Ranked.first (k : Fin n) (hk : k.val < K) (i : Fin n) (hi : gone x k.val i = x (rank x k)) : ci (rank x k) ≤ ci i := by
  rcases H.tied k hk i hi with rfl | h
  · exact le_rfl
  · exact H.ordered _ _ h.1

/-- Value and column together name it. -/
theorem Ranked.only (k : Fin n) (hk : k.val < K) (i : Fin n) (hi : gone x k.val i = x (rank x k)) (hc : ci i = ci (rank x k)) : i = rank x k := by
  rcases H.tied k hk i hi with rfl | h
  · rfl
  · exact absurd hc (H.apart _ _ h.1 (h.2 ▸ H.live k hk)).ne'

/-- Taking it away is the next row. -/
theorem Ranked.next (k : Fin n) (hk : k.val < K) (i : Fin n) :
    gone x (k.val + 1) i = if gone x k.val i = x (rank x k) ∧ ci i = ci (rank x k) then -1 else gone x k.val i := by
  by_cases hi : i = rank x k
  · subst hi
    rw [if_pos ⟨H.gone_rank k, rfl⟩]
    unfold gone
    rw [if_pos ⟨k, Nat.lt_succ_self _, rfl⟩]
  · rw [if_neg fun h => hi (H.only k hk i h.1 h.2)]
    unfold gone
    refine if_congr ⟨?_, ?_⟩ rfl rfl
    · rintro ⟨s, hs, rfl⟩
      refine ⟨s, ?_, rfl⟩
      have : s ≠ k := fun h => hi (h ▸ rfl)
      have := Fin.val_ne_of_ne this
      omega
    · rintro ⟨s, hs, rfl⟩
      exact ⟨s, hs.trans (Nat.lt_succ_self _), rfl⟩

end Cert.RankOrder

end
-- ==== Proof.SelectLoop.lean ====
/-
  The selection's rounds: each finds a row's largest entry left, the smallest column among the entries that have it, writes
  both down in the round's lane and takes the entry away.
-/
module

public import proofs.«01_k».proof.Proof.Columns
public import proofs.«01_k».proof.Proof.RankOrder
public import proofs.«01_k».proof.Proof.Gen.SelectIdeal.Value
public import Idealize.ShloMosaic.PureOps.Reduce
public import Idealize.ShloMosaic.PureOps.Ideal.Laws

@[expose] public section

noncomputable section

namespace Cert.SelectIdeal.Loop

open Cert.Rows Cert.Columns Cert.RankOrder
open Idealize.ShloMosaic Idealize.SL.Sem
open Cert.SelectIdeal Cert.SelectIdeal.Gen

theorem lowest : (FloatOps.ofBits (F := Ideal) .f32 0xFF800000#32 : EReal) = ⊥ := by
  simp [Ideal.ofBits, Ideal.ieee]

theorem minusOne : (FloatOps.ofBits (F := Ideal) .f32 0xBF800000#32 : EReal) = -1 := by
  rw [show (-1 : EReal) = ((-1 : ℝ) : EReal) by rw [EReal.coe_neg, EReal.coe_one]]
  simp [Ideal.ofBits, Ideal.ieee, -EReal.coe_mul, -EReal.coe_neg]
  norm_num

/-- A fold of the signed minimum that starts at the largest word is the entry below all others. -/
theorem fold_min {n : Nat} (f : Fin n → BitVec 32) (j : Fin n) (h : ∀ i, (f j).toInt ≤ (f i).toInt) :
    (Finset.univ : Finset (Fin n)).fold IntOp.minsi 2147483647#32 f = f j := by
  have hm : ∀ a b : BitVec 32, (IntOp.minsi a b).toInt = min a.toInt b.toInt := fun a b => by
    unfold IntOp.minsi
    rw [BitVec.slt_eq_decide]
    by_cases h : a.toInt < b.toInt
    · rw [decide_eq_true h, if_pos rfl, min_eq_left h.le]
    · rw [decide_eq_false h, if_neg Bool.false_ne_true, min_eq_right (not_lt.1 h)]
  refine BitVec.toInt_inj.1 ?_
  have e := Finset.fold_hom (op := IntOp.minsi) (op' := min) (s := (Finset.univ : Finset (Fin n))) (f := f) (b := 2147483647#32) (m := BitVec.toInt) hm
  rw [← e]
  refine le_antisymm (Finset.fold_min_le _ |>.2 (.inr ⟨j, Finset.mem_univ _, le_rfl⟩)) (Finset.le_fold_min _ |>.2 ⟨?_, fun i _ => h i⟩)
  rw [show (2147483647#32).toInt = 2147483647 by decide]
  have := BitVec.toInt_lt (x := f j)
  omega

theorem red : S1024x512.Reduces [1] S1024 := by decide

/-- The largest entry of a row. -/
theorem max_at (y : FVec Ideal S1024x512 .f32) (r : Fin 1024) (j : Fin 512) (h : ∀ i : Fin 512, (y (at2 r i) : EReal) ≤ y (at2 r j)) :
    k0_pay4 (F := Ideal) y (at2 r 0) = y (at2 r j) := by
  unfold k0_pay4
  refine (column_at _ shapeCasts_S1024_S1024x1 r).trans ?_
  refine (Ideal.multiReduction_maximumf_single (φ := .f32) y 0xFF800000#32 reduces_S1024x512_S1024 (.inl rfl) rfl (at1 r)).trans ?_
  refine le_antisymm (Finset.fold_max_le _ |>.2 ⟨?_, fun i _ => ?_⟩) (Finset.le_fold_max _ |>.2 (.inr ⟨j, Finset.mem_univ _, ?_⟩))
  · rw [lowest]; exact bot_le
  · exact (congrArg y (lift_at _ r i)).le.trans (h i)
  · exact (congrArg y (lift_at _ r j)).ge

theorem same_at (y : FVec Ideal S1024x512 .f32) (r : Fin 1024) (j : Fin 512) (h : ∀ i : Fin 512, (y (at2 r i) : EReal) ≤ y (at2 r j)) (i : Fin 512) :
    k0_pay5 (F := Ideal) y (at2 r i) = BitVec.ofBool (decide ((y (at2 r i) : EReal) = y (at2 r j))) := by
  unfold k0_pay5
  show FloatOps.cmpf (F := Ideal) .oeq (y (at2 r i)) (broadcastTo S1024x512 (k0_pay4 (F := Ideal) y) broadcasts_S1024x1_S1024x512 (at2 r i)) = _
  rw [show broadcastTo S1024x512 (k0_pay4 (F := Ideal) y) broadcasts_S1024x1_S1024x512 (at2 r i) = y (at2 r j) from (spread_at _ _ r i).trans (max_at y r j h)]
  rfl

/-- The smallest column among the entries that have it. -/
theorem min_at (ci : IVec S1024x512 32) (y : FVec Ideal S1024x512 .f32) (r : Fin 1024) (j : Fin 512) (h : ∀ i : Fin 512, (y (at2 r i) : EReal) ≤ y (at2 r j))
    (hc : ∀ i : Fin 512, (y (at2 r i) : EReal) = y (at2 r j) → (ci (at2 r j)).toInt ≤ (ci (at2 r i)).toInt) :
    k0_pay6 (F := Ideal) ci y (at2 r 0) = ci (at2 r j) := by
  unfold k0_pay6
  refine (column_at _ shapeCasts_S1024_S1024x1 r).trans ?_
  refine (multiReductionI_eq_fold .minsi _ 2147483647#32 reduces_S1024x512_S1024 rfl (at1 r)).trans ?_
  refine (Shape.Reduces.fold_filter_drop_single reduces_S1024x512_S1024 IntOp.minsi _ _ (at1 r)).trans ?_
  have hv : ∀ i : Fin 512, (select (k0_pay5 (F := Ideal) y) ci (broadcast S1024x512 2147483647#32) ∘ reduces_S1024x512_S1024.lift (at1 r)) i
      = if (y (at2 r i) : EReal) = y (at2 r j) then ci (at2 r i) else 2147483647#32 := fun i => by
    refine (congrArg (select (k0_pay5 (F := Ideal) y) ci (broadcast S1024x512 2147483647#32)) (lift_at _ r i)).trans ?_
    show Scalar.select (k0_pay5 (F := Ideal) y (at2 r i)) (ci (at2 r i)) 2147483647#32 = _
    rw [same_at y r j h i, select_bool]
    simp only [decide_eq_true_eq]
  refine (fold_min _ j fun i => ?_).trans ((hv j).trans (if_pos rfl))
  rw [hv j, hv i, if_pos rfl]
  split
  · rename_i e; exact hc i e
  · rw [show (2147483647#32).toInt = 2147483647 by decide]
    have := BitVec.toInt_lt (x := ci (at2 r j))
    omega

/-- What is left after taking it away. -/
theorem left_at (ci : IVec S1024x512 32) (y : FVec Ideal S1024x512 .f32) (r : Fin 1024) (j : Fin 512) (h : ∀ i : Fin 512, (y (at2 r i) : EReal) ≤ y (at2 r j))
    (hc : ∀ i : Fin 512, (y (at2 r i) : EReal) = y (at2 r j) → (ci (at2 r j)).toInt ≤ (ci (at2 r i)).toInt) (i : Fin 512) :
    (k0_pay7 (F := Ideal) ci y (at2 r i) : EReal)
      = if (y (at2 r i) : EReal) = y (at2 r j) ∧ (ci (at2 r i)).toInt = (ci (at2 r j)).toInt then -1 else y (at2 r i) := by
  unfold k0_pay7
  show Scalar.select (k0_pay5 (F := Ideal) y (at2 r i) &&& IntOp.cmpi .eq (ci (at2 r i)) (broadcastTo S1024x512 (k0_pay6 (F := Ideal) ci y) broadcasts_S1024x1_S1024x512 (at2 r i)))
    (FloatOps.ofBits (F := Ideal) .f32 0xBF800000#32) (y (at2 r i)) = _
  rw [same_at y r j h i, show broadcastTo S1024x512 (k0_pay6 (F := Ideal) ci y) broadcasts_S1024x1_S1024x512 (at2 r i) = ci (at2 r j) from (spread_at _ _ r i).trans (min_at ci y r j h hc)]
  have e : IntOp.cmpi .eq (ci (at2 r i)) (ci (at2 r j)) = BitVec.ofBool (decide ((ci (at2 r i)).toInt = (ci (at2 r j)).toInt)) := by
    show BitVec.ofBool (ci (at2 r i) == ci (at2 r j)) = _
    refine congrArg BitVec.ofBool ?_
    by_cases hh : ci (at2 r i) = ci (at2 r j)
    · rw [hh]; simp
    · rw [beq_eq_false_iff_ne.2 hh, decide_eq_false (mt BitVec.toInt_inj.1 hh)]
  rw [e, show ∀ a b : Bool, BitVec.ofBool a &&& BitVec.ofBool b = BitVec.ofBool (a && b) by decide, select_bool, ← Bool.decide_and]
  simp only [decide_eq_true_eq]
  exact if_congr Iff.rfl minusOne rfl

theorem trips : k0_t1_loop.trips = 100 := by decide

/-- The lane a round writes. -/
theorem lane_at (t : Fin k0_t1_loop.trips) (r : Fin 1024) (l : Fin 128) : k0_pay8 t (at2 r l) = BitVec.ofBool (decide (l.val = t.val)) := by
  have ht : t.val < 100 := trips ▸ t.isLt
  unfold k0_pay8
  show IntOp.cmpi .eq (BitVec.ofNat 32 (0 * 128 + l.val)) (0#32 + BitVec.ofNat 32 t.val * 1#32) = _
  rw [BitVec.zero_add, BitVec.mul_one, Nat.zero_mul, Nat.zero_add]
  show BitVec.ofBool (BitVec.ofNat 32 l.val == BitVec.ofNat 32 t.val) = _
  refine congrArg BitVec.ofBool ?_
  have hl := l.isLt
  by_cases h : l.val = t.val
  · rw [h]; simp
  · rw [decide_eq_false h]
    refine beq_eq_false_iff_ne.2 fun hh => h ?_
    have := congrArg BitVec.toNat hh
    rw [BitVec.toNat_ofNat, BitVec.toNat_ofNat, Nat.mod_eq_of_lt (by omega), Nat.mod_eq_of_lt (by omega)] at this
    exact this

variable (x : FVec Ideal S1024x512 .f32) (ci : IVec S1024x512 32)

/-- A row of the values, and its columns as numbers. -/
def row (r : Fin 1024) (i : Fin 512) : EReal := x (at2 r i)
def cols (r : Fin 1024) (i : Fin 512) : Int := (ci (at2 r i)).toInt

/-- After `k` rounds. -/
def After (k : Nat) (s : FVec Ideal S1024x512 .f32 × IVec S1024x128 32 × FVec Ideal S1024x128 .f32) : Prop :=
  ∀ r : Fin 1024, (∀ i : Fin 512, (s.1 (at2 r i) : EReal) = gone (row x r) k i)
    ∧ ∀ (l : Fin 128) (i : Fin 512), l.val < k → i.val = l.val →
        s.2.1 (at2 r l) = ci (at2 r (rank (row x r) i)) ∧ s.2.2 (at2 r l) = x (at2 r (rank (row x r) i))

theorem After.start : After x ci 0 (x, k0_pay2, k0_pay3) := fun r =>
  ⟨fun i => by
    unfold gone
    rw [if_neg]
    · rfl
    · rintro ⟨s, hs, -⟩
      exact absurd hs (Nat.not_lt_zero _),
   fun l i hl => absurd hl (Nat.not_lt_zero _)⟩

variable {x ci} {floor : Fin 1024 → EReal}

theorem After.round (H : ∀ r, Ranked 100 (row x r) (cols ci r) (floor r)) (t : Fin k0_t1_loop.trips) {s} (h : After x ci t.val s) :
    After x ci (t.val + 1) (k0_pay7 (F := Ideal) ci s.1, k0_pay9 (F := Ideal) ci t s.1 s.2.1, k0_pay10 (F := Ideal) t s.1 s.2.2) := fun r => by
  have ht : t.val < 100 := trips ▸ t.isLt
  have hr := h r
  let k : Fin 512 := ⟨t.val, by omega⟩
  have hk : k.val < 100 := ht
  have hx : (s.1 (at2 r (rank (row x r) k)) : EReal) = row x r (rank (row x r) k) := (hr.1 _).trans ((H r).gone_rank k)
  have hmax : ∀ i : Fin 512, (s.1 (at2 r i) : EReal) ≤ s.1 (at2 r (rank (row x r) k)) := fun i => by
    rw [hx, hr.1 i]; exact (H r).largest k hk i
  have hmin : ∀ i : Fin 512, (s.1 (at2 r i) : EReal) = s.1 (at2 r (rank (row x r) k)) → (ci (at2 r (rank (row x r) k))).toInt ≤ (ci (at2 r i)).toInt := fun i hi => by
    rw [hx, hr.1 i] at hi
    exact (H r).first k hk i hi
  refine ⟨fun i => ?_, fun l i hl hi => ?_⟩
  · refine (left_at ci s.1 r (rank (row x r) k) hmax hmin i).trans ?_
    refine Eq.trans ?_ ((H r).next k hk i).symm
    rw [hx, hr.1 i]
    rfl
  · have e1 : k0_pay9 (F := Ideal) ci t s.1 s.2.1 (at2 r l) = if l.val = t.val then ci (at2 r (rank (row x r) k)) else s.2.1 (at2 r l) := by
      unfold k0_pay9
      show Scalar.select (k0_pay8 t (at2 r l)) (broadcastTo S1024x128 (shapeCast S1024x1 (k0_pay6 (F := Ideal) ci s.1) shapeCasts_S1024x1_S1024x1) broadcasts_S1024x1_S1024x128 (at2 r l)) (s.2.1 (at2 r l)) = _
      rw [shapeCast_self, lane_at, select_bool, show broadcastTo S1024x128 (k0_pay6 (F := Ideal) ci s.1) broadcasts_S1024x1_S1024x128 (at2 r l) = _ from (spread_at _ _ r l).trans (min_at ci s.1 r _ hmax hmin)]
      simp only [decide_eq_true_eq]
    have e2 : k0_pay10 (F := Ideal) t s.1 s.2.2 (at2 r l) = if l.val = t.val then x (at2 r (rank (row x r) k)) else s.2.2 (at2 r l) := by
      unfold k0_pay10
      show Scalar.select (k0_pay8 t (at2 r l)) (broadcastTo S1024x128 (shapeCast S1024x1 (k0_pay4 (F := Ideal) s.1) shapeCasts_S1024x1_S1024x1) broadcasts_S1024x1_S1024x128 (at2 r l)) (s.2.2 (at2 r l)) = _
      rw [shapeCast_self, lane_at, select_bool, show broadcastTo S1024x128 (k0_pay4 (F := Ideal) s.1) broadcasts_S1024x1_S1024x128 (at2 r l) = _ from (spread_at _ _ r l).trans ((max_at s.1 r _ hmax).trans hx)]
      simp only [decide_eq_true_eq]
      rfl
    show k0_pay9 (F := Ideal) ci t s.1 s.2.1 (at2 r l) = _ ∧ k0_pay10 (F := Ideal) t s.1 s.2.2 (at2 r l) = _
    rw [e1, e2]
    by_cases hlt : l.val = t.val
    · rw [if_pos hlt, if_pos hlt]
      have : i = k := Fin.ext (hi.trans hlt)
      rw [this]
      exact ⟨rfl, rfl⟩
    · rw [if_neg hlt, if_neg hlt]
      exact hr.2 l i (by omega) hi

theorem After.all (H : ∀ r, Ranked 100 (row x r) (cols ci r) (floor r)) :
    After x ci 100 (Scf.fold (fun (t : Fin k0_t1_loop.trips) (s : FVec Ideal S1024x512 .f32 × IVec S1024x128 32 × FVec Ideal S1024x128 .f32) =>
      (k0_pay7 (F := Ideal) ci s.1, k0_pay9 (F := Ideal) ci t s.1 s.2.1, k0_pay10 (F := Ideal) t s.1 s.2.2)) (x, k0_pay2, k0_pay3)) := by
  rw [Scf.fold_eq]
  have := folds (After x ci) k0_t1_loop.trips _ _ (After.start x ci) fun t s h => After.round H t h
  exact (congrArg (fun n => After x ci n _) trips).mp this

end Cert.SelectIdeal.Loop

end
-- ==== Proof.SelectPlaces.lean ====
/-
  The selection's reference read at an index: lane `k` of a row has the column and the value of rank `k`.
-/
module

public import proofs.«01_k».proof.Proof.Columns
public import proofs.«01_k».proof.Proof.RankOrder
public import proofs.«01_k».proof.Proof.Gen.SelectReferenceIdeal.Run
public import Idealize.ShloMosaic.PureOps.Reduce
public import Idealize.ShloMosaic.PureOps.Ideal.Laws

@[expose] public section

noncomputable section

namespace Cert.SelectPlaces

open Cert.Rows Cert.Columns Cert.RankOrder
open Idealize.ShloMosaic
open Cert.SelectReferenceIdeal Cert.SelectReferenceIdeal.Gen

/-- The places in order of the values. -/
def order (x : FVec Ideal S1024x512 .f32) : IVec S1024x512 32 :=
  (Host.sort2 S1024x512 1 comparator_f32_i32_d1 (Host.negf x) (iotaInDim S1024x512 32 1)).2

/-- The first of them. -/
def places (x : FVec Ideal S1024x512 .f32) : IVec S1024x100 32 := extractStridedSlice S1024x100 ![0, 0] (order x) slices_S1024x512_S1024x100_0_0

/-- Counted from the end when negative. -/
def wrapped (y : IVec S1024x100 32) : IVec S1024x100 32 :=
  select (cmpi .slt y (broadcastInDim S1024x100 ![] bcast_S_S1024x100 (constantI S_ 32 0#32)))
    (addi y (broadcastInDim S1024x100 ![] bcast_S_S1024x100 (constantI S_ 32 512#32))) y

def starts (y : IVec S1024x100 32) : IVec S1024x100x1 32 := shapeCast S1024x100x1 (wrapped y) shapeCasts_S1024x100_S1024x100x1

def inside (y : IVec S1024x100 32) : IVec S1024x100x1 1 :=
  andi (cmpi .sge (starts y) (broadcastInDim S1024x100x1 ![] bcast_S_S1024x100x1 (constantI S_ 32 0#32)))
    (cmpi .sle (starts y) (broadcastInDim S1024x100x1 ![0, 1, 2] bcast_S1x1x1_S1024x100x1_0_1_2 (broadcastInDim S1x1x1 ![2] bcast_S1_S1x1x1_2 (constantI S1 32 511#32))))

/-- The entries of an array at those places, and a fill at a place outside a row. -/
def taken {α : Type} (y : IVec S1024x100 32) (a : S1024x512.Idx → α) (fill : S_.Idx → α) : S1024x100.Idx → α :=
  select (Host.reduce IntOp.andi (inside y) (constantI S_ 1 1#1) reducesTo_S1024x100x1_S1024x100_d2 h_S_)
    (Host.gather gather_S1024x512_S1024x100x1_S1024x100_n_1_0_0_1_2_11 a (starts y))
    (broadcastInDim S1024x100 ![] bcast_S_S1024x100 fill)

/-- The comparator on two values is the order of the values. -/
theorem comparator_at (a b : EReal) (i j : BitVec 32) :
    (comparator_f32_i32_d1 (F := Ideal) (-a, i) (-b, j) == 1#1) = decide (b < a) := by
  have hz : (FloatOps.ofBits (F := Ideal) .f32 0x00000000#32 : EReal) = 0 := Ideal.ofBits_zero_f32
  have hcan : ∀ v : EReal, Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0x00000000#32)) (FloatOps.ofBits (F := Ideal) .f32 0x00000000#32) v) = v := fun v => by
    have h1 : FloatOps.cmpf (F := Ideal) (φ := .f32) .une v v = 0#1 := by
      show BitVec.ofBool (decide (v ≠ v)) = _
      rw [decide_eq_false fun h => h rfl]; rfl
    have h2 : FloatOps.cmpf (F := Ideal) (φ := .f32) .oeq v (FloatOps.ofBits (F := Ideal) .f32 0x00000000#32) = BitVec.ofBool (decide (v = 0)) := by
      rw [hz]; rfl
    rw [h1, h2]
    show Scalar.select (BitVec.ofBool (decide (v = 0))) _ v = v
    by_cases hv : v = 0
    · rw [decide_eq_true hv]; exact hz.trans hv.symm
    · rw [decide_eq_false hv]; rfl
  unfold comparator_f32_i32_d1
  dsimp only
  rw [hcan, hcan]
  show (BitVec.ofBool (decide (-a < -b)) == 1#1) = _
  rw [show ∀ c : Bool, (BitVec.ofBool c == 1#1) = c by decide]
  exact decide_eq_decide.2 EReal.neg_lt_neg_iff

theorem order_at (x : FVec Ideal S1024x512 .f32) (r : Fin 1024) (k : Fin 512) :
    order x (at2 r k) = BitVec.ofNat 32 (rank (fun i => (x (at2 r i) : EReal)) k).val := by
  have hR : sortedFrom (fun i j : Fin 512 => comparator_f32_i32_d1 (F := Ideal)
      (Host.negf x (Shape.Idx.along (s := S1024x512) (at2 r k) 1 i), iotaInDim S1024x512 32 1 (Shape.Idx.along (s := S1024x512) (at2 r k) 1 i))
      (Host.negf x (Shape.Idx.along (s := S1024x512) (at2 r k) 1 j), iotaInDim S1024x512 32 1 (Shape.Idx.along (s := S1024x512) (at2 r k) 1 j)) == 1#1) k
      = rank (fun i => (x (at2 r i) : EReal)) k := by
    unfold rank
    refine congrArg (fun B => sortedFrom B k) (funext fun i => funext fun j => ?_)
    rw [along_at, along_at]
    exact comparator_at _ _ _ _
  unfold order Host.sort2
  rw [dif_pos (show 1 < S1024x512.rank by decide)]
  refine (congrArg (iotaInDim S1024x512 32 1) (along_at r _ _)).trans ?_
  exact congrArg (fun i : Fin 512 => iotaInDim S1024x512 32 1 (at2 r i)) hR

theorem places_at (x : FVec Ideal S1024x512 .f32) (r : Fin 1024) (k : Fin 100) (i : Fin 512) (hi : i.val = k.val) :
    places x (at2 r k) = BitVec.ofNat 32 (rank (fun i => (x (at2 r i) : EReal)) i).val := by
  refine Eq.trans ?_ (order_at x r i)
  unfold places extractStridedSlice
  refine congrArg (order x) (funext fun a => Fin.ext ?_)
  match a with
  | 0 => exact Nat.zero_add _
  | 1 => exact (Nat.zero_add _).trans hi.symm

def at3 {a b c : Nat} (i : Fin a) (j : Fin b) (k : Fin c) : (⟨3, ![a, b, c]⟩ : Shape).Idx := fun
  | 0 => i
  | 1 => j
  | 2 => k

variable (y : IVec S1024x100 32) (r : Fin 1024) (k : Fin 100) {p : Fin 512} (hy : y (at2 r k) = BitVec.ofNat 32 p.val)

theorem small (p : Fin 512) : (BitVec.ofNat 32 p.val).toInt = p.val := by
  have := p.isLt
  rw [BitVec.toInt_eq_toNat_of_lt] <;> rw [BitVec.toNat_ofNat, Nat.mod_eq_of_lt] <;> omega

include hy

theorem wrapped_at : wrapped y (at2 r k) = BitVec.ofNat 32 p.val := by
  show Scalar.select (BitVec.ofBool ((y (at2 r k)).slt 0#32)) _ (y (at2 r k)) = _
  rw [hy, BitVec.slt_eq_decide, small p, decide_eq_false (by rw [show (0#32).toInt = 0 by decide]; omega)]
  rfl

theorem starts_at : starts y (at3 r k 0) = BitVec.ofNat 32 p.val := by
  refine Eq.trans ?_ (wrapped_at y r k hy)
  unfold starts shapeCast
  refine congrArg (wrapped y) (Shape.reshapeEquiv_eq_of_rowMajor _ ?_)
  rw [Shape.rowMajor_val_two, Shape.rowMajor_val_three]
  show r.val * 100 + k.val = (r.val * 100 + k.val) * 1 + 0
  omega

theorem inside_at : inside y (at3 r k 0) = 1#1 := by
  have hp := p.isLt
  show BitVec.ofBool ((0#32).sle (starts y (at3 r k 0))) &&& BitVec.ofBool ((starts y (at3 r k 0)).sle 511#32) = 1#1
  rw [starts_at y r k hy, BitVec.sle_eq_decide, BitVec.sle_eq_decide, small p, decide_eq_true (by rw [show (0#32).toInt = 0 by decide]; omega),
    decide_eq_true (by rw [show (511#32).toInt = 511 by decide]; omega)]
  rfl

omit hy in
theorem red3 : S1024x100x1.Reduces [2] S1024x100 := by decide

theorem mask_at : Host.reduce IntOp.andi (inside y) (constantI S_ 1 1#1) reducesTo_S1024x100x1_S1024x100_d2 h_S_ (at2 r k) = 1#1 := by
  rw [Host.reduce_eq_fold_single _ _ _ reducesTo_S1024x100x1_S1024x100_d2 red3 h_S_ (at2 r k)]
  have h1 : ∀ i : Fin 1, inside y (red3.lift (at2 r k) i) = 1#1 := fun i => by
    have : red3.lift (at2 r k) i = at3 r k 0 := by
      funext c
      match c with
      | 0 => rfl
      | 1 => rfl
      | 2 => exact Subsingleton.elim (α := Fin 1) _ _
    rw [this]; exact inside_at y r k hy
  refine (congrArg (fun f => (Finset.univ : Finset (Fin 1)).fold IntOp.andi 1#1 f) (funext h1 : inside y ∘ red3.lift (at2 r k) = fun _ => 1#1)).trans ?_
  rfl

theorem gather_at {α : Type} (a : S1024x512.Idx → α) :
    Host.gather gather_S1024x512_S1024x100x1_S1024x100_n_1_0_0_1_2_11 a (starts y) (at2 r k) = a (at2 r p) := by
  unfold Host.gather
  refine congrArg a (funext fun c => Fin.ext ?_)
  show GatherDims.start _ (at2 r k) (starts y) c + GatherDims.batchCoord _ (at2 r k) c + GatherDims.offCoord _ (at2 r k) c = _
  match c with
  | 0 =>
    rw [GatherDims.start_batching _ _ _ _ (List.mem_singleton.mpr rfl), GatherDims.offCoord_eq_zero _ _ _ (by decide), Nat.zero_add, Nat.add_zero]
    rfl
  | 1 =>
    rw [GatherDims.batchCoord_eq_zero _ _ _ (by decide), GatherDims.offCoord_eq_zero _ _ _ (by decide), Nat.add_zero]
    unfold GatherDims.start
    rw [dif_pos (show (1 : Fin S1024x512.rank) ∈ gather_S1024x512_S1024x100x1_S1024x100_n_1_0_0_1_2_11.startIndexMap from List.mem_singleton.mpr rfl)]
    have hs : GatherDims.siIdx gather_S1024x512_S1024x100x1_S1024x100_n_1_0_0_1_2_11 (at2 r k) ⟨List.idxOf 1 [1], by decide⟩ = at3 r k 0 := by
      funext b
      match b with
      | 0 => rfl
      | 1 => rfl
      | 2 => rfl
    refine (congrArg (fun i => min (starts y i).toInt.toNat 511) hs).trans ?_
    rw [starts_at y r k hy, small p]
    show min p.val 511 = p.val
    have := p.isLt
    omega

theorem taken_at {α : Type} (a : S1024x512.Idx → α) (fill : S_.Idx → α) : taken y a fill (at2 r k) = a (at2 r p) := by
  show Scalar.select (Host.reduce IntOp.andi (inside y) (constantI S_ 1 1#1) reducesTo_S1024x100x1_S1024x100_d2 h_S_ (at2 r k))
    (Host.gather gather_S1024x512_S1024x100x1_S1024x100_n_1_0_0_1_2_11 a (starts y) (at2 r k)) (broadcastInDim S1024x100 ![] bcast_S_S1024x100 fill (at2 r k)) = _
  rw [mask_at y r k hy, gather_at y r k hy a]
  rfl

end Cert.SelectPlaces

end
-- ==== Proof.SelectClaim.lean ====
/-
  On the extended reals the selection gives each row's columns and values of the first hundred ranks, as its reference does.
-/
module

public import proofs.«01_k».proof.Defs
public import proofs.«01_k».proof.Proof.SelectLoop
public import proofs.«01_k».proof.Proof.SelectPlaces
public import proofs.«01_k».proof.Proof.Gen.Pre_candidates_ranked
public import Idealize.ShloMosaic.Lib.IndicatorCount
public import Idealize.ShloMosaic.Lib.Pipeline.Value

@[expose] public section

noncomputable section

namespace Cert.SelectClaim

open Cert.Rows Cert.RankOrder
open Idealize.ShloMosaic Idealize.ShloMosaic.TcCoe Idealize.SL.Sem
open Idealize.ShloMosaic.Pipeline (Dat)

/-! ## The precondition, row by row -/

section pre

open Cert.Pre_candidates_ranked Cert.Pre_candidates_ranked.Facts

variable (x : FVec Ideal S1024x512 .f32) (ci : IVec S1024x512 32)

/-- A row's last value. -/
def floor (r : Fin 1024) : EReal := x (at2 r 511)

theorem last_at (hs : S1024x512.Slices ![0, 511] S1024x1) (r : Fin 1024) : (extractStridedSlice S1024x1 ![0, 511] x hs (at2 r 0) : EReal) = floor x r := by
  unfold extractStridedSlice floor
  refine congrArg x (funext fun a => Fin.ext ?_)
  match a with
  | 0 => exact Nat.zero_add _
  | 1 => rfl

theorem spread_at (hs : S1024x512.Slices ![0, 511] S1024x1) (hb : S1024x1.BroadcastsInDim S1024x512 (![0, 1] : Fin 2 → Fin 2)) (r : Fin 1024) (k : Fin 512) :
    (broadcastInDim S1024x512 ![0, 1] hb (extractStridedSlice S1024x1 ![0, 511] x hs) (at2 r k) : EReal) = floor x r := by
  refine Eq.trans ?_ (last_at x hs r)
  unfold broadcastInDim
  refine congrArg (extractStridedSlice S1024x1 ![0, 511] x hs) (funext fun a => Fin.ext ?_)
  match a with
  | 0 => rfl
  | 1 => rfl

/-- The entries above their row's last value. -/
abbrev marks : IVec S1024x512 1 := cmpf .ogt x (broadcastInDim S1024x512 ![0, 1] bcast_S1024x1_S1024x512_0_1 (extractStridedSlice S1024x1 ![0, 511] x slices_S1024x512_S1024x1_0_511))

theorem marks_at (r : Fin 1024) (k : Fin 512) : marks x (at2 r k) = BitVec.ofBool (decide (floor x r < x (at2 r k))) := by
  show BitVec.ofBool (decide ((broadcastInDim S1024x512 ![0, 1] bcast_S1024x1_S1024x512_0_1 (extractStridedSlice S1024x1 ![0, 511] x slices_S1024x512_S1024x1_0_511) (at2 r k) : EReal) < x (at2 r k))) = _
  rw [spread_at]

theorem before_at {α : Type} (y : S1024x512.Idx → α) (hs : S1024x512.Slices ![0, 0] S1024x511) (r : Fin 1024) (k : Nat) (hk : k < 511) :
    extractStridedSlice S1024x511 ![0, 0] y hs (at2 r ⟨k, hk⟩) = y (at2 r ⟨k, by omega⟩) := by
  unfold extractStridedSlice
  refine congrArg y (funext fun a => Fin.ext ?_)
  match a with
  | 0 => exact Nat.zero_add _
  | 1 => exact Nat.zero_add _

theorem after_at {α : Type} (y : S1024x512.Idx → α) (hs : S1024x512.Slices ![0, 1] S1024x511) (r : Fin 1024) (k : Nat) (hk : k < 511) :
    extractStridedSlice S1024x511 ![0, 1] y hs (at2 r ⟨k, hk⟩) = y (at2 r ⟨k + 1, by omega⟩) := by
  unfold extractStridedSlice
  refine congrArg y (funext fun a => Fin.ext ?_)
  match a with
  | 0 => exact Nat.zero_add _
  | 1 => exact Nat.add_comm _ _

theorem red : S1024x512.Reduces [1] S1024 := by decide

theorem ofBool_one (b : Bool) : BitVec.ofBool b = 1#1 ↔ b = true := by cases b <;> decide

theorem or_true (b : Bool) : ~~~(BitVec.ofBool true) ||| BitVec.ofBool b = BitVec.ofBool b := by cases b <;> decide

variable (a : FVec Ideal S1024x512 .f32) (mx dn : FVec Ideal S1024x1 .f32)

/-- The candidates' probabilities, from their scores and each row's maximum and denominator. -/
def probs : FVec Ideal S1024x512 .f32 :=
  Host.divf (F := Ideal) (Host.exp (F := Ideal) (subf (F := Ideal) a (broadcastInDim S1024x512 ![0, 1] bcast_S1024x1_S1024x512_0_1 mx)))
    (broadcastInDim S1024x512 ![0, 1] bcast_S1024x1_S1024x512_0_1 dn)

theorem ranked (h1 : (fn a mx dn ci).1 = fun _ => 1#1) (h2 : (fn a mx dn ci).2.1 = fun _ => 1#1) (h3 : (fn a mx dn ci).2.2.1 = fun _ => 1#1)
    (h4 : (fn a mx dn ci).2.2.2 = fun _ => 1#1) (r : Fin 1024) : Ranked 100 (SelectIdeal.Loop.row (probs a mx dn) r) (SelectIdeal.Loop.cols ci r) (floor (probs a mx dn) r) := by
  have step : ∀ k (hk : k < 511), (ci (at2 r ⟨k, by omega⟩)).toInt ≤ (ci (at2 r ⟨k + 1, by omega⟩)).toInt := fun k hk => by
    have e := congrFun h2 (at2 r ⟨k, hk⟩)
    have e' : BitVec.ofBool ((extractStridedSlice S1024x511 ![0, 0] ci slices_S1024x512_S1024x511_0_0 (at2 r ⟨k, hk⟩)).sle
      (extractStridedSlice S1024x511 ![0, 1] ci slices_S1024x512_S1024x511_0_1 (at2 r ⟨k, hk⟩))) = 1#1 := e
    rw [ofBool_one, BitVec.sle_eq_decide, before_at, after_at] at e'
    exact of_decide_eq_true e'
  have strict : ∀ k (hk : k < 511), floor (probs a mx dn) r < (probs a mx dn) (at2 r ⟨k + 1, by omega⟩) → (ci (at2 r ⟨k, by omega⟩)).toInt < (ci (at2 r ⟨k + 1, by omega⟩)).toInt := fun k hk hl => by
    have e := congrFun h3 (at2 r ⟨k, hk⟩)
    have e' : ~~~(extractStridedSlice S1024x511 ![0, 1] (marks (probs a mx dn)) slices_S1024x512_S1024x511_0_1 (at2 r ⟨k, hk⟩))
      ||| BitVec.ofBool ((extractStridedSlice S1024x511 ![0, 0] ci slices_S1024x512_S1024x511_0_0 (at2 r ⟨k, hk⟩)).slt
      (extractStridedSlice S1024x511 ![0, 1] ci slices_S1024x512_S1024x511_0_1 (at2 r ⟨k, hk⟩))) = 1#1 := e
    rw [before_at, after_at, after_at, marks_at, decide_eq_true hl, BitVec.slt_eq_decide, or_true, ofBool_one] at e'
    exact of_decide_eq_true e'
  have grow : ∀ (d i : Nat) (h : i + d < 512), (ci (at2 r ⟨i, by omega⟩)).toInt ≤ (ci (at2 r ⟨i + d, h⟩)).toInt := fun d => by
    induction d with
    | zero => intro i h; exact le_rfl
    | succ d ih => intro i h; exact (ih i (by omega)).trans (step (i + d) (by omega))
  refine ⟨?_, fun i j hij => ?_, fun i j hij hl => ?_, ?_⟩
  · have e := congrFun h1 (at2 r 0)
    have e' : BitVec.ofBool (decide ((FloatOps.ofBits (F := Ideal) .f32 0xBF800000#32 : EReal) ≤ extractStridedSlice S1024x1 ![0, 511] (probs a mx dn) slices_S1024x512_S1024x1_0_511 (at2 r 0))) = 1#1 := e
    rw [last_at, SelectIdeal.Loop.minusOne, ofBool_one] at e'
    exact of_decide_eq_true e'
  · have hj := j.isLt
    have hlt : i.val < j.val := hij
    have := grow (j.val - i.val) i.val (by omega)
    rw [show (⟨i.val + (j.val - i.val), by omega⟩ : Fin 512) = j from Fin.ext (by dsimp only; omega)] at this
    exact this
  · have hj := j.isLt
    have hlt : i.val < j.val := hij
    have e : j = (⟨j.val - 1 + 1, by omega⟩ : Fin 512) := Fin.ext (by dsimp only; omega)
    have h := strict (j.val - 1) (by omega) (by rw [← e]; exact hl)
    rw [← e] at h
    have := grow (j.val - 1 - i.val) i.val (by omega)
    rw [show (⟨i.val + (j.val - 1 - i.val), by omega⟩ : Fin 512) = ⟨j.val - 1, by omega⟩ from Fin.ext (by dsimp only; omega)] at this
    exact this.trans_lt h
  · have e0 : (fn a mx dn ci).2.2.2 = cmpi .sge (Host.reduce IntOp.addi (extui 32 (marks (probs a mx dn)) natLt_1_32) (constantI S_ 32 0#32) reducesTo_S1024x512_S1024_d1 h_S_)
      (broadcastInDim S1024 ![] bcast_S_S1024 (constantI S_ 32 100#32)) := by unfold fn fn_part1; dsimp only; rfl
    have e := congrFun (e0.symm.trans h4) (at1 r)
    have e' : BitVec.ofBool ((100#32).sle (Host.reduce IntOp.addi (extui 32 (marks (probs a mx dn)) natLt_1_32) (constantI S_ 32 0#32) reducesTo_S1024x512_S1024_d1 h_S_ (at1 r))) = 1#1 := e
    have hf : Host.reduce IntOp.addi (extui 32 (marks (probs a mx dn)) natLt_1_32) (constantI S_ 32 0#32) reducesTo_S1024x512_S1024_d1 h_S_ (at1 r)
        = BitVec.ofNat 32 (Finset.univ.filter fun i => floor (probs a mx dn) r < SelectIdeal.Loop.row (probs a mx dn) r i).card := by
      have marked (k : Fin 512) : marks (probs a mx dn) (red.lift (at1 r) k) = 1#1 ↔ floor (probs a mx dn) r < SelectIdeal.Loop.row (probs a mx dn) r k := by
        have : red.lift (at1 r) k = at2 r k := by
          funext c
          match c with
          | 0 => rfl
          | 1 => rfl
        rw [this, marks_at, ofBool_one, decide_eq_true_iff]
        rfl
      have same : (Finset.univ.filter fun k : Fin 512 => marks (probs a mx dn) (red.lift (at1 r) k) = 1#1).card
          = (Finset.univ.filter fun i => floor (probs a mx dn) r < SelectIdeal.Loop.row (probs a mx dn) r i).card := by
        exact congrArg Finset.card (Finset.filter_congr fun k _ => marked k)
      rw [Host.reduce_eq_fold_single _ _ _ reducesTo_S1024x512_S1024_d1 red h_S_ (at1 r)]
      exact (IndicatorCount.fold_addi_setWidth_eq_card (w := 32) (fun k : Fin 512 => marks (probs a mx dn) (red.lift (at1 r) k)) Finset.univ).trans
        (congrArg (BitVec.ofNat 32) same)
    have hle : (Finset.univ.filter fun i => floor (probs a mx dn) r < SelectIdeal.Loop.row (probs a mx dn) r i).card ≤ 512 := (Finset.card_filter_le _ _).trans (by rw [Finset.card_univ, Fintype.card_fin])
    rw [hf, ofBool_one, BitVec.sle_eq_decide] at e'
    have e2 := of_decide_eq_true e'
    have hT : (BitVec.ofNat 32 (Finset.univ.filter fun i => floor (probs a mx dn) r < SelectIdeal.Loop.row (probs a mx dn) r i).card).toInt
        = ((Finset.univ.filter fun i => floor (probs a mx dn) r < SelectIdeal.Loop.row (probs a mx dn) r i).card : ℤ) := by
      rw [BitVec.toInt_eq_toNat_of_lt (by rw [BitVec.toNat_ofNat, Nat.mod_eq_of_lt] <;> omega), BitVec.toNat_ofNat, Nat.mod_eq_of_lt (by omega)]
    exact Int.ofNat_le.mp (e2.trans_eq hT)

end pre

/-! ## The kernel's results -/

section kernel

open Cert.SelectIdeal Cert.SelectIdeal.Gen

variable (m : (ℓ : Loc nD τ sig) → Buf (Elt Ideal) ℓ) (c : Dev nD)

/-- The rounds' last state on one device's arguments. -/
def final (x : FVec Ideal S1024x512 .f32) (ci : IVec S1024x512 32) : FVec Ideal S1024x512 .f32 × IVec S1024x128 32 × FVec Ideal S1024x128 .f32 :=
  Scf.fold (fun (t : Fin k0_t1_loop.trips) (s : FVec Ideal S1024x512 .f32 × IVec S1024x128 32 × FVec Ideal S1024x128 .f32) =>
    (k0_pay7 (F := Ideal) ci s.1, k0_pay9 (F := Ideal) ci t s.1 s.2.1, k0_pay10 (F := Ideal) t s.1 s.2.2)) (x, k0_pay2, k0_pay3)

theorem hz : (![0, 0] : Fin 2 → Nat) = fun _ => 0 := funext fun a => by fin_cases a <;> rfl

theorem out_items (i : grid0.Coords) (a1 : Memref sig .tc .vmem S1024x512 .f32) (h1 : a1.IsWhole) (a2 : Memref sig .tc .vmem S1024x512 .i32) (h2 : a2.IsWhole)
    (a3 : Memref sig .tc .vmem S1024x100 .i32) (h3 : a3.IsWhole) (a4 : Memref sig .tc .vmem S1024x100 .f32) (h4 : a4.IsWhole)
    (x : Vec Ideal S1024x512 .f32) (ci : Vec Ideal S1024x512 .i32) :
    out0_A_2 (F := Ideal) c i a1 h1 a2 h2 a3 h3 a4 h4 x ci = k0_pay11 (final x ci).2.1 := by
  unfold out0_A_2
  rw [View.read_writes_eq_canon _ _ _ (cover0_A_2 c i a1 h1 a2 h2 a3 h3 a4 h4 x ci)]
  unfold kernelRun0_A
  dsimp only
  sl_unfold_words
  rw [View.canon_unit_zero hz]
  simp only [View.readAt_eq_ld, h1.read_unread, h2.read_unread, View.ld_unit_zero (S := S1024x512) hz, shapeCast_self, k0_pay1]
  rfl

theorem out_values (i : grid0.Coords) (a1 : Memref sig .tc .vmem S1024x512 .f32) (h1 : a1.IsWhole) (a2 : Memref sig .tc .vmem S1024x512 .i32) (h2 : a2.IsWhole)
    (a3 : Memref sig .tc .vmem S1024x100 .i32) (h3 : a3.IsWhole) (a4 : Memref sig .tc .vmem S1024x100 .f32) (h4 : a4.IsWhole)
    (x : Vec Ideal S1024x512 .f32) (ci : Vec Ideal S1024x512 .i32) :
    out0_A_3 (F := Ideal) c i a1 h1 a2 h2 a3 h3 a4 h4 x ci = k0_pay12 (F := Ideal) (final x ci).2.2 := by
  unfold out0_A_3
  rw [View.read_writes_eq_canon _ _ _ (cover0_A_3 c i a1 h1 a2 h2 a3 h3 a4 h4 x ci)]
  unfold kernelRun0_A
  dsimp only
  sl_unfold_words
  rw [View.canon_unit_zero hz]
  simp only [View.readAt_eq_ld, h1.read_unread, h2.read_unread, View.ld_unit_zero (S := S1024x512) hz, shapeCast_self, k0_pay1]
  rfl

/-- The probabilities that the kernel reads. -/
abbrev chances : FVec Ideal S1024x512 .f32 := probs (m ((c : Thread nD τ).loc main_arg0)) (m ((c : Thread nD τ).loc main_arg1)) (m ((c : Thread nD τ).loc main_arg2))

theorem staged : V (F := Ideal) m c main_v4 = chances m c := by
  show StableHlo.after _ _ (Proc.devRef .tc main_v4) = _
  simp only [hostOps0, List.flatten_cons, List.flatten_nil, List.append_nil]
  after_results
  rfl

/-- The one block of each input is the input. -/
theorem block_values (t : Fin cfg0.N) : (iblk (F := Ideal) m c 0 t : Vec Ideal S1024x512 .f32) = chances m c := by
  have hi : win0_0.index t 0 = 0 ∧ win0_0.index t 1 = 0 := by
    rw [fin_N0 t]; decide
  funext j
  unfold iblk
  rw [View.read_apply]
  refine (congrFun (staged m c) _).trans ?_
  congr 1
  funext a
  apply Fin.ext
  match a with
  | ⟨0, _⟩ => show win0_0.index t 0 * 1024 + 1 * (j 0).val = (j 0).val; rw [hi.1]; omega
  | ⟨1, _⟩ => show win0_0.index t 1 * 512 + 1 * (j 1).val = (j 1).val; rw [hi.2]; omega

theorem block_columns (t : Fin cfg0.N) : (iblk (F := Ideal) m c 1 t : Vec Ideal S1024x512 .i32) = m ((c : Thread nD τ).loc main_arg3) := by
  have hi : win0_1.index t 0 = 0 ∧ win0_1.index t 1 = 0 := by
    rw [fin_N0 t]; decide
  funext j
  unfold iblk
  rw [View.read_apply]
  refine (congrFun (V_main_arg3 (F := Ideal) m c) _).trans ?_
  show m (c.tc.loc main_arg3) _ = m (c.tc.loc main_arg3) _
  congr 1
  funext a
  apply Fin.ext
  match a with
  | ⟨0, _⟩ => show win0_1.index t 0 * 1024 + 1 * (j 0).val = (j 0).val; rw [hi.1]; omega
  | ⟨1, _⟩ => show win0_1.index t 1 * 512 + 1 * (j 1).val = (j 1).val; rw [hi.2]; omega

abbrev args : FVec Ideal S1024x512 .f32 × IVec S1024x512 32 := (chances m c, m ((c : Thread nD τ).loc main_arg3))

/-- What the kernel leaves in its two results. -/
abbrev items : Buf (Elt Ideal) ((c : Thread nD τ).loc main_v5_0) := k0_pay11 (final (args m c).1 (args m c).2).2.1
abbrev values : Buf (Elt Ideal) ((c : Thread nD τ).loc main_v5_1) := k0_pay12 (F := Ideal) (final (args m c).1 (args m c).2).2.2

theorem flushed_items (t : Fin cfg0.N) (_hf : (cfg0.win 2).flush t = true) :
    (dats (F := Ideal) m 0 c).flushed 2 t = ((cfg0.win 2).blk t).view.read (Elt Ideal) (items m c) := by
  rw [SelectIdeal.Value.flushed2_A, out_items, block_values, block_columns]
  have hz' : (fun a => win0_2.index t a * main_v5_0.ty.shape.size a) = fun _ => 0 := funext fun a => by rw [fin_N0 t]; fin_cases a <;> decide
  exact (Memref.read_access_unit_zero (Elt Ideal) main_v5_0 hz' (fun a => by rw [congrFun hz' a]; simp) (items m c)).symm

theorem flushed_values (t : Fin cfg0.N) (_hf : (cfg0.win 3).flush t = true) :
    (dats (F := Ideal) m 0 c).flushed 3 t = ((cfg0.win 3).blk t).view.read (Elt Ideal) (values m c) := by
  rw [SelectIdeal.Value.flushed3_A, out_values, block_values, block_columns]
  have hz' : (fun a => win0_3.index t a * main_v5_1.ty.shape.size a) = fun _ => 0 := funext fun a => by rw [fin_N0 t]; fin_cases a <;> decide
  exact (Memref.read_access_unit_zero (Elt Ideal) main_v5_1 hz' (fun a => by rw [congrFun hz' a]; simp) (values m c)).symm

theorem final_items : (dats (F := Ideal) m 0 c).arrAt 2 cfg0.N = items m c :=
  (dats m 0 c).arrAt_eq_of_cover 2 (items m c) (flushed_items m c) fun i =>
    ⟨t0_0, flush0_2 t0_0, by
      show i ∈ ((View.whole main_v5_0).slice (win0_2.rect t0_0)).set
      rw [View.set_slice_whole, Rect.mem_set_unit]
      intro a
      have h0 : (i 0 : Nat) < 1024 := (i 0).isLt
      have h1 : (i 1 : Nat) < 100 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1024 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 100 from by decide +kernel]; omega⟩

theorem final_values : (dats (F := Ideal) m 0 c).arrAt 3 cfg0.N = values m c :=
  (dats m 0 c).arrAt_eq_of_cover 3 (values m c) (flushed_values m c) fun i =>
    ⟨t0_0, flush0_3 t0_0, by
      show i ∈ ((View.whole main_v5_1).slice (win0_3.rect t0_0)).set
      rw [View.set_slice_whole, Rect.mem_set_unit]
      intro a
      have h0 : (i 0 : Nat) < 1024 := (i 0).isLt
      have h1 : (i 1 : Nat) < 100 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1024 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 100 from by decide +kernel]; omega⟩

end kernel

/-! ## The claim -/

/-- The reference's results as functions of its arguments. -/
def refItems (x : FVec Ideal SelectReferenceIdeal.S1024x512 .f32) (ci : IVec SelectReferenceIdeal.S1024x512 32) : IVec SelectReferenceIdeal.S1024x100 32 :=
  SelectPlaces.taken (SelectPlaces.places x) ci (constantI SelectReferenceIdeal.S_ 32 2147483648#32)

def refValues (x : FVec Ideal SelectReferenceIdeal.S1024x512 .f32) : FVec Ideal SelectReferenceIdeal.S1024x100 .f32 :=
  SelectPlaces.taken (SelectPlaces.places x) x (constant (F := Ideal) SelectReferenceIdeal.S_ .f32 0x7FC00000#32)

theorem results (x : FVec Ideal SelectIdeal.S1024x512 .f32) (ci : IVec SelectIdeal.S1024x512 32) {fl : Fin 1024 → EReal}
    (H : ∀ r, Ranked 100 (SelectIdeal.Loop.row x r) (SelectIdeal.Loop.cols ci r) (fl r)) :
    (SelectIdeal.Gen.k0_pay11 (final x ci).2.1 : IVec SelectReferenceIdeal.S1024x100 32) = refItems x ci
      ∧ (SelectIdeal.Gen.k0_pay12 (F := Ideal) (final x ci).2.2 : FVec Ideal SelectReferenceIdeal.S1024x100 .f32) = refValues x := by
  have hall := SelectIdeal.Loop.After.all H
  have key : ∀ (r : Fin 1024) (k : Fin 100), SelectIdeal.Gen.k0_pay11 (final x ci).2.1 (at2 r k) = refItems x ci (at2 r k)
      ∧ SelectIdeal.Gen.k0_pay12 (F := Ideal) (final x ci).2.2 (at2 r k) = refValues x (at2 r k) := fun r k => by
    have hk := k.isLt
    have hl := (hall r).2 ⟨k.val, by omega⟩ ⟨k.val, by omega⟩ hk rfl
    have hp := SelectPlaces.places_at x r k ⟨k.val, by omega⟩ rfl
    have e1 := SelectPlaces.taken_at (SelectPlaces.places x) r k hp ci (constantI SelectReferenceIdeal.S_ 32 2147483648#32)
    have e2 := SelectPlaces.taken_at (SelectPlaces.places x) r k hp x (constant (F := Ideal) SelectReferenceIdeal.S_ .f32 0x7FC00000#32)
    refine ⟨Eq.trans ?_ (hl.1.trans e1.symm), Eq.trans ?_ (hl.2.trans e2.symm)⟩
    · unfold SelectIdeal.Gen.k0_pay11 extractStridedSlice
      refine congrArg (final x ci).2.1 (funext fun a => Fin.ext ?_)
      match a with
      | 0 => exact Nat.zero_add _
      | 1 => exact Nat.zero_add _
    · unfold SelectIdeal.Gen.k0_pay12 extractStridedSlice
      refine congrArg (final x ci).2.2 (funext fun a => Fin.ext ?_)
      match a with
      | 0 => exact Nat.zero_add _
      | 1 => exact Nat.zero_add _
  have hx : ∀ y : SelectReferenceIdeal.S1024x100.Idx, y = at2 (y 0) (y 1) := fun y => by
    funext a
    match a with
    | 0 => rfl
    | 1 => rfl
  exact ⟨funext fun y => ((congrArg _ (hx y)).trans (key (y 0) (y 1)).1).trans (congrArg _ (hx y)).symm,
    funext fun y => ((congrArg _ (hx y)).trans (key (y 0) (y 1)).2).trans (congrArg _ (hx y)).symm⟩

theorem claim : Cert.algebraic_SelectIdeal_SelectReferenceIdeal_pre_candidates_ranked := fun m g m' g' hp hm => by
  have hres := fun c => results (args m c).1 (args m c).2 (ranked (args m c).2 (m (c.tc.loc SelectIdeal.main_arg0)) (m (c.tc.loc SelectIdeal.main_arg1)) (m (c.tc.loc SelectIdeal.main_arg2)) (hp c).1 (hp c).2.1 (hp c).2.2.1 (hp c).2.2.2)
  refine ⟨items m, values m,
    (θ_run Cert.SelectIdeal.defs _ _).mono (fun _ h c =>
      ⟨(h c).1.trans (final_items m c), (h c).2.1.trans (final_values m c), (h c).2.2⟩) (Cert.SelectIdeal.Value.run_blocks (F := Ideal) m g),
    (θ_run Cert.SelectReferenceIdeal.defs _ _).mono (fun _ h c => ?_) (Cert.SelectReferenceIdeal.Value.run (F := Ideal) m' g')⟩
  refine ⟨(h c).1.trans (Eq.trans ?_ (hres c).1.symm), (h c).2.1.trans (Eq.trans ?_ (hres c).2.symm), (h c).2.2⟩
  · unfold SelectReferenceIdeal.Value.res_main_v8
    rw [(hm c).1, (hm c).2.1, (hm c).2.2.1, (hm c).2.2.2]
    unfold refItems SelectPlaces.taken SelectPlaces.inside SelectPlaces.starts SelectPlaces.wrapped SelectPlaces.places SelectPlaces.order
    rfl
  · unfold SelectReferenceIdeal.Value.res_main_v9
    rw [(hm c).1, (hm c).2.1, (hm c).2.2.1]
    unfold refValues SelectPlaces.taken SelectPlaces.inside SelectPlaces.starts SelectPlaces.wrapped SelectPlaces.places SelectPlaces.order
    rfl

end Cert.SelectClaim

end
-- ==== Proof.ScoresClaim.lean ====
/-
  On the extended reals the blocked product with the padded weights and bias is the plain product plus the bias, padded.
-/
module

public import proofs.«01_k».proof.Defs
public import proofs.«01_k».proof.Proof.Rows
public import proofs.«01_k».proof.Proof.Gen.ScoresIdeal.Value
public import proofs.«01_k».proof.Proof.Gen.ScoresReferenceIdeal.Run
public import Idealize.ShloMosaic.Lib.KernelVsHost
public import Idealize.ShloMosaic.Lib.Pointwise.Contract
public import Idealize.ShloMosaic.Lib.Pipeline.Value
public import Idealize.ShloMosaic.PureOps.Ideal.Laws

@[expose] public section

noncomputable section

namespace Cert.ScoresClaim

open Cert.Rows
open Idealize.ShloMosaic Idealize.ShloMosaic.TcCoe Idealize.SL.Sem Idealize.ShloMosaic.StableHlo
open Idealize.ShloMosaic.Pipeline (Dat)

/-- The padding columns' score. -/
abbrev padScore : EReal := Ideal.ofBits .f32 0xF149F2CA#32

/-- The score of a row and a column: the row's product with the column's weights plus the column's bias; the padding score past the last column. -/
def score (x : FVec Ideal ScoresIdeal.S1024x64 .f32) (w : FVec Ideal ScoresIdeal.S64x100000 .f32) (b : FVec Ideal ScoresIdeal.S100000 .f32) (r : Fin 1024) (c : Nat) : EReal :=
  if h : c < 100000 then (∑ k : Fin 64, (x (at2 r k) : EReal) * w (at2 k ⟨c, h⟩)) + b (at1 ⟨c, h⟩) else padScore

/-! ## The kernel -/

section kernel

open Cert.ScoresIdeal Cert.ScoresIdeal.Gen

variable (m : (ℓ : Loc nD τ sig) → Buf (Elt Ideal) ℓ) (c : Dev nD)

abbrev rows : FVec Ideal S1024x64 .f32 := m ((c : Thread nD τ).loc main_arg0)
abbrev weights : FVec Ideal S64x100000 .f32 := m ((c : Thread nD τ).loc main_arg1)
abbrev bias : FVec Ideal S100000 .f32 := m ((c : Thread nD τ).loc main_arg2)

/-- The padded weights the kernel reads. -/
theorem staged_weights : V m c main_v0 = (pad S64x102400 ![0, 0] ![0, 2400] ![0, 0] (weights m c) (sitofp (F := Ideal) .f32 (constantI S_ 32 0#32)) pads_S64x100000_S64x102400_000_024000 h_S_ : FVec Ideal S64x102400 .f32) := by
  show StableHlo.after _ _ (Proc.devRef .tc main_v0) = _
  simp only [hostOps0, hostOps0_1, hostOps0_2, hostOps0_3, hostOps0_4, List.flatten_cons, List.flatten_nil, List.append_nil, List.cons_append, List.nil_append,
    TRef.binary, TRef.unary, TRef.toBuf, TRef.ofBuf, cast_eq]
  after_results

/-- The padded bias the kernel reads. -/
theorem staged_bias : V m c main_v2 = (shapeCast S1x102400 (pad S102400 ![0] ![2400] ![0] (bias m c) (constant (F := Ideal) S_ .f32 0xF149F2CA#32) pads_S100000_S102400_024000 h_S_) shapeCasts_S102400_S1x102400 : FVec Ideal S1x102400 .f32) := by
  show StableHlo.after _ _ (Proc.devRef .tc main_v2) = _
  simp only [hostOps0, hostOps0_1, hostOps0_2, hostOps0_3, hostOps0_4, List.flatten_cons, List.flatten_nil, List.append_nil, List.cons_append, List.nil_append,
    TRef.binary, TRef.unary, TRef.toBuf, TRef.ofBuf, cast_eq]
  after_results
  rfl

theorem index_weights : ∀ t : Fin grid0.N, win0_1.index t 0 = 0 ∧ win0_1.index t 1 = t.val := by decide +kernel
theorem index_bias : ∀ t : Fin grid0.N, win0_2.index t 0 = 0 ∧ win0_2.index t 1 = t.val := by decide +kernel
theorem index_rows : ∀ t : Fin grid0.N, win0_0.index t 0 = 0 ∧ win0_0.index t 1 = 0 := by decide +kernel
theorem index_scores : ∀ t : Fin grid0.N, win0_3.index t 0 = 0 ∧ win0_3.index t 1 = t.val := by decide +kernel

/-- The rows' block is all the rows. -/
theorem block_rows (t : Fin cfg0.N) : (iblk (F := Ideal) m c 0 t : Vec Ideal S1024x64 .f32) = rows m c := by
  have hi := index_rows t
  funext j
  unfold iblk
  rw [View.read_apply]
  refine (congrFun (V_main_arg0 (F := Ideal) m c) _).trans ?_
  show rows m c _ = rows m c _
  congr 1
  funext a
  apply Fin.ext
  match a with
  | ⟨0, _⟩ => show win0_0.index t 0 * 1024 + 1 * (j 0).val = (j 0).val; rw [hi.1]; omega
  | ⟨1, _⟩ => show win0_0.index t 1 * 64 + 1 * (j 1).val = (j 1).val; rw [hi.2]; omega

/-- An entry of the weights' block. -/
theorem block_weights (t : Fin cfg0.N) (k : Fin 64) (l : Fin 2048) (h : 2048 * t.val + l.val < 102400) :
    ((iblk (F := Ideal) m c 1 t : Vec Ideal S64x2048 .f32) (at2 k l) : EReal) = if h : 2048 * t.val + l.val < 100000 then weights m c (at2 k ⟨2048 * t.val + l.val, h⟩) else 0 := by
  have hi := index_weights t
  have hb : (iblk (F := Ideal) m c 1 t : Vec Ideal S64x2048 .f32) (at2 k l) = (pad S64x102400 ![0, 0] ![0, 2400] ![0, 0] (weights m c) (sitofp (F := Ideal) .f32 (constantI S_ 32 0#32)) pads_S64x100000_S64x102400_000_024000 h_S_ : FVec Ideal S64x102400 .f32) (at2 k ⟨2048 * t.val + l.val, h⟩) := by
    unfold iblk
    rw [View.read_apply]
    refine (congrFun (staged_weights m c) _).trans ?_
    congr 1
    funext a
    apply Fin.ext
    match a with
    | ⟨0, _⟩ => show win0_1.index t 0 * 64 + 1 * k.val = k.val; rw [hi.1]; omega
    | ⟨1, _⟩ => show win0_1.index t 1 * 2048 + 1 * l.val = 2048 * t.val + l.val; rw [hi.2]; omega
  refine hb.trans ?_
  split
  · next hc =>
    refine pad_apply_of_inside _ _ _ _ _ _ _ _ (at2 k ⟨2048 * t.val + l.val, hc⟩) fun a => ?_
    match a with
    | ⟨0, _⟩ => show k.val = 0 + k.val * 1; omega
    | ⟨1, _⟩ => show 2048 * t.val + l.val = 0 + (2048 * t.val + l.val) * 1; omega
  · next hc =>
    refine (pad_apply_of_not_inside _ _ _ _ _ _ _ _ 1 ?_).trans sitofp_zero
    show ¬(0 ≤ 2048 * t.val + l.val ∧ (2048 * t.val + l.val - 0) % 1 = 0 ∧ (2048 * t.val + l.val - 0) / 1 < 100000)
    omega

/-- An entry of the bias's block. -/
theorem block_bias (t : Fin cfg0.N) (l : Fin 2048) (h : 2048 * t.val + l.val < 102400) :
    ((iblk (F := Ideal) m c 2 t : Vec Ideal S1x2048 .f32) (at2 0 l) : EReal) = if h : 2048 * t.val + l.val < 100000 then bias m c (at1 ⟨2048 * t.val + l.val, h⟩) else padScore := by
  have hi := index_bias t
  have hb : (iblk (F := Ideal) m c 2 t : Vec Ideal S1x2048 .f32) (at2 0 l) = (pad S102400 ![0] ![2400] ![0] (bias m c) (constant (F := Ideal) S_ .f32 0xF149F2CA#32) pads_S100000_S102400_024000 h_S_ : FVec Ideal S102400 .f32) (at1 ⟨2048 * t.val + l.val, h⟩) := by
    unfold iblk
    rw [View.read_apply]
    refine (congrFun (staged_bias m c) _).trans ?_
    unfold shapeCast
    congr 1
    apply Shape.reshapeEquiv_eq_of_rowMajor
    rw [Shape.rowMajor_val_two, Shape.rowMajor_val_one]
    show 2048 * t.val + l.val = (win0_2.index t 0 * 1 + 1 * 0) * 102400 + (win0_2.index t 1 * 2048 + 1 * l.val)
    rw [hi.1, hi.2]; omega
  refine hb.trans ?_
  split
  · next hc =>
    refine pad_apply_of_inside _ _ _ _ _ _ _ _ (at1 ⟨2048 * t.val + l.val, hc⟩) fun a => ?_
    match a with
    | ⟨0, _⟩ => show 2048 * t.val + l.val = 0 + (2048 * t.val + l.val) * 1; omega
  · next hc =>
    refine (pad_apply_of_not_inside _ _ _ _ _ _ _ _ 0 ?_).trans rfl
    show ¬(0 ≤ 2048 * t.val + l.val ∧ (2048 * t.val + l.val - 0) % 1 = 0 ∧ (2048 * t.val + l.val - 0) / 1 < 100000)
    omega

theorem hz : (![0, 0] : Fin 2 → Nat) = fun _ => 0 := funext fun a => by fin_cases a <;> rfl

/-- An entry of what one point computes, from the blocks it reads. -/
theorem out_at (x : Vec Ideal S1024x64 .f32) (w : Vec Ideal S64x2048 .f32) (b : Vec Ideal S1x2048 .f32) (r : Fin 1024) (l : Fin 2048) :
    (out0_3 (F := Ideal) x w b (at2 r l) : EReal) = (∑ k : Fin 64, (x (at2 r k) : EReal) * w (at2 k l)) + b (at2 0 l) := by
  unfold out0_3
  rw [View.canon_unit_zero hz, View.ld_unit_zero (S := S1024x64) hz, View.ld_unit_zero (S := S64x2048) hz, View.ld_unit_zero (S := S1x2048) hz]
  unfold k0_pay1
  simp only [shapeCast_self]
  show (FloatOps.matmul (F := Ideal) (φ₁ := .f32) (φ₂ := .f32) dot_S1024x64_S64x2048_S1024x2048_1_0_0_1_n_n none x w (constant (F := Ideal) S1024x2048 .f32 0x00000000#32) (at2 r l) : EReal) + (broadcastTo S1024x2048 b broadcasts_S1x2048_S1024x2048 (at2 r l) : EReal) = _
  rw [Ideal.matmul_constant_zero_apply]
  refine congrArg₂ (fun u v : EReal => u + v) ?_ ?_
  · rw [DotDims.sum_contr₁ _ (a := 1) rfl (K := 64) rfl]
    refine Finset.sum_congr rfl fun k _ => congrArg₂ (fun u v : EReal => u * v) (congrArg x ?_) (congrArg w ?_)
    · funext a
      match a with
      | 0 => rfl
      | 1 => rfl
    · funext a
      match a with
      | 0 => rfl
      | 1 => rfl
  · refine congrArg b (funext fun a => Fin.ext ?_)
    match a with
    | 0 => rfl
    | 1 => rfl

/-- The kernel's result. -/
def result : Buf (Elt Ideal) ((c : Thread nD τ).loc main_v3) := fun j : S1024x102400.Idx => score (rows m c) (weights m c) (bias m c) (j 0) (j 1).val

theorem out_score (t : Fin cfg0.N) (r : Fin 1024) (l : Fin 2048) :
    (out0_3 (F := Ideal) (iblk m c 0 t) (iblk m c 1 t) (iblk m c 2 t) (at2 r l) : EReal) = score (rows m c) (weights m c) (bias m c) r (2048 * t.val + l.val) := by
  have ht : t.val < 50 := t.isLt.trans_eq N_0
  have hl := l.isLt
  have h : 2048 * t.val + l.val < 102400 := by omega
  rw [out_at, block_rows, block_bias m c t l h]
  unfold score
  split
  · next hc =>
    refine congrArg (fun u : EReal => u + _) (Finset.sum_congr rfl fun k _ => congrArg (fun u : EReal => _ * u) ?_)
    rw [block_weights m c t k l h, dif_pos hc]
  · next hc =>
    refine Eq.trans (congrArg (fun u : EReal => u + padScore) (Finset.sum_eq_zero fun k _ => ?_)) (zero_add padScore)
    rw [block_weights m c t k l h, dif_neg hc, mul_zero]

theorem flushed (t : Fin cfg0.N) (_hf : (cfg0.win 3).flush t = true) :
    (dats (F := Ideal) m 0 c).flushed 3 t = ((cfg0.win 3).blk t).view.read (Elt Ideal) (result m c) := by
  have hi := index_scores t
  rw [ScoresIdeal.Value.flushed3]
  funext j
  rw [View.read_apply]
  have hj : (j : S1024x2048.Idx) = at2 (j 0) (j 1) := by
    funext a
    match a with
    | 0 => rfl
    | 1 => rfl
  refine ((congrArg (out0_3 (F := Ideal) (iblk m c 0 t) (iblk m c 1 t) (iblk m c 2 t)) hj).trans (out_score m c t (j 0) (j 1))).trans ?_
  refine congrArg₂ (score (rows m c) (weights m c) (bias m c)) (Fin.ext ?_) ?_
  · show (j 0).val = win0_3.index t 0 * 1024 + 1 * (j 0).val
    rw [hi.1]; omega
  · show 2048 * t.val + (j 1).val = win0_3.index t 1 * 2048 + 1 * (j 1).val
    rw [hi.2]; omega

theorem final : (dats (F := Ideal) m 0 c).arrAt 3 cfg0.N = result m c :=
  (dats m 0 c).arrAt_eq_of_cover 3 (result m c) (flushed m c) fun i => by
    have h0 : (i 0 : Nat) < 1024 := (i 0).isLt
    have h1 : (i 1 : Nat) < 102400 := (i 1).isLt
    have hN : (i 1 : Nat) / 2048 < cfg0.N := by
      show _ < grid0.N
      rw [N_0]; omega
    have hi := index_scores ⟨(i 1 : Nat) / 2048, hN⟩
    have hx : ∀ t : Fin grid0.N, win0_3.xsize (grid0.coords t) 0 = 1024 ∧ win0_3.xsize (grid0.coords t) 1 = 2048 := by decide +kernel
    refine ⟨⟨(i 1 : Nat) / 2048, hN⟩, flush0_3 _, ?_⟩
    show i ∈ ((View.whole main_v3).slice (win0_3.rect ⟨(i 1 : Nat) / 2048, hN⟩)).set
    rw [View.set_slice_whole, Rect.mem_set_unit]
    intro a
    match a with
    | ⟨0, _⟩ =>
      show win0_3.index ⟨(i 1 : Nat) / 2048, hN⟩ 0 * 1024 ≤ (i 0 : Nat) ∧ (i 0 : Nat) < win0_3.index ⟨(i 1 : Nat) / 2048, hN⟩ 0 * 1024 + win0_3.xsize (grid0.coords ⟨(i 1 : Nat) / 2048, hN⟩) 0
      rw [hi.1, (hx _).1]; omega
    | ⟨1, _⟩ =>
      show win0_3.index ⟨(i 1 : Nat) / 2048, hN⟩ 1 * 2048 ≤ (i 1 : Nat) ∧ (i 1 : Nat) < win0_3.index ⟨(i 1 : Nat) / 2048, hN⟩ 1 * 2048 + win0_3.xsize (grid0.coords ⟨(i 1 : Nat) / 2048, hN⟩) 1
      rw [hi.2, (hx _).2]
      show (i 1 : Nat) / 2048 * 2048 ≤ (i 1 : Nat) ∧ (i 1 : Nat) < (i 1 : Nat) / 2048 * 2048 + 2048
      omega

end kernel

/-! ## The reference -/

section reference

open Cert.ScoresReferenceIdeal Cert.ScoresReferenceIdeal.Gen

/-- The reference's result as a function of its arguments. -/
def refScores (x : FVec Ideal S1024x64 .f32) (w : FVec Ideal S64x100000 .f32) (b : FVec Ideal S100000 .f32) : FVec Ideal S1024x102400 .f32 :=
  pad S1024x102400 ![0, 0] ![0, 2400] ![0, 0] (addf (F := Ideal) (Host.dotGeneral (F := Ideal) dot_S1024x64_S64x100000_S1024x100000_1_0_0_1_n_n none x w)
    (broadcastInDim S1024x100000 ![0, 1] bcast_S1x100000_S1024x100000_0_1 (broadcastInDim S1x100000 ![1] bcast_S100000_S1x100000_1 b)))
    (id (constant (F := Ideal) S_ .f32 0xF149F2CA#32)) pads_S1024x100000_S1024x102400_000_024000 h_S_

theorem refScores_at (x : FVec Ideal S1024x64 .f32) (w : FVec Ideal S64x100000 .f32) (b : FVec Ideal S100000 .f32) (j : S1024x102400.Idx) :
    (refScores x w b j : EReal) = score x w b (j 0) (j 1).val := by
  unfold refScores score
  split
  · next hc =>
    refine (pad_apply_of_inside _ _ _ _ _ _ _ _ (at2 (j 0) ⟨(j 1).val, hc⟩) fun a => ?_).trans ?_
    · match a with
      | ⟨0, _⟩ => show (j 0).val = 0 + (j 0).val * 1; omega
      | ⟨1, _⟩ => show (j 1).val = 0 + (j 1).val * 1; omega
    refine congrArg₂ (fun u v : EReal => u + v) ?_ ?_
    · refine (Ideal.dotGeneral_apply _ _ _ x w _).trans ?_
      rw [DotDims.sum_contr₁ _ (a := 1) rfl (K := 64) rfl]
      refine Finset.sum_congr rfl fun k _ => congrArg₂ (fun u v : EReal => u * v) (congrArg x ?_) (congrArg w ?_)
      · funext a
        match a with
        | 0 => rfl
        | 1 => rfl
      · funext a
        match a with
        | 0 => rfl
        | 1 => rfl
    · refine congrArg b (funext fun a => Fin.ext ?_)
      match a with
      | 0 => rfl
  · next hc =>
    refine (pad_apply_of_not_inside _ _ _ _ _ _ _ _ 1 ?_).trans rfl
    show ¬(0 ≤ (j 1).val ∧ ((j 1).val - 0) % 1 = 0 ∧ ((j 1).val - 0) / 1 < 100000)
    omega

end reference

/-! ## The claim -/

theorem claim : Cert.algebraic_ScoresIdeal_ScoresReferenceIdeal := fun m g m' g' _ hm => by
  refine ⟨result m,
    (θ_run Cert.ScoresIdeal.defs _ _).mono (fun _ h c =>
      ⟨(h c).1.trans (final m c), (h c).2.1, (h c).2.2.1, (h c).2.2.2⟩) (Cert.ScoresIdeal.Value.run_blocks (F := Ideal) m g),
    (θ_run Cert.ScoresReferenceIdeal.defs _ _).mono (fun _ h c => ?_) (Cert.ScoresReferenceIdeal.Value.run (F := Ideal) m' g')⟩
  refine ⟨(h c).1.trans (Eq.trans (b := refScores (rows m c) (weights m c) (bias m c)) ?_ (funext fun j => refScores_at _ _ _ j)), (h c).2.1, (h c).2.2.1, (h c).2.2.2⟩
  rw [(hm c).1, (hm c).2.1, (hm c).2.2]
  unfold refScores
  rfl

end Cert.ScoresClaim

end
-- ==== Proof.Bisect.lean ====
/-
  Halving the distance to the hundredth largest of a row of words.
-/
module

public import Idealize.ShloMosaic.PureOps
public import proofs.«01_k».proof.Proof.Ranks

@[expose] public section

noncomputable section

namespace Cert.Bisect

open Idealize.ShloMosaic

/-- How many of a row's words are at least a number. -/
def atLeast {n : Nat} (y : Fin n → BitVec 32) (z : Int) : Nat := (Finset.univ.filter fun i => z ≤ (y i).toInt).card

theorem atLeast_le {n : Nat} (y : Fin n → BitVec 32) (z : Int) : atLeast y z ≤ n :=
  (Finset.card_le_univ _).trans (Fintype.card_fin n).le

theorem atLeast_low {n : Nat} (y : Fin n → BitVec 32) : atLeast y (-2147483648) = n := by
  unfold atLeast
  rw [Finset.filter_true_of_mem, Finset.card_univ, Fintype.card_fin]
  intro i _
  have := BitVec.le_toInt (y i)
  omega

theorem atLeast_high {n : Nat} (y : Fin n → BitVec 32) : atLeast y 2147483648 = 0 := by
  unfold atLeast
  rw [Finset.card_eq_zero, Finset.filter_eq_empty_iff]
  intro i _
  have := BitVec.toInt_lt (x := y i)
  omega

theorem below_card {n : Nat} (y : Fin n → BitVec 32) (z : Int) : (Finset.univ.filter fun i => (y i).toInt < z).card + atLeast y z = n := by
  have h := Finset.card_filter_add_card_filter_not (s := (Finset.univ : Finset (Fin n))) (fun i => (y i).toInt < z)
  rw [Finset.card_univ, Fintype.card_fin] at h
  refine Eq.trans (congrArg _ ?_) h
  exact congrArg Finset.card (Finset.filter_congr fun i _ => not_lt.symm)

/-- A count of at most 800, as a word, is at least a hundred when the count is. -/
theorem hundred_le (c : Nat) (h : c ≤ 800) : (100#32).sle (BitVec.ofNat 32 c) = decide (100 ≤ c) := by
  rw [BitVec.sle_eq_decide]
  have e : (BitVec.ofNat 32 c).toInt = c := by
    have e1 : (BitVec.ofNat 32 c).toNat = c := by rw [BitVec.toNat_ofNat, Nat.mod_eq_of_lt (by omega)]
    rw [BitVec.toInt_eq_toNat_of_lt (by rw [e1]; omega), e1]
  rw [e, show (100#32 : BitVec 32).toInt = 100 by decide]
  exact decide_eq_decide.2 (by omega)

/-- After `b` rounds: a hundred words are at least `t`, fewer are at least `t` and half the last step more. -/
structure Between (y : Fin 800 → BitVec 32) (b : Nat) (t : BitVec 32) : Prop where
  enough : 100 ≤ atLeast y t.toInt
  few : atLeast y (t.toInt + 2 ^ (31 - b)) < 100
  room : t.toInt + 2 ^ (31 - b) ≤ 2147483648

theorem start (y : Fin 800 → BitVec 32) : Between y 0 (if 100 ≤ atLeast y 0 then 0#32 else 2147483648#32) := by
  split
  · next h =>
    refine ⟨by simpa using h, ?_, by decide⟩
    rw [show ((0#32 : BitVec 32).toInt + 2 ^ (31 - 0) : Int) = 2147483648 by decide, atLeast_high]
    omega
  · next h =>
    refine ⟨?_, ?_, by decide⟩
    · rw [show (2147483648#32 : BitVec 32).toInt = -2147483648 by decide, atLeast_low]
      omega
    · rw [show ((2147483648#32 : BitVec 32).toInt + 2 ^ (31 - 0) : Int) = 0 by decide]
      omega

/-- One round keeps it. -/
theorem round (y : Fin 800 → BitVec 32) (b : Nat) (hb : b < 31) (t d : BitVec 32) (hd : d = BitVec.ofNat 32 (2 ^ (30 - b))) (h : Between y b t) :
    Between y (b + 1) (if 100 ≤ atLeast y (t + d).toInt then t + d else t) := by
  obtain ⟨h1, h2, h3⟩ := h
  have hp : (2 : Int) ^ (31 - b) = 2 ^ (30 - b) + 2 ^ (30 - b) := by
    rw [show 31 - b = (30 - b) + 1 by omega, pow_succ, mul_two]
  have hq : (2 : Nat) ^ (30 - b) ≤ 2 ^ 30 := Nat.pow_le_pow_right (by decide) (by omega)
  have hq0 : 0 < (2 : Nat) ^ (30 - b) := Nat.pow_pos (by decide)
  have hc : (2 : Int) ^ (30 - b) = ((2 ^ (30 - b) : Nat) : Int) := by push_cast; rfl
  have hdi : d.toInt = 2 ^ (30 - b) := by
    have e1 : d.toNat = 2 ^ (30 - b) := by rw [hd, BitVec.toNat_ofNat, Nat.mod_eq_of_lt (by omega)]
    rw [BitVec.toInt_eq_toNat_of_lt (by rw [e1]; omega), e1, hc]
  have hlow := BitVec.le_toInt t
  have hs : (t + d).toInt = t.toInt + 2 ^ (30 - b) := by
    rw [BitVec.toInt_add, hdi]
    refine Int.bmod_eq_of_le ?_ ?_ <;> omega
  have e31 : 31 - (b + 1) = 30 - b := by omega
  rw [hp] at h2 h3
  split
  · next hx =>
    refine ⟨hx, ?_, ?_⟩ <;> rw [e31, hs]
    · rw [add_assoc]; exact h2
    · omega
  · next hx =>
    refine ⟨h1, ?_, ?_⟩ <;> rw [e31]
    · rw [← hs]; omega
    · omega

/-- After all the rounds it is the hundredth largest. -/
theorem finish (y : Fin 800 → BitVec 32) (t : BitVec 32) (h : Between y 31 t) (B : Fin 800 → Fin 800 → Bool) (hB : ∀ i j, B i j = decide ((y i).toInt < (y j).toInt)) :
    y (sortedFrom B 700) = t := by
  obtain ⟨h1, h2, _⟩ := h
  refine Append.sortedFrom_at y t 700 ?_ ?_ B hB
  · have := below_card y t.toInt
    show _ ≤ 700
    omega
  · have := below_card y (t.toInt + 1)
    have e : (Finset.univ.filter fun i => (y i).toInt ≤ t.toInt).card = (Finset.univ.filter fun i => (y i).toInt < t.toInt + 1).card :=
      congrArg Finset.card (Finset.filter_congr fun i _ => Int.lt_add_one_iff.symm)
    rw [e]
    show 700 < _
    have h2' : atLeast y (t.toInt + 1) < 100 := h2
    omega

end Cert.Bisect

end
-- ==== Proof.StatsRows.lean ====
/-
  A row of scores: its largest, the largest of each chunk, and the threshold; and the two programs' operations read at a row.
-/
module

public import proofs.«01_k».proof.Proof.Columns
public import proofs.«01_k».proof.Proof.Bisect
public import Idealize.ShloMosaic.PureOps.BitExact.Laws
public import Idealize.ShloMosaic.Lib.IndicatorCount

@[expose] public section

noncomputable section

namespace Cert.StatsRows

open Cert.Rows Cert.Columns
open Idealize.ShloMosaic

/-- The largest of some scores, from minus infinity. -/
def largest {n : Nat} (f : Fin n → Bits .f32) : Bits .f32 :=
  (Finset.univ : Finset (Fin n)).fold (FloatOps.maximumf (F := Bits) (φ := .f32)) (FloatOps.ofBits .f32 0xFF800000#32) f

/-- The largest of a chunk of 128 scores. -/
def chunk (f : Fin 102400 → Bits .f32) (q : Fin 800) : Bits .f32 :=
  largest fun k : Fin 128 => f ⟨128 * q.val + k.val, by have := q.isLt; have := k.isLt; omega⟩

/-- A word with its order turned round when it is negative. -/
def turn (w : BitVec 32) : BitVec 32 := Scalar.select (IntOp.cmpi .slt w 0#32) (IntOp.xori w 2147483647#32) w

/-- A chunk's place in the order of the words. -/
def place (f : Fin 102400 → Bits .f32) (q : Fin 800) : BitVec 32 := turn (BitOps.toBits (chunk f q))

/-- Of 800 words in order, the hundredth from the end. -/
def hundredth (y : Fin 800 → BitVec 32) : BitVec 32 := y (sortedFrom (fun i j => IntOp.cmpi .slt (y i) (y j) == 1#1) 700)

/-- The number whose place is 16 below. -/
def below (w : BitVec 32) : Bits .f32 := FloatOps.ofBits .f32 (turn (IntOp.subi w 16#32))

theorem less_iff (u v : BitVec 32) : (IntOp.cmpi .slt u v == 1#1) = decide (u.toInt < v.toInt) := by
  show (BitVec.ofBool (u.slt v) == 1#1) = _
  rw [← BitVec.slt_eq_decide]
  generalize u.slt v = b
  revert b; decide

variable {a : Nat}

/-- The entry at row `i`, chunk `j`, place `k`. -/
def at3 {a b d : Nat} (i : Fin a) (j : Fin b) (k : Fin d) : (⟨3, ![a, b, d]⟩ : Shape).Idx := fun
  | 0 => i
  | 1 => j
  | 2 => k

theorem lift3_at (h : (⟨3, ![a, 800, 128]⟩ : Shape).Reduces [2] ⟨2, ![a, 800]⟩) (r : Fin a) (q : Fin 800) (k : Fin 128) : h.lift (at2 r q) k = at3 r q k := by
  funext d
  match d with
  | 0 => rfl
  | 1 => rfl
  | 2 => rfl

/-- A row cut in chunks. -/
theorem cut_at (x : FVec Bits ⟨2, ![a, 102400]⟩ .f32) (h : (⟨2, ![a, 102400]⟩ : Shape).ShapeCasts ⟨3, ![a, 800, 128]⟩) (r : Fin a) (q : Fin 800) (k : Fin 128) :
    shapeCast ⟨3, ![a, 800, 128]⟩ x h (at3 r q k) = x (at2 r ⟨128 * q.val + k.val, by have := q.isLt; have := k.isLt; omega⟩) := by
  unfold shapeCast
  refine congrArg x (Shape.reshapeEquiv_eq_of_rowMajor _ ?_)
  rw [Shape.rowMajor_val_two, Shape.rowMajor_val_three]
  show r.val * 102400 + (128 * q.val + k.val) = (r.val * 800 + q.val) * 128 + k.val
  omega

/-- A reduction of the rows to their largest, in the kernel and on the host. -/
theorem row_max (x : FVec Bits ⟨2, ![a, 102400]⟩ .f32) (h : (⟨2, ![a, 102400]⟩ : Shape).Reduces [1] ⟨1, ![a]⟩) (r : Fin a) :
    multiReduction .maximumf [1] ⟨1, ![a]⟩ x 0xFF800000#32 h (.inl rfl) rfl (at1 r) = largest fun k => x (at2 r k) := by
  refine (multiReduction_maximumf_eq_fold x 0xFF800000#32 h (.inl rfl) rfl (at1 r)).trans ?_
  refine (Shape.Reduces.fold_filter_drop_single h (FloatOps.maximumf (F := Bits) (φ := .f32)) _ x (at1 r)).trans ?_
  exact congrArg largest (funext fun k => congrArg x (lift_at h r k))

theorem host_row_max {u : Shape} (x : FVec Bits ⟨2, ![a, 102400]⟩ .f32) (h' : (⟨2, ![a, 102400]⟩ : Shape).ReducesTo [1] ⟨1, ![a]⟩) (h : (⟨2, ![a, 102400]⟩ : Shape).Reduces [1] ⟨1, ![a]⟩)
    (hu : 0 < u.numel) (r : Fin a) :
    Host.reduce FloatOps.maximumf x (constant (F := Bits) u .f32 0xFF800000#32) h' hu (at1 r) = largest fun k => x (at2 r k) := by
  refine (Host.reduce_eq_fold_single _ x _ h' h hu (at1 r)).trans ?_
  exact congrArg largest (funext fun k => congrArg x (lift_at h r k))

/-- A reduction of the chunks to their largest, in the kernel and on the host. -/
theorem chunk_max (x : FVec Bits ⟨2, ![a, 102400]⟩ .f32) (hc : (⟨2, ![a, 102400]⟩ : Shape).ShapeCasts ⟨3, ![a, 800, 128]⟩)
    (h : (⟨3, ![a, 800, 128]⟩ : Shape).Reduces [2] ⟨2, ![a, 800]⟩) (r : Fin a) (q : Fin 800) :
    multiReduction .maximumf [2] ⟨2, ![a, 800]⟩ (shapeCast ⟨3, ![a, 800, 128]⟩ x hc) 0xFF800000#32 h (.inl rfl) rfl (at2 r q) = chunk (fun k => x (at2 r k)) q := by
  refine (multiReduction_maximumf_eq_fold (F := Bits) (φ := .f32) _ 0xFF800000#32 h (.inl rfl) rfl (at2 r q)).trans ?_
  refine (Shape.Reduces.fold_filter_drop_single h (FloatOps.maximumf (F := Bits) (φ := .f32)) _ _ (at2 r q)).trans ?_
  exact congrArg largest (funext fun k => (congrArg (shapeCast _ x hc) (lift3_at h r q k)).trans (cut_at x hc r q k))

theorem host_chunk_max {u : Shape} (x : FVec Bits ⟨2, ![a, 102400]⟩ .f32) (hc : (⟨2, ![a, 102400]⟩ : Shape).ShapeCasts ⟨3, ![a, 800, 128]⟩)
    (h' : (⟨3, ![a, 800, 128]⟩ : Shape).ReducesTo [2] ⟨2, ![a, 800]⟩) (h : (⟨3, ![a, 800, 128]⟩ : Shape).Reduces [2] ⟨2, ![a, 800]⟩) (hu : 0 < u.numel) (r : Fin a) (q : Fin 800) :
    Host.reduce FloatOps.maximumf (shapeCast ⟨3, ![a, 800, 128]⟩ x hc) (constant (F := Bits) u .f32 0xFF800000#32) h' hu (at2 r q) = chunk (fun k => x (at2 r k)) q := by
  refine (Host.reduce_eq_fold_single (FloatOps.maximumf (F := Bits) (φ := .f32)) _ _ h' h hu (at2 r q)).trans ?_
  exact congrArg largest (funext fun k => (congrArg (shapeCast _ x hc) (lift3_at h r q k)).trans (cut_at x hc r q k))

/-- Counting, row by row, the words at least a row's bound. -/
theorem count_at (y z : IVec ⟨2, ![a, 800]⟩ 32) (hw : 1 < 32) (h : (⟨2, ![a, 800]⟩ : Shape).Reduces [1] ⟨1, ![a]⟩)
    (hc : (⟨1, ![a]⟩ : Shape).ShapeCasts ⟨2, ![a, 1]⟩) (r : Fin a) (b : BitVec 32) (hz : ∀ q, z (at2 r q) = b) :
    shapeCast ⟨2, ![a, 1]⟩ (multiReductionI .add [1] ⟨1, ![a]⟩ (extui 32 (cmpi .sge y z) hw) 0#32 h rfl) hc (at2 r 0)
      = BitVec.ofNat 32 (Bisect.atLeast (fun q => y (at2 r q)) b.toInt) := by
  refine (column_at _ hc r).trans ?_
  refine (multiReductionI_eq_fold .add _ 0#32 h rfl (at1 r)).trans ?_
  refine (Shape.Reduces.fold_filter_drop_single h IntOp.addi _ _ (at1 r)).trans ?_
  refine Eq.trans (b := (Finset.univ : Finset (Fin 800)).fold IntOp.addi 0#32 fun q => (IntOp.cmpi .sge (y (at2 r q)) b).setWidth 32) ?_ ?_
  · refine congrArg (fun f => (Finset.univ : Finset (Fin 800)).fold IntOp.addi 0#32 f) (funext fun q => ?_)
    refine (congrArg (extui 32 (cmpi .sge y z) hw) (lift_at h r q)).trans ?_
    exact congrArg (fun w => (IntOp.cmpi .sge (y (at2 r q)) w).setWidth 32) (hz q)
  · refine (IndicatorCount.fold_addi_setWidth_eq_card _ _).trans (congrArg (BitVec.ofNat 32) ?_)
    refine congrArg Finset.card (Finset.filter_congr fun q _ => ?_)
    show BitVec.ofBool (b.sle (y (at2 r q))) = 1#1 ↔ _
    rw [BitVec.sle_eq_decide]
    by_cases h : b.toInt ≤ (y (at2 r q)).toInt
    · simp [h]
    · simp [h]

/-- The choice, row by row, by whether the count is a hundred. -/
theorem choose_at (y z : IVec ⟨2, ![a, 800]⟩ 32) (u v : IVec ⟨2, ![a, 1]⟩ 32) (hw : 1 < 32) (h : (⟨2, ![a, 800]⟩ : Shape).Reduces [1] ⟨1, ![a]⟩)
    (hc : (⟨1, ![a]⟩ : Shape).ShapeCasts ⟨2, ![a, 1]⟩) (r : Fin a) (b : BitVec 32) (hz : ∀ q, z (at2 r q) = b) :
    select (cmpi .sge (shapeCast ⟨2, ![a, 1]⟩ (multiReductionI .add [1] ⟨1, ![a]⟩ (extui 32 (cmpi .sge y z) hw) 0#32 h rfl) hc) (broadcast ⟨2, ![a, 1]⟩ 100#32)) u v (at2 r 0)
      = if 100 ≤ Bisect.atLeast (fun q => y (at2 r q)) b.toInt then u (at2 r 0) else v (at2 r 0) := by
  refine (congrArg (fun w => Scalar.select (IntOp.cmpi .sge w 100#32) (u (at2 r 0)) (v (at2 r 0))) (count_at y z hw h hc r b hz)).trans ?_
  show Scalar.select (BitVec.ofBool ((100#32).sle (BitVec.ofNat 32 (Bisect.atLeast (fun q => y (at2 r q)) b.toInt)))) (u (at2 r 0)) (v (at2 r 0)) = _
  rw [Bisect.hundred_le _ (Bisect.atLeast_le _ _), select_bool]
  simp only [decide_eq_true_eq]

end Cert.StatsRows

end
-- ==== Proof.StatsClaim.lean ====
/-
  At the words: each row's largest score, its chunks' largest and its threshold are those of the plain program.
-/
module

public import proofs.«01_k».proof.Defs
public import proofs.«01_k».proof.Proof.StatsRows
public import proofs.«01_k».proof.Proof.Gen.Stats.Value
public import proofs.«01_k».proof.Proof.Gen.StatsReference.Run
public import Idealize.ShloMosaic.Lib.Pipeline.Value

@[expose] public section

noncomputable section

namespace Cert.StatsClaim

open Cert.Rows Cert.Columns Cert.StatsRows
open Idealize.ShloMosaic Idealize.ShloMosaic.TcCoe Idealize.SL.Sem Idealize.ShloMosaic.StableHlo
open Idealize.ShloMosaic.Pipeline (Dat)

/-- A row's threshold: 16 places below the hundredth largest of its chunks' largest. -/
def threshold (f : Fin 102400 → Bits .f32) : Bits .f32 := below (hundredth (place f))

/-- A row's largest score. -/
def most (f : Fin 102400 → Bits .f32) : Bits .f32 := largest f

/-! ## One point -/

section point

open Cert.Stats Cert.Stats.Gen

variable (x : FVec Bits S8x102400 .f32)

theorem max_at (r : Fin 8) : k0_pay2 (F := Bits) x (at2 r 0) = most fun k => x (at2 r k) := by
  unfold k0_pay2 most
  exact (column_at _ shapeCasts_S8_S8x1 r).trans (row_max x reduces_S8x102400_S8 r)

theorem chunk_at (r : Fin 8) (q : Fin 800) : k0_pay4 (F := Bits) x (at2 r q) = chunk (fun k => x (at2 r k)) q :=
  chunk_max x shapeCasts_S8x102400_S8x800x128 reduces_S8x800x128_S8x800 r q

theorem place_at (r : Fin 8) (q : Fin 800) : k0_pay5 (F := Bits) x (at2 r q) = place (fun k => x (at2 r k)) q :=
  congrArg (fun z : Bits .f32 => turn (BitOps.toBits z)) (chunk_at x r q)

theorem places (r : Fin 8) : (fun q => k0_pay5 (F := Bits) x (at2 r q)) = place (fun k => x (at2 r k)) := funext fun q => place_at x r q

theorem start_at (r : Fin 8) : k0_pay6 (F := Bits) x (at2 r 0) = if 100 ≤ Bisect.atLeast (place fun k => x (at2 r k)) 0 then 0#32 else 2147483648#32 := by
  rw [← places x r]
  unfold k0_pay6
  exact choose_at (k0_pay5 (F := Bits) x) (broadcast S8x800 0#32) (broadcast S8x1 0#32) (broadcast S8x1 2147483648#32) natLt_1_32 reduces_S8x800_S8 shapeCasts_S8_S8x1 r 0#32 fun _ => rfl

theorem steps : ∀ t : Fin k0_t1_loop.trips, Scalar.shli 1#32 (Scalar.subi 30#32 (Scf.iv 0#32 1#32 t)) = BitVec.ofNat 32 (2 ^ (30 - t.val)) ∧ t.val < 31 := by decide

theorem round_at (t : Fin k0_t1_loop.trips) (s : IVec S8x1 32) (r : Fin 8) :
    k0_pay7 (F := Bits) x t s (at2 r 0)
      = if 100 ≤ Bisect.atLeast (place fun k => x (at2 r k)) (s (at2 r 0) + BitVec.ofNat 32 (2 ^ (30 - t.val))).toInt then s (at2 r 0) + BitVec.ofNat 32 (2 ^ (30 - t.val)) else s (at2 r 0) := by
  rw [← (steps t).1, ← places x r]
  unfold k0_pay7
  exact choose_at (k0_pay5 (F := Bits) x) _ (addi s (broadcast S8x1 (Scalar.shli 1#32 (Scalar.subi 30#32 (Scf.iv 0#32 1#32 t))))) s natLt_1_32 reduces_S8x800_S8 shapeCasts_S8_S8x1 r _
    fun q => spread_at _ broadcasts_S8x1_S8x800 r q

theorem trips : k0_t1_loop.trips = 31 := by decide

/-- What the loop leaves. -/
def search : IVec S8x1 32 := Scf.fold (fun (t : Fin k0_t1_loop.trips) (s : IVec S8x1 32) => k0_pay7 (F := Bits) x t s) (k0_pay6 (F := Bits) x)

theorem search_at (r : Fin 8) : search x (at2 r 0) = hundredth (place fun k => x (at2 r k)) := by
  have h : Bisect.Between (place fun k => x (at2 r k)) k0_t1_loop.trips (search x (at2 r 0)) := by
    unfold search
    rw [Scf.fold_eq]
    exact folds (fun b (s : IVec S8x1 32) => Bisect.Between (place fun k => x (at2 r k)) b (s (at2 r 0))) k0_t1_loop.trips (fun t s => k0_pay7 (F := Bits) x t s) (k0_pay6 (F := Bits) x)
      (by rw [start_at]; exact Bisect.start _)
      (fun t s h => by rw [round_at]; exact Bisect.round _ t.val (steps t).2 _ _ rfl h)
  rw [trips] at h
  exact (Bisect.finish (place fun k => x (at2 r k)) _ h _ fun i j => less_iff _ _).symm

theorem below_at (w : IVec S8x1 32) (r : Fin 8) (l : Fin 16) : k0_pay1 (F := Bits) (k0_pay8 (F := Bits) w) (at2 r l) = below (w (at2 r 0)) := by
  unfold k0_pay1
  rw [shapeCast_self]
  exact (spread_at _ broadcasts_S8x1_S8x16 r l).trans rfl

theorem hz : (![0, 0] : Fin 2 → Nat) = fun _ => 0 := funext fun a => by fin_cases a <;> rfl

variable (c : Dev nD) (i : grid0.Coords) (a1 : Memref sig .tc .vmem S8x102400 .f32) (h1 : a1.IsWhole) (a2 : Memref sig .tc .vmem S8x1 .f32) (h2 : a2.IsWhole)
  (a3 : Memref sig .tc .vmem S8x1 .f32) (h3 : a3.IsWhole) (a4 : Memref sig .tc .vmem S8x800 .f32) (h4 : a4.IsWhole) (a5 : Memref sig .tc .vmem S8x16 .f32) (h5 : a5.IsWhole)

theorem out_max : out0_A_1 (F := Bits) c i a1 h1 a2 h2 a3 h3 a4 h4 a5 h5 x = k0_pay2 (F := Bits) x := by
  unfold out0_A_1
  rw [View.read_writes_eq_canon _ _ _ (cover0_A_1 (F := Bits) c i a1 h1 a2 h2 a3 h3 a4 h4 a5 h5 x)]
  unfold kernelRun0_A
  dsimp only
  sl_unfold_words
  rw [View.canon_unit_zero hz]
  simp only [View.readAt_eq_ld, h1.read_unread, View.ld_unit_zero (S := S8x102400) hz]

theorem out_chunks : out0_A_3 (F := Bits) c i a1 h1 a2 h2 a3 h3 a4 h4 a5 h5 x = k0_pay4 (F := Bits) x := by
  unfold out0_A_3
  rw [View.read_writes_eq_canon _ _ _ (cover0_A_3 (F := Bits) c i a1 h1 a2 h2 a3 h3 a4 h4 a5 h5 x)]
  unfold kernelRun0_A
  dsimp only
  sl_unfold_words
  rw [View.canon_unit_zero hz]
  simp only [View.readAt_eq_ld, h1.read_unread, View.ld_unit_zero (S := S8x102400) hz]

theorem out_bounds : out0_A_4 (F := Bits) c i a1 h1 a2 h2 a3 h3 a4 h4 a5 h5 x = k0_pay1 (F := Bits) (k0_pay8 (F := Bits) (search x)) := by
  unfold out0_A_4
  rw [View.read_writes_eq_canon _ _ _ (cover0_A_4 (F := Bits) c i a1 h1 a2 h2 a3 h3 a4 h4 a5 h5 x)]
  unfold kernelRun0_A
  dsimp only
  sl_unfold_words
  rw [View.canon_unit_zero hz]
  simp only [View.readAt_eq_ld, h1.read_unread, View.ld_unit_zero (S := S8x102400) hz]
  rfl

end point

/-! ## The reference -/

section reference

open Cert.StatsReference Cert.StatsReference.Gen

variable (x : FVec Bits S1024x102400 .f32)

/-- A row of the scores. -/
def row (r : Fin 1024) : Fin 102400 → Bits .f32 := fun k => x (at2 r k)

def maxima : FVec Bits S1024x1 .f32 := fun j => most (row x (j 0))
def chunks : FVec Bits S1024x800 .f32 := fun j => chunk (row x (j 0)) (j 1)
def bounds : FVec Bits S1024x16 .f32 := fun j => threshold (row x (j 0))

theorem eta2 {a b : Nat} (j : (⟨2, ![a, b]⟩ : Shape).Idx) : j = at2 (j 0) (j 1) := by
  funext d
  match d with
  | 0 => rfl
  | 1 => rfl

/-- The reference's results as functions of the scores. -/
def refMaxima : FVec Bits S1024x1 .f32 := broadcastInDim S1024x1 ![0] bcast_S1024_S1024x1_0 (Host.reduce FloatOps.maximumf x (constant (F := Bits) S_ .f32 0xFF800000#32) reducesTo_S1024x102400_S1024_d1 h_S_)

def refChunks : FVec Bits S1024x800 .f32 := Host.reduce FloatOps.maximumf (shapeCast _ x shapeCasts_S1024x102400_S1024x800x128) (constant (F := Bits) S_ .f32 0xFF800000#32) reducesTo_S1024x800x128_S1024x800_d2 h_S_

def refPlaces (y : FVec Bits S1024x800 .f32) : IVec S1024x800 32 :=
  select (cmpi .slt (bitcastToInt y) (broadcastInDim S1024x800 ![] bcast_S_S1024x800 (constantI S_ 32 0#32))) (xori (bitcastToInt y) (broadcastInDim S1024x800 ![] bcast_S_S1024x800 (constantI S_ 32 2147483647#32))) (bitcastToInt y)

def refSteps (z : IVec S1024x800 32) : IVec S1024x1 32 :=
  subi (extractStridedSlice S1024x1 ![0, 700] (Host.sort S1024x800 1 comparator_i32_d1 z) slices_S1024x800_S1024x1_0_700) (broadcastInDim S1024x1 ![] bcast_S_S1024x1 (constantI S_ 32 16#32))

def refBounds (w : IVec S1024x1 32) : FVec Bits S1024x16 .f32 :=
  broadcastInDim S1024x16 ![0, 1] bcast_S1024x1_S1024x16_0_1 (bitcastToFloat (F := Bits) .f32
    (select (cmpi .slt w (broadcastInDim S1024x1 ![] bcast_S_S1024x1 (constantI S_ 32 0#32))) (xori w (broadcastInDim S1024x1 ![] bcast_S_S1024x1 (constantI S_ 32 2147483647#32))) w))

theorem refMaxima_eq : refMaxima x = maxima x := by
  funext j
  unfold refMaxima maxima most
  refine Eq.trans ?_ (host_row_max x reducesTo_S1024x102400_S1024_d1 (by decide) h_S_ (j 0))
  unfold broadcastInDim
  refine congrArg (Host.reduce FloatOps.maximumf x (constant (F := Bits) S_ .f32 0xFF800000#32) reducesTo_S1024x102400_S1024_d1 h_S_) (funext fun a => Fin.ext ?_)
  match a with
  | 0 => rfl

theorem refChunks_eq : refChunks x = chunks x := by
  funext j
  refine (congrArg (refChunks x) (eta2 j)).trans ?_
  exact host_chunk_max x shapeCasts_S1024x102400_S1024x800x128 reducesTo_S1024x800x128_S1024x800_d2 (by decide) h_S_ (j 0) (j 1)

theorem refSteps_at (z : IVec S1024x800 32) (r : Fin 1024) : refSteps z (at2 r 0) = IntOp.subi (hundredth fun q => z (at2 r q)) 16#32 := by
  refine congrArg (fun w => IntOp.subi w 16#32) ?_
  have e : extractStridedSlice S1024x1 ![0, 700] (Host.sort S1024x800 1 comparator_i32_d1 z) slices_S1024x800_S1024x1_0_700 (at2 r 0) = Host.sort S1024x800 1 comparator_i32_d1 z (at2 r 700) := by
    unfold extractStridedSlice
    refine congrArg (Host.sort S1024x800 1 comparator_i32_d1 z) (funext fun a => Fin.ext ?_)
    match a with
    | 0 => exact Nat.zero_add _
    | 1 => rfl
  refine e.trans ?_
  unfold Host.sort
  rw [dif_pos (show 1 < S1024x800.rank by decide)]
  refine (congrArg z (along_at r _ _)).trans ?_
  refine congrArg (fun B => z (at2 r (sortedFrom B 700))) (funext fun i => funext fun j => ?_)
  exact congrArg₂ (fun u v => comparator_i32_d1 (z u) (z v) == 1#1) (along_at r _ _) (along_at r _ _)

theorem refBounds_eq : refBounds (refSteps (refPlaces (refChunks x))) = bounds x := by
  funext j
  have e : refBounds (refSteps (refPlaces (refChunks x))) j = FloatOps.ofBits .f32 (turn (refSteps (refPlaces (refChunks x)) (at2 (j 0) 0))) := by
    unfold refBounds broadcastInDim
    refine congrArg (fun i : S1024x1.Idx => FloatOps.ofBits (F := Bits) .f32 (turn (refSteps (refPlaces (refChunks x)) i))) (funext fun a => Fin.ext ?_)
    match a with
    | 0 => rfl
    | 1 => rfl
  refine e.trans ((congrArg (fun w => FloatOps.ofBits (F := Bits) .f32 (turn w)) (refSteps_at _ (j 0))).trans ?_)
  show _ = below (hundredth fun q => turn (BitOps.toBits (chunk (row x (j 0)) q)))
  refine congrArg (fun y => below (hundredth y)) (funext fun q => ?_)
  rw [refChunks_eq]
  rfl

end reference

/-! ## All points -/

section kernel

open Cert.Stats Cert.Stats.Gen

variable (m : (ℓ : Loc nD τ sig) → Buf (Elt Bits) ℓ) (c : Dev nD)

abbrev scores : FVec Bits S1024x102400 .f32 := m ((c : Thread nD τ).loc main_arg0)

theorem index_scores : ∀ t : Fin grid0.N, win0_0.index t 0 = t.val ∧ win0_0.index t 1 = 0 := by decide +kernel
theorem index_max : ∀ t : Fin grid0.N, win0_1.index t 0 = t.val ∧ win0_1.index t 1 = 0 := by decide +kernel
theorem index_chunks : ∀ t : Fin grid0.N, win0_3.index t 0 = t.val ∧ win0_3.index t 1 = 0 := by decide +kernel
theorem index_bounds : ∀ t : Fin grid0.N, win0_4.index t 0 = t.val ∧ win0_4.index t 1 = 0 := by decide +kernel

/-- A row of a block. -/
theorem block_row (t : Fin cfg0.N) (r : Fin 8) (h : 8 * t.val + r.val < 1024) :
    (fun k => (iblk (F := Bits) m c 0 t : Vec Bits S8x102400 .f32) (at2 r k)) = row (scores m c) ⟨8 * t.val + r.val, h⟩ := by
  have hi := index_scores t
  funext k
  unfold iblk
  rw [View.read_apply]
  refine (congrFun (V_main_arg0 (F := Bits) m c) _).trans ?_
  show scores m c _ = scores m c _
  congr 1
  funext a
  apply Fin.ext
  match a with
  | ⟨0, _⟩ => show win0_0.index t 0 * 8 + 1 * r.val = 8 * t.val + r.val; rw [hi.1]; omega
  | ⟨1, _⟩ => show win0_0.index t 1 * 102400 + 1 * k.val = k.val; rw [hi.2]; omega

theorem inside (t : Fin cfg0.N) (r : Fin 8) : 8 * t.val + r.val < 1024 := by
  have ht : t.val < 128 := t.isLt.trans_eq N_0
  have := r.isLt
  omega

/-- What a point writes back, as the rows of a whole column. -/
theorem column_block (t : Fin cfg0.N) (y : FVec Bits S8x1 .f32) (z : FVec Bits S1024x1 .f32) (h : ∀ r : Fin 8, y (at2 r 0) = z (at2 ⟨8 * t.val + r.val, inside t r⟩ 0)) :
    (cfg0.win 1).cut (grid0.coords t) y = ((cfg0.win 1).blk t).view.read (Elt Bits) z := by
  have hi := index_max t
  funext j
  rw [View.read_apply]
  have hj : (j : S8x1.Idx) = at2 (j 0) 0 := (eta2 _).trans (congrArg (at2 _) (Subsingleton.elim (α := Fin 1) _ _))
  refine (congrArg y hj).trans ((h (j 0)).trans (congrArg z (funext fun a => Fin.ext ?_)))
  match a with
  | 0 =>
    show 8 * t.val + (j 0).val = win0_1.index t 0 * 8 + 1 * (j 0).val
    rw [hi.1]; omega
  | 1 =>
    have h1 : (j 1).val < 1 := (j 1).isLt
    show 0 = win0_1.index t 1 * 1 + 1 * (j 1).val
    rw [hi.2]; omega

theorem flushed_max (t : Fin cfg0.N) (_hf : (cfg0.win 1).flush t = true) :
    (dats (F := Bits) m 0 c).flushed 1 t = ((cfg0.win 1).blk t).view.read (Elt Bits) (maxima (scores m c)) := by
  rw [Stats.Value.flushed1_A, out_max]
  exact column_block t _ _ fun r => (max_at _ r).trans (congrArg most (block_row m c t r (inside t r)))

theorem flushed_chunks (t : Fin cfg0.N) (_hf : (cfg0.win 3).flush t = true) :
    (dats (F := Bits) m 0 c).flushed 3 t = ((cfg0.win 3).blk t).view.read (Elt Bits) (chunks (scores m c)) := by
  have hi := index_chunks t
  rw [Stats.Value.flushed3_A, out_chunks]
  funext j
  rw [View.read_apply]
  refine (congrArg (k0_pay4 (F := Bits) (iblk m c 0 t)) (eta2 (a := 8) (b := 800) j)).trans ((chunk_at _ (j 0) (j 1)).trans ?_)
  rw [block_row m c t (j 0) (inside t (j 0))]
  refine congrArg₂ (fun r q => chunk (row (scores m c) r) q) (Fin.ext ?_) (Fin.ext ?_)
  · show 8 * t.val + (j 0).val = win0_3.index t 0 * 8 + 1 * (j 0).val
    rw [hi.1]; omega
  · show (j 1).val = win0_3.index t 1 * 800 + 1 * (j 1).val
    rw [hi.2]; omega

theorem flushed_bounds (t : Fin cfg0.N) (_hf : (cfg0.win 4).flush t = true) :
    (dats (F := Bits) m 0 c).flushed 4 t = ((cfg0.win 4).blk t).view.read (Elt Bits) (bounds (scores m c)) := by
  have hi := index_bounds t
  rw [Stats.Value.flushed4_A, out_bounds]
  funext j
  rw [View.read_apply]
  refine (congrArg (k0_pay1 (F := Bits) (k0_pay8 (F := Bits) (search (iblk m c 0 t)))) (eta2 (a := 8) (b := 16) j)).trans ((below_at _ (j 0) (j 1)).trans ((congrArg below (search_at (iblk m c 0 t) (j 0))).trans ?_))
  rw [block_row m c t (j 0) (inside t (j 0))]
  refine congrArg (fun r => threshold (row (scores m c) r)) (Fin.ext ?_)
  show 8 * t.val + (j 0).val = win0_4.index t 0 * 8 + 1 * (j 0).val
  rw [hi.1]; omega

/-- The point whose blocks hold a row. -/
theorem point (r : Nat) (h : r < 1024) : r / 8 < cfg0.N := by
  show _ < grid0.N
  rw [N_0]; omega

theorem final_max : (dats (F := Bits) m 0 c).arrAt 1 cfg0.N = maxima (scores m c) :=
  (dats m 0 c).arrAt_eq_of_cover 1 (maxima (scores m c)) (flushed_max m c) fun i => by
    have h0 : (i 0 : Nat) < 1024 := (i 0).isLt
    have h1 : (i 1 : Nat) < 1 := (i 1).isLt
    have hN := point (i 0 : Nat) h0
    have hi := index_max ⟨(i 0 : Nat) / 8, hN⟩
    have hx : ∀ t : Fin grid0.N, win0_1.xsize (grid0.coords t) 0 = 8 ∧ win0_1.xsize (grid0.coords t) 1 = 1 := by decide +kernel
    refine ⟨⟨(i 0 : Nat) / 8, hN⟩, flush0_1 _, ?_⟩
    show i ∈ ((View.whole main_v0_0).slice (win0_1.rect ⟨(i 0 : Nat) / 8, hN⟩)).set
    rw [View.set_slice_whole, Rect.mem_set_unit]
    intro a
    match a with
    | ⟨0, _⟩ =>
      show win0_1.index ⟨(i 0 : Nat) / 8, hN⟩ 0 * 8 ≤ (i 0 : Nat) ∧ (i 0 : Nat) < win0_1.index ⟨(i 0 : Nat) / 8, hN⟩ 0 * 8 + win0_1.xsize (grid0.coords ⟨(i 0 : Nat) / 8, hN⟩) 0
      rw [hi.1, (hx _).1]
      show (i 0 : Nat) / 8 * 8 ≤ (i 0 : Nat) ∧ (i 0 : Nat) < (i 0 : Nat) / 8 * 8 + 8
      omega
    | ⟨1, _⟩ =>
      show win0_1.index ⟨(i 0 : Nat) / 8, hN⟩ 1 * 1 ≤ (i 1 : Nat) ∧ (i 1 : Nat) < win0_1.index ⟨(i 0 : Nat) / 8, hN⟩ 1 * 1 + win0_1.xsize (grid0.coords ⟨(i 0 : Nat) / 8, hN⟩) 1
      rw [hi.2, (hx _).2]; omega

theorem final_chunks : (dats (F := Bits) m 0 c).arrAt 3 cfg0.N = chunks (scores m c) :=
  (dats m 0 c).arrAt_eq_of_cover 3 (chunks (scores m c)) (flushed_chunks m c) fun i => by
    have h0 : (i 0 : Nat) < 1024 := (i 0).isLt
    have h1 : (i 1 : Nat) < 800 := (i 1).isLt
    have hN := point (i 0 : Nat) h0
    have hi := index_chunks ⟨(i 0 : Nat) / 8, hN⟩
    have hx : ∀ t : Fin grid0.N, win0_3.xsize (grid0.coords t) 0 = 8 ∧ win0_3.xsize (grid0.coords t) 1 = 800 := by decide +kernel
    refine ⟨⟨(i 0 : Nat) / 8, hN⟩, flush0_3 _, ?_⟩
    show i ∈ ((View.whole main_v0_2).slice (win0_3.rect ⟨(i 0 : Nat) / 8, hN⟩)).set
    rw [View.set_slice_whole, Rect.mem_set_unit]
    intro a
    match a with
    | ⟨0, _⟩ =>
      show win0_3.index ⟨(i 0 : Nat) / 8, hN⟩ 0 * 8 ≤ (i 0 : Nat) ∧ (i 0 : Nat) < win0_3.index ⟨(i 0 : Nat) / 8, hN⟩ 0 * 8 + win0_3.xsize (grid0.coords ⟨(i 0 : Nat) / 8, hN⟩) 0
      rw [hi.1, (hx _).1]
      show (i 0 : Nat) / 8 * 8 ≤ (i 0 : Nat) ∧ (i 0 : Nat) < (i 0 : Nat) / 8 * 8 + 8
      omega
    | ⟨1, _⟩ =>
      show win0_3.index ⟨(i 0 : Nat) / 8, hN⟩ 1 * 800 ≤ (i 1 : Nat) ∧ (i 1 : Nat) < win0_3.index ⟨(i 0 : Nat) / 8, hN⟩ 1 * 800 + win0_3.xsize (grid0.coords ⟨(i 0 : Nat) / 8, hN⟩) 1
      rw [hi.2, (hx _).2]; omega

theorem final_bounds : (dats (F := Bits) m 0 c).arrAt 4 cfg0.N = bounds (scores m c) :=
  (dats m 0 c).arrAt_eq_of_cover 4 (bounds (scores m c)) (flushed_bounds m c) fun i => by
    have h0 : (i 0 : Nat) < 1024 := (i 0).isLt
    have h1 : (i 1 : Nat) < 16 := (i 1).isLt
    have hN := point (i 0 : Nat) h0
    have hi := index_bounds ⟨(i 0 : Nat) / 8, hN⟩
    have hx : ∀ t : Fin grid0.N, win0_4.xsize (grid0.coords t) 0 = 8 ∧ win0_4.xsize (grid0.coords t) 1 = 16 := by decide +kernel
    refine ⟨⟨(i 0 : Nat) / 8, hN⟩, flush0_4 _, ?_⟩
    show i ∈ ((View.whole main_v0_3).slice (win0_4.rect ⟨(i 0 : Nat) / 8, hN⟩)).set
    rw [View.set_slice_whole, Rect.mem_set_unit]
    intro a
    match a with
    | ⟨0, _⟩ =>
      show win0_4.index ⟨(i 0 : Nat) / 8, hN⟩ 0 * 8 ≤ (i 0 : Nat) ∧ (i 0 : Nat) < win0_4.index ⟨(i 0 : Nat) / 8, hN⟩ 0 * 8 + win0_4.xsize (grid0.coords ⟨(i 0 : Nat) / 8, hN⟩) 0
      rw [hi.1, (hx _).1]
      show (i 0 : Nat) / 8 * 8 ≤ (i 0 : Nat) ∧ (i 0 : Nat) < (i 0 : Nat) / 8 * 8 + 8
      omega
    | ⟨1, _⟩ =>
      show win0_4.index ⟨(i 0 : Nat) / 8, hN⟩ 1 * 16 ≤ (i 1 : Nat) ∧ (i 1 : Nat) < win0_4.index ⟨(i 0 : Nat) / 8, hN⟩ 1 * 16 + win0_4.xsize (grid0.coords ⟨(i 0 : Nat) / 8, hN⟩) 1
      rw [hi.2, (hx _).2]; omega

end kernel

/-! ## The claim -/

theorem claim : Cert.bitexact_Stats_StatsReference := fun m g m' g' _ hm => by
  refine ⟨fun c => maxima (scores m c), fun c => chunks (scores m c), fun c => bounds (scores m c),
    (θ_run Cert.Stats.defs _ _).mono (fun _ h c =>
      ⟨(h c).1.trans (final_max m c), (h c).2.2.1.trans (final_chunks m c), (h c).2.2.2.1.trans (final_bounds m c), (h c).2.2.2.2⟩) (Cert.Stats.Value.run_blocks (F := Bits) m g),
    (θ_run Cert.StatsReference.defs _ _).mono (fun _ h c => ?_) (Cert.StatsReference.Value.run (F := Bits) m' g')⟩
  refine ⟨(h c).1.trans (Eq.trans (b := refMaxima (scores m c)) ?_ (refMaxima_eq _)), (h c).2.1.trans (Eq.trans (b := refChunks (scores m c)) ?_ (refChunks_eq _)),
    (h c).2.2.1.trans (Eq.trans (b := refBounds (refSteps (refPlaces (refChunks (scores m c))))) ?_ (refBounds_eq _)), (h c).2.2.2⟩
  · rw [hm c]; rfl
  · rw [hm c]; rfl
  · rw [hm c]; rfl

end Cert.StatsClaim

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Pre_selection_fits
public import proofs.«01_k».proof.Proof.Gen.Select.Frame
public import proofs.«01_k».proof.Proof.Gen.SelectIdeal.Value
public import proofs.«01_k».proof.Proof.Gen.SelectReferenceIdeal.Run
public import proofs.«01_k».proof.Proof.Gen.Pre_candidates_ranked
public import proofs.«01_k».proof.Proof.Gen.Scores.Frame
public import proofs.«01_k».proof.Proof.Gen.ScoresIdeal.Value
public import proofs.«01_k».proof.Proof.Gen.ScoresReferenceIdeal.Run
public import proofs.«01_k».proof.Proof.Gen.Stats.Value
public import proofs.«01_k».proof.Proof.Gen.StatsReference.Run
public import proofs.«01_k».proof.Proof.Frames
public import proofs.«01_k».proof.Proof.Algebraic
public import proofs.«01_k».proof.Proof.SelectClaim
public import proofs.«01_k».proof.Proof.ScoresClaim
public import proofs.«01_k».proof.Proof.StatsClaim

@[expose] public section

noncomputable section

namespace Cert.Proof

open Idealize.ShloMosaic Idealize.SL.Sem

/-- `Cert.Claim` (Defs.lean): the frames, each ideal program is its kernel's own text, and its results are its reference's; the statistics' words are their reference's. -/
theorem claim : Cert.Claim :=
  ⟨Cert.Kernel.Gen.facts, Cert.KernelIdeal.Gen.facts, Cert.ReferenceIdeal.Gen.facts,
    Cert.Select.Gen.facts, Cert.SelectIdeal.Gen.facts, Cert.SelectReferenceIdeal.Gen.facts,
    Cert.Scores.Gen.facts, Cert.ScoresIdeal.Gen.facts, Cert.ScoresReferenceIdeal.Gen.facts,
    Cert.Stats.Gen.facts, Cert.StatsReference.Gen.facts,
    Cert.Pre_selection_fits.Gen.facts, Cert.Pre_candidates_ranked.Gen.facts,
    Frames.kernel, Frames.kernelIdeal, fun m g _ => Frames.kernelIdeal m g trivial, Frames.referenceIdeal, fun m g _ => Frames.referenceIdeal m g trivial,
    Frames.select, Frames.selectIdeal, fun m g _ => Frames.selectIdeal m g trivial, Frames.selectReferenceIdeal, fun m g _ => Frames.selectReferenceIdeal m g trivial,
    Frames.scores, Frames.scoresIdeal, Frames.scoresReferenceIdeal, Frames.stats, Frames.statsReference,
    trivial, Algebraic.claim, trivial, SelectClaim.claim, trivial, ScoresClaim.claim, StatsClaim.claim⟩

end Cert.Proof

end
